-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ssd [hPre_finite_ssd : Cert.Pre_finite_ssd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ssd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ssd [hPre_finite_ssd : Cert.Pre_finite_ssd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ssd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_conv [hPre_finite_conv : Cert.Pre_finite_conv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_conv [hPre_finite_conv : Cert.Pre_finite_conv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gnorm [hPre_finite_gnorm : Cert.Pre_finite_gnorm.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gnorm.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gnorm [hPre_finite_gnorm : Cert.Pre_finite_gnorm.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gnorm.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_final [hPre_finite_final : Cert.Pre_finite_final.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_final.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_final [hPre_finite_final : Cert.Pre_finite_final.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_final.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rms [hPre_finite_rms : Cert.Pre_finite_rms.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rms.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rms [hPre_finite_rms : Cert.Pre_finite_rms.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rms.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_rmsin [hPre_finite_rmsin : Cert.Pre_finite_rmsin.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_rmsin.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_rmsin [hPre_finite_rmsin : Cert.Pre_finite_rmsin.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_rmsin.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_dt_prep [hPre_finite_dt_prep : Cert.Pre_finite_dt_prep.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_dt_prep.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_dt_prep [hPre_finite_dt_prep : Cert.Pre_finite_dt_prep.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_dt_prep.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 [hPre_in_mesh : Cert.Pre_in_mesh.Facts] (m : (ℓ : Loc Cert.Kernel23.nD Cert.Kernel23.τ Cert.Kernel23.sig) → Buf (Elt Bits) ℓ) : Prop :=
  ∀ c : Dev Cert.Kernel23.nD,
    (Cert.Pre_in_mesh.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2))) = (fun _ => 1#1)

def Pre_Kernel23Ideal [hPre_in_mesh : Cert.Pre_in_mesh.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_in_mesh.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_in_mesh [hPre_in_mesh : Cert.Pre_in_mesh.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_in_mesh.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ssd [hKernel2Ideal : Cert.Kernel2Ideal.Facts] [hPre_finite_ssd : Cert.Pre_finite_ssd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ssd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ssd [hReference2Ideal : Cert.Reference2Ideal.Facts] [hPre_finite_ssd : Cert.Pre_finite_ssd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ssd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_conv [hKernel3Ideal : Cert.Kernel3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_conv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_conv [hReference3Ideal : Cert.Reference3Ideal.Facts] [hPre_finite_conv : Cert.Pre_finite_conv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_conv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_gnorm [hKernel4Ideal : Cert.Kernel4Ideal.Facts] [hPre_finite_gnorm : Cert.Pre_finite_gnorm.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gnorm m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_gnorm [hReference4Ideal : Cert.Reference4Ideal.Facts] [hPre_finite_gnorm : Cert.Pre_finite_gnorm.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gnorm m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_final [hKernel5Ideal : Cert.Kernel5Ideal.Facts] [hPre_finite_final : Cert.Pre_finite_final.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_final m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_final [hReference5Ideal : Cert.Reference5Ideal.Facts] [hPre_finite_final : Cert.Pre_finite_final.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_final m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_rms [hKernel6Ideal : Cert.Kernel6Ideal.Facts] [hPre_finite_rms : Cert.Pre_finite_rms.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rms m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_rms [hReference6Ideal : Cert.Reference6Ideal.Facts] [hPre_finite_rms : Cert.Pre_finite_rms.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rms m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_rmsin [hKernel10Ideal : Cert.Kernel10Ideal.Facts] [hPre_finite_rmsin : Cert.Pre_finite_rmsin.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_rmsin m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_rmsin [hReference10Ideal : Cert.Reference10Ideal.Facts] [hPre_finite_rmsin : Cert.Pre_finite_rmsin.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_rmsin m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_dt_prep [hKernel19Ideal : Cert.Kernel19Ideal.Facts] [hPre_finite_dt_prep : Cert.Pre_finite_dt_prep.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_dt_prep m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_dt_prep [hReference19Ideal : Cert.Reference19Ideal.Facts] [hPre_finite_dt_prep : Cert.Pre_finite_dt_prep.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_dt_prep m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] [hPre_in_mesh : Cert.Pre_in_mesh.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] [hPre_in_mesh : Cert.Pre_in_mesh.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_in_mesh [hReference23Ideal : Cert.Reference23Ideal.Facts] [hPre_in_mesh : Cert.Pre_in_mesh.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_in_mesh m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_ssd [hKernel2Ideal : Cert.Kernel2Ideal.Facts] [hReference2Ideal : Cert.Reference2Ideal.Facts] [hPre_finite_ssd : Cert.Pre_finite_ssd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ssd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v124_0)) (v1 : (c : Dev Cert.Kernel2Ideal.nD) → Buf (Elt Ideal) ((c.tc : Thread Cert.Kernel2Ideal.nD Cert.Kernel2Ideal.τ).loc Cert.Kernel2Ideal.main_v124_1)) (v2 : (c : Dev Cert.Kernel2Ideal.nD) → Buf (Elt Ideal) ((c.tc : Thread Cert.Kernel2Ideal.nD Cert.Kernel2Ideal.τ).loc Cert.Kernel2Ideal.main_v124_2)) (v3 : (c : Dev Cert.Kernel2Ideal.nD) → Buf (Elt Ideal) ((c.tc : Thread Cert.Kernel2Ideal.nD Cert.Kernel2Ideal.τ).loc Cert.Kernel2Ideal.main_v124_3)) (v4 : (c : Dev Cert.Kernel2Ideal.nD) → Buf (Elt Ideal) ((c.tc : Thread Cert.Kernel2Ideal.nD Cert.Kernel2Ideal.τ).loc Cert.Kernel2Ideal.main_v124_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v124_0) = v0 c
          ∧ r.2.mem ((c.tc : Thread Cert.Kernel2Ideal.nD Cert.Kernel2Ideal.τ).loc Cert.Kernel2Ideal.main_v124_1) = v1 c
          ∧ r.2.mem ((c.tc : Thread Cert.Kernel2Ideal.nD Cert.Kernel2Ideal.τ).loc Cert.Kernel2Ideal.main_v124_2) = v2 c
          ∧ r.2.mem ((c.tc : Thread Cert.Kernel2Ideal.nD Cert.Kernel2Ideal.τ).loc Cert.Kernel2Ideal.main_v124_3) = v3 c
          ∧ r.2.mem ((c.tc : Thread Cert.Kernel2Ideal.nD Cert.Kernel2Ideal.τ).loc Cert.Kernel2Ideal.main_v124_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v370) = v0 c
          ∧ r.2.mem ((c.tc : Thread Cert.Reference2Ideal.nD Cert.Reference2Ideal.τ).loc Cert.Reference2Ideal.main_v371) = v1 c
          ∧ r.2.mem ((c.tc : Thread Cert.Reference2Ideal.nD Cert.Reference2Ideal.τ).loc Cert.Reference2Ideal.main_v372) = v2 c
          ∧ r.2.mem ((c.tc : Thread Cert.Reference2Ideal.nD Cert.Reference2Ideal.τ).loc Cert.Reference2Ideal.main_v363) = v3 c
          ∧ r.2.mem ((c.tc : Thread Cert.Reference2Ideal.nD Cert.Reference2Ideal.τ).loc Cert.Reference2Ideal.main_v369) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_conv [hKernel3Ideal : Cert.Kernel3Ideal.Facts] [hReference3Ideal : Cert.Reference3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_conv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_gnorm [hKernel4Ideal : Cert.Kernel4Ideal.Facts] [hReference4Ideal : Cert.Reference4Ideal.Facts] [hPre_finite_gnorm : Cert.Pre_finite_gnorm.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gnorm m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_final [hKernel5Ideal : Cert.Kernel5Ideal.Facts] [hReference5Ideal : Cert.Reference5Ideal.Facts] [hPre_finite_final : Cert.Pre_finite_final.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_final m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_rms [hKernel6Ideal : Cert.Kernel6Ideal.Facts] [hReference6Ideal : Cert.Reference6Ideal.Facts] [hPre_finite_rms : Cert.Pre_finite_rms.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rms m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_v71) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite_rmsin [hKernel10Ideal : Cert.Kernel10Ideal.Facts] [hReference10Ideal : Cert.Reference10Ideal.Facts] [hPre_finite_rmsin : Cert.Pre_finite_rmsin.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_rmsin m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v14_0)) (v1 : (c : Dev Cert.Kernel10Ideal.nD) → Buf (Elt Ideal) ((c.tc : Thread Cert.Kernel10Ideal.nD Cert.Kernel10Ideal.τ).loc Cert.Kernel10Ideal.main_v14_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14_0) = v0 c
          ∧ r.2.mem ((c.tc : Thread Cert.Kernel10Ideal.nD Cert.Kernel10Ideal.τ).loc Cert.Kernel10Ideal.main_v14_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v30_0)) (v1 : (c : Dev Cert.Kernel11Ideal.nD) → Buf (Elt Ideal) ((c.tc : Thread Cert.Kernel11Ideal.nD Cert.Kernel11Ideal.τ).loc Cert.Kernel11Ideal.main_v30_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v30_0) = v0 c
          ∧ r.2.mem ((c.tc : Thread Cert.Kernel11Ideal.nD Cert.Kernel11Ideal.τ).loc Cert.Kernel11Ideal.main_v30_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v148) = v0 c
          ∧ r.2.mem ((c.tc : Thread Cert.Reference11Ideal.nD Cert.Reference11Ideal.τ).loc Cert.Reference11Ideal.main_v150) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v8_0)) (v1 : (c : Dev Cert.Kernel15Ideal.nD) → Buf (Elt Ideal) ((c.tc : Thread Cert.Kernel15Ideal.nD Cert.Kernel15Ideal.τ).loc Cert.Kernel15Ideal.main_v8_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_0) = v0 c
          ∧ r.2.mem ((c.tc : Thread Cert.Kernel15Ideal.nD Cert.Kernel15Ideal.τ).loc Cert.Kernel15Ideal.main_v8_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v5) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite_dt_prep [hKernel19Ideal : Cert.Kernel19Ideal.Facts] [hReference19Ideal : Cert.Reference19Ideal.Facts] [hPre_finite_dt_prep : Cert.Pre_finite_dt_prep.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_dt_prep m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v32) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg1) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] [hPre_in_mesh : Cert.Pre_in_mesh.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v87) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_ssd : Cert.Pre_finite_ssd.Facts) (hPre_finite_conv : Cert.Pre_finite_conv.Facts) (hPre_finite_gnorm : Cert.Pre_finite_gnorm.Facts) (hPre_finite_final : Cert.Pre_finite_final.Facts) (hPre_finite_rms : Cert.Pre_finite_rms.Facts) (hPre_finite_rmsin : Cert.Pre_finite_rmsin.Facts) (hPre_finite_dt_prep : Cert.Pre_finite_dt_prep.Facts) (hPre_in_mesh : Cert.Pre_in_mesh.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ssd (hKernel2Ideal := hKernel2Ideal) (hPre_finite_ssd := hPre_finite_ssd)
    ∧ quiescent_Reference2Ideal (hReference2Ideal := hReference2Ideal)
    ∧ quiescent_Reference2Ideal_pre_finite_ssd (hReference2Ideal := hReference2Ideal) (hPre_finite_ssd := hPre_finite_ssd)
    ∧ quiescent_Kernel3 (hKernel3 := hKernel3)
    ∧ quiescent_Kernel3Ideal (hKernel3Ideal := hKernel3Ideal)
    ∧ quiescent_Kernel3Ideal_pre_finite_conv (hKernel3Ideal := hKernel3Ideal) (hPre_finite_conv := hPre_finite_conv)
    ∧ quiescent_Reference3Ideal (hReference3Ideal := hReference3Ideal)
    ∧ quiescent_Reference3Ideal_pre_finite_conv (hReference3Ideal := hReference3Ideal) (hPre_finite_conv := hPre_finite_conv)
    ∧ quiescent_Kernel4 (hKernel4 := hKernel4)
    ∧ quiescent_Kernel4Ideal (hKernel4Ideal := hKernel4Ideal)
    ∧ quiescent_Kernel4Ideal_pre_finite_gnorm (hKernel4Ideal := hKernel4Ideal) (hPre_finite_gnorm := hPre_finite_gnorm)
    ∧ quiescent_Reference4Ideal (hReference4Ideal := hReference4Ideal)
    ∧ quiescent_Reference4Ideal_pre_finite_gnorm (hReference4Ideal := hReference4Ideal) (hPre_finite_gnorm := hPre_finite_gnorm)
    ∧ quiescent_Kernel5 (hKernel5 := hKernel5)
    ∧ quiescent_Kernel5Ideal (hKernel5Ideal := hKernel5Ideal)
    ∧ quiescent_Kernel5Ideal_pre_finite_final (hKernel5Ideal := hKernel5Ideal) (hPre_finite_final := hPre_finite_final)
    ∧ quiescent_Reference5Ideal (hReference5Ideal := hReference5Ideal)
    ∧ quiescent_Reference5Ideal_pre_finite_final (hReference5Ideal := hReference5Ideal) (hPre_finite_final := hPre_finite_final)
    ∧ quiescent_Kernel6 (hKernel6 := hKernel6)
    ∧ quiescent_Kernel6Ideal (hKernel6Ideal := hKernel6Ideal)
    ∧ quiescent_Kernel6Ideal_pre_finite_rms (hKernel6Ideal := hKernel6Ideal) (hPre_finite_rms := hPre_finite_rms)
    ∧ quiescent_Reference6Ideal (hReference6Ideal := hReference6Ideal)
    ∧ quiescent_Reference6Ideal_pre_finite_rms (hReference6Ideal := hReference6Ideal) (hPre_finite_rms := hPre_finite_rms)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_rmsin (hKernel10Ideal := hKernel10Ideal) (hPre_finite_rmsin := hPre_finite_rmsin)
    ∧ quiescent_Reference10Ideal (hReference10Ideal := hReference10Ideal)
    ∧ quiescent_Reference10Ideal_pre_finite_rmsin (hReference10Ideal := hReference10Ideal) (hPre_finite_rmsin := hPre_finite_rmsin)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_dt_prep (hKernel19Ideal := hKernel19Ideal) (hPre_finite_dt_prep := hPre_finite_dt_prep)
    ∧ quiescent_Reference19Ideal (hReference19Ideal := hReference19Ideal)
    ∧ quiescent_Reference19Ideal_pre_finite_dt_prep (hReference19Ideal := hReference19Ideal) (hPre_finite_dt_prep := hPre_finite_dt_prep)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23) (hPre_in_mesh := hPre_in_mesh)
    ∧ quiescent_Kernel23Ideal (hKernel23Ideal := hKernel23Ideal) (hPre_in_mesh := hPre_in_mesh)
    ∧ quiescent_Reference23Ideal (hReference23Ideal := hReference23Ideal)
    ∧ quiescent_Reference23Ideal_pre_in_mesh (hReference23Ideal := hReference23Ideal) (hPre_in_mesh := hPre_in_mesh)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ssd (hKernel2Ideal := hKernel2Ideal) (hReference2Ideal := hReference2Ideal) (hPre_finite_ssd := hPre_finite_ssd)
    ∧ preserves_Kernel3_Kernel3Ideal
    ∧ algebraic_Kernel3Ideal_Reference3Ideal_pre_finite_conv (hKernel3Ideal := hKernel3Ideal) (hReference3Ideal := hReference3Ideal) (hPre_finite_conv := hPre_finite_conv)
    ∧ preserves_Kernel4_Kernel4Ideal
    ∧ algebraic_Kernel4Ideal_Reference4Ideal_pre_finite_gnorm (hKernel4Ideal := hKernel4Ideal) (hReference4Ideal := hReference4Ideal) (hPre_finite_gnorm := hPre_finite_gnorm)
    ∧ preserves_Kernel5_Kernel5Ideal
    ∧ algebraic_Kernel5Ideal_Reference5Ideal_pre_finite_final (hKernel5Ideal := hKernel5Ideal) (hReference5Ideal := hReference5Ideal) (hPre_finite_final := hPre_finite_final)
    ∧ preserves_Kernel6_Kernel6Ideal
    ∧ algebraic_Kernel6Ideal_Reference6Ideal_pre_finite_rms (hKernel6Ideal := hKernel6Ideal) (hReference6Ideal := hReference6Ideal) (hPre_finite_rms := hPre_finite_rms)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_rmsin (hKernel10Ideal := hKernel10Ideal) (hReference10Ideal := hReference10Ideal) (hPre_finite_rmsin := hPre_finite_rmsin)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_dt_prep (hKernel19Ideal := hKernel19Ideal) (hReference19Ideal := hReference19Ideal) (hPre_finite_dt_prep := hPre_finite_dt_prep)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal) (hPre_in_mesh := hPre_in_mesh)
-- ==== Pre_finite_conv.lean ====
abbrev S2048x2048 : Shape := ⟨2, ![2048, 2048]⟩
abbrev S2048x11296 : Shape := ⟨2, ![2048, 11296]⟩
abbrev S4x4096 : Shape := ⟨2, ![4, 4096]⟩
abbrev S4096 : Shape := ⟨1, ![4096]⟩
abbrev S2048x11520 : Shape := ⟨2, ![2048, 11520]⟩
abbrev S4x2048 : Shape := ⟨2, ![4, 2048]⟩
abbrev S_ : Shape := ⟨0, ![]⟩
abbrev S1x2048 : Shape := ⟨2, ![1, 2048]⟩
abbrev S2048 : Shape := ⟨1, ![2048]⟩

class Facts : Prop where
  slices_S4x4096_S4x2048_0_0 : S4x4096.Slices ![0, 0] S4x2048
  bcast_S_S2048x2048 : S_.BroadcastsInDim S2048x2048 (![] : Fin 0 → Fin S2048x2048.rank)
  slices_S2048x11296_S2048x2048_0_5120 : S2048x11296.Slices ![0, 5120] S2048x2048
  slices_S4x2048_S1x2048_0_0 : S4x2048.Slices ![0, 0] S1x2048
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  slices_S4x2048_S1x2048_1_0 : S4x2048.Slices ![1, 0] S1x2048
  slices_S4x2048_S1x2048_2_0 : S4x2048.Slices ![2, 0] S1x2048
  slices_S4x2048_S1x2048_3_0 : S4x2048.Slices ![3, 0] S1x2048
  slices_S4096_S2048_0 : S4096.Slices ![0] S2048
  bcast_S_S2048 : S_.BroadcastsInDim S2048 (![] : Fin 0 → Fin S2048.rank)
  bcast_S2048_S1x2048_1 : S2048.BroadcastsInDim S1x2048 (![1] : Fin 1 → Fin S1x2048.rank)

variable [Facts]

def fn_part1 {F : FTy → Type} [FloatOps F] (main_arg3 : FVec F S4096 .f32) (main_v0 : FVec F S4x2048 .f32) (main_v14 : IVec S2048x2048 1) (main_v19 : IVec S2048x2048 1) : IVec S2048x2048 1 :=
  let main_v20 : IVec S2048x2048 1 := andi main_v14 main_v19
  let main_v21 : FVec F S1x2048 .f32 := (extractStridedSlice S1x2048 ![2, 0] · slices_S4x2048_S1x2048_2_0) main_v0
  let main_v22 : FVec F S1x2048 .f32 := Host.absf main_v21
  let main_cst_3 : FVec F S_ .f32 := constant S_ .f32 0x7F800000#32
  let main_v23 : FVec F S1x2048 .f32 := broadcastInDim S1x2048 ![] bcast_S_S1x2048 main_cst_3
  let main_v24 : IVec S1x2048 1 := cmpf .olt main_v22 main_v23
  let main_v25 : IVec S2048x2048 1 := broadcastInDim S2048x2048 ![0, 1] bcast_S1x2048_S2048x2048_0_1 main_v24
  let main_v26 : IVec S2048x2048 1 := andi main_v20 main_v25
  let main_v27 : FVec F S1x2048 .f32 := (extractStridedSlice S1x2048 ![3, 0] · slices_S4x2048_S1x2048_3_0) main_v0
  let main_v28 : FVec F S1x2048 .f32 := Host.absf main_v27
  let main_cst_4 : FVec F S_ .f32 := constant S_ .f32 0x7F800000#32
  let main_v29 : FVec F S1x2048 .f32 := broadcastInDim S1x2048 ![] bcast_S_S1x2048 main_cst_4
  let main_v30 : IVec S1x2048 1 := cmpf .olt main_v28 main_v29
  let main_v31 : IVec S2048x2048 1 := broadcastInDim S2048x2048 ![0, 1] bcast_S1x2048_S2048x2048_0_1 main_v30
  let main_v32 : IVec S2048x2048 1 := andi main_v26 main_v31
  let main_v33 : FVec F S2048 .f32 := (extractStridedSlice S2048 ![0] · slices_S4096_S2048_0) main_arg3
  let main_v34 : FVec F S2048 .f32 := Host.absf main_v33
  let main_cst_5 : FVec F S_ .f32 := constant S_ .f32 0x7F800000#32
  let main_v35 : FVec F S2048 .f32 := broadcastInDim S2048 ![] bcast_S_S2048 main_cst_5
  let main_v36 : IVec S2048 1 := cmpf .olt main_v34 main_v35
  let main_v37 : IVec S1x2048 1 := broadcastInDim S1x2048 ![1] bcast_S2048_S1x2048_1 main_v36
  let main_v38 : IVec S2048x2048 1 := broadcastInDim S2048x2048 ![0, 1] bcast_S1x2048_S2048x2048_0_1 main_v37
  let main_v39 : IVec S2048x2048 1 := andi main_v32 main_v38
  main_v39

def fn {F : FTy → Type} [FloatOps F] (main_arg0 : FVec F S2048x2048 .f32) (main_arg1 : FVec F S2048x11296 .f32) (main_arg2 : FVec F S4x4096 .f32) (main_arg3 : FVec F S4096 .f32) (main_arg4 : FVec F S2048x11520 .bf16) : IVec S2048x2048 1 :=
  let main_v0 : FVec F S4x2048 .f32 := (extractStridedSlice S4x2048 ![0, 0] · slices_S4x4096_S4x2048_0_0) main_arg2
  let main_v1 : FVec F S2048x2048 .f32 := Host.absf main_arg0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := (extractStridedSlice S2048x2048 ![0, 5120] · slices_S2048x11296_S2048x2048_0_5120) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : IVec S2048x2048 1 := andi main_v3 main_v7
  let main_v9 : FVec F S1x2048 .f32 := (extractStridedSlice S1x2048 ![0, 0] · slices_S4x2048_S1x2048_0_0) main_v0
  let main_v10 : FVec F S1x2048 .f32 := Host.absf main_v9
  let main_cst_1 : FVec F S_ .f32 := constant S_ .f32 0x7F800000#32
  let main_v11 : FVec F S1x2048 .f32 := broadcastInDim S1x2048 ![] bcast_S_S1x2048 main_cst_1
  let main_v12 : IVec S1x2048 1 := cmpf .olt main_v10 main_v11
  let main_v13 : IVec S2048x2048 1 := broadcastInDim S2048x2048 ![0, 1] bcast_S1x2048_S2048x2048_0_1 main_v12
  let main_v14 : IVec S2048x2048 1 := andi main_v8 main_v13
  let main_v15 : FVec F S1x2048 .f32 := (extractStridedSlice S1x2048 ![1, 0] · slices_S4x2048_S1x2048_1_0) main_v0
  let main_v16 : FVec F S1x2048 .f32 := Host.absf main_v15
  let main_cst_2 : FVec F S_ .f32 := constant S_ .f32 0x7F800000#32
  let main_v17 : FVec F S1x2048 .f32 := broadcastInDim S1x2048 ![] bcast_S_S1x2048 main_cst_2
  let main_v18 : IVec S1x2048 1 := cmpf .olt main_v16 main_v17
  let main_v19 : IVec S2048x2048 1 := broadcastInDim S2048x2048 ![0, 1] bcast_S1x2048_S2048x2048_0_1 main_v18
  fn_part1 (F := F) main_arg3 main_v0 main_v14 main_v19
-- ==== Pre_finite_dt_prep.lean ====
abbrev S2048x32 : Shape := ⟨2, ![2048, 32]⟩
abbrev S32 : Shape := ⟨1, ![32]⟩
abbrev S_ : Shape := ⟨0, ![]⟩
abbrev S1x32 : Shape := ⟨2, ![1, 32]⟩

class Facts : Prop where
  bcast_S_S2048x32 : S_.BroadcastsInDim S2048x32 (![] : Fin 0 → Fin S2048x32.rank)
  bcast_S_S32 : S_.BroadcastsInDim S32 (![] : Fin 0 → Fin S32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)

variable [Facts]

def fn {F : FTy → Type} [FloatOps F] (main_arg0 : FVec F S2048x32 .f32) (main_arg1 : FVec F S32 .f32) (main_arg2 : FVec F S32 .f32) : IVec S2048x32 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_v3 : FVec F S32 .f32 := Host.absf main_arg1
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : IVec S1x32 1 := broadcastInDim S1x32 ![1] bcast_S32_S1x32_1 main_v5
  let main_v7 : IVec S2048x32 1 := broadcastInDim S2048x32 ![0, 1] bcast_S1x32_S2048x32_0_1 main_v6
  let main_v8 : IVec S2048x32 1 := andi main_v2 main_v7
  let main_v9 : FVec F S32 .f32 := Host.absf main_arg2
  let main_cst_1 : FVec F S_ .f32 := constant S_ .f32 0x7F800000#32
  let main_v10 : FVec F S32 .f32 := broadcastInDim S32 ![] bcast_S_S32 main_cst_1
  let main_v11 : IVec S32 1 := cmpf .olt main_v9 main_v10
  let main_v12 : IVec S1x32 1 := broadcastInDim S1x32 ![1] bcast_S32_S1x32_1 main_v11
  let main_v13 : IVec S2048x32 1 := broadcastInDim S2048x32 ![0, 1] bcast_S1x32_S2048x32_0_1 main_v12
  let main_v14 : IVec S2048x32 1 := andi main_v8 main_v13
  main_v14
-- ==== Pre_finite_final.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048x2x1024 : Shape := ⟨3, ![2048, 2, 1024]⟩
abbrev S2048x1x1024 : Shape := ⟨3, ![2048, 1, 1024]⟩
abbrev S2048x4x1024 : Shape := ⟨3, ![2048, 4, 1024]⟩
abbrev S1x1x1024 : Shape := ⟨3, ![1, 1, 1024]⟩

class Facts : Prop where
  bcast_S_S4096x1024 : S_.BroadcastsInDim S4096x1024 (![] : Fin 0 → Fin S4096x1024.rank)
  shapeCasts_S4096x1024_S2048x2x1024 : S4096x1024.ShapeCasts S2048x2x1024
  bcast_S_S2048x1024 : S_.BroadcastsInDim S2048x1024 (![] : Fin 0 → Fin S2048x1024.rank)
  bcast_S2048x1024_S2048x1x1024_0_2 : S2048x1024.BroadcastsInDim S2048x1x1024 (![0, 2] : Fin 2 → Fin S2048x1x1024.rank)
  concatenates_S2048x2x1024_S2048x1x1024_S2048x1x1024_S2048x4x1024_d1 : Shape.Concatenates [S2048x2x1024, S2048x1x1024, S2048x1x1024] S2048x4x1024 1
  bitsLt_bf16_f32 : FTy.bits .bf16 < FTy.bits .f32
  bcast_S_S2048x4096 : S_.BroadcastsInDim S2048x4096 (![] : Fin 0 → Fin S2048x4096.rank)
  shapeCasts_S2048x4096_S2048x4x1024 : S2048x4096.ShapeCasts S2048x4x1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)

variable [Facts]

def fn_part1 {F : FTy → Type} [FloatOps F] (main_v18 : IVec S2048x4x1024 1) (main_v19 : FVec F S1024 .f32) : IVec S2048x4x1024 1 :=
  let main_cst_3 : FVec F S_ .f32 := constant S_ .f32 0x7F800000#32
  let main_v20 : FVec F S1024 .f32 := broadcastInDim S1024 ![] bcast_S_S1024 main_cst_3
  let main_v21 : IVec S1024 1 := cmpf .olt main_v19 main_v20
  let main_v22 : IVec S1x1x1024 1 := broadcastInDim S1x1x1024 ![2] bcast_S1024_S1x1x1024_2 main_v21
  let main_v23 : IVec S2048x4x1024 1 := broadcastInDim S2048x4x1024 ![0, 1, 2] bcast_S1x1x1024_S2048x4x1024_0_1_2 main_v22
  let main_v24 : IVec S2048x4x1024 1 := andi main_v18 main_v23
  main_v24

def fn {F : FTy → Type} [FloatOps F] (main_arg0 : FVec F S2048x4096 .bf16) (main_arg1 : FVec F S4096x1024 .f32) (main_arg2 : FVec F S2048x1024 .f32) (main_arg3 : FVec F S1024 .f32) (main_arg4 : FVec F S2048x1024 .f32) : IVec S2048x4x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : IVec S2048x2x1024 1 := shapeCast S2048x2x1024 main_v2 shapeCasts_S4096x1024_S2048x2x1024
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : IVec S2048x1x1024 1 := broadcastInDim S2048x1x1024 ![0, 2] bcast_S2048x1024_S2048x1x1024_0_2 main_v6
  let main_v8 : FVec F S2048x1024 .f32 := Host.absf main_arg4
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : IVec S2048x1x1024 1 := broadcastInDim S2048x1x1024 ![0, 2] bcast_S2048x1024_S2048x1x1024_0_2 main_v10
  let main_v12 : IVec S2048x4x1024 1 := concatenate S2048x4x1024 1 [⟨S2048x2x1024, main_v3⟩, ⟨S2048x1x1024, main_v7⟩, ⟨S2048x1x1024, main_v11⟩] concatenates_S2048x2x1024_S2048x1x1024_S2048x1x1024_S2048x4x1024_d1
  let main_v13 : FVec F S2048x4096 .f32 := (extf .f32 · bitsLt_bf16_f32) main_arg0
  let main_v14 : FVec F S2048x4096 .f32 := Host.absf main_v13
  let main_cst_2 : FVec F S_ .f32 := constant S_ .f32 0x7F800000#32
  let main_v15 : FVec F S2048x4096 .f32 := broadcastInDim S2048x4096 ![] bcast_S_S2048x4096 main_cst_2
  let main_v16 : IVec S2048x4096 1 := cmpf .olt main_v14 main_v15
  let main_v17 : IVec S2048x4x1024 1 := shapeCast S2048x4x1024 main_v16 shapeCasts_S2048x4096_S2048x4x1024
  let main_v18 : IVec S2048x4x1024 1 := andi main_v12 main_v17
  let main_v19 : FVec F S1024 .f32 := Host.absf main_arg3
  fn_part1 (F := F) main_v18 main_v19
-- ==== Pre_finite_gnorm.lean ====
abbrev S2x2048x1024 : Shape := ⟨3, ![2, 2048, 1024]⟩
abbrev S2048x1024 : Shape := ⟨2, ![2048, 1024]⟩
abbrev S2048x2048 : Shape := ⟨2, ![2048, 2048]⟩
abbrev S2048x11296 : Shape := ⟨2, ![2048, 11296]⟩
abbrev S2048 : Shape := ⟨1, ![2048]⟩
abbrev S2048x11520 : Shape := ⟨2, ![2048, 11520]⟩
abbrev S8x128 : Shape := ⟨2, ![8, 128]⟩
abbrev S1x2048x1024 : Shape := ⟨3, ![1, 2048, 1024]⟩
abbrev S_ : Shape := ⟨0, ![]⟩
abbrev S1x2048 : Shape := ⟨2, ![1, 2048]⟩

class Facts : Prop where
  slices_S2x2048x1024_S1x2048x1024_1_0_0 : S2x2048x1024.Slices ![1, 0, 0] S1x2048x1024
  shapeCasts_S1x2048x1024_S2048x1024 : S1x2048x1024.ShapeCasts S2048x1024
  bitsLt_bf16_f32 : FTy.bits .bf16 < FTy.bits .f32
  bcast_S_S2048x1024 : S_.BroadcastsInDim S2048x1024 (![] : Fin 0 → Fin S2048x1024.rank)
  concatenates_S2048x1024_S2048x1024_S2048x2048_d1 : Shape.Concatenates [S2048x1024, S2048x1024] S2048x2048 1
  bcast_S_S2048x2048 : S_.BroadcastsInDim S2048x2048 (![] : Fin 0 → Fin S2048x2048.rank)
  slices_S2048x11296_S2048x2048_0_3072 : S2048x11296.Slices ![0, 3072] S2048x2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)

variable [Facts]

def fn_part1 {F : FTy → Type} [FloatOps F] (main_v18 : IVec S2048x2048 1) (main_v19 : FVec F S2048 .f32) : IVec S2048x2048 1 :=
  let main_cst_3 : FVec F S_ .f32 := constant S_ .f32 0x7F800000#32
  let main_v20 : FVec F S2048 .f32 := broadcastInDim S2048 ![] bcast_S_S2048 main_cst_3
  let main_v21 : IVec S2048 1 := cmpf .olt main_v19 main_v20
  let main_v22 : IVec S1x2048 1 := broadcastInDim S1x2048 ![1] bcast_S2048_S1x2048_1 main_v21
  let main_v23 : IVec S2048x2048 1 := broadcastInDim S2048x2048 ![0, 1] bcast_S1x2048_S2048x2048_0_1 main_v22
  let main_v24 : IVec S2048x2048 1 := andi main_v18 main_v23
  main_v24

def fn {F : FTy → Type} [FloatOps F] (main_arg0 : FVec F S2x2048x1024 .bf16) (main_arg1 : FVec F S2048x1024 .f32) (main_arg2 : FVec F S2048x2048 .f32) (main_arg3 : FVec F S2048x11296 .f32) (main_arg4 : FVec F S2048 .f32) (main_arg5 : FVec F S2048x11520 .bf16) (main_arg6 : FVec F S8x128 .f32) : IVec S2048x2048 1 :=
  let main_v0 : FVec F S1x2048x1024 .bf16 := (extractStridedSlice S1x2048x1024 ![1, 0, 0] · slices_S2x2048x1024_S1x2048x1024_1_0_0) main_arg0
  let main_v1 : FVec F S2048x1024 .bf16 := shapeCast S2048x1024 main_v0 shapeCasts_S1x2048x1024_S2048x1024
  let main_v2 : FVec F S2048x1024 .f32 := (extf .f32 · bitsLt_bf16_f32) main_v1
  let main_v3 : FVec F S2048x1024 .f32 := Host.absf main_v2
  let main_cst : FVec F S_ .f32 := constant S_ .f32 0x7F800000#32
  let main_v4 : FVec F S2048x1024 .f32 := broadcastInDim S2048x1024 ![] bcast_S_S2048x1024 main_cst
  let main_v5 : IVec S2048x1024 1 := cmpf .olt main_v3 main_v4
  let main_v6 : FVec F S2048x1024 .f32 := Host.absf main_arg1
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_v9 : IVec S2048x2048 1 := (fun a b => concatenate S2048x2048 1 [⟨S2048x1024, a⟩, ⟨S2048x1024, b⟩] concatenates_S2048x1024_S2048x1024_S2048x2048_d1) main_v5 main_v8
  let main_v10 : FVec F S2048x2048 .f32 := Host.absf main_arg2
  let main_cst_1 : FVec F S_ .f32 := constant S_ .f32 0x7F800000#32
  let main_v11 : FVec F S2048x2048 .f32 := broadcastInDim S2048x2048 ![] bcast_S_S2048x2048 main_cst_1
  let main_v12 : IVec S2048x2048 1 := cmpf .olt main_v10 main_v11
  let main_v13 : IVec S2048x2048 1 := andi main_v9 main_v12
  let main_v14 : FVec F S2048x2048 .f32 := (extractStridedSlice S2048x2048 ![0, 3072] · slices_S2048x11296_S2048x2048_0_3072) main_arg3
  let main_v15 : FVec F S2048x2048 .f32 := Host.absf main_v14
  let main_cst_2 : FVec F S_ .f32 := constant S_ .f32 0x7F800000#32
  let main_v16 : FVec F S2048x2048 .f32 := broadcastInDim S2048x2048 ![] bcast_S_S2048x2048 main_cst_2
  let main_v17 : IVec S2048x2048 1 := cmpf .olt main_v15 main_v16
  let main_v18 : IVec S2048x2048 1 := andi main_v13 main_v17
  let main_v19 : FVec F S2048 .f32 := Host.absf main_arg4
  fn_part1 (F := F) main_v18 main_v19
-- ==== Pre_finite_rms.lean ====
abbrev S2048x4096 : Shape := ⟨2, ![2048, 4096]⟩
abbrev S1024x4096 : Shape := ⟨2, ![1024, 4096]⟩
abbrev S2048x1024 : Shape := ⟨2, ![2048, 1024]⟩
abbrev S1024 : Shape := ⟨1, ![1024]⟩
abbrev S_ : Shape := ⟨0, ![]⟩
abbrev S2048x2x1024 : Shape := ⟨3, ![2048, 2, 1024]⟩
abbrev S2048x1x1024 : Shape := ⟨3, ![2048, 1, 1024]⟩
abbrev S2048x4x1024 : Shape := ⟨3, ![2048, 4, 1024]⟩
abbrev S1x1x1024 : Shape := ⟨3, ![1, 1, 1024]⟩

class Facts : Prop where
  bcast_S_S1024x4096 : S_.BroadcastsInDim S1024x4096 (![] : Fin 0 → Fin S1024x4096.rank)
  shapeCasts_S1024x4096_S2048x2x1024 : S1024x4096.ShapeCasts S2048x2x1024
  bcast_S_S2048x1024 : S_.BroadcastsInDim S2048x1024 (![] : Fin 0 → Fin S2048x1024.rank)
  bcast_S2048x1024_S2048x1x1024_0_2 : S2048x1024.BroadcastsInDim S2048x1x1024 (![0, 2] : Fin 2 → Fin S2048x1x1024.rank)
  concatenates_S2048x2x1024_S2048x1x1024_S2048x1x1024_S2048x4x1024_d1 : Shape.Concatenates [S2048x2x1024, S2048x1x1024, S2048x1x1024] S2048x4x1024 1
  bitsLt_bf16_f32 : FTy.bits .bf16 < FTy.bits .f32
  bcast_S_S2048x4096 : S_.BroadcastsInDim S2048x4096 (![] : Fin 0 → Fin S2048x4096.rank)
  shapeCasts_S2048x4096_S2048x4x1024 : S2048x4096.ShapeCasts S2048x4x1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)

variable [Facts]

def fn_part1 {F : FTy → Type} [FloatOps F] (main_v18 : IVec S2048x4x1024 1) (main_v19 : FVec F S1024 .f32) : IVec S2048x4x1024 1 :=
  let main_cst_3 : FVec F S_ .f32 := constant S_ .f32 0x7F800000#32
  let main_v20 : FVec F S1024 .f32 := broadcastInDim S1024 ![] bcast_S_S1024 main_cst_3
  let main_v21 : IVec S1024 1 := cmpf .olt main_v19 main_v20
  let main_v22 : IVec S1x1x1024 1 := broadcastInDim S1x1x1024 ![2] bcast_S1024_S1x1x1024_2 main_v21
  let main_v23 : IVec S2048x4x1024 1 := broadcastInDim S2048x4x1024 ![0, 1, 2] bcast_S1x1x1024_S2048x4x1024_0_1_2 main_v22
  let main_v24 : IVec S2048x4x1024 1 := andi main_v18 main_v23
  main_v24

def fn {F : FTy → Type} [FloatOps F] (main_arg0 : FVec F S2048x4096 .bf16) (main_arg1 : FVec F S1024x4096 .f32) (main_arg2 : FVec F S2048x1024 .f32) (main_arg3 : FVec F S1024 .f32) (main_arg4 : FVec F S2048x1024 .f32) : IVec S2048x4x1024 1 :=
  let main_v0 : FVec F S1024x4096 .f32 := Host.absf main_arg1
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_v3 : IVec S2048x2x1024 1 := shapeCast S2048x2x1024 main_v2 shapeCasts_S1024x4096_S2048x2x1024
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : IVec S2048x1x1024 1 := broadcastInDim S2048x1x1024 ![0, 2] bcast_S2048x1024_S2048x1x1024_0_2 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : IVec S2048x1x1024 1 := broadcastInDim S2048x1x1024 ![0, 2] bcast_S2048x1024_S2048x1x1024_0_2 main_v10
  let main_v12 : IVec S2048x4x1024 1 := concatenate S2048x4x1024 1 [⟨S2048x2x1024, main_v3⟩, ⟨S2048x1x1024, main_v7⟩, ⟨S2048x1x1024, main_v11⟩] concatenates_S2048x2x1024_S2048x1x1024_S2048x1x1024_S2048x4x1024_d1
  let main_v13 : FVec F S2048x4096 .f32 := (extf .f32 · bitsLt_bf16_f32) main_arg0
  let main_v14 : FVec F S2048x4096 .f32 := Host.absf main_v13
  let main_cst_2 : FVec F S_ .f32 := constant S_ .f32 0x7F800000#32
  let main_v15 : FVec F S2048x4096 .f32 := broadcastInDim S2048x4096 ![] bcast_S_S2048x4096 main_cst_2
  let main_v16 : IVec S2048x4096 1 := cmpf .olt main_v14 main_v15
  let main_v17 : IVec S2048x4x1024 1 := shapeCast S2048x4x1024 main_v16 shapeCasts_S2048x4096_S2048x4x1024
  let main_v18 : IVec S2048x4x1024 1 := andi main_v12 main_v17
  let main_v19 : FVec F S1024 .f32 := Host.absf main_arg3
  fn_part1 (F := F) main_v18 main_v19
-- ==== Pre_finite_rmsin.lean ====
abbrev S2048x11296 : Shape := ⟨2, ![2048, 11296]⟩
abbrev S1024x11296 : Shape := ⟨2, ![1024, 11296]⟩
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S1x1024 : Shape := ⟨2, ![1, 1024]⟩
abbrev S2048x10272 : Shape := ⟨2, ![2048, 10272]⟩

class Facts : Prop where
  bcast_S_S1024x11296 : S_.BroadcastsInDim S1024x11296 (![] : Fin 0 → Fin S1024x11296.rank)
  concatenates_S1024x11296_S1024x11296_S2048x11296_d0 : Shape.Concatenates [S1024x11296, S1024x11296] S2048x11296 0
  bcast_S_S2048x11296 : S_.BroadcastsInDim S2048x11296 (![] : Fin 0 → Fin S2048x11296.rank)
  bcast_S_S2048x1024 : S_.BroadcastsInDim S2048x1024 (![] : Fin 0 → Fin S2048x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S2048x11296_S2048x10272_0_1024 : S2048x11296.Slices ![0, 1024] S2048x10272
  bcast_S_S2048x10272 : S_.BroadcastsInDim S2048x10272 (![] : Fin 0 → Fin S2048x10272.rank)
  concatenates_S2048x1024_S2048x10272_S2048x11296_d1 : Shape.Concatenates [S2048x1024, S2048x10272] S2048x11296 1

variable [Facts]

def fn_part1 {F : FTy → Type} [FloatOps F] (main_arg0 : FVec F S2048x11296 .f32) (main_v10 : IVec S2048x11296 1) (main_v13 : IVec S2048x1024 1) (main_v18 : IVec S2048x1024 1) : IVec S2048x11296 1 :=
  let main_v19 : IVec S2048x1024 1 := andi main_v13 main_v18
  let main_v20 : FVec F S2048x10272 .f32 := (extractStridedSlice S2048x10272 ![0, 1024] · slices_S2048x11296_S2048x10272_0_1024) main_arg0
  let main_v21 : FVec F S2048x10272 .f32 := Host.absf main_v20
  let main_cst_4 : FVec F S_ .f32 := constant S_ .f32 0x7F800000#32
  let main_v22 : FVec F S2048x10272 .f32 := broadcastInDim S2048x10272 ![] bcast_S_S2048x10272 main_cst_4
  let main_v23 : IVec S2048x10272 1 := cmpf .olt main_v21 main_v22
  let main_v24 : IVec S2048x11296 1 := (fun a b => concatenate S2048x11296 1 [⟨S2048x1024, a⟩, ⟨S2048x10272, b⟩] concatenates_S2048x1024_S2048x10272_S2048x11296_d1) main_v19 main_v23
  let main_v25 : IVec S2048x11296 1 := andi main_v10 main_v24
  main_v25

def fn {F : FTy → Type} [FloatOps F] (main_arg0 : FVec F S2048x11296 .f32) (main_arg1 : FVec F S1024x11296 .f32) (main_arg2 : FVec F S2048x1024 .f32) (main_arg3 : FVec F S1024 .f32) (main_arg4 : FVec F S2048x1024 .f32) (main_arg5 : FVec F S8x128 .bf16) : IVec S2048x11296 1 :=
  let main_v0 : FVec F S1024x11296 .f32 := Host.absf main_arg1
  let main_cst : FVec F S_ .f32 := constant S_ .f32 0x7F800000#32
  let main_v1 : FVec F S1024x11296 .f32 := broadcastInDim S1024x11296 ![] bcast_S_S1024x11296 main_cst
  let main_v2 : IVec S1024x11296 1 := cmpf .olt main_v0 main_v1
  let main_v3 : FVec F S1024x11296 .f32 := Host.absf main_arg1
  let main_cst_0 : FVec F S_ .f32 := constant S_ .f32 0x7F800000#32
  let main_v4 : FVec F S1024x11296 .f32 := broadcastInDim S1024x11296 ![] bcast_S_S1024x11296 main_cst_0
  let main_v5 : IVec S1024x11296 1 := cmpf .olt main_v3 main_v4
  let main_v6 : IVec S2048x11296 1 := (fun a b => concatenate S2048x11296 0 [⟨S1024x11296, a⟩, ⟨S1024x11296, b⟩] concatenates_S1024x11296_S1024x11296_S2048x11296_d0) main_v2 main_v5
  let main_v7 : FVec F S2048x11296 .f32 := Host.absf main_arg0
  let main_cst_1 : FVec F S_ .f32 := constant S_ .f32 0x7F800000#32
  let main_v8 : FVec F S2048x11296 .f32 := broadcastInDim S2048x11296 ![] bcast_S_S2048x11296 main_cst_1
  let main_v9 : IVec S2048x11296 1 := cmpf .olt main_v7 main_v8
  let main_v10 : IVec S2048x11296 1 := andi main_v9 main_v6
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : FVec F S1024 .f32 := Host.absf main_arg3
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  let main_v17 : IVec S1x1024 1 := broadcastInDim S1x1024 ![1] bcast_S1024_S1x1024_1 main_v16
  let main_v18 : IVec S2048x1024 1 := broadcastInDim S2048x1024 ![0, 1] bcast_S1x1024_S2048x1024_0_1 main_v17
  fn_part1 (F := F) main_arg0 main_v10 main_v13 main_v18
-- ==== Pre_finite_ssd.lean ====
abbrev S2048x4096 : Shape := ⟨2, ![2048, 4096]⟩
abbrev S2048x32 : Shape := ⟨2, ![2048, 32]⟩
abbrev S32 : Shape := ⟨1, ![32]⟩
abbrev S2048x2048 : Shape := ⟨2, ![2048, 2048]⟩
abbrev S2048x2x32x64 : Shape := ⟨4, ![2048, 2, 32, 64]⟩
abbrev S_ : Shape := ⟨0, ![]⟩
abbrev S2048x1x32x64 : Shape := ⟨4, ![2048, 1, 32, 64]⟩
abbrev S2048x1x32x1 : Shape := ⟨4, ![2048, 1, 32, 1]⟩
abbrev S32x1 : Shape := ⟨2, ![32, 1]⟩
abbrev S1x1x32x1 : Shape := ⟨4, ![1, 1, 32, 1]⟩

class Facts : Prop where
  shapeCasts_S2048x4096_S2048x2x32x64 : S2048x4096.ShapeCasts S2048x2x32x64
  bcast_S_S2048x2x32x64 : S_.BroadcastsInDim S2048x2x32x64 (![] : Fin 0 → Fin S2048x2x32x64.rank)
  shapeCasts_S2048x2048_S2048x1x32x64 : S2048x2048.ShapeCasts S2048x1x32x64
  bcast_S_S2048x1x32x64 : S_.BroadcastsInDim S2048x1x32x64 (![] : Fin 0 → Fin S2048x1x32x64.rank)
  bcast_S2048x1x32x64_S2048x2x32x64_0_1_2_3 : S2048x1x32x64.BroadcastsInDim S2048x2x32x64 (![0, 1, 2, 3] : Fin 4 → Fin S2048x2x32x64.rank)
  shapeCasts_S2048x32_S2048x1x32x1 : S2048x32.ShapeCasts S2048x1x32x1
  bcast_S_S2048x1x32x1 : S_.BroadcastsInDim S2048x1x32x1 (![] : Fin 0 → Fin S2048x1x32x1.rank)
  bcast_S2048x1x32x1_S2048x2x32x64_0_1_2_3 : S2048x1x32x1.BroadcastsInDim S2048x2x32x64 (![0, 1, 2, 3] : Fin 4 → Fin S2048x2x32x64.rank)
  shapeCasts_S32_S32x1 : S32.ShapeCasts S32x1
  bcast_S_S32x1 : S_.BroadcastsInDim S32x1 (![] : Fin 0 → Fin S32x1.rank)
  bcast_S32x1_S1x1x32x1_2_3 : S32x1.BroadcastsInDim S1x1x32x1 (![2, 3] : Fin 2 → Fin S1x1x32x1.rank)
  bcast_S1x1x32x1_S2048x2x32x64_0_1_2_3 : S1x1x32x1.BroadcastsInDim S2048x2x32x64 (![0, 1, 2, 3] : Fin 4 → Fin S2048x2x32x64.rank)

variable [Facts]

def fn_part1 {F : FTy → Type} [FloatOps F] (main_arg3 : FVec F S32 .f32) (main_v15 : IVec S2048x2x32x64 1) (main_v19 : IVec S32x1 1) : IVec S2048x2x32x64 1 :=
  let main_v20 : IVec S1x1x32x1 1 := broadcastInDim S1x1x32x1 ![2, 3] bcast_S32x1_S1x1x32x1_2_3 main_v19
  let main_v21 : IVec S2048x2x32x64 1 := broadcastInDim S2048x2x32x64 ![0, 1, 2, 3] bcast_S1x1x32x1_S2048x2x32x64_0_1_2_3 main_v20
  let main_v22 : IVec S2048x2x32x64 1 := andi main_v15 main_v21
  let main_v23 : FVec F S32x1 .f32 := shapeCast S32x1 main_arg3 shapeCasts_S32_S32x1
  let main_v24 : FVec F S32x1 .f32 := Host.absf main_v23
  let main_cst_3 : FVec F S_ .f32 := constant S_ .f32 0x7F800000#32
  let main_v25 : FVec F S32x1 .f32 := broadcastInDim S32x1 ![] bcast_S_S32x1 main_cst_3
  let main_v26 : IVec S32x1 1 := cmpf .olt main_v24 main_v25
  let main_v27 : IVec S1x1x32x1 1 := broadcastInDim S1x1x32x1 ![2, 3] bcast_S32x1_S1x1x32x1_2_3 main_v26
  let main_v28 : IVec S2048x2x32x64 1 := broadcastInDim S2048x2x32x64 ![0, 1, 2, 3] bcast_S1x1x32x1_S2048x2x32x64_0_1_2_3 main_v27
  let main_v29 : IVec S2048x2x32x64 1 := andi main_v22 main_v28
  main_v29

def fn {F : FTy → Type} [FloatOps F] (main_arg0 : FVec F S2048x4096 .f32) (main_arg1 : FVec F S2048x32 .f32) (main_arg2 : FVec F S32 .f32) (main_arg3 : FVec F S32 .f32) (main_arg4 : FVec F S32 .f32) (main_arg5 : FVec F S2048x2048 .f32) : IVec S2048x2x32x64 1 :=
  let main_v0 : FVec F S2048x2x32x64 .f32 := shapeCast S2048x2x32x64 main_arg0 shapeCasts_S2048x4096_S2048x2x32x64
  let main_v1 : FVec F S2048x2x32x64 .f32 := Host.absf main_v0
  let main_cst : FVec F S_ .f32 := constant S_ .f32 0x7F800000#32
  let main_v2 : FVec F S2048x2x32x64 .f32 := broadcastInDim S2048x2x32x64 ![] bcast_S_S2048x2x32x64 main_cst
  let main_v3 : IVec S2048x2x32x64 1 := cmpf .olt main_v1 main_v2
  let main_v4 : FVec F S2048x1x32x64 .f32 := shapeCast S2048x1x32x64 main_arg5 shapeCasts_S2048x2048_S2048x1x32x64
  let main_v5 : FVec F S2048x1x32x64 .f32 := Host.absf main_v4
  let main_cst_0 : FVec F S_ .f32 := constant S_ .f32 0x7F800000#32
  let main_v6 : FVec F S2048x1x32x64 .f32 := broadcastInDim S2048x1x32x64 ![] bcast_S_S2048x1x32x64 main_cst_0
  let main_v7 : IVec S2048x1x32x64 1 := cmpf .olt main_v5 main_v6
  let main_v8 : IVec S2048x2x32x64 1 := broadcastInDim S2048x2x32x64 ![0, 1, 2, 3] bcast_S2048x1x32x64_S2048x2x32x64_0_1_2_3 main_v7
  let main_v9 : IVec S2048x2x32x64 1 := andi main_v3 main_v8
  let main_v10 : FVec F S2048x1x32x1 .f32 := shapeCast S2048x1x32x1 main_arg1 shapeCasts_S2048x32_S2048x1x32x1
  let main_v11 : FVec F S2048x1x32x1 .f32 := Host.absf main_v10
  let main_cst_1 : FVec F S_ .f32 := constant S_ .f32 0x7F800000#32
  let main_v12 : FVec F S2048x1x32x1 .f32 := broadcastInDim S2048x1x32x1 ![] bcast_S_S2048x1x32x1 main_cst_1
  let main_v13 : IVec S2048x1x32x1 1 := cmpf .olt main_v11 main_v12
  let main_v14 : IVec S2048x2x32x64 1 := broadcastInDim S2048x2x32x64 ![0, 1, 2, 3] bcast_S2048x1x32x1_S2048x2x32x64_0_1_2_3 main_v13
  let main_v15 : IVec S2048x2x32x64 1 := andi main_v9 main_v14
  let main_v16 : FVec F S32x1 .f32 := shapeCast S32x1 main_arg2 shapeCasts_S32_S32x1
  let main_v17 : FVec F S32x1 .f32 := Host.absf main_v16
  let main_cst_2 : FVec F S_ .f32 := constant S_ .f32 0x7F800000#32
  let main_v18 : FVec F S32x1 .f32 := broadcastInDim S32x1 ![] bcast_S_S32x1 main_cst_2
  let main_v19 : IVec S32x1 1 := cmpf .olt main_v17 main_v18
  fn_part1 (F := F) main_arg3 main_v15 main_v19
-- ==== Pre_in_mesh.lean ====
abbrev S11520x1024 : Shape := ⟨2, ![11520, 1024]⟩
abbrev S4x1536x1024 : Shape := ⟨3, ![4, 1536, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S11520x1024 .bf16) (main_arg1 : FVec F S4x1536x1024 .bf16) (main_arg2 : IVec S2 32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 3#32
  let main_v5 : IVec S_ 1 := cmpi .sle main_v4 main_c_0
  let main_v6 : IVec S_ 1 := andi main_v2 main_v5
  let main_v7 : IVec S1 32 := (extractStridedSlice S1 ![1] · slices_S2_S1_1) main_arg2
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg2
  let main_v12 : IVec S_ 32 := shapeCast S_ main_v11 shapeCasts_S1_S_
  let main_c_2 : IVec S_ 32 := constantI S_ 32 1#32
  let main_v13 : IVec S_ 1 := cmpi .sle main_v12 main_c_2
  let main_v14 : IVec S_ 1 := andi main_v10 main_v13
  main_v14
-- ==== Kernel.lean ====
abbrev S2048x1024 : Shape := ⟨2, ![2048, 1024]⟩
abbrev S1024x1024 : Shape := ⟨2, ![1024, 1024]⟩
abbrev S2048x11296 : Shape := ⟨2, ![2048, 11296]⟩
abbrev S2048 : Shape := ⟨1, ![2048]⟩
abbrev S2048x11520 : Shape := ⟨2, ![2048, 11520]⟩
abbrev S2048x9216 : Shape := ⟨2, ![2048, 9216]⟩
abbrev S2048x2048 : Shape := ⟨2, ![2048, 2048]⟩
abbrev S2048x32 : Shape := ⟨2, ![2048, 32]⟩
abbrev S_ : Shape := ⟨0, ![]⟩
abbrev S2048x224 : Shape := ⟨2, ![2048, 224]⟩
abbrev S1x2048 : Shape := ⟨2, ![1, 2048]⟩
abbrev S2x2048x1024 : Shape := ⟨3, ![2, 2048, 1024]⟩
abbrev S8x2048 : Shape := ⟨2, ![8, 2048]⟩
abbrev S512x1024 : Shape := ⟨2, ![512, 1024]⟩
abbrev S1x1024 : Shape := ⟨2, ![1, 1024]⟩
abbrev S1x512x1024 : Shape := ⟨3, ![1, 512, 1024]⟩
abbrev S8x1024 : Shape := ⟨2, ![8, 1024]⟩
abbrev S1024 : Shape := ⟨1, ![1024]⟩

abbrev nBuf : Space → Nat
  | .hbm => 19
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x11296, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S2048x11520, .bf16⟩
  | .hbm, ⟨7, _⟩ => ⟨S1024x1024, .bf16⟩
  | .hbm, ⟨8, _⟩ => ⟨S2048x9216, .f32⟩
  | .hbm, ⟨9, _⟩ => ⟨S2048x2048, .f32⟩
  | .hbm, ⟨10, _⟩ => ⟨S2048x32, .f32⟩
  | .hbm, ⟨11, _⟩ => ⟨S_, .f32⟩
  | .hbm, ⟨12, _⟩ => ⟨S2048x224, .f32⟩
  | .hbm, ⟨13, _⟩ => ⟨S2048x11520, .f32⟩
  | .hbm, ⟨14, _⟩ => ⟨S2048x11520, .bf16⟩
  | .hbm, ⟨15, _⟩ => ⟨S1x2048, .f32⟩
  | .hbm, ⟨16, _⟩ => ⟨S2x2048x1024, .bf16⟩
  | .hbm, ⟨17, _⟩ => ⟨S2048x11520, .bf16⟩
  | .hbm, ⟨18, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x1024 : Shape := ⟨2, ![2048, 1024]⟩
abbrev S1024x1024 : Shape := ⟨2, ![1024, 1024]⟩
abbrev S2048x11296 : Shape := ⟨2, ![2048, 11296]⟩
abbrev S2048 : Shape := ⟨1, ![2048]⟩
abbrev S2048x11520 : Shape := ⟨2, ![2048, 11520]⟩
abbrev S2048x2048 : Shape := ⟨2, ![2048, 2048]⟩
abbrev S1x2048 : Shape := ⟨2, ![1, 2048]⟩
abbrev S_ : Shape := ⟨0, ![]⟩
abbrev S2048x9216 : Shape := ⟨2, ![2048, 9216]⟩
abbrev S2048x256 : Shape := ⟨2, ![2048, 256]⟩
abbrev S1x2048x1024 : Shape := ⟨3, ![1, 2048, 1024]⟩
abbrev S2x2048x1024 : Shape := ⟨3, ![2, 2048, 1024]⟩
abbrev S8x2048 : Shape := ⟨2, ![8, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x11296, .f32⟩
  | .hbm, ⟨3, _⟩ => ⟨S2048, .f32⟩
  | .hbm, ⟨4, _⟩ => ⟨S2048x1024, .f32⟩
  | .hbm, ⟨5, _⟩ => ⟨S2048x1024, .f32⟩
  | .hbm, ⟨6, _⟩ => ⟨S2048x11520, .bf16⟩
  | .hbm, ⟨7, _⟩ => ⟨S2048x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x2048, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S_, .f32⟩
  | .hbm, ⟨44, _⟩ => ⟨S2048, .f32⟩
  | .hbm, ⟨45, _⟩ => ⟨S2048x9216, .bf16⟩
  | .hbm, ⟨46, _⟩ => ⟨S2048x2048, .bf16⟩
  | .hbm, ⟨47, _⟩ => ⟨S2048x256, .bf16⟩
  | .hbm, ⟨48, _⟩ => ⟨S2048x11520, .bf16⟩
  | .hbm, ⟨49, _⟩ => ⟨S1x2048x1024, .f32⟩
  | .hbm, ⟨50, _⟩ => ⟨S1x2048x1024, .f32⟩
  | .hbm, ⟨51, _⟩ => ⟨S2x2048x1024, .f32⟩
  | .hbm, ⟨52, _⟩ => ⟨S2x2048x1024, .bf16⟩
  | .hbm, ⟨53, _⟩ => ⟨S1x2048, .f32⟩
  | .hbm, ⟨54, _⟩ => ⟨S8x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel2.lean ====
abbrev S2048x4096 : Shape := ⟨2, ![2048, 4096]⟩
abbrev S2048x32 : Shape := ⟨2, ![2048, 32]⟩
abbrev S32 : Shape := ⟨1, ![32]⟩
abbrev S2048x2048 : Shape := ⟨2, ![2048, 2048]⟩
abbrev S1x32 : Shape := ⟨2, ![1, 32]⟩
abbrev S2x32 : Shape := ⟨2, ![2, 32]⟩
abbrev S2x8x4 : Shape := ⟨3, ![2, 8, 4]⟩
abbrev S8x2x4 : Shape := ⟨3, ![8, 2, 4]⟩
abbrev S_ : Shape := ⟨0, ![]⟩
abbrev S8x8x128 : Shape := ⟨3, ![8, 8, 128]⟩
abbrev S16x128x32 : Shape := ⟨3, ![16, 128, 32]⟩
abbrev S16x1x32 : Shape := ⟨3, ![16, 1, 32]⟩
abbrev S16x128x32x64 : Shape := ⟨4, ![16, 128, 32, 64]⟩
abbrev S16x128x32x1 : Shape := ⟨4, ![16, 128, 32, 1]⟩
abbrev S2048x1024 : Shape := ⟨2, ![2048, 1024]⟩
abbrev S16x128x8x128 : Shape := ⟨4, ![16, 128, 8, 128]⟩
abbrev S16x128x8x256 : Shape := ⟨4, ![16, 128, 8, 256]⟩
abbrev S8x16x128x256 : Shape := ⟨4, ![8, 16, 128, 256]⟩
abbrev S16x32 : Shape := ⟨2, ![16, 32]⟩
abbrev S16x8x4 : Shape := ⟨3, ![16, 8, 4]⟩
abbrev S8x16x4 : Shape := ⟨3, ![8, 16, 4]⟩
abbrev S8x16x1x4x1 : Shape := ⟨5, ![8, 16, 1, 4, 1]⟩
abbrev S8x16x128x4x64 : Shape := ⟨5, ![8, 16, 128, 4, 64]⟩
abbrev S8x1x128x256 : Shape := ⟨4, ![8, 1, 128, 256]⟩
abbrev S2048x8x4 : Shape := ⟨3, ![2048, 8, 4]⟩
abbrev S8x2048x4 : Shape := ⟨3, ![8, 2048, 4]⟩
abbrev S8x2048x128 : Shape := ⟨3, ![8, 2048, 128]⟩
abbrev S128x2048 : Shape := ⟨2, ![128, 2048]⟩
abbrev S128x1024 : Shape := ⟨2, ![128, 1024]⟩
abbrev S8x128x128 : Shape := ⟨3, ![8, 128, 128]⟩
abbrev S8x128x256 : Shape := ⟨3, ![8, 128, 256]⟩
abbrev S1x256 : Shape := ⟨2, ![1, 256]⟩
abbrev S128x128 : Shape := ⟨2, ![128, 128]⟩
abbrev S256x128 : Shape := ⟨2, ![256, 128]⟩
abbrev S512x128 : Shape := ⟨2, ![512, 128]⟩
abbrev S1x128x128 : Shape := ⟨3, ![1, 128, 128]⟩
abbrev S128x256 : Shape := ⟨2, ![128, 256]⟩
abbrev S128x1 : Shape := ⟨2, ![128, 1]⟩
abbrev S1x8x128 : Shape := ⟨3, ![1, 8, 128]⟩
abbrev S8x128 : Shape := ⟨2, ![8, 128]⟩
abbrev S8x256 : Shape := ⟨2, ![8, 256]⟩
abbrev S8x1 : Shape := ⟨2, ![8, 1]⟩
abbrev S1x128 : Shape := ⟨2, ![1, 128]⟩
abbrev S1x1x128x256 : Shape := ⟨4, ![1, 1, 128, 256]⟩
abbrev S1x128x256 : Shape := ⟨3, ![1, 128, 256]⟩
abbrev S512x256 : Shape := ⟨2, ![512, 256]⟩
abbrev S256 : Shape := ⟨1, ![256]⟩
abbrev S272x256 : Shape := ⟨2, ![272, 256]⟩
abbrev S272x128 : Shape := ⟨2, ![272, 128]⟩
abbrev S128 : Shape := ⟨1, ![128]⟩

abbrev nBuf : Space → Nat
  | .hbm => 145
  | .vmem => 27
  | .smem => 0
  | _ => 0

abbrev hbmTy0_0 (i : Nat) : BufTy := match i % 128 with
  | 0 => ⟨S2048x4096, .f32⟩
  | 1 => ⟨S2048x32, .f32⟩
  | 2 => ⟨S32, .f32⟩
  | 3 => ⟨S32, .f32⟩
  | 4 => ⟨S32, .f32⟩
  | 5 => ⟨S2048x2048, .f32⟩
  | 6 => ⟨S1x32, .f32⟩
  | 7 => ⟨S1x32, .f32⟩
  | 8 => ⟨S2x32, .f32⟩
  | 9 => ⟨S2x8x4, .f32⟩
  | 10 => ⟨S8x2x4, .f32⟩
  | 11 => ⟨S_, .f32⟩
  | 12 => ⟨S8x8x128, .f32⟩
  | 13 => ⟨S1x32, .f32⟩
  | 14 => ⟨S2048x32, .f32⟩
  | 15 => ⟨S2048x32, .f32⟩
  | 16 => ⟨S_, .f32⟩
  | 17 => ⟨S2048x32, .f32⟩
  | 18 => ⟨S2048x32, .f32⟩
  | 19 => ⟨S2048x32, .f32⟩
  | 20 => ⟨S2048x32, .f32⟩
  | 21 => ⟨S2048x32, .f32⟩
  | 22 => ⟨S2048x32, .f32⟩
  | 23 => ⟨S2048x32, .f32⟩
  | 24 => ⟨S32, .f32⟩
  | 25 => ⟨S32, .f32⟩
  | 26 => ⟨S1x32, .f32⟩
  | 27 => ⟨S2048x32, .f32⟩
  | 28 => ⟨S2048x32, .f32⟩
  | 29 => ⟨S16x128x32, .f32⟩
  | 30 => ⟨S_, .f32⟩
  | 31 => ⟨S_, .f32⟩
  | 32 => ⟨S16x128x32, .f32⟩
  | 33 => ⟨S16x128x32, .f32⟩
  | 34 => ⟨S16x1x32, .f32⟩
  | 35 => ⟨S16x128x32, .f32⟩
  | 36 => ⟨S16x128x32, .f32⟩
  | 37 => ⟨S16x128x32, .f32⟩
  | 38 => ⟨S16x128x32, .f32⟩
  | 39 => ⟨S2048x2048, .f32⟩
  | 40 => ⟨S16x128x32x64, .f32⟩
  | 41 => ⟨S16x128x32x1, .f32⟩
  | 42 => ⟨S16x128x32x64, .f32⟩
  | 43 => ⟨S16x128x32x64, .f32⟩
  | 44 => ⟨S2048x1024, .f32⟩
  | 45 => ⟨S16x128x8x128, .f32⟩
  | 46 => ⟨S16x128x8x256, .f32⟩
  | 47 => ⟨S8x16x128x256, .f32⟩
  | 48 => ⟨S16x1x32, .f32⟩
  | 49 => ⟨S16x32, .f32⟩
  | 50 => ⟨S16x32, .f32⟩
  | 51 => ⟨S16x8x4, .f32⟩
  | 52 => ⟨S8x16x4, .f32⟩
  | 53 => ⟨S8x16x1x4x1, .f32⟩
  | 54 => ⟨S8x16x128x4x64, .f32⟩
  | 55 => ⟨S8x16x128x256, .f32⟩
  | 56 => ⟨S_, .f32⟩
  | 57 => ⟨S8x1x128x256, .f32⟩
  | 58 => ⟨S8x1x128x256, .f32⟩
  | 59 => ⟨S8x1x128x256, .f32⟩
  | 60 => ⟨S8x1x128x256, .f32⟩
  | 61 => ⟨S8x1x128x256, .f32⟩
  | 62 => ⟨S8x1x128x256, .f32⟩
  | 63 => ⟨S8x1x128x256, .f32⟩
  | 64 => ⟨S8x1x128x256, .f32⟩
  | 65 => ⟨S8x1x128x256, .f32⟩
  | 66 => ⟨S8x1x128x256, .f32⟩
  | 67 => ⟨S8x1x128x256, .f32⟩
  | 68 => ⟨S8x1x128x256, .f32⟩
  | 69 => ⟨S8x1x128x256, .f32⟩
  | 70 => ⟨S8x1x128x256, .f32⟩
  | 71 => ⟨S8x1x128x256, .f32⟩
  | 72 => ⟨S8x1x128x256, .f32⟩
  | 73 => ⟨S8x1x128x256, .f32⟩
  | 74 => ⟨S8x1x128x256, .f32⟩
  | 75 => ⟨S8x1x128x256, .f32⟩
  | 76 => ⟨S8x1x128x256, .f32⟩
  | 77 => ⟨S8x1x128x256, .f32⟩
  | 78 => ⟨S8x1x128x256, .f32⟩
  | 79 => ⟨S8x1x128x256, .f32⟩
  | 80 => ⟨S8x1x128x256, .f32⟩
  | 81 => ⟨S8x1x128x256, .f32⟩
  | 82 => ⟨S8x1x128x256, .f32⟩
  | 83 => ⟨S8x1x128x256, .f32⟩
  | 84 => ⟨S8x1x128x256, .f32⟩
  | 85 => ⟨S8x1x128x256, .f32⟩
  | 86 => ⟨S8x1x128x256, .f32⟩
  | 87 => ⟨S8x1x128x256, .f32⟩
  | 88 => ⟨S8x1x128x256, .f32⟩
  | 89 => ⟨S8x1x128x256, .f32⟩
  | 90 => ⟨S8x1x128x256, .f32⟩
  | 91 => ⟨S8x1x128x256, .f32⟩
  | 92 => ⟨S8x1x128x256, .f32⟩
  | 93 => ⟨S8x1x128x256, .f32⟩
  | 94 => ⟨S8x1x128x256, .f32⟩
  | 95 => ⟨S8x1x128x256, .f32⟩
  | 96 => ⟨S8x1x128x256, .f32⟩
  | 97 => ⟨S8x1x128x256, .f32⟩
  | 98 => ⟨S8x1x128x256, .f32⟩
  | 99 => ⟨S8x1x128x256, .f32⟩
  | 100 => ⟨S8x1x128x256, .f32⟩
  | 101 => ⟨S8x1x128x256, .f32⟩
  | 102 => ⟨S8x1x128x256, .f32⟩
  | 103 => ⟨S8x1x128x256, .f32⟩
  | 104 => ⟨S8x1x128x256, .f32⟩
  | 105 => ⟨S8x1x128x256, .f32⟩
  | 106 => ⟨S8x1x128x256, .f32⟩
  | 107 => ⟨S8x1x128x256, .f32⟩
  | 108 => ⟨S8x1x128x256, .f32⟩
  | 109 => ⟨S8x1x128x256, .f32⟩
  | 110 => ⟨S8x1x128x256, .f32⟩
  | 111 => ⟨S8x1x128x256, .f32⟩
  | 112 => ⟨S8x1x128x256, .f32⟩
  | 113 => ⟨S8x1x128x256, .f32⟩
  | 114 => ⟨S8x1x128x256, .f32⟩
  | 115 => ⟨S8x1x128x256, .f32⟩
  | 116 => ⟨S8x1x128x256, .f32⟩
  | 117 => ⟨S8x1x128x256, .f32⟩
  | 118 => ⟨S2048x8x4, .f32⟩
  | 119 => ⟨S8x2048x4, .f32⟩
  | 120 => ⟨S_, .f32⟩
  | 121 => ⟨S8x2048x128, .f32⟩
  | 122 => ⟨S2048x32, .f32⟩
  | 123 => ⟨S2048x8x4, .f32⟩
  | 124 => ⟨S8x2048x4, .f32⟩
  | 125 => ⟨S_, .f32⟩
  | 126 => ⟨S8x2048x128, .f32⟩
  | 127 => ⟨S2048x32, .f32⟩
  | _ => ⟨S2048x4096, .f32⟩

abbrev hbmTy0_1 (i : Nat) : BufTy := match i % 128 with
  | 0 => ⟨S2048x32, .f32⟩
  | 1 => ⟨S_, .f32⟩
  | 2 => ⟨S2048x32, .f32⟩
  | 3 => ⟨S2048x32, .f32⟩
  | 4 => ⟨S_, .f32⟩
  | 5 => ⟨S2048x32, .f32⟩
  | 6 => ⟨S2048x32, .f32⟩
  | 7 => ⟨S2048x8x4, .f32⟩
  | 8 => ⟨S8x2048x4, .f32⟩
  | 9 => ⟨S_, .f32⟩
  | 10 => ⟨S8x2048x128, .f32⟩
  | 11 => ⟨S8x16x128x256, .f32⟩
  | 12 => ⟨S2048x2048, .f32⟩
  | 13 => ⟨S2048x1024, .f32⟩
  | 14 => ⟨S2048x1024, .f32⟩
  | 15 => ⟨S8x2048x128, .f32⟩
  | 16 => ⟨S8x8x128, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x8x128, .f32⟩
  | .local _ .vmem, ⟨13, _⟩ => ⟨S8x1x128x256, .f32⟩
  | .local _ .vmem, ⟨14, _⟩ => ⟨S8x1x128x256, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S8x128x128, .f32⟩
  | .local _ .vmem, ⟨24, _⟩ => ⟨S8x128x128, .f32⟩
  | .local _ .vmem, ⟨25, _⟩ => ⟨S8x8x128, .f32⟩
  | .local _ .vmem, ⟨26, _⟩ => ⟨S8x128x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_call0_cst : Ref sig .tc := ⟨.hbm, 30, rfl⟩
abbrev main_call0_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_2 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_3 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_cst_4 : Ref sig .tc := ⟨.hbm, 129, rfl⟩
abbrev main_v116 : Ref sig .tc := ⟨.hbm, 130, rfl⟩
abbrev main_v117 : Ref sig .tc := ⟨.hbm, 131, rfl⟩
abbrev main_cst_5 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_cst_6 : Ref sig .tc := ⟨.hbm, 137, rfl⟩
abbrev main_v122 : Ref sig .tc := ⟨.hbm, 138, rfl⟩
abbrev main_v123 : Ref sig .tc := ⟨.hbm, 139, rfl⟩
abbrev main_v124_0 : Ref sig .tc := ⟨.hbm, 140, rfl⟩
abbrev main_v124_1 : Ref sig .tc := ⟨.hbm, 141, rfl⟩
abbrev main_v124_2 : Ref sig .tc := ⟨.hbm, 142, rfl⟩
abbrev main_v124_3 : Ref sig .tc := ⟨.hbm, 143, rfl⟩
abbrev main_v124_4 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.addi c3_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Reference2Ideal.lean ====
abbrev S2048x4096 : Shape := ⟨2, ![2048, 4096]⟩
abbrev S2048x32 : Shape := ⟨2, ![2048, 32]⟩
abbrev S32 : Shape := ⟨1, ![32]⟩
abbrev S2048x2048 : Shape := ⟨2, ![2048, 2048]⟩
abbrev S2048x32x64 : Shape := ⟨3, ![2048, 32, 64]⟩
abbrev S2048x1024 : Shape := ⟨2, ![2048, 1024]⟩
abbrev S2048x8x128 : Shape := ⟨3, ![2048, 8, 128]⟩
abbrev S1x32 : Shape := ⟨2, ![1, 32]⟩
abbrev S_ : Shape := ⟨0, ![]⟩
abbrev S16x128x8x4x64 : Shape := ⟨5, ![16, 128, 8, 4, 64]⟩
abbrev S16x128x8x4 : Shape := ⟨4, ![16, 128, 8, 4]⟩
abbrev S16x128x8x128 : Shape := ⟨4, ![16, 128, 8, 128]⟩
abbrev S8x4 : Shape := ⟨2, ![8, 4]⟩
abbrev S1x1x8x4 : Shape := ⟨4, ![1, 1, 8, 4]⟩
abbrev S16x128x8x4x1 : Shape := ⟨5, ![16, 128, 8, 4, 1]⟩
abbrev S16x128x1x8x4 : Shape := ⟨5, ![16, 128, 1, 8, 4]⟩
abbrev S16x1x128x8x4 : Shape := ⟨5, ![16, 1, 128, 8, 4]⟩
abbrev S16x128x128x8x4 : Shape := ⟨5, ![16, 128, 128, 8, 4]⟩
abbrev S128x128 : Shape := ⟨2, ![128, 128]⟩
abbrev S128x128x1x1 : Shape := ⟨4, ![128, 128, 1, 1]⟩
abbrev S16x8x128x128 : Shape := ⟨4, ![16, 8, 128, 128]⟩
abbrev S16x128x128x8 : Shape := ⟨4, ![16, 128, 128, 8]⟩
abbrev S16x128x128x8x1 : Shape := ⟨5, ![16, 128, 128, 8, 1]⟩
abbrev S16x8x4x64x128 : Shape := ⟨5, ![16, 8, 4, 64, 128]⟩
abbrev S16x1x8x4 : Shape := ⟨4, ![16, 1, 8, 4]⟩
abbrev S16x8x4 : Shape := ⟨3, ![16, 8, 4]⟩
abbrev S1x8x4x64x128 : Shape := ⟨5, ![1, 8, 4, 64, 128]⟩
abbrev S16x8x4x1x1 : Shape := ⟨5, ![16, 8, 4, 1, 1]⟩
abbrev S1x8x4x1x1 : Shape := ⟨5, ![1, 8, 4, 1, 1]⟩
abbrev S32x1 : Shape := ⟨2, ![32, 1]⟩
abbrev S1x32x1 : Shape := ⟨3, ![1, 32, 1]⟩
abbrev S1x8x4 : Shape := ⟨3, ![1, 8, 4]⟩
abbrev S16x8x4x128x128 : Shape := ⟨5, ![16, 8, 4, 128, 128]⟩
abbrev S2048x8x4 : Shape := ⟨3, ![2048, 8, 4]⟩
abbrev S8x2048x4 : Shape := ⟨3, ![8, 2048, 4]⟩
abbrev S8x2048x128 : Shape := ⟨3, ![8, 2048, 128]⟩
abbrev S2x32 : Shape := ⟨2, ![2, 32]⟩
abbrev S2x8x4 : Shape := ⟨3, ![2, 8, 4]⟩
abbrev S8x2x4 : Shape := ⟨3, ![8, 2, 4]⟩
abbrev S8x8x128 : Shape := ⟨3, ![8, 8, 128]⟩

abbrev nBuf : Space → Nat
  | .hbm => 492
  | .vmem => 0
  | .smem => 0
  | _ => 0

abbrev hbmTy0_0 (i : Nat) : BufTy := match i % 128 with
  | 0 => ⟨S2048x4096, .f32⟩
  | 1 => ⟨S2048x32, .f32⟩
  | 2 => ⟨S32, .f32⟩
  | 3 => ⟨S32, .f32⟩
  | 4 => ⟨S32, .f32⟩
  | 5 => ⟨S2048x2048, .f32⟩
  | 6 => ⟨S2048x2048, .f32⟩
  | 7 => ⟨S2048x32x64, .f32⟩
  | 8 => ⟨S2048x1024, .f32⟩
  | 9 => ⟨S2048x8x128, .f32⟩
  | 10 => ⟨S2048x1024, .f32⟩
  | 11 => ⟨S2048x8x128, .f32⟩
  | 12 => ⟨S1x32, .f32⟩
  | 13 => ⟨S2048x32, .f32⟩
  | 14 => ⟨S2048x32, .f32⟩
  | 15 => ⟨S_, .f32⟩
  | 16 => ⟨S2048x32, .f32⟩
  | 17 => ⟨S2048x32, .f32⟩
  | 18 => ⟨S2048x32, .f32⟩
  | 19 => ⟨S2048x32, .f32⟩
  | 20 => ⟨S2048x32, .i1⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S_, .f32⟩
  | 30 => ⟨S2048x32, .f32⟩
  | 31 => ⟨S2048x32, .i1⟩
  | 32 => ⟨S_, .f32⟩
  | 33 => ⟨S2048x32, .f32⟩
  | 34 => ⟨S2048x32, .f32⟩
  | 35 => ⟨S_, .f32⟩
  | 36 => ⟨S2048x32, .f32⟩
  | 37 => ⟨S2048x32, .i1⟩
  | 38 => ⟨S_, .f32⟩
  | 39 => ⟨S2048x32, .f32⟩
  | 40 => ⟨S2048x32, .f32⟩
  | 41 => ⟨S2048x32, .f32⟩
  | 42 => ⟨S2048x32, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x32, .f32⟩
  | 51 => ⟨S2048x32, .i1⟩
  | 52 => ⟨S_, .f32⟩
  | 53 => ⟨S2048x32, .f32⟩
  | 54 => ⟨S2048x32, .f32⟩
  | 55 => ⟨S2048x32, .f32⟩
  | 56 => ⟨S2048x32, .f32⟩
  | 57 => ⟨S2048x32, .f32⟩
  | 58 => ⟨S_, .f32⟩
  | 59 => ⟨S2048x32, .f32⟩
  | 60 => ⟨S2048x32, .f32⟩
  | 61 => ⟨S32, .f32⟩
  | 62 => ⟨S32, .f32⟩
  | 63 => ⟨S16x128x8x4x64, .f32⟩
  | 64 => ⟨S16x128x8x4, .f32⟩
  | 65 => ⟨S16x128x8x128, .f32⟩
  | 66 => ⟨S16x128x8x128, .f32⟩
  | 67 => ⟨S8x4, .f32⟩
  | 68 => ⟨S1x1x8x4, .f32⟩
  | 69 => ⟨S16x128x8x4, .f32⟩
  | 70 => ⟨S16x128x8x4, .f32⟩
  | 71 => ⟨S_, .f32⟩
  | 72 => ⟨S_, .f32⟩
  | 73 => ⟨S16x128x8x4, .f32⟩
  | 74 => ⟨S16x128x8x4x1, .f32⟩
  | 75 => ⟨S16x128x8x4x64, .f32⟩
  | 76 => ⟨S16x128x8x4x64, .f32⟩
  | 77 => ⟨S16x128x1x8x4, .f32⟩
  | 78 => ⟨S16x1x128x8x4, .f32⟩
  | 79 => ⟨S16x128x128x8x4, .f32⟩
  | 80 => ⟨S16x128x128x8x4, .f32⟩
  | 81 => ⟨S16x128x128x8x4, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S128x128x1x1, .i1⟩
  | 94 => ⟨S_, .f32⟩
  | 95 => ⟨S_, .f32⟩
  | 96 => ⟨S16x128x128x8x4, .i1⟩
  | 97 => ⟨S16x128x128x8x4, .f32⟩
  | 98 => ⟨S16x128x128x8x4, .f32⟩
  | 99 => ⟨S_, .f32⟩
  | 100 => ⟨S16x128x128x8x4, .f32⟩
  | 101 => ⟨S16x128x128x8x4, .f32⟩
  | 102 => ⟨S16x8x128x128, .f32⟩
  | 103 => ⟨S16x128x128x8, .f32⟩
  | 104 => ⟨S16x128x128x8x1, .f32⟩
  | 105 => ⟨S16x128x128x8x4, .f32⟩
  | 106 => ⟨S16x128x128x8x4, .f32⟩
  | 107 => ⟨S16x8x4x64x128, .f32⟩
  | 108 => ⟨S16x128x8x4x64, .f32⟩
  | 109 => ⟨S16x1x8x4, .f32⟩
  | 110 => ⟨S16x128x8x4, .f32⟩
  | 111 => ⟨S16x128x8x4, .f32⟩
  | 112 => ⟨S16x128x8x4, .f32⟩
  | 113 => ⟨S16x128x8x4x1, .f32⟩
  | 114 => ⟨S16x128x8x4x64, .f32⟩
  | 115 => ⟨S16x128x8x4x64, .f32⟩
  | 116 => ⟨S16x8x4x64x128, .f32⟩
  | 117 => ⟨S16x1x8x4, .f32⟩
  | 118 => ⟨S16x8x4, .f32⟩
  | 119 => ⟨S16x8x4, .f32⟩
  | 120 => ⟨S_, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S2048x4096, .f32⟩

abbrev hbmTy0_1 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S1x8x4x64x128, .f32⟩
  | 9 => ⟨S1x8x4x64x128, .f32⟩
  | 10 => ⟨S16x8x4x1x1, .f32⟩
  | 11 => ⟨S1x8x4x1x1, .f32⟩
  | 12 => ⟨S1x8x4x1x1, .f32⟩
  | 13 => ⟨S1x8x4x1x1, .f32⟩
  | 14 => ⟨S1x8x4x1x1, .f32⟩
  | 15 => ⟨S1x8x4x1x1, .f32⟩
  | 16 => ⟨S1x8x4x1x1, .f32⟩
  | 17 => ⟨S1x8x4x1x1, .f32⟩
  | 18 => ⟨S1x8x4x1x1, .f32⟩
  | 19 => ⟨S1x8x4x1x1, .f32⟩
  | 20 => ⟨S1x8x4x1x1, .f32⟩
  | 21 => ⟨S1x8x4x1x1, .f32⟩
  | 22 => ⟨S1x8x4x1x1, .f32⟩
  | 23 => ⟨S1x8x4x1x1, .f32⟩
  | 24 => ⟨S1x8x4x1x1, .f32⟩
  | 25 => ⟨S1x8x4x1x1, .f32⟩
  | 26 => ⟨S1x8x4x1x1, .f32⟩
  | 27 => ⟨S1x8x4x64x128, .f32⟩
  | 28 => ⟨S1x8x4x64x128, .f32⟩
  | 29 => ⟨S1x8x4x64x128, .f32⟩
  | 30 => ⟨S1x8x4x64x128, .f32⟩
  | 31 => ⟨S1x8x4x64x128, .f32⟩
  | 32 => ⟨S1x8x4x64x128, .f32⟩
  | 33 => ⟨S1x8x4x64x128, .f32⟩
  | 34 => ⟨S1x8x4x64x128, .f32⟩
  | 35 => ⟨S1x8x4x64x128, .f32⟩
  | 36 => ⟨S1x8x4x64x128, .f32⟩
  | 37 => ⟨S1x8x4x64x128, .f32⟩
  | 38 => ⟨S1x8x4x64x128, .f32⟩
  | 39 => ⟨S1x8x4x64x128, .f32⟩
  | 40 => ⟨S1x8x4x64x128, .f32⟩
  | 41 => ⟨S1x8x4x64x128, .f32⟩
  | 42 => ⟨S1x8x4x64x128, .f32⟩
  | 43 => ⟨S1x8x4x64x128, .f32⟩
  | 44 => ⟨S1x8x4x64x128, .f32⟩
  | 45 => ⟨S1x8x4x64x128, .f32⟩
  | 46 => ⟨S1x8x4x64x128, .f32⟩
  | 47 => ⟨S1x8x4x64x128, .f32⟩
  | 48 => ⟨S1x8x4x64x128, .f32⟩
  | 49 => ⟨S1x8x4x64x128, .f32⟩
  | 50 => ⟨S1x8x4x64x128, .f32⟩
  | 51 => ⟨S1x8x4x64x128, .f32⟩
  | 52 => ⟨S1x8x4x64x128, .f32⟩
  | 53 => ⟨S1x8x4x64x128, .f32⟩
  | 54 => ⟨S1x8x4x64x128, .f32⟩
  | 55 => ⟨S1x8x4x64x128, .f32⟩
  | 56 => ⟨S1x8x4x64x128, .f32⟩
  | 57 => ⟨S1x8x4x64x128, .f32⟩
  | 58 => ⟨S1x8x4x64x128, .f32⟩
  | 59 => ⟨S1x8x4x64x128, .f32⟩
  | 60 => ⟨S1x8x4x64x128, .f32⟩
  | 61 => ⟨S1x8x4x64x128, .f32⟩
  | 62 => ⟨S1x8x4x64x128, .f32⟩
  | 63 => ⟨S1x8x4x64x128, .f32⟩
  | 64 => ⟨S1x8x4x64x128, .f32⟩
  | 65 => ⟨S1x8x4x64x128, .f32⟩
  | 66 => ⟨S1x8x4x64x128, .f32⟩
  | 67 => ⟨S1x8x4x64x128, .f32⟩
  | 68 => ⟨S1x8x4x64x128, .f32⟩
  | 69 => ⟨S1x8x4x64x128, .f32⟩
  | 70 => ⟨S1x8x4x64x128, .f32⟩
  | 71 => ⟨S1x8x4x64x128, .f32⟩
  | 72 => ⟨S1x8x4x64x128, .f32⟩
  | 73 => ⟨S1x8x4x64x128, .f32⟩
  | 74 => ⟨S1x8x4x64x128, .f32⟩
  | 75 => ⟨S16x8x4x64x128, .f32⟩
  | 76 => ⟨S_, .f32⟩
  | 77 => ⟨S1x8x4x64x128, .f32⟩
  | 78 => ⟨S16x8x4x64x128, .f32⟩
  | 79 => ⟨S16x128x8x4x64, .f32⟩
  | 80 => ⟨S16x128x8x4, .f32⟩
  | 81 => ⟨S16x128x8x4x1, .f32⟩
  | 82 => ⟨S16x128x8x4x64, .f32⟩
  | 83 => ⟨S16x128x8x4x64, .f32⟩
  | 84 => ⟨S16x128x8x4x64, .f32⟩
  | 85 => ⟨S2048x32x64, .f32⟩
  | 86 => ⟨S32x1, .f32⟩
  | 87 => ⟨S1x32x1, .f32⟩
  | 88 => ⟨S2048x32x64, .f32⟩
  | 89 => ⟨S2048x32x64, .f32⟩
  | 90 => ⟨S2048x32x64, .f32⟩
  | 91 => ⟨S2048x2048, .f32⟩
  | 92 => ⟨S2048x32x64, .f32⟩
  | 93 => ⟨S2048x32x64, .f32⟩
  | 94 => ⟨S2048x32x64, .f32⟩
  | 95 => ⟨S2048x32x64, .f32⟩
  | 96 => ⟨S_, .f32⟩
  | 97 => ⟨S32, .f32⟩
  | 98 => ⟨S1x32x1, .f32⟩
  | 99 => ⟨S_, .f32⟩
  | 100 => ⟨S32, .f32⟩
  | 101 => ⟨S32x1, .f32⟩
  | 102 => ⟨S_, .f32⟩
  | 103 => ⟨S32, .f32⟩
  | 104 => ⟨S16x128x8x4x64, .f32⟩
  | 105 => ⟨S16x128x8x4x64, .f32⟩
  | 106 => ⟨S_, .f32⟩
  | 107 => ⟨S16x128x8x4, .f32⟩
  | 108 => ⟨S16x128x8x4x1, .f32⟩
  | 109 => ⟨S16x128x8x4x64, .f32⟩
  | 110 => ⟨S16x128x8x4x64, .f32⟩
  | 111 => ⟨S_, .f32⟩
  | 112 => ⟨S16x128x8x4, .f32⟩
  | 113 => ⟨S16x128x8x4, .f32⟩
  | 114 => ⟨S16x8x4x64x128, .f32⟩
  | 115 => ⟨S16x8x128x128, .f32⟩
  | 116 => ⟨S16x128x8x128, .f32⟩
  | 117 => ⟨S16x8x4x64x128, .f32⟩
  | 118 => ⟨S1x8x4x64x128, .f32⟩
  | 119 => ⟨S1x8x4x64x128, .f32⟩
  | 120 => ⟨S1x8x4x64x128, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S2048x4096, .f32⟩

abbrev hbmTy0_2 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S_, .f32⟩
  | 8 => ⟨S1x8x4, .f32⟩
  | 9 => ⟨S1x8x4x1x1, .f32⟩
  | 10 => ⟨S1x8x4x64x128, .f32⟩
  | 11 => ⟨S1x8x4x64x128, .f32⟩
  | 12 => ⟨S1x8x4x64x128, .f32⟩
  | 13 => ⟨S1x8x4x64x128, .f32⟩
  | 14 => ⟨S_, .f32⟩
  | 15 => ⟨S1x8x4, .f32⟩
  | 16 => ⟨S1x8x4x1x1, .f32⟩
  | 17 => ⟨S1x8x4x64x128, .f32⟩
  | 18 => ⟨S1x8x4x64x128, .f32⟩
  | 19 => ⟨S1x8x4x64x128, .f32⟩
  | 20 => ⟨S1x8x4x64x128, .f32⟩
  | 21 => ⟨S_, .f32⟩
  | 22 => ⟨S1x8x4, .f32⟩
  | 23 => ⟨S1x8x4x1x1, .f32⟩
  | 24 => ⟨S1x8x4x64x128, .f32⟩
  | 25 => ⟨S1x8x4x64x128, .f32⟩
  | 26 => ⟨S1x8x4x64x128, .f32⟩
  | 27 => ⟨S1x8x4x64x128, .f32⟩
  | 28 => ⟨S_, .f32⟩
  | 29 => ⟨S1x8x4, .f32⟩
  | 30 => ⟨S1x8x4x1x1, .f32⟩
  | 31 => ⟨S1x8x4x64x128, .f32⟩
  | 32 => ⟨S1x8x4x64x128, .f32⟩
  | 33 => ⟨S1x8x4x64x128, .f32⟩
  | 34 => ⟨S1x8x4x64x128, .f32⟩
  | 35 => ⟨S_, .f32⟩
  | 36 => ⟨S1x8x4, .f32⟩
  | 37 => ⟨S1x8x4x1x1, .f32⟩
  | 38 => ⟨S1x8x4x64x128, .f32⟩
  | 39 => ⟨S1x8x4x64x128, .f32⟩
  | 40 => ⟨S1x8x4x64x128, .f32⟩
  | 41 => ⟨S1x8x4x64x128, .f32⟩
  | 42 => ⟨S_, .f32⟩
  | 43 => ⟨S1x8x4, .f32⟩
  | 44 => ⟨S1x8x4x1x1, .f32⟩
  | 45 => ⟨S1x8x4x64x128, .f32⟩
  | 46 => ⟨S1x8x4x64x128, .f32⟩
  | 47 => ⟨S1x8x4x64x128, .f32⟩
  | 48 => ⟨S1x8x4x64x128, .f32⟩
  | 49 => ⟨S_, .f32⟩
  | 50 => ⟨S1x8x4, .f32⟩
  | 51 => ⟨S1x8x4x1x1, .f32⟩
  | 52 => ⟨S1x8x4x64x128, .f32⟩
  | 53 => ⟨S1x8x4x64x128, .f32⟩
  | 54 => ⟨S1x8x4x64x128, .f32⟩
  | 55 => ⟨S1x8x4x64x128, .f32⟩
  | 56 => ⟨S_, .f32⟩
  | 57 => ⟨S1x8x4, .f32⟩
  | 58 => ⟨S1x8x4x1x1, .f32⟩
  | 59 => ⟨S1x8x4x64x128, .f32⟩
  | 60 => ⟨S1x8x4x64x128, .f32⟩
  | 61 => ⟨S1x8x4x64x128, .f32⟩
  | 62 => ⟨S1x8x4x64x128, .f32⟩
  | 63 => ⟨S_, .f32⟩
  | 64 => ⟨S1x8x4, .f32⟩
  | 65 => ⟨S1x8x4x1x1, .f32⟩
  | 66 => ⟨S1x8x4x64x128, .f32⟩
  | 67 => ⟨S1x8x4x64x128, .f32⟩
  | 68 => ⟨S1x8x4x64x128, .f32⟩
  | 69 => ⟨S1x8x4x64x128, .f32⟩
  | 70 => ⟨S_, .f32⟩
  | 71 => ⟨S1x8x4, .f32⟩
  | 72 => ⟨S1x8x4x1x1, .f32⟩
  | 73 => ⟨S1x8x4x64x128, .f32⟩
  | 74 => ⟨S1x8x4x64x128, .f32⟩
  | 75 => ⟨S1x8x4x64x128, .f32⟩
  | 76 => ⟨S1x8x4x64x128, .f32⟩
  | 77 => ⟨S_, .f32⟩
  | 78 => ⟨S1x8x4, .f32⟩
  | 79 => ⟨S1x8x4x1x1, .f32⟩
  | 80 => ⟨S1x8x4x64x128, .f32⟩
  | 81 => ⟨S1x8x4x64x128, .f32⟩
  | 82 => ⟨S1x8x4x64x128, .f32⟩
  | 83 => ⟨S1x8x4x64x128, .f32⟩
  | 84 => ⟨S_, .f32⟩
  | 85 => ⟨S1x8x4, .f32⟩
  | 86 => ⟨S1x8x4x1x1, .f32⟩
  | 87 => ⟨S1x8x4x64x128, .f32⟩
  | 88 => ⟨S1x8x4x64x128, .f32⟩
  | 89 => ⟨S1x8x4x64x128, .f32⟩
  | 90 => ⟨S1x8x4x64x128, .f32⟩
  | 91 => ⟨S_, .f32⟩
  | 92 => ⟨S1x8x4, .f32⟩
  | 93 => ⟨S1x8x4x1x1, .f32⟩
  | 94 => ⟨S1x8x4x64x128, .f32⟩
  | 95 => ⟨S1x8x4x64x128, .f32⟩
  | 96 => ⟨S1x8x4x64x128, .f32⟩
  | 97 => ⟨S1x8x4x64x128, .f32⟩
  | 98 => ⟨S_, .f32⟩
  | 99 => ⟨S1x8x4, .f32⟩
  | 100 => ⟨S1x8x4x1x1, .f32⟩
  | 101 => ⟨S1x8x4x64x128, .f32⟩
  | 102 => ⟨S1x8x4x64x128, .f32⟩
  | 103 => ⟨S1x8x4x64x128, .f32⟩
  | 104 => ⟨S1x8x4x64x128, .f32⟩
  | 105 => ⟨S_, .f32⟩
  | 106 => ⟨S1x8x4, .f32⟩
  | 107 => ⟨S1x8x4x1x1, .f32⟩
  | 108 => ⟨S_, .f32⟩
  | 109 => ⟨S1x8x4x1x1, .f32⟩
  | 110 => ⟨S16x8x4x1x1, .f32⟩
  | 111 => ⟨S_, .f32⟩
  | 112 => ⟨S16x8x4, .f32⟩
  | 113 => ⟨S_, .f32⟩
  | 114 => ⟨S1x8x4x64x128, .f32⟩
  | 115 => ⟨S16x8x4x64x128, .f32⟩
  | 116 => ⟨S16x8x4, .f32⟩
  | 117 => ⟨S16x1x8x4, .f32⟩
  | 118 => ⟨S_, .f32⟩
  | 119 => ⟨S16x128x8x4, .f32⟩
  | 120 => ⟨S16x128x8x4, .f32⟩
  | 121 => ⟨S16x8x128x128, .f32⟩
  | 122 => ⟨S16x128x8x128, .f32⟩
  | 123 => ⟨S16x8x4x64x128, .f32⟩
  | 124 => ⟨S16x128x8x4x64, .f32⟩
  | 125 => ⟨S16x128x8x4x64, .f32⟩
  | 126 => ⟨S16x128x8x4x64, .f32⟩
  | 127 => ⟨S16x128x8x4x64, .f32⟩
  | _ => ⟨S2048x4096, .f32⟩

abbrev hbmTy0_3 (i : Nat) : BufTy := match i % 128 with
  | 0 => ⟨S_, .f32⟩
  | 1 => ⟨S16x128x8x4, .f32⟩
  | 2 => ⟨S16x128x8x4x1, .f32⟩
  | 3 => ⟨S_, .f32⟩
  | 4 => ⟨S16x128x8x4, .f32⟩
  | 5 => ⟨S16x128x8x4, .f32⟩
  | 6 => ⟨S_, .f32⟩
  | 7 => ⟨S16x8x4, .f32⟩
  | 8 => ⟨S16x1x8x4, .f32⟩
  | 9 => ⟨S16x128x8x4, .f32⟩
  | 10 => ⟨S16x128x8x4, .f32⟩
  | 11 => ⟨S_, .f32⟩
  | 12 => ⟨S16x128x8x4, .f32⟩
  | 13 => ⟨S16x128x8x4, .f32⟩
  | 14 => ⟨S16x8x4x64x128, .f32⟩
  | 15 => ⟨S16x8x4x128x128, .f32⟩
  | 16 => ⟨S16x128x128x8x4, .f32⟩
  | 17 => ⟨S16x8x4x64x128, .f32⟩
  | 18 => ⟨S16x128x8x4x64, .f32⟩
  | 19 => ⟨S16x128x8x4x64, .f32⟩
  | 20 => ⟨S16x128x128x8x4, .f32⟩
  | 21 => ⟨S16x128x128x8x4, .f32⟩
  | 22 => ⟨S16x128x128x8x4, .f32⟩
  | 23 => ⟨S_, .f32⟩
  | 24 => ⟨S16x128x128x8, .f32⟩
  | 25 => ⟨S16x128x128x8x1, .f32⟩
  | 26 => ⟨S_, .f32⟩
  | 27 => ⟨S16x128x128x8, .f32⟩
  | 28 => ⟨S16x8x128x128, .f32⟩
  | 29 => ⟨S16x8x128x128, .f32⟩
  | 30 => ⟨S16x128x8x128, .f32⟩
  | 31 => ⟨S16x128x8x128, .f32⟩
  | 32 => ⟨S16x8x128x128, .f32⟩
  | 33 => ⟨S16x128x8x128, .f32⟩
  | 34 => ⟨S16x128x8x128, .f32⟩
  | 35 => ⟨S16x128x128x8x4, .f32⟩
  | 36 => ⟨S_, .f32⟩
  | 37 => ⟨S16x128x128x8x4, .f32⟩
  | 38 => ⟨S16x128x128x8x4, .f32⟩
  | 39 => ⟨S_, .f32⟩
  | 40 => ⟨S16x128x8x4, .f32⟩
  | 41 => ⟨S16x128x1x8x4, .f32⟩
  | 42 => ⟨S16x128x128x8x4, .f32⟩
  | 43 => ⟨S_, .f32⟩
  | 44 => ⟨S16x128x8x4, .f32⟩
  | 45 => ⟨S16x1x128x8x4, .f32⟩
  | 46 => ⟨S_, .f32⟩
  | 47 => ⟨S16x128x8x4, .f32⟩
  | 48 => ⟨S16x128x8x4, .f32⟩
  | 49 => ⟨S_, .f32⟩
  | 50 => ⟨S16x128x8x4, .f32⟩
  | 51 => ⟨S16x128x8x4, .f32⟩
  | 52 => ⟨S16x128x8x4x64, .f32⟩
  | 53 => ⟨S_, .f32⟩
  | 54 => ⟨S16x128x8x4, .f32⟩
  | 55 => ⟨S16x128x8x4x1, .f32⟩
  | 56 => ⟨S16x128x8x4x64, .f32⟩
  | 57 => ⟨S16x128x8x4x64, .f32⟩
  | 58 => ⟨S_, .f32⟩
  | 59 => ⟨S16x128x8x4, .f32⟩
  | 60 => ⟨S_, .f32⟩
  | 61 => ⟨S_, .f32⟩
  | 62 => ⟨S16x128x8x4, .f32⟩
  | 63 => ⟨S16x128x8x4, .f32⟩
  | 64 => ⟨S_, .f32⟩
  | 65 => ⟨S8x4, .f32⟩
  | 66 => ⟨S1x1x8x4, .f32⟩
  | 67 => ⟨S16x128x8x4, .f32⟩
  | 68 => ⟨S16x128x8x4, .f32⟩
  | 69 => ⟨S16x128x8x4, .f32⟩
  | 70 => ⟨S_, .f32⟩
  | 71 => ⟨S8x4, .f32⟩
  | 72 => ⟨S32, .f32⟩
  | 73 => ⟨S2048x8x128, .f32⟩
  | 74 => ⟨S2048x8x128, .f32⟩
  | 75 => ⟨S2048x32, .f32⟩
  | 76 => ⟨S2048x32x64, .f32⟩
  | 77 => ⟨S2048x32x64, .f32⟩
  | 78 => ⟨S32, .f32⟩
  | 79 => ⟨S32, .f32⟩
  | 80 => ⟨S2048x32, .f32⟩
  | 81 => ⟨S2048x1024, .f32⟩
  | 82 => ⟨S_, .f32⟩
  | 83 => ⟨S2048x4096, .f32⟩
  | 84 => ⟨S2048x1024, .f32⟩
  | 85 => ⟨S_, .f32⟩
  | 86 => ⟨S2048x4096, .f32⟩
  | 87 => ⟨S2048x4096, .f32⟩
  | 88 => ⟨S2048x2048, .f32⟩
  | 89 => ⟨S_, .f32⟩
  | 90 => ⟨S2048x4096, .f32⟩
  | 91 => ⟨S2048x4096, .f32⟩
  | 92 => ⟨S2048x8x4, .f32⟩
  | 93 => ⟨S8x2048x4, .f32⟩
  | 94 => ⟨S_, .i32⟩
  | 95 => ⟨S_, .f32⟩
  | 96 => ⟨S8x2048x128, .f32⟩
  | 97 => ⟨S1x32, .f32⟩
  | 98 => ⟨S1x32, .f32⟩
  | 99 => ⟨S2x32, .f32⟩
  | 100 => ⟨S2x8x4, .f32⟩
  | 101 => ⟨S8x2x4, .f32⟩
  | 102 => ⟨S_, .i32⟩
  | 103 => ⟨S_, .f32⟩
  | 104 => ⟨S8x8x128, .f32⟩
  | 105 => ⟨S2048x2048, .f32⟩
  | 106 => ⟨S2048x1024, .f32⟩
  | 107 => ⟨S2048x1024, .f32⟩
  | _ => ⟨S2048x4096, .f32⟩

abbrev hbmTy (i : Nat) : BufTy := match i / 128 with
  | 0 => hbmTy0_0 i
  | 1 => hbmTy0_1 i
  | 2 => hbmTy0_2 i
  | 3 => hbmTy0_3 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v9_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v9_2 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_call1_call0_cst : Ref sig .tc := ⟨.hbm, 71, rfl⟩
abbrev main_call1_call0_v0 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_c : Ref sig .tc := ⟨.hbm, 82, rfl⟩
abbrev main_v29 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_0 : Ref sig .tc := ⟨.hbm, 90, rfl⟩
abbrev main_call2_v5 : Ref sig .tc := ⟨.hbm, 91, rfl⟩
abbrev main_v30 : Ref sig .tc := ⟨.hbm, 92, rfl⟩
abbrev main_v31 : Ref sig .tc := ⟨.hbm, 93, rfl⟩
abbrev main_cst : Ref sig .tc := ⟨.hbm, 94, rfl⟩
abbrev main_call3_v0 : Ref sig .tc := ⟨.hbm, 95, rfl⟩
abbrev main_v32_1 : Ref sig .tc := ⟨.hbm, 96, rfl⟩
abbrev main_call3_v2 : Ref sig .tc := ⟨.hbm, 97, rfl⟩
abbrev main_v32_0 : Ref sig .tc := ⟨.hbm, 98, rfl⟩
abbrev main_call3_cst : Ref sig .tc := ⟨.hbm, 99, rfl⟩
abbrev main_v32_2 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_0 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_cst_1 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_cst_2 : Ref sig .tc := ⟨.hbm, 224, rfl⟩
abbrev main_v154 : Ref sig .tc := ⟨.hbm, 225, rfl⟩
abbrev main_v155 : Ref sig .tc := ⟨.hbm, 226, rfl⟩
abbrev main_cst_3 : Ref sig .tc := ⟨.hbm, 227, rfl⟩
abbrev main_v156 : Ref sig .tc := ⟨.hbm, 228, rfl⟩
abbrev main_v157 : Ref sig .tc := ⟨.hbm, 229, rfl⟩
abbrev main_cst_4 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_cst_5 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_6 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_cst_7 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_cst_8 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_cst_9 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_cst_10 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_cst_11 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_cst_12 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_cst_13 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_cst_14 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_cst_15 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_cst_16 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_cst_17 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_cst_18 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_cst_19 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_cst_20 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_cst_21 : Ref sig .tc := ⟨.hbm, 361, rfl⟩
abbrev main_v272 : Ref sig .tc := ⟨.hbm, 362, rfl⟩
abbrev main_v273 : Ref sig .tc := ⟨.hbm, 363, rfl⟩
abbrev main_cst_22 : Ref sig .tc := ⟨.hbm, 364, rfl⟩
abbrev main_v274 : Ref sig .tc := ⟨.hbm, 365, rfl⟩
abbrev main_v275 : Ref sig .tc := ⟨.hbm, 366, rfl⟩
abbrev main_cst_23 : Ref sig .tc := ⟨.hbm, 367, rfl⟩
abbrev main_v276 : Ref sig .tc := ⟨.hbm, 368, rfl⟩
abbrev main_cst_24 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_cst_25 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_cst_26 : Ref sig .tc := ⟨.hbm, 384, rfl⟩
abbrev main_v290 : Ref sig .tc := ⟨.hbm, 385, rfl⟩
abbrev main_v291 : Ref sig .tc := ⟨.hbm, 386, rfl⟩
abbrev main_cst_27 : Ref sig .tc := ⟨.hbm, 387, rfl⟩
abbrev main_v292 : Ref sig .tc := ⟨.hbm, 388, rfl⟩
abbrev main_v293 : Ref sig .tc := ⟨.hbm, 389, rfl⟩
abbrev main_cst_28 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_cst_29 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_cst_30 : Ref sig .tc := ⟨.hbm, 407, rfl⟩
abbrev main_v309 : Ref sig .tc := ⟨.hbm, 408, rfl⟩
abbrev main_v310 : Ref sig .tc := ⟨.hbm, 409, rfl⟩
abbrev main_cst_31 : Ref sig .tc := ⟨.hbm, 410, rfl⟩
abbrev main_v311 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_v316 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_call4_cst : Ref sig .tc := ⟨.hbm, 420, rfl⟩
abbrev main_call4_v0 : Ref sig .tc := ⟨.hbm, 421, rfl⟩
abbrev main_v320 : Ref sig .tc := ⟨.hbm, 422, rfl⟩
abbrev main_cst_32 : Ref sig .tc := ⟨.hbm, 423, rfl⟩
abbrev main_v321 : Ref sig .tc := ⟨.hbm, 424, rfl⟩
abbrev main_v322 : Ref sig .tc := ⟨.hbm, 425, rfl⟩
abbrev main_v323 : Ref sig .tc := ⟨.hbm, 426, rfl⟩
abbrev main_cst_33 : Ref sig .tc := ⟨.hbm, 427, rfl⟩
abbrev main_v324 : Ref sig .tc := ⟨.hbm, 428, rfl⟩
abbrev main_v325 : Ref sig .tc := ⟨.hbm, 429, rfl⟩
abbrev main_cst_34 : Ref sig .tc := ⟨.hbm, 430, rfl⟩
abbrev main_v326 : Ref sig .tc := ⟨.hbm, 431, rfl⟩
abbrev main_v327 : Ref sig .tc := ⟨.hbm, 432, rfl⟩
abbrev main_cst_35 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_cst_36 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_cst_37 : Ref sig .tc := ⟨.hbm, 442, rfl⟩
abbrev main_v335 : Ref sig .tc := ⟨.hbm, 443, rfl⟩
abbrev main_call5_call0_cst : Ref sig .tc := ⟨.hbm, 444, rfl⟩
abbrev main_call5_call0_v0 : Ref sig .tc := ⟨.hbm, 445, rfl⟩
abbrev main_v336 : Ref sig .tc := ⟨.hbm, 446, rfl⟩
abbrev main_v337 : Ref sig .tc := ⟨.hbm, 447, rfl⟩
abbrev main_cst_38 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_cst_39 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_v348 : Ref sig .tc := ⟨.hbm, 460, rfl⟩
abbrev main_v349 : Ref sig .tc := ⟨.hbm, 461, rfl⟩
abbrev main_v350 : Ref sig .tc := ⟨.hbm, 462, rfl⟩
abbrev main_v351 : Ref sig .tc := ⟨.hbm, 463, rfl⟩
abbrev main_v352 : Ref sig .tc := ⟨.hbm, 464, rfl⟩
abbrev main_v353 : Ref sig .tc := ⟨.hbm, 465, rfl⟩
abbrev main_cst_40 : Ref sig .tc := ⟨.hbm, 466, rfl⟩
abbrev main_v354 : Ref sig .tc := ⟨.hbm, 467, rfl⟩
abbrev main_v355 : Ref sig .tc := ⟨.hbm, 468, rfl⟩
abbrev main_cst_41 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_cst_42 : Ref sig .tc := ⟨.hbm, 473, rfl⟩
abbrev main_v359 : Ref sig .tc := ⟨.hbm, 474, rfl⟩
abbrev main_v360 : Ref sig .tc := ⟨.hbm, 475, rfl⟩
abbrev main_v361 : Ref sig .tc := ⟨.hbm, 476, rfl⟩
abbrev main_v362 : Ref sig .tc := ⟨.hbm, 477, rfl⟩
abbrev main_c_43 : Ref sig .tc := ⟨.hbm, 478, rfl⟩
abbrev main_call7_v0 : Ref sig .tc := ⟨.hbm, 479, rfl⟩
abbrev main_v363 : Ref sig .tc := ⟨.hbm, 480, rfl⟩
abbrev main_v364 : Ref sig .tc := ⟨.hbm, 481, rfl⟩
abbrev main_v365 : Ref sig .tc := ⟨.hbm, 482, rfl⟩
abbrev main_v366 : Ref sig .tc := ⟨.hbm, 483, rfl⟩
abbrev main_v367 : Ref sig .tc := ⟨.hbm, 484, rfl⟩
abbrev main_v368 : Ref sig .tc := ⟨.hbm, 485, rfl⟩
abbrev main_c_44 : Ref sig .tc := ⟨.hbm, 486, rfl⟩
abbrev main_call8_v0 : Ref sig .tc := ⟨.hbm, 487, rfl⟩
abbrev main_v369 : Ref sig .tc := ⟨.hbm, 488, rfl⟩
abbrev main_v370 : Ref sig .tc := ⟨.hbm, 489, rfl⟩
abbrev main_v371 : Ref sig .tc := ⟨.hbm, 490, rfl⟩
abbrev main_v372 : Ref sig .tc := ⟨.hbm, 491, rfl⟩

abbrev nD : Nat := 1
abbrev τ : Topo := Topo.v7x

variable {F : FTy → Type} [FloatOps F]
-- ==== Kernel3.lean ====
abbrev S2048x2048 : Shape := ⟨2, ![2048, 2048]⟩
abbrev S2048x11296 : Shape := ⟨2, ![2048, 11296]⟩
abbrev S4x4096 : Shape := ⟨2, ![4, 4096]⟩
abbrev S4096 : Shape := ⟨1, ![4096]⟩
abbrev S2048x11520 : Shape := ⟨2, ![2048, 11520]⟩
abbrev S2048x9216 : Shape := ⟨2, ![2048, 9216]⟩
abbrev S2048x32 : Shape := ⟨2, ![2048, 32]⟩
abbrev S_ : Shape := ⟨0, ![]⟩
abbrev S2048x224 : Shape := ⟨2, ![2048, 224]⟩
abbrev S1x4096 : Shape := ⟨2, ![1, 4096]⟩
abbrev S3x4096 : Shape := ⟨2, ![3, 4096]⟩
abbrev S8x4096 : Shape := ⟨2, ![8, 4096]⟩
abbrev S8x2048 : Shape := ⟨2, ![8, 2048]⟩
abbrev S2048x256 : Shape := ⟨2, ![2048, 256]⟩
abbrev S8x256 : Shape := ⟨2, ![8, 256]⟩
abbrev S1x256 : Shape := ⟨2, ![1, 256]⟩
abbrev S256 : Shape := ⟨1, ![256]⟩

abbrev nBuf : Space → Nat
  | .hbm => 18
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x11296, .f32⟩
  | .hbm, ⟨2, _⟩ => ⟨S4x4096, .f32⟩
  | .hbm, ⟨3, _⟩ => ⟨S4096, .f32⟩
  | .hbm, ⟨4, _⟩ => ⟨S2048x11520, .bf16⟩
  | .hbm, ⟨5, _⟩ => ⟨S2048x9216, .f32⟩
  | .hbm, ⟨6, _⟩ => ⟨S2048x2048, .f32⟩
  | .hbm, ⟨7, _⟩ => ⟨S2048x32, .f32⟩
  | .hbm, ⟨8, _⟩ => ⟨S_, .f32⟩
  | .hbm, ⟨9, _⟩ => ⟨S2048x224, .f32⟩
  | .hbm, ⟨10, _⟩ => ⟨S2048x11520, .f32⟩
  | .hbm, ⟨11, _⟩ => ⟨S2048x11520, .bf16⟩
  | .hbm, ⟨12, _⟩ => ⟨S1x4096, .f32⟩
  | .hbm, ⟨13, _⟩ => ⟨S_, .f32⟩
  | .hbm, ⟨14, _⟩ => ⟨S3x4096, .f32⟩
  | .hbm, ⟨15, _⟩ => ⟨S8x4096, .f32⟩
  | .hbm, ⟨16, _⟩ => ⟨S2048x11520, .bf16⟩
  | .hbm, ⟨17, _⟩ => ⟨S8x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S8x256, .f32⟩
  | .local _ .vmem, ⟨5, _⟩ => ⟨S8x256, .f32⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2048x2048 : Shape := ⟨2, ![2048, 2048]⟩
abbrev S2048x11296 : Shape := ⟨2, ![2048, 11296]⟩
abbrev S4x4096 : Shape := ⟨2, ![4, 4096]⟩
abbrev S4096 : Shape := ⟨1, ![4096]⟩
abbrev S2048x11520 : Shape := ⟨2, ![2048, 11520]⟩
abbrev S4x2048 : Shape := ⟨2, ![4, 2048]⟩
abbrev S2048 : Shape := ⟨1, ![2048]⟩
abbrev S_ : Shape := ⟨0, ![]⟩
abbrev S3x2048 : Shape := ⟨2, ![3, 2048]⟩
abbrev S2051x2048 : Shape := ⟨2, ![2051, 2048]⟩
abbrev S1x2048 : Shape := ⟨2, ![1, 2048]⟩
abbrev S2048x5120 : Shape := ⟨2, ![2048, 5120]⟩
abbrev S2048x4352 : Shape := ⟨2, ![2048, 4352]⟩
abbrev S8x2048 : Shape := ⟨2, ![8, 2048]⟩

abbrev nBuf : Space → Nat
  | .hbm => 133
  | .vmem => 0
  | .smem => 0
  | _ => 0

abbrev hbmTy0_0 (i : Nat) : BufTy := match i % 128 with
  | 0 => ⟨S2048x2048, .f32⟩
  | 1 => ⟨S2048x11296, .f32⟩
  | 2 => ⟨S4x4096, .f32⟩
  | 3 => ⟨S4096, .f32⟩
  | 4 => ⟨S2048x11520, .bf16⟩
  | 5 => ⟨S2048x2048, .f32⟩
  | 6 => ⟨S4x2048, .f32⟩
  | 7 => ⟨S2048, .f32⟩
  | 8 => ⟨S_, .f32⟩
  | 9 => ⟨S3x2048, .f32⟩
  | 10 => ⟨S2051x2048, .f32⟩
  | 11 => ⟨S_, .f32⟩
  | 12 => ⟨S3x2048, .f32⟩
  | 13 => ⟨S2048x2048, .f32⟩
  | 14 => ⟨S1x2048, .f32⟩
  | 15 => ⟨S2048, .f32⟩
  | 16 => ⟨S1x2048, .f32⟩
  | 17 => ⟨S2048x2048, .f32⟩
  | 18 => ⟨S2048x2048, .f32⟩
  | 19 => ⟨S2048x2048, .f32⟩
  | 20 => ⟨S1x2048, .f32⟩
  | 21 => ⟨S2048, .f32⟩
  | 22 => ⟨S1x2048, .f32⟩
  | 23 => ⟨S2048x2048, .f32⟩
  | 24 => ⟨S2048x2048, .f32⟩
  | 25 => ⟨S2048x2048, .f32⟩
  | 26 => ⟨S2048x2048, .f32⟩
  | 27 => ⟨S1x2048, .f32⟩
  | 28 => ⟨S2048, .f32⟩
  | 29 => ⟨S1x2048, .f32⟩
  | 30 => ⟨S2048x2048, .f32⟩
  | 31 => ⟨S2048x2048, .f32⟩
  | 32 => ⟨S2048x2048, .f32⟩
  | 33 => ⟨S2048x2048, .f32⟩
  | 34 => ⟨S1x2048, .f32⟩
  | 35 => ⟨S2048, .f32⟩
  | 36 => ⟨S1x2048, .f32⟩
  | 37 => ⟨S2048x2048, .f32⟩
  | 38 => ⟨S2048x2048, .f32⟩
  | 39 => ⟨S2048x2048, .f32⟩
  | 40 => ⟨S1x2048, .f32⟩
  | 41 => ⟨S2048x2048, .f32⟩
  | 42 => ⟨S2048x2048, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S2048x2048, .f32⟩
  | 56 => ⟨S2048x2048, .f32⟩
  | 57 => ⟨S2048x2048, .f32⟩
  | 58 => ⟨S2048x2048, .f32⟩
  | 59 => ⟨S2048x2048, .f32⟩
  | 60 => ⟨S_, .f32⟩
  | 61 => ⟨S2048, .f32⟩
  | 62 => ⟨S1x2048, .f32⟩
  | 63 => ⟨S_, .f32⟩
  | 64 => ⟨S2048, .f32⟩
  | 65 => ⟨S2048x2048, .f32⟩
  | 66 => ⟨S_, .f32⟩
  | 67 => ⟨S2048, .f32⟩
  | 68 => ⟨S1x2048, .f32⟩
  | 69 => ⟨S2048x2048, .f32⟩
  | 70 => ⟨S2048x2048, .f32⟩
  | 71 => ⟨S_, .f32⟩
  | 72 => ⟨S2048, .f32⟩
  | 73 => ⟨S1x2048, .f32⟩
  | 74 => ⟨S_, .f32⟩
  | 75 => ⟨S4x2048, .f32⟩
  | 76 => ⟨S_, .f32⟩
  | 77 => ⟨S2051x2048, .f32⟩
  | 78 => ⟨S2048x2048, .f32⟩
  | 79 => ⟨S_, .f32⟩
  | 80 => ⟨S2048, .f32⟩
  | 81 => ⟨S1x2048, .f32⟩
  | 82 => ⟨S2048x2048, .f32⟩
  | 83 => ⟨S2048x2048, .f32⟩
  | 84 => ⟨S_, .f32⟩
  | 85 => ⟨S2048, .f32⟩
  | 86 => ⟨S1x2048, .f32⟩
  | 87 => ⟨S_, .f32⟩
  | 88 => ⟨S4x2048, .f32⟩
  | 89 => ⟨S4x2048, .f32⟩
  | 90 => ⟨S_, .f32⟩
  | 91 => ⟨S2051x2048, .f32⟩
  | 92 => ⟨S2051x2048, .f32⟩
  | 93 => ⟨S2048x2048, .f32⟩
  | 94 => ⟨S_, .f32⟩
  | 95 => ⟨S2048, .f32⟩
  | 96 => ⟨S1x2048, .f32⟩
  | 97 => ⟨S2048x2048, .f32⟩
  | 98 => ⟨S2048x2048, .f32⟩
  | 99 => ⟨S_, .f32⟩
  | 100 => ⟨S2048, .f32⟩
  | 101 => ⟨S1x2048, .f32⟩
  | 102 => ⟨S_, .f32⟩
  | 103 => ⟨S4x2048, .f32⟩
  | 104 => ⟨S4x2048, .f32⟩
  | 105 => ⟨S_, .f32⟩
  | 106 => ⟨S2051x2048, .f32⟩
  | 107 => ⟨S2051x2048, .f32⟩
  | 108 => ⟨S2048x2048, .f32⟩
  | 109 => ⟨S_, .f32⟩
  | 110 => ⟨S2048, .f32⟩
  | 111 => ⟨S1x2048, .f32⟩
  | 112 => ⟨S2048x2048, .f32⟩
  | 113 => ⟨S2048x2048, .f32⟩
  | 114 => ⟨S_, .f32⟩
  | 115 => ⟨S2048, .f32⟩
  | 116 => ⟨S1x2048, .f32⟩
  | 117 => ⟨S_, .f32⟩
  | 118 => ⟨S4x2048, .f32⟩
  | 119 => ⟨S4x2048, .f32⟩
  | 120 => ⟨S_, .f32⟩
  | 121 => ⟨S2051x2048, .f32⟩
  | 122 => ⟨S2051x2048, .f32⟩
  | 123 => ⟨S3x2048, .f32⟩
  | 124 => ⟨S2048x2048, .f32⟩
  | 125 => ⟨S2048x5120, .bf16⟩
  | 126 => ⟨S2048x2048, .bf16⟩
  | 127 => ⟨S2048x4352, .bf16⟩
  | _ => ⟨S2048x2048, .f32⟩

abbrev hbmTy0_1 (i : Nat) : BufTy := match i % 128 with
  | 0 => ⟨S2048x11520, .bf16⟩
  | 1 => ⟨S1x2048, .f32⟩
  | 2 => ⟨S_, .f32⟩
  | 3 => ⟨S3x2048, .f32⟩
  | 4 => ⟨S8x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]
-- ==== Kernel4.lean ====
abbrev S2x2048x1024 : Shape := ⟨3, ![2, 2048, 1024]⟩
abbrev S2048x1024 : Shape := ⟨2, ![2048, 1024]⟩
abbrev S2048x2048 : Shape := ⟨2, ![2048, 2048]⟩
abbrev S2048x11296 : Shape := ⟨2, ![2048, 11296]⟩
abbrev S2048 : Shape := ⟨1, ![2048]⟩
abbrev S2048x11520 : Shape := ⟨2, ![2048, 11520]⟩
abbrev S8x128 : Shape := ⟨2, ![8, 128]⟩
abbrev S2048x9216 : Shape := ⟨2, ![2048, 9216]⟩
abbrev S2048x32 : Shape := ⟨2, ![2048, 32]⟩
abbrev S_ : Shape := ⟨0, ![]⟩
abbrev S2048x224 : Shape := ⟨2, ![2048, 224]⟩
abbrev S1x2048 : Shape := ⟨2, ![1, 2048]⟩
abbrev S8x2048 : Shape := ⟨2, ![8, 2048]⟩
abbrev S1x512x1024 : Shape := ⟨3, ![1, 512, 1024]⟩
abbrev S1024x1024 : Shape := ⟨2, ![1024, 1024]⟩
abbrev S512x1024 : Shape := ⟨2, ![512, 1024]⟩
abbrev S1x1024 : Shape := ⟨2, ![1, 1024]⟩
abbrev S8x1024 : Shape := ⟨2, ![8, 1024]⟩
abbrev S512x256 : Shape := ⟨2, ![512, 256]⟩
abbrev S512 : Shape := ⟨1, ![512]⟩
abbrev S512x1 : Shape := ⟨2, ![512, 1]⟩
abbrev S8x256 : Shape := ⟨2, ![8, 256]⟩
abbrev S256 : Shape := ⟨1, ![256]⟩
abbrev S1x256 : Shape := ⟨2, ![1, 256]⟩

abbrev nBuf : Space → Nat
  | .hbm => 19
  | .vmem => 16
  | .smem => 0
  | _ => 0

abbrev bufTy : (tb : Table) → Fin (tcTables nBuf tb) → BufTy
  | .hbm, ⟨0, _⟩ => ⟨S2x2048x1024, .bf16⟩
  | .hbm, ⟨1, _⟩ => ⟨S2048x1024, .f32⟩
  | .hbm, ⟨2, _⟩ => ⟨S2048x2048, .f32⟩
  | .hbm, ⟨3, _⟩ => ⟨S2048x11296, .f32⟩
  | .hbm, ⟨4, _⟩ => ⟨S2048, .f32⟩
  | .hbm, ⟨5, _⟩ => ⟨S2048x11520, .bf16⟩
  | .hbm, ⟨6, _⟩ => ⟨S8x128, .f32⟩
  | .hbm, ⟨7, _⟩ => ⟨S2048x1024, .bf16⟩
  | .hbm, ⟨8, _⟩ => ⟨S2048x9216, .f32⟩
  | .hbm, ⟨9, _⟩ => ⟨S2048x2048, .f32⟩
  | .hbm, ⟨10, _⟩ => ⟨S2048x32, .f32⟩
  | .hbm, ⟨11, _⟩ => ⟨S_, .f32⟩
  | .hbm, ⟨12, _⟩ => ⟨S2048x224, .f32⟩
  | .hbm, ⟨13, _⟩ => ⟨S2048x11520, .f32⟩
  | .hbm, ⟨14, _⟩ => ⟨S2048x11520, .bf16⟩
  | .hbm, ⟨15, _⟩ => ⟨S1x2048, .f32⟩
  | .hbm, ⟨16, _⟩ => ⟨S2048x2048, .f32⟩
  | .hbm, ⟨17, _⟩ => ⟨S2048x11520, .bf16⟩
  | .hbm, ⟨18, _⟩ => ⟨S8x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S2x2048x1024 : Shape := ⟨3, ![2, 2048, 1024]⟩
abbrev S2048x1024 : Shape := ⟨2, ![2048, 1024]⟩
abbrev S2048x2048 : Shape := ⟨2, ![2048, 2048]⟩
abbrev S2048x11296 : Shape := ⟨2, ![2048, 11296]⟩
abbrev S2048 : Shape := ⟨1, ![2048]⟩
abbrev S2048x11520 : Shape := ⟨2, ![2048, 11520]⟩
abbrev S8x128 : Shape := ⟨2, ![8, 128]⟩
abbrev S_ : Shape := ⟨0, ![]⟩
abbrev S2048x8x256 : Shape := ⟨3, ![2048, 8, 256]⟩
abbrev S2048x8 : Shape := ⟨2, ![2048, 8]⟩
abbrev S2048x8x1 : Shape := ⟨3, ![2048, 8, 1]⟩
abbrev S1x2048 : Shape := ⟨2, ![1, 2048]⟩
abbrev S1x2048x1024 : Shape := ⟨3, ![1, 2048, 1024]⟩
abbrev S2048x3072 : Shape := ⟨2, ![2048, 3072]⟩
abbrev S2048x6400 : Shape := ⟨2, ![2048, 6400]⟩
abbrev S8x2048 : Shape := ⟨2, ![8, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x1024, .f32⟩
  | .hbm, ⟨2, _⟩ => ⟨S2048x2048, .f32⟩
  | .hbm, ⟨3, _⟩ => ⟨S2048x11296, .f32⟩
  | .hbm, ⟨4, _⟩ => ⟨S2048, .f32⟩
  | .hbm, ⟨5, _⟩ => ⟨S2048x11520, .bf16⟩
  | .hbm, ⟨6, _⟩ => ⟨S8x128, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x8x256, .f32⟩
  | .hbm, ⟨23, _⟩ => ⟨S2048x8x256, .f32⟩
  | .hbm, ⟨24, _⟩ => ⟨S_, .f32⟩
  | .hbm, ⟨25, _⟩ => ⟨S2048x8, .f32⟩
  | .hbm, ⟨26, _⟩ => ⟨S2048x8x1, .f32⟩
  | .hbm, ⟨27, _⟩ => ⟨S_, .f32⟩
  | .hbm, ⟨28, _⟩ => ⟨S2048x8x1, .f32⟩
  | .hbm, ⟨29, _⟩ => ⟨S2048x8x1, .f32⟩
  | .hbm, ⟨30, _⟩ => ⟨S_, .f32⟩
  | .hbm, ⟨31, _⟩ => ⟨S2048x8x1, .f32⟩
  | .hbm, ⟨32, _⟩ => ⟨S2048x8x1, .f32⟩
  | .hbm, ⟨33, _⟩ => ⟨S2048x8x1, .f32⟩
  | .hbm, ⟨34, _⟩ => ⟨S2048x8x1, .f32⟩
  | .hbm, ⟨35, _⟩ => ⟨S_, .f32⟩
  | .hbm, ⟨36, _⟩ => ⟨S2048x8x1, .f32⟩
  | .hbm, ⟨37, _⟩ => ⟨S2048x8x1, .f32⟩
  | .hbm, ⟨38, _⟩ => ⟨S2048x8x256, .f32⟩
  | .hbm, ⟨39, _⟩ => ⟨S2048x8x256, .f32⟩
  | .hbm, ⟨40, _⟩ => ⟨S2048x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S2048x1024, .f32⟩
  | .hbm, ⟨45, _⟩ => ⟨S1x2048x1024, .bf16⟩
  | .hbm, ⟨46, _⟩ => ⟨S2048x1024, .bf16⟩
  | .hbm, ⟨47, _⟩ => ⟨S2048x1024, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x8x256, .f32⟩
  | .hbm, ⟨58, _⟩ => ⟨S2048x8x256, .f32⟩
  | .hbm, ⟨59, _⟩ => ⟨S_, .f32⟩
  | .hbm, ⟨60, _⟩ => ⟨S2048x8, .f32⟩
  | .hbm, ⟨61, _⟩ => ⟨S2048x8x1, .f32⟩
  | .hbm, ⟨62, _⟩ => ⟨S2048x8x256, .f32⟩
  | .hbm, ⟨63, _⟩ => ⟨S2048x8x256, .f32⟩
  | .hbm, ⟨64, _⟩ => ⟨S2048x8x1, .f32⟩
  | .hbm, ⟨65, _⟩ => ⟨S_, .f32⟩
  | .hbm, ⟨66, _⟩ => ⟨S2048x8x1, .f32⟩
  | .hbm, ⟨67, _⟩ => ⟨S2048x8x1, .f32⟩
  | .hbm, ⟨68, _⟩ => ⟨S_, .f32⟩
  | .hbm, ⟨69, _⟩ => ⟨S2048x8, .f32⟩
  | .hbm, ⟨70, _⟩ => ⟨S2048x8x256, .f32⟩
  | .hbm, ⟨71, _⟩ => ⟨S2048x8x256, .f32⟩
  | .hbm, ⟨72, _⟩ => ⟨S2048x8x256, .f32⟩
  | .hbm, ⟨73, _⟩ => ⟨S2048x8x256, .f32⟩
  | .hbm, ⟨74, _⟩ => ⟨S2048x8x256, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x3072, .bf16⟩
  | .hbm, ⟨83, _⟩ => ⟨S2048x2048, .bf16⟩
  | .hbm, ⟨84, _⟩ => ⟨S2048x6400, .bf16⟩
  | .hbm, ⟨85, _⟩ => ⟨S2048x11520, .bf16⟩
  | .hbm, ⟨86, _⟩ => ⟨S1x2048, .f32⟩
  | .hbm, ⟨87, _⟩ => ⟨S8x2048, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v1_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v1_1 : Ref sig .tc := ⟨.hbm, 19, rfl⟩
abbrev main_v1_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel5.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S8x1024 : Shape := ⟨2, ![8, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 10
  | .vmem => 12
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S4096x1024, .bf16⟩
  | .hbm, ⟨6, _⟩ => ⟨S1x1024, .f32⟩
  | .hbm, ⟨7, _⟩ => ⟨S2048x1024, .f32⟩
  | .hbm, ⟨8, _⟩ => ⟨S8x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S8x1024, .f32⟩
  | .hbm, ⟨78, _⟩ => ⟨S8x128, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel6.lean ====
abbrev S2048x4096 : Shape := ⟨2, ![2048, 4096]⟩
abbrev S1024x4096 : Shape := ⟨2, ![1024, 4096]⟩
abbrev S2048x1024 : Shape := ⟨2, ![2048, 1024]⟩
abbrev S1024 : Shape := ⟨1, ![1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x4096, .bf16⟩
  | .hbm, ⟨6, _⟩ => ⟨S1x1024, .f32⟩
  | .hbm, ⟨7, _⟩ => ⟨S2048x1024, .f32⟩
  | .hbm, ⟨8, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S2048x4096 : Shape := ⟨2, ![2048, 4096]⟩
abbrev S1024x4096 : Shape := ⟨2, ![1024, 4096]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S8x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S2048x1024 : Shape := ⟨2, ![2048, 1024]⟩
abbrev S4096x1024 : Shape := ⟨2, ![4096, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S2048x4096, .bf16⟩
  | .hbm, ⟨6, _⟩ => ⟨S4096x1024, .bf16⟩
  | .hbm, ⟨7, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x1024 : Shape := ⟨2, ![2048, 1024]⟩
abbrev S4096x1024 : Shape := ⟨2, ![4096, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel8.lean ====
abbrev S2048x32 : Shape := ⟨2, ![2048, 32]⟩
abbrev S2048x11520 : Shape := ⟨2, ![2048, 11520]⟩
abbrev S2048x8x4 : Shape := ⟨3, ![2048, 8, 4]⟩
abbrev S8x2048x4 : Shape := ⟨3, ![8, 2048, 4]⟩
abbrev S_ : Shape := ⟨0, ![]⟩
abbrev S8x2048x128 : Shape := ⟨3, ![8, 2048, 128]⟩
abbrev S8x128 : Shape := ⟨2, ![8, 128]⟩
abbrev S8x256x128 : Shape := ⟨3, ![8, 256, 128]⟩
abbrev S256x256 : Shape := ⟨2, ![256, 256]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩

abbrev nBuf : Space → Nat
  | .hbm => 8
  | .vmem => 5
  | .smem => 0
  | _ => 0

abbrev bufTy : (tb : Table) → Fin (tcTables nBuf tb) → BufTy
  | .hbm, ⟨0, _⟩ => ⟨S2048x32, .f32⟩
  | .hbm, ⟨1, _⟩ => ⟨S2048x11520, .bf16⟩
  | .hbm, ⟨2, _⟩ => ⟨S2048x8x4, .f32⟩
  | .hbm, ⟨3, _⟩ => ⟨S8x2048x4, .f32⟩
  | .hbm, ⟨4, _⟩ => ⟨S_, .f32⟩
  | .hbm, ⟨5, _⟩ => ⟨S8x2048x128, .f32⟩
  | .hbm, ⟨6, _⟩ => ⟨S2048x11520, .bf16⟩
  | .hbm, ⟨7, _⟩ => ⟨S8x128, .f32⟩
  | .local _ .vmem, ⟨0, _⟩ => ⟨S8x256x128, .f32⟩
  | .local _ .vmem, ⟨1, _⟩ => ⟨S8x256x128, .f32⟩
  | .local _ .vmem, ⟨2, _⟩ => ⟨S256x256, .bf16⟩
  | .local _ .vmem, ⟨3, _⟩ => ⟨S256x256, .bf16⟩
  | .local _ .vmem, ⟨4, _⟩ => ⟨S8x128, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S2048x32 : Shape := ⟨2, ![2048, 32]⟩
abbrev S2048x11520 : Shape := ⟨2, ![2048, 11520]⟩
abbrev S_ : Shape := ⟨0, ![]⟩
abbrev S32 : Shape := ⟨1, ![32]⟩
abbrev S1x32 : Shape := ⟨2, ![1, 32]⟩
abbrev S2048x11264 : Shape := ⟨2, ![2048, 11264]⟩
abbrev S2048x224 : Shape := ⟨2, ![2048, 224]⟩
abbrev S128 : Shape := ⟨1, ![128]⟩
abbrev S1x128 : Shape := ⟨2, ![1, 128]⟩
abbrev S8x128 : Shape := ⟨2, ![8, 128]⟩

abbrev nBuf : Space → Nat
  | .hbm => 25
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x11520, .bf16⟩
  | .hbm, ⟨2, _⟩ => ⟨S_, .f32⟩
  | .hbm, ⟨3, _⟩ => ⟨S2048x32, .f32⟩
  | .hbm, ⟨4, _⟩ => ⟨S_, .f32⟩
  | .hbm, ⟨5, _⟩ => ⟨S32, .f32⟩
  | .hbm, ⟨6, _⟩ => ⟨S1x32, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S_, .f32⟩
  | .hbm, ⟨11, _⟩ => ⟨S32, .f32⟩
  | .hbm, ⟨12, _⟩ => ⟨S1x32, .f32⟩
  | .hbm, ⟨13, _⟩ => ⟨S_, .f32⟩
  | .hbm, ⟨14, _⟩ => ⟨S32, .f32⟩
  | .hbm, ⟨15, _⟩ => ⟨S2048x11264, .bf16⟩
  | .hbm, ⟨16, _⟩ => ⟨S2048x32, .bf16⟩
  | .hbm, ⟨17, _⟩ => ⟨S_, .bf16⟩
  | .hbm, ⟨18, _⟩ => ⟨S2048x224, .bf16⟩
  | .hbm, ⟨19, _⟩ => ⟨S2048x11520, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8x128, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel9.lean ====
abbrev S2048x1024 : Shape := ⟨2, ![2048, 1024]⟩
abbrev S2048x11296 : Shape := ⟨2, ![2048, 11296]⟩
abbrev S3x1024 : Shape := ⟨2, ![3, 1024]⟩
abbrev S2048x11520 : Shape := ⟨2, ![2048, 11520]⟩
abbrev S2048x9216 : Shape := ⟨2, ![2048, 9216]⟩
abbrev S2048x2048 : Shape := ⟨2, ![2048, 2048]⟩
abbrev S2048x32 : Shape := ⟨2, ![2048, 32]⟩
abbrev S_ : Shape := ⟨0, ![]⟩
abbrev S2048x224 : Shape := ⟨2, ![2048, 224]⟩
abbrev S5x1024 : Shape := ⟨2, ![5, 1024]⟩
abbrev S8x1024 : Shape := ⟨2, ![8, 1024]⟩
abbrev S2048x256 : Shape := ⟨2, ![2048, 256]⟩
abbrev S8x256 : Shape := ⟨2, ![8, 256]⟩
abbrev S2x2048x256 : Shape := ⟨3, ![2, 2048, 256]⟩
abbrev S1x256 : Shape := ⟨2, ![1, 256]⟩
abbrev S256 : Shape := ⟨1, ![256]⟩
abbrev S1x2048x256 : Shape := ⟨3, ![1, 2048, 256]⟩

abbrev nBuf : Space → Nat
  | .hbm => 16
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x11296, .f32⟩
  | .hbm, ⟨2, _⟩ => ⟨S3x1024, .f32⟩
  | .hbm, ⟨3, _⟩ => ⟨S2048x11520, .bf16⟩
  | .hbm, ⟨4, _⟩ => ⟨S2048x9216, .f32⟩
  | .hbm, ⟨5, _⟩ => ⟨S2048x2048, .f32⟩
  | .hbm, ⟨6, _⟩ => ⟨S2048x32, .f32⟩
  | .hbm, ⟨7, _⟩ => ⟨S_, .f32⟩
  | .hbm, ⟨8, _⟩ => ⟨S2048x224, .f32⟩
  | .hbm, ⟨9, _⟩ => ⟨S2048x11520, .f32⟩
  | .hbm, ⟨10, _⟩ => ⟨S2048x11520, .bf16⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S2048x11520, .bf16⟩
  | .hbm, ⟨15, _⟩ => ⟨S8x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | .local _ .vmem, ⟨10, _⟩ => ⟨S2048x256, .bf16⟩
  | .local _ .vmem, ⟨11, _⟩ => ⟨S2048x256, .bf16⟩
  | .local _ .vmem, ⟨12, _⟩ => ⟨S8x256, .f32⟩
  | .local _ .vmem, ⟨13, _⟩ => ⟨S8x256, .f32⟩
  | .local _ .vmem, ⟨14, _⟩ => ⟨S2x2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let c1_i32 : BitVec 32 := 1#32
  let v6 : BitVec 32 := Scalar.subi arg1 c1_i32
  let v7 : Index := Scalar.indexCast v6
  let c0 : Index := 0#32
  let c0_3 : Index := 0#32
  ![v7.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S2048x1024 : Shape := ⟨2, ![2048, 1024]⟩
abbrev S2048x11296 : Shape := ⟨2, ![2048, 11296]⟩
abbrev S3x1024 : Shape := ⟨2, ![3, 1024]⟩
abbrev S2048x11520 : Shape := ⟨2, ![2048, 11520]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S2048x8448 : Shape := ⟨2, ![2048, 8448]⟩
abbrev S5x1024 : Shape := ⟨2, ![5, 1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11296, .f32⟩
  | .hbm, ⟨2, _⟩ => ⟨S3x1024, .f32⟩
  | .hbm, ⟨3, _⟩ => ⟨S2048x11520, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S_, .f32⟩
  | .hbm, ⟨12, _⟩ => ⟨S2x1024, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S2050x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S2050x1024, .f32⟩
  | .hbm, ⟨63, _⟩ => ⟨S2050x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S2050x1024, .f32⟩
  | .hbm, ⟨78, _⟩ => ⟨S2050x1024, .f32⟩
  | .hbm, ⟨79, _⟩ => ⟨S2x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .bf16⟩
  | .hbm, ⟨84, _⟩ => ⟨S2048x1024, .bf16⟩
  | .hbm, ⟨85, _⟩ => ⟨S2048x1024, .bf16⟩
  | .hbm, ⟨86, _⟩ => ⟨S2048x8448, .bf16⟩
  | .hbm, ⟨87, _⟩ => ⟨S2048x11520, .bf16⟩
  | .hbm, ⟨88, _⟩ => ⟨S_, .f32⟩
  | .hbm, ⟨89, _⟩ => ⟨S5x1024, .f32⟩
  | .hbm, ⟨90, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel10.lean ====
abbrev S2048x11296 : Shape := ⟨2, ![2048, 11296]⟩
abbrev S1024x11296 : Shape := ⟨2, ![1024, 11296]⟩
abbrev S2048x1024 : Shape := ⟨2, ![2048, 1024]⟩
abbrev S1024 : Shape := ⟨1, ![1024]⟩
abbrev S8x128 : Shape := ⟨2, ![8, 128]⟩
abbrev S1024x9216 : Shape := ⟨2, ![1024, 9216]⟩
abbrev S1024x2048 : Shape := ⟨2, ![1024, 2048]⟩
abbrev S1024x32 : Shape := ⟨2, ![1024, 32]⟩
abbrev S_ : Shape := ⟨0, ![]⟩
abbrev S1024x224 : Shape := ⟨2, ![1024, 224]⟩
abbrev S1024x11520 : Shape := ⟨2, ![1024, 11520]⟩
abbrev S2048x9216 : Shape := ⟨2, ![2048, 9216]⟩
abbrev S2048x2048 : Shape := ⟨2, ![2048, 2048]⟩
abbrev S2048x32 : Shape := ⟨2, ![2048, 32]⟩
abbrev S2048x224 : Shape := ⟨2, ![2048, 224]⟩
abbrev S2048x11520 : Shape := ⟨2, ![2048, 11520]⟩
abbrev S11520x1024 : Shape := ⟨2, ![11520, 1024]⟩
abbrev S1x1024 : Shape := ⟨2, ![1, 1024]⟩
abbrev S8x1024 : Shape := ⟨2, ![8, 1024]⟩
abbrev S512x3840 : Shape := ⟨2, ![512, 3840]⟩
abbrev S3840x1024 : Shape := ⟨2, ![3840, 1024]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 13
  | .smem => 0
  | _ => 0

abbrev bufTy : (tb : Table) → Fin (tcTables nBuf tb) → BufTy
  | .hbm, ⟨0, _⟩ => ⟨S2048x11296, .f32⟩
  | .hbm, ⟨1, _⟩ => ⟨S1024x11296, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S8x128, .bf16⟩
  | .hbm, ⟨6, _⟩ => ⟨S1024x9216, .f32⟩
  | .hbm, ⟨7, _⟩ => ⟨S1024x2048, .f32⟩
  | .hbm, ⟨8, _⟩ => ⟨S1024x32, .f32⟩
  | .hbm, ⟨9, _⟩ => ⟨S_, .f32⟩
  | .hbm, ⟨10, _⟩ => ⟨S1024x224, .f32⟩
  | .hbm, ⟨11, _⟩ => ⟨S1024x11520, .f32⟩
  | .hbm, ⟨12, _⟩ => ⟨S2048x9216, .f32⟩
  | .hbm, ⟨13, _⟩ => ⟨S2048x2048, .f32⟩
  | .hbm, ⟨14, _⟩ => ⟨S2048x32, .f32⟩
  | .hbm, ⟨15, _⟩ => ⟨S_, .f32⟩
  | .hbm, ⟨16, _⟩ => ⟨S2048x224, .f32⟩
  | .hbm, ⟨17, _⟩ => ⟨S2048x11520, .f32⟩
  | .hbm, ⟨18, _⟩ => ⟨S2048x11520, .bf16⟩
  | .hbm, ⟨19, _⟩ => ⟨S11520x1024, .f32⟩
  | .hbm, ⟨20, _⟩ => ⟨S11520x1024, .bf16⟩
  | .hbm, ⟨21, _⟩ => ⟨S1x1024, .f32⟩
  | .hbm, ⟨22, _⟩ => ⟨S2048x1024, .f32⟩
  | .hbm, ⟨23, _⟩ => ⟨S8x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S3840x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S2048x1024, .f32⟩
  | _, _ => ⟨S2048x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v26 : Index := Scalar.indexCast v6
  let c0_11 : Index := 0#32
  ![v26.toNat, 0]
def k0_off2 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v10 : Index := Scalar.indexCast v6
  let c0 : Index := 0#32
  ![v10.toNat, 0]
def k0_cond3 (i : grid0.Coords) : BitVec 1 :=
  let arg0 : BitVec 32 := BitVec.ofNat 32 (i 0).val
  let c2_i32 : BitVec 32 := 2#32
  let v22 : BitVec 1 := Scalar.cmpi .eq arg0 c2_i32
  let v23 : BitVec 32 := Scalar.extui v22
  let c0_i32_9 : BitVec 32 := 0#32
  let v24 : BitVec 1 := Scalar.cmpi .ne v23 c0_i32_9
  v24

def k0_off3 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v25 : Index := Scalar.indexCast v6
  let c0_10 : Index := 0#32
  ![v25.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3840x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference10Ideal.lean ====
abbrev S2048x11296 : Shape := ⟨2, ![2048, 11296]⟩
abbrev S1024x11296 : Shape := ⟨2, ![1024, 11296]⟩
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x11296, .f32⟩
  | .hbm, ⟨1, _⟩ => ⟨S1024x11296, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S8x128, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x11296, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S8x1024, .f32⟩
  | _, _ => ⟨S2048x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel11.lean ====
abbrev S2048x4096 : Shape := ⟨2, ![2048, 4096]⟩
abbrev S2048x32 : Shape := ⟨2, ![2048, 32]⟩
abbrev S32 : Shape := ⟨1, ![32]⟩
abbrev S1x32 : Shape := ⟨2, ![1, 32]⟩
abbrev S2x32 : Shape := ⟨2, ![2, 32]⟩
abbrev S2x8x4 : Shape := ⟨3, ![2, 8, 4]⟩
abbrev S8x2x4 : Shape := ⟨3, ![8, 2, 4]⟩
abbrev S_ : Shape := ⟨0, ![]⟩
abbrev S8x8x128 : Shape := ⟨3, ![8, 8, 128]⟩
abbrev S16x128x32 : Shape := ⟨3, ![16, 128, 32]⟩
abbrev S2048x8x4 : Shape := ⟨3, ![2048, 8, 4]⟩
abbrev S8x2048x4 : Shape := ⟨3, ![8, 2048, 4]⟩
abbrev S8x2048x128 : Shape := ⟨3, ![8, 2048, 128]⟩
abbrev S2048x2048 : Shape := ⟨2, ![2048, 2048]⟩
abbrev S8x16x128x256 : Shape := ⟨4, ![8, 16, 128, 256]⟩
abbrev S128x2048 : Shape := ⟨2, ![128, 2048]⟩
abbrev S128x1024 : Shape := ⟨2, ![128, 1024]⟩
abbrev S8x128x128 : Shape := ⟨3, ![8, 128, 128]⟩
abbrev S8x1x128x256 : Shape := ⟨4, ![8, 1, 128, 256]⟩
abbrev S8x128x256 : Shape := ⟨3, ![8, 128, 256]⟩
abbrev S1x256 : Shape := ⟨2, ![1, 256]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩
abbrev S1x8x128 : Shape := ⟨3, ![1, 8, 128]⟩
abbrev S8x128 : Shape := ⟨2, ![8, 128]⟩
abbrev S8x256 : Shape := ⟨2, ![8, 256]⟩
abbrev S8x1 : Shape := ⟨2, ![8, 1]⟩
abbrev S1x128x256 : Shape := ⟨3, ![1, 128, 256]⟩
abbrev S1x1x128x256 : Shape := ⟨4, ![1, 1, 128, 256]⟩
abbrev S512x128 : Shape := ⟨2, ![512, 128]⟩
abbrev S512x256 : Shape := ⟨2, ![512, 256]⟩

abbrev nBuf : Space → Nat
  | .hbm => 43
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S1x32, .f32⟩
  | .hbm, ⟨6, _⟩ => ⟨S1x32, .f32⟩
  | .hbm, ⟨7, _⟩ => ⟨S2x32, .f32⟩
  | .hbm, ⟨8, _⟩ => ⟨S2x8x4, .f32⟩
  | .hbm, ⟨9, _⟩ => ⟨S8x2x4, .f32⟩
  | .hbm, ⟨10, _⟩ => ⟨S_, .f32⟩
  | .hbm, ⟨11, _⟩ => ⟨S8x8x128, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S_, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S32, .f32⟩
  | .hbm, ⟨24, _⟩ => ⟨S32, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S16x128x32, .f32⟩
  | .hbm, ⟨29, _⟩ => ⟨S_, .f32⟩
  | .hbm, ⟨30, _⟩ => ⟨S_, .f32⟩
  | .hbm, ⟨31, _⟩ => ⟨S16x128x32, .f32⟩
  | .hbm, ⟨32, _⟩ => ⟨S2048x8x4, .f32⟩
  | .hbm, ⟨33, _⟩ => ⟨S8x2048x4, .f32⟩
  | .hbm, ⟨34, _⟩ => ⟨S_, .f32⟩
  | .hbm, ⟨35, _⟩ => ⟨S8x2048x128, .f32⟩
  | .hbm, ⟨36, _⟩ => ⟨S2048x32, .f32⟩
  | .hbm, ⟨37, _⟩ => ⟨S2048x8x4, .f32⟩
  | .hbm, ⟨38, _⟩ => ⟨S8x2048x4, .f32⟩
  | .hbm, ⟨39, _⟩ => ⟨S_, .f32⟩
  | .hbm, ⟨40, _⟩ => ⟨S8x2048x128, .f32⟩
  | .hbm, ⟨41, _⟩ => ⟨S2048x2048, .f32⟩
  | .hbm, ⟨42, _⟩ => ⟨S8x16x128x256, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x8x128, .f32⟩
  | .local _ .vmem, ⟨11, _⟩ => ⟨S128x2048, .f32⟩
  | .local _ .vmem, ⟨12, _⟩ => ⟨S128x2048, .f32⟩
  | .local _ .vmem, ⟨13, _⟩ => ⟨S8x1x128x256, .f32⟩
  | .local _ .vmem, ⟨14, _⟩ => ⟨S8x1x128x256, .f32⟩
  | .local _ .vmem, ⟨15, _⟩ => ⟨S8x128x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S2048x4096 : Shape := ⟨2, ![2048, 4096]⟩
abbrev S2048x32 : Shape := ⟨2, ![2048, 32]⟩
abbrev S32 : Shape := ⟨1, ![32]⟩
abbrev S2048x2048 : Shape := ⟨2, ![2048, 2048]⟩
abbrev S2048x32x64 : Shape := ⟨3, ![2048, 32, 64]⟩
abbrev S2048x1024 : Shape := ⟨2, ![2048, 1024]⟩
abbrev S2048x8x128 : Shape := ⟨3, ![2048, 8, 128]⟩
abbrev S1x32 : Shape := ⟨2, ![1, 32]⟩
abbrev S_ : Shape := ⟨0, ![]⟩
abbrev S16x128x8x4x64 : Shape := ⟨5, ![16, 128, 8, 4, 64]⟩
abbrev S16x128x8x4 : Shape := ⟨4, ![16, 128, 8, 4]⟩
abbrev S16x128x8x128 : Shape := ⟨4, ![16, 128, 8, 128]⟩
abbrev S8x4 : Shape := ⟨2, ![8, 4]⟩
abbrev S1x1x8x4 : Shape := ⟨4, ![1, 1, 8, 4]⟩
abbrev S16x128x8x4x1 : Shape := ⟨5, ![16, 128, 8, 4, 1]⟩
abbrev S16x128x1x8x4 : Shape := ⟨5, ![16, 128, 1, 8, 4]⟩
abbrev S16x1x128x8x4 : Shape := ⟨5, ![16, 1, 128, 8, 4]⟩
abbrev S16x128x128x8x4 : Shape := ⟨5, ![16, 128, 128, 8, 4]⟩
abbrev S128x128 : Shape := ⟨2, ![128, 128]⟩
abbrev S128x128x1x1 : Shape := ⟨4, ![128, 128, 1, 1]⟩
abbrev S16x8x128x128 : Shape := ⟨4, ![16, 8, 128, 128]⟩
abbrev S16x128x128x8 : Shape := ⟨4, ![16, 128, 128, 8]⟩
abbrev S16x128x128x8x1 : Shape := ⟨5, ![16, 128, 128, 8, 1]⟩
abbrev S16x8x4x64x128 : Shape := ⟨5, ![16, 8, 4, 64, 128]⟩
abbrev S16x1x8x4 : Shape := ⟨4, ![16, 1, 8, 4]⟩
abbrev S16x8x4 : Shape := ⟨3, ![16, 8, 4]⟩
abbrev S1x8x4x64x128 : Shape := ⟨5, ![1, 8, 4, 64, 128]⟩
abbrev S16x8x4x1x1 : Shape := ⟨5, ![16, 8, 4, 1, 1]⟩
abbrev S1x8x4x1x1 : Shape := ⟨5, ![1, 8, 4, 1, 1]⟩
abbrev S32x1 : Shape := ⟨2, ![32, 1]⟩
abbrev S1x32x1 : Shape := ⟨3, ![1, 32, 1]⟩
abbrev S8x16x128x4x64 : Shape := ⟨5, ![8, 16, 128, 4, 64]⟩
abbrev S8x16x128x256 : Shape := ⟨4, ![8, 16, 128, 256]⟩

abbrev nBuf : Space → Nat
  | .hbm => 185
  | .vmem => 0
  | .smem => 0
  | _ => 0

abbrev hbmTy0_0 (i : Nat) : BufTy := match i % 128 with
  | 0 => ⟨S2048x4096, .f32⟩
  | 1 => ⟨S2048x32, .f32⟩
  | 2 => ⟨S32, .f32⟩
  | 3 => ⟨S32, .f32⟩
  | 4 => ⟨S32, .f32⟩
  | 5 => ⟨S2048x2048, .f32⟩
  | 6 => ⟨S2048x32x64, .f32⟩
  | 7 => ⟨S2048x1024, .f32⟩
  | 8 => ⟨S2048x8x128, .f32⟩
  | 9 => ⟨S2048x1024, .f32⟩
  | 10 => ⟨S2048x8x128, .f32⟩
  | 11 => ⟨S1x32, .f32⟩
  | 12 => ⟨S2048x32, .f32⟩
  | 13 => ⟨S2048x32, .f32⟩
  | 14 => ⟨S_, .f32⟩
  | 15 => ⟨S2048x32, .f32⟩
  | 16 => ⟨S2048x32, .f32⟩
  | 17 => ⟨S2048x32, .f32⟩
  | 18 => ⟨S2048x32, .f32⟩
  | 19 => ⟨S2048x32, .i1⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S32, .f32⟩
  | 29 => ⟨S32, .f32⟩
  | 30 => ⟨S16x128x8x4x64, .f32⟩
  | 31 => ⟨S16x128x8x4, .f32⟩
  | 32 => ⟨S16x128x8x128, .f32⟩
  | 33 => ⟨S16x128x8x128, .f32⟩
  | 34 => ⟨S8x4, .f32⟩
  | 35 => ⟨S1x1x8x4, .f32⟩
  | 36 => ⟨S16x128x8x4, .f32⟩
  | 37 => ⟨S16x128x8x4, .f32⟩
  | 38 => ⟨S_, .f32⟩
  | 39 => ⟨S_, .f32⟩
  | 40 => ⟨S16x128x8x4, .f32⟩
  | 41 => ⟨S16x128x8x4x1, .f32⟩
  | 42 => ⟨S16x128x8x4x64, .f32⟩
  | 43 => ⟨S16x128x8x4x64, .f32⟩
  | 44 => ⟨S16x128x1x8x4, .f32⟩
  | 45 => ⟨S16x1x128x8x4, .f32⟩
  | 46 => ⟨S16x128x128x8x4, .f32⟩
  | 47 => ⟨S16x128x128x8x4, .f32⟩
  | 48 => ⟨S16x128x128x8x4, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S128x128x1x1, .i1⟩
  | 61 => ⟨S_, .f32⟩
  | 62 => ⟨S_, .f32⟩
  | 63 => ⟨S16x128x128x8x4, .i1⟩
  | 64 => ⟨S16x128x128x8x4, .f32⟩
  | 65 => ⟨S16x128x128x8x4, .f32⟩
  | 66 => ⟨S16x128x128x8x4, .f32⟩
  | 67 => ⟨S16x8x128x128, .f32⟩
  | 68 => ⟨S16x128x128x8, .f32⟩
  | 69 => ⟨S16x128x128x8x1, .f32⟩
  | 70 => ⟨S16x128x128x8x4, .f32⟩
  | 71 => ⟨S16x128x128x8x4, .f32⟩
  | 72 => ⟨S16x8x4x64x128, .f32⟩
  | 73 => ⟨S16x128x8x4x64, .f32⟩
  | 74 => ⟨S16x1x8x4, .f32⟩
  | 75 => ⟨S16x128x8x4, .f32⟩
  | 76 => ⟨S16x128x8x4, .f32⟩
  | 77 => ⟨S16x128x8x4, .f32⟩
  | 78 => ⟨S16x128x8x4x1, .f32⟩
  | 79 => ⟨S16x128x8x4x64, .f32⟩
  | 80 => ⟨S16x128x8x4x64, .f32⟩
  | 81 => ⟨S16x8x4x64x128, .f32⟩
  | 82 => ⟨S16x1x8x4, .f32⟩
  | 83 => ⟨S16x8x4, .f32⟩
  | 84 => ⟨S16x8x4, .f32⟩
  | 85 => ⟨S_, .f32⟩
  | 86 => ⟨S1x8x4x64x128, .f32⟩
  | 87 => ⟨S1x8x4x64x128, .f32⟩
  | 88 => ⟨S1x8x4x64x128, .f32⟩
  | 89 => ⟨S1x8x4x64x128, .f32⟩
  | 90 => ⟨S1x8x4x64x128, .f32⟩
  | 91 => ⟨S1x8x4x64x128, .f32⟩
  | 92 => ⟨S1x8x4x64x128, .f32⟩
  | 93 => ⟨S1x8x4x64x128, .f32⟩
  | 94 => ⟨S1x8x4x64x128, .f32⟩
  | 95 => ⟨S1x8x4x64x128, .f32⟩
  | 96 => ⟨S1x8x4x64x128, .f32⟩
  | 97 => ⟨S1x8x4x64x128, .f32⟩
  | 98 => ⟨S1x8x4x64x128, .f32⟩
  | 99 => ⟨S1x8x4x64x128, .f32⟩
  | 100 => ⟨S1x8x4x64x128, .f32⟩
  | 101 => ⟨S1x8x4x64x128, .f32⟩
  | 102 => ⟨S1x8x4x64x128, .f32⟩
  | 103 => ⟨S16x8x4x1x1, .f32⟩
  | 104 => ⟨S1x8x4x1x1, .f32⟩
  | 105 => ⟨S1x8x4x1x1, .f32⟩
  | 106 => ⟨S1x8x4x1x1, .f32⟩
  | 107 => ⟨S1x8x4x1x1, .f32⟩
  | 108 => ⟨S1x8x4x1x1, .f32⟩
  | 109 => ⟨S1x8x4x1x1, .f32⟩
  | 110 => ⟨S1x8x4x1x1, .f32⟩
  | 111 => ⟨S1x8x4x1x1, .f32⟩
  | 112 => ⟨S1x8x4x1x1, .f32⟩
  | 113 => ⟨S1x8x4x1x1, .f32⟩
  | 114 => ⟨S1x8x4x1x1, .f32⟩
  | 115 => ⟨S1x8x4x1x1, .f32⟩
  | 116 => ⟨S1x8x4x1x1, .f32⟩
  | 117 => ⟨S1x8x4x1x1, .f32⟩
  | 118 => ⟨S1x8x4x1x1, .f32⟩
  | 119 => ⟨S1x8x4x1x1, .f32⟩
  | 120 => ⟨S1x8x4x64x128, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S2048x4096, .f32⟩

abbrev hbmTy0_1 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S1x8x4x64x128, .f32⟩
  | 9 => ⟨S1x8x4x64x128, .f32⟩
  | 10 => ⟨S1x8x4x64x128, .f32⟩
  | 11 => ⟨S1x8x4x64x128, .f32⟩
  | 12 => ⟨S1x8x4x64x128, .f32⟩
  | 13 => ⟨S1x8x4x64x128, .f32⟩
  | 14 => ⟨S1x8x4x64x128, .f32⟩
  | 15 => ⟨S1x8x4x64x128, .f32⟩
  | 16 => ⟨S1x8x4x64x128, .f32⟩
  | 17 => ⟨S1x8x4x64x128, .f32⟩
  | 18 => ⟨S1x8x4x64x128, .f32⟩
  | 19 => ⟨S1x8x4x64x128, .f32⟩
  | 20 => ⟨S1x8x4x64x128, .f32⟩
  | 21 => ⟨S1x8x4x64x128, .f32⟩
  | 22 => ⟨S1x8x4x64x128, .f32⟩
  | 23 => ⟨S1x8x4x64x128, .f32⟩
  | 24 => ⟨S1x8x4x64x128, .f32⟩
  | 25 => ⟨S1x8x4x64x128, .f32⟩
  | 26 => ⟨S1x8x4x64x128, .f32⟩
  | 27 => ⟨S1x8x4x64x128, .f32⟩
  | 28 => ⟨S1x8x4x64x128, .f32⟩
  | 29 => ⟨S1x8x4x64x128, .f32⟩
  | 30 => ⟨S1x8x4x64x128, .f32⟩
  | 31 => ⟨S1x8x4x64x128, .f32⟩
  | 32 => ⟨S1x8x4x64x128, .f32⟩
  | 33 => ⟨S1x8x4x64x128, .f32⟩
  | 34 => ⟨S1x8x4x64x128, .f32⟩
  | 35 => ⟨S1x8x4x64x128, .f32⟩
  | 36 => ⟨S1x8x4x64x128, .f32⟩
  | 37 => ⟨S1x8x4x64x128, .f32⟩
  | 38 => ⟨S1x8x4x64x128, .f32⟩
  | 39 => ⟨S1x8x4x64x128, .f32⟩
  | 40 => ⟨S16x8x4x64x128, .f32⟩
  | 41 => ⟨S16x8x4x64x128, .f32⟩
  | 42 => ⟨S16x128x8x4x64, .f32⟩
  | 43 => ⟨S16x128x8x4, .f32⟩
  | 44 => ⟨S16x128x8x4x1, .f32⟩
  | 45 => ⟨S16x128x8x4x64, .f32⟩
  | 46 => ⟨S16x128x8x4x64, .f32⟩
  | 47 => ⟨S16x128x8x4x64, .f32⟩
  | 48 => ⟨S2048x32x64, .f32⟩
  | 49 => ⟨S32x1, .f32⟩
  | 50 => ⟨S1x32x1, .f32⟩
  | 51 => ⟨S2048x32x64, .f32⟩
  | 52 => ⟨S2048x32x64, .f32⟩
  | 53 => ⟨S2048x32x64, .f32⟩
  | 54 => ⟨S2048x2048, .f32⟩
  | 55 => ⟨S8x16x128x4x64, .f32⟩
  | 56 => ⟨S8x16x128x256, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_call0_cst : Ref sig .tc := ⟨.hbm, 38, rfl⟩
abbrev main_call1_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_v29 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩

abbrev nD : Nat := 1
abbrev τ : Topo := Topo.v7x

variable {F : FTy → Type} [FloatOps F]
-- ==== Kernel12.lean ====
abbrev S2048x11296 : Shape := ⟨2, ![2048, 11296]⟩
abbrev S4x4096 : Shape := ⟨2, ![4, 4096]⟩
abbrev S4096 : Shape := ⟨1, ![4096]⟩
abbrev S2048x9216 : Shape := ⟨2, ![2048, 9216]⟩
abbrev S2048x2048 : Shape := ⟨2, ![2048, 2048]⟩
abbrev S2048x32 : Shape := ⟨2, ![2048, 32]⟩
abbrev S_ : Shape := ⟨0, ![]⟩
abbrev S2048x224 : Shape := ⟨2, ![2048, 224]⟩
abbrev S2048x11520 : Shape := ⟨2, ![2048, 11520]⟩
abbrev S1x4096 : Shape := ⟨2, ![1, 4096]⟩
abbrev S3x4096 : Shape := ⟨2, ![3, 4096]⟩
abbrev S8x4096 : Shape := ⟨2, ![8, 4096]⟩
abbrev S2048x4096 : Shape := ⟨2, ![2048, 4096]⟩
abbrev S2048x256 : Shape := ⟨2, ![2048, 256]⟩
abbrev S8x256 : Shape := ⟨2, ![8, 256]⟩
abbrev S1x256 : Shape := ⟨2, ![1, 256]⟩

abbrev nBuf : Space → Nat
  | .hbm => 15
  | .vmem => 6
  | .smem => 0
  | _ => 0

abbrev bufTy : (tb : Table) → Fin (tcTables nBuf tb) → BufTy
  | .hbm, ⟨0, _⟩ => ⟨S2048x11296, .f32⟩
  | .hbm, ⟨1, _⟩ => ⟨S4x4096, .f32⟩
  | .hbm, ⟨2, _⟩ => ⟨S4096, .f32⟩
  | .hbm, ⟨3, _⟩ => ⟨S2048x9216, .f32⟩
  | .hbm, ⟨4, _⟩ => ⟨S2048x2048, .f32⟩
  | .hbm, ⟨5, _⟩ => ⟨S2048x32, .f32⟩
  | .hbm, ⟨6, _⟩ => ⟨S_, .f32⟩
  | .hbm, ⟨7, _⟩ => ⟨S2048x224, .f32⟩
  | .hbm, ⟨8, _⟩ => ⟨S2048x11520, .f32⟩
  | .hbm, ⟨9, _⟩ => ⟨S2048x11520, .bf16⟩
  | .hbm, ⟨10, _⟩ => ⟨S1x4096, .f32⟩
  | .hbm, ⟨11, _⟩ => ⟨S_, .f32⟩
  | .hbm, ⟨12, _⟩ => ⟨S3x4096, .f32⟩
  | .hbm, ⟨13, _⟩ => ⟨S8x4096, .f32⟩
  | .hbm, ⟨14, _⟩ => ⟨S2048x4096, .f32⟩
  | .local _ .vmem, ⟨0, _⟩ => ⟨S2048x256, .bf16⟩
  | .local _ .vmem, ⟨1, _⟩ => ⟨S2048x256, .bf16⟩
  | .local _ .vmem, ⟨2, _⟩ => ⟨S8x256, .f32⟩
  | .local _ .vmem, ⟨3, _⟩ => ⟨S8x256, .f32⟩
  | .local _ .vmem, ⟨4, _⟩ => ⟨S2048x256, .f32⟩
  | .local _ .vmem, ⟨5, _⟩ => ⟨S2048x256, .f32⟩
  | _, _ => ⟨S2048x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x11296 : Shape := ⟨2, ![2048, 11296]⟩
abbrev S4x4096 : Shape := ⟨2, ![4, 4096]⟩
abbrev S4096 : Shape := ⟨1, ![4096]⟩
abbrev S2048x4096 : Shape := ⟨2, ![2048, 4096]⟩
abbrev S_ : Shape := ⟨0, ![]⟩
abbrev S3x4096 : Shape := ⟨2, ![3, 4096]⟩
abbrev S2051x4096 : Shape := ⟨2, ![2051, 4096]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2048x11296, .f32⟩
  | .hbm, ⟨1, _⟩ => ⟨S4x4096, .f32⟩
  | .hbm, ⟨2, _⟩ => ⟨S4096, .f32⟩
  | .hbm, ⟨3, _⟩ => ⟨S2048x4096, .f32⟩
  | .hbm, ⟨4, _⟩ => ⟨S_, .f32⟩
  | .hbm, ⟨5, _⟩ => ⟨S3x4096, .f32⟩
  | .hbm, ⟨6, _⟩ => ⟨S2051x4096, .f32⟩
  | .hbm, ⟨7, _⟩ => ⟨S2048x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S1x4096, .f32⟩
  | .hbm, ⟨29, _⟩ => ⟨S4096, .f32⟩
  | .hbm, ⟨30, _⟩ => ⟨S1x4096, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S1x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S_, .f32⟩
  | .hbm, ⟨40, _⟩ => ⟨S2048x4096, .f32⟩
  | .hbm, ⟨41, _⟩ => ⟨S2048x4096, .f32⟩
  | .hbm, ⟨42, _⟩ => ⟨S_, .f32⟩
  | .hbm, ⟨43, _⟩ => ⟨S2048x4096, .f32⟩
  | .hbm, ⟨44, _⟩ => ⟨S2048x4096, .f32⟩
  | .hbm, ⟨45, _⟩ => ⟨S2048x4096, .f32⟩
  | _, _ => ⟨S2048x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel13.lean ====
abbrev S2048x11296 : Shape := ⟨2, ![2048, 11296]⟩
abbrev S3x1024 : Shape := ⟨2, ![3, 1024]⟩
abbrev S2048x9216 : Shape := ⟨2, ![2048, 9216]⟩
abbrev S2048x2048 : Shape := ⟨2, ![2048, 2048]⟩
abbrev S2048x32 : Shape := ⟨2, ![2048, 32]⟩
abbrev S_ : Shape := ⟨0, ![]⟩
abbrev S2048x224 : Shape := ⟨2, ![2048, 224]⟩
abbrev S2048x11520 : Shape := ⟨2, ![2048, 11520]⟩
abbrev S5x1024 : Shape := ⟨2, ![5, 1024]⟩
abbrev S8x1024 : Shape := ⟨2, ![8, 1024]⟩
abbrev S2048x1024 : Shape := ⟨2, ![2048, 1024]⟩
abbrev S2048x256 : Shape := ⟨2, ![2048, 256]⟩
abbrev S8x256 : Shape := ⟨2, ![8, 256]⟩
abbrev S1x256 : Shape := ⟨2, ![1, 256]⟩

abbrev nBuf : Space → Nat
  | .hbm => 13
  | .vmem => 10
  | .smem => 0
  | _ => 0

abbrev bufTy : (tb : Table) → Fin (tcTables nBuf tb) → BufTy
  | .hbm, ⟨0, _⟩ => ⟨S2048x11296, .f32⟩
  | .hbm, ⟨1, _⟩ => ⟨S3x1024, .f32⟩
  | .hbm, ⟨2, _⟩ => ⟨S2048x9216, .f32⟩
  | .hbm, ⟨3, _⟩ => ⟨S2048x2048, .f32⟩
  | .hbm, ⟨4, _⟩ => ⟨S2048x32, .f32⟩
  | .hbm, ⟨5, _⟩ => ⟨S_, .f32⟩
  | .hbm, ⟨6, _⟩ => ⟨S2048x224, .f32⟩
  | .hbm, ⟨7, _⟩ => ⟨S2048x11520, .f32⟩
  | .hbm, ⟨8, _⟩ => ⟨S2048x11520, .bf16⟩
  | .hbm, ⟨9, _⟩ => ⟨S_, .f32⟩
  | .hbm, ⟨10, _⟩ => ⟨S5x1024, .f32⟩
  | .hbm, ⟨11, _⟩ => ⟨S8x1024, .f32⟩
  | .hbm, ⟨12, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x256, .f32⟩
  | .local _ .vmem, ⟨7, _⟩ => ⟨S8x256, .f32⟩
  | .local _ .vmem, ⟨8, _⟩ => ⟨S2048x256, .bf16⟩
  | .local _ .vmem, ⟨9, _⟩ => ⟨S2048x256, .bf16⟩
  | _, _ => ⟨S2048x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2048x11296 : Shape := ⟨2, ![2048, 11296]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x11296, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S2048x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S2048x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel14.lean ====
abbrev S2048x2048 : Shape := ⟨2, ![2048, 2048]⟩
abbrev S2048x11296 : Shape := ⟨2, ![2048, 11296]⟩
abbrev S2048 : Shape := ⟨1, ![2048]⟩
abbrev S2048x9216 : Shape := ⟨2, ![2048, 9216]⟩
abbrev S2048x32 : Shape := ⟨2, ![2048, 32]⟩
abbrev S_ : Shape := ⟨0, ![]⟩
abbrev S2048x224 : Shape := ⟨2, ![2048, 224]⟩
abbrev S2048x11520 : Shape := ⟨2, ![2048, 11520]⟩
abbrev S1x2048 : Shape := ⟨2, ![1, 2048]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 12
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x11296, .f32⟩
  | .hbm, ⟨2, _⟩ => ⟨S2048, .f32⟩
  | .hbm, ⟨3, _⟩ => ⟨S2048x9216, .f32⟩
  | .hbm, ⟨4, _⟩ => ⟨S2048x2048, .f32⟩
  | .hbm, ⟨5, _⟩ => ⟨S2048x32, .f32⟩
  | .hbm, ⟨6, _⟩ => ⟨S_, .f32⟩
  | .hbm, ⟨7, _⟩ => ⟨S2048x224, .f32⟩
  | .hbm, ⟨8, _⟩ => ⟨S2048x11520, .f32⟩
  | .hbm, ⟨9, _⟩ => ⟨S2048x11520, .bf16⟩
  | .hbm, ⟨10, _⟩ => ⟨S1x2048, .f32⟩
  | .hbm, ⟨11, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S2048x2048 : Shape := ⟨2, ![2048, 2048]⟩
abbrev S2048x11296 : Shape := ⟨2, ![2048, 11296]⟩
abbrev S2048 : Shape := ⟨1, ![2048]⟩
abbrev S_ : Shape := ⟨0, ![]⟩
abbrev S2048x8x256 : Shape := ⟨3, ![2048, 8, 256]⟩
abbrev S2048x8 : Shape := ⟨2, ![2048, 8]⟩
abbrev S2048x8x1 : Shape := ⟨3, ![2048, 8, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11296, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x8x256, .f32⟩
  | .hbm, ⟨15, _⟩ => ⟨S2048x8x256, .f32⟩
  | .hbm, ⟨16, _⟩ => ⟨S_, .f32⟩
  | .hbm, ⟨17, _⟩ => ⟨S2048x8, .f32⟩
  | .hbm, ⟨18, _⟩ => ⟨S2048x8x1, .f32⟩
  | .hbm, ⟨19, _⟩ => ⟨S_, .f32⟩
  | .hbm, ⟨20, _⟩ => ⟨S2048x8x1, .f32⟩
  | .hbm, ⟨21, _⟩ => ⟨S2048x8x1, .f32⟩
  | .hbm, ⟨22, _⟩ => ⟨S_, .f32⟩
  | .hbm, ⟨23, _⟩ => ⟨S2048x8x1, .f32⟩
  | .hbm, ⟨24, _⟩ => ⟨S2048x8x1, .f32⟩
  | .hbm, ⟨25, _⟩ => ⟨S2048x8x1, .f32⟩
  | .hbm, ⟨26, _⟩ => ⟨S2048x8x256, .f32⟩
  | .hbm, ⟨27, _⟩ => ⟨S2048x8x256, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel15.lean ====
abbrev S2048x2048 : Shape := ⟨2, ![2048, 2048]⟩
abbrev S2048x1024 : Shape := ⟨2, ![2048, 1024]⟩
abbrev S2048x11296 : Shape := ⟨2, ![2048, 11296]⟩
abbrev S2048 : Shape := ⟨1, ![2048]⟩
abbrev S2048x9216 : Shape := ⟨2, ![2048, 9216]⟩
abbrev S2048x32 : Shape := ⟨2, ![2048, 32]⟩
abbrev S_ : Shape := ⟨0, ![]⟩
abbrev S2048x224 : Shape := ⟨2, ![2048, 224]⟩
abbrev S2048x11520 : Shape := ⟨2, ![2048, 11520]⟩
abbrev S1x2048 : Shape := ⟨2, ![1, 2048]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 16
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x11296, .f32⟩
  | .hbm, ⟨3, _⟩ => ⟨S2048, .f32⟩
  | .hbm, ⟨4, _⟩ => ⟨S2048x1024, .f32⟩
  | .hbm, ⟨5, _⟩ => ⟨S2048x1024, .bf16⟩
  | .hbm, ⟨6, _⟩ => ⟨S2048x9216, .f32⟩
  | .hbm, ⟨7, _⟩ => ⟨S2048x2048, .f32⟩
  | .hbm, ⟨8, _⟩ => ⟨S2048x32, .f32⟩
  | .hbm, ⟨9, _⟩ => ⟨S_, .f32⟩
  | .hbm, ⟨10, _⟩ => ⟨S2048x224, .f32⟩
  | .hbm, ⟨11, _⟩ => ⟨S2048x11520, .f32⟩
  | .hbm, ⟨12, _⟩ => ⟨S2048x11520, .bf16⟩
  | .hbm, ⟨13, _⟩ => ⟨S1x2048, .f32⟩
  | .hbm, ⟨14, _⟩ => ⟨S2048x1024, .f32⟩
  | .hbm, ⟨15, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x2048 : Shape := ⟨2, ![2048, 2048]⟩
abbrev S2048x1024 : Shape := ⟨2, ![2048, 1024]⟩
abbrev S2048x11296 : Shape := ⟨2, ![2048, 11296]⟩
abbrev S2048 : Shape := ⟨1, ![2048]⟩
abbrev S1x2048 : Shape := ⟨2, ![1, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x11296, .f32⟩
  | .hbm, ⟨3, _⟩ => ⟨S2048, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S2048x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel16.lean ====
abbrev S2048x1024 : Shape := ⟨2, ![2048, 1024]⟩
abbrev S1024 : Shape := ⟨1, ![1024]⟩
abbrev S8x128 : Shape := ⟨2, ![8, 128]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S1x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S1024x4096, .bf16⟩
  | .hbm, ⟨3, _⟩ => ⟨S2048x4096, .bf16⟩
  | .hbm, ⟨4, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S2048x4096, .bf16⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S2048x32 : Shape := ⟨2, ![2048, 32]⟩
abbrev S32 : Shape := ⟨1, ![32]⟩
abbrev S1x32 : Shape := ⟨2, ![1, 32]⟩
abbrev S2x32 : Shape := ⟨2, ![2, 32]⟩
abbrev S_ : Shape := ⟨0, ![]⟩
abbrev S8x128 : Shape := ⟨2, ![8, 128]⟩
abbrev S2048x256 : Shape := ⟨2, ![2048, 256]⟩
abbrev S8x2048x128 : Shape := ⟨3, ![8, 2048, 128]⟩
abbrev S128x256 : Shape := ⟨2, ![128, 256]⟩
abbrev S8x128x128 : Shape := ⟨3, ![8, 128, 128]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 13
  | .vmem => 9
  | .smem => 0
  | _ => 0

abbrev bufTy : (tb : Table) → Fin (tcTables nBuf tb) → BufTy
  | .hbm, ⟨0, _⟩ => ⟨S2048x32, .f32⟩
  | .hbm, ⟨1, _⟩ => ⟨S32, .f32⟩
  | .hbm, ⟨2, _⟩ => ⟨S32, .f32⟩
  | .hbm, ⟨3, _⟩ => ⟨S1x32, .f32⟩
  | .hbm, ⟨4, _⟩ => ⟨S1x32, .f32⟩
  | .hbm, ⟨5, _⟩ => ⟨S2x32, .f32⟩
  | .hbm, ⟨6, _⟩ => ⟨S_, .f32⟩
  | .hbm, ⟨7, _⟩ => ⟨S8x128, .f32⟩
  | .hbm, ⟨8, _⟩ => ⟨S_, .f32⟩
  | .hbm, ⟨9, _⟩ => ⟨S2048x256, .f32⟩
  | .hbm, ⟨10, _⟩ => ⟨S8x2048x128, .f32⟩
  | .hbm, ⟨11, _⟩ => ⟨S8x2048x128, .f32⟩
  | .hbm, ⟨12, _⟩ => ⟨S8x2048x128, .f32⟩
  | .local _ .vmem, ⟨0, _⟩ => ⟨S128x256, .f32⟩
  | .local _ .vmem, ⟨1, _⟩ => ⟨S128x256, .f32⟩
  | .local _ .vmem, ⟨2, _⟩ => ⟨S8x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S2048x32 : Shape := ⟨2, ![2048, 32]⟩
abbrev S32 : Shape := ⟨1, ![32]⟩
abbrev S1x32 : Shape := ⟨2, ![1, 32]⟩
abbrev S_ : Shape := ⟨0, ![]⟩
abbrev S16x128x32 : Shape := ⟨3, ![16, 128, 32]⟩
abbrev S2048x8x4 : Shape := ⟨3, ![2048, 8, 4]⟩
abbrev S8x2048x4 : Shape := ⟨3, ![8, 2048, 4]⟩
abbrev S8x2048x124 : Shape := ⟨3, ![8, 2048, 124]⟩
abbrev S8x2048x128 : Shape := ⟨3, ![8, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S32, .f32⟩
  | .hbm, ⟨2, _⟩ => ⟨S32, .f32⟩
  | .hbm, ⟨3, _⟩ => ⟨S1x32, .f32⟩
  | .hbm, ⟨4, _⟩ => ⟨S2048x32, .f32⟩
  | .hbm, ⟨5, _⟩ => ⟨S2048x32, .f32⟩
  | .hbm, ⟨6, _⟩ => ⟨S_, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S2048x32, .i1⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S32, .f32⟩
  | .hbm, ⟨21, _⟩ => ⟨S32, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S16x128x32, .f32⟩
  | .hbm, ⟨26, _⟩ => ⟨S_, .f32⟩
  | .hbm, ⟨27, _⟩ => ⟨S_, .f32⟩
  | .hbm, ⟨28, _⟩ => ⟨S16x128x32, .f32⟩
  | .hbm, ⟨29, _⟩ => ⟨S2048x32, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S_, .f32⟩
  | .hbm, ⟨36, _⟩ => ⟨S2048x32, .f32⟩
  | .hbm, ⟨37, _⟩ => ⟨S2048x32, .f32⟩
  | .hbm, ⟨38, _⟩ => ⟨S_, .f32⟩
  | .hbm, ⟨39, _⟩ => ⟨S2048x32, .f32⟩
  | .hbm, ⟨40, _⟩ => ⟨S2048x32, .f32⟩
  | .hbm, ⟨41, _⟩ => ⟨S2048x8x4, .f32⟩
  | .hbm, ⟨42, _⟩ => ⟨S8x2048x4, .f32⟩
  | .hbm, ⟨43, _⟩ => ⟨S_, .f32⟩
  | .hbm, ⟨44, _⟩ => ⟨S8x2048x124, .f32⟩
  | .hbm, ⟨45, _⟩ => ⟨S8x2048x128, .f32⟩
  | .hbm, ⟨46, _⟩ => ⟨S2048x8x4, .f32⟩
  | .hbm, ⟨47, _⟩ => ⟨S8x2048x4, .f32⟩
  | .hbm, ⟨48, _⟩ => ⟨S_, .f32⟩
  | .hbm, ⟨49, _⟩ => ⟨S8x2048x124, .f32⟩
  | .hbm, ⟨50, _⟩ => ⟨S8x2048x128, .f32⟩
  | .hbm, ⟨51, _⟩ => ⟨S2048x8x4, .f32⟩
  | .hbm, ⟨52, _⟩ => ⟨S8x2048x4, .f32⟩
  | .hbm, ⟨53, _⟩ => ⟨S_, .f32⟩
  | .hbm, ⟨54, _⟩ => ⟨S8x2048x124, .f32⟩
  | .hbm, ⟨55, _⟩ => ⟨S8x2048x128, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_call0_cst : Ref sig .tc := ⟨.hbm, 26, rfl⟩
abbrev main_call1_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel20.lean ====
abbrev S2048x11520 : Shape := ⟨2, ![2048, 11520]⟩
abbrev S2048x1024 : Shape := ⟨2, ![2048, 1024]⟩
abbrev S11520x1024 : Shape := ⟨2, ![11520, 1024]⟩
abbrev S2048x1280 : Shape := ⟨2, ![2048, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x11520, .bf16⟩
  | .hbm, ⟨1, _⟩ => ⟨S2048x1024, .bf16⟩
  | .hbm, ⟨2, _⟩ => ⟨S11520x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S2048x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x11520 : Shape := ⟨2, ![2048, 11520]⟩
abbrev S2048x1024 : Shape := ⟨2, ![2048, 1024]⟩
abbrev S11520x2048 : Shape := ⟨2, ![11520, 2048]⟩
abbrev S11520x1024 : Shape := ⟨2, ![11520, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x11520, .bf16⟩
  | .hbm, ⟨1, _⟩ => ⟨S2048x1024, .bf16⟩
  | .hbm, ⟨2, _⟩ => ⟨S2048x11520, .f32⟩
  | .hbm, ⟨3, _⟩ => ⟨S11520x2048, .f32⟩
  | .hbm, ⟨4, _⟩ => ⟨S2048x1024, .f32⟩
  | .hbm, ⟨5, _⟩ => ⟨S11520x1024, .f32⟩
  | .hbm, ⟨6, _⟩ => ⟨S11520x1024, .bf16⟩
  | _, _ => ⟨S2048x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S1024x1024 : Shape := ⟨2, ![1024, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference22Ideal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S11520x1024 : Shape := ⟨2, ![11520, 1024]⟩
abbrev S4x1536x1024 : Shape := ⟨3, ![4, 1536, 1024]⟩
abbrev S2 : Shape := ⟨1, ![2]⟩
abbrev S1536x1024 : Shape := ⟨2, ![1536, 1024]⟩
abbrev S768x1024 : Shape := ⟨2, ![768, 1024]⟩
abbrev S1 : Shape := ⟨1, ![1]⟩
abbrev S1x768x1024 : Shape := ⟨3, ![1, 768, 1024]⟩

abbrev nBuf : Space → Nat
  | .hbm => 3
  | .vmem => 6
  | .smem => 1
  | _ => 0

abbrev bufTy : (tb : Table) → Fin (tcTables nBuf tb) → BufTy
  | .hbm, ⟨0, _⟩ => ⟨S11520x1024, .bf16⟩
  | .hbm, ⟨1, _⟩ => ⟨S4x1536x1024, .bf16⟩
  | .hbm, ⟨2, _⟩ => ⟨S1536x1024, .f32⟩
  | .local _ .vmem, ⟨0, _⟩ => ⟨S768x1024, .bf16⟩
  | .local _ .vmem, ⟨1, _⟩ => ⟨S768x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S768x1024, .f32⟩
  | .local _ .vmem, ⟨5, _⟩ => ⟨S768x1024, .f32⟩
  | .local _ .smem, ⟨0, _⟩ => ⟨S2, .i32⟩
  | _, _ => ⟨S11520x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_mult1 (pf : pre0.Contents (Elt F)) (i : grid0.Coords) : BitVec 32 :=
  let c2816_i32 : BitVec 32 := 2816#32
  let v0 : BitVec 32 := pf.atD 0 ![0]
  let v1 : BitVec 32 := Scalar.muli c2816_i32 v0
  let c1536_i32 : BitVec 32 := 1536#32
  let v2 : BitVec 32 := pf.atD 0 ![1]
  let v3 : BitVec 32 := Scalar.muli c1536_i32 v2
  let v4 : BitVec 32 := Scalar.addi v1 v3
  let c768_i32 : BitVec 32 := 768#32
  let arg0 : BitVec 32 := BitVec.ofNat 32 (i 0).val
  let v5 : BitVec 32 := Scalar.muli c768_i32 arg0
  let v6 : BitVec 32 := Scalar.addi v4 v5
  v6

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2816_i32 : BitVec 32 := 2816#32
  let v1 : BitVec 32 := Scalar.muli c2816_i32 v0
  let c1 : Index := 1#32
  let v2 : BitVec 32 := pf.at 0 (Rect.unit (s := S2) ![1] S1.size inb_S2_S1_1) numel1_S1
  let c1536_i32 : BitVec 32 := 1536#32
  let v3 : BitVec 32 := Scalar.muli c1536_i32 v2
  let v4 : BitVec 32 := Scalar.addi v1 v3
  let c768_i32 : BitVec 32 := 768#32
  let v5 : BitVec 32 := Scalar.muli c768_i32 arg0
  let v6 : BitVec 32 := Scalar.addi v4 v5
  let v7 : BitVec 32 := v6
  let c0_i32 : BitVec 32 := 0#32
  let c0_i32_0 : BitVec 32 := 0#32
  ![v7.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S11520x1024 : Shape := ⟨2, ![11520, 1024]⟩
abbrev S4x1536x1024 : Shape := ⟨3, ![4, 1536, 1024]⟩
abbrev S2 : Shape := ⟨1, ![2]⟩
abbrev S_ : Shape := ⟨0, ![]⟩
abbrev S1536x1024 : Shape := ⟨2, ![1536, 1024]⟩
abbrev S1 : Shape := ⟨1, ![1]⟩
abbrev S1x1536x1024 : Shape := ⟨3, ![1, 1536, 1024]⟩

abbrev nBuf : Space → Nat
  | .hbm => 104
  | .vmem => 0
  | .smem => 0
  | _ => 0

abbrev bufTy : (tb : Table) → Fin (tcTables nBuf tb) → BufTy
  | .hbm, ⟨0, _⟩ => ⟨S11520x1024, .bf16⟩
  | .hbm, ⟨1, _⟩ => ⟨S4x1536x1024, .bf16⟩
  | .hbm, ⟨2, _⟩ => ⟨S2, .i32⟩
  | .hbm, ⟨3, _⟩ => ⟨S_, .bf16⟩
  | .hbm, ⟨4, _⟩ => ⟨S1536x1024, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1536x1024, .i1⟩
  | .hbm, ⟨10, _⟩ => ⟨S1x1536x1024, .bf16⟩
  | .hbm, ⟨11, _⟩ => ⟨S1536x1024, .bf16⟩
  | .hbm, ⟨12, _⟩ => ⟨S1536x1024, .bf16⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1536x1024, .i1⟩
  | .hbm, ⟨18, _⟩ => ⟨S1536x1024, .i1⟩
  | .hbm, ⟨19, _⟩ => ⟨S1536x1024, .bf16⟩
  | .hbm, ⟨20, _⟩ => ⟨S1536x1024, .bf16⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S1536x1024, .i1⟩
  | .hbm, ⟨26, _⟩ => ⟨S1536x1024, .i1⟩
  | .hbm, ⟨27, _⟩ => ⟨S1536x1024, .bf16⟩
  | .hbm, ⟨28, _⟩ => ⟨S1536x1024, .bf16⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S1536x1024, .i1⟩
  | .hbm, ⟨34, _⟩ => ⟨S1x1536x1024, .bf16⟩
  | .hbm, ⟨35, _⟩ => ⟨S1536x1024, .bf16⟩
  | .hbm, ⟨36, _⟩ => ⟨S1536x1024, .bf16⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S1536x1024, .i1⟩
  | .hbm, ⟨42, _⟩ => ⟨S1536x1024, .i1⟩
  | .hbm, ⟨43, _⟩ => ⟨S1536x1024, .bf16⟩
  | .hbm, ⟨44, _⟩ => ⟨S1536x1024, .bf16⟩
  | .hbm, ⟨45, _⟩ => ⟨S1, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S1536x1024, .i1⟩
  | .hbm, ⟨50, _⟩ => ⟨S1536x1024, .i1⟩
  | .hbm, ⟨51, _⟩ => ⟨S1536x1024, .bf16⟩
  | .hbm, ⟨52, _⟩ => ⟨S1536x1024, .bf16⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1536x1024, .i1⟩
  | .hbm, ⟨58, _⟩ => ⟨S1x1536x1024, .bf16⟩
  | .hbm, ⟨59, _⟩ => ⟨S1536x1024, .bf16⟩
  | .hbm, ⟨60, _⟩ => ⟨S1536x1024, .bf16⟩
  | .hbm, ⟨61, _⟩ => ⟨S1, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S1536x1024, .i1⟩
  | .hbm, ⟨66, _⟩ => ⟨S1536x1024, .i1⟩
  | .hbm, ⟨67, _⟩ => ⟨S1536x1024, .bf16⟩
  | .hbm, ⟨68, _⟩ => ⟨S1536x1024, .bf16⟩
  | .hbm, ⟨69, _⟩ => ⟨S1, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S1536x1024, .i1⟩
  | .hbm, ⟨74, _⟩ => ⟨S1536x1024, .i1⟩
  | .hbm, ⟨75, _⟩ => ⟨S1536x1024, .bf16⟩
  | .hbm, ⟨76, _⟩ => ⟨S1536x1024, .bf16⟩
  | .hbm, ⟨77, _⟩ => ⟨S1, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S1536x1024, .i1⟩
  | .hbm, ⟨82, _⟩ => ⟨S1x1536x1024, .bf16⟩
  | .hbm, ⟨83, _⟩ => ⟨S1536x1024, .bf16⟩
  | .hbm, ⟨84, _⟩ => ⟨S1536x1024, .bf16⟩
  | .hbm, ⟨85, _⟩ => ⟨S1, .i32⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S1536x1024, .i1⟩
  | .hbm, ⟨90, _⟩ => ⟨S1536x1024, .i1⟩
  | .hbm, ⟨91, _⟩ => ⟨S1536x1024, .bf16⟩
  | .hbm, ⟨92, _⟩ => ⟨S1536x1024, .bf16⟩
  | .hbm, ⟨93, _⟩ => ⟨S1, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S1536x1024, .i1⟩
  | .hbm, ⟨98, _⟩ => ⟨S1536x1024, .i1⟩
  | .hbm, ⟨99, _⟩ => ⟨S1536x1024, .bf16⟩
  | .hbm, ⟨100, _⟩ => ⟨S1536x1024, .bf16⟩
  | .hbm, ⟨101, _⟩ => ⟨S1536x1024, .f32⟩
  | .hbm, ⟨102, _⟩ => ⟨S1536x1024, .f32⟩
  | .hbm, ⟨103, _⟩ => ⟨S1536x1024, .f32⟩
  | _, _ => ⟨S11520x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c_9 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_10 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩

abbrev nD : Nat := 1
abbrev τ : Topo := Topo.v7x

variable {F : FTy → Type} [FloatOps F]
-- ==== Proof.Merge.Body.lean ====
/- What the body of the gated merge's gradient leaves in its three output buffers, as its named payloads of the six
   input blocks: one store of the whole block each, the third added to what the buffer held. -/
module

public import proofs.«01_k».proof.Proof.Gen.KernelIdeal.Value

@[expose] public section

set_option maxRecDepth 16384

noncomputable section

namespace Cert.Proof.Merge

open Cert.KernelIdeal Cert.KernelIdeal.Gen Cert.KernelIdeal.Value Idealize.ShloMosaic Idealize.ShloMosaic.TcCoe
  Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S512x1024 .f32) (h2 : a2.IsWhole) (a3 : Memref sig .tc .vmem S1024x1024 .bf16) (h3 : a3.IsWhole)
  (a4 : Memref sig .tc .vmem S512x1024 .bf16) (h4 : a4.IsWhole) (a5 : Memref sig .tc .vmem S1x1024 .f32) (h5 : a5.IsWhole)
  (a6 : Memref sig .tc .vmem S512x1024 .f32) (h6 : a6.IsWhole) (a7 : Memref sig .tc .vmem S512x1024 .f32) (h7 : a7.IsWhole)
  (a9 : Memref sig .tc .vmem S1x512x1024 .bf16) (h9 : a9.IsWhole) (a10 : Memref sig .tc .vmem S512x1024 .bf16) (h10 : a10.IsWhole)
  (a11 : Memref sig .tc .vmem S8x1024 .f32) (h11 : a11.IsWhole)
  (x0 : Vec F S512x1024 .f32) (x1 : Vec F S1024x1024 .bf16) (x2 : Vec F S512x1024 .bf16) (x3 : Vec F S1x1024 .f32)
  (x4 x5 : Vec F S512x1024 .f32) (xo : Vec F S8x1024 .f32)

/-- The branch's gradient, at a first row block and at a later one. -/
theorem out6_A (hc) : out0_A_6 c i a2 h2 a3 h3 a4 h4 a5 h5 a6 h6 a7 h7 a9 h9 a10 h10 a11 h11 hc x0 x1 x2 x3 x4 x5
    = k0_pay7 x2 x3 x0 x1 := by
  unfold out0_A_6
  rw [View.read_writes_eq_canon _ _ _ (cover0_A_6 c i a2 h2 a3 h3 a4 h4 a5 h5 a6 h6 a7 h7 a9 h9 a10 h10 a11 h11 hc x0 x1 x2 x3 x4 x5)]
  unfold kernelRun0_A
  dsimp only
  sl_unfold_words
  rw [View.canon_unit_zero hz3]
  simp only [View.readAt_eq_ld, h2.read_unread, h3.read_unread, h4.read_unread, h5.read_unread, View.ld_unit_zero (S := S512x1024) hz2,
    View.ld_unit_zero (S := S1024x1024) hz2, View.ld_unit_zero (S := S1x1024) hz2, View.ld_unit_zero (S := S8x1024) hz2]

theorem out6_B (hc) : out0_B_6 c i a2 h2 a3 h3 a4 h4 a5 h5 a6 h6 a7 h7 a9 h9 a10 h10 a11 h11 hc x0 x1 x2 x3 x4 x5 xo
    = k0_pay7 x2 x3 x0 x1 := by
  unfold out0_B_6
  rw [View.read_writes_eq_canon _ _ _ (cover0_B_6 c i a2 h2 a3 h3 a4 h4 a5 h5 a6 h6 a7 h7 a9 h9 a10 h10 a11 h11 hc x0 x1 x2 x3 x4 x5 xo)]
  unfold kernelRun0_B
  dsimp only
  sl_unfold_words
  rw [View.canon_unit_zero hz3]
  simp only [View.readAt_eq_ld, h2.read_unread, h3.read_unread, h4.read_unread, h5.read_unread, View.ld_unit_zero (S := S512x1024) hz2,
    View.ld_unit_zero (S := S1024x1024) hz2, View.ld_unit_zero (S := S1x1024) hz2, View.ld_unit_zero (S := S8x1024) hz2]

/-- The gate's gradient. -/
theorem out7_A (hc) : out0_A_7 c i a2 h2 a3 h3 a4 h4 a5 h5 a6 h6 a7 h7 a9 h9 a10 h10 a11 h11 hc x0 x1 x2 x3 x4 x5
    = k0_pay3 (k0_pay5 x2 x3) (k0_pay8 i x2 x3 x4 x5 x0 x1) (Scalar.ofBits .f32 0x3F800000#32) := by
  unfold out0_A_7
  rw [View.read_writes_eq_canon _ _ _ (cover0_A_7 c i a2 h2 a3 h3 a4 h4 a5 h5 a6 h6 a7 h7 a9 h9 a10 h10 a11 h11 hc x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, View.ld_unit_zero (S := S512x1024) hz2,
    View.ld_unit_zero (S := S1024x1024) hz2, View.ld_unit_zero (S := S1x1024) hz2, View.ld_unit_zero (S := S8x1024) hz2]

theorem out7_B (hc) : out0_B_7 c i a2 h2 a3 h3 a4 h4 a5 h5 a6 h6 a7 h7 a9 h9 a10 h10 a11 h11 hc x0 x1 x2 x3 x4 x5 xo
    = k0_pay3 (k0_pay5 x2 x3) (k0_pay8 i x2 x3 x4 x5 x0 x1) (Scalar.ofBits .f32 0x3F800000#32) := by
  unfold out0_B_7
  rw [View.read_writes_eq_canon _ _ _ (cover0_B_7 c i a2 h2 a3 h3 a4 h4 a5 h5 a6 h6 a7 h7 a9 h9 a10 h10 a11 h11 hc x0 x1 x2 x3 x4 x5 xo)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S512x1024) hz2,
    View.ld_unit_zero (S := S1024x1024) hz2, View.ld_unit_zero (S := S1x1024) hz2, View.ld_unit_zero (S := S8x1024) hz2]

/-- The bias's gradient: the rows' sum added to zero at a first row block, to what the buffer held at a later one. -/
theorem out8_A (hc) : out0_A_8 c i a2 h2 a3 h3 a4 h4 a5 h5 a6 h6 a7 h7 a9 h9 a10 h10 a11 h11 hc x0 x1 x2 x3 x4 x5
    = k0_pay2 (k0_pay5 x2 x3) (k0_pay8 i x2 x3 x4 x5 x0 x1) (Scalar.ofBits .f32 0x3F800000#32) (k0_pay4 (F := F)) := by
  unfold out0_A_8
  rw [View.read_writes_eq_canon _ _ _ (cover0_A_8 c i a2 h2 a3 h3 a4 h4 a5 h5 a6 h6 a7 h7 a9 h9 a10 h10 a11 h11 hc x0 x1 x2 x3 x4 x5)]
  unfold kernelRun0_A
  dsimp only
  sl_unfold_words
  rw [View.canon_cons_unit_zero (S := S8x1024) hz2, View.readCov_unit_zero (S := S8x1024) _ hz2]
  simp only [View.readAt_eq_ld, h2.read_unread, h3.read_unread, h4.read_unread, h5.read_unread, h6.read_unread, h7.read_unread, View.ld_unit_zero (S := S512x1024) hz2,
    View.ld_unit_zero (S := S1024x1024) hz2, View.ld_unit_zero (S := S1x1024) hz2, View.ld_unit_zero (S := S8x1024) hz2]

theorem out8_B (hc) : out0_B_8 c i a2 h2 a3 h3 a4 h4 a5 h5 a6 h6 a7 h7 a9 h9 a10 h10 a11 h11 hc x0 x1 x2 x3 x4 x5 xo
    = k0_pay2 (k0_pay5 x2 x3) (k0_pay8 i x2 x3 x4 x5 x0 x1) (Scalar.ofBits .f32 0x3F800000#32) xo := by
  unfold out0_B_8
  rw [View.read_writes_eq_canon _ _ _ (cover0_B_8 c i a2 h2 a3 h3 a4 h4 a5 h5 a6 h6 a7 h7 a9 h9 a10 h10 a11 h11 hc x0 x1 x2 x3 x4 x5 xo)]
  unfold kernelRun0_B
  dsimp only
  sl_unfold_words
  rw [View.canon_unit_zero hz2]
  simp only [View.readAt_eq_ld, h2.read_unread, h3.read_unread, h4.read_unread, h5.read_unread, h6.read_unread, h7.read_unread, h11.read_unread, View.ld_unit_zero (S := S512x1024) hz2,
    View.ld_unit_zero (S := S1024x1024) hz2, View.ld_unit_zero (S := S1x1024) hz2, View.ld_unit_zero (S := S8x1024) hz2]

end Cert.Proof.Merge

end
-- ==== Proof.Merge.Ref.lean ====
/- The reference of the gated merge's gradient, read at an index: `jax.vjp`'s operations as sums and products of the
   arguments' entries. -/
module

public import proofs.«01_k».proof.Proof.Gen.ReferenceIdeal.Read
public import Idealize.ShloMosaic.Lib.Pointwise

@[expose] public section

set_option maxRecDepth 16384

noncomputable section

namespace Cert.Proof.Merge

open Cert.ReferenceIdeal Cert.ReferenceIdeal.Gen Cert.ReferenceIdeal.Read Idealize.ShloMosaic Idealize.ShloMosaic.TcCoe
  Idealize.SL.Sem

variable (d : FVec Ideal S2048x1024 .f32) (w : FVec Ideal S1024x1024 .f32) (p : FVec Ideal S2048x11296 .f32)
  (b : FVec Ideal S2048 .f32) (u v : FVec Ideal S2048x1024 .f32) (q : FVec Ideal S2048x11520 .bf16)

/-- The gate of row `i`, column `k`: the sigmoid of `proj`'s gate column and its bias. -/
def gate (i k : Fin 2048) : EReal :=
  Ideal.div 1 (1 + Ideal.exp (-(p (ix2 i ⟨9248 + k.val, by omega⟩) + b (ix1 k))))

/-- The gradient reaching the merged branches: row `i` of the cotangent against row `l` of `w_out`. -/
def dm (i : Fin 2048) (l : Fin 1024) : EReal := ∑ n : Fin 1024, d (ix2 i n) * w (ix2 l n)

/-- The column of a branch that gate column `k` multiplies. -/
def half (k : Fin 2048) : Fin 1024 := ⟨k.val % 1024, Nat.mod_lt _ (by decide)⟩

/-- The branch that gate column `k` multiplies, at row `i`. -/
def branch (i k : Fin 2048) : EReal := if k.val < 1024 then u (ix2 i (half k)) else v (ix2 i (half k))

/-- The gradient of the gate's argument. -/
def dgate (i k : Fin 2048) : EReal :=
  dm d w i (half k) * branch u v i k * gate p b i k * (1 - gate p b i k)

/-- The reference's sigmoid. -/
theorem ref9 (i k : Fin 2048) : val_main_v9 (F := Ideal) p b (ix2 i k) = gate p b i k := by
  unfold gate
  pointwise [val_main_v9, val_main_v8, val_main_v7, val_main_v6, val_main_v5, val_main_v4, val_main_v3, val_main_v2,
    val_main_v1, val_main_v0, val_main_cst, val_main_cst_0]

/-- The reference's product with `w_out` transposed. -/
theorem ref19 (i : Fin 2048) (l : Fin 1024) : val_main_v19 (F := Ideal) d w (ix2 i l) = dm d w i l := by
  unfold dm
  pointwise [val_main_v19]

/-- The gate's gradient in the reference: the two branches' products, each padded with zeros to the gate's columns. -/
theorem ref27 (i k : Fin 2048) : val_main_v27 (F := Ideal) d w p b u v (ix2 i k) = dgate d w p b u v i k := by
  pointwise [val_main_v27, val_main_v26, val_main_v25, val_main_v24, val_main_v22, val_main_v21, val_main_v12, val_main_v11,
    val_main_v10, val_main_cst_1, val_main_cst_2, val_main_cst_3, ref9, ref19, val_main_v13, val_main_v15]
  unfold dgate branch
  by_cases h : k.val < 1024
  · have e : half k = ⟨k.val, h⟩ := Fin.ext (Nat.mod_eq_of_lt h)
    rw [dif_neg (by omega), dif_pos h, if_pos h, e, zero_add, ← mul_assoc]
  · have e : half k = ⟨k.val - 1024, by omega⟩ := Fin.ext (by show k.val % 1024 = k.val - 1024; omega)
    rw [dif_pos (by omega), dif_neg h, if_neg h, e, add_zero, ← mul_assoc]

/-- The gradient of branch `j`, at row `i` and column `l`. -/
def dbr (j : Fin 2) (i : Fin 2048) (l : Fin 1024) : EReal := dm d w i l * gate p b i ⟨j.val * 1024 + l.val, by omega⟩

/-- The two branches' gradients in the reference. -/
theorem ref38 (j : Fin 2) (i : Fin 2048) (l : Fin 1024) :
    val_main_v38 (F := Ideal) d w p b (ix3 j i l) = dbr d w p b j i l := by
  pointwise [val_main_v38, val_main_v37, val_main_v36, val_main_v35, val_main_v20, val_main_v23, ref9, ref19, val_main_v13,
    val_main_v15]
  unfold dbr
  by_cases h : j.val < 1
  · rw [dif_pos h, mul_comm]
    exact congrArg (fun k => dm d w i l * gate p b i k) (Fin.ext (by show l.val = j.val * 1024 + l.val; omega))
  · rw [dif_neg h, mul_comm]
    exact congrArg (fun k => dm d w i l * gate p b i k) (Fin.ext (by show 1024 + l.val = j.val * 1024 + l.val; omega))

/-- The shared gradient array: the gate's columns replaced, the others as given. -/
theorem ref34_in (i : Fin 2048) (l : Fin 11520) (h : 9216 ≤ l.val) (h' : l.val < 11264) :
    val_main_v34 (F := Ideal) d w p b u v q (ix2 i l) = dgate d w p b u v i ⟨l.val - 9216, by omega⟩ := by
  pointwise [val_main_v34, val_main_v33, val_main_v32, val_main_v31]
  rw [dif_neg (by omega), dif_pos (by omega), ref27]

theorem ref34_out (i : Fin 2048) (l : Fin 11520) (h : l.val < 9216 ∨ 11264 ≤ l.val) :
    val_main_v34 (F := Ideal) d w p b u v q (ix2 i l) = q (ix2 i l) := by
  pointwise [val_main_v34, val_main_v33, val_main_v32, val_main_v31]
  by_cases h9 : l.val < 9216
  · rw [dif_pos h9]
  · rw [dif_neg h9, dif_neg (by omega)]
    exact congrArg (fun k => q (ix2 i k)) (Fin.ext (by show 11264 + (l.val - 9216 - 2048) = l.val; omega))

/-- The bias's gradient, in each of the eight rows. -/
theorem ref40 (r : Fin 8) (k : Fin 2048) :
    val_main_v40 (F := Ideal) d w p b u v (ix2 r k) = ∑ i : Fin 2048, dgate d w p b u v i k := by
  pointwise [val_main_v40, val_main_v39, val_main_v30, val_main_v29, val_main_v28, ref27, val_main_cst_5, val_main_cst_4]
  exact Fin.sum_univ_one _

end Cert.Proof.Merge

end
-- ==== Proof.Merge.Value.lean ====
/- The three arrays the gated merge's gradient leaves, block by block, against the reference's. -/
module

public import proofs.«01_k».proof.Proof.Merge.Body
public import proofs.«01_k».proof.Proof.Merge.Ref
public import Idealize.ShloMosaic.Lib.Pipeline.ValueKit
public import Idealize.ShloMosaic.Lib.Claim

@[expose] public section

set_option maxRecDepth 16384

noncomputable section

namespace Cert.Proof.Merge

open Cert.KernelIdeal Cert.KernelIdeal.Gen Cert.KernelIdeal.Value Idealize.ShloMosaic Idealize.ShloMosaic.TcCoe
  Idealize.SL.Sem

/-- Which block of its array each window takes at point `t`: row block `t % 4`, gate half `t / 4`. -/
theorem idx : ∀ t : Fin grid0.N, win0_0.index t = ![t.val % 4, 0] ∧ win0_1.index t = ![0, 0]
    ∧ win0_2.index t = ![t.val % 4, 9 + t.val / 4] ∧ win0_3.index t = ![0, t.val / 4] ∧ win0_4.index t = ![t.val % 4, 0]
    ∧ win0_5.index t = ![t.val % 4, 0] ∧ win0_6.index t = ![t.val / 4, t.val % 4, 0]
    ∧ win0_7.index t = ![t.val % 4, 9 + t.val / 4] ∧ win0_8.index t = ![0, t.val / 4] := by decide +kernel

/-- The body's test of the first half. -/
theorem half_eq : ∀ t : Fin grid0.N, Scalar.cmpi .eq (BitVec.ofNat 32 (grid0.coords t 0).val) 0#32
    = if t.val < 4 then 1#1 else 0#1 := by decide +kernel

variable (m : (ℓ : Loc nD τ sig) → Buf (Elt Ideal) ℓ) (c : Dev nD)

/-- The arguments at device `c`. -/
abbrev Ad : FVec Ideal S2048x1024 .f32 := m ((c : Thread nD τ).loc main_arg0)
abbrev Aw : FVec Ideal S1024x1024 .f32 := m ((c : Thread nD τ).loc main_arg1)
abbrev Ap : FVec Ideal S2048x11296 .f32 := m ((c : Thread nD τ).loc main_arg2)
abbrev Ab : FVec Ideal S2048 .f32 := m ((c : Thread nD τ).loc main_arg3)
abbrev Au : FVec Ideal S2048x1024 .f32 := m ((c : Thread nD τ).loc main_arg4)
abbrev Av : FVec Ideal S2048x1024 .f32 := m ((c : Thread nD τ).loc main_arg5)
abbrev Aq : FVec Ideal S2048x11520 .bf16 := m ((c : Thread nD τ).loc main_arg6)

/-- Row `r` of point `t`'s row block, and column `l` of its gate half. -/
def row (t : Fin grid0.N) (r : Fin 512) : Fin 2048 := ⟨512 * (t.val % 4) + r.val, by omega⟩
def col (t : Fin grid0.N) (l : Fin 1024) : Fin 2048 :=
  ⟨1024 * (t.val / 4) + l.val, by have := (show t.val < 8 from t.isLt); omega⟩

theorem blk0 (t : Fin grid0.N) (r : Fin 512) (l : Fin 1024) :
    iblk m c 0 t (ix2 r l) = Ad m c (ix2 (row t r) l) := by
  unfold row; blk_ext [iblk, V, idx t]

theorem blk1 (t : Fin grid0.N) (r l : Fin 1024) : iblk m c 1 t (ix2 r l) = Aw m c (ix2 r l) := by
  blk_ext! [iblk, V, idx t]

theorem blk3 (t : Fin grid0.N) (l : Fin 1024) : iblk m c 3 t (ix2 0 l) = Ab m c (ix1 (col t l)) := by
  unfold col; blk_ext! [iblk, V, idx t]

theorem blk4 (t : Fin grid0.N) (r : Fin 512) (l : Fin 1024) :
    iblk m c 4 t (ix2 r l) = Au m c (ix2 (row t r) l) := by
  unfold row; blk_ext [iblk, V, idx t]

theorem blk5 (t : Fin grid0.N) (r : Fin 512) (l : Fin 1024) :
    iblk m c 5 t (ix2 r l) = Av m c (ix2 (row t r) l) := by
  unfold row; blk_ext [iblk, V, idx t]

/-- The packed projection's gate columns, which lie 32 columns further right in `proj`. -/
theorem packed (i : Fin 2048) (j : Fin 11520) (h : 9216 ≤ j.val) (h' : j.val < 11264) :
    V m c main_v6 (ix2 i j) = Ap m c (ix2 i ⟨j.val + 32, by omega⟩) := by
  unfold V
  after_results
  pointwise
  refine (dif_neg (show ¬ j.val < 9216 by omega)).trans ((dif_pos (show j.val - 9216 < 2048 by omega)).trans ?_)
  generalize hk : (⟨j.val - 9216, _⟩ : Fin 2048) = k
  replace hk : k.val = j.val - 9216 := (congrArg Fin.val hk).symm
  repeat first
    | rw [StableHlo.unary_result]
    | (rw [StableHlo.unary_result_ne]; rotate_left; decide)
    | (rw [StableHlo.nullary_result_ne]; rotate_left; decide)
  pointwise
  exact congrArg (fun k => Ap m c (ix2 i k)) (Fin.ext (by show 9248 + k.val = j.val + 32; omega))

theorem blk2 (t : Fin grid0.N) (r : Fin 512) (l : Fin 1024) :
    X0_2 m c t (ix2 r l) = Ap m c (ix2 (row t r) ⟨9248 + (col t l).val, by omega⟩) := by
  have ht : t.val < 8 := t.isLt
  refine Eq.trans ?_ ((packed m c (row t r) ⟨9216 + (col t l).val, by omega⟩ (by simp) (by show 9216 + _ < 11264; omega)).trans ?_)
  · unfold X0_2 Pipeline.Window.fill
    rw [dif_pos (moved0_2 t (ix2 r l))]
    show V m c main_v6 _ = _
    congr 1
    blk_ext [idx t, row, col]
  · exact congrArg (fun k => Ap m c (ix2 (row t r) k)) (Fin.ext (by show 9216 + _ + 32 = 9248 + _; omega))

/-- The payloads at an index: the gate, the gradient through `w_out`, and the gate's gradient. -/
theorem pay5 (t : Fin grid0.N) (r : Fin 512) (l : Fin 1024) :
    k0_pay5 (X0_2 m c t) (iblk m c 3 t) (ix2 r l) = gate (Ap m c) (Ab m c) (row t r) (col t l) := by
  unfold gate
  pointwise [k0_pay5]
  rw [blk2, blk3, zero_sub]

theorem pay6 (t : Fin grid0.N) (r : Fin 512) (l : Fin 1024) :
    k0_pay6 (iblk m c 0 t) (iblk m c 1 t) (ix2 r l) = dm (Ad m c) (Aw m c) (row t r) l := by
  unfold dm
  pointwise [k0_pay6]
  exact Finset.sum_congr rfl fun n _ => by rw [blk0, blk1]

theorem pay7 (t : Fin grid0.N) (r : Fin 512) (l : Fin 1024) :
    k0_pay7 (X0_2 m c t) (iblk m c 3 t) (iblk m c 0 t) (iblk m c 1 t) (ix3 0 r l)
      = dm (Ad m c) (Aw m c) (row t r) l * gate (Ap m c) (Ab m c) (row t r) (col t l) := by
  pointwise [k0_pay7, pay5, pay6]

/-- The branch point `t` takes. -/
theorem branch_col (t : Fin grid0.N) (r : Fin 512) (l : Fin 1024) :
    branch (Au m c) (Av m c) (row t r) (col t l) = if t.val < 4 then Au m c (ix2 (row t r) l) else Av m c (ix2 (row t r) l) := by
  have ht : t.val < 8 := t.isLt
  have e : half (col t l) = l := Fin.ext (by show (1024 * (t.val / 4) + l.val) % 1024 = l.val; omega)
  unfold branch
  rw [e]
  by_cases h : t.val < 4
  · rw [if_pos h, if_pos (by show 1024 * (t.val / 4) + l.val < 1024; omega)]
  · rw [if_neg h, if_neg (by show ¬ 1024 * (t.val / 4) + l.val < 1024; omega)]

theorem pay1 (t : Fin grid0.N) (r : Fin 512) (l : Fin 1024) :
    k0_pay1 (k0_pay5 (X0_2 m c t) (iblk m c 3 t))
        (k0_pay8 (grid0.coords t) (X0_2 m c t) (iblk m c 3 t) (iblk m c 4 t) (iblk m c 5 t) (iblk m c 0 t) (iblk m c 1 t))
        (Scalar.ofBits .f32 0x3F800000#32) (ix2 r l)
      = dgate (Ad m c) (Aw m c) (Ap m c) (Ab m c) (Au m c) (Av m c) (row t r) (col t l) := by
  have ht : t.val < 8 := t.isLt
  have e : half (col t l) = l := Fin.ext (by show (1024 * (t.val / 4) + l.val) % 1024 = l.val; omega)
  unfold dgate
  rw [branch_col, e]
  pointwise [k0_pay1, k0_pay8, pay5, pay6, half_eq]
  by_cases h : t.val < 4
  · rw [if_pos h, if_pos h, blk4]; rfl
  · rw [if_neg h, if_neg h, blk5]; rfl

/-- The three payloads each point leaves, over the point's blocks. -/
abbrev left6 (t : Fin grid0.N) := k0_pay7 (X0_2 m c t) (iblk m c 3 t) (iblk m c 0 t) (iblk m c 1 t)
abbrev left7 (t : Fin grid0.N) := k0_pay3 (k0_pay5 (X0_2 m c t) (iblk m c 3 t))
  (k0_pay8 (grid0.coords t) (X0_2 m c t) (iblk m c 3 t) (iblk m c 4 t) (iblk m c 5 t) (iblk m c 0 t) (iblk m c 1 t))
  (Scalar.ofBits .f32 0x3F800000#32)
abbrev left8 (t : Fin grid0.N) := k0_pay2 (k0_pay5 (X0_2 m c t) (iblk m c 3 t))
  (k0_pay8 (grid0.coords t) (X0_2 m c t) (iblk m c 3 t) (iblk m c 4 t) (iblk m c 5 t) (iblk m c 0 t) (iblk m c 1 t))
  (Scalar.ofBits .f32 0x3F800000#32)

theorem outs6 (t : Fin cfg0.N) : (outsAt0 m c t.val t.isLt).1 = left6 m c t := by
  by_cases h : t.val % 4 = 0
  · rw [outsAt0_A m c t h]; dsimp only; rw [out6_A]
  · rw [outsAt0_B m c t h]; dsimp only; rw [out6_B]

theorem outs7 (t : Fin cfg0.N) : (outsAt0 m c t.val t.isLt).2.1 = left7 m c t := by
  by_cases h : t.val % 4 = 0
  · rw [outsAt0_A m c t h]; dsimp only; rw [out7_A]
  · rw [outsAt0_B m c t h]; dsimp only; rw [out7_B]

/-- One point's contribution to the bias gradient, at a column: the sum over its rows. -/
def term8 (t : ℕ) (l : Fin 1024) : EReal :=
  if h : t < grid0.N then
    ∑ r : Fin 512, dgate (Ad m c) (Aw m c) (Ap m c) (Ab m c) (Au m c) (Av m c) (row ⟨t, h⟩ r) (col ⟨t, h⟩ l)
  else 0

theorem pay2 (t : Fin grid0.N) (o : FVec Ideal S8x1024 .f32) (a : Fin 8) (l : Fin 1024) :
    left8 m c t o (ix2 a l) = o (ix2 a l) + term8 m c t.val l := by
  unfold term8
  rw [dif_pos t.isLt]
  pointwise [k0_pay2, ← pay1]

theorem pay4 (a : Fin 8) (l : Fin 1024) : k0_pay4 (F := Ideal) (ix2 a l) = 0 := by pointwise [k0_pay4]

/-- The bias gradient's block after a run of four points: the sum of their contributions. -/
theorem outs8 (t : Fin cfg0.N) (ht : t.val % 4 = 3) (a : Fin 8) (l : Fin 1024) :
    (outsAt0 m c t.val t.isLt).2.2 (ix2 a l) = ∑ s : Fin 4, term8 m c (4 * (t.val / 4) + s.val) l := by
  have := Pipeline.eq_sum_of_reset_step_apply (fun n h => (outsAt0 m c n h).2.2) 4 (fun _ => (0 : EReal))
    (fun n j => term8 m c n (j 1))
    (fun t h j => by
      obtain ⟨a, l, rfl⟩ : ∃ (a : Fin 8) (l : Fin 1024), j = ix2 a l := ⟨j 0, j 1, eq_ix2 j⟩
      rw [outsAt0_A m c t h]; dsimp only; rw [out8_A]; refine (pay2 m c t _ a l).trans ?_; rw [pay4]; rfl)
    (fun t h j => by
      obtain ⟨a, l, rfl⟩ : ∃ (a : Fin 8) (l : Fin 1024), j = ix2 a l := ⟨j 0, j 1, eq_ix2 j⟩
      rw [outsAt0_B m c t h]; dsimp only; rw [out8_B]; exact pay2 m c t _ a l) t (ix2 a l)
  rw [this, ht, Finset.sum_range]
  exact zero_add _

/-- The branches' gradients. -/
theorem arr6 : (dats m 0 c).arrAt 6 cfg0.N
    = (Cert.ReferenceIdeal.Read.val_main_v38 (F := Ideal) (Ad m c) (Aw m c) (Ap m c) (Ab m c)) := by
  refine (dats m 0 c).arrAt_eq_of_covers 6 _ (by decide +kernel) fun t hf y => ?_
  blk_simp
  rw [after0_6, outs6]
  obtain ⟨a, r, l, rfl⟩ : ∃ (a : Fin 1) (r : Fin 512) (l : Fin 1024), y = ix3 a r l := ⟨y 0, y 1, y 2, eq_ix3 y⟩
  obtain rfl : a = 0 := Subsingleton.elim _ _
  have e : (win0_6.blk t).view.emb (ix3 0 r l) = ix3 (⟨t.val / 4, by have : t.val < 8 := t.isLt; omega⟩ : Fin 2) (row t r) l := by
    unfold row; blk_ext [idx t]
  rw [e, ref38]
  refine (pay7 m c t r l).trans ?_
  exact congrArg (fun k => _ * gate _ _ _ k) (Fin.ext (by show 1024 * (t.val / 4) + l.val = t.val / 4 * 1024 + l.val; omega))

/-- The shared gradient array: the gate's columns written, the others as the argument held them. -/
theorem arr7 : (dats m 0 c).arrAt 7 cfg0.N
    = (Cert.ReferenceIdeal.Read.val_main_v34 (F := Ideal) (Ad m c) (Aw m c) (Ap m c) (Ab m c) (Au m c) (Av m c) (Aq m c)) := by
  refine (dats m 0 c).arrAt_eq_of_coversWhere_of_agree 7 _ (fun β => 9 ≤ β 1 ∧ β 1 < 11) (by decide +kernel) (fun t hf y => ?_)
    (fun j hj => ?_)
  · have ht : t.val < 8 := t.isLt
    blk_simp
    rw [after0_7, outs7]
    obtain ⟨r, l, hr, hl⟩ : ∃ (r : Fin 512) (l : Fin 1024), (y 0).val = r.val ∧ (y 1).val = l.val :=
      ⟨⟨(y 0).val, (y 0).isLt.trans_le ((cfg0.win 7).xsize_le ..)⟩, ⟨(y 1).val, (y 1).isLt.trans_le ((cfg0.win 7).xsize_le ..)⟩, rfl, rfl⟩
    have e : (win0_7.blk t).view.emb y = ix2 (row t r) (⟨9216 + (col t l).val, by omega⟩ : Fin 11520) := by
      unfold row col; blk_ext [idx t]
    have e' : (cfg0.win 7).xinj (cfg0.grid.coords t) y = ix2 r l := by blk_ext
    rw [e, e', ref34_in _ _ _ _ _ _ _ _ _ (by simp) (by show 9216 + (col t l).val < 11264; omega)]
    refine Eq.trans ?_ ((pay1 m c t r l).trans ?_)
    · pointwise [k0_pay3]
    · exact congrArg (dgate _ _ _ _ _ _ _) (Fin.ext (by show (col t l).val = 9216 + (col t l).val - 9216; omega))
  · blk_simp [Pipeline.Window.cell_apply] at hj
    obtain ⟨i, l, rfl⟩ : ∃ (i : Fin 2048) (l : Fin 11520), j = ix2 i l := ⟨j 0, j 1, eq_ix2 j⟩
    refine Eq.trans ?_ (ref34_out _ _ _ _ _ _ _ i l (by revert hj; show ¬ (9 ≤ l.val / 1024 ∧ l.val / 1024 < 11) → _; omega)).symm
    rw [A_eq]
    show V m c main_v8_1 _ = _
    entry_read
    rfl

/-- The four points of a half together sum over all rows. -/
theorem sum_half (t : Fin grid0.N) (l : Fin 1024) : ∑ s : Fin 4, term8 m c (4 * (t.val / 4) + s.val) l
    = ∑ i : Fin 2048, dgate (Ad m c) (Aw m c) (Ap m c) (Ab m c) (Au m c) (Av m c) i (col t l) := by
  have ht : t.val < 8 := t.isLt
  refine Eq.trans ?_ (Fin.sum_univ_tiles 4 512 (by decide) _).symm
  refine Finset.sum_congr rfl fun s _ => ?_
  unfold term8
  have hs : 4 * (t.val / 4) + s.val < grid0.N := by show _ < 8; omega
  rw [dif_pos hs]
  refine Finset.sum_congr rfl fun r _ => congrArg₂ (dgate _ _ _ _ _ _) (Fin.ext ?_) (Fin.ext ?_)
  · show 512 * ((4 * (t.val / 4) + s.val) % 4) + r.val = s.val * 512 + r.val; omega
  · show 1024 * ((4 * (t.val / 4) + s.val) / 4) + l.val = 1024 * (t.val / 4) + l.val; omega

/-- The bias gradient. -/
theorem arr8 : (dats m 0 c).arrAt 8 cfg0.N
    = (Cert.ReferenceIdeal.Read.val_main_v40 (F := Ideal) (Ad m c) (Aw m c) (Ap m c) (Ab m c) (Au m c) (Av m c)) := by
  refine (dats m 0 c).arrAt_eq_of_covers 8 _ (by decide +kernel) fun t hf y => ?_
  blk_simp
  rw [after0_8]
  obtain ⟨a, l, rfl⟩ : ∃ (a : Fin 8) (l : Fin 1024), y = ix2 a l := ⟨y 0, y 1, eq_ix2 y⟩
  have e : (win0_8.blk t).view.emb (ix2 a l) = ix2 a (col t l) := by unfold col; blk_ext [idx t]
  rw [e, ref40]
  exact (outs8 m c t ((flush0_8 t).mp hf) a l).trans (sum_half m c t l)

end Cert.Proof.Merge

end
-- ==== Proof.Merge.Pair.lean ====
/- The gated merge's gradient and its reference side by side: the reference's frame, and the equality of the results. -/
module

public import proofs.«01_k».proof.Defs
public import proofs.«01_k».proof.Proof.Merge.Value
public import proofs.«01_k».proof.Proof.Gen.ReferenceIdeal.Run

@[expose] public section

set_option maxRecDepth 16384

noncomputable section

namespace Cert.Proof.Merge

open Idealize.ShloMosaic Idealize.SL.Sem

/-- The reference leaves its arguments; it has no semaphore. -/
theorem frameR : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩)
    (Cert.ReferenceIdeal.Value.run (F := Ideal) m ρ)

/-- Both programs end with the same three arrays. -/
theorem equal : Cert.algebraic_KernelIdeal_ReferenceIdeal (hKernelIdeal := Cert.KernelIdeal.Gen.facts)
    (hReferenceIdeal := Cert.ReferenceIdeal.Gen.facts) := fun m ρ m' ρ' _ hag =>
  ⟨fun c => Cert.ReferenceIdeal.Read.val_main_v38 (F := Ideal) (Ad m c) (Aw m c) (Ap m c) (Ab m c),
   fun c => Cert.ReferenceIdeal.Read.val_main_v34 (F := Ideal) (Ad m c) (Aw m c) (Ap m c) (Ab m c) (Au m c) (Av m c) (Aq m c),
   fun c => Cert.ReferenceIdeal.Read.val_main_v40 (F := Ideal) (Ad m c) (Aw m c) (Ap m c) (Ab m c) (Au m c) (Av m c),
   (θ_run _ _ _).mono (fun _ h c => ⟨(h c).1.trans (arr6 m c), (h c).2.1.trans (arr7 m c), (h c).2.2.1.trans (arr8 m c),
     (h c).2.2.2⟩) (Cert.KernelIdeal.Value.run_blocks (F := Ideal) m ρ),
   (θ_run _ _ _).mono (fun _ h c => by
     obtain ⟨e0, e1, e2, e3, e4, e5, e6⟩ := hag c
     refine ⟨(h c).1.trans ?_, (h c).2.1.trans ?_, (h c).2.2.1.trans ?_, (h c).2.2.2⟩
     · rw [Cert.ReferenceIdeal.Read.val_main_v38_eq, e0, e1, e2, e3]
     · rw [Cert.ReferenceIdeal.Read.val_main_v34_eq, e0, e1, e2, e3, e4, e5, e6]
     · rw [Cert.ReferenceIdeal.Read.val_main_v40_eq, e0, e1, e2, e3, e4, e5])
     (Cert.ReferenceIdeal.Value.run (F := Ideal) m' ρ')⟩

end Cert.Proof.Merge

end
-- ==== Proof.Ssd.Chunk.lean ====
module

public import Idealize.ShloMosaic.Lib.Pointwise

@[expose] public section

noncomputable section

namespace Cert.Proof.Ssd

/-- One chunk of 128 rows of one group of four heads: the steps `dt`, the running sums `cs` of the steps' decays, the steps'
    slopes `sg`, the rates `a`, the projections `b` and `c` (row, state), the inputs `x` and the output's cotangent `dy`
    (row, head, column), the state `s` entering the chunk and the cotangent `u` of the state leaving it (state, head, column). -/
structure Chunk where
  dt : Fin 128 → Fin 4 → ℝ
  cs : Fin 128 → Fin 4 → ℝ
  sg : Fin 128 → Fin 4 → ℝ
  a : Fin 4 → ℝ
  b : Fin 128 → Fin 128 → ℝ
  c : Fin 128 → Fin 128 → ℝ
  x : Fin 128 → Fin 4 → Fin 64 → ℝ
  dy : Fin 128 → Fin 4 → Fin 64 → ℝ
  s : Fin 128 → Fin 4 → Fin 64 → ℝ
  u : Fin 128 → Fin 4 → Fin 64 → ℝ

namespace Chunk

variable (k : Chunk)

/-- The decay from row `j` to row `i`. -/
def l (r : Fin 4) (i j : Fin 128) : ℝ := if j ≤ i then Real.exp (k.cs i r - k.cs j r) else 0
/-- `C Bᵀ`. -/
def g (i j : Fin 128) : ℝ := ∑ n, k.c i n * k.b j n
/-- What row `j` contributes to row `i`. -/
def m (r : Fin 4) (i j : Fin 128) : ℝ := k.g i j * k.l r i j
/-- The decay from a row to the chunk's end, from its start to a row, and over the whole chunk. -/
def dec (j : Fin 128) (r : Fin 4) : ℝ := Real.exp (k.cs 127 r - k.cs j r)
def ecs (i : Fin 128) (r : Fin 4) : ℝ := Real.exp (k.cs i r)
def el (r : Fin 4) : ℝ := Real.exp (k.cs 127 r)
/-- The inputs weighted by their steps. -/
def xt (j : Fin 128) (r : Fin 4) (p : Fin 64) : ℝ := k.x j r p * k.dt j r
/-- The part of their gradient that comes through the state, and the whole. -/
def t4 (j : Fin 128) (r : Fin 4) (p : Fin 64) : ℝ := (∑ n, k.b j n * k.u n r p) * k.dec j r
def dxdt (j : Fin 128) (r : Fin 4) (p : Fin 64) : ℝ := k.t4 j r p + ∑ i, k.m r i j * k.dy i r p
/-- The gradient of `m`, of the decay's exponent, and of `C Bᵀ`. -/
def dm (r : Fin 4) (i j : Fin 128) : ℝ := ∑ p, k.dy i r p * k.xt j r p
def e (r : Fin 4) (i j : Fin 128) : ℝ := k.dm r i j * k.m r i j
def dg (i j : Fin 128) : ℝ := ∑ r, k.dm r i j * k.l r i j
/-- The gradients of `c`, of `b` and of the state entering the chunk. -/
def dc (i n : Fin 128) : ℝ := ∑ j, k.dg i j * k.b j n + ∑ r, ∑ p, (k.dy i r p * k.ecs i r) * k.s n r p
def db (j n : Fin 128) : ℝ := ∑ i, k.dg i j * k.c i n + ∑ r, ∑ p, (k.xt j r p * k.dec j r) * k.u n r p
def ds (n : Fin 128) (r : Fin 4) (p : Fin 64) : ℝ := k.el r * k.u n r p + ∑ i, k.c i n * (k.dy i r p * k.ecs i r)
/-- The running sums' gradients: from the decays inside the chunk, from those to the state and from it, and from the last row's. -/
def da (i : Fin 128) (r : Fin 4) : ℝ := ∑ j, k.e r i j - ∑ j, k.e r j i
def seg (i : Fin 128) (r : Fin 4) : ℝ :=
  ∑ p, (k.dy i r p * (k.ecs i r * ∑ n, k.c i n * k.s n r p) - k.xt i r p * k.t4 i r p)
def tail (r : Fin 4) : ℝ := ∑ p, (∑ j, k.xt j r p * k.t4 j r p + k.el r * ∑ n, k.s n r p * k.u n r p)
/-- The gradient of a step's decay. -/
def dda (i : Fin 128) (r : Fin 4) : ℝ := ∑ j, (if i ≤ j then k.da j r + k.seg j r else 0) + k.tail r
/-- The gradients of the step's argument, of the rate's logarithm and of the skip weight. -/
def ddt (i : Fin 128) (r : Fin 4) : ℝ := (k.dda i r * k.a r + ∑ p, k.dxdt i r p * k.x i r p) * k.sg i r
def st0 (r : Fin 4) : ℝ := ∑ i, k.dda i r * k.dt i r * k.a r
def st1 (r : Fin 4) : ℝ := ∑ p, ∑ i, k.dy i r p * k.x i r p
/-- What the chunk adds to the state. -/
def add (n : Fin 128) (r : Fin 4) (p : Fin 64) : ℝ := ∑ j, k.b j n * (k.x j r p * (k.dt j r * k.dec j r))

end Chunk

end Cert.Proof.Ssd

end
-- ==== Proof.Ssd.Spec.lean ====
module

public import Idealize.ShloMosaic.Lib.Pointwise
public import proofs.«01_k».proof.Proof.Ssd.Chunk

@[expose] public section

noncomputable section

namespace Cert.Proof.Ssd

open Idealize.ShloMosaic

/-- Row `i` of chunk `c`; head `r` of group `g`; column `p` of that head among the inner columns; group `g`'s column `n` of `B`
    and of `C` in the packed array; and a head's column there. -/
def row (c : Fin 16) (i : Fin 128) : Fin 2048 := ⟨c.val * 128 + i.val, by omega⟩
def head (g : Fin 8) (r : Fin 4) : Fin 32 := ⟨g.val * 4 + r.val, by omega⟩
def inner (g : Fin 8) (r : Fin 4) (p : Fin 64) : Fin 2048 := ⟨(g.val * 4 + r.val) * 64 + p.val, by omega⟩
def state (g : Fin 8) (n : Fin 128) : Fin 1024 := ⟨g.val * 128 + n.val, by omega⟩
def xcol (g : Fin 8) (r : Fin 4) (p : Fin 64) : Fin 4096 := ⟨(g.val * 4 + r.val) * 64 + p.val, by omega⟩
def bcol (g : Fin 8) (n : Fin 128) : Fin 4096 := ⟨2048 + (g.val * 128 + n.val), by omega⟩
def ccol (g : Fin 8) (n : Fin 128) : Fin 4096 := ⟨3072 + (g.val * 128 + n.val), by omega⟩

/-- The arguments as real numbers: the convolved `x`, `B`, `C` side by side, the step's raw values, their bias, the rates'
    logarithms, and the output's cotangent. -/
structure Args where
  X : Fin 2048 → Fin 4096 → ℝ
  T : Fin 2048 → Fin 32 → ℝ
  bi : Fin 32 → ℝ
  al : Fin 32 → ℝ
  Y : Fin 2048 → Fin 2048 → ℝ

namespace Args

variable (k : Args)

/-- The step's argument, the step (its softplus), the softplus' slope, and the rate. -/
def pre (t : Fin 2048) (h : Fin 32) : ℝ := k.T t h + k.bi h
def dt (t : Fin 2048) (h : Fin 32) : ℝ := max (k.pre t h) 0 + Real.log (1 + Real.exp (-|k.pre t h|))
def sg (t : Fin 2048) (h : Fin 32) : ℝ := (1 + Real.exp (-k.pre t h))⁻¹
def a (h : Fin 32) : ℝ := -Real.exp (k.al h)
/-- The sum of the decays of a chunk's rows up to row `i`. -/
def cs (c : Fin 16) (i : Fin 128) (h : Fin 32) : ℝ := ∑ j, if j ≤ i then k.dt (row c j) h * k.a h else 0

/-- Chunk `c` of group `g`, between a state `s` and a state's cotangent `u`. -/
def base (c : Fin 16) (g : Fin 8) (s u : Fin 128 → Fin 4 → Fin 64 → ℝ) : Chunk where
  dt i r := k.dt (row c i) (head g r)
  cs i r := k.cs c i (head g r)
  sg i r := k.sg (row c i) (head g r)
  a r := k.a (head g r)
  b i n := k.X (row c i) (bcol g n)
  c i n := k.X (row c i) (ccol g n)
  x i r p := k.X (row c i) (xcol g r p)
  dy i r p := k.Y (row c i) (inner g r p)
  s := s
  u := u

/-- Chunk number `m`, for any natural number `m`. -/
def nth (m : ℕ) : Fin 16 := ⟨m % 16, Nat.mod_lt _ (by omega)⟩

/-- The state after `m` chunks. -/
def S : ℕ → Fin 8 → Fin 128 → Fin 4 → Fin 64 → ℝ
  | 0, _, _, _, _ => 0
  | m + 1, g, n, r, p => S m g n r p * (k.base (nth m) g 0 0).el r + (k.base (nth m) g 0 0).add n r p

/-- The state's cotangent after `t` steps from the last chunk backwards. -/
def U : ℕ → Fin 8 → Fin 128 → Fin 4 → Fin 64 → ℝ
  | 0, _ => 0
  | t + 1, g => (k.base (nth (15 - t)) g (k.S (15 - t) g) (U t g)).ds

/-- Chunk `c` of group `g` between its own state and its own state's cotangent. -/
def chunk (c : Fin 16) (g : Fin 8) : Chunk := k.base c g (k.S c.val g) (k.U (15 - c.val) g)

theorem nth_val (c : Fin 16) : nth c.val = c := Fin.ext (Nat.mod_eq_of_lt c.isLt)

theorem U_succ (c : Fin 16) (g : Fin 8) : k.U (15 - c.val + 1) g = (k.chunk c g).ds := by
  have e : 15 - (15 - c.val) = c.val := by omega
  show (k.base (nth (15 - (15 - c.val))) g (k.S (15 - (15 - c.val)) g) (k.U (15 - c.val) g)).ds = _
  rw [e, nth_val]; rfl

/-- The sums over all chunks. -/
def st0 (g : Fin 8) (r : Fin 4) : ℝ := ∑ c, (k.chunk c g).st0 r
def st1 (g : Fin 8) (r : Fin 4) : ℝ := ∑ c, (k.chunk c g).st1 r

end Args

/-- The five arrays hold the real numbers of `k`. -/
structure Says (k : Args) (xbc : FVec Ideal ⟨2, ![2048, 4096]⟩ .f32) (raw : FVec Ideal ⟨2, ![2048, 32]⟩ .f32) (bias al : FVec Ideal ⟨1, ![32]⟩ .f32)
    (dy : FVec Ideal ⟨2, ![2048, 2048]⟩ .f32) : Prop where
  hX : ∀ i j, xbc (ix2 i j) = (k.X i j : EReal)
  hT : ∀ i j, raw (ix2 i j) = (k.T i j : EReal)
  hbi : ∀ h, bias (ix1 h) = (k.bi h : EReal)
  hal : ∀ h, al (ix1 h) = (k.al h : EReal)
  hY : ∀ i j, dy (ix2 i j) = (k.Y i j : EReal)

end Cert.Proof.Ssd

end
-- ==== Proof.Ssd.Finite.lean ====
module

public import Idealize.ShloMosaic.Lib.Pointwise
public import proofs.«01_k».proof.Proof.Gen.Pre_finite_ssd
public import proofs.«01_k».proof.Proof.Ssd.Spec

@[expose] public section

noncomputable section

namespace Cert.Proof.Ssd

open Idealize.ShloMosaic

/-- The word of the positive infinity. -/
theorem inf_word : Ideal.ofBits .f32 0x7F800000#32 = ⊤ := by simp [Ideal.ofBits, Ideal.ieee]

/-- An extended real of absolute value below infinity is a real number. -/
theorem real_of_abs_lt (v : EReal) (h : BitVec.ofBool (decide (FloatOps.absf (F := Ideal) (φ := .f32) v < Ideal.ofBits .f32 0x7F800000#32)) = 1#1) :
    v = (v.toReal : EReal) := by
  rw [inf_word] at h
  have h' : max v (-v) < ⊤ := by
    by_contra hn
    have : decide (FloatOps.absf (F := Ideal) (φ := .f32) v < ⊤) = false := decide_eq_false hn
    rw [this] at h
    exact absurd h (by decide)
  refine (EReal.coe_toReal (fun e => ?_) (fun e => ?_)).symm
  · rw [e] at h'; exact absurd h' (by simp)
  · rw [e] at h'; exact absurd h' (by simp)

variable (x0 : FVec Ideal ⟨2, ![2048, 4096]⟩ .f32) (x1 : FVec Ideal ⟨2, ![2048, 32]⟩ .f32) (x2 x3 x4 : FVec Ideal ⟨1, ![32]⟩ .f32)
    (x5 : FVec Ideal ⟨2, ![2048, 2048]⟩ .f32)

/-- The precondition at one index: the five elements it reads there are real numbers. -/
theorem finite_at (t : Fin 2048) (w : Fin 2) (h : Fin 32) (p : Fin 64)
    (H : Cert.Pre_finite_ssd.fn (F := Ideal) x0 x1 x2 x3 x4 x5 (ix4 t w h p) = 1#1) :
    x0 (ix2 t ⟨w.val * 2048 + h.val * 64 + p.val, by omega⟩) = ((x0 (ix2 t ⟨w.val * 2048 + h.val * 64 + p.val, by omega⟩)).toReal : EReal)
    ∧ x5 (ix2 t ⟨h.val * 64 + p.val, by omega⟩) = ((x5 (ix2 t ⟨h.val * 64 + p.val, by omega⟩)).toReal : EReal)
    ∧ x1 (ix2 t h) = ((x1 (ix2 t h)).toReal : EReal) ∧ x2 (ix1 h) = ((x2 (ix1 h)).toReal : EReal)
    ∧ x3 (ix1 h) = ((x3 (ix1 h)).toReal : EReal) := by
  pointwise [Cert.Pre_finite_ssd.fn, Cert.Pre_finite_ssd.fn_part1] at H
  simp only [IntOp.andi_eq_one] at H
  obtain ⟨⟨⟨⟨h0, h5⟩, h1⟩, h2⟩, h3⟩ := H
  exact ⟨real_of_abs_lt _ h0, real_of_abs_lt _ h5, real_of_abs_lt _ h1, real_of_abs_lt _ h2, real_of_abs_lt _ h3⟩

/-- The real numbers that the five arrays hold. -/
def argsOf : Args where
  X i j := (x0 (ix2 i j)).toReal
  T i j := (x1 (ix2 i j)).toReal
  bi h := (x2 (ix1 h)).toReal
  al h := (x3 (ix1 h)).toReal
  Y i j := (x5 (ix2 i j)).toReal

/-- Under the precondition the arrays hold real numbers. -/
theorem says_of (H : Cert.Pre_finite_ssd.fn (F := Ideal) x0 x1 x2 x3 x4 x5 = fun _ => 1#1) :
    Says (argsOf x0 x1 x2 x3 x5) x0 x1 x2 x3 x5 where
  hX i j := by
    have h := (finite_at x0 x1 x2 x3 x4 x5 i ⟨j.val / 2048, by omega⟩ ⟨j.val % 2048 / 64, by omega⟩ ⟨j.val % 64, by omega⟩ (congrFun H _)).1
    have e : (⟨j.val / 2048 * 2048 + j.val % 2048 / 64 * 64 + j.val % 64, by omega⟩ : Fin 4096) = j := Fin.ext (by simp; omega)
    simp only [e] at h
    exact h
  hT i j := (finite_at x0 x1 x2 x3 x4 x5 i 0 j 0 (congrFun H _)).2.2.1
  hbi h := (finite_at x0 x1 x2 x3 x4 x5 0 0 h 0 (congrFun H _)).2.2.2.1
  hal h := (finite_at x0 x1 x2 x3 x4 x5 0 0 h 0 (congrFun H _)).2.2.2.2
  hY i j := by
    have h := (finite_at x0 x1 x2 x3 x4 x5 i 0 ⟨j.val / 64, by omega⟩ ⟨j.val % 64, by omega⟩ (congrFun H _)).2.1
    have e : (⟨j.val / 64 * 64 + j.val % 64, by omega⟩ : Fin 2048) = j := Fin.ext (by simp; omega)
    simp only [e] at h
    exact h

end Cert.Proof.Ssd

end
-- ==== Proof.Ssd.Ops.lean ====
/- One group of heads (four heads of 64 columns) in one chunk of 128 rows of the gradient of the chunked scan, written
   with the kernel's vector operations: what the body stores for the group, of the group's slices of its input blocks. -/
module

public import proofs.«01_k».proof.Proof.Gen.Kernel2Ideal.Frame

@[expose] public section

set_option maxRecDepth 16384

noncomputable section

namespace Cert.Proof.Ssd

open Cert.Kernel2Ideal Cert.Kernel2Ideal.Gen Idealize.ShloMosaic Idealize.ShloMosaic.TcCoe Idealize.SL.Sem

variable {F : FTy → Type} [FloatOps F]

/-- The zero word. -/
abbrev z32 : F .f32 := Scalar.ofBits .f32 0x00000000#32

/-- Which of the 256 columns lie in `[lo, hi)`. -/
def cols (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- The same at each of 128 rows. -/
def colsQ (lo hi : BitVec 32) : IVec S128x256 1 :=
  broadcastTo S128x256 (shapeCast S1x256 (cols lo hi) shapeCasts_S1x256_S1x256) broadcasts_S1x256_S128x256

/-- The same at each of 8 rows. -/
def cols8 (lo hi : BitVec 32) : IVec S8x256 1 :=
  broadcastTo S8x256 (shapeCast S1x256 (cols lo hi) shapeCasts_S1x256_S1x256) broadcasts_S1x256_S8x256

/-- Column `0`, `1`, `2`, `3` of an array of 128 lanes. -/
def lane0 (v : FVec F S128x128 .f32) : FVec F S128x1 .f32 :=
  shapeCast S128x1 (extractStridedSlice S128x1 ![0, 0] v slices_S128x128_o0_0_S128x1) shapeCasts_S128x1_S128x1
def lane1 (v : FVec F S128x128 .f32) : FVec F S128x1 .f32 :=
  shapeCast S128x1 (extractStridedSlice S128x1 ![0, 1] v slices_S128x128_o0_1_S128x1) shapeCasts_S128x1_S128x1
def lane2 (v : FVec F S128x128 .f32) : FVec F S128x1 .f32 :=
  shapeCast S128x1 (extractStridedSlice S128x1 ![0, 2] v slices_S128x128_o0_2_S128x1) shapeCasts_S128x1_S128x1
def lane3 (v : FVec F S128x128 .f32) : FVec F S128x1 .f32 :=
  shapeCast S128x1 (extractStridedSlice S128x1 ![0, 3] v slices_S128x128_o0_3_S128x1) shapeCasts_S128x1_S128x1

/-- Lane `r` of each row repeated over the 64 columns of head `r`. -/
def expand (v : FVec F S128x128 .f32) : FVec F S128x256 .f32 :=
  select (colsQ 192#32 256#32) (broadcastTo S128x256 (lane3 v) broadcasts_S128x1_S128x256)
    (select (colsQ 128#32 192#32) (broadcastTo S128x256 (lane2 v) broadcasts_S128x1_S128x256)
      (select (colsQ 64#32 128#32) (broadcastTo S128x256 (lane1 v) broadcasts_S128x1_S128x256)
        (select (colsQ 0#32 64#32) (broadcastTo S128x256 (lane0 v) broadcasts_S128x1_S128x256)
          (broadcast S128x256 z32))))

/-- The same of an array of 8 rows. -/
def expand8 (v : FVec F S8x128 .f32) : FVec F S8x256 .f32 :=
  select (cols8 192#32 256#32) (broadcastTo S8x256 (shapeCast S8x1 (extractStridedSlice S8x1 ![0, 3] v slices_S8x128_o0_3_S8x1) shapeCasts_S8x1_S8x1) broadcasts_S8x1_S8x256)
    (select (cols8 128#32 192#32) (broadcastTo S8x256 (shapeCast S8x1 (extractStridedSlice S8x1 ![0, 2] v slices_S8x128_o0_2_S8x1) shapeCasts_S8x1_S8x1) broadcasts_S8x1_S8x256)
      (select (cols8 64#32 128#32) (broadcastTo S8x256 (shapeCast S8x1 (extractStridedSlice S8x1 ![0, 1] v slices_S8x128_o0_1_S8x1) shapeCasts_S8x1_S8x1) broadcasts_S8x1_S8x256)
        (select (cols8 0#32 64#32) (broadcastTo S8x256 (shapeCast S8x1 (extractStridedSlice S8x1 ![0, 0] v slices_S8x128_o0_0_S8x1) shapeCasts_S8x1_S8x1) broadcasts_S8x1_S8x256)
          (broadcast S8x256 z32))))

/-- The row of a head's skip weights, from the two rows of per-head constants. -/
def skipRow (vv : FVec F S8x128 .f32) : FVec F S1x256 .f32 := extractStridedSlice S1x256 ![1, 0] (expand8 vv) slices_S8x256_o1_0_S1x256

/-- The decay rate of each head: minus the exponential of the first row of constants. -/
def rate (vv : FVec F S8x128 .f32) : FVec F S1x128 .f32 :=
  subf (broadcast S1x128 z32) (exp (extractStridedSlice S1x128 ![0, 0] vv slices_S8x128_o0_0_S1x128))

/-- The last row of the expanded sums. -/
def lastRow (cs : FVec F S128x128 .f32) : FVec F S1x256 .f32 := extractStridedSlice S1x256 ![127, 0] (expand cs) slices_S128x256_o127_0_S1x256
def ecs (cs : FVec F S128x128 .f32) : FVec F S128x256 .f32 := exp (expand cs)
def dec (cs : FVec F S128x128 .f32) : FVec F S128x256 .f32 :=
  exp (subf (broadcastTo S128x256 (lastRow cs) broadcasts_S1x256_S128x256) (expand cs))
def elast (cs : FVec F S128x128 .f32) : FVec F S1x256 .f32 := exp (lastRow cs)

/-- The product of two matrices of bf16 words, in f32. -/
def mmBM (a b : FVec F S128x128 .f32) : FVec F S128x128 .f32 :=
  matmul dot_S128x128_S128x128_S128x128_1_1_0_0_n_n none (truncf .bf16 a bitsLt_bf16_f32) (truncf .bf16 b bitsLt_bf16_f32) (constant S128x128 .f32 0x00000000#32)
def mmWide (a : FVec F S128x128 .f32) (b : FVec F S128x256 .f32) : FVec F S128x256 .f32 :=
  matmul dot_S128x128_S128x256_S128x256_1_0_0_1_n_n none (truncf .bf16 a bitsLt_bf16_f32) (truncf .bf16 b bitsLt_bf16_f32) (constant S128x256 .f32 0x00000000#32)

/-- The lower triangle of a chunk. -/
def tri : IVec S128x128 1 :=
  cmpi .sle (iota .tc S128x128 32 [1] iota_S128x128_d1_w32) (iota .tc S128x128 32 [0] iota_S128x128_d0_w32)

/-- The decay from row to row of one head, from the head's sums as a column. -/
def decays (col : FVec F S128x1 .f32) : FVec F S128x128 .f32 :=
  exp (select tri
    (subf (broadcastTo S128x128 col broadcasts_S128x1_S128x128)
      (transpose S128x128 [1, 0] (broadcastTo S128x128 col broadcasts_S128x1_S128x128) transposes_S128x128_p1_0_S128x128))
    (broadcast S128x128 (Scalar.ofBits .f32 0xFF800000#32)))

/-- The state's part of the gradient of the weighted inputs. -/
def t4 (cs b : FVec F S128x128 .f32) (ds : FVec F S128x256 .f32) : FVec F S128x256 .f32 := mulf (mmWide b ds) (dec cs)

/-- The four heads' matrices `C Bᵀ` times decay, one below the other, in bf16. -/
def mAll (cs b c : FVec F S128x128 .f32) : FVec F S512x128 .bf16 :=
  concatenate S512x128 0 [⟨S128x128, truncf .bf16 (mulf (mmBM c b) (decays (lane0 cs))) bitsLt_bf16_f32⟩,
    ⟨S128x128, truncf .bf16 (mulf (mmBM c b) (decays (lane1 cs))) bitsLt_bf16_f32⟩,
    ⟨S128x128, truncf .bf16 (mulf (mmBM c b) (decays (lane2 cs))) bitsLt_bf16_f32⟩,
    ⟨S128x128, truncf .bf16 (mulf (mmBM c b) (decays (lane3 cs))) bitsLt_bf16_f32⟩] concatenates_S128x128_S128x128_S128x128_S128x128_S512x128_d0

/-- The same in f32. -/
def mAllF (cs b c : FVec F S128x128 .f32) : FVec F S512x128 .f32 :=
  concatenate S512x128 0 [⟨S128x128, mulf (mmBM c b) (decays (lane0 cs))⟩,
    ⟨S128x128, mulf (mmBM c b) (decays (lane1 cs))⟩,
    ⟨S128x128, mulf (mmBM c b) (decays (lane2 cs))⟩,
    ⟨S128x128, mulf (mmBM c b) (decays (lane3 cs))⟩] concatenates_S128x128_S128x128_S128x128_S128x128_S512x128_d0

/-- The cotangent with only one head's columns kept. -/
def dyHead (lo hi : BitVec 32) (dy : FVec F S128x256 .f32) : FVec F S128x256 .bf16 :=
  truncf .bf16 (select (colsQ lo hi) dy (broadcast S128x256 z32)) bitsLt_bf16_f32

/-- The cotangent four times one below the other, each time with one head's columns kept. -/
def dyAll (dy : FVec F S128x256 .f32) : FVec F S512x256 .bf16 :=
  concatenate S512x256 0 [⟨S128x256, dyHead 0#32 64#32 dy⟩, ⟨S128x256, dyHead 64#32 128#32 dy⟩,
    ⟨S128x256, dyHead 128#32 192#32 dy⟩, ⟨S128x256, dyHead 192#32 256#32 dy⟩] concatenates_S128x256_S128x256_S128x256_S128x256_S512x256_d0

/-- The gradient of the weighted inputs. -/
def dxdt (cs b c : FVec F S128x128 .f32) (dy ds : FVec F S128x256 .f32) : FVec F S128x256 .f32 :=
  addf (t4 cs b ds) (matmul dot_S512x128_S512x256_S128x256_0_0_1_1_n_n none (mAll cs b c) (dyAll dy) (constant S128x256 .f32 0x00000000#32))

/-- The gradient of the four heads' matrices, one below the other. -/
def dmAll (dt : FVec F S128x128 .f32) (x dy : FVec F S128x256 .f32) : FVec F S512x128 .f32 :=
  matmul dot_S512x256_S128x256_S512x128_1_1_0_0_n_n none (dyAll dy) (truncf .bf16 (mulf x (expand dt)) bitsLt_bf16_f32) (constant S512x128 .f32 0x00000000#32)

/-- The gradient of `C Bᵀ`. -/
def dg (dt cs : FVec F S128x128 .f32) (x dy : FVec F S128x256 .f32) : FVec F S128x128 .f32 :=
  addf (addf (addf (addf (broadcast S128x128 z32)
    (mulf (extractStridedSlice S128x128 ![0, 0] (dmAll dt x dy) slices_S512x128_o0_0_S128x128) (decays (lane0 cs))))
    (mulf (extractStridedSlice S128x128 ![128, 0] (dmAll dt x dy) slices_S512x128_o128_0_S128x128) (decays (lane1 cs))))
    (mulf (extractStridedSlice S128x128 ![256, 0] (dmAll dt x dy) slices_S512x128_o256_0_S128x128) (decays (lane2 cs))))
    (mulf (extractStridedSlice S128x128 ![384, 0] (dmAll dt x dy) slices_S512x128_o384_0_S128x128) (decays (lane3 cs)))

/-- The high half of a value as the kernel splits it, and what is left. -/
def hi16 {s : Shape} (v : FVec F s .f32) : FVec F s .bf16 := truncf .bf16 v bitsLt_bf16_f32
def lo16 {s : Shape} (v : FVec F s .f32) : FVec F s .bf16 := truncf .bf16 (subf v (extf .f32 (truncf .bf16 v bitsLt_bf16_f32) bitsLt_bf16_f32)) bitsLt_bf16_f32

/-- The gradient of the heads' decays, entry by entry. -/
def eAll (dt cs b c : FVec F S128x128 .f32) (x dy : FVec F S128x256 .f32) : FVec F S512x128 .f32 :=
  mulf (dmAll dt x dy) (mAllF cs b c)

/-- Its row sums, in every lane. -/
def rowSum (e : FVec F S512x128 .f32) : FVec F S512x128 .f32 :=
  addf (matmul dot_S512x128_S128x128_S512x128_1_0_0_1_n_n none (hi16 e) (broadcast S128x128 (Scalar.ofBits .bf16 0x3F80#16)) (constant S512x128 .f32 0x00000000#32))
    (matmul dot_S512x128_S128x128_S512x128_1_0_0_1_n_n none (lo16 e) (broadcast S128x128 (Scalar.ofBits .bf16 0x3F80#16)) (constant S512x128 .f32 0x00000000#32))

/-- The quotient of an index by a positive word, as the kernel computes it. -/
def quot {s : Shape} (a : IVec s 32) (k sg : BitVec 32) : IVec s 32 :=
  select (andi (cmpi .ne (subi (extui 32 (cmpi .sgt a (broadcast s 0#32)) natLt_1_32) (extui 32 (cmpi .slt a (broadcast s 0#32)) natLt_1_32)) (broadcast s sg))
      (cmpi .ne (remsi a (broadcast s k)) (broadcast s 0#32)))
    (subi (divsi a (broadcast s k)) (broadcast s 1#32)) (divsi a (broadcast s k))

/-- The sign of a word as the kernel computes it. -/
def sgnW (k : BitVec 32) : BitVec 32 := Scalar.subi (Scalar.extui (Scalar.cmpi .sgt k 0#32)) (Scalar.extui (Scalar.cmpi .slt k 0#32))

/-- The heads' indicator over the 256 columns, and over the four blocks of 128 rows. -/
def hsel : FVec F S256x128 .bf16 :=
  truncf .bf16 (sitofp .f32 (extui 32 (cmpi .eq (quot (iota .tc S256x128 32 [0] iota_S256x128_d0_w32) 64#32 (sgnW 64#32))
    (iota .tc S256x128 32 [1] iota_S256x128_d1_w32)) natLt_1_32)) bitsLt_bf16_f32
def hrow : FVec F S512x128 .bf16 :=
  truncf .bf16 (sitofp .f32 (extui 32 (cmpi .eq (quot (iota .tc S512x128 32 [0] iota_S512x128_d0_w32) 128#32 (sgnW 128#32))
    (iota .tc S512x128 32 [1] iota_S512x128_d1_w32)) natLt_1_32)) bitsLt_bf16_f32
/-- The upper triangle's indicator. -/
def utri : FVec F S128x128 .bf16 :=
  truncf .bf16 (sitofp .f32 (extui 32 (cmpi .sge (iota .tc S128x128 32 [1] iota_S128x128_d1_w32) (iota .tc S128x128 32 [0] iota_S128x128_d0_w32)) natLt_1_32)) bitsLt_bf16_f32

/-- Column sums of each head's block, the head's sum in the head's lane. -/
def colSum (e : FVec F S512x128 .f32) : FVec F S128x128 .f32 :=
  addf (matmul dot_S512x128_S512x128_S128x128_0_0_1_1_n_n none (hi16 e) hrow (constant S128x128 .f32 0x00000000#32))
    (matmul dot_S512x128_S512x128_S128x128_0_0_1_1_n_n none (lo16 e) hrow (constant S128x128 .f32 0x00000000#32))

/-- Which lane is lane `k`. -/
def laneIs (k : BitVec 32) : IVec S128x128 1 := cmpi .eq (iota .tc S128x128 32 [1] iota_S128x128_d1_w32) (broadcast S128x128 k)

/-- Row sums minus column sums, the head's in the head's lane. -/
def da4 (e : FVec F S512x128 .f32) : FVec F S128x128 .f32 :=
  addf (addf (addf (addf (subf (broadcast S128x128 z32) (colSum e))
    (select (laneIs 0#32) (extractStridedSlice S128x128 ![0, 0] (rowSum e) slices_S512x128_o0_0_S128x128) (broadcast S128x128 z32)))
    (select (laneIs 1#32) (extractStridedSlice S128x128 ![128, 0] (rowSum e) slices_S512x128_o128_0_S128x128) (broadcast S128x128 z32)))
    (select (laneIs 2#32) (extractStridedSlice S128x128 ![256, 0] (rowSum e) slices_S512x128_o256_0_S128x128) (broadcast S128x128 z32)))
    (select (laneIs 3#32) (extractStridedSlice S128x128 ![384, 0] (rowSum e) slices_S512x128_o384_0_S128x128) (broadcast S128x128 z32))

/-- A column sum as a row. -/
def sumRows (v : FVec F S128x256 .f32) : FVec F S1x256 .f32 :=
  shapeCast S1x256 (multiReduction .add [0] S256 v 0x00000000#32 reduces_S128x256_S256 (.inl rfl) rfl) shapeCasts_S256_S1x256

/-- A row eight times. -/
def row8 (v : FVec F S1x256 .f32) : FVec F S8x256 .f32 :=
  broadcastTo S8x256 (shapeCast S1x256 v shapeCasts_S1x256_S1x256) broadcasts_S1x256_S8x256

/-- The four arrays whose heads' sums are wanted, one below the other. -/
def stacked (dt cs b c : FVec F S128x128 .f32) (x dy s ds : FVec F S128x256 .f32) : FVec F S272x256 .f32 :=
  concatenate S272x256 0 [⟨S128x256, subf (mulf dy (mulf (ecs cs) (mmWide c s))) (mulf (mulf x (expand dt)) (t4 cs b ds))⟩,
    ⟨S128x256, mulf (dxdt cs b c dy ds) x⟩,
    ⟨S8x256, row8 (addf (sumRows (mulf (mulf x (expand dt)) (t4 cs b ds))) (mulf (elast cs) (sumRows (mulf s ds))))⟩,
    ⟨S8x256, row8 (sumRows (mulf dy x))⟩] concatenates_S128x256_S128x256_S8x256_S8x256_S272x256_d0

/-- Each head's sum over its columns, in the head's lane. -/
def headSum (v : FVec F S272x256 .f32) : FVec F S272x128 .f32 :=
  addf (matmul dot_S272x256_S256x128_S272x128_1_0_0_1_n_n none (hi16 v) hsel (constant S272x128 .f32 0x00000000#32))
    (matmul dot_S272x256_S256x128_S272x128_1_0_0_1_n_n none (lo16 v) hsel (constant S272x128 .f32 0x00000000#32))

/-- Sums over the rows from a row on. -/
def suffix (v : FVec F S128x128 .f32) : FVec F S128x128 .f32 :=
  addf (matmul dot_S128x128_S128x128_S128x128_1_0_0_1_n_n none utri (hi16 v) (constant S128x128 .f32 0x00000000#32))
    (matmul dot_S128x128_S128x128_S128x128_1_0_0_1_n_n none utri (lo16 v) (constant S128x128 .f32 0x00000000#32))

/-- The gradient of a step's decay `dt a`. -/
def dda (dt cs b c : FVec F S128x128 .f32) (x dy s ds : FVec F S128x256 .f32) : FVec F S128x128 .f32 :=
  addf (suffix (addf (da4 (eAll dt cs b c x dy)) (extractStridedSlice S128x128 ![0, 0] (headSum (stacked dt cs b c x dy s ds)) slices_S272x128_o0_0_S128x128)))
    (broadcastTo S128x128 (extractStridedSlice S1x128 ![256, 0] (headSum (stacked dt cs b c x dy s ds)) slices_S272x128_o256_0_S1x128) broadcasts_S1x128_S128x128)

/-- What the body stores for the group: the gradients of `dt`'s argument, of the two head constants (added to what is
    there), of the inputs, of `C`, of `B`, and of the state entering the chunk. -/
def ddtG (dt cs sg b c : FVec F S128x128 .f32) (vv : FVec F S8x128 .f32) (x dy s ds : FVec F S128x256 .f32) : FVec F S128x128 .f32 :=
  mulf (addf (mulf (dda dt cs b c x dy s ds) (broadcastTo S128x128 (rate vv) broadcasts_S1x128_S128x128))
    (extractStridedSlice S128x128 ![128, 0] (headSum (stacked dt cs b c x dy s ds)) slices_S272x128_o128_0_S128x128)) sg

def rowIs (k : BitVec 32) : IVec S8x128 1 := cmpi .eq (iota .tc S8x128 32 [0] iota_S8x128_d0_w32) (broadcast S8x128 k)

def stG (dt cs b c : FVec F S128x128 .f32) (vv : FVec F S8x128 .f32) (x dy s ds : FVec F S128x256 .f32) : FVec F S8x128 .f32 :=
  select (rowIs 0#32)
    (broadcastTo S8x128 (shapeCast S1x128 (shapeCast S1x128 (multiReduction .add [0] S128
      (mulf (mulf (dda dt cs b c x dy s ds) dt) (broadcastTo S128x128 (rate vv) broadcasts_S1x128_S128x128))
      0x00000000#32 reduces_S128x128_S128 (.inl rfl) rfl) shapeCasts_S128_S1x128) shapeCasts_S1x128_S1x128) broadcasts_S1x128_S8x128)
    (select (rowIs 1#32)
      (broadcastTo S8x128 (shapeCast S1x128 (extractStridedSlice S1x128 ![264, 0] (headSum (stacked dt cs b c x dy s ds)) slices_S272x128_o264_0_S1x128)
        shapeCasts_S1x128_S1x128) broadcasts_S1x128_S8x128)
      (broadcast S8x128 z32))

def dxG (dt cs b c : FVec F S128x128 .f32) (vv : FVec F S8x128 .f32) (dy ds : FVec F S128x256 .f32) : FVec F S128x256 .f32 :=
  addf (mulf (broadcastTo S128x256 (skipRow vv) broadcasts_S1x256_S128x256) dy) (mulf (dxdt cs b c dy ds) (expand dt))

def dcG (dt cs b : FVec F S128x128 .f32) (x dy s : FVec F S128x256 .f32) : FVec F S128x128 .f32 :=
  addf (matmul dot_S128x128_S128x128_S128x128_1_0_0_1_n_n none (truncf .bf16 (dg dt cs x dy) bitsLt_bf16_f32) (truncf .bf16 b bitsLt_bf16_f32) (constant S128x128 .f32 0x00000000#32))
    (matmul dot_S128x256_S128x256_S128x128_1_1_0_0_n_n none (truncf .bf16 (mulf dy (ecs cs)) bitsLt_bf16_f32) (truncf .bf16 s bitsLt_bf16_f32) (constant S128x128 .f32 0x00000000#32))

def dbG (dt cs c : FVec F S128x128 .f32) (x dy ds : FVec F S128x256 .f32) : FVec F S128x128 .f32 :=
  addf (matmul dot_S128x128_S128x128_S128x128_0_0_1_1_n_n none (truncf .bf16 (dg dt cs x dy) bitsLt_bf16_f32) (truncf .bf16 c bitsLt_bf16_f32) (constant S128x128 .f32 0x00000000#32))
    (matmul dot_S128x256_S128x256_S128x128_1_1_0_0_n_n none (truncf .bf16 (mulf (mulf x (expand dt)) (dec cs)) bitsLt_bf16_f32) (truncf .bf16 ds bitsLt_bf16_f32) (constant S128x128 .f32 0x00000000#32))

def dsG (cs c : FVec F S128x128 .f32) (dy ds : FVec F S128x256 .f32) : FVec F S128x256 .f32 :=
  addf (mulf (broadcastTo S128x256 (elast cs) broadcasts_S1x256_S128x256) ds)
    (matmul dot_S128x128_S128x256_S128x256_0_0_1_1_n_n none (truncf .bf16 c bitsLt_bf16_f32) (truncf .bf16 (mulf dy (ecs cs)) bitsLt_bf16_f32) (constant S128x256 .f32 0x00000000#32))

end Cert.Proof.Ssd

end
-- ==== Proof.Ssd.Reads.lean ====
/- The operations of one group's body read at an index, for operands that are real numbers. -/
module

public import proofs.«01_k».proof.Proof.Ssd.Ops
public import proofs.«01_k».proof.Proof.Ssd.Chunk
public import Idealize.ShloMosaic.Lib.Pointwise
public import Idealize.ShloMosaic.Lib.Pipeline.ValueKit
public import Idealize.ShloMosaic.Lib.Claim

@[expose] public section

set_option maxRecDepth 16384

noncomputable section

namespace Cert.Proof.Ssd

open Cert.Kernel2Ideal Cert.Kernel2Ideal.Gen Idealize.ShloMosaic Idealize.ShloMosaic.TcCoe Idealize.SL.Sem

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Column `p` of head `r`, row `i` of head `r`'s block, and head `r`'s lane. -/
def col (r : Fin 4) (p : Fin 64) : Fin 256 := ⟨64 * r.val + p.val, by omega⟩
def blk (r : Fin 4) (i : Fin 128) : Fin 512 := ⟨128 * r.val + i.val, by omega⟩
def lane (r : Fin 4) : Fin 128 := ⟨r.val, by omega⟩

theorem col_surj (j : Fin 256) : ∃ r p, j = col r p :=
  ⟨⟨j.val / 64, by omega⟩, ⟨j.val % 64, by omega⟩, Fin.ext (by simp only [col]; omega)⟩

theorem sum_cols (f : Fin 256 → EReal) : ∑ j, f j = ∑ r, ∑ p, f (col r p) := by
  rw [Fin.sum_univ_tiles (M := EReal) 4 64 rfl f]
  refine Finset.sum_congr rfl fun r _ => Finset.sum_congr rfl fun p _ => congrArg f (Fin.ext ?_)
  simp only [col]; omega

theorem sum_blks (f : Fin 512 → EReal) : ∑ j, f j = ∑ r, ∑ i, f (blk r i) := by
  rw [Fin.sum_univ_tiles (M := EReal) 4 128 rfl f]
  refine Finset.sum_congr rfl fun r _ => Finset.sum_congr rfl fun p _ => congrArg f (Fin.ext ?_)
  simp only [blk]; omega

/-- The comparisons that tell the heads' columns apart. -/
theorem col_cmp (r : Fin 4) (p : Fin 64) :
    (IntOp.andi (IntOp.cmpi .sge (BitVec.ofNat 32 (col r p).val) 0#32) (IntOp.cmpi .slt (BitVec.ofNat 32 (col r p).val) 64#32)
      = if r = 0 then 1#1 else 0#1)
    ∧ (IntOp.andi (IntOp.cmpi .sge (BitVec.ofNat 32 (col r p).val) 64#32) (IntOp.cmpi .slt (BitVec.ofNat 32 (col r p).val) 128#32)
      = if r = 1 then 1#1 else 0#1)
    ∧ (IntOp.andi (IntOp.cmpi .sge (BitVec.ofNat 32 (col r p).val) 128#32) (IntOp.cmpi .slt (BitVec.ofNat 32 (col r p).val) 192#32)
      = if r = 2 then 1#1 else 0#1)
    ∧ (IntOp.andi (IntOp.cmpi .sge (BitVec.ofNat 32 (col r p).val) 192#32) (IntOp.cmpi .slt (BitVec.ofNat 32 (col r p).val) 256#32)
      = if r = 3 then 1#1 else 0#1) := by
  revert r p; decide +kernel

theorem expand_apply (v : FVec Ideal S128x128 .f32) (i : Fin 128) (r : Fin 4) (p : Fin 64) :
    expand v (ix2 i (col r p)) = v (ix2 i (lane r)) := by
  obtain ⟨e0, e1, e2, e3⟩ := col_cmp r p
  pointwise [expand, colsQ, cols, lane0, lane1, lane2, lane3]
  rw [e0, e1, e2, e3]
  fin_cases r <;> rfl

theorem expand8_apply (v : FVec Ideal S8x128 .f32) (i : Fin 8) (r : Fin 4) (p : Fin 64) :
    expand8 v (ix2 i (col r p)) = v (ix2 i (lane r)) := by
  obtain ⟨e0, e1, e2, e3⟩ := col_cmp r p
  pointwise [expand8, cols8, cols]
  rw [e0, e1, e2, e3]
  fin_cases r <;> rfl

theorem tri_cmp : ∀ i j : Fin 128, IntOp.cmpi .sle (BitVec.ofNat 32 j.val) (BitVec.ofNat 32 i.val) = if j ≤ i then 1#1 else 0#1 := by
  decide +kernel

theorem lane_cmp : ∀ l : Fin 128, IntOp.cmpi .eq (BitVec.ofNat 32 l.val) 0#32 = (if l = 0 then 1#1 else 0#1)
    ∧ IntOp.cmpi .eq (BitVec.ofNat 32 l.val) 1#32 = (if l = 1 then 1#1 else 0#1)
    ∧ IntOp.cmpi .eq (BitVec.ofNat 32 l.val) 2#32 = (if l = 2 then 1#1 else 0#1)
    ∧ IntOp.cmpi .eq (BitVec.ofNat 32 l.val) 3#32 = (if l = 3 then 1#1 else 0#1) := by
  decide +kernel

/-- The decay from row to row, whose exponent is minus infinity above the diagonal. -/
theorem decays_of (w : FVec Ideal S128x1 .f32) (f : Fin 128 → ℝ) (hw : ∀ i, w (ix2 i 0) = (f i : EReal)) (i j : Fin 128) :
    decays w (ix2 i j) = ((if j ≤ i then Real.exp (f i - f j) else 0 : ℝ) : EReal) := by
  pointwise [decays, tri]
  rw [tri_cmp, hw, hw]
  split
  · rw [← EReal.coe_sub]
    exact Ideal.exp_coe _
  · have e : Ideal.ofBits FTy.f32 4286578688#32 = ⊥ := by simp [Ideal.ofBits, Ideal.ieee]
    rw [e]
    simp [Scalar.select]

/-- Four blocks of rows, one below the other, read in block `r`. -/
theorem stack4_apply {φ : FTy} (v0 v1 v2 v3 : FVec Ideal S128x128 φ) (r : Fin 4) (i j : Fin 128) :
    concatenate S512x128 0 [⟨S128x128, v0⟩, ⟨S128x128, v1⟩, ⟨S128x128, v2⟩, ⟨S128x128, v3⟩]
      concatenates_S128x128_S128x128_S128x128_S128x128_S512x128_d0 (ix2 (blk r i) j) = ![v0 (ix2 i j), v1 (ix2 i j), v2 (ix2 i j), v3 (ix2 i j)] r := by
  pointwise
  have hi := i.isLt
  match r with
  | 0 => exact (dif_pos (by simp [blk])).trans (by congr 2; simp [blk])
  | 1 => exact (dif_neg (by simp [blk])).trans ((dif_pos (by simp [blk])).trans (by congr 2; simp [blk]))
  | 2 => exact (dif_neg (by simp [blk]; omega)).trans ((dif_neg (by simp [blk]; omega)).trans ((dif_pos (by simp [blk]; omega)).trans (by congr 2; apply Fin.ext; simp [blk]; omega)))
  | 3 => exact (dif_neg (by simp [blk]; omega)).trans ((dif_neg (by simp [blk]; omega)).trans ((dif_neg (by simp [blk]; omega)).trans (by congr 2; apply Fin.ext; simp [blk]; omega)))

theorem stack4w_apply {φ : FTy} (v0 v1 v2 v3 : FVec Ideal S128x256 φ) (r : Fin 4) (i : Fin 128) (j : Fin 256) :
    concatenate S512x256 0 [⟨S128x256, v0⟩, ⟨S128x256, v1⟩, ⟨S128x256, v2⟩, ⟨S128x256, v3⟩]
      concatenates_S128x256_S128x256_S128x256_S128x256_S512x256_d0 (ix2 (blk r i) j) = ![v0 (ix2 i j), v1 (ix2 i j), v2 (ix2 i j), v3 (ix2 i j)] r := by
  pointwise
  have hi := i.isLt
  match r with
  | 0 => exact (dif_pos (by simp [blk])).trans (by congr 2; simp [blk])
  | 1 => exact (dif_neg (by simp [blk])).trans ((dif_pos (by simp [blk])).trans (by congr 2; simp [blk]))
  | 2 => exact (dif_neg (by simp [blk]; omega)).trans ((dif_neg (by simp [blk]; omega)).trans ((dif_pos (by simp [blk]; omega)).trans (by congr 2; apply Fin.ext; simp [blk]; omega)))
  | 3 => exact (dif_neg (by simp [blk]; omega)).trans ((dif_neg (by simp [blk]; omega)).trans ((dif_neg (by simp [blk]; omega)).trans (by congr 2; apply Fin.ext; simp [blk]; omega)))

/-- Arrays of one group and chunk that hold the real numbers of `k`; lanes past the heads' four hold zero. -/
structure Holds (k : Chunk) (dt cs sg b c : FVec Ideal S128x128 .f32) (x dy s ds : FVec Ideal S128x256 .f32) : Prop where
  hdt : ∀ i r, dt (ix2 i (lane r)) = (k.dt i r : EReal)
  hdt0 : ∀ i l, 4 ≤ l.val → dt (ix2 i l) = 0
  hcs : ∀ i r, cs (ix2 i (lane r)) = (k.cs i r : EReal)
  hsg : ∀ i r, sg (ix2 i (lane r)) = (k.sg i r : EReal)
  hsg0 : ∀ i l, 4 ≤ l.val → sg (ix2 i l) = 0
  hb : ∀ i n, b (ix2 i n) = (k.b i n : EReal)
  hc : ∀ i n, c (ix2 i n) = (k.c i n : EReal)
  hx : ∀ i r p, x (ix2 i (col r p)) = (k.x i r p : EReal)
  hdy : ∀ i r p, dy (ix2 i (col r p)) = (k.dy i r p : EReal)
  hs : ∀ n r p, s (ix2 n (col r p)) = (k.s n r p : EReal)
  hu : ∀ n r p, ds (ix2 n (col r p)) = (k.u n r p : EReal)

variable {k : Chunk} {dt cs sg b c : FVec Ideal S128x128 .f32} {x dy s ds : FVec Ideal S128x256 .f32}
  (h : Holds k dt cs sg b c x dy s ds)
include h

theorem lanes_apply (i : Fin 128) : lane0 cs (ix2 i 0) = (k.cs i 0 : EReal) ∧ lane1 cs (ix2 i 0) = (k.cs i 1 : EReal)
    ∧ lane2 cs (ix2 i 0) = (k.cs i 2 : EReal) ∧ lane3 cs (ix2 i 0) = (k.cs i 3 : EReal) := by
  refine ⟨?_, ?_, ?_, ?_⟩
  · pointwise [lane0]; exact h.hcs i 0
  · pointwise [lane1]; exact h.hcs i 1
  · pointwise [lane2]; exact h.hcs i 2
  · pointwise [lane3]; exact h.hcs i 3

theorem decays_apply (i j : Fin 128) : decays (lane0 cs) (ix2 i j) = (k.l 0 i j : EReal) ∧ decays (lane1 cs) (ix2 i j) = (k.l 1 i j : EReal)
    ∧ decays (lane2 cs) (ix2 i j) = (k.l 2 i j : EReal) ∧ decays (lane3 cs) (ix2 i j) = (k.l 3 i j : EReal) :=
  ⟨decays_of _ _ (fun i => (lanes_apply h i).1) i j, decays_of _ _ (fun i => (lanes_apply h i).2.1) i j,
    decays_of _ _ (fun i => (lanes_apply h i).2.2.1) i j, decays_of _ _ (fun i => (lanes_apply h i).2.2.2) i j⟩

theorem mmBM_apply (i j : Fin 128) : mmBM c b (ix2 i j) = (k.g i j : EReal) := by
  pointwise [mmBM]
  simp only [h.hb, h.hc, ← EReal.coe_mul, ← coe_sum]
  rfl

theorem ecs_apply (i : Fin 128) (r : Fin 4) (p : Fin 64) : ecs cs (ix2 i (col r p)) = (k.ecs i r : EReal) := by
  pointwise [ecs, expand_apply]
  rw [h.hcs, Ideal.exp_coe]
  rfl

theorem elast_apply (r : Fin 4) (p : Fin 64) : elast cs (ix2 0 (col r p)) = (k.el r : EReal) := by
  pointwise [elast, lastRow]
  rw [expand_apply, h.hcs, Ideal.exp_coe]
  rfl

theorem dec_apply (i : Fin 128) (r : Fin 4) (p : Fin 64) : dec cs (ix2 i (col r p)) = (k.dec i r : EReal) := by
  pointwise [dec, lastRow]
  rw [expand_apply, expand_apply, h.hcs, h.hcs, ← EReal.coe_sub, Ideal.exp_coe]
  rfl

theorem t4_apply (j : Fin 128) (r : Fin 4) (p : Fin 64) : t4 cs b ds (ix2 j (col r p)) = (k.t4 j r p : EReal) := by
  pointwise [t4, mmWide]
  simp only [dec_apply h, h.hb, h.hu, ← EReal.coe_mul, ← coe_sum]
  rfl

/-- The heads' blocks of the stacked matrices. -/
theorem mAllF_apply (r : Fin 4) (i j : Fin 128) : mAllF cs b c (ix2 (blk r i) j) = (k.m r i j : EReal) := by
  obtain ⟨d0, d1, d2, d3⟩ := decays_apply h i j
  refine (stack4_apply _ _ _ _ r i j).trans ?_
  pointwise
  simp only [mmBM_apply h, d0, d1, d2, d3, ← EReal.coe_mul]
  fin_cases r <;> rfl

theorem mAll_apply (r : Fin 4) (i j : Fin 128) : mAll cs b c (ix2 (blk r i) j) = (k.m r i j : EReal) := by
  obtain ⟨d0, d1, d2, d3⟩ := decays_apply h i j
  refine (stack4_apply _ _ _ _ r i j).trans ?_
  pointwise
  simp only [mmBM_apply h, d0, d1, d2, d3, ← EReal.coe_mul]
  fin_cases r <;> rfl

theorem dyAll_apply (q : Fin 4) (i : Fin 128) (r : Fin 4) (p : Fin 64) :
    dyAll dy (ix2 (blk q i) (col r p)) = ((if r = q then k.dy i r p else 0 : ℝ) : EReal) := by
  obtain ⟨e0, e1, e2, e3⟩ := col_cmp r p
  refine (stack4w_apply _ _ _ _ q i _).trans ?_
  pointwise [dyHead, colsQ, cols]
  rw [e0, e1, e2, e3, h.hdy]
  fin_cases q <;> fin_cases r <;> rfl

theorem dxdt_apply (j : Fin 128) (r : Fin 4) (p : Fin 64) : dxdt cs b c dy ds (ix2 j (col r p)) = (k.dxdt j r p : EReal) := by
  pointwise [dxdt]
  rw [t4_apply h, sum_blks]
  simp only [mAll_apply h, dyAll_apply h, ← EReal.coe_mul, ← coe_sum, ← EReal.coe_add]
  unfold Chunk.dxdt
  simp

theorem dmAll_apply (r : Fin 4) (i j : Fin 128) : dmAll dt x dy (ix2 (blk r i) j) = (k.dm r i j : EReal) := by
  pointwise [dmAll]
  rw [sum_cols]
  simp only [dyAll_apply h, expand_apply, h.hx, h.hdt, ← EReal.coe_mul, ← coe_sum]
  unfold Chunk.dm Chunk.xt
  simp

theorem dg_apply (i j : Fin 128) : dg dt cs x dy (ix2 i j) = (k.dg i j : EReal) := by
  obtain ⟨d0, d1, d2, d3⟩ := decays_apply h i j
  have e (r : Fin 4) (q : Fin 512) (hq : q.val = 128 * r.val + i.val) : dmAll dt x dy (ix2 q j) = (k.dm r i j : EReal) := by
    rw [show q = blk r i from Fin.ext hq]; exact dmAll_apply h r i j
  pointwise [dg]
  rw [d0, d1, d2, d3, e 0, e 1, e 2, e 3]
  · simp only [← EReal.coe_mul, ← EReal.coe_add]
    unfold Chunk.dg
    rw [Fin.sum_univ_four]
  all_goals simp

theorem eAll_apply (r : Fin 4) (i j : Fin 128) : eAll dt cs b c x dy (ix2 (blk r i) j) = (k.e r i j : EReal) := by
  pointwise [eAll]
  rw [dmAll_apply h, mAllF_apply h, ← EReal.coe_mul]
  rfl

end Cert.Proof.Ssd

end
-- ==== Proof.Ssd.Cumsum.lean ====
/- A sum over a window, as a running sum prints: the sum of a prefix of an axis, and of a suffix. -/
module

public import Idealize.ShloMosaic.Lib.Pointwise
public import Idealize.ShloMosaic.Lib.Pipeline.ValueKit

@[expose] public section

set_option maxRecDepth 16384

noncomputable section

namespace Cert.Proof.Ssd

open Idealize.ShloMosaic Idealize.ShloMosaic.TcCoe Idealize.SL.Sem

theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The window's sum is the sum over its positions. -/
theorem window_sum {s t u : Shape} {φ : FTy} (window strides lo hi : Fin s.rank → ℕ) (x : FVec Ideal s φ) (init : u.Idx → Ideal φ)
    (h : s.ReduceWindows window strides lo hi t) (hu : 0 < u.numel) (j : t.Idx) (h0 : init (Shape.Idx.first hu) = (0 : EReal)) :
    Host.reduceWindowAdd window strides lo hi x init h hu j
      = ∑ w : (⟨s.rank, window⟩ : Shape).Idx, (if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal)) := by
  show List.foldl _ _ _ = _
  refine (foldl_sum _ _ _).trans ?_
  rw [← Fin.sum_univ_def]
  show init (Shape.Idx.first hu) + _ = _
  rw [h0, zero_add]
  exact Fintype.sum_equiv (⟨s.rank, window⟩ : Shape).rowMajor.symm _ _ fun n => by dsimp only; congr

/-- The positions of a window along one axis. -/
def along3 : Fin 128 ≃ (⟨3, ![1, 128, 1]⟩ : Shape).Idx where
  toFun i := ix3 0 i 0
  invFun w := w 1
  left_inv _ := rfl
  right_inv w := by funext a; fin_cases a <;> first | rfl | exact Subsingleton.elim (α := Fin 1) _ _

def along4 : Fin 128 ≃ (⟨4, ![1, 128, 1, 1]⟩ : Shape).Idx where
  toFun i := ix4 0 i 0 0
  invFun w := w 1
  left_inv _ := rfl
  right_inv w := by funext a; fin_cases a <;> first | rfl | exact Subsingleton.elim (α := Fin 1) _ _

theorem along3_val (w : Fin 128) (a : Fin 3) : ((along3 w) a).val = ![0, w.val, 0] a := by fin_cases a <;> rfl
theorem along4_val (w : Fin 128) (a : Fin 4) : ((along4 w) a).val = ![0, w.val, 0, 0] a := by fin_cases a <;> rfl

/-- A window padded low along its axis, and one padded high. -/
theorem prefix_sum (y : Fin 128 → EReal) (i : Fin 128) (f : Fin 128 → EReal)
    (hf : ∀ w : Fin 128, f w = if h : 127 ≤ i.val + w.val then y ⟨i.val + w.val - 127, by omega⟩ else 0) :
    ∑ w, f w = ∑ j, if j ≤ i then y j else 0 := by
  refine Fintype.sum_equiv (Equiv.addRight (i + 1)) _ _ fun w => ?_
  have e : ((w + (i + 1) : Fin 128)).val = (w.val + (i.val + 1) % 128) % 128 := rfl
  rw [hf]
  show _ = if w + (i + 1) ≤ i then y (w + (i + 1)) else 0
  by_cases h : 127 ≤ i.val + w.val
  · have e' : (w + (i + 1) : Fin 128) = ⟨i.val + w.val - 127, by omega⟩ := Fin.ext (by rw [e]; show _ = i.val + w.val - 127; omega)
    rw [dif_pos h, e', if_pos (by show i.val + w.val - 127 ≤ i.val; omega)]
  · rw [dif_neg h, if_neg (fun hle => by have hle : (w + (i + 1) : Fin 128).val ≤ i.val := hle; rw [e] at hle; omega)]

theorem suffix_sum (y : Fin 128 → EReal) (i : Fin 128) (f : Fin 128 → EReal)
    (hf : ∀ w : Fin 128, f w = if h : i.val + w.val < 128 then y ⟨i.val + w.val, h⟩ else 0) :
    ∑ w, f w = ∑ j, if i ≤ j then y j else 0 := by
  refine Fintype.sum_equiv (Equiv.addRight i) _ _ fun w => ?_
  have e : ((w + i : Fin 128)).val = (w.val + i.val) % 128 := rfl
  rw [hf]
  show _ = if i ≤ w + i then y (w + i) else 0
  by_cases h : i.val + w.val < 128
  · have e' : (w + i : Fin 128) = ⟨i.val + w.val, h⟩ := Fin.ext (by rw [e]; show _ = i.val + w.val; omega)
    rw [dif_pos h, e', if_pos (by show i.val ≤ i.val + w.val; omega)]
  · rw [dif_neg h, if_neg (fun hle => by have hle : i.val ≤ (w + i : Fin 128).val := hle; rw [e] at hle; omega)]

/-- A running sum along the second axis of three, of four, and one from the end. -/
theorem cumsum3 {A B : ℕ} {u : Shape} {φ : FTy} (x : FVec Ideal ⟨3, ![A, 128, B]⟩ φ) (init : u.Idx → Ideal φ)
    (h : (⟨3, ![A, 128, B]⟩ : Shape).ReduceWindows ![1, 128, 1] ![1, 1, 1] ![0, 127, 0] ![0, 0, 0] ⟨3, ![A, 128, B]⟩) (hu : 0 < u.numel)
    (h0 : init (Shape.Idx.first hu) = (0 : EReal)) (a : Fin A) (i : Fin 128) (b : Fin B) :
    Host.reduceWindowAdd ![1, 128, 1] ![1, 1, 1] ![0, 127, 0] ![0, 0, 0] x init h hu (ix3 a i b) = ∑ j, if j ≤ i then x (ix3 a j b) else (0 : EReal) := by
  rw [window_sum _ _ _ _ _ _ _ _ _ h0, ← Equiv.sum_comp along3]
  refine prefix_sum (fun j => x (ix3 a j b)) i _ fun w => ?_
  by_cases hw : 127 ≤ i.val + w.val
  · rw [dif_pos hw]
    refine (dif_pos fun q => ?_).trans (congrArg x (funext fun q => Fin.ext ?_))
    · fin_cases q <;> constructor <;> simp [along3_val, ix3] <;> omega
    · fin_cases q <;> simp [along3_val, ix3]
  · rw [dif_neg hw]
    refine dif_neg fun hin => hw ?_
    have e := hin 1
    change _ ≤ i.val * 1 + w.val ∧ i.val * 1 + w.val - _ < 128 at e
    simp at e
    omega

theorem cumsum4 {A B C : ℕ} {u : Shape} {φ : FTy} (x : FVec Ideal ⟨4, ![A, 128, B, C]⟩ φ) (init : u.Idx → Ideal φ)
    (h : (⟨4, ![A, 128, B, C]⟩ : Shape).ReduceWindows ![1, 128, 1, 1] ![1, 1, 1, 1] ![0, 127, 0, 0] ![0, 0, 0, 0] ⟨4, ![A, 128, B, C]⟩) (hu : 0 < u.numel)
    (h0 : init (Shape.Idx.first hu) = (0 : EReal)) (a : Fin A) (i : Fin 128) (b : Fin B) (c : Fin C) :
    Host.reduceWindowAdd ![1, 128, 1, 1] ![1, 1, 1, 1] ![0, 127, 0, 0] ![0, 0, 0, 0] x init h hu (ix4 a i b c) = ∑ j, if j ≤ i then x (ix4 a j b c) else (0 : EReal) := by
  rw [window_sum _ _ _ _ _ _ _ _ _ h0, ← Equiv.sum_comp along4]
  refine prefix_sum (fun j => x (ix4 a j b c)) i _ fun w => ?_
  by_cases hw : 127 ≤ i.val + w.val
  · rw [dif_pos hw]
    refine (dif_pos fun q => ?_).trans (congrArg x (funext fun q => Fin.ext ?_))
    · fin_cases q <;> constructor <;> simp [along4_val, ix4] <;> omega
    · fin_cases q <;> simp [along4_val, ix4]
  · rw [dif_neg hw]
    refine dif_neg fun hin => hw ?_
    have e := hin 1
    change _ ≤ i.val * 1 + w.val ∧ i.val * 1 + w.val - _ < 128 at e
    simp at e
    omega

theorem revsum4 {A B C : ℕ} {u : Shape} {φ : FTy} (x : FVec Ideal ⟨4, ![A, 128, B, C]⟩ φ) (init : u.Idx → Ideal φ)
    (h : (⟨4, ![A, 128, B, C]⟩ : Shape).ReduceWindows ![1, 128, 1, 1] ![1, 1, 1, 1] ![0, 0, 0, 0] ![0, 127, 0, 0] ⟨4, ![A, 128, B, C]⟩) (hu : 0 < u.numel)
    (h0 : init (Shape.Idx.first hu) = (0 : EReal)) (a : Fin A) (i : Fin 128) (b : Fin B) (c : Fin C) :
    Host.reduceWindowAdd ![1, 128, 1, 1] ![1, 1, 1, 1] ![0, 0, 0, 0] ![0, 127, 0, 0] x init h hu (ix4 a i b c) = ∑ j, if i ≤ j then x (ix4 a j b c) else (0 : EReal) := by
  rw [window_sum _ _ _ _ _ _ _ _ _ h0, ← Equiv.sum_comp along4]
  refine suffix_sum (fun j => x (ix4 a j b c)) i _ fun w => ?_
  by_cases hw : i.val + w.val < 128
  · rw [dif_pos hw]
    refine (dif_pos fun q => ?_).trans (congrArg x (funext fun q => Fin.ext ?_))
    · fin_cases q <;> constructor <;> simp [along4_val, ix4] <;> omega
    · fin_cases q <;> simp [along4_val, ix4]
  · rw [dif_neg hw]
    refine dif_neg fun hin => hw ?_
    have e := hin 1
    change _ ≤ i.val * 1 + w.val ∧ i.val * 1 + w.val - _ < 128 at e
    simp at e
    omega

end Cert.Proof.Ssd

end
-- ==== Proof.Ssd.Host.lean ====
/- What the host lines before the launch leave in the arrays that the launch reads. -/
module

public import Idealize.ShloMosaic.Lib.Pointwise
public import Idealize.ShloMosaic.Lib.Claim
public import Idealize.ShloMosaic.Lib.Pipeline.ValueKit
public import Idealize.ShloMosaic.Lib.StableHlo.RunRead
public import proofs.«01_k».proof.Proof.Gen.Kernel2Ideal.Value
public import proofs.«01_k».proof.Proof.Ssd.Spec
public import proofs.«01_k».proof.Proof.Ssd.Reads
public import proofs.«01_k».proof.Proof.Ssd.Cumsum

@[expose] public section

set_option maxRecDepth 16384

noncomputable section

namespace Cert.Proof.Ssd

open Cert.Kernel2Ideal Cert.Kernel2Ideal.Gen Idealize.ShloMosaic Idealize.ShloMosaic.TcCoe

variable (m : (ℓ : Loc nD τ sig) → Buf (Elt Ideal) ℓ) (c : Dev nD)

/-- The arguments at device `c`. -/
abbrev Ax : FVec Ideal S2048x4096 .f32 := m ((c : Thread nD τ).loc main_arg0)
abbrev At : FVec Ideal S2048x32 .f32 := m ((c : Thread nD τ).loc main_arg1)
abbrev Ab : FVec Ideal S32 .f32 := m ((c : Thread nD τ).loc main_arg2)
abbrev Al : FVec Ideal S32 .f32 := m ((c : Thread nD τ).loc main_arg3)
abbrev Ad : FVec Ideal S32 .f32 := m ((c : Thread nD τ).loc main_arg4)
abbrev Ay : FVec Ideal S2048x2048 .f32 := m ((c : Thread nD τ).loc main_arg5)

/-- The buffers after the lines up to the running sums' argument, after the running sums, and after the chunks' own states. -/
def W1 : Valuation τ sig (Elt Ideal) := StableHlo.after hostOps0 (fun b => m (c, b))
def W2 : Valuation τ sig (Elt Ideal) := StableHlo.after hostOps0_1 (W1 m c)
def W3 : Valuation τ sig (Elt Ideal) := StableHlo.after (hostOps0_2.take 23) (W2 m c)

theorem V_eq (b : Ref sig .tc) : V m c b = StableHlo.after (hostOps0_2.drop 23) (W3 m c) b := by
  unfold W3 W2 W1
  rw [← Idealize.ShloMosaic.StableHlo.after_append, List.take_append_drop, ← StableHlo.after_append, ← StableHlo.after_append]
  rfl

/-- The buffers read below, at their shapes. -/
abbrev pre1 : FVec Ideal S2048x32 .f32 := W1 m c main_v8
abbrev dt1 : FVec Ideal S2048x32 .f32 := W1 m c main_v15
abbrev da1 : FVec Ideal S16x128x32 .f32 := W1 m c main_v21
abbrev vec1 : FVec Ideal S8x8x128 .f32 := W1 m c main_v5
abbrev cs2 : FVec Ideal S16x128x32 .f32 := W2 m c main_v22
abbrev add3 : FVec Ideal S8x16x128x256 .f32 := W3 m c main_v37
abbrev el3 : FVec Ideal S8x16x128x256 .f32 := W3 m c main_v45

/-- The softplus of a real number. -/
theorem softplus_coe (x : ℝ) : max (x : EReal) 0 + Ideal.log1p (Ideal.exp (-FloatOps.absf (F := Ideal) (φ := .f32) (x : EReal)))
    = ((max x 0 + Real.log (1 + Real.exp (-|x|)) : ℝ) : EReal) := by
  have h : FloatOps.absf (F := Ideal) (φ := .f32) (x : EReal) = ((|x| : ℝ) : EReal) := by
    show max (x : EReal) (-(x : EReal)) = _
    rw [← EReal.coe_neg, ← EReal.coe_strictMono.monotone.map_max]; rfl
  rw [h, ← EReal.coe_neg, Ideal.exp_coe]
  unfold Ideal.log1p
  rw [← EReal.coe_one, ← EReal.coe_add, Ideal.log_coe, if_neg (by have := Real.exp_pos (-|x|); linarith), ← EReal.coe_zero,
    ← EReal.coe_strictMono.monotone.map_max, ← EReal.coe_add]

variable {m c} {k : Args} (H : Says k (Ax m c) (At m c) (Ab m c) (Al m c) (Ay m c))
include H

theorem w1_pre (t : Fin 2048) (h : Fin 32) : pre1 m c (ix2 t h) = (k.pre t h : EReal) := by
  have e : pre1 m c (ix2 t h) = At m c (ix2 t h) + Ab m c (ix1 h) := by
    unfold pre1 W1
    after_reads_simp
    pointwise
  rw [e, H.hT, H.hbi, ← EReal.coe_add]; rfl

theorem w1_dt (t : Fin 2048) (h : Fin 32) : dt1 m c (ix2 t h) = (k.dt t h : EReal) := by
  have e : dt1 m c (ix2 t h) = max (At m c (ix2 t h) + Ab m c (ix1 h)) 0
      + Ideal.log1p (Ideal.exp (-FloatOps.absf (F := Ideal) (φ := .f32) (At m c (ix2 t h) + Ab m c (ix1 h)))) := by
    unfold dt1 W1
    after_reads_simp
    pointwise
  rw [e, H.hT, H.hbi, ← EReal.coe_add, softplus_coe]; rfl

theorem w1_da (t : Fin 16) (i) (h : Fin 32) : da1 m c (ix3 t i h) = ((k.dt (row t i) h * k.a h : ℝ) : EReal) := by
  have e : da1 m c (ix3 t i h) = dt1 m c (ix2 (row t i) h) * -Ideal.exp (Al m c (ix1 h)) := by
    unfold da1 dt1 W1 row
    after_reads_simp
    pointwise
  rw [e, w1_dt H, H.hal, Ideal.exp_coe, ← EReal.coe_neg, ← EReal.coe_mul]; rfl

omit H in
theorem w1_vec0 (g : Fin 8) (r : Fin 4) : vec1 m c (ix3 g 0 (lane r)) = Al m c (ix1 (head g r)) := by
  unfold vec1 W1 head lane
  after_reads_simp
  pointwise
  after_reads_simp
  pointwise

omit H in
theorem w1_vec1 (g : Fin 8) (r : Fin 4) : vec1 m c (ix3 g 1 (lane r)) = Ad m c (ix1 (head g r)) := by
  unfold vec1 W1 head lane
  after_reads_simp
  pointwise
  after_reads_simp
  pointwise

theorem w2_cs (t : Fin 16) (i) (h : Fin 32) : cs2 m c (ix3 t i h) = (k.cs t i h : EReal) := by
  unfold cs2 W2
  after_reads_simp
  refine Eq.trans (cumsum3 (da1 m c) _ _ h_S_ ?_ t i h) ?_
  · show Ideal.ofBits .f32 0#32 = 0
    simp [Ideal.ofBits, Ideal.ieee]
  · simp only [w1_da H, Args.cs, coe_sum]
    refine Finset.sum_congr rfl fun j _ => ?_
    split <;> simp

/-- The buffers that the running sums' lines leave alone. -/
theorem w2_dt (t : Fin 2048) (h : Fin 32) : (W2 m c main_v15 : FVec Ideal S2048x32 .f32) (ix2 t h) = (k.dt t h : EReal) := by
  refine Eq.trans (congrFun (?_ : (W2 m c main_v15 : FVec Ideal S2048x32 .f32) = dt1 m c) _) (w1_dt H t h)
  unfold W2 dt1
  after_reads_simp

omit H in
theorem w2_arg0 : (W2 m c main_arg0 : FVec Ideal S2048x4096 .f32) = Ax m c := by
  unfold W2 W1
  after_reads_simp

omit H in
theorem div64 (g : Fin 8) (r : Fin 4) (p : Fin 64) : (64 * r.val + p.val) / 64 = r.val ∧ (64 * r.val + p.val) % 64 = p.val := by omega

theorem w3_el (g : Fin 8) (t : Fin 16) (n : Fin 128) (r : Fin 4) (p : Fin 64) :
    el3 m c (ix4 g t n (col r p)) = ((k.base t g 0 0).el r : EReal) := by
  have e : el3 m c (ix4 g t n (col r p)) = Ideal.exp (cs2 m c (ix3 t 127 (head g r))) := by
    unfold el3 cs2 W3
    generalize W2 m c = W
    unfold col head
    after_reads_simp
    pointwise
  rw [e, w2_cs H, Ideal.exp_coe]; rfl

omit H in
theorem w3_add_eq (W : Valuation τ sig (Elt Ideal)) (x : FVec Ideal S2048x4096 .f32) (d : FVec Ideal S2048x32 .f32)
    (q : FVec Ideal S16x128x32 .f32) (hx : W main_arg0 = x) (hd : W main_v15 = d) (hq : W main_v22 = q) (g : Fin 8) (t : Fin 16)
    (n : Fin 128) (r : Fin 4) (p : Fin 64) :
    (StableHlo.after (hostOps0_2.take 23) W main_v37 : FVec Ideal S8x16x128x256 .f32) (ix4 g t n (col r p))
      = ∑ j, x (ix2 (row t j) (bcol g n)) * (x (ix2 (row t j) (xcol g r p)) * (d (ix2 (row t j) (head g r))
          * Ideal.exp (q (ix3 t 127 (head g r)) - q (ix3 t j (head g r))))) := by
  unfold col head row bcol xcol
  after_reads_simp
  rw [hx, hd, hq]
  pointwise
  simp only [(div64 g r p).1, (div64 g r p).2]

theorem w3_add (g : Fin 8) (t : Fin 16) (n : Fin 128) (r : Fin 4) (p : Fin 64) :
    add3 m c (ix4 g t n (col r p)) = ((k.base t g 0 0).add n r p : EReal) := by
  refine (w3_add_eq (W2 m c) _ _ _ w2_arg0 rfl rfl g t n r p).trans ?_
  simp only [w2_dt H, w2_cs H, H.hX, ← EReal.coe_sub, Ideal.exp_coe, ← EReal.coe_mul, ← coe_sum]
  rfl

variable (m c) in
/-- The states entering the chunks, as the launch reads them. -/
abbrev sall : FVec Ideal S8x16x128x256 .f32 := V m c main_v123

omit H in
/-- The last line lays the sixteen states side by side. -/
theorem sall_eq (W : Valuation τ sig (Elt Ideal)) :
    (StableHlo.after (hostOps0_2.drop 106) W main_v123 : FVec Ideal S8x16x128x256 .f32) = concatenate S8x16x128x256 1
     [⟨S8x1x128x256, W main_v46⟩, ⟨S8x1x128x256, W main_v50⟩, ⟨S8x1x128x256, W main_v54⟩, ⟨S8x1x128x256, W main_v58⟩,
      ⟨S8x1x128x256, W main_v62⟩, ⟨S8x1x128x256, W main_v66⟩, ⟨S8x1x128x256, W main_v70⟩, ⟨S8x1x128x256, W main_v74⟩,
      ⟨S8x1x128x256, W main_v78⟩, ⟨S8x1x128x256, W main_v82⟩, ⟨S8x1x128x256, W main_v86⟩, ⟨S8x1x128x256, W main_v90⟩,
      ⟨S8x1x128x256, W main_v94⟩, ⟨S8x1x128x256, W main_v98⟩, ⟨S8x1x128x256, W main_v102⟩, ⟨S8x1x128x256, W main_v106⟩] concatenates_S8x1x128x256_S8x1x128x256_S8x1x128x256_S8x1x128x256_S8x1x128x256_S8x1x128x256_S8x1x128x256_S8x1x128x256_S8x1x128x256_S8x1x128x256_S8x1x128x256_S8x1x128x256_S8x1x128x256_S8x1x128x256_S8x1x128x256_S8x1x128x256_S8x16x128x256_d1 := by
  refine (congrFun (StableHlo.after_cons _ _ W) _).trans ?_
  refine (congrFun (StableHlo.after_nil _) _).trans ?_
  exact StableHlo.nary_result ..

set_option maxHeartbeats 4000000 in
theorem v_sall (g : Fin 8) (t : Fin 16) (n : Fin 128) (r : Fin 4) (p : Fin 64) :
    sall m c (ix4 g t n (col r p)) = (k.S t.val g n r p : EReal) := by
  have hel := w3_el H
  have hadd := w3_add H
  unfold el3 at hel
  unfold add3 at hadd
  unfold sall
  rw [V_eq]
  generalize W3 m c = W at *
  rw [← List.take_append_drop 83 (hostOps0_2.drop 23), StableHlo.after_append, List.drop_drop]
  refine (congrFun (sall_eq _) _).trans ?_
  concat_tiles i h
  all_goals
    (obtain rfl : i = ix4 g 0 n (col r p) := by
      rw [eq_ix4 i]
      congr 1 <;> first | exact Fin.ext h0 | exact Fin.ext h1 | exact Fin.ext h2 | exact Fin.ext h3)
  all_goals
    (replace h : t.val = _ := h
     after_reads_simp
     pointwise
     try simp only [hel, hadd]
     rw [h]
     simp only [Args.S, EReal.coe_add, EReal.coe_mul, EReal.coe_zero, zero_mul, zero_add]
     try rfl)

end Cert.Proof.Ssd

end
-- ==== Proof.Ssd.RefA.lean ====
/- The reference's forward lines, as real numbers. -/
module

public import proofs.«01_k».proof.Proof.Gen.Reference2Ideal.Read
public import Idealize.ShloMosaic.Lib.Pointwise
public import proofs.«01_k».proof.Proof.Ssd.Host
public import proofs.«01_k».proof.Proof.Ssd.Cumsum

@[expose] public section

set_option maxRecDepth 16384

noncomputable section

namespace Cert.Proof.Ssd

open Cert.Reference2Ideal Cert.Reference2Ideal.Gen Cert.Reference2Ideal.Gen Cert.Reference2Ideal.Read Idealize.ShloMosaic Idealize.ShloMosaic.TcCoe

variable {k : Args} {x : FVec Ideal S2048x4096 .f32} {t : FVec Ideal S2048x32 .f32} {b al d : FVec Ideal S32 .f32} {y : FVec Ideal S2048x2048 .f32}
    (H : Says k x t b al y)
include H

theorem r8 (i : Fin 2048) (h : Fin 32) : val_main_v8 (F := Ideal) t b (ix2 i h) = (k.pre i h : EReal) := by
  pointwise [val_main_v8, val_main_v7, val_main_v6]
  rw [H.hT, H.hbi, ← EReal.coe_add]; rfl

theorem r9 (i : Fin 2048) (h : Fin 32) : val_main_v9_0 (F := Ideal) t b (ix2 i h) = (k.dt i h : EReal) := by
  pointwise [val_main_v9_0, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst, r8 H]
  rw [if_neg (fun h => h rfl)]
  exact softplus_coe _

omit H in
/-- The softplus' slope: the exponential of its argument less its value is the argument's sigmoid. -/
theorem slope (x : ℝ) : Real.exp (x - (max x 0 + Real.log (1 + Real.exp (-|x|)))) = (1 + Real.exp (-x))⁻¹ := by
  have h : 0 < 1 + Real.exp (-|x|) := by positivity
  rw [← sub_sub, Real.exp_sub, Real.exp_log h]
  rcases le_total 0 x with hx | hx
  · rw [max_eq_left hx, abs_of_nonneg hx, sub_self, Real.exp_zero, one_div]
  · have e := Real.exp_ne_zero x
    rw [max_eq_right hx, abs_of_nonpos hx, neg_neg, sub_zero, Real.exp_neg]
    field_simp
    ring

/-- The same in the reference. -/
theorem r9_slope (i : Fin 2048) (h : Fin 32) : val_main_v9_1 (F := Ideal) t b (ix2 i h) = (k.sg i h : EReal) := by
  pointwise [val_main_v9_1, val_main_call0_v21, val_main_call0_v20, val_main_call0_v19, val_main_call0_v18, val_main_call0_v17,
    val_main_call0_v16, val_main_call0_v15, val_main_call0_v14, val_main_call0_v13, val_main_call0_cst_0, val_main_call0_cst_1,
    val_main_call0_cst_2, val_main_call0_cst_3, r8 H, r9 H]
  have e : Ideal.ofBits .f32 2139095040#32 = ⊤ := by simp [Ideal.ofBits, Ideal.ieee]
  rw [e, if_neg (EReal.coe_ne_top _), if_neg (EReal.coe_ne_top _), ← EReal.coe_sub, Ideal.exp_coe]
  exact congrArg _ (slope _)

theorem r12 (q : Fin 16) (i : Fin 128) (g : Fin 8) (r : Fin 4) (p : Fin 64) :
    val_main_v12 (F := Ideal) x (ix5 q i g r p) = (k.X (row q i) (xcol g r p) : EReal) := by
  pointwise [val_main_v12, val_main_v1, val_main_v0]
  exact H.hX _ _

theorem r13 (q : Fin 16) (i : Fin 128) (g : Fin 8) (r : Fin 4) :
    val_main_v13 (F := Ideal) t b (ix4 q i g r) = (k.dt (row q i) (head g r) : EReal) := by
  pointwise [val_main_v13]
  exact r9 H _ _

theorem r14 (q : Fin 16) (i : Fin 128) (g : Fin 8) (n : Fin 128) :
    val_main_v14 (F := Ideal) x (ix4 q i g n) = (k.X (row q i) (bcol g n) : EReal) := by
  pointwise [val_main_v14, val_main_v3, val_main_v2]
  exact H.hX _ _

theorem r15 (q : Fin 16) (i : Fin 128) (g : Fin 8) (n : Fin 128) :
    val_main_v15 (F := Ideal) x (ix4 q i g n) = (k.X (row q i) (ccol g n) : EReal) := by
  pointwise [val_main_v15, val_main_v5, val_main_v4]
  exact H.hX _ _

theorem r16 (g : Fin 8) (r : Fin 4) : val_main_v16 (F := Ideal) al (ix2 g r) = (k.a (head g r) : EReal) := by
  pointwise [val_main_v16, val_main_v11, val_main_v10]
  refine (congrArg (fun e => -Ideal.exp e) (H.hal (head g r))).trans ?_
  rw [Ideal.exp_coe, ← EReal.coe_neg]; rfl

theorem r20 (q : Fin 16) (i : Fin 128) (g : Fin 8) (r : Fin 4) :
    val_main_v20 (F := Ideal) t b al (ix4 q i g r) = (k.cs q i (head g r) : EReal) := by
  unfold val_main_v20
  refine (cumsum4 _ _ _ h_S_ (by pointwise [val_main_call1_call0_v0, val_main_call1_call0_cst]) q i g r).trans ?_
  pointwise [val_main_v19, val_main_v18, val_main_v17, r16 H, r13 H]
  simp only [Args.cs, coe_sum]
  refine Finset.sum_congr rfl fun j _ => ?_
  split <;> simp

theorem r23 (q : Fin 16) (i : Fin 128) (g : Fin 8) (r : Fin 4) (p : Fin 64) :
    val_main_v23 (F := Ideal) x t b (ix5 q i g r p) = ((k.chunk q g).xt i r p : EReal) := by
  pointwise [val_main_v23, val_main_v22, val_main_v21, r13 H, r12 H]
  rw [← EReal.coe_mul]; rfl

omit H in
theorem r32 (q : Fin 16) (i j : Fin 128) (g : Fin 8) (r : Fin 4) :
    val_main_v32_1 (F := Ideal) (ix5 q i j g r) = if j ≤ i then 1#1 else 0#1 := by
  pointwise [val_main_v32_1, val_main_v31, val_main_v30, val_main_v29, val_main_c, val_main_call2_v5, val_main_call2_v4, val_main_call2_v3,
    val_main_call2_v2, val_main_call2_v1, val_main_call2_v0, val_main_call2_c, val_main_call2_c_0]
  revert i j
  decide +kernel

theorem r33 (q : Fin 16) (i j : Fin 128) (g : Fin 8) (r : Fin 4) :
    val_main_v33 (F := Ideal) t b al (ix5 q i j g r) = ((k.chunk q g).l r i j : EReal) := by
  pointwise [val_main_v33, val_main_v32_0, r32, val_main_call3_v2, val_main_call3_v0, val_main_cst, val_main_v28, val_main_v27, val_main_v26,
    val_main_v25, val_main_v24, r20 H]
  unfold Chunk.l
  by_cases h : j ≤ i
  · simp [h, ← EReal.coe_sub, Ideal.exp_coe]; rfl
  · rw [if_neg h, if_neg h]
    show Ideal.exp (Ideal.ofBits .f32 4286578688#32) = _
    simp [Ideal.ofBits, Ideal.ieee]

theorem r36 (q : Fin 16) (i j : Fin 128) (g : Fin 8) :
    val_main_v36 (F := Ideal) x (ix5 q i j g 0) = ((k.chunk q g).g i j : EReal) := by
  pointwise [val_main_v36, val_main_v35, val_main_v34, r14 H, r15 H]
  simp only [← EReal.coe_mul, ← coe_sum]
  exact congrArg _ (Finset.sum_congr rfl fun n _ => mul_comm _ _)

theorem r38 (q : Fin 16) (i j : Fin 128) (g : Fin 8) (r : Fin 4) :
    val_main_v38 (F := Ideal) x t b al (ix5 q i j g r) = ((k.chunk q g).m r i j : EReal) := by
  pointwise [val_main_v38, val_main_v37, r33 H, r36 H]
  rw [← EReal.coe_mul]; rfl

theorem r44 (q : Fin 16) (i : Fin 128) (g : Fin 8) (r : Fin 4) :
    val_main_v44 (F := Ideal) t b al (ix4 q i g r) = ((k.chunk q g).dec i r : EReal) := by
  pointwise [val_main_v44, val_main_v43, val_main_v42, val_main_v41, r20 H]
  first | rw [Ideal.exp_coe] | rw [← EReal.coe_sub, Ideal.exp_coe]
  rfl

theorem r47 (q : Fin 16) (i : Fin 128) (g : Fin 8) (r : Fin 4) (p : Fin 64) :
    val_main_v47 (F := Ideal) x t b al (ix5 q i g r p) = (((k.chunk q g).dec i r * (k.chunk q g).xt i r p : ℝ) : EReal) := by
  pointwise [val_main_v47, val_main_v46, val_main_v45, r44 H, r23 H]
  rw [← EReal.coe_mul]

theorem r48 (q : Fin 16) (g : Fin 8) (r : Fin 4) (p : Fin 64) (n : Fin 128) :
    val_main_v48 (F := Ideal) x t b al (ix5 q g r p n) = ((k.base q g 0 0).add n r p : EReal) := by
  pointwise [val_main_v48, r47 H, r14 H]
  simp only [← EReal.coe_mul, ← coe_sum]
  refine congrArg _ (Finset.sum_congr rfl fun j _ => ?_)
  simp only [Chunk.xt, Args.base, Args.chunk, Chunk.dec]
  ring

theorem r51 (q : Fin 16) (g : Fin 8) (r : Fin 4) : val_main_v51 (F := Ideal) t b al (ix3 q g r) = ((k.base q g 0 0).el r : EReal) := by
  pointwise [val_main_v51, val_main_v50, val_main_v49, r20 H]
  first | rw [Ideal.exp_coe] | rw [← EReal.coe_sub, Ideal.exp_coe]
  rfl

theorem r138 (q : Fin 16) (i : Fin 128) (g : Fin 8) (r : Fin 4) :
    val_main_v138 (F := Ideal) t b al (ix4 q i g r) = ((k.chunk q g).ecs i r : EReal) := by
  pointwise [val_main_v138, r20 H]
  rw [Ideal.exp_coe]; rfl

theorem r159 (q : Fin 16) (i : Fin 128) (g : Fin 8) (r : Fin 4) (p : Fin 64) :
    val_main_v159 (F := Ideal) y (ix5 q i g r p) = (k.Y (row q i) (inner g r p) : EReal) := by
  pointwise [val_main_v159, val_main_v150]
  exact H.hY _ _

end Cert.Proof.Ssd

end
-- ==== Proof.Ssd.TwoAxes.lean ====
/- The host's sum over two axes, at three arrangements of the axes. -/
module

public import Idealize.ShloMosaic.Lib.Pointwise

@[expose] public section

noncomputable section

namespace Cert.Proof.Ssd

open Idealize.ShloMosaic

/-- A sum over the indices that drop to `j`, where those are named by two coordinates. -/
theorem two_axes {s t : Shape} {axes : List (Fin s.rank)} (h : s.ReducesTo axes t) (v : s.Idx → EReal) (init : EReal) (j : t.Idx) {A B : ℕ}
    (f : Fin A × Fin B → s.Idx) (hf : Function.Injective f) (hj : ∀ i, h.drop i = j ↔ ∃ k, f k = i) :
    Ideal.hostReduceAdd h v init j = init + ∑ a, ∑ b, v (f (a, b)) := by
  unfold Ideal.hostReduceAdd
  rw [Finset.sum_filter_eq_sum_of_fiber _ f hf hj v, Fintype.sum_prod_type]

theorem sum34 {n0 n1 n2 n3 n4 : ℕ} (h : (⟨5, ![n0, n1, n2, n3, n4]⟩ : Shape).ReducesTo [3, 4] ⟨3, ![n0, n1, n2]⟩)
    (v : (⟨5, ![n0, n1, n2, n3, n4]⟩ : Shape).Idx → EReal) (init : EReal) (a : Fin n0) (b : Fin n1) (c : Fin n2) :
    Ideal.hostReduceAdd h v init (ix3 a b c) = init + ∑ d, ∑ e, v (ix5 a b c d e) := by
  refine two_axes h v init _ (fun k => ix5 a b c k.1 k.2) (fun _ _ e => Prod.ext (congrFun e 3) (congrFun e 4)) fun i => ⟨fun e => ⟨(i 3, i 4), ?_⟩, ?_⟩
  · funext q; apply Fin.ext
    match q with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext q; fin_cases q <;> rfl

theorem sum01 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (c : Fin n2) (d : Fin n3) :
    Ideal.hostReduceAdd h v init (ix2 c d) = init + ∑ a, ∑ b, v (ix4 a b c d) := by
  refine two_axes h v init _ (fun k => ix4 k.1 k.2 c d) (fun _ _ e => Prod.ext (congrFun e 0) (congrFun e 1)) fun i => ⟨fun e => ⟨(i 0, i 1), ?_⟩, ?_⟩
  · funext q; apply Fin.ext
    match q with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext q; fin_cases q <;> rfl

theorem sum02 {n0 n1 n2 : ℕ} (h : (⟨3, ![n0, n1, n2]⟩ : Shape).ReducesTo [0, 2] ⟨1, ![n1]⟩)
    (v : (⟨3, ![n0, n1, n2]⟩ : Shape).Idx → EReal) (init : EReal) (b : Fin n1) :
    Ideal.hostReduceAdd h v init (ix1 b) = init + ∑ a, ∑ c, v (ix3 a b c) := by
  refine two_axes h v init _ (fun k => ix3 k.1 b k.2) (fun _ _ e => Prod.ext (congrFun e 0) (congrFun e 2)) fun i => ⟨fun e => ⟨(i 0, i 2), ?_⟩, ?_⟩
  · funext q; apply Fin.ext
    match q with
    | ⟨0, _⟩ => rfl
    | ⟨1, _⟩ => exact (congrArg Fin.val (congrFun e 0)).symm
    | ⟨2, _⟩ => rfl
  · rintro ⟨k, rfl⟩
    funext q; fin_cases q; rfl

end Cert.Proof.Ssd

end
-- ==== Proof.Ssd.Carry.lean ====
/- The reference's states and their cotangents, chunk after chunk. -/
module

public import proofs.«01_k».proof.Proof.Ssd.RefA
public import proofs.«01_k».proof.Proof.Ssd.TwoAxes
public import Idealize.ShloMosaic.Lib.Pipeline.ValueKit

@[expose] public section

set_option maxRecDepth 16384

noncomputable section

namespace Cert.Proof.Ssd

open Cert.Reference2Ideal Cert.Reference2Ideal.Gen Cert.Reference2Ideal.Read Idealize.ShloMosaic Idealize.ShloMosaic.TcCoe

section Arrays
variable (x : FVec Ideal S2048x4096 .f32) (t : FVec Ideal S2048x32 .f32) (b al : FVec Ideal S32 .f32) (y : FVec Ideal S2048x2048 .f32)

/-- The states entering the chunks. -/
def car : Fin 16 → FVec Ideal S1x8x4x64x128 .f32 :=
  ![val_main_v52 (F := Ideal), val_main_v88 (F := Ideal) x t b al, val_main_v91 (F := Ideal) x t b al, val_main_v94 (F := Ideal) x t b al, val_main_v97 (F := Ideal) x t b al, val_main_v100 (F := Ideal) x t b al,
    val_main_v103 (F := Ideal) x t b al, val_main_v106 (F := Ideal) x t b al, val_main_v109 (F := Ideal) x t b al, val_main_v112 (F := Ideal) x t b al, val_main_v115 (F := Ideal) x t b al, val_main_v118 (F := Ideal) x t b al,
    val_main_v121 (F := Ideal) x t b al, val_main_v124 (F := Ideal) x t b al, val_main_v127 (F := Ideal) x t b al, val_main_v130 (F := Ideal) x t b al]

/-- The cotangents of the states leaving the chunks. -/
def cot : Fin 16 → FVec Ideal S1x8x4x64x128 .f32 :=
  ![val_main_v270 (F := Ideal) x t b al y, val_main_v264 (F := Ideal) x t b al y, val_main_v258 (F := Ideal) x t b al y, val_main_v252 (F := Ideal) x t b al y, val_main_v246 (F := Ideal) x t b al y, val_main_v240 (F := Ideal) x t b al y,
    val_main_v234 (F := Ideal) x t b al y, val_main_v228 (F := Ideal) x t b al y, val_main_v222 (F := Ideal) x t b al y, val_main_v216 (F := Ideal) x t b al y, val_main_v210 (F := Ideal) x t b al y, val_main_v204 (F := Ideal) x t b al y,
    val_main_v198 (F := Ideal) x t b al y, val_main_v192 (F := Ideal) x t b al y, val_main_v186 (F := Ideal) x t b al y, val_main_v277 (F := Ideal)]

/-- A chunk's piece of an array, and a chunk's decay laid over a state. -/
theorem piece (o : Fin 16) (v : FVec Ideal S16x8x4x64x128 .f32) (h : S16x8x4x64x128.Slices ![o.val, 0, 0, 0, 0] S1x8x4x64x128)
    (g : Fin 8) (r : Fin 4) (p : Fin 64) (n : Fin 128) :
    extractStridedSlice S1x8x4x64x128 ![o.val, 0, 0, 0, 0] v h (ix5 0 g r p n) = v (ix5 o g r p n) := by
  pointwise

theorem laid (o : Fin 16) (h : S16x8x4x1x1.Slices ![o.val, 0, 0, 0, 0] S1x8x4x1x1) (g : Fin 8) (r : Fin 4) (p : Fin 64) (n : Fin 128) :
    broadcastInDim S1x8x4x64x128 ![0, 1, 2, 3, 4] bcast_S1x8x4x1x1_S1x8x4x64x128_0_1_2_3_4
        (extractStridedSlice S1x8x4x1x1 ![o.val, 0, 0, 0, 0] (val_main_v69 (F := Ideal) t b al) h) (ix5 0 g r p n)
      = val_main_v51 (F := Ideal) t b al (ix3 o g r) := by
  pointwise [val_main_v69]

theorem car_step (o : Fin 15) (g : Fin 8) (r : Fin 4) (p : Fin 64) (n : Fin 128) : car x t b al o.succ (ix5 0 g r p n)
    = car x t b al o.castSucc (ix5 0 g r p n) * val_main_v51 (F := Ideal) t b al (ix3 o.castSucc g r)
      + val_main_v48 (F := Ideal) x t b al (ix5 o.castSucc g r p n) := by
  rw [← piece o.castSucc (val_main_v48 (F := Ideal) x t b al) (by revert o; decide) g r p n, ← laid t b al o.castSucc (by revert o; decide) g r p n]
  fin_cases o <;> rfl

theorem cot_step (o : Fin 14) (g : Fin 8) (r : Fin 4) (p : Fin 64) (n : Fin 128) : cot x t b al y o.castSucc.castSucc (ix5 0 g r p n)
    = val_main_v170 (F := Ideal) x t b al y (ix5 o.succ.castSucc g r p n)
      + cot x t b al y o.succ.castSucc (ix5 0 g r p n) * val_main_v51 (F := Ideal) t b al (ix3 o.succ.castSucc g r) := by
  rw [← piece o.succ.castSucc (val_main_v170 (F := Ideal) x t b al y) (by revert o; decide) g r p n, ← laid t b al o.succ.castSucc (by revert o; decide) g r p n]
  fin_cases o <;> rfl

theorem car_first (g : Fin 8) (r : Fin 4) (p : Fin 64) (n : Fin 128) : car x t b al 0 (ix5 0 g r p n) = 0 := by
  show val_main_v52 (F := Ideal) (ix5 0 g r p n) = 0
  pointwise [val_main_v52, val_main_cst_0]

theorem cot_last (g : Fin 8) (r : Fin 4) (p : Fin 64) (n : Fin 128) : cot x t b al y 15 (ix5 0 g r p n) = 0 := by
  show val_main_v277 (F := Ideal) (ix5 0 g r p n) = 0
  pointwise [val_main_v277, val_main_cst_24]

theorem cot_before (g : Fin 8) (r : Fin 4) (p : Fin 64) (n : Fin 128) :
    cot x t b al y 14 (ix5 0 g r p n) = val_main_v170 (F := Ideal) x t b al y (ix5 15 g r p n) := by
  show val_main_v186 (F := Ideal) x t b al y _ = _
  pointwise [val_main_v186]

/-- The states side by side, the cotangents side by side, and the gradients of the chunks' decays. -/
theorem r134_car (q : Fin 16) (g : Fin 8) (r : Fin 4) (p : Fin 64) (n : Fin 128) :
    val_main_v134 (F := Ideal) x t b al (ix5 q g r p n) = car x t b al q (ix5 0 g r p n) := by
  unfold val_main_v134
  concat_tiles i h
  all_goals
    (obtain rfl : i = ix5 0 g r p n := by
      rw [eq_ix5 i]
      congr 1 <;> first | exact Fin.ext h0 | exact Fin.ext h1 | exact Fin.ext h2 | exact Fin.ext h3 | exact Fin.ext h4)
  all_goals
    (obtain rfl : q = ⟨_, by decide⟩ := Fin.ext h
     rfl)

theorem r278_cot (q : Fin 16) (g : Fin 8) (r : Fin 4) (p : Fin 64) (n : Fin 128) :
    val_main_v278 (F := Ideal) x t b al y (ix5 q g r p n) = cot x t b al y q (ix5 0 g r p n) := by
  unfold val_main_v278
  concat_tiles i h
  all_goals
    (obtain rfl : i = ix5 0 g r p n := by
      rw [eq_ix5 i]
      congr 1 <;> first | exact Fin.ext h0 | exact Fin.ext h1 | exact Fin.ext h2 | exact Fin.ext h3 | exact Fin.ext h4)
  all_goals
    (obtain rfl : q = ⟨_, by decide⟩ := Fin.ext h
     rfl)

/-- A chunk's decay's gradient: its state against its cotangent. -/
theorem against (v w : FVec Ideal S1x8x4x64x128 .f32) (g : Fin 8) (r : Fin 4) :
    (shapeCast S1x8x4x1x1 (Host.reduceAdd (F := Ideal) (mulf v w) (val_main_cst_21 (F := Ideal)) reducesTo_S1x8x4x64x128_S1x8x4_d3_4 h_S_)
      shapeCasts_S1x8x4_S1x8x4x1x1 : FVec Ideal S1x8x4x1x1 .f32) (ix5 0 g r 0 0) = ∑ p : Fin 64, ∑ n : Fin 128, v (ix5 0 g r p n) * w (ix5 0 g r p n) := by
  pointwise [val_main_cst_21]
  rw [sum34 reducesTo_S1x8x4x64x128_S1x8x4_d3_4, zero_add]
  rfl

theorem r275_sum (q : Fin 16) (g : Fin 8) (r : Fin 4) :
    val_main_v275 (F := Ideal) x t b al y (ix5 q g r 0 0)
      = ∑ p : Fin 64, ∑ n : Fin 128, car x t b al q (ix5 0 g r p n) * cot x t b al y q (ix5 0 g r p n) := by
  unfold val_main_v275
  concat_tiles i h
  all_goals
    (obtain rfl : i = ix5 0 g r 0 0 := by
      rw [eq_ix5 i]
      congr 1 <;> first | exact Fin.ext h0 | exact Fin.ext h1 | exact Fin.ext h2 | exact Fin.ext h3 | exact Fin.ext h4)
  all_goals
    (obtain rfl : q = ⟨_, by decide⟩ := Fin.ext h)
  all_goals try exact against _ _ g r
  have e (p n) : cot x t b al y ⟨15, by decide⟩ (ix5 0 g r p n) = 0 := cot_last x t b al y g r p n
  simp only [e, mul_zero, Finset.sum_const_zero]
  pointwise [val_main_v274, val_main_cst_22]

end Arrays

variable {k : Args} {x : FVec Ideal S2048x4096 .f32} {t : FVec Ideal S2048x32 .f32} {b al : FVec Ideal S32 .f32} {y : FVec Ideal S2048x2048 .f32}
    (H : Says k x t b al y)
include H

/-- The states are the scan's. -/
theorem car_eq (n : ℕ) : ∀ q : Fin 16, q.val = n → ∀ g r p n', car x t b al q (ix5 0 g r p n') = (k.S q.val g n' r p : EReal) := by
  induction n with
  | zero =>
    intro q hq g r p n'
    obtain rfl : q = 0 := Fin.ext hq
    exact (car_first x t b al g r p n').trans EReal.coe_zero.symm
  | succ n ih =>
    intro q hq g r p n'
    obtain ⟨o, rfl⟩ : ∃ o : Fin 15, q = o.succ := ⟨⟨n, by omega⟩, Fin.ext hq⟩
    have e : Args.nth o.val = o.castSucc := Args.nth_val o.castSucc
    rw [car_step, ih o.castSucc (by simpa using hq), r51 H, r48 H, ← EReal.coe_mul, ← EReal.coe_add]
    show _ = ((k.S (o.val + 1) g n' r p : ℝ) : EReal)
    rw [Args.S, e]; rfl

theorem r134 (q : Fin 16) (g : Fin 8) (r : Fin 4) (p : Fin 64) (n : Fin 128) :
    val_main_v134 (F := Ideal) x t b al (ix5 q g r p n) = ((k.chunk q g).s n r p : EReal) := by
  rw [r134_car, car_eq H q.val q rfl]; rfl

theorem r164 (q : Fin 16) (i : Fin 128) (g : Fin 8) (r : Fin 4) (p : Fin 64) :
    val_main_v164 (F := Ideal) t b al y (ix5 q i g r p) = (((k.chunk q g).dy i r p * (k.chunk q g).ecs i r : ℝ) : EReal) := by
  pointwise [val_main_v164, val_main_v163, val_main_v139, r138 H, r159 H]
  rw [← EReal.coe_mul]; rfl

theorem r170 (q : Fin 16) (g : Fin 8) (r : Fin 4) (p : Fin 64) (n : Fin 128) : val_main_v170 (F := Ideal) x t b al y (ix5 q g r p n)
    = ((∑ i, (k.chunk q g).c i n * ((k.chunk q g).dy i r p * (k.chunk q g).ecs i r) : ℝ) : EReal) := by
  pointwise [val_main_v170, val_main_v167, r164 H, r15 H]
  simp only [← EReal.coe_mul, ← coe_sum]
  exact congrArg _ (Finset.sum_congr rfl fun i _ => mul_comm _ _)

/-- The cotangents are the reversed scan's. -/
theorem cot_eq (n : ℕ) : ∀ q : Fin 16, 15 - q.val = n → ∀ g r p n', cot x t b al y q (ix5 0 g r p n') = (k.U (15 - q.val) g n' r p : EReal) := by
  induction n with
  | zero =>
    intro q hq g r p n'
    obtain rfl : q = 15 := Fin.ext (by show q.val = 15; omega)
    exact (cot_last x t b al y g r p n').trans EReal.coe_zero.symm
  | succ n ih =>
    intro q hq g r p n'
    rcases (by omega : q.val = 14 ∨ q.val < 14) with hq' | hq'
    · obtain rfl : q = 14 := Fin.ext hq'
      rw [cot_before, r170 H]
      show _ = ((k.U (15 - (15 : Fin 16).val + 1) g n' r p : ℝ) : EReal)
      rw [Args.U_succ]
      refine congrArg _ ?_
      show _ = _ * (0 : ℝ) + _
      rw [mul_zero, zero_add]
    · obtain ⟨o, rfl⟩ : ∃ o : Fin 14, q = o.castSucc.castSucc := ⟨⟨q.val, hq'⟩, rfl⟩
      have e : 15 - o.castSucc.castSucc.val = 15 - o.succ.castSucc.val + 1 := by simp only [Fin.val_castSucc, Fin.val_succ]; omega
      rw [cot_step, ih o.succ.castSucc (by omega), r170 H, r51 H, ← EReal.coe_mul, ← EReal.coe_add, e, Args.U_succ]
      refine congrArg _ ?_
      simp only [Chunk.ds]
      rw [add_comm, mul_comm]; rfl

theorem r278 (q : Fin 16) (g : Fin 8) (r : Fin 4) (p : Fin 64) (n : Fin 128) :
    val_main_v278 (F := Ideal) x t b al y (ix5 q g r p n) = ((k.chunk q g).u n r p : EReal) := by
  rw [r278_cot, cot_eq H _ q rfl]; rfl

theorem r279 (q : Fin 16) (g : Fin 8) (r : Fin 4) : val_main_v279 (F := Ideal) x t b al y (ix3 q g r)
    = ((∑ p, (k.chunk q g).el r * ∑ n, (k.chunk q g).s n r p * (k.chunk q g).u n r p : ℝ) : EReal) := by
  pointwise [val_main_v279, val_main_v276, val_main_cst_23, r51 H]
  rw [sum34 reducesTo_S16x8x4x1x1_S16x8x4_d3_4, zero_add]
  simp only [Fin.sum_univ_one]
  rw [r275_sum]
  simp only [car_eq H _ _ rfl, cot_eq H _ _ rfl, ← EReal.coe_mul, ← coe_sum]
  refine congrArg _ ?_
  rw [mul_comm, Finset.mul_sum]
  rfl

end Cert.Proof.Ssd

end
-- ==== Proof.Ssd.RefB.lean ====
/- The reference's backward lines inside a chunk, as real numbers. -/
module

public import proofs.«01_k».proof.Proof.Ssd.Carry

@[expose] public section

set_option maxRecDepth 16384

noncomputable section

namespace Cert.Proof.Ssd

open Cert.Reference2Ideal Cert.Reference2Ideal.Gen Cert.Reference2Ideal.Read Idealize.ShloMosaic Idealize.ShloMosaic.TcCoe

variable {k : Args} {x : FVec Ideal S2048x4096 .f32} {t : FVec Ideal S2048x32 .f32} {b al : FVec Ideal S32 .f32} {y : FVec Ideal S2048x2048 .f32}
    (H : Says k x t b al y)
include H

theorem r137 (q : Fin 16) (i : Fin 128) (g : Fin 8) (r : Fin 4) (p : Fin 64) : val_main_v137 (F := Ideal) x t b al (ix5 q i g r p)
    = ((∑ n, (k.chunk q g).c i n * (k.chunk q g).s n r p : ℝ) : EReal) := by
  pointwise [val_main_v137, val_main_v136, r134 H, r15 H]
  simp only [← EReal.coe_mul, ← coe_sum]
  exact congrArg _ (Finset.sum_congr rfl fun n _ => mul_comm _ _)

theorem r166 (q : Fin 16) (i : Fin 128) (g : Fin 8) (r : Fin 4) : val_main_v166 (F := Ideal) x t b al y (ix4 q i g r)
    = ((∑ p, (k.chunk q g).dy i r p * ((k.chunk q g).ecs i r * ∑ n, (k.chunk q g).c i n * (k.chunk q g).s n r p) : ℝ) : EReal) := by
  pointwise [val_main_v166, val_main_v165, val_main_v162, val_main_v161, val_main_v160, val_main_cst_5, val_main_cst_6, r137 H, r138 H, r159 H]
  simp only [Fin.sum_univ_one, ← EReal.coe_mul, ← coe_sum]
  refine congrArg _ ?_
  rw [Finset.sum_mul]
  refine Finset.sum_congr rfl fun p _ => ?_
  show _ * (k.chunk q g).dy i r p * _ = _
  ring

theorem r169 (q : Fin 16) (i : Fin 128) (g : Fin 8) (n : Fin 128) : val_main_v169 (F := Ideal) x t b al y (ix4 q i g n)
    = ((∑ r, ∑ p, ((k.chunk q g).dy i r p * (k.chunk q g).ecs i r) * (k.chunk q g).s n r p : ℝ) : EReal) := by
  pointwise [val_main_v169, val_main_v168, val_main_v167, r164 H, r134 H]
  simp only [← EReal.coe_mul, ← coe_sum]

theorem r284 (q : Fin 16) (j : Fin 128) (g : Fin 8) (n : Fin 128) : val_main_v284 (F := Ideal) x t b al y (ix4 q j g n)
    = ((∑ r, ∑ p, ((k.chunk q g).xt j r p * (k.chunk q g).dec j r) * (k.chunk q g).u n r p : ℝ) : EReal) := by
  pointwise [val_main_v284, val_main_v283, r278 H, r47 H]
  simp only [← EReal.coe_mul, ← coe_sum]
  refine congrArg _ (Finset.sum_congr rfl fun r _ => Finset.sum_congr rfl fun p _ => ?_)
  ring

theorem r286 (q : Fin 16) (j : Fin 128) (g : Fin 8) (r : Fin 4) (p : Fin 64) : val_main_v286 (F := Ideal) x t b al y (ix5 q j g r p)
    = ((∑ n, (k.chunk q g).b j n * (k.chunk q g).u n r p : ℝ) : EReal) := by
  pointwise [val_main_v286, val_main_v285, r278 H, r14 H]
  simp only [← EReal.coe_mul, ← coe_sum]
  exact congrArg _ (Finset.sum_congr rfl fun n _ => mul_comm _ _)

theorem r288 (q : Fin 16) (j : Fin 128) (g : Fin 8) (r : Fin 4) (p : Fin 64) : val_main_v288 (F := Ideal) x t b al y (ix5 q j g r p)
    = ((k.chunk q g).t4 j r p : EReal) := by
  pointwise [val_main_v288, val_main_v287, val_main_v45, r286 H, r44 H]
  rw [← EReal.coe_mul]
  exact congrArg _ (mul_comm _ _)

theorem r293 (q : Fin 16) (j : Fin 128) (g : Fin 8) (r : Fin 4) : val_main_v293 (F := Ideal) x t b al y (ix4 q j g r)
    = ((∑ p, (k.chunk q g).xt j r p * (k.chunk q g).t4 j r p : ℝ) : EReal) := by
  pointwise [val_main_v293, val_main_v292, val_main_v291, val_main_v290, val_main_v289, val_main_cst_26, val_main_cst_27, r286 H, r23 H, r44 H]
  simp only [Fin.sum_univ_one, ← EReal.coe_mul, ← coe_sum]
  refine congrArg _ ?_
  rw [Finset.sum_mul]
  refine Finset.sum_congr rfl fun p _ => ?_
  simp only [Chunk.t4]
  ring

theorem r294 (q : Fin 16) (g : Fin 8) (r : Fin 4) : val_main_v294 (F := Ideal) x t b al y (ix3 q g r)
    = ((∑ j, ∑ p, (k.chunk q g).xt j r p * (k.chunk q g).t4 j r p : ℝ) : EReal) := by
  pointwise [val_main_v294, val_main_cst_28, r293 H]
  simp only [← coe_sum]

theorem r302 (q : Fin 16) (i j : Fin 128) (g : Fin 8) (r : Fin 4) : val_main_v302 (F := Ideal) x t b y (ix5 q i j g r)
    = ((k.chunk q g).dm r i j : EReal) := by
  pointwise [val_main_v302, val_main_v301, val_main_v300, r159 H, r23 H]
  simp only [← EReal.coe_mul, ← coe_sum]
  rfl

theorem r304 (q : Fin 16) (j : Fin 128) (g : Fin 8) (r : Fin 4) (p : Fin 64) : val_main_v304 (F := Ideal) x t b al y (ix5 q j g r p)
    = ((∑ i, (k.chunk q g).m r i j * (k.chunk q g).dy i r p : ℝ) : EReal) := by
  pointwise [val_main_v304, val_main_v303, val_main_v300, r159 H, r38 H]
  simp only [← EReal.coe_mul, ← coe_sum]
  exact congrArg _ (Finset.sum_congr rfl fun n _ => mul_comm _ _)

theorem r305 (q : Fin 16) (j : Fin 128) (g : Fin 8) (r : Fin 4) (p : Fin 64) : val_main_v305 (F := Ideal) x t b al y (ix5 q j g r p)
    = ((k.chunk q g).dxdt j r p : EReal) := by
  pointwise [val_main_v305, r288 H, r304 H]
  rw [← EReal.coe_add]; rfl

theorem r320 (q : Fin 16) (i j : Fin 128) (g : Fin 8) (r : Fin 4) : val_main_v320 (F := Ideal) x t b al y (ix5 q i j g r)
    = ((k.chunk q g).e r i j : EReal) := by
  pointwise [val_main_v320, r32, val_main_v319, val_main_v307, val_main_v306, r36 H, r302 H, r33 H, val_main_call4_v0, val_main_call4_cst]
  simp only [Chunk.e, Chunk.m]
  by_cases h : j ≤ i
  · simp only [h, if_true, Scalar.select, ← EReal.coe_mul]
    refine (if_pos (rfl : (1#1 : BitVec 1) = 1)).trans ?_
    rw [EReal.coe_eq_coe_iff]
    ring
  · simp [h, Chunk.l, Scalar.select]

theorem r311 (q : Fin 16) (i j : Fin 128) (g : Fin 8) : val_main_v311 (F := Ideal) x t b al y (ix4 q i j g)
    = ((k.chunk q g).dg i j : EReal) := by
  pointwise [val_main_v311, val_main_v310, val_main_v309, val_main_v308, val_main_cst_30, val_main_cst_31, r302 H, r33 H]
  simp only [Fin.sum_univ_one, ← EReal.coe_mul, ← coe_sum]
  rfl

theorem r315 (q : Fin 16) (i : Fin 128) (g : Fin 8) (n : Fin 128) : val_main_v315 (F := Ideal) x t b al y (ix4 q i g n)
    = ((k.chunk q g).dc i n : EReal) := by
  pointwise [val_main_v315, val_main_v314, val_main_v313, val_main_v312, r169 H, r311 H, r14 H]
  simp only [← EReal.coe_mul, ← coe_sum, ← EReal.coe_add]
  exact congrArg _ (add_comm _ _)

theorem r318 (q : Fin 16) (j : Fin 128) (g : Fin 8) (n : Fin 128) : val_main_v318 (F := Ideal) x t b al y (ix4 q j g n)
    = ((k.chunk q g).db j n : EReal) := by
  pointwise [val_main_v318, val_main_v317, val_main_v316, val_main_v312, r284 H, r311 H, r15 H]
  simp only [← EReal.coe_mul, ← coe_sum, ← EReal.coe_add]
  exact congrArg _ (add_comm _ _)

/-- The running sums' gradients. -/
theorem r329 (q : Fin 16) (i : Fin 128) (g : Fin 8) (r : Fin 4) : val_main_v329 (F := Ideal) x t b al y (ix4 q i g r)
    = (((k.chunk q g).da i r + (k.chunk q g).seg i r + if i = 127 then (k.chunk q g).tail r else 0 : ℝ) : EReal) := by
  pointwise [val_main_v329, val_main_v328, val_main_v327, val_main_v326, val_main_v325, val_main_v324, val_main_v323, val_main_v322, val_main_v321,
    r320 H, val_main_v299, val_main_v298, val_main_v297, val_main_v296, val_main_v295, r294 H, r293 H, val_main_v282, val_main_v281, val_main_v280,
    r279 H, r166 H, val_main_cst_25, val_main_cst_29, val_main_cst_32, val_main_cst_33, val_main_cst_34, val_main_cst_35]
  simp only [Fin.sum_univ_one, ← EReal.coe_neg, ← coe_sum]
  have e : (127 ≤ i.val ∧ i.val - 127 < 1) ↔ i = 127 := ⟨fun h => Fin.ext (by show i.val = 127; omega), fun h => h ▸ by decide⟩
  simp only [e, dite_eq_ite, ← EReal.coe_zero, ← apply_ite (fun a : ℝ => (a : EReal)), ← EReal.coe_add]
  refine congrArg _ ?_
  simp only [Chunk.da, Chunk.seg, Chunk.tail, Finset.sum_sub_distrib, Finset.sum_add_distrib, Finset.sum_neg_distrib]
  rw [Finset.sum_comm (s := (Finset.univ : Finset (Fin 128)))]
  by_cases h : i = 127
  · simp only [h, if_true]; ring
  · simp only [h, if_false]; ring

theorem r336 (q : Fin 16) (i : Fin 128) (g : Fin 8) (r : Fin 4) : val_main_v336 (F := Ideal) x t b al y (ix4 q i g r)
    = ((k.chunk q g).dda i r : EReal) := by
  unfold val_main_v336
  refine (revsum4 _ _ _ h_S_ (by pointwise [val_main_call5_call0_v0, val_main_call5_call0_cst]) q i g r).trans ?_
  simp only [r329 H, ← EReal.coe_zero, ← apply_ite (fun a : ℝ => (a : EReal)), ← coe_sum]
  refine congrArg _ ?_
  have e (j : Fin 128) : (if i ≤ j then (k.chunk q g).da j r + (k.chunk q g).seg j r + if j = 127 then (k.chunk q g).tail r else 0 else 0)
      = (if i ≤ j then (k.chunk q g).da j r + (k.chunk q g).seg j r else 0) + if j = 127 then (k.chunk q g).tail r else 0 := by
    by_cases h : i ≤ j
    · simp [h]
    · have h' : j ≠ 127 := fun e => h (e ▸ Fin.le_def.mpr (by show i.val ≤ 127; omega))
      simp [h, h']
  simp only [e, Finset.sum_add_distrib, Finset.sum_ite_eq', Finset.mem_univ, if_true]
  rfl

theorem r335 (q : Fin 16) (i : Fin 128) (g : Fin 8) (r : Fin 4) : val_main_v335 (F := Ideal) x t b al y (ix4 q i g r)
    = ((∑ p, (k.chunk q g).dxdt i r p * (k.chunk q g).x i r p : ℝ) : EReal) := by
  pointwise [val_main_v335, val_main_v332, val_main_v331, val_main_v330, val_main_cst_36, val_main_cst_37, r305 H, r12 H]
  simp only [Fin.sum_univ_one, ← EReal.coe_mul, ← coe_sum]
  exact congrArg _ (Finset.sum_congr rfl fun n _ => mul_comm _ _)

end Cert.Proof.Ssd

end
-- ==== Proof.Ssd.Host2.lean ====
/- The steps, the running sums, the slopes and the vectors, as the launch reads them. -/
module

public import Idealize.ShloMosaic.Lib.Pointwise
public import Idealize.ShloMosaic.Lib.Claim
public import Idealize.ShloMosaic.Lib.Pipeline.ValueKit
public import Idealize.ShloMosaic.Lib.StableHlo.RunRead
public import proofs.«01_k».proof.Proof.Gen.Kernel2Ideal.Value
public import proofs.«01_k».proof.Proof.Ssd.Spec
public import proofs.«01_k».proof.Proof.Ssd.Reads
public import proofs.«01_k».proof.Proof.Ssd.Host

@[expose] public section

set_option maxRecDepth 16384

noncomputable section

namespace Cert.Proof.Ssd

open Cert.Kernel2Ideal Cert.Kernel2Ideal.Gen Idealize.ShloMosaic Idealize.ShloMosaic.TcCoe

variable (m : (ℓ : Loc nD τ sig) → Buf (Elt Ideal) ℓ) (c : Dev nD)

variable {m c} {k : Args} (H : Says k (Ax m c) (At m c) (Ab m c) (Al m c) (Ay m c))

variable (m c) in
/-- The arrays at their shapes. -/
abbrev dtV : FVec Ideal S8x2048x128 .f32 := V m c main_v109
variable (m c) in
abbrev csV : FVec Ideal S8x2048x128 .f32 := V m c main_v113
variable (m c) in
abbrev sgV : FVec Ideal S8x2048x128 .f32 := V m c main_v122
variable (m c) in
abbrev vecV : FVec Ideal S8x8x128 .f32 := V m c main_v5

include H

theorem v_dt (g : Fin 8) (t : Fin 2048) (r : Fin 4) : dtV m c (ix3 g t (lane r)) = (k.dt t (head g r) : EReal) := by
  have e := w1_dt H
  unfold dt1 at e
  unfold dtV
  rw [V_eq]
  unfold W3 W2
  generalize W1 m c = W at *
  unfold lane
  after_reads_simp
  pointwise
  exact e t (head g r)

omit H in
theorem v_dt0 (g : Fin 8) (t : Fin 2048) (l : Fin 128) (hl : 4 ≤ l.val) : dtV m c (ix3 g t l) = 0 := by
  unfold dtV
  rw [V_eq]
  after_reads_simp
  pointwise
  exact dif_neg (by omega)

theorem v_cs (g : Fin 8) (t : Fin 16) (i) (r : Fin 4) : csV m c (ix3 g (row t i) (lane r)) = (k.cs t i (head g r) : EReal) := by
  have e := w2_cs H
  unfold cs2 at e
  unfold csV
  rw [V_eq]
  unfold W3
  generalize W2 m c = W at *
  unfold lane row
  after_reads_simp
  pointwise
  refine (dif_pos (by omega)).trans ?_
  exact e t i (head g r)

theorem v_sg (g : Fin 8) (t : Fin 2048) (r : Fin 4) : sgV m c (ix3 g t (lane r)) = (k.sg t (head g r) : EReal) := by
  have e := w1_pre H
  unfold pre1 at e
  unfold sgV
  rw [V_eq]
  unfold W3 W2
  generalize W1 m c = W at *
  unfold lane
  after_reads_simp
  pointwise
  have e' : Ideal.div 1 (1 + Ideal.exp (-((k.pre t (head g r) : ℝ) : EReal))) = (k.sg t (head g r) : EReal) := by
    exact Ideal.logistic_coe ..
  rw [← e', ← e]
  rfl

omit H in
theorem v_sg0 (g : Fin 8) (t : Fin 2048) (l : Fin 128) (hl : 4 ≤ l.val) : sgV m c (ix3 g t l) = 0 := by
  unfold sgV
  rw [V_eq]
  after_reads_simp
  pointwise
  exact dif_neg (by omega)

omit H in
theorem v_vec : vecV m c = vec1 m c := by
  unfold vecV
  rw [V_eq]
  unfold W3 W2
  after_reads_simp
-- ==== Proof.Ssd.Slices.lean ====
/- The slices of its input blocks that the body takes for one group. -/
module

public import proofs.«01_k».proof.Proof.Ssd.Ops
public import proofs.«01_k».proof.Proof.Gen.Kernel2Ideal.Value
public import Idealize.ShloMosaic.Lib.Pipeline.ValueKit
public import Idealize.ShloMosaic.Lib.Pipeline.ValueKit.Stack
public import Idealize.ShloMosaic.Lib.Pipeline.ReadBack

@[expose] public section

set_option maxRecDepth 16384

noncomputable section

namespace Cert.Proof.Ssd

open Cert.Kernel2Ideal Cert.Kernel2Ideal.Gen Idealize.ShloMosaic Idealize.ShloMosaic.TcCoe Idealize.SL.Sem

variable {F : FTy → Type} [FloatOps F]

theorem inb3 (g : Fin 8) : ∀ a, (![g.val, 0, 0] : Fin 3 → ℕ) a + S1x128x128.size a ≤ S8x128x128.size a := by fin_cases g <;> decide
theorem inbv (g : Fin 8) : ∀ a, (![g.val, 0, 0] : Fin 3 → ℕ) a + S1x8x128.size a ≤ S8x8x128.size a := by fin_cases g <;> decide
theorem inbd (g : Fin 8) : ∀ a, (![g.val, 0, 0] : Fin 3 → ℕ) a + S1x128x256.size a ≤ S8x128x256.size a := by fin_cases g <;> decide
theorem inbs (g : Fin 8) : ∀ a, (![g.val, 0, 0, 0] : Fin 4 → ℕ) a + S1x1x128x256.size a ≤ S8x1x128x256.size a := by fin_cases g <;> decide
theorem inbw (g : Fin 8) : ∀ a, (![0, 256 * g.val] : Fin 2 → ℕ) a + S128x256.size a ≤ S128x2048.size a := by fin_cases g <;> decide
theorem inbn (g : Fin 8) : ∀ a, (![0, 128 * g.val] : Fin 2 → ℕ) a + S128x128.size a ≤ S128x1024.size a := by fin_cases g <;> decide

/-- Group `g` of an array of eight groups of lanes, of head constants, of states, of one chunk's states. -/
def sl3 (x : Vec F S8x128x128 .f32) (g : Fin 8) : FVec F S128x128 .f32 :=
  shapeCast S128x128 (View.ld x (Rect.unit (s := S8x128x128) ![g.val, 0, 0] S1x128x128.size (inb3 g)) : Vec F S1x128x128 .f32) shapeCasts_S1x128x128_S128x128
def slv (x : Vec F S8x8x128 .f32) (g : Fin 8) : FVec F S8x128 .f32 :=
  shapeCast S8x128 (View.ld x (Rect.unit (s := S8x8x128) ![g.val, 0, 0] S1x8x128.size (inbv g)) : Vec F S1x8x128 .f32) shapeCasts_S1x8x128_S8x128
def sld (x : Vec F S8x128x256 .f32) (g : Fin 8) : FVec F S128x256 .f32 :=
  shapeCast S128x256 (View.ld x (Rect.unit (s := S8x128x256) ![g.val, 0, 0] S1x128x256.size (inbd g)) : Vec F S1x128x256 .f32) shapeCasts_S1x128x256_S128x256
def sls (x : Vec F S8x1x128x256 .f32) (g : Fin 8) : FVec F S128x256 .f32 :=
  shapeCast S128x256 (View.ld x (Rect.unit (s := S8x1x128x256) ![g.val, 0, 0, 0] S1x1x128x256.size (inbs g)) : Vec F S1x1x128x256 .f32) shapeCasts_S1x1x128x256_S128x256
/-- Group `g`'s 256 columns, and its 128 columns. -/
def slw (x : Vec F S128x2048 .f32) (g : Fin 8) : FVec F S128x256 .f32 :=
  View.ld x (Rect.unit (s := S128x2048) ![0, 256 * g.val] S128x256.size (inbw g))
def sln (x : Vec F S128x1024 .f32) (g : Fin 8) : FVec F S128x128 .f32 :=
  View.ld x (Rect.unit (s := S128x1024) ![0, 128 * g.val] S128x128.size (inbn g))

theorem sl3_apply (x : Vec F S8x128x128 .f32) (g : Fin 8) (a b : Fin 128) : sl3 x g (ix2 a b) = x (ix3 g a b) := by
  unfold sl3
  refine (shapeCast_apply _ _ _ (ix3 0 a b) ?_).trans (View.ld_unit_apply_of _ _ _ _ _ _ fun a => ?_)
  · rw [Shape.rowMajor_val_three, Shape.rowMajor_val_two]; simp [ix3, ix2]
  · fin_cases a <;> simp [ix3]

theorem slv_apply (x : Vec F S8x8x128 .f32) (g a : Fin 8) (b : Fin 128) : slv x g (ix2 a b) = x (ix3 g a b) := by
  unfold slv
  refine (shapeCast_apply _ _ _ (ix3 0 a b) ?_).trans (View.ld_unit_apply_of _ _ _ _ _ _ fun a => ?_)
  · rw [Shape.rowMajor_val_three, Shape.rowMajor_val_two]; simp [ix3, ix2]
  · fin_cases a <;> simp [ix3]

theorem sld_apply (x : Vec F S8x128x256 .f32) (g : Fin 8) (a : Fin 128) (b : Fin 256) : sld x g (ix2 a b) = x (ix3 g a b) := by
  unfold sld
  refine (shapeCast_apply _ _ _ (ix3 0 a b) ?_).trans (View.ld_unit_apply_of _ _ _ _ _ _ fun a => ?_)
  · rw [Shape.rowMajor_val_three, Shape.rowMajor_val_two]; simp [ix3, ix2]
  · fin_cases a <;> simp [ix3]

theorem sls_apply (x : Vec F S8x1x128x256 .f32) (g : Fin 8) (a : Fin 128) (b : Fin 256) : sls x g (ix2 a b) = x (ix4 g 0 a b) := by
  unfold sls
  refine (shapeCast_apply _ _ _ (ix4 0 0 a b) ?_).trans (View.ld_unit_apply_of _ _ _ _ _ _ fun a => ?_)
  · rw [Shape.rowMajor_val_four, Shape.rowMajor_val_two]; simp [ix4, ix2]
  · fin_cases a <;> simp [ix4]

theorem slw_apply (x : Vec F S128x2048 .f32) (g : Fin 8) (a : Fin 128) (b : Fin 256) :
    slw x g (ix2 a b) = x (ix2 a ⟨256 * g.val + b.val, by omega⟩) := by
  unfold slw
  refine View.ld_unit_apply_of _ _ _ _ _ _ fun a => ?_
  fin_cases a <;> simp [ix2]

theorem sln_apply (x : Vec F S128x1024 .f32) (g : Fin 8) (a b : Fin 128) :
    sln x g (ix2 a b) = x (ix2 a ⟨128 * g.val + b.val, by omega⟩) := by
  unfold sln
  refine View.ld_unit_apply_of _ _ _ _ _ _ fun a => ?_
  fin_cases a <;> simp [ix2]

end Cert.Proof.Ssd

end
-- ==== Proof.Ssd.Windows.lean ====
/- What each window of the launch holds at a point of its grid: the points walk the chunks from the last one back. -/
module

public import proofs.«01_k».proof.Proof.Ssd.Host2
public import proofs.«01_k».proof.Proof.Ssd.Slices

@[expose] public section

set_option maxRecDepth 16384

noncomputable section

namespace Cert.Proof.Ssd

open Cert.Kernel2Ideal Cert.Kernel2Ideal.Gen Cert.Kernel2Ideal.Value Idealize.ShloMosaic Idealize.ShloMosaic.TcCoe

/-- Which block of its array each window takes at point `t`: the one of chunk `15 - t`. -/
theorem idx : ∀ t : Fin grid0.N, win0_0.index t = ![15 - t.val, 0] ∧ win0_1.index t = ![15 - t.val, 2]
    ∧ win0_2.index t = ![15 - t.val, 3] ∧ win0_3.index t = ![0, 15 - t.val, 0] ∧ win0_4.index t = ![0, 15 - t.val, 0]
    ∧ win0_5.index t = ![0, 15 - t.val, 0] ∧ win0_6.index t = ![0, 0, 0] ∧ win0_7.index t = ![0, 15 - t.val, 0, 0]
    ∧ win0_8.index t = ![15 - t.val, 0] ∧ win0_9.index t = ![15 - t.val, 0] ∧ win0_10.index t = ![15 - t.val, 0]
    ∧ win0_11.index t = ![15 - t.val, 0] ∧ win0_12.index t = ![0, 15 - t.val, 0] ∧ win0_13.index t = ![0, 0, 0] := by decide +kernel

/-- The chunk of a point. -/
def at' (t : Fin grid0.N) : Fin 16 := ⟨15 - t.val, by omega⟩

variable (m : (ℓ : Loc nD τ sig) → Buf (Elt Ideal) ℓ) (c : Dev nD)

theorem blk0 (t : Fin grid0.N) (i : Fin 128) (j : Fin 2048) :
    iblk m c 0 t (ix2 i j) = Ax m c (ix2 (row (at' t) i) ⟨j.val, by omega⟩) := by
  unfold row at'; blk_ext [iblk, V, idx t]

theorem blk1 (t : Fin grid0.N) (i : Fin 128) (j : Fin 1024) :
    iblk m c 1 t (ix2 i j) = Ax m c (ix2 (row (at' t) i) ⟨2048 + j.val, by omega⟩) := by
  unfold row at'; blk_ext [iblk, V, idx t]

theorem blk2 (t : Fin grid0.N) (i : Fin 128) (j : Fin 1024) :
    iblk m c 2 t (ix2 i j) = Ax m c (ix2 (row (at' t) i) ⟨3072 + j.val, by omega⟩) := by
  unfold row at'; blk_ext [iblk, V, idx t]

theorem blk8 (t : Fin grid0.N) (i : Fin 128) (j : Fin 2048) :
    iblk m c 8 t (ix2 i j) = Ay m c (ix2 (row (at' t) i) j) := by
  unfold row at'; blk_ext [iblk, V, idx t]

/-- A window's block of an array, read at an index of the block. -/
theorem blk3 (t : Fin grid0.N) (g : Fin 8) (i l : Fin 128) :
    iblk m c 3 t (ix3 g i l) = dtV m c (ix3 g (row (at' t) i) l) := by
  unfold dtV iblk row at'
  generalize V m c main_v109 = A
  blk_ext [idx t]

theorem blk4 (t : Fin grid0.N) (g : Fin 8) (i l : Fin 128) :
    iblk m c 4 t (ix3 g i l) = csV m c (ix3 g (row (at' t) i) l) := by
  unfold csV iblk row at'
  generalize V m c main_v113 = A
  blk_ext [idx t]

theorem blk5 (t : Fin grid0.N) (g : Fin 8) (i l : Fin 128) :
    iblk m c 5 t (ix3 g i l) = sgV m c (ix3 g (row (at' t) i) l) := by
  unfold sgV iblk row at'
  generalize V m c main_v122 = A
  blk_ext [idx t]

theorem blk6 (t : Fin grid0.N) (g i : Fin 8) (l : Fin 128) :
    iblk m c 6 t (ix3 g i l) = vecV m c (ix3 g i l) := by
  unfold vecV iblk
  generalize V m c main_v5 = A
  blk_ext [idx t]

theorem blk7 (t : Fin grid0.N) (g : Fin 8) (n : Fin 128) (q : Fin 256) :
    iblk m c 7 t (ix4 g 0 n q) = sall m c (ix4 g (at' t) n q) := by
  unfold sall iblk at'
  generalize V m c main_v123 = A
  blk_ext [idx t]

end Cert.Proof.Ssd

end
-- ==== Proof.Ssd.Body.lean ====
module

public import proofs.«01_k».proof.Proof.Ssd.Slices

@[expose] public section

set_option maxRecDepth 16384

noncomputable section

namespace Cert.Proof.Ssd

open Cert.Kernel2Ideal Cert.Kernel2Ideal.Gen Cert.Kernel2Ideal.Value Idealize.ShloMosaic Idealize.ShloMosaic.TcCoe Idealize.SL.Sem

variable {F : FTy → Type} [FloatOps F]

/-- Eight arrays of 256 columns side by side. -/
def beside256 {α : Type} (f : Fin 8 → S128x256.Idx → α) : S128x2048.Idx → α :=
  fun y => f ⟨(y 1).val / 256, Nat.div_lt_of_lt_mul (y 1).isLt⟩ (ix2 (y 0) ⟨(y 1).val % 256, Nat.mod_lt _ (by decide)⟩)

/-- Eight arrays of 128 columns side by side. -/
def beside128 {α : Type} (f : Fin 8 → S128x128.Idx → α) : S128x1024.Idx → α :=
  fun y => f ⟨(y 1).val / 128, Nat.div_lt_of_lt_mul (y 1).isLt⟩ (ix2 (y 0) ⟨(y 1).val % 128, Nat.mod_lt _ (by decide)⟩)

theorem beside256_piece {α : Type} (f : Fin 8 → S128x256.Idx → α) (g : Fin 8) (x : S128x256.Idx) (y : S128x2048.Idx)
    (h0 : (y 0 : ℕ) = (x 0 : ℕ)) (h1 : (y 1 : ℕ) = 256 * g.val + (x 1 : ℕ)) : f g x = beside256 f y := by
  have hx : (x 1 : ℕ) < 256 := (x 1).isLt
  unfold beside256
  rw [show (⟨(y 1).val / 256, Nat.div_lt_of_lt_mul (y 1).isLt⟩ : Fin 8) = g from Fin.ext (by show (y 1 : ℕ) / 256 = _; omega)]
  congr 1
  funext a
  fin_cases a
  · exact Fin.ext h0.symm
  · exact Fin.ext (by show (x 1 : ℕ) = (y 1 : ℕ) % 256; omega)

theorem beside128_piece {α : Type} (f : Fin 8 → S128x128.Idx → α) (g : Fin 8) (x : S128x128.Idx) (y : S128x1024.Idx)
    (h0 : (y 0 : ℕ) = (x 0 : ℕ)) (h1 : (y 1 : ℕ) = 128 * g.val + (x 1 : ℕ)) : f g x = beside128 f y := by
  have hx : (x 1 : ℕ) < 128 := (x 1).isLt
  unfold beside128
  rw [show (⟨(y 1).val / 128, Nat.div_lt_of_lt_mul (y 1).isLt⟩ : Fin 8) = g from Fin.ext (by show (y 1 : ℕ) / 128 = _; omega)]
  congr 1
  funext a
  fin_cases a
  · exact Fin.ext h0.symm
  · exact Fin.ext (by show (x 1 : ℕ) = (y 1 : ℕ) % 128; omega)

/-- What group `g` stores, as functions of the windows: the gradients of the inputs, of `B`, of `C`, of `dt`'s argument,
    of the constants (added to `st`), and of the state. -/
def dxF (x1 x2 : Vec F S128x1024 .f32) (x3 x4 : Vec F S8x128x128 .f32) (x6 : Vec F S8x8x128 .f32) (x8 : Vec F S128x2048 .f32)
    (ds : Vec F S8x128x256 .f32) (g : Fin 8) : Vec F S128x256 .f32 :=
  dxG (sl3 x3 g) (sl3 x4 g) (sln x1 g) (sln x2 g) (slv x6 g) (slw x8 g) (sld ds g)
def dbF (x0 : Vec F S128x2048 .f32) (x2 : Vec F S128x1024 .f32) (x3 x4 : Vec F S8x128x128 .f32) (x8 : Vec F S128x2048 .f32)
    (ds : Vec F S8x128x256 .f32) (g : Fin 8) : Vec F S128x128 .f32 :=
  dbG (sl3 x3 g) (sl3 x4 g) (sln x2 g) (slw x0 g) (slw x8 g) (sld ds g)
def dcF (x0 : Vec F S128x2048 .f32) (x1 : Vec F S128x1024 .f32) (x3 x4 : Vec F S8x128x128 .f32) (x7 : Vec F S8x1x128x256 .f32)
    (x8 : Vec F S128x2048 .f32) (g : Fin 8) : Vec F S128x128 .f32 :=
  dcG (sl3 x3 g) (sl3 x4 g) (sln x1 g) (slw x0 g) (slw x8 g) (sls x7 g)
def ddtF (x0 : Vec F S128x2048 .f32) (x1 x2 : Vec F S128x1024 .f32) (x3 x4 x5 : Vec F S8x128x128 .f32) (x6 : Vec F S8x8x128 .f32)
    (x7 : Vec F S8x1x128x256 .f32) (x8 : Vec F S128x2048 .f32) (ds : Vec F S8x128x256 .f32) (g : Fin 8) : Vec F S128x128 .f32 :=
  ddtG (sl3 x3 g) (sl3 x4 g) (sl3 x5 g) (sln x1 g) (sln x2 g) (slv x6 g) (slw x0 g) (slw x8 g) (sls x7 g) (sld ds g)
def stF (x0 : Vec F S128x2048 .f32) (x1 x2 : Vec F S128x1024 .f32) (x3 x4 : Vec F S8x128x128 .f32) (x6 : Vec F S8x8x128 .f32)
    (x7 : Vec F S8x1x128x256 .f32) (x8 : Vec F S128x2048 .f32) (st : Vec F S8x8x128 .f32) (ds : Vec F S8x128x256 .f32) (g : Fin 8) :
    Vec F S8x128 .f32 :=
  addf (slv st g) (stG (sl3 x3 g) (sl3 x4 g) (sln x1 g) (sln x2 g) (slv x6 g) (slw x0 g) (slw x8 g) (sls x7 g) (sld ds g))
def dsF (x2 : Vec F S128x1024 .f32) (x4 : Vec F S8x128x128 .f32) (x8 : Vec F S128x2048 .f32) (ds : Vec F S8x128x256 .f32) (g : Fin 8) :
    Vec F S128x256 .f32 :=
  dsG (sl3 x4 g) (sln x2 g) (slw x8 g) (sld ds g)

/-- Every index of a stack of eight lies in the slice of its first coordinate. -/
theorem cover_st (y : S8x8x128.Idx) (g : Fin 8) (h : (y 0).val = g.val) : y ∈ (Rect.unit (s := S8x8x128) ![g.val, 0, 0] S1x8x128.size (inbv g)).set := by
  rw [Rect.mem_set_unit]
  intro a
  have h1 : (y 1).val < 8 := (y 1).isLt
  have h2 : (y 2).val < 128 := (y 2).isLt
  fin_cases a <;> constructor <;> simp [h, h1, h2]

theorem cover_ds (y : S8x128x256.Idx) (g : Fin 8) (h : (y 0).val = g.val) : y ∈ (Rect.unit (s := S8x128x256) ![g.val, 0, 0] S1x128x256.size (inbd g)).set := by
  rw [Rect.mem_set_unit]
  intro a
  have h1 : (y 1).val < 128 := (y 1).isLt
  have h2 : (y 2).val < 256 := (y 2).isLt
  fin_cases a <;> constructor <;> simp [h, h1, h2]

/-- Eight stores, one below each index, over an earlier store leave the stack. -/
theorem canon_st (G : Vec F S8x8x128 .f32) (w0 w1 w2 w3 w4 w5 w6 w7 : Vec F S1x8x128 .f32) (q : View.Piece (Elt F) S8x8x128 .f32)
    (h0 : ∀ x, w0 x = G ((Rect.unit (s := S8x8x128) ![0, 0, 0] S1x8x128.size (inbv 0)).emb x)) (h1 : ∀ x, w1 x = G ((Rect.unit (s := S8x8x128) ![1, 0, 0] S1x8x128.size (inbv 1)).emb x)) (h2 : ∀ x, w2 x = G ((Rect.unit (s := S8x8x128) ![2, 0, 0] S1x8x128.size (inbv 2)).emb x)) (h3 : ∀ x, w3 x = G ((Rect.unit (s := S8x8x128) ![3, 0, 0] S1x8x128.size (inbv 3)).emb x)) (h4 : ∀ x, w4 x = G ((Rect.unit (s := S8x8x128) ![4, 0, 0] S1x8x128.size (inbv 4)).emb x)) (h5 : ∀ x, w5 x = G ((Rect.unit (s := S8x8x128) ![5, 0, 0] S1x8x128.size (inbv 5)).emb x)) (h6 : ∀ x, w6 x = G ((Rect.unit (s := S8x8x128) ![6, 0, 0] S1x8x128.size (inbv 6)).emb x)) (h7 : ∀ x, w7 x = G ((Rect.unit (s := S8x8x128) ![7, 0, 0] S1x8x128.size (inbv 7)).emb x)) (y : S8x8x128.Idx) :
    View.canon ([⟨Rect.unit (s := S8x8x128) ![7, 0, 0] S1x8x128.size (inbv 7), w7⟩, ⟨Rect.unit (s := S8x8x128) ![6, 0, 0] S1x8x128.size (inbv 6), w6⟩, ⟨Rect.unit (s := S8x8x128) ![5, 0, 0] S1x8x128.size (inbv 5), w5⟩, ⟨Rect.unit (s := S8x8x128) ![4, 0, 0] S1x8x128.size (inbv 4), w4⟩, ⟨Rect.unit (s := S8x8x128) ![3, 0, 0] S1x8x128.size (inbv 3), w3⟩, ⟨Rect.unit (s := S8x8x128) ![2, 0, 0] S1x8x128.size (inbv 2), w2⟩, ⟨Rect.unit (s := S8x8x128) ![1, 0, 0] S1x8x128.size (inbv 1), w1⟩, ⟨Rect.unit (s := S8x8x128) ![0, 0, 0] S1x8x128.size (inbv 0), w0⟩] ++ [q]) y = G y := by
  refine View.canon_append_of_piecesOf G [q] [⟨Rect.unit (s := S8x8x128) ![7, 0, 0] S1x8x128.size (inbv 7), w7⟩, ⟨Rect.unit (s := S8x8x128) ![6, 0, 0] S1x8x128.size (inbv 6), w6⟩, ⟨Rect.unit (s := S8x8x128) ![5, 0, 0] S1x8x128.size (inbv 5), w5⟩, ⟨Rect.unit (s := S8x8x128) ![4, 0, 0] S1x8x128.size (inbv 4), w4⟩, ⟨Rect.unit (s := S8x8x128) ![3, 0, 0] S1x8x128.size (inbv 3), w3⟩, ⟨Rect.unit (s := S8x8x128) ![2, 0, 0] S1x8x128.size (inbv 2), w2⟩, ⟨Rect.unit (s := S8x8x128) ![1, 0, 0] S1x8x128.size (inbv 1), w1⟩, ⟨Rect.unit (s := S8x8x128) ![0, 0, 0] S1x8x128.size (inbv 0), w0⟩] ⟨h7, h6, h5, h4, h3, h2, h1, h0, trivial⟩ y ?_
  have hy : (y 0).val < 8 := (y 0).isLt
  have h : (y 0).val = 0 ∨ (y 0).val = 1 ∨ (y 0).val = 2 ∨ (y 0).val = 3 ∨ (y 0).val = 4 ∨ (y 0).val = 5 ∨ (y 0).val = 6 ∨ (y 0).val = 7 := by omega
  rcases h with h | h | h | h | h | h | h | h
  · exact ⟨⟨_, w0⟩, .tail _ (.tail _ (.tail _ (.tail _ (.tail _ (.tail _ (.tail _ (.head _))))))), cover_st y 0 h⟩
  · exact ⟨⟨_, w1⟩, .tail _ (.tail _ (.tail _ (.tail _ (.tail _ (.tail _ (.head _)))))), cover_st y 1 h⟩
  · exact ⟨⟨_, w2⟩, .tail _ (.tail _ (.tail _ (.tail _ (.tail _ (.head _))))), cover_st y 2 h⟩
  · exact ⟨⟨_, w3⟩, .tail _ (.tail _ (.tail _ (.tail _ (.head _)))), cover_st y 3 h⟩
  · exact ⟨⟨_, w4⟩, .tail _ (.tail _ (.tail _ (.head _))), cover_st y 4 h⟩
  · exact ⟨⟨_, w5⟩, .tail _ (.tail _ (.head _)), cover_st y 5 h⟩
  · exact ⟨⟨_, w6⟩, .tail _ (.head _), cover_st y 6 h⟩
  · exact ⟨⟨_, w7⟩, .head _, cover_st y 7 h⟩

/-- Eight stores, one below each index, over an earlier store leave the stack. -/
theorem canon_ds (G : Vec F S8x128x256 .f32) (w0 w1 w2 w3 w4 w5 w6 w7 : Vec F S1x128x256 .f32) (q : View.Piece (Elt F) S8x128x256 .f32)
    (h0 : ∀ x, w0 x = G ((Rect.unit (s := S8x128x256) ![0, 0, 0] S1x128x256.size (inbd 0)).emb x)) (h1 : ∀ x, w1 x = G ((Rect.unit (s := S8x128x256) ![1, 0, 0] S1x128x256.size (inbd 1)).emb x)) (h2 : ∀ x, w2 x = G ((Rect.unit (s := S8x128x256) ![2, 0, 0] S1x128x256.size (inbd 2)).emb x)) (h3 : ∀ x, w3 x = G ((Rect.unit (s := S8x128x256) ![3, 0, 0] S1x128x256.size (inbd 3)).emb x)) (h4 : ∀ x, w4 x = G ((Rect.unit (s := S8x128x256) ![4, 0, 0] S1x128x256.size (inbd 4)).emb x)) (h5 : ∀ x, w5 x = G ((Rect.unit (s := S8x128x256) ![5, 0, 0] S1x128x256.size (inbd 5)).emb x)) (h6 : ∀ x, w6 x = G ((Rect.unit (s := S8x128x256) ![6, 0, 0] S1x128x256.size (inbd 6)).emb x)) (h7 : ∀ x, w7 x = G ((Rect.unit (s := S8x128x256) ![7, 0, 0] S1x128x256.size (inbd 7)).emb x)) (y : S8x128x256.Idx) :
    View.canon ([⟨Rect.unit (s := S8x128x256) ![7, 0, 0] S1x128x256.size (inbd 7), w7⟩, ⟨Rect.unit (s := S8x128x256) ![6, 0, 0] S1x128x256.size (inbd 6), w6⟩, ⟨Rect.unit (s := S8x128x256) ![5, 0, 0] S1x128x256.size (inbd 5), w5⟩, ⟨Rect.unit (s := S8x128x256) ![4, 0, 0] S1x128x256.size (inbd 4), w4⟩, ⟨Rect.unit (s := S8x128x256) ![3, 0, 0] S1x128x256.size (inbd 3), w3⟩, ⟨Rect.unit (s := S8x128x256) ![2, 0, 0] S1x128x256.size (inbd 2), w2⟩, ⟨Rect.unit (s := S8x128x256) ![1, 0, 0] S1x128x256.size (inbd 1), w1⟩, ⟨Rect.unit (s := S8x128x256) ![0, 0, 0] S1x128x256.size (inbd 0), w0⟩] ++ [q]) y = G y := by
  refine View.canon_append_of_piecesOf G [q] [⟨Rect.unit (s := S8x128x256) ![7, 0, 0] S1x128x256.size (inbd 7), w7⟩, ⟨Rect.unit (s := S8x128x256) ![6, 0, 0] S1x128x256.size (inbd 6), w6⟩, ⟨Rect.unit (s := S8x128x256) ![5, 0, 0] S1x128x256.size (inbd 5), w5⟩, ⟨Rect.unit (s := S8x128x256) ![4, 0, 0] S1x128x256.size (inbd 4), w4⟩, ⟨Rect.unit (s := S8x128x256) ![3, 0, 0] S1x128x256.size (inbd 3), w3⟩, ⟨Rect.unit (s := S8x128x256) ![2, 0, 0] S1x128x256.size (inbd 2), w2⟩, ⟨Rect.unit (s := S8x128x256) ![1, 0, 0] S1x128x256.size (inbd 1), w1⟩, ⟨Rect.unit (s := S8x128x256) ![0, 0, 0] S1x128x256.size (inbd 0), w0⟩] ⟨h7, h6, h5, h4, h3, h2, h1, h0, trivial⟩ y ?_
  have hy : (y 0).val < 8 := (y 0).isLt
  have h : (y 0).val = 0 ∨ (y 0).val = 1 ∨ (y 0).val = 2 ∨ (y 0).val = 3 ∨ (y 0).val = 4 ∨ (y 0).val = 5 ∨ (y 0).val = 6 ∨ (y 0).val = 7 := by omega
  rcases h with h | h | h | h | h | h | h | h
  · exact ⟨⟨_, w0⟩, .tail _ (.tail _ (.tail _ (.tail _ (.tail _ (.tail _ (.tail _ (.head _))))))), cover_ds y 0 h⟩
  · exact ⟨⟨_, w1⟩, .tail _ (.tail _ (.tail _ (.tail _ (.tail _ (.tail _ (.head _)))))), cover_ds y 1 h⟩
  · exact ⟨⟨_, w2⟩, .tail _ (.tail _ (.tail _ (.tail _ (.tail _ (.head _))))), cover_ds y 2 h⟩
  · exact ⟨⟨_, w3⟩, .tail _ (.tail _ (.tail _ (.tail _ (.head _)))), cover_ds y 3 h⟩
  · exact ⟨⟨_, w4⟩, .tail _ (.tail _ (.tail _ (.head _))), cover_ds y 4 h⟩
  · exact ⟨⟨_, w5⟩, .tail _ (.tail _ (.head _)), cover_ds y 5 h⟩
  · exact ⟨⟨_, w6⟩, .tail _ (.head _), cover_ds y 6 h⟩
  · exact ⟨⟨_, w7⟩, .head _, cover_ds y 7 h⟩

variable (c : Dev nD) (i : grid0.Coords)
  (arg2 : Memref sig .tc .vmem S128x2048 .f32) (harg2 : arg2.IsWhole) (arg3 : Memref sig .tc .vmem S128x1024 .f32) (harg3 : arg3.IsWhole) (arg4 : Memref sig .tc .vmem S128x1024 .f32) (harg4 : arg4.IsWhole)
  (arg5 : Memref sig .tc .vmem S8x128x128 .f32) (harg5 : arg5.IsWhole) (arg6 : Memref sig .tc .vmem S8x128x128 .f32) (harg6 : arg6.IsWhole) (arg7 : Memref sig .tc .vmem S8x128x128 .f32) (harg7 : arg7.IsWhole)
  (arg8 : Memref sig .tc .vmem S8x8x128 .f32) (harg8 : arg8.IsWhole) (arg9 : Memref sig .tc .vmem S8x1x128x256 .f32) (harg9 : arg9.IsWhole) (arg10 : Memref sig .tc .vmem S128x2048 .f32) (harg10 : arg10.IsWhole)
  (arg11 : Memref sig .tc .vmem S128x2048 .f32) (harg11 : arg11.IsWhole) (arg12 : Memref sig .tc .vmem S128x1024 .f32) (harg12 : arg12.IsWhole) (arg13 : Memref sig .tc .vmem S128x1024 .f32) (harg13 : arg13.IsWhole)
  (arg14 : Memref sig .tc .vmem S8x128x128 .f32) (harg14 : arg14.IsWhole) (arg15 : Memref sig .tc .vmem S8x8x128 .f32) (harg15 : arg15.IsWhole) (arg16 : Memref sig .tc .vmem S8x128x256 .f32) (harg16 : arg16.IsWhole)
  (x0 : Vec F S128x2048 .f32) (x1 x2 : Vec F S128x1024 .f32) (x3 x4 x5 : Vec F S8x128x128 .f32) (x6 : Vec F S8x8x128 .f32)
  (x7 : Vec F S8x1x128x256 .f32) (x8 : Vec F S128x2048 .f32) (xo13 : Vec F S8x8x128 .f32) (xs0 : Vec F S8x128x256 .f32)

/-- The inputs' gradient stored at a later point. -/
theorem out_B_dx (hc) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = beside256 (dxF x1 x2 x3 x4 x6 x8 xs0) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside256_piece (dxF x1 x2 x3 x4 x6 x8 xs0) 7 x y h0 h1, beside256_piece (dxF x1 x2 x3 x4 x6 x8 xs0) 6 x y h0 h1, beside256_piece (dxF x1 x2 x3 x4 x6 x8 xs0) 5 x y h0 h1, beside256_piece (dxF x1 x2 x3 x4 x6 x8 xs0) 4 x y h0 h1, beside256_piece (dxF x1 x2 x3 x4 x6 x8 xs0) 3 x y h0 h1, beside256_piece (dxF x1 x2 x3 x4 x6 x8 xs0) 2 x y h0 h1, beside256_piece (dxF x1 x2 x3 x4 x6 x8 xs0) 1 x y h0 h1, beside256_piece (dxF x1 x2 x3 x4 x6 x8 xs0) 0 x y h0 (by simpa using h1)]

/-- The gradient of `B` stored at a later point. -/
theorem out_B_db (hc) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = beside128 (dbF x0 x2 x3 x4 x8 xs0) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside128_piece (dbF x0 x2 x3 x4 x8 xs0) 7 x y h0 h1, beside128_piece (dbF x0 x2 x3 x4 x8 xs0) 6 x y h0 h1, beside128_piece (dbF x0 x2 x3 x4 x8 xs0) 5 x y h0 h1, beside128_piece (dbF x0 x2 x3 x4 x8 xs0) 4 x y h0 h1, beside128_piece (dbF x0 x2 x3 x4 x8 xs0) 3 x y h0 h1, beside128_piece (dbF x0 x2 x3 x4 x8 xs0) 2 x y h0 h1, beside128_piece (dbF x0 x2 x3 x4 x8 xs0) 1 x y h0 h1, beside128_piece (dbF x0 x2 x3 x4 x8 xs0) 0 x y h0 (by simpa using h1)]

/-- The gradient of `C` stored at a later point. -/
theorem out_B_dc (hc) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = beside128 (dcF x0 x1 x3 x4 x7 x8) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside128_piece (dcF x0 x1 x3 x4 x7 x8) 7 x y h0 h1, beside128_piece (dcF x0 x1 x3 x4 x7 x8) 6 x y h0 h1, beside128_piece (dcF x0 x1 x3 x4 x7 x8) 5 x y h0 h1, beside128_piece (dcF x0 x1 x3 x4 x7 x8) 4 x y h0 h1, beside128_piece (dcF x0 x1 x3 x4 x7 x8) 3 x y h0 h1, beside128_piece (dcF x0 x1 x3 x4 x7 x8) 2 x y h0 h1, beside128_piece (dcF x0 x1 x3 x4 x7 x8) 1 x y h0 h1, beside128_piece (dcF x0 x1 x3 x4 x7 x8) 0 x y h0 (by simpa using h1)]

/-- The gradient of `dt`'s argument stored at a later point. -/
theorem out_B_ddt (hc) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = stackAlong0 (ddtF x0 x1 x2 x3 x4 x5 x6 x7 x8 xs0) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [stack_piece (ddtF x0 x1 x2 x3 x4 x5 x6 x7 x8 xs0) 7 _ x y h0 (fun a => by fin_cases a <;> assumption), stack_piece (ddtF x0 x1 x2 x3 x4 x5 x6 x7 x8 xs0) 6 _ x y h0 (fun a => by fin_cases a <;> assumption), stack_piece (ddtF x0 x1 x2 x3 x4 x5 x6 x7 x8 xs0) 5 _ x y h0 (fun a => by fin_cases a <;> assumption), stack_piece (ddtF x0 x1 x2 x3 x4 x5 x6 x7 x8 xs0) 4 _ x y h0 (fun a => by fin_cases a <;> assumption), stack_piece (ddtF x0 x1 x2 x3 x4 x5 x6 x7 x8 xs0) 3 _ x y h0 (fun a => by fin_cases a <;> assumption), stack_piece (ddtF x0 x1 x2 x3 x4 x5 x6 x7 x8 xs0) 2 _ x y h0 (fun a => by fin_cases a <;> assumption), stack_piece (ddtF x0 x1 x2 x3 x4 x5 x6 x7 x8 xs0) 1 _ x y h0 (fun a => by fin_cases a <;> assumption), stack_piece (ddtF x0 x1 x2 x3 x4 x5 x6 x7 x8 xs0) 0 _ x y (by simpa using h0) (fun a => by fin_cases a <;> assumption)]

/-- The constants' gradients stored at a later point. -/
theorem out_B_st (hc) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = stackAlong0 (stF x0 x1 x2 x3 x4 x6 x7 x8 xo13 xs0) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [stack_piece (stF x0 x1 x2 x3 x4 x6 x7 x8 xo13 xs0) 7 _ x y h0 (fun a => by fin_cases a <;> assumption), stack_piece (stF x0 x1 x2 x3 x4 x6 x7 x8 xo13 xs0) 6 _ x y h0 (fun a => by fin_cases a <;> assumption), stack_piece (stF x0 x1 x2 x3 x4 x6 x7 x8 xo13 xs0) 5 _ x y h0 (fun a => by fin_cases a <;> assumption), stack_piece (stF x0 x1 x2 x3 x4 x6 x7 x8 xo13 xs0) 4 _ x y h0 (fun a => by fin_cases a <;> assumption), stack_piece (stF x0 x1 x2 x3 x4 x6 x7 x8 xo13 xs0) 3 _ x y h0 (fun a => by fin_cases a <;> assumption), stack_piece (stF x0 x1 x2 x3 x4 x6 x7 x8 xo13 xs0) 2 _ x y h0 (fun a => by fin_cases a <;> assumption), stack_piece (stF x0 x1 x2 x3 x4 x6 x7 x8 xo13 xs0) 1 _ x y h0 (fun a => by fin_cases a <;> assumption), stack_piece (stF x0 x1 x2 x3 x4 x6 x7 x8 xo13 xs0) 0 _ x y (by simpa using h0) (fun a => by fin_cases a <;> assumption)]

/-- The state's gradient stored at a later point. -/
theorem out_B_ds (hc) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0
    = stackAlong0 (dsF x2 x4 x8 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 xo13 xs0)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [stack_piece (dsF x2 x4 x8 xs0) 7 _ x y h0 (fun a => by fin_cases a <;> assumption), stack_piece (dsF x2 x4 x8 xs0) 6 _ x y h0 (fun a => by fin_cases a <;> assumption), stack_piece (dsF x2 x4 x8 xs0) 5 _ x y h0 (fun a => by fin_cases a <;> assumption), stack_piece (dsF x2 x4 x8 xs0) 4 _ x y h0 (fun a => by fin_cases a <;> assumption), stack_piece (dsF x2 x4 x8 xs0) 3 _ x y h0 (fun a => by fin_cases a <;> assumption), stack_piece (dsF x2 x4 x8 xs0) 2 _ x y h0 (fun a => by fin_cases a <;> assumption), stack_piece (dsF x2 x4 x8 xs0) 1 _ x y h0 (fun a => by fin_cases a <;> assumption), stack_piece (dsF x2 x4 x8 xs0) 0 _ x y (by simpa using h0) (fun a => by fin_cases a <;> assumption)]

/-- The inputs' gradient stored at the first point. -/
theorem out_A_dx (hc) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = beside256 (dxF x1 x2 x3 x4 x6 x8 k0_pay4) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside256_piece (dxF x1 x2 x3 x4 x6 x8 k0_pay4) 7 x y h0 h1, beside256_piece (dxF x1 x2 x3 x4 x6 x8 k0_pay4) 6 x y h0 h1, beside256_piece (dxF x1 x2 x3 x4 x6 x8 k0_pay4) 5 x y h0 h1, beside256_piece (dxF x1 x2 x3 x4 x6 x8 k0_pay4) 4 x y h0 h1, beside256_piece (dxF x1 x2 x3 x4 x6 x8 k0_pay4) 3 x y h0 h1, beside256_piece (dxF x1 x2 x3 x4 x6 x8 k0_pay4) 2 x y h0 h1, beside256_piece (dxF x1 x2 x3 x4 x6 x8 k0_pay4) 1 x y h0 h1, beside256_piece (dxF x1 x2 x3 x4 x6 x8 k0_pay4) 0 x y h0 (by simpa using h1)]

/-- The gradient of `B` stored at the first point. -/
theorem out_A_db (hc) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = beside128 (dbF x0 x2 x3 x4 x8 k0_pay4) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside128_piece (dbF x0 x2 x3 x4 x8 k0_pay4) 7 x y h0 h1, beside128_piece (dbF x0 x2 x3 x4 x8 k0_pay4) 6 x y h0 h1, beside128_piece (dbF x0 x2 x3 x4 x8 k0_pay4) 5 x y h0 h1, beside128_piece (dbF x0 x2 x3 x4 x8 k0_pay4) 4 x y h0 h1, beside128_piece (dbF x0 x2 x3 x4 x8 k0_pay4) 3 x y h0 h1, beside128_piece (dbF x0 x2 x3 x4 x8 k0_pay4) 2 x y h0 h1, beside128_piece (dbF x0 x2 x3 x4 x8 k0_pay4) 1 x y h0 h1, beside128_piece (dbF x0 x2 x3 x4 x8 k0_pay4) 0 x y h0 (by simpa using h1)]

/-- The gradient of `C` stored at the first point. -/
theorem out_A_dc (hc) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = beside128 (dcF x0 x1 x3 x4 x7 x8) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [beside128_piece (dcF x0 x1 x3 x4 x7 x8) 7 x y h0 h1, beside128_piece (dcF x0 x1 x3 x4 x7 x8) 6 x y h0 h1, beside128_piece (dcF x0 x1 x3 x4 x7 x8) 5 x y h0 h1, beside128_piece (dcF x0 x1 x3 x4 x7 x8) 4 x y h0 h1, beside128_piece (dcF x0 x1 x3 x4 x7 x8) 3 x y h0 h1, beside128_piece (dcF x0 x1 x3 x4 x7 x8) 2 x y h0 h1, beside128_piece (dcF x0 x1 x3 x4 x7 x8) 1 x y h0 h1, beside128_piece (dcF x0 x1 x3 x4 x7 x8) 0 x y h0 (by simpa using h1)]

/-- The gradient of `dt`'s argument stored at the first point. -/
theorem out_A_ddt (hc) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = stackAlong0 (ddtF x0 x1 x2 x3 x4 x5 x6 x7 x8 k0_pay4) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  canon_tiles x h
  exacts [stack_piece (ddtF x0 x1 x2 x3 x4 x5 x6 x7 x8 k0_pay4) 7 _ x y h0 (fun a => by fin_cases a <;> assumption), stack_piece (ddtF x0 x1 x2 x3 x4 x5 x6 x7 x8 k0_pay4) 6 _ x y h0 (fun a => by fin_cases a <;> assumption), stack_piece (ddtF x0 x1 x2 x3 x4 x5 x6 x7 x8 k0_pay4) 5 _ x y h0 (fun a => by fin_cases a <;> assumption), stack_piece (ddtF x0 x1 x2 x3 x4 x5 x6 x7 x8 k0_pay4) 4 _ x y h0 (fun a => by fin_cases a <;> assumption), stack_piece (ddtF x0 x1 x2 x3 x4 x5 x6 x7 x8 k0_pay4) 3 _ x y h0 (fun a => by fin_cases a <;> assumption), stack_piece (ddtF x0 x1 x2 x3 x4 x5 x6 x7 x8 k0_pay4) 2 _ x y h0 (fun a => by fin_cases a <;> assumption), stack_piece (ddtF x0 x1 x2 x3 x4 x5 x6 x7 x8 k0_pay4) 1 _ x y h0 (fun a => by fin_cases a <;> assumption), stack_piece (ddtF x0 x1 x2 x3 x4 x5 x6 x7 x8 k0_pay4) 0 _ x y (by simpa using h0) (fun a => by fin_cases a <;> assumption)]

/-- The constants' gradients stored at the first point. -/
theorem out_A_st (hc) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = stackAlong0 (stF x0 x1 x2 x3 x4 x6 x7 x8 k0_pay5 k0_pay4) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  have P := fun g hc off inb h0 hs => stack_piece_emb (stF x0 x1 x2 x3 x4 x6 x7 x8 k0_pay5 k0_pay4) g hc off inb h0 hs
  exact canon_st (stackAlong0 (stF x0 x1 x2 x3 x4 x6 x7 x8 k0_pay5 k0_pay4)) _ _ _ _ _ _ _ _ _
    (P 0 _ _ _ rfl (by decide)) (P 1 _ _ _ rfl (by decide)) (P 2 _ _ _ rfl (by decide)) (P 3 _ _ _ rfl (by decide)) (P 4 _ _ _ rfl (by decide)) (P 5 _ _ _ rfl (by decide)) (P 6 _ _ _ rfl (by decide)) (P 7 _ _ _ rfl (by decide)) y

/-- The state's gradient stored at the first point. -/
theorem out_A_ds (hc) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8
    = stackAlong0 (dsF x2 x4 x8 k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg8.read_unread, harg9.read_unread, harg10.read_unread, harg15.read_unread, harg16.read_unread]
  funext y
  have P := fun g hc off inb h0 hs => stack_piece_emb (dsF x2 x4 x8 k0_pay4) g hc off inb h0 hs
  exact canon_ds (stackAlong0 (dsF x2 x4 x8 k0_pay4)) _ _ _ _ _ _ _ _ _
    (P 0 _ _ _ rfl (by decide)) (P 1 _ _ _ rfl (by decide)) (P 2 _ _ _ rfl (by decide)) (P 3 _ _ _ rfl (by decide)) (P 4 _ _ _ rfl (by decide)) (P 5 _ _ _ rfl (by decide)) (P 6 _ _ _ rfl (by decide)) (P 7 _ _ _ rfl (by decide)) y

end Cert.Proof.Ssd

end
-- ==== Proof.Ssd.Heads.lean ====
/- The sums over a head's rows and columns that the body makes as products with indicators, for operands that are real numbers. -/
module

public import proofs.«01_k».proof.Proof.Ssd.Reads

@[expose] public section

set_option maxRecDepth 16384

noncomputable section

namespace Cert.Proof.Ssd

open Cert.Kernel2Ideal Cert.Kernel2Ideal.Gen Idealize.ShloMosaic Idealize.ShloMosaic.TcCoe Idealize.SL.Sem

/-- A head's number in its lane, zero in the lanes past the heads. -/
def atLane (f : Fin 4 → ℝ) (l : Fin 128) : ℝ := if h : l.val < 4 then f ⟨l.val, h⟩ else 0

theorem atLane_lane (f : Fin 4 → ℝ) (r : Fin 4) : atLane f (lane r) = f r := dif_pos r.isLt
theorem atLane_pad (f : Fin 4 → ℝ) (l : Fin 128) (h : 4 ≤ l.val) : atLane f l = 0 := dif_neg (by omega)

theorem lane_cases (l : Fin 128) : (∃ r, l = lane r) ∨ 4 ≤ l.val := by
  rcases Nat.lt_or_ge l.val 4 with h | h
  · exact .inl ⟨⟨l.val, h⟩, rfl⟩
  · exact .inr h

/-- A sum over the heads that only the lane's own head enters. -/
theorem sum_lane (f : Fin 4 → ℝ) (l : Fin 128) : ∑ q, f q * (if l.val = q.val then 1 else 0 : ℝ) = atLane f l := by
  rcases lane_cases l with ⟨r, rfl⟩ | h
  · rw [atLane_lane, Finset.sum_eq_single r]
    · simp [lane]
    · intro q _ hq
      rw [if_neg (fun e => hq (Fin.ext e.symm)), mul_zero]
    · simp
  · rw [atLane_pad _ _ h]
    refine Finset.sum_eq_zero fun q _ => ?_
    rw [if_neg (by omega), mul_zero]

theorem quot_cols : ∀ k : Fin 256, Scalar.select
    (IntOp.andi (IntOp.cmpi .ne (IntOp.subi (BitVec.setWidth 32 (IntOp.cmpi .sgt (BitVec.ofNat 32 k.val) 0#32))
        (BitVec.setWidth 32 (IntOp.cmpi .slt (BitVec.ofNat 32 k.val) 0#32)))
        (Scalar.subi (Scalar.extui (Scalar.cmpi .sgt 64#32 0#32)) (Scalar.extui (Scalar.cmpi .slt 64#32 0#32))))
      (IntOp.cmpi .ne (IntOp.remsi .vector (BitVec.ofNat 32 k.val) 64#32) 0#32))
    (IntOp.subi (IntOp.divsi .vector (BitVec.ofNat 32 k.val) 64#32) 1#32)
    (IntOp.divsi .vector (BitVec.ofNat 32 k.val) 64#32) = BitVec.ofNat 32 (k.val / 64) := by decide +kernel

theorem quot_rows : ∀ k : Fin 512, Scalar.select
    (IntOp.andi (IntOp.cmpi .ne (IntOp.subi (BitVec.setWidth 32 (IntOp.cmpi .sgt (BitVec.ofNat 32 k.val) 0#32))
        (BitVec.setWidth 32 (IntOp.cmpi .slt (BitVec.ofNat 32 k.val) 0#32)))
        (Scalar.subi (Scalar.extui (Scalar.cmpi .sgt 128#32 0#32)) (Scalar.extui (Scalar.cmpi .slt 128#32 0#32))))
      (IntOp.cmpi .ne (IntOp.remsi .vector (BitVec.ofNat 32 k.val) 128#32) 0#32))
    (IntOp.subi (IntOp.divsi .vector (BitVec.ofNat 32 k.val) 128#32) 1#32)
    (IntOp.divsi .vector (BitVec.ofNat 32 k.val) 128#32) = BitVec.ofNat 32 (k.val / 128) := by decide +kernel

theorem word_eq : ∀ (q : Fin 4) (l : Fin 128), IntOp.cmpi .eq (BitVec.ofNat 32 q.val) (BitVec.ofNat 32 l.val)
    = if l.val = q.val then 1#1 else 0#1 := by decide +kernel

theorem word_ge : ∀ i j : Fin 128, IntOp.cmpi .sge (BitVec.ofNat 32 j.val) (BitVec.ofNat 32 i.val) = if i ≤ j then 1#1 else 0#1 := by
  decide +kernel

theorem bit_real (P : Prop) [Decidable P] : (FloatOps.sitofp (F := Ideal) .f32 (BitVec.setWidth 32 (if P then 1#1 else 0#1)))
    = ((if P then 1 else 0 : ℝ) : EReal) := by
  split
  · show (((1 : ℤ) : ℝ) : EReal) = _
    simp
  · show (((0 : ℤ) : ℝ) : EReal) = _
    simp

theorem hsel_apply (r : Fin 4) (p : Fin 64) (l : Fin 128) : hsel (F := Ideal) (ix2 (col r p) l) = ((if l.val = r.val then 1 else 0 : ℝ) : EReal) := by
  pointwise [hsel, quot, sgnW]
  rw [quot_cols, show (col r p).val / 64 = r.val by simp only [col]; omega, word_eq]
  exact bit_real _

theorem hrow_apply (r : Fin 4) (i : Fin 128) (l : Fin 128) : hrow (F := Ideal) (ix2 (blk r i) l) = ((if l.val = r.val then 1 else 0 : ℝ) : EReal) := by
  pointwise [hrow, quot, sgnW]
  rw [quot_rows, show (blk r i).val / 128 = r.val by simp only [blk]; omega, word_eq]
  exact bit_real _

theorem utri_apply (i j : Fin 128) : utri (F := Ideal) (ix2 i j) = ((if i ≤ j then 1 else 0 : ℝ) : EReal) := by
  pointwise [utri]
  rw [word_ge]
  exact bit_real _

theorem headSum_apply (v : FVec Ideal S272x256 .f32) (V : Fin 4 → Fin 64 → ℝ) (i : Fin 272) (hv : ∀ r p, v (ix2 i (col r p)) = (V r p : EReal))
    (l : Fin 128) : headSum v (ix2 i l) = (atLane (fun r => ∑ p, V r p) l : EReal) := by
  pointwise [headSum, hi16, lo16]
  rw [sum_cols, sum_cols]
  simp only [hv, hsel_apply, ← EReal.coe_sub, ← EReal.coe_mul, ← coe_sum, ← EReal.coe_add, sub_self, zero_mul, Finset.sum_const_zero, add_zero]
  rw [← sum_lane]
  simp only [Finset.sum_mul]

theorem suffix_apply (v : FVec Ideal S128x128 .f32) (V : Fin 128 → ℝ) (l : Fin 128) (hv : ∀ i, v (ix2 i l) = (V i : EReal)) (i : Fin 128) :
    suffix v (ix2 i l) = ((∑ j, if i ≤ j then V j else 0 : ℝ) : EReal) := by
  pointwise [suffix, hi16, lo16]
  simp only [hv, utri_apply, ← EReal.coe_sub, ← EReal.coe_mul, ← coe_sum, ← EReal.coe_add, sub_self, mul_zero, Finset.sum_const_zero, add_zero]
  simp

variable {k : Chunk} {dt cs sg b c : FVec Ideal S128x128 .f32} {x dy s ds : FVec Ideal S128x256 .f32}
  (h : Holds k dt cs sg b c x dy s ds)
include h

/-- The split into halves loses nothing of a real number: what is left of it is zero. -/
theorem rowSum_apply (r : Fin 4) (i l : Fin 128) : rowSum (eAll dt cs b c x dy) (ix2 (blk r i) l) = ((∑ j, k.e r i j : ℝ) : EReal) := by
  pointwise [rowSum, hi16, lo16]
  simp only [eAll_apply h, ← EReal.coe_sub, ← coe_sum, ← EReal.coe_add, sub_self, Finset.sum_const_zero, add_zero]

theorem colSum_apply (l i : Fin 128) : colSum (eAll dt cs b c x dy) (ix2 i l) = (atLane (fun r => ∑ j, k.e r j i) l : EReal) := by
  pointwise [colSum, hi16, lo16]
  rw [sum_blks, sum_blks]
  simp only [eAll_apply h, hrow_apply, ← EReal.coe_sub, ← EReal.coe_mul, ← coe_sum, ← EReal.coe_add, sub_self, zero_mul, Finset.sum_const_zero, add_zero]
  rw [← sum_lane]
  simp only [Finset.sum_mul]

theorem da4_apply (l i : Fin 128) : da4 (eAll dt cs b c x dy) (ix2 i l) = (atLane (k.da i) l : EReal) := by
  have e (r : Fin 4) (q : Fin 512) (hq : q.val = 128 * r.val + i.val) :
      rowSum (eAll dt cs b c x dy) (ix2 q l) = ((∑ j, k.e r i j : ℝ) : EReal) := by
    rw [show q = blk r i from Fin.ext hq]; exact rowSum_apply h r i l
  obtain ⟨c0, c1, c2, c3⟩ := lane_cmp l
  pointwise [da4, laneIs]
  rw [c0, c1, c2, c3, colSum_apply h, e 0, e 1, e 2, e 3]
  · rcases lane_cases l with ⟨r, rfl⟩ | hl
    · simp only [atLane_lane]
      unfold Chunk.da
      fin_cases r <;> simp [lane, Scalar.select] <;> rw [add_comm, ← sub_eq_add_neg]
    · have n (q : Fin 128) (hq : q.val < 4) : ¬ l = q := fun e => by rw [e] at hl; omega
      rw [if_neg (n 0 (by simp)), if_neg (n 1 (by simp)), if_neg (n 2 (by simp)), if_neg (n 3 (by simp)), atLane_pad _ _ hl, atLane_pad _ _ hl]
      simp [Scalar.select]
  all_goals simp

theorem yoff_apply (i : Fin 128) (r : Fin 4) (p : Fin 64) :
    mmWide c s (ix2 i (col r p)) = ((∑ n, k.c i n * k.s n r p : ℝ) : EReal) := by
  pointwise [mmWide]
  simp only [h.hc, h.hs, ← EReal.coe_mul, ← coe_sum]

/-- The heads' sums of the four stacked arrays. -/
theorem heads_seg (i : Fin 128) (q : Fin 272) (hq : q.val = i.val) (l : Fin 128) :
    headSum (stacked dt cs b c x dy s ds) (ix2 q l) = (atLane (k.seg i) l : EReal) := by
  refine headSum_apply _ (fun r p => k.dy i r p * (k.ecs i r * ∑ n, k.c i n * k.s n r p) - k.xt i r p * k.t4 i r p) q (fun r p => ?_) l
  pointwise [stacked]
  refine (dif_pos (by omega)).trans ?_
  rw [show (⟨q.val, by omega⟩ : Fin 128) = i from Fin.ext hq]
  rw [h.hdy, ecs_apply h, yoff_apply h, h.hx, expand_apply, h.hdt, t4_apply h]
  rfl

theorem heads_x (i : Fin 128) (q : Fin 272) (hq : q.val = 128 + i.val) (l : Fin 128) :
    headSum (stacked dt cs b c x dy s ds) (ix2 q l) = (atLane (fun r => ∑ p, k.dxdt i r p * k.x i r p) l : EReal) := by
  refine headSum_apply _ (fun r p => k.dxdt i r p * k.x i r p) q (fun r p => ?_) l
  pointwise [stacked]
  refine (dif_neg (by omega)).trans ((dif_pos (by omega)).trans ?_)
  rw [show (⟨q.val - 128, by omega⟩ : Fin 128) = i from Fin.ext (by show q.val - 128 = i.val; omega)]
  rw [dxdt_apply h, h.hx]
  rfl

theorem heads_tail (l : Fin 128) : headSum (stacked dt cs b c x dy s ds) (ix2 256 l) = (atLane k.tail l : EReal) := by
  refine headSum_apply _ (fun r p => ∑ j, k.xt j r p * k.t4 j r p + k.el r * ∑ n, k.s n r p * k.u n r p) 256 (fun r p => ?_) l
  pointwise [stacked, row8, sumRows]
  simp only [h.hx, expand_apply, h.hdt, t4_apply h, h.hs, h.hu, elast_apply h, ← EReal.coe_mul, ← coe_sum, ← EReal.coe_add]
  rfl

theorem heads_st (l : Fin 128) : headSum (stacked dt cs b c x dy s ds) (ix2 264 l) = (atLane k.st1 l : EReal) := by
  refine headSum_apply _ (fun r p => ∑ i, k.dy i r p * k.x i r p) 264 (fun r p => ?_) l
  pointwise [stacked, row8, sumRows]
  simp only [h.hx, h.hdy, ← EReal.coe_mul, ← coe_sum]

theorem atLane_add (f g : Fin 4 → ℝ) (l : Fin 128) : atLane f l + atLane g l = atLane (fun r => f r + g r) l := by
  unfold atLane; split <;> simp

theorem dda_apply (l i : Fin 128) : dda dt cs b c x dy s ds (ix2 i l) = (atLane (k.dda i) l : EReal) := by
  pointwise [dda]
  rw [heads_tail h, suffix_apply _ (fun j => atLane (k.da j) l + atLane (k.seg j) l) l (fun j => ?_), ← EReal.coe_add]
  · congr 1
    rcases lane_cases l with ⟨r, rfl⟩ | hl
    · simp only [atLane_lane]
      rfl
    · simp only [atLane_pad _ _ hl]
      simp
  · pointwise
    rw [da4_apply h, heads_seg h j _ rfl]
    rfl

/-- What the body stores, at each index. -/
theorem ddtG_apply (vv : FVec Ideal S8x128 .f32) (hv : ∀ r, 0 - Ideal.exp (vv (ix2 0 (lane r))) = (k.a r : EReal)) (i : Fin 128) (l : Fin 128) :
    ddtG dt cs sg b c vv x dy s ds (ix2 i l) = (atLane (k.ddt i) l : EReal) := by
  pointwise [ddtG, rate]
  rw [dda_apply h, heads_x h i _ rfl]
  rcases lane_cases l with ⟨r, rfl⟩ | hl
  · simp only [atLane_lane]
    rw [hv, h.hsg]
    rfl
  · rw [h.hsg0 _ _ hl, mul_zero, atLane_pad (k.ddt i) _ hl]
    rfl

theorem stG_row0 (vv : FVec Ideal S8x128 .f32) (hv : ∀ r, 0 - Ideal.exp (vv (ix2 0 (lane r))) = (k.a r : EReal)) (l : Fin 128) :
    stG dt cs b c vv x dy s ds (ix2 0 l) = (atLane k.st0 l : EReal) := by
  pointwise [stG, rate, rowIs]
  simp only [dda_apply h]
  rcases lane_cases l with ⟨r, rfl⟩ | hl
  · simp only [atLane_lane, hv, h.hdt, ← EReal.coe_mul, ← coe_sum]
    rfl
  · simp only [h.hdt0 _ _ hl, atLane_pad _ _ hl, mul_zero, zero_mul, Finset.sum_const_zero]
    rfl

theorem stG_row1 (vv : FVec Ideal S8x128 .f32) (l : Fin 128) : stG dt cs b c vv x dy s ds (ix2 1 l) = (atLane k.st1 l : EReal) := by
  pointwise [stG, rate, rowIs]
  rw [heads_st h]
  rfl

theorem stG_row (vv : FVec Ideal S8x128 .f32) (a : Fin 8) (ha : 2 ≤ a.val) (l : Fin 128) :
    stG dt cs b c vv x dy s ds (ix2 a l) = 0 := by
  have e : IntOp.cmpi .eq (BitVec.ofNat 32 a.val) 0#32 = 0#1 ∧ IntOp.cmpi .eq (BitVec.ofNat 32 a.val) 1#32 = 0#1 := by
    revert a; decide
  pointwise [stG, rate, rowIs]
  rw [e.1, e.2]
  rfl

theorem dxG_apply (vv : FVec Ideal S8x128 .f32) (i : Fin 128) (r : Fin 4) (p : Fin 64) :
    dxG dt cs b c vv dy ds (ix2 i (col r p)) = vv (ix2 1 (lane r)) * (k.dy i r p : EReal) + ((k.dxdt i r p * k.dt i r : ℝ) : EReal) := by
  pointwise [dxG, skipRow]
  rw [expand8_apply, dxdt_apply h, expand_apply, h.hdy, h.hdt, ← EReal.coe_mul]

theorem dcG_apply (i n : Fin 128) : dcG dt cs b x dy s (ix2 i n) = (k.dc i n : EReal) := by
  pointwise [dcG]
  rw [sum_cols]
  simp only [dg_apply h, h.hb, h.hdy, ecs_apply h, h.hs, ← EReal.coe_mul, ← coe_sum, ← EReal.coe_add]
  rfl

theorem dbG_apply (j n : Fin 128) : dbG dt cs c x dy ds (ix2 j n) = (k.db j n : EReal) := by
  pointwise [dbG]
  rw [sum_cols]
  simp only [dg_apply h, h.hc, h.hx, expand_apply, h.hdt, dec_apply h, h.hu, ← EReal.coe_mul, ← coe_sum, ← EReal.coe_add]
  rfl

theorem dsG_apply (n : Fin 128) (r : Fin 4) (p : Fin 64) : dsG cs c dy ds (ix2 n (col r p)) = (k.ds n r p : EReal) := by
  pointwise [dsG]
  simp only [elast_apply h, h.hc, h.hdy, ecs_apply h, h.hu, ← EReal.coe_mul, ← coe_sum, ← EReal.coe_add]
  rfl

end Cert.Proof.Ssd

end
-- ==== Proof.Ssd.Points.lean ====
/- What the launch leaves at each point of its grid. -/
module

public import proofs.«01_k».proof.Proof.Ssd.Windows
public import proofs.«01_k».proof.Proof.Ssd.Body
public import proofs.«01_k».proof.Proof.Ssd.Heads

@[expose] public section

set_option maxRecDepth 16384

noncomputable section

namespace Cert.Proof.Ssd

open Cert.Kernel2Ideal Cert.Kernel2Ideal.Gen Cert.Kernel2Ideal.Value Idealize.ShloMosaic Idealize.ShloMosaic.TcCoe

section Arrays
variable (m : (ℓ : Loc nD τ sig) → Buf (Elt Ideal) ℓ) (c : Dev nD)

/-- The six arrays that a point leaves, over the sums `so` and the state's cotangent `xs` that it finds. -/
def left (t : Fin grid0.N) (so : Vec Ideal S8x8x128 .f32) (xs : Vec Ideal S8x128x256 .f32) :
    Vec Ideal S128x2048 .f32 × Vec Ideal S128x1024 .f32 × Vec Ideal S128x1024 .f32 × Vec Ideal S8x128x128 .f32 × Vec Ideal S8x8x128 .f32
      × Vec Ideal S8x128x256 .f32 :=
  (beside256 (dxF (iblk m c 1 t) (iblk m c 2 t) (iblk m c 3 t) (iblk m c 4 t) (iblk m c 6 t) (iblk m c 8 t) xs),
   beside128 (dbF (iblk m c 0 t) (iblk m c 2 t) (iblk m c 3 t) (iblk m c 4 t) (iblk m c 8 t) xs),
   beside128 (dcF (iblk m c 0 t) (iblk m c 1 t) (iblk m c 3 t) (iblk m c 4 t) (iblk m c 7 t) (iblk m c 8 t)),
   stackAlong0 (ddtF (iblk m c 0 t) (iblk m c 1 t) (iblk m c 2 t) (iblk m c 3 t) (iblk m c 4 t) (iblk m c 5 t) (iblk m c 6 t) (iblk m c 7 t) (iblk m c 8 t) xs),
   stackAlong0 (stF (iblk m c 0 t) (iblk m c 1 t) (iblk m c 2 t) (iblk m c 3 t) (iblk m c 4 t) (iblk m c 6 t) (iblk m c 7 t) (iblk m c 8 t) so xs),
   stackAlong0 (dsF (iblk m c 2 t) (iblk m c 4 t) (iblk m c 8 t) xs))

theorem left_A (t : Fin grid0.N) (h : t.val % 16 = 0) : outsAt0 m c t.val t.isLt = left m c t (k0_pay5 (F := Ideal)) (k0_pay4 (F := Ideal)) := by
  rw [outsAt0_A m c t h, out_A_dx, out_A_db, out_A_dc, out_A_ddt, out_A_st, out_A_ds]
  rfl

theorem left_B (t : Fin grid0.N) (h : ¬ t.val % 16 = 0) : outsAt0 m c t.val t.isLt
    = left m c t (outsAt0 m c (t.val - 1) (Nat.lt_of_le_of_lt (Nat.sub_le _ _) t.isLt)).2.2.2.2.1
        (outsAt0 m c (t.val - 1) (Nat.lt_of_le_of_lt (Nat.sub_le _ _) t.isLt)).2.2.2.2.2 := by
  rw [outsAt0_B m c t h, out_B_dx, out_B_db, out_B_dc, out_B_ddt, out_B_st, out_B_ds]
  rfl

end Arrays

theorem stack_at {α : Type} {A B : ℕ} (f : Fin 8 → (⟨2, ![A, B]⟩ : Shape).Idx → α) (g : Fin 8) (i : Fin A) (l : Fin B) :
    (stackAlong0 f : (⟨3, ![8, A, B]⟩ : Shape).Idx → α) (ix3 g i l) = f g (ix2 i l) := by
  refine congrArg (f g) (funext fun a => ?_)
  fin_cases a <;> rfl

theorem beside256_at {α : Type} (f : Fin 8 → S128x256.Idx → α) (g : Fin 8) (i : Fin 128) (r : Fin 4) (p : Fin 64) :
    beside256 f (ix2 i (inner g r p)) = f g (ix2 i (col r p)) := by
  refine (beside256_piece f g (ix2 i (col r p)) _ rfl ?_).symm
  show (g.val * 4 + r.val) * 64 + p.val = 256 * g.val + (col r p).val
  simp only [col]; omega

theorem beside128_at {α : Type} (f : Fin 8 → S128x128.Idx → α) (g : Fin 8) (i n : Fin 128) :
    beside128 f (ix2 i (state g n)) = f g (ix2 i n) := by
  refine (beside128_piece f g (ix2 i n) _ rfl ?_).symm
  show g.val * 128 + n.val = 128 * g.val + n.val
  omega

variable {m : (ℓ : Loc nD τ sig) → Buf (Elt Ideal) ℓ} {c : Dev nD} {k : Args}
    (H : Says k (Ax m c) (At m c) (Ab m c) (Al m c) (Ay m c))
include H

/-- The blocks of point `t`, group `g`, hold the numbers of the point's chunk. -/
theorem holds (t : Fin grid0.N) (g : Fin 8) (xs : Vec Ideal S8x128x256 .f32)
    (hxs : ∀ n r p, xs (ix3 g n (col r p)) = (k.U t.val g n r p : EReal)) :
    Holds (k.chunk (at' t) g) (sl3 (iblk m c 3 t) g) (sl3 (iblk m c 4 t) g) (sl3 (iblk m c 5 t) g) (sln (iblk m c 1 t) g)
      (sln (iblk m c 2 t) g) (slw (iblk m c 0 t) g) (slw (iblk m c 8 t) g) (sls (iblk m c 7 t) g) (sld xs g) where
  hdt i r := by rw [sl3_apply, blk3, v_dt H]; rfl
  hdt0 i l hl := by rw [sl3_apply, blk3, v_dt0 _ _ _ hl]
  hcs i r := by rw [sl3_apply, blk4, v_cs H]; rfl
  hsg i r := by rw [sl3_apply, blk5, v_sg H]; rfl
  hsg0 i l hl := by rw [sl3_apply, blk5, v_sg0 _ _ _ hl]
  hb i n := by
    rw [sln_apply, blk1, H.hX]
    exact congrArg (fun j => ((k.X _ j : ℝ) : EReal)) (Fin.ext (by simp only [bcol]; omega))
  hc i n := by
    rw [sln_apply, blk2, H.hX]
    exact congrArg (fun j => ((k.X _ j : ℝ) : EReal)) (Fin.ext (by simp only [ccol]; omega))
  hx i r p := by
    rw [slw_apply, blk0, H.hX]
    exact congrArg (fun j => ((k.X _ j : ℝ) : EReal)) (Fin.ext (by simp only [xcol, col]; omega))
  hdy i r p := by
    rw [slw_apply, blk8, H.hY]
    exact congrArg (fun j => ((k.Y _ j : ℝ) : EReal)) (Fin.ext (by simp only [inner, col]; omega))
  hs n r p := by rw [sls_apply, blk7, v_sall H]; rfl
  hu n r p := by
    rw [sld_apply, hxs]
    have e : 15 - (15 - t.val) = t.val := by have : t.val < 16 := t.isLt; omega
    show _ = ((k.U (15 - (15 - t.val)) g n r p : ℝ) : EReal)
    rw [e]

/-- The rates, as the body computes them, and the skip weights. -/
theorem rate_at (t : Fin grid0.N) (g : Fin 8) (r : Fin 4) :
    0 - Ideal.exp (slv (iblk m c 6 t) g (ix2 0 (lane r))) = ((k.chunk (at' t) g).a r : EReal) := by
  rw [slv_apply, blk6, v_vec, w1_vec0, H.hal, Ideal.exp_coe, ← EReal.coe_zero, ← EReal.coe_sub, zero_sub]; rfl

omit H in
theorem skip_at (t : Fin grid0.N) (g : Fin 8) (r : Fin 4) :
    slv (iblk m c 6 t) g (ix2 1 (lane r)) = Ad m c (ix1 (head g r)) := by
  rw [slv_apply, blk6, v_vec, w1_vec1]

/-- What the sums hold after `n` points, from the last chunk back. -/
def acc (k : Args) (n : ℕ) (g a : Fin 8) (l : Fin 128) : ℝ :=
  ∑ j ∈ Finset.range n, if a.val = 0 then atLane (k.chunk (Args.nth (15 - j)) g).st0 l
    else if a.val = 1 then atLane (k.chunk (Args.nth (15 - j)) g).st1 l else 0

theorem stG_all (t : Fin grid0.N) (g : Fin 8) (xs : Vec Ideal S8x128x256 .f32)
    (hxs : ∀ n r p, xs (ix3 g n (col r p)) = (k.U t.val g n r p : EReal)) (so : Vec Ideal S8x8x128 .f32) (a : Fin 8) (l : Fin 128)
    (hso : so (ix3 g a l) = (acc k t.val g a l : EReal)) :
    stF (iblk m c 0 t) (iblk m c 1 t) (iblk m c 2 t) (iblk m c 3 t) (iblk m c 4 t) (iblk m c 6 t) (iblk m c 7 t) (iblk m c 8 t) so xs g
      (ix2 a l) = (acc k (t.val + 1) g a l : EReal) := by
  have h := holds H t g xs hxs
  have ht : Args.nth (15 - t.val) = at' t := Args.nth_val (at' t)
  show slv so g (ix2 a l) + _ = _
  rw [slv_apply, hso, acc, acc, Finset.sum_range_succ, EReal.coe_add, ht]
  congr 1
  rcases (by omega : a.val = 0 ∨ a.val = 1 ∨ 2 ≤ a.val) with e | e | e
  · rw [if_pos e, show a = 0 from Fin.ext e]
    exact stG_row0 h _ (rate_at H t g) l
  · rw [if_neg (by omega), if_pos e, show a = 1 from Fin.ext e]
    exact stG_row1 h _ l
  · rw [if_neg (by omega), if_neg (by omega), stG_row h _ a e l, EReal.coe_zero]

/-- Every point finds the state's cotangent of its chunk and the sums so far. -/
theorem found (n : ℕ) : ∀ t : Fin grid0.N, t.val = n → ∃ so xs, outsAt0 m c t.val t.isLt = left m c t so xs
    ∧ (∀ g n r p, xs (ix3 g n (col r p)) = (k.U t.val g n r p : EReal)) ∧ ∀ g a l, so (ix3 g a l) = (acc k t.val g a l : EReal) := by
  induction n with
  | zero =>
    intro t ht
    refine ⟨_, _, left_A m c t (by omega), fun g n r p => ?_, fun g a l => ?_⟩
    · rw [ht]
      unfold k0_pay4
      pointwise
      exact EReal.coe_zero.symm
    · rw [ht, acc, Finset.range_zero, Finset.sum_empty]
      unfold k0_pay5
      pointwise
      exact EReal.coe_zero.symm
  | succ n ih =>
    intro t ht
    have hlt : t.val < 16 := t.isLt
    obtain ⟨so, xs, e, hxs, hso⟩ := ih ⟨n, by omega⟩ rfl
    have e' : outsAt0 m c (t.val - 1) (Nat.lt_of_le_of_lt (Nat.sub_le _ _) t.isLt) = left m c ⟨n, by omega⟩ so xs := by
      rw [← e]; congr 1; simp only [ht]; omega
    refine ⟨_, _, left_B m c t (by omega), fun g n' r p => ?_, fun g a l => ?_⟩
    · rw [e', ht]
      unfold left
      dsimp only
      refine (stack_at (A := 128) (B := 256) _ g n' (col r p)).trans ?_
      refine (dsG_apply (holds H _ g xs (hxs g)) n' r p).trans ?_
      have := Args.U_succ k (at' ⟨n, by omega⟩) g
      rw [show 15 - (at' ⟨n, by omega⟩).val + 1 = n + 1 by simp only [at']; omega] at this
      rw [this]
    · rw [e', ht]
      unfold left
      dsimp only
      refine (stack_at (A := 8) (B := 128) _ g a l).trans ?_
      exact stG_all H ⟨n, by omega⟩ g xs (hxs g) so a l (hso g a l)

end Cert.Proof.Ssd

end
-- ==== Proof.Ssd.Arrays.lean ====
/- The five result arrays of the launch, as real numbers. -/
module

public import proofs.«01_k».proof.Proof.Ssd.Points
public import Idealize.ShloMosaic.Lib.Pipeline.ValueKit

@[expose] public section

set_option maxRecDepth 16384

noncomputable section

namespace Cert.Proof.Ssd

open Cert.Kernel2Ideal Cert.Kernel2Ideal.Gen Cert.Kernel2Ideal.Value Idealize.ShloMosaic Idealize.ShloMosaic.TcCoe
open Idealize.ShloMosaic.Pipeline (Dat)

variable {m : (ℓ : Loc nD τ sig) → Buf (Elt Ideal) ℓ} {c : Dev nD} {k : Args}
    (H : Says k (Ax m c) (At m c) (Ab m c) (Al m c) (Ay m c))

theorem inner_surj (j : Fin 2048) : ∃ g r p, j = inner g r p :=
  ⟨⟨j.val / 256, by omega⟩, ⟨j.val / 64 % 4, by omega⟩, ⟨j.val % 64, by omega⟩, Fin.ext (by simp only [inner]; omega)⟩

theorem state_surj (j : Fin 1024) : ∃ g n, j = state g n :=
  ⟨⟨j.val / 128, by omega⟩, ⟨j.val % 128, by omega⟩, Fin.ext (by simp only [state]; omega)⟩

include H

/-- The gradient of `x`. -/
theorem arr9 (G : FVec Ideal S2048x2048 .f32) (hG : ∀ q i g r p, G (ix2 (row q i) (inner g r p))
      = Ad m c (ix1 (head g r)) * (k.Y (row q i) (inner g r p) : EReal)
        + (((k.chunk q g).dxdt i r p * k.dt (row q i) (head g r) : ℝ) : EReal)) :
    (dats m 0 c).arrAt 9 cfg0.N = G := by
  refine (dats m 0 c).arrAt_eq_of_covers 9 _ (by decide +kernel) fun t hf y => ?_
  blk_simp
  rw [after0_9]
  obtain ⟨so, xs, e, hxs, -⟩ := found H t.val t rfl
  obtain ⟨i, j, rfl⟩ : ∃ (i : Fin 128) (j : Fin 2048), y = ix2 i j := ⟨y 0, y 1, eq_ix2 y⟩
  obtain ⟨g, r, p, rfl⟩ := inner_surj j
  have e' : (win0_9.blk t).view.emb (ix2 i (inner g r p)) = ix2 (row (at' t) i) (inner g r p) := by
    unfold row at' inner; blk_ext [idx t]
  rw [e', hG, e]
  unfold left
  dsimp only
  refine (beside256_at _ g i r p).trans ((dxG_apply (holds H t g xs (hxs g)) _ i r p).trans ?_)
  rw [skip_at]
  rfl

/-- The gradient of `B`. -/
theorem arr10 (G : FVec Ideal S2048x1024 .f32) (hG : ∀ q i g n, G (ix2 (row q i) (state g n)) = ((k.chunk q g).db i n : EReal)) :
    (dats m 0 c).arrAt 10 cfg0.N = G := by
  refine (dats m 0 c).arrAt_eq_of_covers 10 _ (by decide +kernel) fun t hf y => ?_
  blk_simp
  rw [after0_10]
  obtain ⟨so, xs, e, hxs, -⟩ := found H t.val t rfl
  obtain ⟨i, j, rfl⟩ : ∃ (i : Fin 128) (j : Fin 1024), y = ix2 i j := ⟨y 0, y 1, eq_ix2 y⟩
  obtain ⟨g, n, rfl⟩ := state_surj j
  have e' : (win0_10.blk t).view.emb (ix2 i (state g n)) = ix2 (row (at' t) i) (state g n) := by
    unfold row at' state; blk_ext [idx t]
  rw [e', hG, e]
  unfold left
  dsimp only
  exact (beside128_at _ g i n).trans (dbG_apply (holds H t g xs (hxs g)) i n)

/-- The gradient of `C`. -/
theorem arr11 (G : FVec Ideal S2048x1024 .f32) (hG : ∀ q i g n, G (ix2 (row q i) (state g n)) = ((k.chunk q g).dc i n : EReal)) :
    (dats m 0 c).arrAt 11 cfg0.N = G := by
  refine (dats m 0 c).arrAt_eq_of_covers 11 _ (by decide +kernel) fun t hf y => ?_
  blk_simp
  rw [after0_11]
  obtain ⟨so, xs, e, hxs, -⟩ := found H t.val t rfl
  obtain ⟨i, j, rfl⟩ : ∃ (i : Fin 128) (j : Fin 1024), y = ix2 i j := ⟨y 0, y 1, eq_ix2 y⟩
  obtain ⟨g, n, rfl⟩ := state_surj j
  have e' : (win0_11.blk t).view.emb (ix2 i (state g n)) = ix2 (row (at' t) i) (state g n) := by
    unfold row at' state; blk_ext [idx t]
  rw [e', hG, e]
  unfold left
  dsimp only
  exact (beside128_at _ g i n).trans (dcG_apply (holds H t g xs (hxs g)) i n)

/-- The gradient of the step's raw values, four heads of a group side by side. -/
theorem arr12 (G : FVec Ideal S8x2048x128 .f32) (hG : ∀ g q i l, G (ix3 g (row q i) l) = (atLane ((k.chunk q g).ddt i) l : EReal)) :
    (dats m 0 c).arrAt 12 cfg0.N = G := by
  refine (dats m 0 c).arrAt_eq_of_covers 12 _ (by decide +kernel) fun t hf y => ?_
  blk_simp
  rw [after0_12]
  obtain ⟨so, xs, e, hxs, -⟩ := found H t.val t rfl
  obtain ⟨g, i, l, rfl⟩ : ∃ (g : Fin 8) (i : Fin 128) (l : Fin 128), y = ix3 g i l := ⟨y 0, y 1, y 2, eq_ix3 y⟩
  have e' : (win0_12.blk t).view.emb (ix3 g i l) = ix3 g (row (at' t) i) l := by
    unfold row at'; blk_ext [idx t]
  rw [e', hG, e]
  unfold left
  dsimp only
  exact (stack_at (A := 128) (B := 128) _ g i l).trans (ddtG_apply (holds H t g xs (hxs g)) _ (rate_at H t g) i l)

/-- The gradients of the rates' logarithms and of the skip weights. -/
theorem arr13 (G : FVec Ideal S8x8x128 .f32) (hG : ∀ g a l, G (ix3 g a l) = (acc k 16 g a l : EReal)) :
    (dats m 0 c).arrAt 13 cfg0.N = G := by
  refine (dats m 0 c).arrAt_eq_of_covers 13 _ (by decide +kernel) fun t hf y => ?_
  blk_simp
  rw [after0_13]
  obtain ⟨so, xs, e, hxs, hso⟩ := found H t.val t rfl
  obtain ⟨g, a, l, rfl⟩ : ∃ (g a : Fin 8) (l : Fin 128), y = ix3 g a l := ⟨y 0, y 1, y 2, eq_ix3 y⟩
  have e' : (win0_13.blk t).view.emb (ix3 g a l) = ix3 g a l := by blk_ext [idx t]
  have ht : t.val = 15 := by
    revert hf; exact (by decide +kernel : ∀ t : Fin grid0.N, (cfg0.win 13).flush t = true → t.val = 15) t
  rw [e', hG, e]
  unfold left
  dsimp only
  refine (stack_at (A := 8) (B := 128) _ g a l).trans ((stG_all H t g xs (hxs g) so a l (hso g a l)).trans ?_)
  rw [ht]

end Cert.Proof.Ssd

end
-- ==== Proof.Ssd.RefC.lean ====
/- The reference's five results, as real numbers. -/
module

public import proofs.«01_k».proof.Proof.Ssd.RefB
public import proofs.«01_k».proof.Proof.Ssd.Arrays

@[expose] public section

set_option maxRecDepth 16384

noncomputable section

namespace Cert.Proof.Ssd

open Cert.Reference2Ideal Cert.Reference2Ideal.Gen Cert.Reference2Ideal.Read Idealize.ShloMosaic Idealize.ShloMosaic.TcCoe

theorem row_div (q : Fin 16) (i : Fin 128) : (row q i).val / 128 = q.val := by simp only [row]; omega
theorem row_mod (q : Fin 16) (i : Fin 128) : (row q i).val % 128 = i.val := by simp only [row]; omega
theorem inner_div (g : Fin 8) (r : Fin 4) (p : Fin 64) : (inner g r p).val / 64 = (head g r).val := by simp only [inner, head]; omega
theorem inner_g (g : Fin 8) (r : Fin 4) : (head g r).val / 4 = g.val := by simp only [head]; omega
theorem inner_r (g : Fin 8) (r : Fin 4) : (head g r).val % 4 = r.val := by simp only [head]; omega
theorem inner_p (g : Fin 8) (r : Fin 4) (p : Fin 64) : (inner g r p).val % 64 = p.val := by simp only [inner]; omega
theorem state_div (g : Fin 8) (n : Fin 128) : (state g n).val / 128 = g.val := by simp only [state]; omega
theorem state_mod (g : Fin 8) (n : Fin 128) : (state g n).val % 128 = n.val := by simp only [state]; omega

/-- The sums after all chunks. -/
theorem acc_all (k : Args) (g a : Fin 8) (l : Fin 128) : acc k 16 g a l
    = if a.val = 0 then ∑ q, atLane (k.chunk q g).st0 l else if a.val = 1 then ∑ q, atLane (k.chunk q g).st1 l else 0 := by
  have e (f : Fin 16 → ℝ) : ∑ j ∈ Finset.range 16, f (Args.nth (15 - j)) = ∑ q, f q := by
    rw [Finset.sum_range, ← Equiv.sum_comp Fin.revPerm]
    refine Finset.sum_congr rfl fun j _ => congrArg f (Fin.ext ?_)
    show (15 - (16 - (j.val + 1))) % 16 = j.val
    omega
  unfold acc
  split
  · exact e fun q => atLane (k.chunk q g).st0 l
  · split
    · exact e fun q => atLane (k.chunk q g).st1 l
    · exact Finset.sum_const_zero

variable {k : Args} {x : FVec Ideal S2048x4096 .f32} {t : FVec Ideal S2048x32 .f32} {b al d : FVec Ideal S32 .f32} {y : FVec Ideal S2048x2048 .f32}
    (H : Says k x t b al y)
include H

theorem r370 (q : Fin 16) (i : Fin 128) (g : Fin 8) (r : Fin 4) (p : Fin 64) :
    val_main_v370 (F := Ideal) x t b al d y (ix2 (row q i) (inner g r p))
      = d (ix1 (head g r)) * (k.Y (row q i) (inner g r p) : EReal)
        + (((k.chunk q g).dxdt i r p * k.dt (row q i) (head g r) : ℝ) : EReal) := by
  pointwise [val_main_v370, val_main_v360, val_main_v359, val_main_v358, val_main_v357, val_main_v356, val_main_v354, val_main_v349,
    val_main_v348, val_main_v334, val_main_v333, val_main_v21, val_main_v152, val_main_v151, val_main_v150, val_main_v145, val_main_v144,
    val_main_cst_40, val_main_cst_41, val_main_cst_42]
  simp only [row_div, row_mod, inner_div, inner_g, inner_r, inner_p, Fin.eta, r305 H, r13 H, H.hY]
  rw [dif_neg (by simp only [inner]; omega), dif_neg (fun h => h.1), zero_add, zero_add, ← EReal.coe_mul]

theorem r371 (q : Fin 16) (i : Fin 128) (g : Fin 8) (n : Fin 128) :
    val_main_v371 (F := Ideal) x t b al d y (ix2 (row q i) (state g n)) = ((k.chunk q g).db i n : EReal) := by
  pointwise [val_main_v371, val_main_v360, val_main_v359, val_main_v357, val_main_v356, val_main_v355, val_main_v354, val_main_v346,
    val_main_cst_40, val_main_cst_41, val_main_cst_42]
  simp only [row_div, row_mod, state_div, state_mod, Fin.eta, r318 H]
  rw [dif_neg (by simp only [state]; omega), zero_add]

theorem r372 (q : Fin 16) (i : Fin 128) (g : Fin 8) (n : Fin 128) :
    val_main_v372 (F := Ideal) x t b al d y (ix2 (row q i) (state g n)) = ((k.chunk q g).dc i n : EReal) := by
  pointwise [val_main_v372, val_main_v360, val_main_v359, val_main_v357, val_main_v356, val_main_v354, val_main_v353, val_main_v345,
    val_main_cst_40, val_main_cst_41, val_main_cst_42]
  simp only [row_div, row_mod, state_div, state_mod, Fin.eta, r315 H]
  rw [dif_neg (by simp only [state]; omega), dif_neg (by omega), add_zero, add_zero]

theorem r363 (g : Fin 8) (q : Fin 16) (i l : Fin 128) :
    val_main_v363 (F := Ideal) x t b al y (ix3 g (row q i) l) = (atLane ((k.chunk q g).ddt i) l : EReal) := by
  pointwise [val_main_v363, val_main_v362, val_main_v361, val_main_v352, val_main_v347, val_main_v342, val_main_v341, val_main_v340, val_main_v17,
    val_main_call7_v0, val_main_c_43, r9_slope H]
  unfold atLane
  by_cases h : l.val < 4
  · rw [dif_pos h, dif_pos h]
    have e0 : (g.val * 4 + l.val) / 4 = g.val := by omega
    have e1 : (g.val * 4 + l.val) % 4 = l.val := by omega
    simp only [row_div, row_mod, e0, e1, Fin.eta]
    have e2 := r335 H q i g ⟨l.val, h⟩
    have e3 := r336 H q i g ⟨l.val, h⟩
    have e4 := r16 H g ⟨l.val, h⟩
    rw [e2, e3, e4, ← EReal.coe_mul, ← EReal.coe_add, ← EReal.coe_mul, EReal.coe_eq_coe_iff]
    simp only [Chunk.ddt]
    rw [add_comm]; rfl
  · rw [dif_neg h, dif_neg h]
    show ((((0#32 : BitVec 32).toInt : ℝ)) : EReal) = _
    simp

/-- The gradients of the rates' logarithms, and of the skip weights. -/
theorem r351 (g : Fin 8) (r : Fin 4) : val_main_v351 (F := Ideal) x t b al y (ix1 (head g r)) = (k.st0 g r : EReal) := by
  pointwise [val_main_v351, val_main_v350, val_main_v344, val_main_v343, val_main_v339, val_main_v338, val_main_v337, val_main_cst_38, val_main_cst_39,
    val_main_v10]
  rw [sum01 reducesTo_S1x1x8x4_S8x4_d0_1, zero_add]
  simp only [Fin.sum_univ_one]
  pointwise []
  rw [sum01 reducesTo_S16x128x8x4_S8x4_d0_1, zero_add, H.hal]
  have e0 : (⟨(head g r).val / 4, by omega⟩ : Fin 8) = g := Fin.ext (inner_g g r)
  have e1 : (⟨(head g r).val % 4, by omega⟩ : Fin 4) = r := Fin.ext (inner_r g r)
  rw [e0, e1]
  pointwise []
  simp only [r13 H, r336 H, Ideal.exp_coe, ← EReal.coe_mul, ← coe_sum, ← EReal.coe_neg]
  refine congrArg _ ?_
  unfold Args.st0 Chunk.st0
  rw [← Finset.sum_neg_distrib, Finset.sum_mul]
  refine Finset.sum_congr rfl fun q _ => ?_
  rw [← Finset.sum_neg_distrib, Finset.sum_mul]
  refine Finset.sum_congr rfl fun i _ => ?_
  show _ = (k.chunk q g).dda i r * k.dt (row q i) (head g r) * -Real.exp (k.al (head g r))
  ring

theorem r158 (g : Fin 8) (r : Fin 4) : val_main_v158 (F := Ideal) x y (ix1 (head g r)) = (k.st1 g r : EReal) := by
  pointwise [val_main_v158, val_main_v157, val_main_v156, val_main_v155, val_main_v154, val_main_v153, val_main_cst_2, val_main_cst_3,
    val_main_cst_4, val_main_v150, val_main_v1, val_main_v0]
  simp only [Fin.sum_univ_one]
  rw [sum02 reducesTo_S1x32x1_S32_d0_2, zero_add]
  simp only [Fin.sum_univ_one]
  pointwise []
  rw [sum02 reducesTo_S2048x32x64_S32_d0_2, zero_add]
  pointwise []
  simp only [H.hX, H.hY, ← EReal.coe_mul, ← coe_sum]
  refine congrArg _ ?_
  refine (Fin.sum_univ_tiles 16 128 (by decide) _).trans ?_
  unfold Args.st1 Chunk.st1
  refine Finset.sum_congr rfl fun q _ => ?_
  rw [Finset.sum_comm]
  refine Finset.sum_congr rfl fun p _ => Finset.sum_congr rfl fun i _ => ?_
  rfl

theorem r369 (g a : Fin 8) (l : Fin 128) : val_main_v369 (F := Ideal) x t b al y (ix3 g a l) = (acc k 16 g a l : EReal) := by
  pointwise [val_main_v369, val_main_v368, val_main_v367, val_main_v366, val_main_v365, val_main_v364, val_main_call8_v0, val_main_c_44]
  rw [acc_all]
  unfold atLane
  by_cases h : a.val < 2 ∧ l.val < 4
  · rw [dif_pos h]
    have e0 : (⟨g.val * 4 + l.val, by omega⟩ : Fin 32) = head g ⟨l.val, h.2⟩ := rfl
    by_cases h' : a.val < 1
    · rw [dif_pos h', e0, r351 H, if_pos (by omega)]
      simp only [dif_pos h.2]; rfl
    · rw [dif_neg h', e0, r158 H, if_neg (by omega), if_pos (by omega)]
      simp only [dif_pos h.2]; rfl
  · rw [dif_neg h]
    trans (0 : EReal)
    · show ((((0#32 : BitVec 32).toInt : ℝ)) : EReal) = _
      simp
    · rcases (by omega : ¬ l.val < 4 ∨ 2 ≤ a.val) with h' | h'
      · simp [h']
      · rw [if_neg (by omega), if_neg (by omega)]; rfl

end Cert.Proof.Ssd

end
-- ==== Proof.Ssd.Pair.lean ====
/- The scan's gradient and its reference side by side: the reference's frame, and the equality of the five results. -/
module

public import proofs.«01_k».proof.Defs
public import proofs.«01_k».proof.Proof.Ssd.Finite
public import proofs.«01_k».proof.Proof.Ssd.RefC
public import proofs.«01_k».proof.Proof.Gen.Reference2Ideal.Run

@[expose] public section

set_option maxRecDepth 16384

noncomputable section

namespace Cert.Proof.Ssd

open Idealize.ShloMosaic Idealize.SL.Sem Cert.Reference2Ideal.Read

/-- The reference leaves its arguments; it has no semaphore. -/
theorem frameR : Cert.quiescent_Reference2Ideal (hReference2Ideal := Cert.Reference2Ideal.Gen.facts) := fun m ρ _ =>
  (θ_run _ _ _).mono (fun r h => ⟨fun c => (h c).2.2.2.2.2, sem_eq_zero_of_no_sems (by decide) r.2⟩)
    (Cert.Reference2Ideal.Value.run (F := Ideal) m ρ)

/-- On finite arguments both programs end with the same five arrays. -/
theorem equal : Cert.algebraic_Kernel2Ideal_Reference2Ideal_pre_finite_ssd (hKernel2Ideal := Cert.Kernel2Ideal.Gen.facts)
    (hReference2Ideal := Cert.Reference2Ideal.Gen.facts) (hPre_finite_ssd := Cert.Pre_finite_ssd.Gen.facts) := fun m ρ m' ρ' hpre hag =>
  ⟨fun c => val_main_v370 (F := Ideal) (Ax m c) (At m c) (Ab m c) (Al m c) (Ad m c) (Ay m c),
   fun c => val_main_v371 (F := Ideal) (Ax m c) (At m c) (Ab m c) (Al m c) (Ad m c) (Ay m c),
   fun c => val_main_v372 (F := Ideal) (Ax m c) (At m c) (Ab m c) (Al m c) (Ad m c) (Ay m c),
   fun c => val_main_v363 (F := Ideal) (Ax m c) (At m c) (Ab m c) (Al m c) (Ay m c),
   fun c => val_main_v369 (F := Ideal) (Ax m c) (At m c) (Ab m c) (Al m c) (Ay m c),
   (θ_run _ _ _).mono (fun _ h c => by
     have H := says_of _ _ _ _ _ _ (hpre c)
     exact ⟨(h c).1.trans (arr9 H _ (r370 H)), (h c).2.1.trans (arr10 H _ (r371 H)), (h c).2.2.1.trans (arr11 H _ (r372 H)),
       (h c).2.2.2.1.trans (arr12 H _ (r363 H)), (h c).2.2.2.2.1.trans (arr13 H _ (r369 H)), (h c).2.2.2.2.2⟩)
     (Cert.Kernel2Ideal.Value.run_blocks (F := Ideal) m ρ),
   (θ_run _ _ _).mono (fun _ h c => by
     obtain ⟨e0, e1, e2, e3, e4, e5⟩ := hag c
     refine ⟨(h c).1.trans ?_, (h c).2.1.trans ?_, (h c).2.2.1.trans ?_, (h c).2.2.2.1.trans ?_, (h c).2.2.2.2.1.trans ?_,
       (h c).2.2.2.2.2⟩
     · exact (val_main_v370_eq _).trans (by congr 1)
     · exact (val_main_v371_eq _).trans (by congr 1)
     · exact (val_main_v372_eq _).trans (by congr 1)
     · exact (val_main_v363_eq _).trans (by congr 1)
     · exact (val_main_v369_eq _).trans (by congr 1))
     (Cert.Reference2Ideal.Value.run (F := Ideal) m' ρ')⟩

end Cert.Proof.Ssd

end
-- ==== Proof.Conv.Body.lean ====
/- What the body of the causal convolution's gradient leaves in its two output buffers, as its named payloads of the three
   input blocks: one store of the whole block each. -/
module

public import proofs.«01_k».proof.Proof.Gen.Kernel3Ideal.Value

@[expose] public section

set_option maxRecDepth 16384

noncomputable section

namespace Cert.Proof.Conv

open Cert.Kernel3Ideal Cert.Kernel3Ideal.Gen Cert.Kernel3Ideal.Value Idealize.ShloMosaic Idealize.ShloMosaic.TcCoe
  Idealize.SL.Sem

variable {F : FTy → Type} [FloatOps F]

theorem hz2 : (![0, 0] : Fin 2 → Nat) = fun _ => 0 := funext fun a => by fin_cases a <;> rfl

/-- The gradient of the convolution's output before `silu`, from a block's three inputs. -/
abbrev dpre (x0 : Vec F S2048x256 .f32) (x1 : Vec F S2048x256 .bf16) (x2 : Vec F S8x256 .f32) : FVec F S2048x256 .f32 :=
  k0_pay8 (k0_pay6 x1 x2) (k0_pay7 x1 x2) (Scalar.ofBits .f32 0x3F800000#32) x0

variable (c : Dev nD) (i : grid0.Coords)
  (a1 : Memref sig .tc .vmem S2048x256 .f32) (h1 : a1.IsWhole) (a2 : Memref sig .tc .vmem S2048x256 .bf16) (h2 : a2.IsWhole)
  (a3 : Memref sig .tc .vmem S8x256 .f32) (h3 : a3.IsWhole) (a5 : Memref sig .tc .vmem S2048x256 .bf16) (h5 : a5.IsWhole)
  (a6 : Memref sig .tc .vmem S8x256 .f32) (h6 : a6.IsWhole)
  (x0 : Vec F S2048x256 .f32) (x1 : Vec F S2048x256 .bf16) (x2 : Vec F S8x256 .f32)

/-- The gradient of the convolution's input. -/
theorem out3 : out0_A_3 c i a1 h1 a2 h2 a3 h3 a5 h5 a6 h6 x0 x1 x2
    = k0_pay9 (k0_pay2 x2) (k0_pay6 x1 x2) (k0_pay7 x1 x2) (Scalar.ofBits .f32 0x3F800000#32) x0 := by
  unfold out0_A_3
  rw [View.read_writes_eq_canon _ _ _ (cover0_A_3 c i a1 h1 a2 h2 a3 h3 a5 h5 a6 h6 x0 x1 x2)]
  unfold kernelRun0_A
  dsimp only
  sl_unfold_words
  rw [View.canon_unit_zero hz2]
  simp only [View.readAt_eq_ld, h1.read_unread, h2.read_unread, h3.read_unread, View.ld_unit_zero (S := S2048x256) hz2,
    View.ld_unit_zero (S := S8x256) hz2]

/-- The gradients of the taps and of the bias. -/
theorem out4 : out0_A_4 c i a1 h1 a2 h2 a3 h3 a5 h5 a6 h6 x0 x1 x2
    = k0_pay10 (k0_pay1 x1) (k0_pay3 x1) (k0_pay4 x1) (k0_pay5 x1) (dpre x0 x1 x2) := by
  unfold out0_A_4
  rw [View.read_writes_eq_canon _ _ _ (cover0_A_4 c i a1 h1 a2 h2 a3 h3 a5 h5 a6 h6 x0 x1 x2)]
  unfold kernelRun0_A
  dsimp only
  sl_unfold_words
  rw [View.canon_unit_zero hz2]
  simp only [View.readAt_eq_ld, h1.read_unread, h2.read_unread, h3.read_unread, View.ld_unit_zero (S := S2048x256) hz2,
    View.ld_unit_zero (S := S8x256) hz2]

end Cert.Proof.Conv

end
-- ==== Proof.Common.Reals.lean ====
/- Real numbers among the extended reals: the scalar steps that the gradients' equalities share. -/
module

public import proofs.«01_k».proof.Proof.Ssd.Finite

@[expose] public section

noncomputable section

namespace Cert.Proof.Common

open Idealize.ShloMosaic

export Cert.Proof.Ssd (real_of_abs_lt)

/-- A sum of real numbers is the sum of them as extended reals. -/
theorem coe_sum {ι : Type} (s : Finset ι) (f : ι → ℝ) : ((∑ i ∈ s, f i : ℝ) : EReal) = ∑ i ∈ s, (f i : EReal) :=
  map_sum (⟨⟨fun x : ℝ => (x : EReal), rfl⟩, EReal.coe_add⟩ : ℝ →+ EReal) f s

/-- The logistic function of a real number, as a kernel and as the host spell it. -/
theorem logistic_kernel (x : ℝ) : Ideal.div 1 (1 + Ideal.exp (0 - (x : EReal))) = (((1 + Real.exp (-x))⁻¹ : ℝ) : EReal) := by
  rw [zero_sub]; exact Ideal.logistic_coe x
theorem logistic_host (x : ℝ) : Ideal.div 1 (1 + Ideal.exp (-(x : EReal))) = (((1 + Real.exp (-x))⁻¹ : ℝ) : EReal) :=
  Ideal.logistic_coe x

end Cert.Proof.Common

end
-- ==== Proof.Conv.Spec.lean ====
/- The causal convolution's gradient in real numbers, one column at a time, and the body's payloads at such a column. -/
module

public import proofs.«01_k».proof.Proof.Conv.Body
public import proofs.«01_k».proof.Proof.Common.Reals
public import Idealize.ShloMosaic.Lib.Pipeline.ValueKit

@[expose] public section

set_option maxRecDepth 16384

noncomputable section

namespace Cert.Proof.Conv

/-- A column moved `k` rows down, zeros entering at the top; and `k` rows up, zeros entering at the bottom. -/
def back (k : ℕ) (f : Fin 2048 → ℝ) (i : Fin 2048) : ℝ := if k ≤ i.val then f ⟨i.val - k, by omega⟩ else 0
def ahead (k : ℕ) (f : Fin 2048 → ℝ) (i : Fin 2048) : ℝ := if h : i.val + k < 2048 then f ⟨i.val + k, h⟩ else 0

/-- One column's data: the input `u`, the taps `w0 … w3`, the bias `b` and the cotangent `d`. -/
structure Col where
  u : Fin 2048 → ℝ
  d : Fin 2048 → ℝ
  w0 : ℝ
  w1 : ℝ
  w2 : ℝ
  w3 : ℝ
  b : ℝ

variable (a : Col)

/-- The convolution, the logistic function of it, and the gradient of the convolution through `silu`. -/
def Col.pre (i : Fin 2048) : ℝ := a.w0 * back 3 a.u i + a.w1 * back 2 a.u i + a.w2 * back 1 a.u i + a.w3 * a.u i + a.b
def Col.sg (i : Fin 2048) : ℝ := (1 + Real.exp (-a.pre i))⁻¹
def Col.dc (i : Fin 2048) : ℝ := a.d i * (a.sg i * (1 + a.pre i * (1 - a.sg i)))

/-- The gradient of the input, and the gradients of the taps and of the bias as the rows of an 8-row block. -/
def Col.du (i : Fin 2048) : ℝ := a.w3 * a.dc i + a.w2 * ahead 1 a.dc i + a.w1 * ahead 2 a.dc i + a.w0 * ahead 3 a.dc i
def Col.gw (r : Fin 8) : ℝ :=
  if r = 0 then ∑ i, a.dc i * back 3 a.u i else if r = 1 then ∑ i, a.dc i * back 2 a.u i
  else if r = 2 then ∑ i, a.dc i * back 1 a.u i else if r = 3 then ∑ i, a.dc i * a.u i
  else if r = 4 then ∑ i, a.dc i else 0

open Cert.Kernel3Ideal Cert.Kernel3Ideal.Gen Idealize.ShloMosaic Idealize.ShloMosaic.TcCoe

variable (x0 : FVec Ideal S2048x256 .f32) (x1 : FVec Ideal S2048x256 .bf16) (x2 : FVec Ideal S8x256 .f32) (l : Fin 256)

/-- The row tests of the two moves. -/
theorem row_ge : ∀ (k : Fin 4) (i : Fin 2048), IntOp.cmpi .sge (BitVec.ofNat 32 i.val) (BitVec.ofNat 32 k.val)
    = if k.val ≤ i.val then 1#1 else 0#1 := by decide +kernel
theorem row_lt : ∀ (k : Fin 4) (i : Fin 2048), IntOp.cmpi .slt (BitVec.ofNat 32 i.val) (BitVec.ofNat 32 (2048 - k.val))
    = if i.val + k.val < 2048 then 1#1 else 0#1 := by decide +kernel

/-- The body's move down: rotated rows under the row test. -/
theorem select_back (f : Fin 2048 → ℝ) (k : Fin 4) (i : Fin 2048) (h : (i.val + 2048 - k.val) % 2048 < 2048) :
    Scalar.select (α := EReal) (IntOp.cmpi .sge (BitVec.ofNat 32 i.val) (BitVec.ofNat 32 k.val)) (f ⟨(i.val + 2048 - k.val) % 2048, h⟩ : EReal) 0
      = (back k.val f i : EReal) := by
  unfold Scalar.select back
  rw [row_ge]
  by_cases hk : k.val ≤ i.val
  · rw [if_pos hk, if_pos (show 1#1 = 1 from rfl), if_pos hk]
    exact congrArg (fun j => (f j : EReal)) (Fin.ext (by show (i.val + 2048 - k.val) % 2048 = i.val - k.val; omega))
  · rw [if_neg hk, if_neg (by decide), if_neg hk]; rfl

/-- The body's move up, with the tap's product taken under the row test. -/
theorem select_ahead (w : ℝ) (f : Fin 2048 → ℝ) (k : Fin 4) (i : Fin 2048) (h : (i.val + 2048 - (2048 - k.val)) % 2048 < 2048) :
    Scalar.select (α := EReal) (IntOp.cmpi .slt (BitVec.ofNat 32 i.val) (BitVec.ofNat 32 (2048 - k.val)))
      ((w : EReal) * (f ⟨(i.val + 2048 - (2048 - k.val)) % 2048, h⟩ : EReal)) 0 = ((w * ahead k.val f i : ℝ) : EReal) := by
  unfold Scalar.select ahead
  rw [row_lt]
  by_cases hk : i.val + k.val < 2048
  · rw [if_pos hk, if_pos (show 1#1 = 1 from rfl), dif_pos hk, EReal.coe_mul]
    exact congrArg (fun j => (w : EReal) * (f j : EReal)) (Fin.ext (by show (i.val + 2048 - (2048 - k.val)) % 2048 = i.val + k.val; omega))
  · rw [if_neg hk, if_neg (by decide), dif_neg hk, mul_zero]; rfl

/-- The body's stacking of five rows under row tests, zeros below. -/
theorem rows (s0 s1 s2 s3 s4 : ℝ) (r : Fin 8) :
    Scalar.select (α := EReal) (IntOp.cmpi .eq (BitVec.ofNat 32 r.val) 4#32) (s4 : EReal)
      (Scalar.select (IntOp.cmpi .eq (BitVec.ofNat 32 r.val) 3#32) (s3 : EReal)
        (Scalar.select (IntOp.cmpi .eq (BitVec.ofNat 32 r.val) 2#32) (s2 : EReal)
          (Scalar.select (IntOp.cmpi .eq (BitVec.ofNat 32 r.val) 1#32) (s1 : EReal)
            (Scalar.select (IntOp.cmpi .eq (BitVec.ofNat 32 r.val) 0#32) (s0 : EReal) 0))))
      = ((if r = 0 then s0 else if r = 1 then s1 else if r = 2 then s2 else if r = 3 then s3 else if r = 4 then s4 else 0 : ℝ) : EReal) := by
  fin_cases r <;> rfl

/-- What column `l` of the body's three input blocks holds. -/
structure Holds : Prop where
  hu i : x1 (ix2 i l) = (a.u i : EReal)
  hd i : x0 (ix2 i l) = (a.d i : EReal)
  h0 : x2 (ix2 0 l) = (a.w0 : EReal)
  h1 : x2 (ix2 1 l) = (a.w1 : EReal)
  h2 : x2 (ix2 2 l) = (a.w2 : EReal)
  h3 : x2 (ix2 3 l) = (a.w3 : EReal)
  h4 : x2 (ix2 4 l) = (a.b : EReal)

variable {a x0 x1 x2 l} (H : Holds a x0 x1 x2 l)
include H

theorem pay1 (i : Fin 2048) : k0_pay1 (F := Ideal) x1 (ix2 i l) = (a.u i : EReal) := by
  pointwise [k0_pay1, H.hu]

theorem pay3 (i : Fin 2048) : k0_pay3 (F := Ideal) x1 (ix2 i l) = (back 1 a.u i : EReal) := by
  pointwise [k0_pay3, pay1 H]
  exact select_back a.u 1 i _

theorem pay4 (i : Fin 2048) : k0_pay4 (F := Ideal) x1 (ix2 i l) = (back 2 a.u i : EReal) := by
  pointwise [k0_pay4, pay1 H]
  exact select_back a.u 2 i _

theorem pay5 (i : Fin 2048) : k0_pay5 (F := Ideal) x1 (ix2 i l) = (back 3 a.u i : EReal) := by
  pointwise [k0_pay5, pay1 H]
  exact select_back a.u 3 i _

theorem pay6 (i : Fin 2048) : k0_pay6 (F := Ideal) x1 x2 (ix2 i l) = (a.pre i : EReal) := by
  pointwise [k0_pay6, k0_pay2, pay1 H, pay3 H, pay4 H, pay5 H, H.h0, H.h1, H.h2, H.h3, H.h4]
  simp only [← EReal.coe_mul, ← EReal.coe_add]
  rfl

theorem pay8 (i : Fin 2048) : k0_pay8 (F := Ideal) (k0_pay6 x1 x2) (k0_pay7 x1 x2) (1 : EReal) x0 (ix2 i l) = (a.dc i : EReal) := by
  pointwise [k0_pay8, k0_pay7, pay6 H, H.hd]
  simp only [Common.logistic_kernel]
  simp only [← EReal.coe_one, ← EReal.coe_mul, ← EReal.coe_add, ← EReal.coe_sub]
  rfl

theorem pay9 (i : Fin 2048) : k0_pay9 (F := Ideal) (k0_pay2 x2) (k0_pay6 x1 x2) (k0_pay7 x1 x2) (Scalar.ofBits .f32 0x3F800000#32) x0 (ix2 i l)
    = (a.du i : EReal) := by
  pointwise [k0_pay9, k0_pay2, H.h0, H.h1, H.h2, H.h3, pay8 H]
  refine (congrArg₂ _ (congrArg₂ _ (congrArg₂ _ rfl (select_ahead a.w2 a.dc 1 i _)) (select_ahead a.w1 a.dc 2 i _)) (select_ahead a.w0 a.dc 3 i _)).trans ?_
  simp only [← EReal.coe_mul, ← EReal.coe_add]
  rfl

theorem pay10 (r : Fin 8) : k0_pay10 (F := Ideal) (k0_pay1 x1) (k0_pay3 x1) (k0_pay4 x1) (k0_pay5 x1) (dpre x0 x1 x2) (ix2 r l) = (a.gw r : EReal) := by
  pointwise [k0_pay10, dpre, pay1 H, pay3 H, pay4 H, pay5 H, pay8 H]
  simp only [← EReal.coe_mul, ← Common.coe_sum]
  unfold Col.gw
  exact rows _ _ _ _ _ r

end Cert.Proof.Conv

end
-- ==== Proof.Conv.Ref.lean ====
/- The reference's two results read at an index, and their real form under the precondition. -/
module

public import proofs.«01_k».proof.Proof.Conv.Spec
public import proofs.«01_k».proof.Proof.Gen.Reference3Ideal.Read
public import proofs.«01_k».proof.Proof.Gen.Pre_finite_conv

@[expose] public section

set_option maxRecDepth 16384

noncomputable section

namespace Cert.Proof.Conv

open Idealize.ShloMosaic Cert.Reference3Ideal.Read

variable (x0 : FVec Ideal ⟨2, ![2048, 2048]⟩ .f32) (x1 : FVec Ideal ⟨2, ![2048, 11296]⟩ .f32) (x2 : FVec Ideal ⟨2, ![4, 4096]⟩ .f32)
  (x3 : FVec Ideal ⟨1, ![4096]⟩ .f32) (x4 : FVec Ideal ⟨2, ![2048, 11520]⟩ .bf16)

/-- Column `j` of the arguments: input channel `j` lies at column `5120 + j` of `proj`. -/
def colOf (j : Fin 2048) : Col where
  u i := (x1 (ix2 i ⟨5120 + j.val, by omega⟩)).toReal
  d i := (x0 (ix2 i j)).toReal
  w0 := (x2 (ix2 0 ⟨j.val, by omega⟩)).toReal
  w1 := (x2 (ix2 1 ⟨j.val, by omega⟩)).toReal
  w2 := (x2 (ix2 2 ⟨j.val, by omega⟩)).toReal
  w3 := (x2 (ix2 3 ⟨j.val, by omega⟩)).toReal
  b := (x3 (ix1 ⟨j.val, by omega⟩)).toReal

/-- The arguments hold real numbers: those of `colOf`. -/
structure Says (j : Fin 2048) : Prop where
  hd i : x0 (ix2 i j) = ((colOf x0 x1 x2 x3 j).d i : EReal)
  hu i : x1 (ix2 i ⟨5120 + j.val, by omega⟩) = ((colOf x0 x1 x2 x3 j).u i : EReal)
  h0 : x2 (ix2 0 ⟨j.val, by omega⟩) = ((colOf x0 x1 x2 x3 j).w0 : EReal)
  h1 : x2 (ix2 1 ⟨j.val, by omega⟩) = ((colOf x0 x1 x2 x3 j).w1 : EReal)
  h2 : x2 (ix2 2 ⟨j.val, by omega⟩) = ((colOf x0 x1 x2 x3 j).w2 : EReal)
  h3 : x2 (ix2 3 ⟨j.val, by omega⟩) = ((colOf x0 x1 x2 x3 j).w3 : EReal)
  hb : x3 (ix1 ⟨j.val, by omega⟩) = ((colOf x0 x1 x2 x3 j).b : EReal)

/-- What the precondition says at one index. -/
theorem finite_at (i j : Fin 2048) (H : Cert.Pre_finite_conv.fn (F := Ideal) x0 x1 x2 x3 x4 (ix2 i j) = 1#1) :
    x0 (ix2 i j) = ((x0 (ix2 i j)).toReal : EReal)
    ∧ x1 (ix2 i ⟨5120 + j.val, by omega⟩) = ((x1 (ix2 i ⟨5120 + j.val, by omega⟩)).toReal : EReal)
    ∧ (∀ k : Fin 4, x2 (ix2 k ⟨j.val, by omega⟩) = ((x2 (ix2 k ⟨j.val, by omega⟩)).toReal : EReal))
    ∧ x3 (ix1 ⟨j.val, by omega⟩) = ((x3 (ix1 ⟨j.val, by omega⟩)).toReal : EReal) := by
  pointwise [Cert.Pre_finite_conv.fn, Cert.Pre_finite_conv.fn_part1] at H
  simp only [IntOp.andi_eq_one] at H
  obtain ⟨⟨⟨⟨⟨⟨hd, hu⟩, h0⟩, h1⟩, h2⟩, h3⟩, hb⟩ := H
  refine ⟨Common.real_of_abs_lt _ hd, Common.real_of_abs_lt _ hu, fun k => ?_, Common.real_of_abs_lt _ hb⟩
  fin_cases k
  · exact Common.real_of_abs_lt _ h0
  · exact Common.real_of_abs_lt _ h1
  · exact Common.real_of_abs_lt _ h2
  · exact Common.real_of_abs_lt _ h3

theorem says_of (H : Cert.Pre_finite_conv.fn (F := Ideal) x0 x1 x2 x3 x4 = fun _ => 1#1) (j : Fin 2048) : Says x0 x1 x2 x3 j where
  hd i := (finite_at x0 x1 x2 x3 x4 i j (congrFun H _)).1
  hu i := (finite_at x0 x1 x2 x3 x4 i j (congrFun H _)).2.1
  h0 := (finite_at x0 x1 x2 x3 x4 0 j (congrFun H _)).2.2.1 0
  h1 := (finite_at x0 x1 x2 x3 x4 0 j (congrFun H _)).2.2.1 1
  h2 := (finite_at x0 x1 x2 x3 x4 0 j (congrFun H _)).2.2.1 2
  h3 := (finite_at x0 x1 x2 x3 x4 0 j (congrFun H _)).2.2.1 3
  hb := (finite_at x0 x1 x2 x3 x4 0 j (congrFun H _)).2.2.2

/-- A moved column read at a row: a row of the column, or a zero that entered. -/
theorem back_top (k : ℕ) (f : Fin 2048 → ℝ) (i : Fin 2048) (h : i.val < k) : (0 : EReal) = (back k f i : EReal) := by
  unfold back; rw [if_neg (by omega)]; rfl
theorem back_row (k : ℕ) (f : Fin 2048 → ℝ) (i n : Fin 2048) (h : n.val + k = i.val) : (f n : EReal) = (back k f i : EReal) := by
  unfold back; rw [if_pos (by omega)]
  exact congrArg (fun m => (f m : EReal)) (Fin.ext (by show n.val = i.val - k; omega))
/-- The host's stacking of four rows of sums and one more, zeros below. -/
theorem rows_host (s0 s1 s2 s3 s4 : ℝ) (r : Fin 8) :
    (if _h : r.val < 4 then
      ((((if _h : 3 ≤ r.val ∧ r.val - 3 < 1 then (s3 : EReal) else 0) + if _h : 2 ≤ r.val ∧ r.val - 2 < 1 then (s2 : EReal) else 0)
        + if _h : 1 ≤ r.val ∧ r.val - 1 < 1 then (s1 : EReal) else 0) + if _h : r.val < 1 then (s0 : EReal) else 0)
    else if _h : r.val - 4 < 1 then (s4 : EReal) else 0)
      = ((if r = 0 then s0 else if r = 1 then s1 else if r = 2 then s2 else if r = 3 then s3 else if r = 4 then s4 else 0 : ℝ) : EReal) := by
  fin_cases r <;> simp

theorem ahead_dite (w : ℝ) (f : Fin 2048 → ℝ) (k : ℕ) (i : Fin 2048) {P : Prop} [Decidable P] (g : P → EReal)
    (hP : P ↔ i.val + k < 2048) (hg : ∀ (h : P) (h' : i.val + k < 2048), g h = (f ⟨i.val + k, h'⟩ : EReal) * (w : EReal)) :
    (if h : P then g h else 0) = ((w * ahead k f i : ℝ) : EReal) := by
  unfold ahead
  by_cases h : P
  · rw [dif_pos h, dif_pos (hP.mp h), hg h (hP.mp h), ← EReal.coe_mul, mul_comm]
  · rw [dif_neg h, dif_neg (fun h' => h (hP.mpr h')), mul_zero]; rfl

variable {x0 x1 x2 x3 x4} {j : Fin 2048} (S : Says x0 x1 x2 x3 j)
include S

/-- The four rows of the padded input that row `i` of the convolution reads. -/
theorem pad6 (i : Fin 2048) : val_main_v6 (F := Ideal) x1 (ix2 i j) = (back 3 (colOf x0 x1 x2 x3 j).u i : EReal) := by
  pointwise [val_main_v6, val_main_v4, val_main_v3, val_main_cst, val_main_v0, S.hu]
  by_cases h : i.val < 3
  · exact (dif_pos h).trans (back_top _ _ i (by omega))
  · exact (dif_neg h).trans (back_row _ _ i _ (by simp only []; omega))

theorem pad12 (i : Fin 2048) : val_main_v12 (F := Ideal) x1 (ix2 i j) = (back 2 (colOf x0 x1 x2 x3 j).u i : EReal) := by
  pointwise [val_main_v12, val_main_v4, val_main_v3, val_main_cst, val_main_v0, S.hu]
  by_cases h : 1 + i.val < 3
  · exact (dif_pos h).trans (back_top _ _ i (by omega))
  · exact (dif_neg h).trans (back_row _ _ i _ (by simp only []; omega))

theorem pad19 (i : Fin 2048) : val_main_v19 (F := Ideal) x1 (ix2 i j) = (back 1 (colOf x0 x1 x2 x3 j).u i : EReal) := by
  pointwise [val_main_v19, val_main_v4, val_main_v3, val_main_cst, val_main_v0, S.hu]
  by_cases h : 2 + i.val < 3
  · exact (dif_pos h).trans (back_top _ _ i (by omega))
  · exact (dif_neg h).trans (back_row _ _ i _ (by simp only []; omega))

theorem pad26 (i : Fin 2048) : val_main_v26 (F := Ideal) x1 (ix2 i j) = ((colOf x0 x1 x2 x3 j).u i : EReal) := by
  pointwise [val_main_v26, val_main_v4, val_main_v3, val_main_cst, val_main_v0, S.hu]

/-- The convolution before `silu`, and its cotangent. -/
theorem r35 (i : Fin 2048) : val_main_v35 (F := Ideal) x1 x2 x3 (ix2 i j) = ((colOf x0 x1 x2 x3 j).pre i : EReal) := by
  pointwise [val_main_v35, val_main_v32, val_main_v25, val_main_v18, val_main_v11, val_main_v17, val_main_v24, val_main_v31,
    val_main_v10, val_main_v9, val_main_v8, val_main_v7, val_main_v1, val_main_v16, val_main_v15, val_main_v14, val_main_v13,
    val_main_v23, val_main_v22, val_main_v21, val_main_v20, val_main_v30, val_main_v29, val_main_v28, val_main_v27,
    val_main_v34, val_main_v33, val_main_v2, pad6 S, pad12 S, pad19 S, pad26 S, S.h0, S.h1, S.h2, S.h3, S.hb]
  simp only [← EReal.coe_mul, ← EReal.coe_add]
  refine congrArg _ ?_
  unfold Col.pre
  ring

theorem r37 (i : Fin 2048) : val_main_v37 (F := Ideal) x0 x1 x2 x3 (ix2 i j) = ((colOf x0 x1 x2 x3 j).dc i : EReal) := by
  pointwise [val_main_v37, val_main_call1_v1, val_main_call1_v2, val_main_call1_v0, val_main_v36_1, val_main_v36_2,
    val_main_call0_v0, val_main_call0_v1, val_main_call0_v2, val_main_call0_v3, val_main_call0_v4, val_main_call0_v6,
    val_main_call0_v7, val_main_call0_cst, val_main_call0_cst_0, val_main_call0_cst_1, r35 S, S.hd]
  simp only [Common.logistic_host]
  simp only [← EReal.coe_one, ← EReal.coe_mul, ← EReal.coe_add, ← EReal.coe_sub]
  refine congrArg _ ?_
  unfold Col.dc Col.sg
  ring

/-- The gradient of the input. -/
theorem r84 (i : Fin 2048) : val_main_v84 (F := Ideal) x0 x1 x2 x3 (ix2 i j) = ((colOf x0 x1 x2 x3 j).du i : EReal) := by
  pointwise [val_main_v84, val_main_v82, val_main_v71, val_main_v60, val_main_v49, val_main_v59, val_main_v70, val_main_v81,
    val_main_v45, val_main_v54, val_main_v65, val_main_v76, val_main_cst_6, val_main_cst_10, val_main_cst_14, val_main_cst_18,
    val_main_v44, val_main_v29, val_main_v28, val_main_v27, val_main_v53, val_main_v22, val_main_v21, val_main_v20,
    val_main_v64, val_main_v15, val_main_v14, val_main_v13, val_main_v75, val_main_v9, val_main_v8, val_main_v7, val_main_v1,
    r37 S, S.h0, S.h1, S.h2, S.h3]
  refine (congrArg₂ (· + ·) (congrArg₂ (· + ·) (congrArg₂ (· + ·) (?_ : _ = (((colOf x0 x1 x2 x3 j).w3 * (colOf x0 x1 x2 x3 j).dc i : ℝ) : EReal))
    (ahead_dite _ (colOf x0 x1 x2 x3 j).dc 1 i _ (by omega) fun _ _ => congrArg (fun m => ((colOf x0 x1 x2 x3 j).dc m : EReal) * _) (Fin.ext (by show 3 + i.val - 2 = i.val + 1; omega))))
    (ahead_dite _ (colOf x0 x1 x2 x3 j).dc 2 i _ (by omega) fun _ _ => congrArg (fun m => ((colOf x0 x1 x2 x3 j).dc m : EReal) * _) (Fin.ext (by show 3 + i.val - 1 = i.val + 2; omega))))
    (ahead_dite _ (colOf x0 x1 x2 x3 j).dc 3 i _ (by omega) fun _ _ => congrArg (fun m => ((colOf x0 x1 x2 x3 j).dc m : EReal) * _) (Fin.ext (by show 3 + i.val = i.val + 3; omega)))).trans ?_
  · rw [mul_comm, EReal.coe_mul]
  · simp only [← EReal.coe_add]
    rfl

/-- The gradients of the taps and of the bias, row by row. -/
theorem r91 (r : Fin 8) : val_main_v91 (F := Ideal) x0 x1 x2 x3 (ix2 r j) = ((colOf x0 x1 x2 x3 j).gw r : EReal) := by
  pointwise [val_main_v91, val_main_v90, val_main_v89, val_main_v80, val_main_v79, val_main_v78, val_main_v77, val_main_v74,
    val_main_v73, val_main_v72, val_main_v69, val_main_v68, val_main_v67, val_main_v66, val_main_v63, val_main_v62, val_main_v61,
    val_main_v58, val_main_v57, val_main_v56, val_main_v55, val_main_v52, val_main_v51, val_main_v50, val_main_v48, val_main_v47,
    val_main_v46, val_main_v43, val_main_v42, val_main_v41, val_main_v40, val_main_v39, val_main_v38, val_main_cst_1, val_main_cst_2, val_main_cst_3,
    val_main_cst_4, val_main_cst_5, val_main_cst_7, val_main_cst_8, val_main_cst_9, val_main_cst_11, val_main_cst_12, val_main_cst_13,
    val_main_cst_15, val_main_cst_16, val_main_cst_17, val_main_cst_19, r37 S, pad6 S, pad12 S, pad19 S, pad26 S]
  simp only [← EReal.coe_mul, ← Common.coe_sum]
  refine (rows_host _ _ _ _ _ r).trans ?_
  simp only [Finset.univ_unique, Finset.sum_singleton, Col.gw, mul_comm]

/-- The reference's shared gradient array: the input's gradient at its columns, elsewhere what the argument held. -/
theorem r88_in (i : Fin 2048) (l : Fin 11520) (h : l.val = 5120 + j.val) :
    val_main_v88 (F := Ideal) x0 x1 x2 x3 x4 (ix2 i l) = ((colOf x0 x1 x2 x3 j).du i : EReal) := by
  pointwise [val_main_v88, val_main_v87, val_main_v86, val_main_v85]
  refine (dif_neg (show ¬ l.val < 5120 by omega)).trans ((dif_pos (show l.val - 5120 < 2048 by omega)).trans ?_)
  refine Eq.trans ?_ (r84 S i)
  exact congrArg (fun m => val_main_v84 (F := Ideal) x0 x1 x2 x3 (ix2 i m)) (Fin.ext (by show l.val - 5120 = j.val; omega))

omit S in
theorem r88_out (i : Fin 2048) (l : Fin 11520) (h : l.val < 5120 ∨ 7168 ≤ l.val) :
    val_main_v88 (F := Ideal) x0 x1 x2 x3 x4 (ix2 i l) = x4 (ix2 i l) := by
  pointwise [val_main_v88, val_main_v87, val_main_v86, val_main_v85]
  by_cases h' : l.val < 5120
  · exact dif_pos h'
  · refine (dif_neg h').trans ((dif_neg (show ¬ l.val - 5120 < 2048 by omega)).trans ?_)
    exact congrArg (fun m => x4 (ix2 i m)) (Fin.ext (by show 7168 + (l.val - 5120 - 2048) = l.val; omega))

end Cert.Proof.Conv

end
-- ==== Proof.Conv.Value.lean ====
/- The two arrays the causal convolution's gradient leaves, block by block, against the reference's. -/
module

public import proofs.«01_k».proof.Proof.Conv.Ref
public import Idealize.ShloMosaic.Lib.Claim
public import Idealize.ShloMosaic.Lib.StableHlo.RunRead

@[expose] public section

set_option maxRecDepth 16384

noncomputable section

namespace Cert.Proof.Conv

open Cert.Kernel3Ideal Cert.Kernel3Ideal.Gen Cert.Kernel3Ideal.Value Idealize.ShloMosaic Idealize.ShloMosaic.TcCoe
  Idealize.SL.Sem

/-- Which block of its array each window takes at point `t`: the `t`-th block of 256 channels. -/
theorem idx : ∀ t : Fin grid0.N, win0_0.index t = ![0, t.val] ∧ win0_1.index t = ![0, 20 + t.val] ∧ win0_2.index t = ![0, t.val]
    ∧ win0_3.index t = ![0, 20 + t.val] ∧ win0_4.index t = ![0, t.val] := by decide +kernel

variable (m : (ℓ : Loc nD τ sig) → Buf (Elt Ideal) ℓ) (c : Dev nD)

/-- The arguments at device `c`. -/
abbrev Ad : FVec Ideal S2048x2048 .f32 := m ((c : Thread nD τ).loc main_arg0)
abbrev Ap : FVec Ideal S2048x11296 .f32 := m ((c : Thread nD τ).loc main_arg1)
abbrev Aw : FVec Ideal S4x4096 .f32 := m ((c : Thread nD τ).loc main_arg2)
abbrev Ab : FVec Ideal S4096 .f32 := m ((c : Thread nD τ).loc main_arg3)
abbrev Aq : FVec Ideal S2048x11520 .bf16 := m ((c : Thread nD τ).loc main_arg4)

/-- Channel `l` of point `t`'s block. -/
def col (t : Fin grid0.N) (l : Fin 256) : Fin 2048 := ⟨256 * t.val + l.val, by have := (show t.val < 8 from t.isLt); omega⟩

theorem blk0 (t : Fin grid0.N) (i : Fin 2048) (l : Fin 256) : iblk m c 0 t (ix2 i l) = Ad m c (ix2 i (col t l)) := by
  unfold col; blk_ext [iblk, V, idx t]

/-- The packed projection's columns before the gate are `proj`'s. -/
theorem packed (i : Fin 2048) (j : Fin 11520) (h' : j.val < 9216) :
    V m c main_v5 (ix2 i j) = Ap m c (ix2 i ⟨j.val, by omega⟩) := by
  unfold V
  after_reads_simp
  pointwise
  refine (dif_pos h').trans ?_
  after_reads_simp
  pointwise

/-- The taps' array: four rows of taps, one of the bias. -/
abbrev Vt : FVec Ideal S8x4096 .f32 := V m c main_v8

theorem taps (k : Fin 8) (j : Fin 4096) : Vt m c (ix2 k j)
    = if h : k.val < 4 then Aw m c (ix2 ⟨k.val, h⟩ j) else if k.val - 4 < 1 then Ab m c (ix1 j) else 0 := by
  unfold Vt V
  after_reads_simp
  pointwise
  after_reads_simp
  pointwise
  rfl

theorem blk1 (t : Fin grid0.N) (i : Fin 2048) (l : Fin 256) :
    iblk m c 1 t (ix2 i l) = Ap m c (ix2 i ⟨5120 + (col t l).val, by omega⟩) := by
  have ht : t.val < 8 := t.isLt
  refine Eq.trans ?_ (packed m c i ⟨5120 + (col t l).val, by omega⟩ (by show 5120 + _ < 9216; omega))
  show V m c main_v5 _ = _
  congr 1
  blk_ext [idx t, col]

theorem blk2 (t : Fin grid0.N) (k : Fin 8) (l : Fin 256) :
    iblk m c 2 t (ix2 k l) = Vt m c (ix2 k ⟨(col t l).val, by omega⟩) := by
  show V m c main_v8 _ = V m c main_v8 _
  congr 1
  blk_ext [idx t, col]

variable {m c} (S : ∀ j, Says (Ad m c) (Ap m c) (Aw m c) (Ab m c) j)
include S

/-- A point's blocks hold the real numbers of its channels. -/
theorem holds (t : Fin grid0.N) (l : Fin 256) :
    Holds (colOf (Ad m c) (Ap m c) (Aw m c) (Ab m c) (col t l)) (iblk m c 0 t) (iblk m c 1 t) (iblk m c 2 t) l where
  hu i := (blk1 m c t i l).trans ((S (col t l)).hu i)
  hd i := (blk0 m c t i l).trans ((S (col t l)).hd i)
  h0 := (blk2 m c t 0 l).trans ((taps m c 0 _).trans (S (col t l)).h0)
  h1 := (blk2 m c t 1 l).trans ((taps m c 1 _).trans (S (col t l)).h1)
  h2 := (blk2 m c t 2 l).trans ((taps m c 2 _).trans (S (col t l)).h2)
  h3 := (blk2 m c t 3 l).trans ((taps m c 3 _).trans (S (col t l)).h3)
  h4 := (blk2 m c t 4 l).trans ((taps m c 4 _).trans (S (col t l)).hb)

/-- The shared gradient array: the input channels' columns written, the others as the argument held them. -/
theorem arr3 : (dats m 0 c).arrAt 3 cfg0.N
    = (Cert.Reference3Ideal.Read.val_main_v88 (F := Ideal) (Ad m c) (Ap m c) (Aw m c) (Ab m c) (Aq m c)) := by
  refine (dats m 0 c).arrAt_eq_of_coversWhere_of_agree 3 _ (fun β => 20 ≤ β 1 ∧ β 1 < 28) (by decide +kernel) (fun t hf y => ?_)
    (fun j hj => ?_)
  · blk_simp
    rw [after0_3]
    unfold outsAt0
    dsimp only
    rw [out3]
    obtain ⟨i, l, rfl⟩ : ∃ (i : Fin 2048) (l : Fin 256), y = ix2 i l := ⟨y 0, y 1, eq_ix2 y⟩
    have e : (win0_3.blk t).view.emb (ix2 i l) = ix2 i (⟨5120 + (col t l).val, by omega⟩ : Fin 11520) := by
      unfold col; blk_ext [idx t]
    rw [e, r88_in (S (col t l)) i _ rfl]
    exact pay9 (holds S t l) i
  · blk_simp [Pipeline.Window.cell_apply] at hj
    obtain ⟨i, l, rfl⟩ : ∃ (i : Fin 2048) (l : Fin 11520), j = ix2 i l := ⟨j 0, j 1, eq_ix2 j⟩
    refine Eq.trans ?_ (r88_out i l (by revert hj; show ¬ (20 ≤ l.val / 256 ∧ l.val / 256 < 28) → _; omega)).symm
    rw [A_eq]
    show V m c main_v9_0 _ = _
    entry_read
    rfl

/-- The gradients of the taps and of the bias. -/
theorem arr4 : (dats m 0 c).arrAt 4 cfg0.N
    = (Cert.Reference3Ideal.Read.val_main_v91 (F := Ideal) (Ad m c) (Ap m c) (Aw m c) (Ab m c)) := by
  refine (dats m 0 c).arrAt_eq_of_covers 4 _ (by decide +kernel) fun t hf y => ?_
  blk_simp
  rw [after0_4]
  unfold outsAt0
  dsimp only
  rw [out4]
  obtain ⟨a, l, rfl⟩ : ∃ (a : Fin 8) (l : Fin 256), y = ix2 a l := ⟨y 0, y 1, eq_ix2 y⟩
  have e : (win0_4.blk t).view.emb (ix2 a l) = ix2 a (col t l) := by unfold col; blk_ext [idx t]
  rw [e, r91 (S (col t l)) a]
  exact pay10 (holds S t l) a

end Cert.Proof.Conv

end
-- ==== Proof.Conv.Pair.lean ====
/- The causal convolution's gradient and its reference side by side: the reference's frame, and the equality of the results. -/
module

public import proofs.«01_k».proof.Defs
public import proofs.«01_k».proof.Proof.Conv.Value
public import proofs.«01_k».proof.Proof.Gen.Reference3Ideal.Run

@[expose] public section

set_option maxRecDepth 16384

noncomputable section

namespace Cert.Proof.Conv

open Idealize.ShloMosaic Idealize.SL.Sem Cert.Reference3Ideal.Read

/-- The reference leaves its arguments; it has no semaphore. -/
theorem frameR : Cert.quiescent_Reference3Ideal (hReference3Ideal := Cert.Reference3Ideal.Gen.facts) := fun m ρ _ =>
  (θ_run _ _ _).mono (fun r h => ⟨fun c => (h c).2.2, sem_eq_zero_of_no_sems (by decide) r.2⟩)
    (Cert.Reference3Ideal.Value.run (F := Ideal) m ρ)

/-- On finite arguments both programs end with the same two arrays. -/
theorem equal : Cert.algebraic_Kernel3Ideal_Reference3Ideal_pre_finite_conv (hKernel3Ideal := Cert.Kernel3Ideal.Gen.facts)
    (hReference3Ideal := Cert.Reference3Ideal.Gen.facts) (hPre_finite_conv := Cert.Pre_finite_conv.Gen.facts) := fun m ρ m' ρ' hpre hag =>
  ⟨fun c => val_main_v88 (F := Ideal) (Ad m c) (Ap m c) (Aw m c) (Ab m c) (Aq m c),
   fun c => val_main_v91 (F := Ideal) (Ad m c) (Ap m c) (Aw m c) (Ab m c),
   (θ_run _ _ _).mono (fun _ h c => by
     have S := says_of (x0 := Ad m c) (x1 := Ap m c) (x2 := Aw m c) (x3 := Ab m c) (x4 := Aq m c) (hpre c)
     exact ⟨(h c).1.trans (arr3 S), (h c).2.1.trans (arr4 S), (h c).2.2⟩)
     (Cert.Kernel3Ideal.Value.run_blocks (F := Ideal) m ρ),
   (θ_run _ _ _).mono (fun _ h c => by
     obtain ⟨e0, e1, e2, e3, e4⟩ := hag c
     refine ⟨(h c).1.trans ?_, (h c).2.1.trans ?_, (h c).2.2⟩
     · exact (val_main_v88_eq _ _).trans (by congr 1)
     · exact (val_main_v91_eq _ _).trans (by congr 1))
     (Cert.Reference3Ideal.Value.run (F := Ideal) m' ρ')⟩

end Cert.Proof.Conv

end
-- ==== Proof.Common.Norm.lean ====
/- The gradient of a root-mean-square norm, as a kernel writes it by hand and as differentiating the forward lines gives it. -/
module

public import proofs.«01_k».proof.Proof.Common.Reals

@[expose] public section

set_option maxRecDepth 16384

noncomputable section

namespace Cert.Proof.Common

open Idealize.ShloMosaic

/-- The numbers that some words stand for: the one added under the root, the two lengths, minus a half, a half, two. -/
def eps : ℝ := 8796093 / 2 ^ 43
theorem eps_pos : 0 < eps := by unfold eps; norm_num
theorem eps_word : Ideal.ofBits .f32 0x358637BD#32 = ((eps : ℝ) : EReal) := by
  simp [Ideal.ofBits, Ideal.ieee, eps]; rw [← EReal.coe_mul]; norm_num
theorem word_1024 : Ideal.ofBits .f32 0x44800000#32 = ((1024 : ℝ) : EReal) := by
  simp [Ideal.ofBits, Ideal.ieee]; rw [← EReal.coe_mul]; norm_num
theorem word_256 : Ideal.ofBits .f32 0x43800000#32 = ((256 : ℝ) : EReal) := by
  simp [Ideal.ofBits, Ideal.ieee]; rw [← EReal.coe_mul]; norm_num
theorem word_neg_half : Ideal.ofBits .f32 0xBF000000#32 = ((-(1 / 2) : ℝ) : EReal) := by
  simp [Ideal.ofBits, Ideal.ieee]; rw [← EReal.coe_mul]; norm_num
theorem word_half : Ideal.ofBits .f32 0x3F000000#32 = ((1 / 2 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num

/-- An extended real that is a real number. -/
def IsReal (x : EReal) : Prop := ∃ r : ℝ, x = r

theorem IsReal.of_abs_lt (v : EReal)
    (h : BitVec.ofBool (decide (FloatOps.absf (F := Ideal) (φ := .f32) v < Ideal.ofBits .f32 0x7F800000#32)) = 1#1) : IsReal v :=
  ⟨_, real_of_abs_lt v h⟩
theorem IsReal.coe (r : ℝ) : IsReal r := ⟨r, rfl⟩
theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

variable {n : ℕ}

/-- One over the root of the mean square (with the small number added), of a row. -/
def rs (N : EReal) (x : Fin n → EReal) : EReal :=
  Ideal.rsqrt (Ideal.div (∑ j, x j * x j) N + Ideal.ofBits .f32 0x358637BD#32)

/-- A row's gradient through the norm, written by hand. -/
def byHand (N : EReal) (x e : Fin n → EReal) (i : Fin n) : EReal :=
  rs N x * (e i - x i * rs N x * Ideal.div (∑ j, e j * (x j * rs N x)) N)

/-- What differentiating the mean square under the root contributes. -/
def meanTerm (N : EReal) (x e : Fin n → EReal) : EReal :=
  Ideal.div ((∑ j, x j * e j) * (Ideal.ofBits .f32 0xBF000000#32
    * Ideal.div (rs N x) (Ideal.div (∑ j, x j * x j) N + Ideal.ofBits .f32 0x358637BD#32))) N

variable {N : EReal} {ν : ℝ} (hN : N = (ν : EReal)) (hν : 0 < ν) {x e : Fin n → EReal} (hx : ∀ j, IsReal (x j))
include hN hν hx

theorem rs_real : IsReal (rs N x) ∧ ∃ v : ℝ, 0 < v ∧ rs N x = (((√v)⁻¹ : ℝ) : EReal)
    ∧ Ideal.div (∑ j, x j * x j) N + Ideal.ofBits .f32 0x358637BD#32 = (v : EReal) := by
  choose y hy using hx
  have e1 : Ideal.div (∑ j, x j * x j) N + Ideal.ofBits .f32 0x358637BD#32 = (((∑ j, y j * y j) * (1 / ν) + eps : ℝ) : EReal) := by
    rw [hN, Ideal.div_coe hν.ne', eps_word, EReal.coe_add, EReal.coe_mul, coe_sum]
    simp only [hy, EReal.coe_mul]
  have hp : 0 < (∑ j, y j * y j) * (1 / ν) + eps :=
    add_pos_of_nonneg_of_pos (mul_nonneg (Finset.sum_nonneg fun j _ => mul_self_nonneg _) (by positivity)) eps_pos
  have e2 : rs N x = (((√((∑ j, y j * y j) * (1 / ν) + eps))⁻¹ : ℝ) : EReal) := by
    unfold rs; rw [e1, Ideal.rsqrt_coe, if_neg hp.not_gt, if_neg hp.ne']
  exact ⟨⟨_, e2⟩, _, hp, e2, e1⟩

/-- The two forms agree on real rows. -/
theorem norm_grad (he : ∀ j, IsReal (e j)) (i : Fin n) :
    byHand N x e i = e i * rs N x + x i * meanTerm N x e + meanTerm N x e * x i := by
  obtain ⟨-, v, hv, h1, h2⟩ := rs_real hN hν hx
  unfold byHand meanTerm
  rw [h2, h1, hN, Ideal.div_coe hν.ne', Ideal.div_coe hν.ne', Ideal.div_coe hv.ne', word_neg_half]
  choose y hy using hx
  choose f hf using he
  simp only [hy, hf, ← EReal.coe_mul, ← coe_sum, ← EReal.coe_add, ← EReal.coe_sub]
  refine congrArg _ ?_
  generalize hr : (√v)⁻¹ = r
  have hrr : 1 / v = r * r := by rw [← hr, ← mul_inv, Real.mul_self_sqrt hv.le, one_div]
  have hs : ∑ j, f j * (y j * r) = (∑ j, y j * f j) * r := by
    rw [Finset.sum_mul]; exact Finset.sum_congr rfl fun j _ => by ring
  rw [hs, hrr]
  ring

/-- The gradient through the norm is real. -/
theorem byHand_real (he : ∀ j, IsReal (e j)) (i : Fin n) : IsReal (byHand N x e i) := by
  have hr := (rs_real hN hν hx).1
  refine hr.mul ((he i).sub (((hx i).mul hr).mul ?_))
  subst hN
  rw [Ideal.div_coe hν.ne']
  exact (IsReal.sum fun j => (he j).mul ((hx j).mul hr)).mul (IsReal.coe _)

end Cert.Proof.Common

end
-- ==== Proof.Gnorm.Spec.lean ====
/- One group of 256 channels of one row: what the call stores for it, number by number, and the payloads of its four slices. -/
module

public import proofs.«01_k».proof.Proof.Common.Norm
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gnorm

open Cert.Kernel4Ideal Cert.Kernel4Ideal.Gen Cert.Kernel4Ideal.Value Idealize.ShloMosaic Idealize.ShloMosaic.TcCoe
  Idealize.SL.Sem Cert.Proof.Common

/-- The length of a group, and one. -/
abbrev N : EReal := Ideal.ofBits .f32 0x43800000#32

/-- The gate's logistic factor; a group's gated entries; the norm's cotangent; the three gradients of a group. -/
def sg (z : EReal) : EReal := Ideal.div 1 (1 + Ideal.exp (0 - z))
def gated (y z : Fin 256 → EReal) (l : Fin 256) : EReal := y l * (z l * sg (z l))
def cot (p w : Fin 256 → EReal) (l : Fin 256) : EReal := p l * w l
def dyS (y z p w : Fin 256 → EReal) (l : Fin 256) : EReal := byHand N (gated y z) (cot p w) l * (z l * sg (z l))
def dzS (y z p w : Fin 256 → EReal) (l : Fin 256) : EReal :=
  byHand N (gated y z) (cot p w) l * y l * (sg (z l) * (1 + z l * (1 - sg (z l))))
def gwS (y z p : Fin 256 → EReal) (l : Fin 256) : EReal := p l * (gated y z l * rs N (gated y z))

section Block

variable (d : Vec Ideal S1x512x1024 .bf16) (b : Vec Ideal S1024x1024 .bf16) (y : Vec Ideal S512x1024 .f32) (z : Vec Ideal S512x1024 .bf16)
  (w : Vec Ideal S1x1024 .f32)

/-- Group `k` of a row of each array of a block, and of the block's product. -/
def at1 (k : Fin 4) (l : Fin 256) : Fin 1024 := ⟨256 * k.val + l.val, by omega⟩
def yR (r : Fin 512) (k : Fin 4) (l : Fin 256) : EReal := y (ix2 r (at1 k l))
def zR (r : Fin 512) (k : Fin 4) (l : Fin 256) : EReal := z (ix2 r (at1 k l))
def pR (r : Fin 512) (k : Fin 4) (l : Fin 256) : EReal := ∑ j : Fin 1024, d (ix3 0 r j) * b (ix2 (at1 k l) j)
def wR (k : Fin 4) (l : Fin 256) : EReal := w (ix2 0 (at1 k l))

/-- The columns a block's entry belongs to. -/
def grp (n : Fin 1024) : Fin 4 := ⟨n.val / 256, by omega⟩
def pos (n : Fin 1024) : Fin 256 := ⟨n.val % 256, by omega⟩
theorem at1_grp (n : Fin 1024) : at1 (grp n) (pos n) = n := Fin.ext (by show 256 * (n.val / 256) + n.val % 256 = n.val; omega)

/-- The blocks of the two gradients. -/
def dyB : Vec Ideal S512x1024 .f32 := fun j => dyS (yR y (j 0) (grp (j 1))) (zR z (j 0) (grp (j 1))) (pR d b (j 0) (grp (j 1))) (wR w (grp (j 1))) (pos (j 1))
def dzB : Vec Ideal S512x1024 .bf16 := fun j => dzS (yR y (j 0) (grp (j 1))) (zR z (j 0) (grp (j 1))) (pR d b (j 0) (grp (j 1))) (wR w (grp (j 1))) (pos (j 1))

variable (r : Fin 512) (l : Fin 256)

theorem dy0 : k0_pay15 (k0_pay5 z) (k0_pay8 w) (k0_pay10 z y) (k0_pay11 z y) (k0_pay12 d b) (ix2 r l) = dyS (yR y r 0) (zR z r 0) (pR d b r 0) (wR w 0) l := by
  unfold dyS byHand cot wR gated sg rs yR zR pR at1
  pointwise [k0_pay3, k0_pay4, k0_pay5, k0_pay6, k0_pay7, k0_pay8, k0_pay9, k0_pay10, k0_pay11, k0_pay12, k0_pay14, k0_pay15]

theorem dy1 : k0_pay25 (k0_pay5 z) (k0_pay7 d b) (k0_pay8 w) (k0_pay17 (k0_pay6 z y)) (k0_pay18 (k0_pay6 z y)) (k0_pay19 (F := Ideal)) (ix2 r l) = dyS (yR y r 1) (zR z r 1) (pR d b r 1) (wR w 1) l := by
  unfold dyS byHand cot wR gated sg rs yR zR pR at1
  pointwise [k0_pay3, k0_pay4, k0_pay5, k0_pay6, k0_pay7, k0_pay8, k0_pay17, k0_pay18, k0_pay19, k0_pay20, k0_pay21, k0_pay22, k0_pay24, k0_pay25]

theorem dy2 : k0_pay33 (k0_pay5 z) (k0_pay6 z y) (k0_pay7 d b) (k0_pay8 w) (ix2 r l) = dyS (yR y r 2) (zR z r 2) (pR d b r 2) (wR w 2) l := by
  unfold dyS byHand cot wR gated sg rs yR zR pR at1
  pointwise [k0_pay3, k0_pay4, k0_pay5, k0_pay6, k0_pay7, k0_pay8, k0_pay27, k0_pay28, k0_pay29, k0_pay30, k0_pay32, k0_pay33]

theorem dy3 : k0_pay45 (k0_pay5 z) (k0_pay6 z y) (k0_pay7 d b) (k0_pay8 w) (ix2 r l) = dyS (yR y r 3) (zR z r 3) (pR d b r 3) (wR w 3) l := by
  unfold dyS byHand cot wR gated sg rs yR zR pR at1
  pointwise [k0_pay3, k0_pay4, k0_pay5, k0_pay6, k0_pay7, k0_pay8, k0_pay39, k0_pay40, k0_pay41, k0_pay42, k0_pay44, k0_pay45]

theorem dz0 : k0_pay16 (k0_pay3 z) (k0_pay4 z) y (k0_pay8 w) (k0_pay10 z y) (k0_pay11 z y) (k0_pay12 d b) (ix2 r l) = dzS (yR y r 0) (zR z r 0) (pR d b r 0) (wR w 0) l := by
  unfold dzS byHand cot wR gated sg rs yR zR pR at1
  pointwise [k0_pay3, k0_pay4, k0_pay5, k0_pay6, k0_pay7, k0_pay8, k0_pay9, k0_pay10, k0_pay11, k0_pay12, k0_pay14, k0_pay16]

theorem dz1 : k0_pay26 (k0_pay3 z) (k0_pay4 z) y (k0_pay7 d b) (k0_pay8 w) (k0_pay17 (k0_pay6 z y)) (k0_pay18 (k0_pay6 z y)) (k0_pay19 (F := Ideal)) (ix2 r l) = dzS (yR y r 1) (zR z r 1) (pR d b r 1) (wR w 1) l := by
  unfold dzS byHand cot wR gated sg rs yR zR pR at1
  pointwise [k0_pay3, k0_pay4, k0_pay5, k0_pay6, k0_pay7, k0_pay8, k0_pay17, k0_pay18, k0_pay19, k0_pay20, k0_pay21, k0_pay22, k0_pay24, k0_pay26]

theorem dz2 : k0_pay38 (k0_pay34 y (k0_pay6 z y) (k0_pay7 d b) (k0_pay8 w)) (k0_pay35 (k0_pay4 z)) (k0_pay36 (k0_pay3 z)) (k0_pay37 (k0_pay4 z)) (Scalar.ofBits .f32 0x3F800000#32) (ix2 r l) = dzS (yR y r 2) (zR z r 2) (pR d b r 2) (wR w 2) l := by
  unfold dzS byHand cot wR gated sg rs yR zR pR at1
  pointwise [k0_pay3, k0_pay4, k0_pay5, k0_pay6, k0_pay7, k0_pay8, k0_pay27, k0_pay28, k0_pay29, k0_pay30, k0_pay32, k0_pay34, k0_pay35, k0_pay36, k0_pay37, k0_pay38]

theorem dz3 : k0_pay1 (k0_pay3 z) (k0_pay4 z) y (k0_pay44 (k0_pay6 z y) (k0_pay7 d b) (k0_pay8 w)) (ix2 r l) = dzS (yR y r 3) (zR z r 3) (pR d b r 3) (wR w 3) l := by
  unfold dzS byHand cot wR gated sg rs yR zR pR at1
  pointwise [k0_pay3, k0_pay4, k0_pay5, k0_pay6, k0_pay7, k0_pay8, k0_pay39, k0_pay40, k0_pay41, k0_pay42, k0_pay44, k0_pay1]

variable (o : Vec Ideal S8x256 .f32) (a : Fin 8)

theorem gw0 : k0_pay13 (k0_pay11 z y) (k0_pay12 d b) o (ix2 a l) = o (ix2 a l) + ∑ r : Fin 512, gwS (yR y r 0) (zR z r 0) (pR d b r 0) l := by
  unfold gwS gated sg rs yR zR pR at1
  pointwise [k0_pay3, k0_pay4, k0_pay5, k0_pay6, k0_pay7, k0_pay8, k0_pay9, k0_pay10, k0_pay11, k0_pay12, k0_pay14, k0_pay13]

theorem gw1 : k0_pay23 (k0_pay7 d b) (k0_pay17 (k0_pay6 z y)) (k0_pay18 (k0_pay6 z y)) (k0_pay19 (F := Ideal)) o (ix2 a l) = o (ix2 a l) + ∑ r : Fin 512, gwS (yR y r 1) (zR z r 1) (pR d b r 1) l := by
  unfold gwS gated sg rs yR zR pR at1
  pointwise [k0_pay3, k0_pay4, k0_pay5, k0_pay6, k0_pay7, k0_pay8, k0_pay17, k0_pay18, k0_pay19, k0_pay20, k0_pay21, k0_pay22, k0_pay24, k0_pay23]

theorem gw2 : k0_pay31 (k0_pay6 z y) (k0_pay7 d b) o (ix2 a l) = o (ix2 a l) + ∑ r : Fin 512, gwS (yR y r 2) (zR z r 2) (pR d b r 2) l := by
  unfold gwS gated sg rs yR zR pR at1
  pointwise [k0_pay3, k0_pay4, k0_pay5, k0_pay6, k0_pay7, k0_pay8, k0_pay27, k0_pay28, k0_pay29, k0_pay30, k0_pay32, k0_pay31]

theorem gw3 : k0_pay43 (k0_pay6 z y) (k0_pay7 d b) o (ix2 a l) = o (ix2 a l) + ∑ r : Fin 512, gwS (yR y r 3) (zR z r 3) (pR d b r 3) l := by
  unfold gwS gated sg rs yR zR pR at1
  pointwise [k0_pay3, k0_pay4, k0_pay5, k0_pay6, k0_pay7, k0_pay8, k0_pay39, k0_pay40, k0_pay41, k0_pay42, k0_pay44, k0_pay43]

end Block

end Cert.Proof.Gnorm

end
-- ==== Proof.Gnorm.Body.lean ====
/- What one point leaves in the three output buffers: four slices of columns each. -/
module

public import proofs.«01_k».proof.Proof.Gnorm.Spec
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gnorm

open Cert.Kernel4Ideal Cert.Kernel4Ideal.Gen Cert.Kernel4Ideal.Value Idealize.ShloMosaic Idealize.ShloMosaic.TcCoe
  Idealize.SL.Sem Cert.Proof.Common

/-- A load through a rectangle that starts at the origin. -/
theorem hz2 : (![0, 0] : Fin 2 → ℕ) = fun _ => 0 := by decide
theorem hz3 : (![0, 0, 0] : Fin 3 → ℕ) = fun _ => 0 := by decide

section Pieces

variable (d : Vec Ideal S1x512x1024 .bf16) (b : Vec Ideal S1024x1024 .bf16) (y : Vec Ideal S512x1024 .f32) (z : Vec Ideal S512x1024 .bf16)
  (w : Vec Ideal S1x1024 .f32) (k : Fin 4)

/-- Slice `k` of the columns, holding the gradients of its groups, is that slice of the block. -/
theorem dyB_of (v : FVec Ideal S512x256 .f32) (hv : ∀ r l, v (ix2 r l) = dyS (yR y r k) (zR z r k) (pR d b r k) (wR w k) l)
    (x : S512x256.Idx) (j : S512x1024.Idx) (h0 : (j 0 : ℕ) = (x 0 : ℕ)) (h1 : (j 1 : ℕ) = 256 * k.val + (x 1 : ℕ)) : v x = dyB d b y z w j := by
  obtain ⟨r, l, rfl⟩ : ∃ (r : Fin 512) (l : Fin 256), x = ix2 r l := ⟨x 0, x 1, eq_ix2 x⟩
  have e0 : j 0 = r := Fin.ext h0
  have h1 : (j 1 : ℕ) = 256 * k.val + l.val := h1
  have e1 : grp (j 1) = k := Fin.ext (by show (j 1 : ℕ) / 256 = _; omega)
  have e2 : pos (j 1) = l := Fin.ext (by show (j 1 : ℕ) % 256 = _; omega)
  unfold dyB
  rw [e0, e1, e2]
  exact hv r l

theorem dzB_of (v : FVec Ideal S512x256 .bf16) (hv : ∀ r l, v (ix2 r l) = dzS (yR y r k) (zR z r k) (pR d b r k) (wR w k) l)
    (x : S512x256.Idx) (j : S512x1024.Idx) (h0 : (j 0 : ℕ) = (x 0 : ℕ)) (h1 : (j 1 : ℕ) = 256 * k.val + (x 1 : ℕ)) : v x = dzB d b y z w j := by
  obtain ⟨r, l, rfl⟩ : ∃ (r : Fin 512) (l : Fin 256), x = ix2 r l := ⟨x 0, x 1, eq_ix2 x⟩
  have e0 : j 0 = r := Fin.ext h0
  have h1 : (j 1 : ℕ) = 256 * k.val + l.val := h1
  have e1 : grp (j 1) = k := Fin.ext (by show (j 1 : ℕ) / 256 = _; omega)
  have e2 : pos (j 1) = l := Fin.ext (by show (j 1 : ℕ) % 256 = _; omega)
  unfold dzB
  rw [e0, e1, e2]
  exact hv r l

/-- The weight's gradient's buffer after a point, from what it held before. -/
def gwB (o : FVec Ideal S8x1024 .f32) : FVec Ideal S8x1024 .f32 := fun j =>
  o j + ∑ r : Fin 512, gwS (yR y r (grp (j 1))) (zR z r (grp (j 1))) (pR d b r (grp (j 1))) (pos (j 1))

theorem gwB_of (o : FVec Ideal S8x1024 .f32) (u v : FVec Ideal S8x256 .f32)
    (hv : ∀ l a, v (ix2 a l) = u (ix2 a l) + ∑ r : Fin 512, gwS (yR y r k) (zR z r k) (pR d b r k) l)
    (hu : ∀ l a, u (ix2 a l) = o (ix2 a (at1 k l)))
    (x : S8x256.Idx) (j : S8x1024.Idx) (h0 : (j 0 : ℕ) = (x 0 : ℕ)) (h1 : (j 1 : ℕ) = 256 * k.val + (x 1 : ℕ)) : v x = gwB d b y z o j := by
  obtain ⟨a, l, rfl⟩ : ∃ (a : Fin 8) (l : Fin 256), x = ix2 a l := ⟨x 0, x 1, eq_ix2 x⟩
  have h1 : (j 1 : ℕ) = 256 * k.val + l.val := h1
  have e1 : grp (j 1) = k := Fin.ext (by show (j 1 : ℕ) / 256 = _; omega)
  have e2 : pos (j 1) = l := Fin.ext (by show (j 1 : ℕ) % 256 = _; omega)
  obtain rfl : j = ix2 a (at1 k l) := (eq_ix2 j).trans (congrArg₂ ix2 (Fin.ext h0) (Fin.ext h1))
  unfold gwB
  rw [e1, e2, ← hu]
  exact hv l a

omit k in
/-- Slice `k` of the weight's gradient's buffer. -/
theorem ld_gw (o : Vec Ideal S8x1024 .f32) (k : Fin 4) (inb) (l : Fin 256) (a : Fin 8) :
    View.ld o (Rect.unit ![0, 256 * k.val] ![8, 256] inb) (ix2 a l) = o (ix2 a (at1 k l)) :=
  View.ld_unit_apply_of _ _ _ _ _ _ fun β => by fin_cases β <;> simp [at1]

/-- Where a slice's entry lies in the buffer. -/
theorem emb0 (k : Fin 4) (inb) (x : S8x256.Idx) : (((Rect.unit (s := S8x1024) ![0, 256 * k.val] ![8, 256] inb).emb x 0 : Fin _) : ℕ) = (x 0 : ℕ) :=
  (Rect.idx_unit_val (s := S8x1024) ![0, 256 * k.val] ![8, 256] inb x 0).trans (Nat.zero_add _)
theorem emb1 (k : Fin 4) (inb) (x : S8x256.Idx) :
    (((Rect.unit (s := S8x1024) ![0, 256 * k.val] ![8, 256] inb).emb x 1 : Fin _) : ℕ) = 256 * k.val + (x 1 : ℕ) :=
  Rect.idx_unit_val (s := S8x1024) ![0, 256 * k.val] ![8, 256] inb x 1

omit k in
theorem cover_gw (k : Fin 4) (j : S8x1024.Idx) (inb) (h : (j 1).val / 256 = k.val) :
    j ∈ (Rect.unit (s := S8x1024) ![0, 256 * k.val] ![8, 256] inb).set := by
  rw [Rect.mem_set_unit]
  intro β
  have h0 : (j 0).val < 8 := (j 0).isLt
  have h1 : (j 1).val < 1024 := (j 1).isLt
  fin_cases β
  · constructor <;> simp [h0]
  · constructor
    · show 256 * k.val ≤ (j 1).val; omega
    · show (j 1).val < 256 * k.val + 256; omega

/-- Four stores, one for each slice of columns, over an earlier store leave the buffer. -/
theorem canon_gw (G : Vec Ideal S8x1024 .f32) (w0 w1 w2 w3 : Vec Ideal S8x256 .f32) (q : View.Piece (Elt Ideal) S8x1024 .f32)
    (h0 : ∀ x, w0 x = G ((Rect.unit (s := S8x1024) ![0, 0] S8x256.size inb_S8x1024_S8x256_0_0).emb x)) (h1 : ∀ x, w1 x = G ((Rect.unit (s := S8x1024) ![0, 256] S8x256.size inb_S8x1024_S8x256_0_256).emb x)) (h2 : ∀ x, w2 x = G ((Rect.unit (s := S8x1024) ![0, 512] S8x256.size inb_S8x1024_S8x256_0_512).emb x)) (h3 : ∀ x, w3 x = G ((Rect.unit (s := S8x1024) ![0, 768] S8x256.size inb_S8x1024_S8x256_0_768).emb x)) (j : S8x1024.Idx) :
    View.canon ([⟨Rect.unit (s := S8x1024) ![0, 768] S8x256.size inb_S8x1024_S8x256_0_768, w3⟩, ⟨Rect.unit (s := S8x1024) ![0, 512] S8x256.size inb_S8x1024_S8x256_0_512, w2⟩, ⟨Rect.unit (s := S8x1024) ![0, 256] S8x256.size inb_S8x1024_S8x256_0_256, w1⟩, ⟨Rect.unit (s := S8x1024) ![0, 0] S8x256.size inb_S8x1024_S8x256_0_0, w0⟩] ++ [q]) j = G j := by
  refine View.canon_append_of_piecesOf (Val := Elt Ideal) (e := .f32) G [q] [⟨Rect.unit (s := S8x1024) ![0, 768] S8x256.size inb_S8x1024_S8x256_0_768, w3⟩, ⟨Rect.unit (s := S8x1024) ![0, 512] S8x256.size inb_S8x1024_S8x256_0_512, w2⟩, ⟨Rect.unit (s := S8x1024) ![0, 256] S8x256.size inb_S8x1024_S8x256_0_256, w1⟩, ⟨Rect.unit (s := S8x1024) ![0, 0] S8x256.size inb_S8x1024_S8x256_0_0, w0⟩] ⟨h3, h2, h1, h0, trivial⟩ j ?_
  have hj : (j 1).val < 1024 := (j 1).isLt
  have hk : (j 1).val / 256 = 0 ∨ (j 1).val / 256 = 1 ∨ (j 1).val / 256 = 2 ∨ (j 1).val / 256 = 3 := by omega
  rcases hk with hk | hk | hk | hk
  · exact ⟨⟨Rect.unit (s := S8x1024) ![0, 0] S8x256.size inb_S8x1024_S8x256_0_0, w0⟩, .tail _ (.tail _ (.tail _ (.head _))), cover_gw 0 j inb_S8x1024_S8x256_0_0 hk⟩
  · exact ⟨⟨Rect.unit (s := S8x1024) ![0, 256] S8x256.size inb_S8x1024_S8x256_0_256, w1⟩, .tail _ (.tail _ (.head _)), cover_gw 1 j inb_S8x1024_S8x256_0_256 hk⟩
  · exact ⟨⟨Rect.unit (s := S8x1024) ![0, 512] S8x256.size inb_S8x1024_S8x256_0_512, w2⟩, .tail _ (.head _), cover_gw 2 j inb_S8x1024_S8x256_0_512 hk⟩
  · exact ⟨⟨Rect.unit (s := S8x1024) ![0, 768] S8x256.size inb_S8x1024_S8x256_0_768, w3⟩, .head _, cover_gw 3 j inb_S8x1024_S8x256_0_768 hk⟩

end Pieces

variable (m : (ℓ : Loc nD τ sig) → Buf (Elt Ideal) ℓ) (c : Dev nD)

/-- The block of `y`'s gradient that point `t` leaves. -/
theorem outs5 (t : Fin cfg0.N) : (outsAt0 m c t.val t.isLt).1
    = dyB (iblk m c 0 t) (iblk m c 1 t) (iblk m c 2 t) (X0_3 m c t) (iblk m c 4 t) := by
  by_cases h : t.val % 4 = 0
  · rw [outsAt0_A m c t h]
    dsimp only
    unfold out0_A_5
    rw [View.read_writes_eq_canon _ _ _ (cover0_A_5 _ _ _ _ _ _ _ _ _ _ _ _ _ _ _ _ _ _ _ _ _ _ _ _)]
    unfold kernelRun0_A
    dsimp only
    sl_unfold_words
    simp only [View.readAt_eq_ld, Memref.IsWhole.read_unread, View.ld_unit_zero (S := S512x1024) hz2, View.ld_unit_zero (S := S1024x1024) hz2,
      View.ld_unit_zero (S := S1x1024) hz2, View.ld_unit_zero (S := S1x512x1024) hz3]
    generalize iblk m c 0 t = x0
    generalize iblk m c 1 t = x1
    generalize iblk m c 2 t = x2
    generalize X0_3 m c t = x3
    generalize iblk m c 4 t = x4
    funext j
    canon_tiles x h
    · exact dyB_of x0 x1 x2 x3 x4 3 _ (dy3 x0 x1 x2 x3 x4) x j h0 h1
    · exact dyB_of x0 x1 x2 x3 x4 2 _ (dy2 x0 x1 x2 x3 x4) x j h0 h1
    · exact dyB_of x0 x1 x2 x3 x4 1 _ (dy1 x0 x1 x2 x3 x4) x j h0 h1
    · exact dyB_of x0 x1 x2 x3 x4 0 _ (dy0 x0 x1 x2 x3 x4) x j h0 (h1.trans (Nat.zero_add _).symm)
  · rw [outsAt0_B m c t h]
    dsimp only
    unfold out0_B_5
    rw [View.read_writes_eq_canon _ _ _ (cover0_B_5 _ _ _ _ _ _ _ _ _ _ _ _ _ _ _ _ _ _ _ _ _ _ _ _ _)]
    unfold kernelRun0_B
    dsimp only
    sl_unfold_words
    simp only [View.readAt_eq_ld, Memref.IsWhole.read_unread, View.ld_unit_zero (S := S512x1024) hz2, View.ld_unit_zero (S := S1024x1024) hz2,
      View.ld_unit_zero (S := S1x1024) hz2, View.ld_unit_zero (S := S1x512x1024) hz3]
    generalize iblk m c 0 t = x0
    generalize iblk m c 1 t = x1
    generalize iblk m c 2 t = x2
    generalize X0_3 m c t = x3
    generalize iblk m c 4 t = x4
    funext j
    canon_tiles x h
    · exact dyB_of x0 x1 x2 x3 x4 3 _ (dy3 x0 x1 x2 x3 x4) x j h0 h1
    · exact dyB_of x0 x1 x2 x3 x4 2 _ (dy2 x0 x1 x2 x3 x4) x j h0 h1
    · exact dyB_of x0 x1 x2 x3 x4 1 _ (dy1 x0 x1 x2 x3 x4) x j h0 h1
    · exact dyB_of x0 x1 x2 x3 x4 0 _ (dy0 x0 x1 x2 x3 x4) x j h0 (h1.trans (Nat.zero_add _).symm)

/-- The block of the gate's gradient that point `t` leaves. -/
theorem outs6 (t : Fin cfg0.N) : (outsAt0 m c t.val t.isLt).2.1
    = dzB (iblk m c 0 t) (iblk m c 1 t) (iblk m c 2 t) (X0_3 m c t) (iblk m c 4 t) := by
  by_cases h : t.val % 4 = 0
  · rw [outsAt0_A m c t h]
    dsimp only
    unfold out0_A_6
    rw [View.read_writes_eq_canon _ _ _ (cover0_A_6 _ _ _ _ _ _ _ _ _ _ _ _ _ _ _ _ _ _ _ _ _ _ _ _)]
    unfold kernelRun0_A
    dsimp only
    sl_unfold_words
    simp only [View.readAt_eq_ld, Memref.IsWhole.read_unread, View.ld_unit_zero (S := S512x1024) hz2, View.ld_unit_zero (S := S1024x1024) hz2,
      View.ld_unit_zero (S := S1x1024) hz2, View.ld_unit_zero (S := S1x512x1024) hz3]
    generalize iblk m c 0 t = x0
    generalize iblk m c 1 t = x1
    generalize iblk m c 2 t = x2
    generalize X0_3 m c t = x3
    generalize iblk m c 4 t = x4
    funext j
    canon_tiles x h
    · exact dzB_of x0 x1 x2 x3 x4 3 _ (dz3 x0 x1 x2 x3 x4) x j h0 h1
    · exact dzB_of x0 x1 x2 x3 x4 2 _ (dz2 x0 x1 x2 x3 x4) x j h0 h1
    · exact dzB_of x0 x1 x2 x3 x4 1 _ (dz1 x0 x1 x2 x3 x4) x j h0 h1
    · exact dzB_of x0 x1 x2 x3 x4 0 _ (dz0 x0 x1 x2 x3 x4) x j h0 (h1.trans (Nat.zero_add _).symm)
  · rw [outsAt0_B m c t h]
    dsimp only
    unfold out0_B_6
    rw [View.read_writes_eq_canon _ _ _ (cover0_B_6 _ _ _ _ _ _ _ _ _ _ _ _ _ _ _ _ _ _ _ _ _ _ _ _ _)]
    unfold kernelRun0_B
    dsimp only
    sl_unfold_words
    simp only [View.readAt_eq_ld, Memref.IsWhole.read_unread, View.ld_unit_zero (S := S512x1024) hz2, View.ld_unit_zero (S := S1024x1024) hz2,
      View.ld_unit_zero (S := S1x1024) hz2, View.ld_unit_zero (S := S1x512x1024) hz3]
    generalize iblk m c 0 t = x0
    generalize iblk m c 1 t = x1
    generalize iblk m c 2 t = x2
    generalize X0_3 m c t = x3
    generalize iblk m c 4 t = x4
    funext j
    canon_tiles x h
    · exact dzB_of x0 x1 x2 x3 x4 3 _ (dz3 x0 x1 x2 x3 x4) x j h0 h1
    · exact dzB_of x0 x1 x2 x3 x4 2 _ (dz2 x0 x1 x2 x3 x4) x j h0 h1
    · exact dzB_of x0 x1 x2 x3 x4 1 _ (dz1 x0 x1 x2 x3 x4) x j h0 h1
    · exact dzB_of x0 x1 x2 x3 x4 0 _ (dz0 x0 x1 x2 x3 x4) x j h0 (h1.trans (Nat.zero_add _).symm)

/-- The weight's gradient: a later point of a run adds to what the point before left. -/
theorem step_B (t : Fin cfg0.N) (h : ¬t.val % 4 = 0) : (outsAt0 m c t.val t.isLt).2.2
    = gwB (iblk m c 0 t) (iblk m c 1 t) (iblk m c 2 t) (X0_3 m c t) (outsAt0 m c (t.val - 1) (Nat.lt_of_le_of_lt (Nat.sub_le _ _) t.isLt)).2.2 := by
  rw [outsAt0_B m c t h]
  dsimp only
  unfold out0_B_7
  rw [View.read_writes_eq_canon _ _ _ (cover0_B_7 _ _ _ _ _ _ _ _ _ _ _ _ _ _ _ _ _ _ _ _ _ _ _ _ _)]
  unfold kernelRun0_B
  dsimp only
  sl_unfold_words
  simp only [View.readAt_eq_ld, Memref.IsWhole.read_unread, View.ld_unit_zero (S := S512x1024) hz2, View.ld_unit_zero (S := S1024x1024) hz2,
    View.ld_unit_zero (S := S1x1024) hz2, View.ld_unit_zero (S := S1x512x1024) hz3]
  generalize iblk m c 0 t = x0
  generalize iblk m c 1 t = x1
  generalize iblk m c 2 t = x2
  generalize X0_3 m c t = x3
  generalize (outsAt0 m c (t.val - 1) (Nat.lt_of_le_of_lt (Nat.sub_le _ _) t.isLt)).2.2 = o
  funext j
  canon_tiles x h
  · exact gwB_of x0 x1 x2 x3 3 o _ _ (fun l a => gw3 x0 x1 x2 x3 l _ a) (ld_gw o 3 _) x j h0 h1
  · exact gwB_of x0 x1 x2 x3 2 o _ _ (fun l a => gw2 x0 x1 x2 x3 l _ a) (ld_gw o 2 _) x j h0 h1
  · exact gwB_of x0 x1 x2 x3 1 o _ _ (fun l a => gw1 x0 x1 x2 x3 l _ a) (ld_gw o 1 _) x j h0 h1
  · exact gwB_of x0 x1 x2 x3 0 o _ _ (fun l a => gw0 x0 x1 x2 x3 l _ a) (ld_gw o 0 _) x j h0 (h1.trans (Nat.zero_add _).symm)

/-- The first point of a run starts from zero. -/
theorem step_A (t : Fin cfg0.N) (h : t.val % 4 = 0) : (outsAt0 m c t.val t.isLt).2.2
    = gwB (iblk m c 0 t) (iblk m c 1 t) (iblk m c 2 t) (X0_3 m c t) (k0_pay2 (F := Ideal)) := by
  rw [outsAt0_A m c t h]
  dsimp only
  unfold out0_A_7
  rw [View.read_writes_eq_canon _ _ _ (cover0_A_7 _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S512x1024) hz2, View.ld_unit_zero (S := S1024x1024) hz2,
    View.ld_unit_zero (S := S1x1024) hz2, View.ld_unit_zero (S := S1x512x1024) hz3]
  simp (disch := decide) only [↓ View.readCov_skip, ↓ View.readCov_cons_toLoadRect, ↓ View.readCov_fill]
  generalize iblk m c 0 t = x0
  generalize iblk m c 1 t = x1
  generalize iblk m c 2 t = x2
  generalize X0_3 m c t = x3
  funext j
  have q0 : ∀ x, k0_pay13 (k0_pay11 x3 x2) (k0_pay12 x0 x1) (View.ld (k0_pay2 (F := Ideal)) (Rect.unit (s := S8x1024) ![0, 0] ![8, 256] inb_S8x1024_S8x256_0_0)) x
      = gwB x0 x1 x2 x3 (k0_pay2 (F := Ideal)) ((Rect.unit (s := S8x1024) ![0, 0] ![8, 256] inb_S8x1024_S8x256_0_0).emb x) := fun x =>
    gwB_of x0 x1 x2 x3 0 (k0_pay2 (F := Ideal)) _ _ (fun l a => gw0 x0 x1 x2 x3 l _ a) (ld_gw (k0_pay2 (F := Ideal)) 0 _) x _
      (emb0 0 _ x) (emb1 0 _ x)
  have q1 : ∀ x, k0_pay23 (k0_pay7 x0 x1) (k0_pay17 (k0_pay6 x3 x2)) (k0_pay18 (k0_pay6 x3 x2)) k0_pay19 (View.ld (k0_pay2 (F := Ideal)) (Rect.unit (s := S8x1024) ![0, 256] ![8, 256] inb_S8x1024_S8x256_0_256)) x
      = gwB x0 x1 x2 x3 (k0_pay2 (F := Ideal)) ((Rect.unit (s := S8x1024) ![0, 256] ![8, 256] inb_S8x1024_S8x256_0_256).emb x) := fun x =>
    gwB_of x0 x1 x2 x3 1 (k0_pay2 (F := Ideal)) _ _ (fun l a => gw1 x0 x1 x2 x3 l _ a) (ld_gw (k0_pay2 (F := Ideal)) 1 _) x _
      (emb0 1 _ x) (emb1 1 _ x)
  have q2 : ∀ x, k0_pay31 (k0_pay6 x3 x2) (k0_pay7 x0 x1) (View.ld (k0_pay2 (F := Ideal)) (Rect.unit (s := S8x1024) ![0, 512] ![8, 256] inb_S8x1024_S8x256_0_512)) x
      = gwB x0 x1 x2 x3 (k0_pay2 (F := Ideal)) ((Rect.unit (s := S8x1024) ![0, 512] ![8, 256] inb_S8x1024_S8x256_0_512).emb x) := fun x =>
    gwB_of x0 x1 x2 x3 2 (k0_pay2 (F := Ideal)) _ _ (fun l a => gw2 x0 x1 x2 x3 l _ a) (ld_gw (k0_pay2 (F := Ideal)) 2 _) x _
      (emb0 2 _ x) (emb1 2 _ x)
  have q3 : ∀ x, k0_pay43 (k0_pay6 x3 x2) (k0_pay7 x0 x1) (View.ld (k0_pay2 (F := Ideal)) (Rect.unit (s := S8x1024) ![0, 768] ![8, 256] inb_S8x1024_S8x256_0_768)) x
      = gwB x0 x1 x2 x3 (k0_pay2 (F := Ideal)) ((Rect.unit (s := S8x1024) ![0, 768] ![8, 256] inb_S8x1024_S8x256_0_768).emb x) := fun x =>
    gwB_of x0 x1 x2 x3 3 (k0_pay2 (F := Ideal)) _ _ (fun l a => gw3 x0 x1 x2 x3 l _ a) (ld_gw (k0_pay2 (F := Ideal)) 3 _) x _
      (emb0 3 _ x) (emb1 3 _ x)
  exact canon_gw (gwB x0 x1 x2 x3 (k0_pay2 (F := Ideal))) _ _ _ _ _ q0 q1 q2 q3 j

end Cert.Proof.Gnorm

end
-- ==== Proof.Gnorm.Ref.lean ====
/- What the reference computes for the grouped norm and its gate, index by index. -/
module

public import proofs.«01_k».proof.Proof.Gnorm.Spec
public import proofs.«01_k».proof.Proof.Gen.Reference4Ideal.Read
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gnorm

open Cert.Kernel4Ideal Cert.Kernel4Ideal.Gen Cert.Kernel4Ideal.Value Idealize.ShloMosaic Idealize.ShloMosaic.TcCoe
  Idealize.SL.Sem Cert.Proof.Common

section Forms

variable (d : FVec Ideal S2x2048x1024 .bf16) (b : FVec Ideal S2048x1024 .f32) (y : FVec Ideal S2048x2048 .f32) (p : FVec Ideal S2048x11296 .f32)
  (w : FVec Ideal S2048 .f32)

/-- Group `g` of a row of the arrays. -/
def at8 (g : Fin 8) (l : Fin 256) : Fin 2048 := ⟨g.val * 256 + l.val, by omega⟩
def Yg (i : Fin 2048) (g : Fin 8) (l : Fin 256) : EReal := y (ix2 i (at8 g l))
def Zg (i : Fin 2048) (g : Fin 8) (l : Fin 256) : EReal := p (ix2 i ⟨3072 + (at8 g l).val, by omega⟩)
def Pg (i : Fin 2048) (g : Fin 8) (l : Fin 256) : EReal := ∑ j : Fin 1024, d (ix3 1 i j) * b (ix2 (at8 g l) j)
def Wg (g : Fin 8) (l : Fin 256) : EReal := w (ix1 (at8 g l))

open Cert.Reference4Ideal.Read

variable (i : Fin 2048) (g : Fin 8) (l : Fin 256)

theorem r12 : val_main_v1_2 (F := Ideal) p (ix2 i (at8 g l)) = sg (Zg p i g l) := by
  unfold sg Zg
  pointwise [val_main_v1_2, val_main_call0_v4, val_main_call0_v3, val_main_call0_v2, val_main_call0_v1, val_main_call0_v0,
    val_main_call0_cst, val_main_call0_cst_0, val_main_v0]
  rw [zero_sub]

theorem r10 : val_main_v1_0 (F := Ideal) p (ix2 i (at8 g l)) = Zg p i g l * sg (Zg p i g l) := by
  have h := r12 p i g l
  unfold Zg at *
  pointwise [val_main_v1_0, val_main_v0, h]

theorem r11 : val_main_v1_1 (F := Ideal) p (ix2 i (at8 g l)) = sg (Zg p i g l) * (1 - sg (Zg p i g l)) := by
  have h := r12 p i g l
  pointwise [val_main_v1_1, val_main_call0_v7, val_main_call0_v6, val_main_call0_cst_1, h]

theorem r3 : val_main_v3 (F := Ideal) y p (ix3 i g l) = gated (Yg y i g) (Zg p i g) l := by
  have h := r10 p i g l
  unfold gated Yg
  unfold at8 at *
  pointwise [val_main_v3, val_main_v2, h]

theorem r10' : val_main_v10 (F := Ideal) y p (ix3 i g 0)
    = Ideal.div (∑ l, gated (Yg y i g) (Zg p i g) l * gated (Yg y i g) (Zg p i g) l) N + Ideal.ofBits .f32 0x358637BD#32 := by
  have h := r3 y p i g
  pointwise [val_main_v10, val_main_v9, val_main_v8, val_main_v7, val_main_v6, val_main_v5, val_main_v4, val_main_cst, val_main_cst_0,
    val_main_cst_1, h]

theorem r11' : val_main_v11 (F := Ideal) y p (ix3 i g 0) = rs N (gated (Yg y i g) (Zg p i g)) := by
  unfold rs
  rw [← r10']
  pointwise [val_main_v11]

theorem r25 : val_main_v25 (F := Ideal) d b (ix2 i (at8 g l)) = Pg d b i g l := by
  unfold Pg
  pointwise [val_main_v25, val_main_v24, val_main_v23, val_main_v22]

theorem r32 : val_main_v32 (F := Ideal) d b w (ix3 i g l) = cot (Pg d b i g) (Wg w g) l := by
  have h := r25 d b i g l
  unfold cot Wg
  unfold at8 at *
  pointwise [val_main_v32, val_main_v30, val_main_v29, val_main_v18, h]

theorem r17 : val_main_v17 (F := Ideal) y p (ix2 i (at8 g l)) = gated (Yg y i g) (Zg p i g) l * rs N (gated (Yg y i g) (Zg p i g)) := by
  have h := r3 y p i g
  have h' := r11' y p i g
  unfold at8
  pointwise [val_main_v17, val_main_v16, val_main_v15, h, h']

/-- The rows of the weight's gradient. -/
theorem r56 (a : Fin 8) : val_main_v56 (F := Ideal) d b y p (ix2 a (at8 g l)) = ∑ i : Fin 2048, gwS (Yg y i g) (Zg p i g) (Pg d b i g) l := by
  have h := fun i => r17 y p i g l
  have h' := fun i => r25 d b i g l
  unfold gwS
  unfold at8 at *
  pointwise [val_main_v56, val_main_v55, val_main_v31, val_main_v28, val_main_v27, val_main_v26, val_main_cst_3, val_main_cst_4, h, h']
  rw [Fin.sum_univ_one]
  exact Finset.sum_congr rfl fun _ _ => mul_comm _ _

theorem r46 : val_main_v46 (F := Ideal) d b y p w (ix3 i g l)
    = cot (Pg d b i g) (Wg w g) l * rs N (gated (Yg y i g) (Zg p i g))
      + gated (Yg y i g) (Zg p i g) l * meanTerm N (gated (Yg y i g) (Zg p i g)) (cot (Pg d b i g) (Wg w g))
      + meanTerm N (gated (Yg y i g) (Zg p i g)) (cot (Pg d b i g) (Wg w g)) * gated (Yg y i g) (Zg p i g) l := by
  have h := r3 y p i g
  have h9 := r10' y p i g
  have h' := r11' y p i g
  have h'' := r32 d b w i g
  unfold meanTerm
  pointwise [val_main_v46, val_main_v45, val_main_v44, val_main_v43, val_main_v42, val_main_v41, val_main_v40, val_main_v39, val_main_v38,
    val_main_v37, val_main_v36, val_main_v35, val_main_v34, val_main_v33, val_main_v14, val_main_v13, val_main_v12, val_main_cst_2,
    val_main_cst_5, val_main_cst_6, val_main_cst_7, h, h', h'', h9]
  simp only [Fin.sum_univ_one, h', h9]

/-- The derivative of the grouped norm at an entry. -/
def grad : EReal := cot (Pg d b i g) (Wg w g) l * rs N (gated (Yg y i g) (Zg p i g))
      + gated (Yg y i g) (Zg p i g) l * meanTerm N (gated (Yg y i g) (Zg p i g)) (cot (Pg d b i g) (Wg w g))
      + meanTerm N (gated (Yg y i g) (Zg p i g)) (cot (Pg d b i g) (Wg w g)) * gated (Yg y i g) (Zg p i g) l

theorem r47 : val_main_v47 (F := Ideal) d b y p w (ix2 i (at8 g l)) = grad d b y p w i g l := by
  have h := r46 d b y p w i g l
  unfold at8 grad
  pointwise [val_main_v47, h]

/-- The gradient of `y`. -/
theorem r49 : val_main_v49 (F := Ideal) d b y p w (ix2 i (at8 g l)) = grad d b y p w i g l * (Zg p i g l * sg (Zg p i g l)) := by
  have h := r47 d b y p w i g l
  have h' := r10 p i g l
  pointwise [val_main_v49, h, h']

theorem r50 : val_main_v50 (F := Ideal) d b y p w (ix2 i (at8 g l))
    = Yg y i g l * grad d b y p w i g l * sg (Zg p i g l)
      + Zg p i g l * (Yg y i g l * grad d b y p w i g l) * (sg (Zg p i g l) * (1 - sg (Zg p i g l))) := by
  have h := r47 d b y p w i g l
  have h' := r12 p i g l
  have h'' := r11 p i g l
  have e : val_main_v0 (F := Ideal) p (ix2 i (at8 g l)) = Zg p i g l := by unfold Zg; pointwise [val_main_v0]
  have e' : y (ix2 i (at8 g l)) = Yg y i g l := rfl
  pointwise [val_main_v50, val_main_v48, val_main_call1_v0, val_main_call1_v1, val_main_call1_v2, h, h', h'', e, e']

variable (q : FVec Ideal S2048x11520 .bf16)

/-- The shared gradient array: the gate's columns hold its gradient, the others what the argument held. -/
theorem r54_in (n : Fin 11520) (hn : n.val = 3072 + (at8 g l).val) : val_main_v54 (F := Ideal) d b y p w q (ix2 i n)
    = val_main_v50 (F := Ideal) d b y p w (ix2 i (at8 g l)) := by
  have hl : (at8 g l).val < 2048 := (at8 g l).isLt
  pointwise [val_main_v54, val_main_v52]
  refine (dif_neg (show ¬ n.val < 3072 by omega)).trans ((dif_pos (show n.val - 3072 < 2048 by omega)).trans ?_)
  exact congrArg (fun k => val_main_v50 (F := Ideal) d b y p w (ix2 i k)) (Fin.ext (by show n.val - 3072 = (at8 g l).val; omega))

theorem r54_out (n : Fin 11520) (hn : ¬(3072 ≤ n.val ∧ n.val < 5120)) : val_main_v54 (F := Ideal) d b y p w q (ix2 i n) = q (ix2 i n) := by
  pointwise [val_main_v54, val_main_v53, val_main_v51]
  by_cases h' : n.val < 3072
  · exact dif_pos h'
  · refine (dif_neg h').trans ((dif_neg (show ¬ n.val - 3072 < 2048 by omega)).trans ?_)
    exact congrArg (fun k => q (ix2 i k)) (Fin.ext (by show 5120 + (n.val - 3072 - 2048) = n.val; omega))

end Forms

end Cert.Proof.Gnorm

end
-- ==== Proof.Gnorm.Value.lean ====
/- The three arrays the grouped norm's gradient leaves, block by block, against the reference's. -/
module

public import proofs.«01_k».proof.Proof.Gnorm.Body
public import proofs.«01_k».proof.Proof.Gnorm.Ref
public import proofs.«01_k».proof.Proof.Gen.Pre_finite_gnorm
public import Idealize.ShloMosaic.Lib.Claim
public import Idealize.ShloMosaic.Lib.StableHlo.RunRead
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gnorm

open Cert.Kernel4Ideal Cert.Kernel4Ideal.Gen Cert.Kernel4Ideal.Value Idealize.ShloMosaic Idealize.ShloMosaic.TcCoe
  Idealize.SL.Sem Cert.Proof.Common

/-- Which block of its array each window takes at point `t`: rows `t % 4`, columns `t / 4`. -/
theorem idx : ∀ t : Fin grid0.N, win0_0.index t = ![1, t.val % 4, 0] ∧ win0_1.index t = ![t.val / 4, 0] ∧ win0_2.index t = ![t.val % 4, t.val / 4]
    ∧ win0_3.index t = ![t.val % 4, 3 + t.val / 4] ∧ win0_4.index t = ![0, t.val / 4] ∧ win0_5.index t = ![t.val % 4, t.val / 4]
    ∧ win0_6.index t = ![t.val % 4, 3 + t.val / 4] ∧ win0_7.index t = ![0, t.val / 4] := by decide +kernel

variable (m : (ℓ : Loc nD τ sig) → Buf (Elt Ideal) ℓ) (c : Dev nD)

/-- The arguments at device `c`. -/
abbrev Ad : FVec Ideal S2x2048x1024 .bf16 := m ((c : Thread nD τ).loc main_arg0)
abbrev Ab : FVec Ideal S2048x1024 .f32 := m ((c : Thread nD τ).loc main_arg1)
abbrev Ay : FVec Ideal S2048x2048 .f32 := m ((c : Thread nD τ).loc main_arg2)
abbrev Ap : FVec Ideal S2048x11296 .f32 := m ((c : Thread nD τ).loc main_arg3)
abbrev Aw : FVec Ideal S2048 .f32 := m ((c : Thread nD τ).loc main_arg4)
abbrev Aq : FVec Ideal S2048x11520 .bf16 := m ((c : Thread nD τ).loc main_arg5)

/-- Row `r` and group `k` of point `t`'s block. -/
def row (t : Fin grid0.N) (r : Fin 512) : Fin 2048 := ⟨512 * (t.val % 4) + r.val, by omega⟩
def gr (t : Fin grid0.N) (k : Fin 4) : Fin 8 := ⟨4 * (t.val / 4) + k.val, by have := (show t.val < 8 from t.isLt); omega⟩

/-- The packed projection's columns before the gate are `proj`'s. -/
theorem packed (i : Fin 2048) (j : Fin 11520) (h' : j.val < 9216) :
    V m c main_v6 (ix2 i j) = Ap m c (ix2 i ⟨j.val, by omega⟩) := by
  unfold V
  after_reads_simp
  pointwise
  after_reads_simp
  pointwise
  refine (dif_pos h').trans ?_
  after_reads_simp

variable (t : Fin grid0.N) (r : Fin 512) (k : Fin 4)

theorem blkY : yR (iblk m c 2 t) r k = Yg (Ay m c) (row t r) (gr t k) := by
  funext l
  unfold yR Yg at1 at8 row gr
  blk_ext [iblk, V, idx t]

theorem blkW : wR (iblk m c 4 t) k = Wg (Aw m c) (gr t k) := by
  funext l
  unfold wR Wg at1 at8 gr
  blk_ext! [iblk, V, idx t]

theorem blkP : pR (iblk m c 0 t) (iblk m c 1 t) r k = Pg (Ad m c) (Ab m c) (row t r) (gr t k) := by
  funext l
  unfold pR Pg
  refine Finset.sum_congr rfl fun j _ => ?_
  congr 1
  · unfold row
    blk_ext [iblk, V, idx t]
  · unfold at1 at8 gr
    blk_ext! [iblk, V, idx t]

theorem blkZ : zR (X0_3 m c t) r k = Zg (Ap m c) (row t r) (gr t k) := by
  funext l
  have ht : t.val < 8 := t.isLt
  unfold zR Zg
  refine Eq.trans ?_ (packed m c (row t r) ⟨3072 + (at8 (gr t k) l).val, by omega⟩ (by show 3072 + _ < 9216; omega))
  unfold X0_3 Pipeline.Window.fill
  rw [dif_pos (moved0_3 t _)]
  show V m c main_v6 _ = _
  congr 1
  unfold at1 at8 gr row
  blk_ext [idx t]

/-- What a point adds to the weight's gradient at a group's entry. -/
def term (n : ℕ) (k : Fin 4) (l : Fin 256) : EReal :=
  if h : n < grid0.N then ∑ r : Fin 512, gwS (Yg (Ay m c) (row ⟨n, h⟩ r) (gr ⟨n, h⟩ k)) (Zg (Ap m c) (row ⟨n, h⟩ r) (gr ⟨n, h⟩ k))
    (Pg (Ad m c) (Ab m c) (row ⟨n, h⟩ r) (gr ⟨n, h⟩ k)) l
  else 0

theorem gwB_term (o : FVec Ideal S8x1024 .f32) (j : S8x1024.Idx) :
    gwB (iblk m c 0 t) (iblk m c 1 t) (iblk m c 2 t) (X0_3 m c t) o j = o j + term m c t.val (grp (j 1)) (pos (j 1)) := by
  unfold gwB term
  rw [dif_pos t.isLt]
  simp only [blkY, blkZ, blkP]

theorem outs7 (ht : t.val % 4 = 3) (j : S8x1024.Idx) :
    (outsAt0 m c t.val t.isLt).2.2 j = ∑ s : Fin 4, term m c (4 * (t.val / 4) + s.val) (grp (j 1)) (pos (j 1)) := by
  have := Pipeline.eq_sum_of_reset_step_apply (fun n h => (outsAt0 m c n h).2.2) 4 (fun _ => (0 : EReal))
    (fun n j => term m c n (grp (j 1)) (pos (j 1)))
    (fun t h j => by
      rw [step_A m c t h]; refine (gwB_term m c t _ j).trans ?_
      obtain ⟨a, l, rfl⟩ : ∃ (a : Fin 8) (l : Fin 1024), j = ix2 a l := ⟨j 0, j 1, eq_ix2 j⟩
      pointwise [k0_pay2])
    (fun t h j => by
      rw [step_B m c t h]; exact gwB_term m c t _ j) t j
  rw [this, ht, Finset.sum_range]
  exact zero_add _

/-- The gradient of the norm's weight. -/
theorem arr7 : (dats m 0 c).arrAt 7 cfg0.N
    = (Cert.Reference4Ideal.Read.val_main_v56 (F := Ideal) (Ad m c) (Ab m c) (Ay m c) (Ap m c)) := by
  refine (dats m 0 c).arrAt_eq_of_covers 7 _ (by decide +kernel) fun t hf y => ?_
  blk_simp
  rw [after0_7]
  obtain ⟨a, n, rfl⟩ : ∃ (a : Fin 8) (n : Fin 1024), y = ix2 a n := ⟨y 0, y 1, eq_ix2 y⟩
  obtain ⟨k, l, rfl⟩ : ∃ (k : Fin 4) (l : Fin 256), n = at1 k l := ⟨grp n, pos n, (at1_grp n).symm⟩
  have ht : t.val < 8 := t.isLt
  have e : (win0_7.blk t).view.emb (ix2 a (at1 k l)) = ix2 a (at8 (gr t k) l) := by unfold at1 at8 gr; blk_ext [idx t]
  have eg : grp (at1 k l) = k := Fin.ext (by show (256 * k.val + l.val) / 256 = k.val; omega)
  have ep : pos (at1 k l) = l := Fin.ext (by show (256 * k.val + l.val) % 256 = l.val; omega)
  rw [e, r56]
  refine (outs7 m c t ((flush0_7 t).mp hf) _).trans (Eq.trans ?_ (Fin.sum_univ_tiles 4 512 (by decide) _).symm)
  refine Finset.sum_congr rfl fun s _ => ?_
  show term m c (4 * (t.val / 4) + s.val) (grp (at1 k l)) (pos (at1 k l)) = _
  rw [eg, ep]
  unfold term
  have hs : 4 * (t.val / 4) + s.val < grid0.N := by show _ < 8; omega
  rw [dif_pos hs]
  refine Finset.sum_congr rfl fun r _ => ?_
  have e1 : row ⟨4 * (t.val / 4) + s.val, hs⟩ r = ⟨s.val * 512 + r.val, by omega⟩ :=
    Fin.ext (by show 512 * ((4 * (t.val / 4) + s.val) % 4) + r.val = s.val * 512 + r.val; omega)
  have e2 : gr ⟨4 * (t.val / 4) + s.val, hs⟩ k = gr t k :=
    Fin.ext (by show 4 * ((4 * (t.val / 4) + s.val) / 4) + k.val = 4 * (t.val / 4) + k.val; omega)
  rw [e1, e2]

section Finite

variable {d : FVec Ideal S2x2048x1024 .bf16} {b : FVec Ideal S2048x1024 .f32} {y : FVec Ideal S2048x2048 .f32} {p : FVec Ideal S2048x11296 .f32}
  {w : FVec Ideal S2048 .f32} {q : FVec Ideal S2048x11520 .bf16} {e : FVec Ideal S8x128 .f32}

theorem sg_real {z : EReal} (hz : IsReal z) : IsReal (sg z) := by
  obtain ⟨z, rfl⟩ := hz
  unfold sg
  have h : (1 : ℝ) + Real.exp (0 - z) ≠ 0 := by positivity
  rw [show (0 : EReal) - (z : EReal) = ((0 - z : ℝ) : EReal) from by rw [EReal.coe_sub]; rfl, Ideal.exp_coe, ← EReal.coe_one, ← EReal.coe_add,
    Ideal.div_coe h, ← EReal.coe_mul]
  exact ⟨_, rfl⟩

/-- Where its inputs are real, what differentiating the gate gives is the formula written by hand. -/
theorem gate_grad {D Y Z : EReal} (hD : IsReal D) (hY : IsReal Y) (hZ : IsReal Z) :
    D * Y * (sg Z * (1 + Z * (1 - sg Z))) = Y * D * sg Z + Z * (Y * D) * (sg Z * (1 - sg Z)) := by
  obtain ⟨s, hs⟩ := sg_real hZ
  obtain ⟨D, rfl⟩ := hD
  obtain ⟨Y, rfl⟩ := hY
  obtain ⟨Z, rfl⟩ := hZ
  rw [hs]
  simp only [← EReal.coe_one, ← EReal.coe_mul, ← EReal.coe_add, ← EReal.coe_sub]
  congr 1
  ring

variable (H : Cert.Pre_finite_gnorm.fn (F := Ideal) d b y p w q e = fun _ => 1#1)
include H

/-- What the precondition says at an index. -/
theorem said (i n : Fin 2048) : IsReal (y (ix2 i n)) ∧ IsReal (p (ix2 i ⟨3072 + n.val, by omega⟩)) ∧ IsReal (w (ix1 n))
    ∧ (∀ j : Fin 1024, n.val = j.val → IsReal (d (ix3 1 i j))) ∧ ∀ j : Fin 1024, n.val = 1024 + j.val → IsReal (b (ix2 i j)) := by
  have H := congrFun H (ix2 i n)
  pointwise [Cert.Pre_finite_gnorm.fn, Cert.Pre_finite_gnorm.fn_part1] at H
  simp only [IntOp.andi_eq_one] at H
  obtain ⟨⟨⟨h1, hy⟩, hp⟩, hw⟩ := H
  refine ⟨.of_abs_lt _ hy, .of_abs_lt _ hp, .of_abs_lt _ hw, fun j hj => ?_, fun j hj => ?_⟩
  · rw [dif_pos (show n.val < 1024 by omega)] at h1
    rw [show j = ⟨n.val, by omega⟩ from Fin.ext hj.symm]; exact .of_abs_lt _ h1
  · rw [dif_neg (show ¬ n.val < 1024 by omega)] at h1
    rw [show j = ⟨n.val - 1024, by omega⟩ from Fin.ext (by show j.val = n.val - 1024; omega)]; exact .of_abs_lt _ h1

/-- Real gates, gated rows and cotangents. -/
theorem reals (i : Fin 2048) (g : Fin 8) : (∀ l, IsReal (Yg y i g l)) ∧ (∀ l, IsReal (Zg p i g l)) ∧ (∀ l, IsReal (gated (Yg y i g) (Zg p i g) l))
    ∧ ∀ l, IsReal (cot (Pg d b i g) (Wg w g) l) := by
  have hy : ∀ l, IsReal (Yg y i g l) := fun l => (said H i (at8 g l)).1
  have hz : ∀ l, IsReal (Zg p i g l) := fun l => (said H i (at8 g l)).2.1
  refine ⟨hy, hz, fun l => (hy l).mul ((hz l).mul (sg_real (hz l))), fun l => IsReal.mul (IsReal.sum fun j => ?_) (said H i (at8 g l)).2.2.1⟩
  exact ((said H i ⟨j.val, by omega⟩).2.2.2.1 j rfl).mul ((said H (at8 g l) ⟨1024 + j.val, by omega⟩).2.2.2.2 j rfl)

end Finite

/-- The arguments a point needs to hold real numbers. -/
abbrev Reals : Prop := ∀ (i : Fin 2048) (g : Fin 8), (∀ l, IsReal (Yg (Ay m c) i g l)) ∧ (∀ l, IsReal (Zg (Ap m c) i g l))
  ∧ (∀ l, IsReal (gated (Yg (Ay m c) i g) (Zg (Ap m c) i g) l)) ∧ ∀ l, IsReal (cot (Pg (Ad m c) (Ab m c) i g) (Wg (Aw m c) g) l)

/-- The gradient of `y`. -/
theorem arr5 (H : Reals m c) : (dats m 0 c).arrAt 5 cfg0.N
    = (Cert.Reference4Ideal.Read.val_main_v49 (F := Ideal) (Ad m c) (Ab m c) (Ay m c) (Ap m c) (Aw m c)) := by
  refine (dats m 0 c).arrAt_eq_of_covers 5 _ (by decide +kernel) fun t hf y => ?_
  blk_simp
  rw [after0_5, outs5]
  obtain ⟨r, n, rfl⟩ : ∃ (r : Fin 512) (n : Fin 1024), y = ix2 r n := ⟨y 0, y 1, eq_ix2 y⟩
  have ht : t.val < 8 := t.isLt
  have e : (win0_5.blk t).view.emb (ix2 r n) = ix2 (row t r) (at8 (gr t (grp n)) (pos n)) := by
    have hn : n.val = 256 * (n.val / 256) + n.val % 256 := by omega
    unfold grp pos at8 gr row
    refine Eq.trans (b := ix2 ⟨512 * (t.val % 4) + r.val, by omega⟩ ⟨1024 * (t.val / 4) + n.val, by omega⟩) (by blk_ext [idx t]) ?_
    exact congrArg₂ ix2 rfl (Fin.ext (by show 1024 * (t.val / 4) + n.val = (4 * (t.val / 4) + n.val / 256) * 256 + n.val % 256; omega))
  rw [e, r49]
  show dyS (yR (iblk m c 2 t) r (grp n)) (zR (X0_3 m c t) r (grp n)) (pR (iblk m c 0 t) (iblk m c 1 t) r (grp n)) (wR (iblk m c 4 t) (grp n)) (pos n) = _
  rw [blkY, blkZ, blkP, blkW]
  obtain ⟨-, -, hx, he⟩ := H (row t r) (gr t (grp n))
  unfold dyS grad
  rw [norm_grad word_256 (by norm_num) hx he]

/-- The shared gradient array: the gate's columns written, the others as the argument held them. -/
theorem arr6 (H : Reals m c) : (dats m 0 c).arrAt 6 cfg0.N
    = (Cert.Reference4Ideal.Read.val_main_v54 (F := Ideal) (Ad m c) (Ab m c) (Ay m c) (Ap m c) (Aw m c) (Aq m c)) := by
  refine (dats m 0 c).arrAt_eq_of_coversWhere_of_agree 6 _ (fun β => 3 ≤ β 1 ∧ β 1 < 5) (by decide +kernel) (fun t hf y => ?_)
    (fun j hj => ?_)
  · blk_simp
    rw [after0_6, outs6]
    obtain ⟨r, n, hrn⟩ : ∃ (r : Fin 512) (n : Fin 1024), (cfg0.win 6).xinj (cfg0.grid.coords t) y = ix2 r n := ⟨_, _, eq_ix2 _⟩
    have hr : (y 0 : ℕ) = r.val := congrArg (fun j : S512x1024.Idx => (j 0 : ℕ)) hrn
    have hn : (y 1 : ℕ) = n.val := congrArg (fun j : S512x1024.Idx => (j 1 : ℕ)) hrn
    have ht : t.val < 8 := t.isLt
    have e : (win0_6.blk t).view.emb y = ix2 (row t r) (⟨3072 + (1024 * (t.val / 4) + n.val), by omega⟩ : Fin 11520) := by
      unfold row; blk_ext [idx t]
    rw [hrn, e, r54_in _ _ _ _ _ (row t r) (gr t (grp n)) (pos n) _ _ (by
      show 3072 + (1024 * (t.val / 4) + n.val) = 3072 + ((4 * (t.val / 4) + n.val / 256) * 256 + n.val % 256); omega), r50]
    show dzS (yR (iblk m c 2 t) r (grp n)) (zR (X0_3 m c t) r (grp n)) (pR (iblk m c 0 t) (iblk m c 1 t) r (grp n)) (wR (iblk m c 4 t) (grp n)) (pos n) = _
    rw [blkY, blkZ, blkP, blkW]
    obtain ⟨hy, hz, hx, he⟩ := H (row t r) (gr t (grp n))
    have hD := byHand_real word_256 (by norm_num) hx he (pos n)
    unfold dzS grad
    rw [← norm_grad word_256 (by norm_num) hx he]
    exact gate_grad hD (hy _) (hz _)
  · blk_simp [Pipeline.Window.cell_apply] at hj
    obtain ⟨i, l, rfl⟩ : ∃ (i : Fin 2048) (l : Fin 11520), j = ix2 i l := ⟨j 0, j 1, eq_ix2 j⟩
    refine Eq.trans ?_ (r54_out _ _ _ _ _ i _ l (by revert hj; show ¬ (3 ≤ l.val / 1024 ∧ l.val / 1024 < 5) → _; omega)).symm
    rw [A_eq]
    show V m c main_v8_1 _ = _
    entry_read
    rfl

end Cert.Proof.Gnorm

end
-- ==== Proof.Gnorm.Pair.lean ====
/- The grouped norm's gradient and its reference side by side: the reference's frame, and the equality of the results. -/
module

public import proofs.«01_k».proof.Defs
public import proofs.«01_k».proof.Proof.Gnorm.Value
public import proofs.«01_k».proof.Proof.Gen.Reference4Ideal.Run

@[expose] public section

set_option maxRecDepth 16384

noncomputable section

namespace Cert.Proof.Gnorm

open Idealize.ShloMosaic Idealize.SL.Sem Cert.Reference4Ideal.Read

/-- The reference leaves its arguments; it has no semaphore. -/
theorem frameR : Cert.quiescent_Reference4Ideal (hReference4Ideal := Cert.Reference4Ideal.Gen.facts) := fun m ρ _ =>
  (θ_run _ _ _).mono (fun r h => ⟨fun c => (h c).2.2.2, sem_eq_zero_of_no_sems (by decide) r.2⟩)
    (Cert.Reference4Ideal.Value.run (F := Ideal) m ρ)

/-- On finite arguments both programs end with the same three arrays. -/
theorem equal : Cert.algebraic_Kernel4Ideal_Reference4Ideal_pre_finite_gnorm (hKernel4Ideal := Cert.Kernel4Ideal.Gen.facts)
    (hReference4Ideal := Cert.Reference4Ideal.Gen.facts) (hPre_finite_gnorm := Cert.Pre_finite_gnorm.Gen.facts) := fun m ρ m' ρ' hpre hag =>
  ⟨fun c => val_main_v49 (F := Ideal) (Ad m c) (Ab m c) (Ay m c) (Ap m c) (Aw m c),
   fun c => val_main_v54 (F := Ideal) (Ad m c) (Ab m c) (Ay m c) (Ap m c) (Aw m c) (Aq m c),
   fun c => val_main_v56 (F := Ideal) (Ad m c) (Ab m c) (Ay m c) (Ap m c),
   (θ_run _ _ _).mono (fun _ h c => by
     have S : Reals m c := reals (hpre c)
     exact ⟨(h c).1.trans (arr5 m c S), (h c).2.1.trans (arr6 m c S), (h c).2.2.1.trans (arr7 m c), (h c).2.2.2⟩)
     (Cert.Kernel4Ideal.Value.run_blocks (F := Ideal) m ρ),
   (θ_run _ _ _).mono (fun _ h c => by
     obtain ⟨e0, e1, e2, e3, e4, e5, e6⟩ := hag c
     refine ⟨(h c).1.trans ?_, (h c).2.1.trans ?_, (h c).2.2.1.trans ?_, (h c).2.2.2⟩
     · rw [val_main_v49_eq, e0, e1, e2, e3, e4]
     · rw [val_main_v54_eq, e0, e1, e2, e3, e4, e5]
     · exact (val_main_v56_eq _ _ _ _).trans (by congr 1))
     (Cert.Reference4Ideal.Value.run (F := Ideal) m' ρ')⟩

end Cert.Proof.Gnorm

end
-- ==== Proof.Final.Value.lean ====
/- The last layer's product, norm, loss and their gradients: the three arrays the call leaves, block by block, against the reference's. -/
module

public import proofs.«01_k».proof.Proof.Common.Norm
public import proofs.«01_k».proof.Proof.Gen.Kernel5Ideal.Value
public import proofs.«01_k».proof.Proof.Gen.Reference5Ideal.Read
public import proofs.«01_k».proof.Proof.Gen.Pre_finite_final
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Final

open Cert.Kernel5Ideal Cert.Kernel5Ideal.Gen Cert.Kernel5Ideal.Value Idealize.ShloMosaic Idealize.ShloMosaic.TcCoe
  Idealize.SL.Sem Cert.Proof.Common

/-- Which block each window takes at point `t`: the `t`-th row block, or the whole array. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] := by
  decide +kernel

variable (m : (ℓ : Loc nD τ sig) → Buf (Elt Ideal) ℓ) (c : Dev nD)

/-- The arguments at device `c`. -/
abbrev Ar : FVec Ideal S2048x4096 .bf16 := m ((c : Thread nD τ).loc main_arg0)
abbrev Aw : FVec Ideal S4096x1024 .f32 := m ((c : Thread nD τ).loc main_arg1)
abbrev Ax : FVec Ideal S2048x1024 .f32 := m ((c : Thread nD τ).loc main_arg2)
abbrev An : FVec Ideal S1024 .f32 := m ((c : Thread nD τ).loc main_arg3)
abbrev Ag : FVec Ideal S2048x1024 .f32 := m ((c : Thread nD τ).loc main_arg4)

/-- Row `r` of point `t`'s block. -/
def row (t : Fin grid0.N) (r : Fin 512) : Fin 2048 := ⟨512 * t.val + r.val, by have := (show t.val < 4 from t.isLt); omega⟩

theorem blk0 (t : Fin grid0.N) (r : Fin 512) (l : Fin 4096) : iblk m c 0 t (ix2 r l) = Ar m c (ix2 (row t r) l) := by
  unfold row; blk_ext [iblk, V, idx t]
theorem blk1 (t : Fin grid0.N) (r : Fin 4096) (l : Fin 1024) : iblk m c 1 t (ix2 r l) = Aw m c (ix2 r l) := by
  blk_ext! [iblk, V, idx t]
theorem blk2 (t : Fin grid0.N) (r : Fin 512) (l : Fin 1024) : iblk m c 2 t (ix2 r l) = Ax m c (ix2 (row t r) l) := by
  unfold row; blk_ext [iblk, V, idx t]
theorem blk3 (t : Fin grid0.N) (l : Fin 1024) : iblk m c 3 t (ix2 0 l) = An m c (ix1 l) := by
  blk_ext! [iblk, V, idx t]
theorem blk4 (t : Fin grid0.N) (r : Fin 512) (l : Fin 1024) : iblk m c 4 t (ix2 r l) = Ag m c (ix2 (row t r) l) := by
  unfold row; blk_ext [iblk, V, idx t]

/-- The length of a row, a thousand-and-twenty-fourth, a half. -/
abbrev N : EReal := Ideal.ofBits .f32 0x44800000#32
abbrev κ : EReal := Ideal.ofBits .f32 0x3A800000#32
abbrev half : EReal := Ideal.ofBits .f32 0x3F000000#32

theorem κ_word : κ = ((1 / 1024 : ℝ) : EReal) := by
  simp [κ, Ideal.ofBits, Ideal.ieee]; rw [← EReal.coe_mul]; norm_num

/-- Twice a number over two rows' lengths is the number over one. -/
theorem fold_κ (d : EReal) : Ideal.div (half * 1) N * (Ideal.ofBits .f32 0x40000000#32 * d) = d * κ := by
  rw [show N = _ from word_1024, Ideal.div_coe (by norm_num), ← mul_assoc, mul_comm d]
  congr 1
  rw [show half = _ from word_half, κ_word, word_two]
  simp only [← EReal.coe_one, ← EReal.coe_mul]
  congr 1; norm_num

section Forms

variable (p : FVec Ideal S2048x4096 .bf16) (w : FVec Ideal S4096x1024 .f32) (x : FVec Ideal S2048x1024 .f32) (v : FVec Ideal S1024 .f32)
  (g : FVec Ideal S2048x1024 .f32)

/-- A row before the norm, how far its normed and weighted entries are from the target, the cotangent of the
unweighted norm, and the row's mean square distance. -/
def line (i : Fin 2048) (l : Fin 1024) : EReal := x (ix2 i l) + ∑ n : Fin 4096, p (ix2 i n) * w (ix2 n l)
def off (i : Fin 2048) (l : Fin 1024) : EReal := line p w x i l * rs N (line p w x i) * v (ix1 l) - g (ix2 i l)
def cot (i : Fin 2048) (l : Fin 1024) : EReal := off p w x v g i l * κ * v (ix1 l)
def dist (i : Fin 2048) : EReal := Ideal.div (∑ l, off p w x v g i l * off p w x v g i l) N

open Cert.Reference5Ideal.Read

theorem r2 (i : Fin 2048) (l : Fin 1024) : val_main_v2 (F := Ideal) p w x (ix2 i l) = line p w x i l := by
  unfold line
  pointwise [val_main_v2, val_main_v1, val_main_v0]

theorem r10 (i : Fin 2048) : val_main_v10 (F := Ideal) p w x (ix2 i 0) = rs N (line p w x i) := by
  have h := r2 p w x
  unfold rs
  pointwise [val_main_v10, val_main_v9, val_main_v8, val_main_v7, val_main_v6, val_main_v5, val_main_v4, val_main_v3, val_main_cst, val_main_cst_0, val_main_cst_1, h]

theorem r19 (i : Fin 2048) (l : Fin 1024) : val_main_v19 (F := Ideal) p w x v g (ix2 i l) = off p w x v g i l := by
  have h := r2 p w x
  have h' := r10 p w x
  unfold off
  pointwise [val_main_v19, val_main_v18, val_main_v17, val_main_v16, val_main_v15, val_main_v14, h, h']

theorem r33 (i : Fin 2048) (l : Fin 1024) : val_main_v33 (F := Ideal) p w x v g (ix2 i l) = off p w x v g i l * κ := by
  have h := r19 p w x v g
  refine Eq.trans ?_ (fold_κ _)
  pointwise [val_main_v33, val_main_v32, val_main_v31, val_main_v30, val_main_v29, val_main_v28, val_main_v22, val_main_v21, val_main_cst_3,
    val_main_cst_8, val_main_cst_9, val_main_cst_10, h]

theorem r53 (i : Fin 2048) (l : Fin 1024) : val_main_v53 (F := Ideal) p w x v g (ix2 i l)
    = cot p w x v g i l * rs N (line p w x i) + line p w x i l * meanTerm N (line p w x i) (cot p w x v g i)
      + meanTerm N (line p w x i) (cot p w x v g i) * line p w x i l := by
  have h := r2 p w x
  have h' := r10 p w x
  have h'' := r33 p w x v g
  have h9 : ∀ i, val_main_v9 (F := Ideal) p w x (ix2 i 0)
      = Ideal.div (∑ j, line p w x i j * line p w x i j) N + Ideal.ofBits .f32 0x358637BD#32 := fun i => by
    pointwise [val_main_v9, val_main_v8, val_main_v7, val_main_v6, val_main_v5, val_main_v4, val_main_v3, val_main_cst, val_main_cst_0,
      val_main_cst_1, h]
  unfold meanTerm cot
  pointwise [val_main_v53, val_main_v52, val_main_v51, val_main_v50, val_main_v49, val_main_v48, val_main_v47, val_main_v46, val_main_v45,
    val_main_v44, val_main_v43, val_main_v42, val_main_v41, val_main_v40, val_main_v38, val_main_v37, val_main_v16, val_main_v13,
    val_main_v12, val_main_v11, val_main_cst_2, val_main_cst_13, val_main_cst_14, val_main_cst_15, h, h', h'', h9]
  simp only [Fin.sum_univ_one, h', h9]

theorem r55 (a : Fin 8) (l : Fin 1024) : val_main_v55 (F := Ideal) p w x v g (ix2 a l)
    = ∑ i : Fin 2048, off p w x v g i l * κ * (line p w x i l * rs N (line p w x i)) := by
  have h := r2 p w x
  have h' := r10 p w x
  have h'' := r33 p w x v g
  pointwise [val_main_v55, val_main_v54, val_main_v39, val_main_v36, val_main_v35, val_main_v34, val_main_v15, val_main_v14,
    val_main_cst_11, val_main_cst_12, h, h', h'']
  rw [Fin.sum_univ_one]
  exact Finset.sum_congr rfl fun _ _ => mul_comm _ _

theorem r56 (a : Fin 8) (b : Fin 128) : val_main_v56 (F := Ideal) p w x v g (ix2 a b) = half * ∑ i : Fin 2048, dist p w x v g i := by
  have h := r19 p w x v g
  unfold dist
  pointwise [val_main_v56, val_main_v27, val_main_v26, val_main_v25, val_main_v24, val_main_v23, val_main_v20,
    val_main_cst_4, val_main_cst_5, val_main_cst_6, val_main_cst_7, h]

end Forms

section Payloads

variable {m c}

variable (t : Fin grid0.N)

theorem pay7 (r : Fin 512) (l : Fin 1024) : k0_pay7 (iblk m c 2 t) (iblk m c 0 t) (iblk m c 1 t) (ix2 r l)
    = line (Ar m c) (Aw m c) (Ax m c) (row t r) l := by
  unfold line
  have b0 := blk0 m c t
  have b1 := blk1 m c t
  have b2 := blk2 m c t
  generalize iblk m c 0 t = x0 at *
  generalize iblk m c 1 t = x1 at *
  generalize iblk m c 2 t = x2 at *
  pointwise [k0_pay7, b0, b1, b2]

theorem pay8 (r : Fin 512) : k0_pay8 (iblk m c 2 t) (iblk m c 0 t) (iblk m c 1 t) (ix2 r 0)
    = rs N (line (Ar m c) (Aw m c) (Ax m c) (row t r)) := by
  unfold rs
  pointwise [k0_pay8, pay7 (m := m) (c := c) t]

theorem pay9 (r : Fin 512) (l : Fin 1024) : k0_pay9 (iblk m c 2 t) (iblk m c 0 t) (iblk m c 1 t) (ix2 r l)
    = line (Ar m c) (Aw m c) (Ax m c) (row t r) l * rs N (line (Ar m c) (Aw m c) (Ax m c) (row t r)) := by
  pointwise [k0_pay9, pay7 (m := m) (c := c) t, pay8 (m := m) (c := c) t]

theorem pay10 (r : Fin 512) (l : Fin 1024) :
    k0_pay10 (iblk m c 2 t) (iblk m c 0 t) (iblk m c 1 t) (iblk m c 3 t) (iblk m c 4 t) (ix2 r l)
      = off (Ar m c) (Aw m c) (Ax m c) (An m c) (Ag m c) (row t r) l := by
  unfold off
  have b3 := blk3 m c t
  have b4 := blk4 m c t
  generalize iblk m c 3 t = x3 at *
  generalize iblk m c 4 t = x4 at *
  pointwise [k0_pay10, pay9 (m := m) (c := c) t, b3, b4]

/-- The block of the gradient of `x` that point `t` leaves. -/
theorem pay4 (r : Fin 512) (l : Fin 1024) :
    k0_pay4 (k0_pay8 (iblk m c 2 t) (iblk m c 0 t) (iblk m c 1 t)) (k0_pay9 (iblk m c 2 t) (iblk m c 0 t) (iblk m c 1 t))
      (k0_pay10 (iblk m c 2 t) (iblk m c 0 t) (iblk m c 1 t) (iblk m c 3 t) (iblk m c 4 t)) (iblk m c 3 t) (ix2 r l)
      = byHand N (line (Ar m c) (Aw m c) (Ax m c) (row t r)) (cot (Ar m c) (Aw m c) (Ax m c) (An m c) (Ag m c) (row t r)) l := by
  unfold byHand cot
  have b3 := blk3 m c t
  have e8 := pay8 (m := m) (c := c) t
  have e9 := pay9 (m := m) (c := c) t
  have e10 := pay10 (m := m) (c := c) t
  generalize k0_pay8 (iblk m c 2 t) (iblk m c 0 t) (iblk m c 1 t) = y8 at *
  generalize k0_pay9 (iblk m c 2 t) (iblk m c 0 t) (iblk m c 1 t) = y9 at *
  generalize k0_pay10 (iblk m c 2 t) (iblk m c 0 t) (iblk m c 1 t) (iblk m c 3 t) (iblk m c 4 t) = y10 at *
  generalize iblk m c 3 t = x3 at *
  pointwise [k0_pay4, k0_pay2, e8, e9, e10, b3]

end Payloads

/-- One point's contribution to the weight's gradient, at a column, and to the loss: sums over its rows. -/
def term (t : ℕ) (l : Fin 1024) : EReal :=
  if h : t < grid0.N then ∑ r : Fin 512, off (Ar m c) (Aw m c) (Ax m c) (An m c) (Ag m c) (row ⟨t, h⟩ r) l * κ
    * (line (Ar m c) (Aw m c) (Ax m c) (row ⟨t, h⟩ r) l * rs N (line (Ar m c) (Aw m c) (Ax m c) (row ⟨t, h⟩ r)))
  else 0
def part (t : ℕ) : EReal :=
  if h : t < grid0.N then half * ∑ r : Fin 512, dist (Ar m c) (Aw m c) (Ax m c) (An m c) (Ag m c) (row ⟨t, h⟩ r) else 0

theorem pay3 (t : Fin grid0.N) (o : FVec Ideal S8x1024 .f32) (a : Fin 8) (l : Fin 1024) :
    k0_pay3 (k0_pay9 (iblk m c 2 t) (iblk m c 0 t) (iblk m c 1 t))
      (k0_pay10 (iblk m c 2 t) (iblk m c 0 t) (iblk m c 1 t) (iblk m c 3 t) (iblk m c 4 t)) o (ix2 a l) = o (ix2 a l) + term m c t.val l := by
  unfold term
  rw [dif_pos t.isLt]
  pointwise [k0_pay3, k0_pay2, pay9 (m := m) (c := c) t, pay10 (m := m) (c := c) t]

theorem pay1 (t : Fin grid0.N) (o : FVec Ideal S8x128 .f32) (a : Fin 8) (b : Fin 128) :
    k0_pay1 (k0_pay11 o) (k0_pay12 (iblk m c 2 t) (iblk m c 0 t) (iblk m c 1 t) (iblk m c 3 t) (iblk m c 4 t))
      (Scalar.ofBits .f32 0x3F000000#32) (ix2 a b) = o (ix2 a b) + part m c t.val := by
  unfold part dist
  rw [dif_pos t.isLt]
  pointwise [k0_pay1, k0_pay11, k0_pay12, pay10 (m := m) (c := c) t]
  simp only [Fin.sum_univ_one]

theorem outs5 (t : Fin cfg0.N) : (outsAt0 m c t.val t.isLt).1
    = k0_pay4 (k0_pay8 (iblk m c 2 t) (iblk m c 0 t) (iblk m c 1 t)) (k0_pay9 (iblk m c 2 t) (iblk m c 0 t) (iblk m c 1 t))
      (k0_pay10 (iblk m c 2 t) (iblk m c 0 t) (iblk m c 1 t) (iblk m c 3 t) (iblk m c 4 t)) (iblk m c 3 t) := by
  by_cases h : t.val % 4 = 0
  · rw [outsAt0_A m c t h]; dsimp only; frame_out
  · rw [outsAt0_B m c t h]; dsimp only; frame_out

theorem step6_A (t : Fin cfg0.N) (h : t.val % 4 = 0) : (outsAt0 m c t.val t.isLt).2.1
    = k0_pay3 (k0_pay9 (iblk m c 2 t) (iblk m c 0 t) (iblk m c 1 t))
      (k0_pay10 (iblk m c 2 t) (iblk m c 0 t) (iblk m c 1 t) (iblk m c 3 t) (iblk m c 4 t)) (k0_pay5 (F := Ideal)) := by
  rw [outsAt0_A m c t h]; dsimp only; frame_out

theorem step6_B (t : Fin cfg0.N) (h : ¬t.val % 4 = 0) : (outsAt0 m c t.val t.isLt).2.1
    = k0_pay3 (k0_pay9 (iblk m c 2 t) (iblk m c 0 t) (iblk m c 1 t))
      (k0_pay10 (iblk m c 2 t) (iblk m c 0 t) (iblk m c 1 t) (iblk m c 3 t) (iblk m c 4 t))
      (outsAt0 m c (t.val - 1) (Nat.lt_of_le_of_lt (Nat.sub_le _ _) t.isLt)).2.1 := by
  rw [outsAt0_B m c t h]; dsimp only; frame_out

theorem step7_A (t : Fin cfg0.N) (h : t.val % 4 = 0) : (outsAt0 m c t.val t.isLt).2.2
    = k0_pay1 (k0_pay11 (k0_pay6 (F := Ideal))) (k0_pay12 (iblk m c 2 t) (iblk m c 0 t) (iblk m c 1 t) (iblk m c 3 t) (iblk m c 4 t))
      (Scalar.ofBits .f32 0x3F000000#32) := by
  rw [outsAt0_A m c t h]; dsimp only; frame_out

theorem step7_B (t : Fin cfg0.N) (h : ¬t.val % 4 = 0) : (outsAt0 m c t.val t.isLt).2.2
    = k0_pay1 (k0_pay11 (outsAt0 m c (t.val - 1) (Nat.lt_of_le_of_lt (Nat.sub_le _ _) t.isLt)).2.2)
      (k0_pay12 (iblk m c 2 t) (iblk m c 0 t) (iblk m c 1 t) (iblk m c 3 t) (iblk m c 4 t)) (Scalar.ofBits .f32 0x3F000000#32) := by
  rw [outsAt0_B m c t h]; dsimp only; frame_out

theorem outs6 (t : Fin cfg0.N) (ht : t.val = 3) (a : Fin 8) (l : Fin 1024) :
    (outsAt0 m c t.val t.isLt).2.1 (ix2 a l) = ∑ s : Fin 4, term m c s.val l := by
  have := Pipeline.eq_sum_of_reset_step_apply (fun n h => (outsAt0 m c n h).2.1) 4 (fun _ => (0 : EReal))
    (fun n j => term m c n (j 1))
    (fun t h j => by
      obtain ⟨a, l, rfl⟩ : ∃ (a : Fin 8) (l : Fin 1024), j = ix2 a l := ⟨j 0, j 1, eq_ix2 j⟩
      rw [step6_A m c t h]; refine (pay3 m c t _ a l).trans ?_; pointwise [k0_pay5])
    (fun t h j => by
      obtain ⟨a, l, rfl⟩ : ∃ (a : Fin 8) (l : Fin 1024), j = ix2 a l := ⟨j 0, j 1, eq_ix2 j⟩
      rw [step6_B m c t h]; exact pay3 m c t _ a l) t (ix2 a l)
  rw [this, ht, Finset.sum_range]
  refine (zero_add _).trans (Finset.sum_congr rfl fun s _ => ?_)
  show term m c (4 * (3 / 4) + s.val) l = _
  rw [show 4 * (3 / 4) + s.val = s.val by omega]

theorem outs7 (t : Fin cfg0.N) (ht : t.val = 3) (a : Fin 8) (b : Fin 128) :
    (outsAt0 m c t.val t.isLt).2.2 (ix2 a b) = ∑ s : Fin 4, part m c s.val := by
  have := Pipeline.eq_sum_of_reset_step_apply (fun n h => (outsAt0 m c n h).2.2) 4 (fun _ => (0 : EReal))
    (fun n _ => part m c n)
    (fun t h j => by
      obtain ⟨a, l, rfl⟩ : ∃ (a : Fin 8) (l : Fin 128), j = ix2 a l := ⟨j 0, j 1, eq_ix2 j⟩
      rw [step7_A m c t h]; refine (pay1 m c t _ a l).trans ?_; pointwise [k0_pay6])
    (fun t h j => by
      obtain ⟨a, l, rfl⟩ : ∃ (a : Fin 8) (l : Fin 128), j = ix2 a l := ⟨j 0, j 1, eq_ix2 j⟩
      rw [step7_B m c t h]; exact pay1 m c t _ a l) t (ix2 a b)
  rw [this, ht, Finset.sum_range]
  refine (zero_add _).trans (Finset.sum_congr rfl fun s _ => ?_)
  rw [show 4 * (3 / 4) + s.val = s.val by omega]

/-- Row `r` of block `s` among all rows. -/
theorem row_eq (s : Fin 4) (r : Fin 512) (h : s.val < grid0.N) : row ⟨s.val, h⟩ r = ⟨s.val * 512 + r.val, by omega⟩ :=
  Fin.ext (by show 512 * s.val + r.val = s.val * 512 + r.val; omega)

/-- The norm's weight's gradient. -/
theorem arr6 : (dats m 0 c).arrAt 6 cfg0.N
    = (Cert.Reference5Ideal.Read.val_main_v55 (F := Ideal) (Ar m c) (Aw m c) (Ax m c) (An m c) (Ag m c)) := by
  refine (dats m 0 c).arrAt_eq_of_covers 6 _ (by decide +kernel) fun t hf y => ?_
  blk_simp
  rw [after0_6]
  obtain ⟨a, l, rfl⟩ : ∃ (a : Fin 8) (l : Fin 1024), y = ix2 a l := ⟨y 0, y 1, eq_ix2 y⟩
  have e : (win0_6.blk t).view.emb (ix2 a l) = ix2 a l := by blk_ext [idx t]
  have ht : t.val = 3 := by have := (flush0_6 t).mp hf; have : t.val < 4 := t.isLt; omega
  rw [e, r55]
  refine (outs6 m c t ht a l).trans (Eq.trans ?_ (Fin.sum_univ_tiles 4 512 (by decide) _).symm)
  refine Finset.sum_congr rfl fun s _ => ?_
  unfold term
  rw [dif_pos (show s.val < grid0.N from s.isLt)]
  exact Finset.sum_congr rfl fun r _ => by rw [row_eq]

theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, show half = _ from word_half]
    exact EReal.left_distrib_of_nonneg_of_ne_top (by exact_mod_cast (by norm_num : (0 : ℝ) ≤ 1 / 2)) (EReal.coe_ne_top _) _ _

/-- The loss. -/
theorem arr7 : (dats m 0 c).arrAt 7 cfg0.N
    = (Cert.Reference5Ideal.Read.val_main_v56 (F := Ideal) (Ar m c) (Aw m c) (Ax m c) (An m c) (Ag m c)) := by
  refine (dats m 0 c).arrAt_eq_of_covers 7 _ (by decide +kernel) fun t hf y => ?_
  blk_simp
  rw [after0_7]
  obtain ⟨a, b, rfl⟩ : ∃ (a : Fin 8) (b : Fin 128), y = ix2 a b := ⟨y 0, y 1, eq_ix2 y⟩
  have e : (win0_7.blk t).view.emb (ix2 a b) = ix2 a b := by blk_ext [idx t]
  have ht : t.val = 3 := by have := (flush0_7 t).mp hf; have : t.val < 4 := t.isLt; omega
  rw [e, r56, Fin.sum_univ_tiles 4 512 (by decide) _, half_sum]
  refine (outs7 m c t ht a b).trans (Finset.sum_congr rfl fun s _ => ?_)
  unfold part
  rw [dif_pos (show s.val < grid0.N from s.isLt)]
  exact congrArg _ (Finset.sum_congr rfl fun r _ => by rw [row_eq])

variable {m c}

section Finite

variable {p : FVec Ideal S2048x4096 .bf16} {w : FVec Ideal S4096x1024 .f32} {x : FVec Ideal S2048x1024 .f32} {v : FVec Ideal S1024 .f32}
  {g : FVec Ideal S2048x1024 .f32} (H : Cert.Pre_finite_final.fn (F := Ideal) p w x v g = fun _ => 1#1)
include H

/-- What the precondition says at an index. -/
theorem said (i : Fin 2048) (q : Fin 4) (l : Fin 1024) : IsReal (v (ix1 l)) ∧ (∀ n : Fin 4096, n.val = 1024 * q.val + l.val → IsReal (p (ix2 i n)))
    ∧ (q.val = 2 → IsReal (x (ix2 i l))) ∧ (q.val = 3 → IsReal (g (ix2 i l)))
    ∧ ∀ k : Fin 4096, q.val < 2 → k.val = 2 * i.val + q.val → IsReal (w (ix2 k l)) := by
  have H := congrFun H (ix3 i q l)
  pointwise [Cert.Pre_finite_final.fn, Cert.Pre_finite_final.fn_part1] at H
  simp only [IntOp.andi_eq_one] at H
  obtain ⟨⟨h1, hp⟩, hv⟩ := H
  refine ⟨.of_abs_lt _ hv, fun n hn => ?_, fun hq => ?_, fun hq => ?_, fun k hq hk => ?_⟩
  · rw [show n = ⟨q.val * 1024 + l.val, by omega⟩ from Fin.ext (by show n.val = q.val * 1024 + l.val; omega)]; exact .of_abs_lt _ hp
  · rw [dif_neg (by omega), dif_pos (by omega)] at h1; exact .of_abs_lt _ h1
  · rw [dif_neg (by omega), dif_neg (by omega)] at h1; exact .of_abs_lt _ h1
  · rw [dif_pos hq] at h1
    rw [show k = ⟨i.val * 2 + q.val, by omega⟩ from Fin.ext (by show k.val = i.val * 2 + q.val; omega)]; exact .of_abs_lt _ h1

/-- Real rows before the norm, and real cotangents. -/
theorem reals (i : Fin 2048) : (∀ l, IsReal (line p w x i l)) ∧ ∀ l, IsReal (cot p w x v g i l) := by
  have hl : ∀ l, IsReal (line p w x i l) := fun l => by
    refine ((said H i 2 l).2.2.1 rfl).add (IsReal.sum fun n => IsReal.mul ?_ ?_)
    · exact (said H i ⟨n.val / 1024, by omega⟩ ⟨n.val % 1024, by omega⟩).2.1 n (by show n.val = 1024 * (n.val / 1024) + n.val % 1024; omega)
    · exact (said H ⟨n.val / 2, by omega⟩ ⟨n.val % 2, by omega⟩ l).2.2.2.2 n (by show n.val % 2 < 2; omega) (by show n.val = 2 * (n.val / 2) + n.val % 2; omega)
  refine ⟨hl, fun l => ?_⟩
  have hv := (said H i 3 l).1
  have hr : IsReal (rs N (line p w x i)) := (rs_real word_1024 (by norm_num) hl).1
  exact (((((hl l).mul hr).mul hv).sub ((said H i 3 l).2.2.2.1 rfl)).mul ⟨_, κ_word⟩).mul hv

end Finite

/-- The gradient of `x`. -/
theorem arr5 (H : ∀ i, (∀ l, IsReal (line (Ar m c) (Aw m c) (Ax m c) i l)) ∧ ∀ l, IsReal (cot (Ar m c) (Aw m c) (Ax m c) (An m c) (Ag m c) i l)) :
    (dats m 0 c).arrAt 5 cfg0.N
    = (Cert.Reference5Ideal.Read.val_main_v53 (F := Ideal) (Ar m c) (Aw m c) (Ax m c) (An m c) (Ag m c)) := by
  refine (dats m 0 c).arrAt_eq_of_covers 5 _ (by decide +kernel) fun t hf y => ?_
  blk_simp
  rw [after0_5, outs5]
  obtain ⟨r, l, rfl⟩ : ∃ (r : Fin 512) (l : Fin 1024), y = ix2 r l := ⟨y 0, y 1, eq_ix2 y⟩
  have e : (win0_5.blk t).view.emb (ix2 r l) = ix2 (row t r) l := by unfold row; blk_ext [idx t]
  rw [e, r53]
  exact (pay4 t r l).trans (norm_grad word_1024 (by norm_num) (H (row t r)).1 (H (row t r)).2 l)

end Cert.Proof.Final

end
-- ==== Proof.Final.Pair.lean ====
/- The last layer with its loss and gradients, and its reference, side by side: the reference's frame, and the equality of the results. -/
module

public import proofs.«01_k».proof.Defs
public import proofs.«01_k».proof.Proof.Final.Value
public import proofs.«01_k».proof.Proof.Gen.Reference5Ideal.Run

@[expose] public section

set_option maxRecDepth 16384

noncomputable section

namespace Cert.Proof.Final

open Idealize.ShloMosaic Idealize.SL.Sem Cert.Reference5Ideal.Read

/-- The reference leaves its arguments; it has no semaphore. -/
theorem frameR : Cert.quiescent_Reference5Ideal (hReference5Ideal := Cert.Reference5Ideal.Gen.facts) := fun m ρ _ =>
  (θ_run _ _ _).mono (fun r h => ⟨fun c => (h c).2.2.2, sem_eq_zero_of_no_sems (by decide) r.2⟩)
    (Cert.Reference5Ideal.Value.run (F := Ideal) m ρ)

/-- On finite arguments both programs end with the same three arrays. -/
theorem equal : Cert.algebraic_Kernel5Ideal_Reference5Ideal_pre_finite_final (hKernel5Ideal := Cert.Kernel5Ideal.Gen.facts)
    (hReference5Ideal := Cert.Reference5Ideal.Gen.facts) (hPre_finite_final := Cert.Pre_finite_final.Gen.facts) := fun m ρ m' ρ' hpre hag =>
  ⟨fun c => val_main_v53 (F := Ideal) (Ar m c) (Aw m c) (Ax m c) (An m c) (Ag m c),
   fun c => val_main_v55 (F := Ideal) (Ar m c) (Aw m c) (Ax m c) (An m c) (Ag m c),
   fun c => val_main_v56 (F := Ideal) (Ar m c) (Aw m c) (Ax m c) (An m c) (Ag m c),
   (θ_run _ _ _).mono (fun _ h c =>
     ⟨(h c).1.trans (arr5 (reals (p := Ar m c) (w := Aw m c) (x := Ax m c) (v := An m c) (g := Ag m c) (hpre c))),
       (h c).2.1.trans (arr6 m c), (h c).2.2.1.trans (arr7 m c), (h c).2.2.2⟩)
     (Cert.Kernel5Ideal.Value.run_blocks (F := Ideal) m ρ),
   (θ_run _ _ _).mono (fun _ h c => by
     obtain ⟨e0, e1, e2, e3, e4⟩ := hag c
     refine ⟨(h c).1.trans ?_, (h c).2.1.trans ?_, (h c).2.2.1.trans ?_, (h c).2.2.2⟩
     · rw [val_main_v53_eq, e0, e1, e2, e3, e4]
     · rw [val_main_v55_eq, e0, e1, e2, e3, e4]
     · rw [val_main_v56_eq, e0, e1, e2, e3, e4])
     (Cert.Reference5Ideal.Value.run (F := Ideal) m' ρ')⟩

end Cert.Proof.Final

end
-- ==== Proof.Rms.Value.lean ====
/- The two arrays that a product's gradient fused with its norm's leaves, block by block, against the reference's. -/
module

public import proofs.«01_k».proof.Proof.Common.Norm
public import proofs.«01_k».proof.Proof.Gen.Kernel6Ideal.Value
public import proofs.«01_k».proof.Proof.Gen.Reference6Ideal.Read
public import proofs.«01_k».proof.Proof.Gen.Pre_finite_rms
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Rms

open Cert.Kernel6Ideal Cert.Kernel6Ideal.Gen Cert.Kernel6Ideal.Value Idealize.ShloMosaic Idealize.ShloMosaic.TcCoe
  Idealize.SL.Sem Cert.Proof.Common

/-- Which block each window takes at point `t`: the `t`-th row block, or the whole array. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] := by
  decide +kernel

variable (m : (ℓ : Loc nD τ sig) → Buf (Elt Ideal) ℓ) (c : Dev nD)

/-- The arguments at device `c`. -/
abbrev Ad : FVec Ideal S2048x4096 .bf16 := m ((c : Thread nD τ).loc main_arg0)
abbrev Aw : FVec Ideal S1024x4096 .f32 := m ((c : Thread nD τ).loc main_arg1)
abbrev Ax : FVec Ideal S2048x1024 .f32 := m ((c : Thread nD τ).loc main_arg2)
abbrev An : FVec Ideal S1024 .f32 := m ((c : Thread nD τ).loc main_arg3)
abbrev Ag : FVec Ideal S2048x1024 .f32 := m ((c : Thread nD τ).loc main_arg4)

/-- Row `r` of point `t`'s block. -/
def row (t : Fin grid0.N) (r : Fin 512) : Fin 2048 := ⟨512 * t.val + r.val, by have := (show t.val < 4 from t.isLt); omega⟩

theorem blk0 (t : Fin grid0.N) (r : Fin 512) (l : Fin 4096) : iblk m c 0 t (ix2 r l) = Ad m c (ix2 (row t r) l) := by
  unfold row; blk_ext [iblk, V, idx t]
theorem blk1 (t : Fin grid0.N) (r : Fin 1024) (l : Fin 4096) : iblk m c 1 t (ix2 r l) = Aw m c (ix2 r l) := by
  blk_ext! [iblk, V, idx t]
theorem blk2 (t : Fin grid0.N) (r : Fin 512) (l : Fin 1024) : iblk m c 2 t (ix2 r l) = Ax m c (ix2 (row t r) l) := by
  unfold row; blk_ext [iblk, V, idx t]
theorem blk3 (t : Fin grid0.N) (l : Fin 1024) : iblk m c 3 t (ix2 0 l) = An m c (ix1 l) := by
  blk_ext! [iblk, V, idx t]
theorem blk4 (t : Fin grid0.N) (r : Fin 512) (l : Fin 1024) : iblk m c 4 t (ix2 r l) = Ag m c (ix2 (row t r) l) := by
  unfold row; blk_ext [iblk, V, idx t]

/-- The length of a row. -/
abbrev N : EReal := Ideal.ofBits .f32 0x44800000#32

section Forms

variable (d : FVec Ideal S2048x4096 .bf16) (w : FVec Ideal S1024x4096 .f32) (x : FVec Ideal S2048x1024 .f32) (v : FVec Ideal S1024 .f32)
  (g : FVec Ideal S2048x1024 .f32)

/-- The product's gradient with respect to its normed operand, the norm's weight multiplied in, and a row of `x`. -/
def back (i : Fin 2048) (l : Fin 1024) : EReal := ∑ n : Fin 4096, d (ix2 i n) * w (ix2 l n)
def weighted (i : Fin 2048) (l : Fin 1024) : EReal := back d w i l * v (ix1 l)
def line (i : Fin 2048) (l : Fin 1024) : EReal := x (ix2 i l)

open Cert.Reference6Ideal.Read

theorem r39 (i : Fin 2048) (l : Fin 1024) : val_main_v39 (F := Ideal) d w x v g (ix2 i l)
    = g (ix2 i l) + weighted d w v i l * rs N (line x i) + line x i l * meanTerm N (line x i) (weighted d w v i)
      + meanTerm N (line x i) (weighted d w v i) * line x i l := by
  unfold meanTerm rs line weighted back
  pointwise [val_main_v39, val_main_v38, val_main_v37, val_main_v36, val_main_v35, val_main_v34, val_main_v33, val_main_v32, val_main_v31,
    val_main_v30, val_main_v29, val_main_v28, val_main_v27, val_main_v26, val_main_v25, val_main_v23, val_main_v22, val_main_v18,
    val_main_v17, val_main_v13, val_main_v10, val_main_v9, val_main_v8, val_main_v7, val_main_v6, val_main_v5, val_main_v4,
    val_main_v3, val_main_v2, val_main_v1, val_main_v0, val_main_cst, val_main_cst_0, val_main_cst_1, val_main_cst_2, val_main_cst_5,
    val_main_cst_6, val_main_cst_7]
  simp only [Fin.sum_univ_one]

theorem r41 (a : Fin 8) (l : Fin 1024) : val_main_v41 (F := Ideal) d w x (ix2 a l)
    = ∑ i : Fin 2048, back d w i l * (line x i l * rs N (line x i)) := by
  unfold rs line back
  pointwise [val_main_v41, val_main_v40, val_main_v24, val_main_v21, val_main_v20, val_main_v19, val_main_v12, val_main_v11, val_main_v18,
    val_main_v17, val_main_v7, val_main_v6, val_main_v5, val_main_v4,
    val_main_v3, val_main_v2, val_main_v1, val_main_v0, val_main_cst, val_main_cst_0, val_main_cst_1, val_main_cst_3, val_main_cst_4]
  rw [Fin.sum_univ_one]
  exact Finset.sum_congr rfl fun _ _ => mul_comm _ _

end Forms

/-- The payloads at an index. -/
theorem pay1 (t : Fin grid0.N) (r : Fin 512) (l : Fin 1024) :
    k0_pay1 (k0_pay4 (iblk m c 2 t)) (k0_pay5 (iblk m c 2 t)) (k0_pay7 (iblk m c 0 t) (iblk m c 1 t) (iblk m c 3 t)) (iblk m c 4 t) (ix2 r l)
      = Ag m c (ix2 (row t r) l) + byHand N (line (Ax m c) (row t r)) (weighted (Ad m c) (Aw m c) (An m c) (row t r)) l := by
  unfold byHand rs line weighted back
  have b0 := blk0 m c t
  have b1 := blk1 m c t
  have b2 := blk2 m c t
  have b3 := blk3 m c t
  have b4 := blk4 m c t
  generalize iblk m c 0 t = x0 at *
  generalize iblk m c 1 t = x1 at *
  generalize iblk m c 2 t = x2 at *
  generalize iblk m c 3 t = x3 at *
  generalize iblk m c 4 t = x4 at *
  pointwise [k0_pay1, k0_pay4, k0_pay5, k0_pay7, k0_pay3, b0, b1, b2, b3, b4]

/-- One point's contribution to the weight's gradient, at a column: the sum over its rows. -/
def term (t : ℕ) (l : Fin 1024) : EReal :=
  if h : t < grid0.N then
    ∑ r : Fin 512, back (Ad m c) (Aw m c) (row ⟨t, h⟩ r) l * (line (Ax m c) (row ⟨t, h⟩ r) l * rs N (line (Ax m c) (row ⟨t, h⟩ r)))
  else 0

theorem pay6 (t : Fin grid0.N) (o : FVec Ideal S8x1024 .f32) (a : Fin 8) (l : Fin 1024) :
    k0_pay6 (iblk m c 0 t) (iblk m c 1 t) (iblk m c 2 t) o (ix2 a l) = o (ix2 a l) + term m c t.val l := by
  unfold term rs line back
  rw [dif_pos t.isLt]
  have b0 := blk0 m c t
  have b1 := blk1 m c t
  have b2 := blk2 m c t
  generalize iblk m c 0 t = x0 at *
  generalize iblk m c 1 t = x1 at *
  generalize iblk m c 2 t = x2 at *
  pointwise [k0_pay6, k0_pay4, k0_pay5, k0_pay3, b0, b1, b2]

theorem outs5 (t : Fin cfg0.N) : (outsAt0 m c t.val t.isLt).1
    = k0_pay1 (k0_pay4 (iblk m c 2 t)) (k0_pay5 (iblk m c 2 t)) (k0_pay7 (iblk m c 0 t) (iblk m c 1 t) (iblk m c 3 t)) (iblk m c 4 t) := by
  by_cases h : t.val % 4 = 0
  · rw [outsAt0_A m c t h]; dsimp only; frame_out
  · rw [outsAt0_B m c t h]; dsimp only; frame_out

theorem step_A (t : Fin cfg0.N) (h : t.val % 4 = 0) : (outsAt0 m c t.val t.isLt).2
    = k0_pay6 (iblk m c 0 t) (iblk m c 1 t) (iblk m c 2 t) (k0_pay2 (F := Ideal)) := by
  rw [outsAt0_A m c t h]; dsimp only; frame_out

theorem step_B (t : Fin cfg0.N) (h : ¬t.val % 4 = 0) : (outsAt0 m c t.val t.isLt).2
    = k0_pay6 (iblk m c 0 t) (iblk m c 1 t) (iblk m c 2 t) (outsAt0 m c (t.val - 1) (Nat.lt_of_le_of_lt (Nat.sub_le _ _) t.isLt)).2 := by
  rw [outsAt0_B m c t h]; dsimp only; frame_out

theorem outs6 (t : Fin cfg0.N) (ht : t.val % 4 = 3) (a : Fin 8) (l : Fin 1024) :
    (outsAt0 m c t.val t.isLt).2 (ix2 a l) = ∑ s : Fin 4, term m c (4 * (t.val / 4) + s.val) l := by
  have := Pipeline.eq_sum_of_reset_step_apply (fun n h => (outsAt0 m c n h).2) 4 (fun _ => (0 : EReal))
    (fun n j => term m c n (j 1))
    (fun t h j => by
      obtain ⟨a, l, rfl⟩ : ∃ (a : Fin 8) (l : Fin 1024), j = ix2 a l := ⟨j 0, j 1, eq_ix2 j⟩
      rw [step_A m c t h]; refine (pay6 m c t _ a l).trans ?_; pointwise [k0_pay2])
    (fun t h j => by
      obtain ⟨a, l, rfl⟩ : ∃ (a : Fin 8) (l : Fin 1024), j = ix2 a l := ⟨j 0, j 1, eq_ix2 j⟩
      rw [step_B m c t h]; exact pay6 m c t _ a l) t (ix2 a l)
  rw [this, ht, Finset.sum_range]
  exact zero_add _

/-- The norm's weight's gradient. -/
theorem arr6 : (dats m 0 c).arrAt 6 cfg0.N = (Cert.Reference6Ideal.Read.val_main_v41 (F := Ideal) (Ad m c) (Aw m c) (Ax m c)) := by
  refine (dats m 0 c).arrAt_eq_of_covers 6 _ (by decide +kernel) fun t hf y => ?_
  blk_simp
  rw [after0_6]
  obtain ⟨a, l, rfl⟩ : ∃ (a : Fin 8) (l : Fin 1024), y = ix2 a l := ⟨y 0, y 1, eq_ix2 y⟩
  have e : (win0_6.blk t).view.emb (ix2 a l) = ix2 a l := by blk_ext [idx t]
  have ht : t.val = 3 := by have := (flush0_6 t).mp hf; have : t.val < 4 := t.isLt; omega
  rw [e, r41]
  refine (outs6 m c t (by omega) a l).trans ?_
  refine Eq.trans ?_ (Fin.sum_univ_tiles 4 512 (by decide) _).symm
  refine Finset.sum_congr rfl fun s _ => ?_
  unfold term
  have hs : 4 * (t.val / 4) + s.val < grid0.N := by show _ < 4; omega
  rw [dif_pos hs]
  refine Finset.sum_congr rfl fun r _ => ?_
  have e : row ⟨4 * (t.val / 4) + s.val, hs⟩ r = ⟨s.val * 512 + r.val, by omega⟩ :=
    Fin.ext (by show 512 * (4 * (t.val / 4) + s.val) + r.val = s.val * 512 + r.val; omega)
  rw [e]

variable {m c}

section Finite

variable {d : FVec Ideal S2048x4096 .bf16} {w : FVec Ideal S1024x4096 .f32} {x : FVec Ideal S2048x1024 .f32} {v : FVec Ideal S1024 .f32}
  {g : FVec Ideal S2048x1024 .f32} (H : Cert.Pre_finite_rms.fn (F := Ideal) d w x v g = fun _ => 1#1)
include H

/-- What the precondition says at an index. -/
theorem said (i : Fin 2048) (q : Fin 4) (l : Fin 1024) : IsReal (v (ix1 l)) ∧ (∀ n : Fin 4096, n.val = 1024 * q.val + l.val → IsReal (d (ix2 i n)))
    ∧ (q.val = 2 → IsReal (x (ix2 i l)))
    ∧ ∀ (k : Fin 1024) (n : Fin 4096), q.val < 2 → 4096 * k.val + n.val = 2048 * i.val + 1024 * q.val + l.val → IsReal (w (ix2 k n)) := by
  have H := congrFun H (ix3 i q l)
  pointwise [Cert.Pre_finite_rms.fn, Cert.Pre_finite_rms.fn_part1] at H
  simp only [IntOp.andi_eq_one] at H
  obtain ⟨⟨h1, hd⟩, hv⟩ := H
  refine ⟨.of_abs_lt _ hv, fun n hn => ?_, fun hq => ?_, fun k n hq e => ?_⟩
  · rw [show n = ⟨q.val * 1024 + l.val, by omega⟩ from Fin.ext (by show n.val = q.val * 1024 + l.val; omega)]; exact .of_abs_lt _ hd
  · rw [dif_neg (by omega), dif_pos (by omega)] at h1; exact .of_abs_lt _ h1
  · rw [dif_pos hq] at h1
    rw [show k = ⟨i.val / 2, by omega⟩ from Fin.ext (by show k.val = i.val / 2; omega),
      show n = ⟨i.val % 2 * 2048 + q.val * 1024 + l.val, by omega⟩ from Fin.ext (by show n.val = i.val % 2 * 2048 + q.val * 1024 + l.val; omega)]
    exact .of_abs_lt _ h1

/-- Real rows of `x` and of the weighted product. -/
theorem reals (i : Fin 2048) : (∀ l, IsReal (line x i l)) ∧ ∀ l, IsReal (weighted d w v i l) := by
  refine ⟨fun l => (said H i 2 l).2.2.1 rfl, fun l => (IsReal.sum fun n => IsReal.mul ?_ ?_).mul (said H i 0 l).1⟩
  · exact (said H i ⟨n.val / 1024, by omega⟩ ⟨n.val % 1024, by omega⟩).2.1 n (by show n.val = 1024 * (n.val / 1024) + n.val % 1024; omega)
  · exact (said H ⟨2 * l.val + n.val / 2048, by omega⟩ ⟨n.val / 1024 % 2, by omega⟩ ⟨n.val % 1024, by omega⟩).2.2.2 l n
      (by show n.val / 1024 % 2 < 2; omega)
      (by show 4096 * l.val + n.val = 2048 * (2 * l.val + n.val / 2048) + 1024 * (n.val / 1024 % 2) + n.val % 1024; omega)

end Finite

/-- The gradient of `x`, added to what came before. -/
theorem arr5 (H : ∀ i, (∀ l, IsReal (line (Ax m c) i l)) ∧ ∀ l, IsReal (weighted (Ad m c) (Aw m c) (An m c) i l)) :
    (dats m 0 c).arrAt 5 cfg0.N
    = (Cert.Reference6Ideal.Read.val_main_v39 (F := Ideal) (Ad m c) (Aw m c) (Ax m c) (An m c) (Ag m c)) := by
  refine (dats m 0 c).arrAt_eq_of_covers 5 _ (by decide +kernel) fun t hf y => ?_
  blk_simp
  rw [after0_5, outs5]
  obtain ⟨r, l, rfl⟩ : ∃ (r : Fin 512) (l : Fin 1024), y = ix2 r l := ⟨y 0, y 1, eq_ix2 y⟩
  have e : (win0_5.blk t).view.emb (ix2 r l) = ix2 (row t r) l := by unfold row; blk_ext [idx t]
  rw [e, r39]
  refine (pay1 m c t r l).trans ?_
  rw [norm_grad word_1024 (by norm_num) (H (row t r)).1 (H (row t r)).2, add_assoc, add_assoc, add_assoc]

end Cert.Proof.Rms

end
-- ==== Proof.Rms.Pair.lean ====
/- The norm's gradient fused with a product and its reference side by side: the reference's frame, and the equality of the results. -/
module

public import proofs.«01_k».proof.Defs
public import proofs.«01_k».proof.Proof.Rms.Value
public import proofs.«01_k».proof.Proof.Gen.Reference6Ideal.Run

@[expose] public section

set_option maxRecDepth 16384

noncomputable section

namespace Cert.Proof.Rms

open Idealize.ShloMosaic Idealize.SL.Sem Cert.Reference6Ideal.Read

/-- The reference leaves its arguments; it has no semaphore. -/
theorem frameR : Cert.quiescent_Reference6Ideal (hReference6Ideal := Cert.Reference6Ideal.Gen.facts) := fun m ρ _ =>
  (θ_run _ _ _).mono (fun r h => ⟨fun c => (h c).2.2, sem_eq_zero_of_no_sems (by decide) r.2⟩)
    (Cert.Reference6Ideal.Value.run (F := Ideal) m ρ)

/-- On finite arguments both programs end with the same two arrays. -/
theorem equal : Cert.algebraic_Kernel6Ideal_Reference6Ideal_pre_finite_rms (hKernel6Ideal := Cert.Kernel6Ideal.Gen.facts)
    (hReference6Ideal := Cert.Reference6Ideal.Gen.facts) (hPre_finite_rms := Cert.Pre_finite_rms.Gen.facts) := fun m ρ m' ρ' hpre hag =>
  ⟨fun c => val_main_v39 (F := Ideal) (Ad m c) (Aw m c) (Ax m c) (An m c) (Ag m c),
   fun c => val_main_v41 (F := Ideal) (Ad m c) (Aw m c) (Ax m c),
   (θ_run _ _ _).mono (fun _ h c =>
     ⟨(h c).1.trans (arr5 (reals (d := Ad m c) (w := Aw m c) (x := Ax m c) (v := An m c) (g := Ag m c) (hpre c))),
       (h c).2.1.trans (arr6 m c), (h c).2.2⟩)
     (Cert.Kernel6Ideal.Value.run_blocks (F := Ideal) m ρ),
   (θ_run _ _ _).mono (fun _ h c => by
     obtain ⟨e0, e1, e2, e3, e4⟩ := hag c
     refine ⟨(h c).1.trans ?_, (h c).2.1.trans ?_, (h c).2.2⟩
     · rw [val_main_v39_eq, e0, e1, e2, e3, e4]
     · rw [val_main_v41_eq, e0, e1, e2])
     (Cert.Reference6Ideal.Value.run (F := Ideal) m' ρ')⟩

end Cert.Proof.Rms

end
-- ==== Proof.Drelu.Value.lean ====
/- The array that the gradient through the squared relu leaves, block by block, against the reference's. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Drelu

open Cert.Kernel7Ideal Cert.Kernel7Ideal.Gen Cert.Kernel7Ideal.Value Idealize.ShloMosaic Idealize.ShloMosaic.TcCoe
  Idealize.SL.Sem

/-- Which block each window takes at point `t`: row block `t % 2`, column block `t / 2`. -/
theorem idx : ∀ t : Fin grid0.N, win0_0.index t = ![t.val % 2, 0] ∧ win0_1.index t = ![t.val / 2, 0]
    ∧ win0_2.index t = ![t.val % 2, t.val / 2] ∧ win0_3.index t = ![t.val % 2, t.val / 2] := by decide +kernel

variable (m : (ℓ : Loc nD τ sig) → Buf (Elt Ideal) ℓ) (c : Dev nD)

/-- The arguments at device `c`. -/
abbrev Ad : FVec Ideal S2048x1024 .f32 := m ((c : Thread nD τ).loc main_arg0)
abbrev Aw : FVec Ideal S4096x1024 .f32 := m ((c : Thread nD τ).loc main_arg1)
abbrev Ah : FVec Ideal S2048x1024 .f32 := m ((c : Thread nD τ).loc main_arg2)
abbrev Au : FVec Ideal S1024x4096 .f32 := m ((c : Thread nD τ).loc main_arg3)

/-- Row `r` and column `l` of point `t`'s block. -/
def row (t : Fin grid0.N) (r : Fin 1024) : Fin 2048 := ⟨1024 * (t.val % 2) + r.val, by omega⟩
def col (t : Fin grid0.N) (l : Fin 1024) : Fin 4096 :=
  ⟨1024 * (t.val / 2) + l.val, by have := (show t.val < 8 from t.isLt); omega⟩

theorem blk0 (t : Fin grid0.N) (r l : Fin 1024) : iblk m c 0 t (ix2 r l) = Ad m c (ix2 (row t r) l) := by
  unfold row; blk_ext [iblk, V, idx t]

theorem blk1 (t : Fin grid0.N) (r l : Fin 1024) : iblk m c 1 t (ix2 r l) = Aw m c (ix2 (col t r) l) := by
  unfold col; blk_ext! [iblk, V, idx t]

/-- The activation, at a block's index. -/
theorem blk2 (t : Fin grid0.N) (r l : Fin 1024) : iblk m c 2 t (ix2 r l)
    = Cert.Reference7Ideal.Read.val_main_v0 (F := Ideal) (Ah m c) (Au m c) (ix2 (row t r) (col t l)) := by
  unfold row col; blk_ext! [iblk, V, idx t, Cert.Reference7Ideal.Read.val_main_v0]

/-- The whole array. -/
theorem arr3 : (dats m 0 c).arrAt 3 cfg0.N
    = (Cert.Reference7Ideal.Read.val_main_v13 (F := Ideal) (Ad m c) (Aw m c) (Ah m c) (Au m c)) := by
  refine (dats m 0 c).arrAt_eq_of_covers 3 _ (by decide +kernel) fun t hf y => ?_
  blk_simp
  rw [after0_3]
  frame_out
  obtain ⟨r, l, rfl⟩ : ∃ (r l : Fin 1024), y = ix2 r l := ⟨y 0, y 1, eq_ix2 y⟩
  have e : (win0_3.blk t).view.emb (ix2 r l) = ix2 (row t r) (col t l) := by unfold row col; blk_ext [idx t]
  rw [e]
  have e2 := blk2 m c t r l
  have e0 := fun n => blk0 m c t r n
  have e1 := fun n => blk1 m c t l n
  generalize iblk m c 2 t = x2 at *
  generalize iblk m c 1 t = x1 at *
  generalize iblk m c 0 t = x0 at *
  pointwise [k0_pay1, e0, e1, e2, Cert.Reference7Ideal.Read.val_main_v13, Cert.Reference7Ideal.Read.val_main_v12, Cert.Reference7Ideal.Read.val_main_v11,
    Cert.Reference7Ideal.Read.val_main_cst_2, Cert.Reference7Ideal.Read.val_main_v10, Cert.Reference7Ideal.Read.val_main_v9,
    Cert.Reference7Ideal.Read.val_main_v7, Cert.Reference7Ideal.Read.val_main_v6, Cert.Reference7Ideal.Read.val_main_cst_1,
    Cert.Reference7Ideal.Read.val_main_v3, Cert.Reference7Ideal.Read.val_main_v2, Cert.Reference7Ideal.Read.val_main_cst,
    Cert.Reference7Ideal.Read.val_main_v1, Cert.Reference7Ideal.Read.val_main_call0_v0, Cert.Reference7Ideal.Read.val_main_call0_cst]
  generalize Cert.Reference7Ideal.Read.val_main_v0 (F := Ideal) (Ah m c) (Au m c) (ix2 (row t r) (col t l)) = a
  by_cases h : 0 < a
  · rw [if_pos h]
  · rw [if_neg h, max_eq_right (not_lt.mp h), mul_zero, mul_zero]

end Cert.Proof.Drelu

end
-- ==== Proof.Drelu.Pair.lean ====
/- The gradient through the squared relu and its reference side by side: the reference's frame, and the equality of the results. -/
module

public import proofs.«01_k».proof.Defs
public import proofs.«01_k».proof.Proof.Drelu.Value
public import proofs.«01_k».proof.Proof.Gen.Reference7Ideal.Run

@[expose] public section

set_option maxRecDepth 16384

noncomputable section

namespace Cert.Proof.Drelu

open Idealize.ShloMosaic Idealize.SL.Sem Cert.Reference7Ideal.Read

/-- The reference leaves its arguments; it has no semaphore. -/
theorem frameR : Cert.quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

/-- Both programs end with the same array. -/
theorem equal : Cert.algebraic_Kernel7Ideal_Reference7Ideal (hKernel7Ideal := Cert.Kernel7Ideal.Gen.facts)
    (hReference7Ideal := Cert.Reference7Ideal.Gen.facts) := fun m ρ m' ρ' _ hag =>
  ⟨fun c => val_main_v13 (F := Ideal) (Ad m c) (Aw m c) (Ah m c) (Au m c),
   (θ_run _ _ _).mono (fun _ h c => ⟨(h c).1.trans (arr3 m c), (h c).2⟩)
     (Cert.Kernel7Ideal.Value.run_blocks (F := Ideal) m ρ),
   (θ_run _ _ _).mono (fun _ h c => by
     obtain ⟨e0, e1, e2, e3⟩ := hag c
     refine ⟨(h c).1.trans ?_, (h c).2⟩
     · rw [val_main_v13_eq, e0, e1, e2, e3]
     )
     (Cert.Reference7Ideal.Value.run (F := Ideal) m' ρ')⟩

end Cert.Proof.Drelu

end
-- ==== Proof.Dt.Value.lean ====
/- The two arrays that the step size's gradient leaves, against the reference's. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Dt

open Cert.Kernel8Ideal Cert.Kernel8Ideal.Gen Cert.Kernel8Ideal.Value Idealize.ShloMosaic Idealize.ShloMosaic.TcCoe
  Idealize.SL.Sem

/-- Which block each window takes at point `t`. -/
theorem idx : ∀ t : Fin grid0.N, win0_0.index t = ![0, t.val, 0] ∧ win0_1.index t = ![t.val, 44] ∧ win0_2.index t = ![0, 0] := by
  decide +kernel

variable (m : (ℓ : Loc nD τ sig) → Buf (Elt Ideal) ℓ) (c : Dev nD)

/-- The arguments at device `c`. -/
abbrev Ad : FVec Ideal S2048x32 .f32 := m ((c : Thread nD τ).loc main_arg0)
abbrev Aq : FVec Ideal S2048x11520 .bf16 := m ((c : Thread nD τ).loc main_arg1)

/-- Row `r` of point `t`'s block. -/
def row (t : Fin grid0.N) (r : Fin 256) : Fin 2048 := ⟨256 * t.val + r.val, by have := (show t.val < 8 from t.isLt); omega⟩

/-- Head `l`'s gradient where `l` is a head, else zero. -/
def lane (i : Fin 2048) (l : ℕ) : EReal := if h : l < 32 then Ad m c (ix2 i ⟨l, h⟩) else 0

/-- The padded array of heads: group `g`'s first four lanes are its heads. -/
abbrev Vl : FVec Ideal S8x2048x128 .f32 := V m c main_v2

theorem lanes (g : Fin 8) (i : Fin 2048) (l : Fin 128) :
    Vl m c (ix3 g i l) = if l.val < 4 then lane m c i (4 * g.val + l.val) else 0 := by
  unfold Vl V
  after_reads_simp
  pointwise
  unfold lane
  by_cases h : l.val < 4
  · rw [dif_pos h, if_pos h, dif_pos (by omega)]
    congr 2; exact Fin.ext (by show g.val * 4 + l.val = 4 * g.val + l.val; omega)
  · rw [dif_neg h, if_neg h]

/-- One group's lanes turned to their place hold head `l` for the group of head `l` alone. -/
theorem turned (t : Fin grid0.N) (r : Fin 256) (l : Fin 128) (g : Fin 8) (k : Fin 128) (hk : k.val = (l.val + 128 - 4 * g.val) % 128) :
    iblk m c 0 t (ix3 g r k) = if l.val / 4 = g.val then lane m c (row t r) l.val else 0 := by
  have e : iblk m c 0 t (ix3 g r k) = Vl m c (ix3 g (row t r) k) := by
    show V m c main_v2 _ = V m c main_v2 _
    congr 1
    unfold row; blk_ext [idx t]
  rw [e, lanes]
  by_cases h : l.val / 4 = g.val
  · rw [if_pos h, if_pos (by omega)]; congr 1; omega
  · rw [if_neg h, if_neg (by omega)]

/-- One of eight terms, the others zero. -/
theorem one_of_eight (q : ℕ) (x : EReal) (h : q < 8) :
    (((((((if q = 0 then x else 0) + (if q = 1 then x else 0)) + (if q = 2 then x else 0)) + (if q = 3 then x else 0))
      + (if q = 4 then x else 0)) + (if q = 5 then x else 0)) + (if q = 6 then x else 0)) + (if q = 7 then x else 0) = x := by
  interval_cases q <;> simp

/-- Group `g`'s lanes of a block. -/
abbrev hd (x : Vec Ideal S8x256x128 .f32) (g : ℕ) (h : ∀ a, (![g, 0, 0] : Fin 3 → ℕ) a + S1x256x128.size a ≤ S8x256x128.size a) :
    Vec Ideal S1x256x128 .f32 := View.ld x (Rect.unit (s := S8x256x128) ![g, 0, 0] S1x256x128.size h)

/-- The first seven groups' lanes, turned and summed; and the eighth. -/
abbrev seven (x : Vec Ideal S8x256x128 .f32) : FVec Ideal S256x128 .f32 := k0_pay5
  (hd x 0 inb_S8x256x128_S1x256x128_0_0_0) (hd x 1 inb_S8x256x128_S1x256x128_1_0_0) (hd x 2 inb_S8x256x128_S1x256x128_2_0_0) (hd x 3 inb_S8x256x128_S1x256x128_3_0_0) (hd x 4 inb_S8x256x128_S1x256x128_4_0_0) (hd x 5 inb_S8x256x128_S1x256x128_5_0_0) (hd x 6 inb_S8x256x128_S1x256x128_6_0_0)
abbrev eighth (x : Vec Ideal S8x256x128 .f32) : Vec Ideal S1x256x128 .f32 := hd x 7 inb_S8x256x128_S1x256x128_7_0_0

theorem hz2 : (![0, 0] : Fin 2 → Nat) = fun _ => 0 := funext fun a => by fin_cases a <;> rfl

section Body

variable (i : grid0.Coords) (a1 : Memref sig .tc .vmem S8x256x128 .f32) (h1 : a1.IsWhole)
  (a3 : Memref sig .tc .vmem S256x256 .bf16) (h3 : a3.IsWhole) (a4 : Memref sig .tc .vmem S8x128 .f32) (h4 : a4.IsWhole)
  (x : Vec Ideal S8x256x128 .f32) (xo : Vec Ideal S8x128 .f32)

/-- What the body leaves in its two buffers, at the first point and at a later one. -/
theorem out1_A (hc) : out0_A_1 c i a1 h1 a3 h3 a4 h4 hc x = k0_pay3 (seven x) (eighth x) := by
  unfold out0_A_1
  rw [View.read_writes_eq_canon _ _ _ (cover0_A_1 c i a1 h1 a3 h3 a4 h4 hc x)]
  unfold kernelRun0_A
  dsimp only
  sl_unfold_words
  rw [View.canon_unit_zero hz2]
  simp only [View.readAt_eq_ld, h1.read_unread]
  rfl

theorem out1_B (hc) : out0_B_1 c i a1 h1 a3 h3 a4 h4 hc x xo = k0_pay3 (seven x) (eighth x) := by
  unfold out0_B_1
  rw [View.read_writes_eq_canon _ _ _ (cover0_B_1 c i a1 h1 a3 h3 a4 h4 hc x xo)]
  unfold kernelRun0_B
  dsimp only
  sl_unfold_words
  rw [View.canon_unit_zero hz2]
  simp only [View.readAt_eq_ld, h1.read_unread]
  rfl

theorem out2_A (hc) : out0_A_2 c i a1 h1 a3 h3 a4 h4 hc x = k0_pay2 (seven x) (eighth x) (k0_pay4 (F := Ideal)) := by
  unfold out0_A_2
  rw [View.read_writes_eq_canon _ _ _ (cover0_A_2 c i a1 h1 a3 h3 a4 h4 hc x)]
  unfold kernelRun0_A
  dsimp only
  sl_unfold_words
  rw [View.canon_cons_unit_zero (S := S8x128) hz2, View.readCov_unit_zero (S := S8x128) _ hz2]
  simp only [View.readAt_eq_ld, h1.read_unread]
  rfl

theorem out2_B (hc) : out0_B_2 c i a1 h1 a3 h3 a4 h4 hc x xo = k0_pay2 (seven x) (eighth x) xo := by
  unfold out0_B_2
  rw [View.read_writes_eq_canon _ _ _ (cover0_B_2 c i a1 h1 a3 h3 a4 h4 hc x xo)]
  unfold kernelRun0_B
  dsimp only
  sl_unfold_words
  rw [View.canon_unit_zero hz2]
  simp only [View.readAt_eq_ld, h1.read_unread, h4.read_unread, View.ld_unit_zero (S := S8x128) hz2]
  rfl

end Body

/-- The eight groups together: lane `l` holds head `l`. -/
theorem pay1 (t : Fin grid0.N) (r : Fin 256) (l : Fin 128) :
    k0_pay1 (seven (iblk m c 0 t)) (eighth (iblk m c 0 t)) (ix2 r l) = lane m c (row t r) l.val := by
  have T := turned m c t r l
  generalize iblk m c 0 t = x at *
  pointwise [k0_pay1, k0_pay5, hd, eighth, seven]
  rw [T 0 _ (by simp; omega), T 1 _ (by simp), T 2 _ (by simp), T 3 _ (by simp), T 4 _ (by simp), T 5 _ (by simp),
    T 6 _ (by simp), T 7 _ (by simp)]
  by_cases h : l.val < 32
  · exact one_of_eight (l.val / 4) _ (by omega)
  · unfold lane; rw [dif_neg h]; simp

theorem outs1 (t : Fin cfg0.N) : (outsAt0 m c t.val t.isLt).1 = k0_pay3 (seven (iblk m c 0 t)) (eighth (iblk m c 0 t)) := by
  by_cases h : t.val % 8 = 0
  · rw [outsAt0_A m c t h]; dsimp only; rw [out1_A]
  · rw [outsAt0_B m c t h]; dsimp only; rw [out1_B]

/-- One point's contribution to the bias's gradient: the sum over its rows. -/
def term (t : ℕ) (l : Fin 128) : EReal :=
  if h : t < grid0.N then ∑ r : Fin 256, lane m c (row ⟨t, h⟩ r) l.val else 0

theorem pay2 (t : Fin grid0.N) (o : FVec Ideal S8x128 .f32) (a : Fin 8) (l : Fin 128) :
    k0_pay2 (seven (iblk m c 0 t)) (eighth (iblk m c 0 t)) o (ix2 a l) = o (ix2 a l) + term m c t.val l := by
  unfold term
  rw [dif_pos t.isLt]
  pointwise [k0_pay2, pay1]

theorem outs2 (t : Fin cfg0.N) (ht : t.val % 8 = 7) (a : Fin 8) (l : Fin 128) :
    (outsAt0 m c t.val t.isLt).2 (ix2 a l) = ∑ s : Fin 8, term m c (8 * (t.val / 8) + s.val) l := by
  have := Pipeline.eq_sum_of_reset_step_apply (fun n h => (outsAt0 m c n h).2) 8 (fun _ => (0 : EReal))
    (fun n j => term m c n (j 1))
    (fun t h j => by
      obtain ⟨a, l, rfl⟩ : ∃ (a : Fin 8) (l : Fin 128), j = ix2 a l := ⟨j 0, j 1, eq_ix2 j⟩
      rw [outsAt0_A m c t h]; dsimp only; rw [out2_A]; refine (pay2 m c t _ a l).trans ?_; pointwise [k0_pay4])
    (fun t h j => by
      obtain ⟨a, l, rfl⟩ : ∃ (a : Fin 8) (l : Fin 128), j = ix2 a l := ⟨j 0, j 1, eq_ix2 j⟩
      rw [outsAt0_B m c t h]; dsimp only; rw [out2_B]; exact pay2 m c t _ a l) t (ix2 a l)
  rw [this, ht, Finset.sum_range]
  exact zero_add _

open Cert.Reference8Ideal.Read in
/-- The shared gradient array: the last 256 columns written, the others as the argument held them. -/
theorem arr1 : (dats m 0 c).arrAt 1 cfg0.N
    = (Cert.Reference8Ideal.Read.val_main_v12 (F := Ideal) (Ad m c) (Aq m c)) := by
  refine (dats m 0 c).arrAt_eq_of_coversWhere_of_agree 1 _ (fun β => β 1 = 44) (by decide +kernel) (fun t hf y => ?_)
    (fun j hj => ?_)
  · blk_simp
    rw [after0_1, outs1]
    obtain ⟨r, l, rfl⟩ : ∃ (r : Fin 256) (l : Fin 256), y = ix2 r l := ⟨y 0, y 1, eq_ix2 y⟩
    have e : (win0_1.blk t).view.emb (ix2 r l) = ix2 (row t r) (⟨11264 + l.val, by omega⟩ : Fin 11520) := by
      unfold row; blk_ext [idx t]
    rw [e]
    have P := pay1 m c t r
    generalize seven (iblk m c 0 t) = s7 at *
    generalize eighth (iblk m c 0 t) = e8 at *
    pointwise [k0_pay3, P, val_main_v12, val_main_v9, val_main_v10, val_main_v11, val_main_v5, val_main_cst_3]
    by_cases h : l.val < 128
    · rw [dif_pos h]; rfl
    · rw [dif_neg h, dif_neg (by omega)]
  · blk_simp [Pipeline.Window.cell_apply] at hj
    obtain ⟨i, l, rfl⟩ : ∃ (i : Fin 2048) (l : Fin 11520), j = ix2 i l := ⟨j 0, j 1, eq_ix2 j⟩
    have hl : l.val < 11264 := by revert hj; show ¬ (l.val / 256 = 44) → _; omega
    rw [A_eq]
    show V m c main_v3_0 _ = _
    pointwise [val_main_v12, val_main_v9, val_main_v10, val_main_v11, val_main_v5, val_main_cst_3]
    refine Eq.trans ?_ (dif_pos hl).symm
    entry_read
    rfl

open Cert.Reference8Ideal.Read in
/-- The bias's gradient. -/
theorem arr2 : (dats m 0 c).arrAt 2 cfg0.N = (Cert.Reference8Ideal.Read.val_main_v15 (F := Ideal) (Ad m c)) := by
  refine (dats m 0 c).arrAt_eq_of_covers 2 _ (by decide +kernel) fun t hf y => ?_
  blk_simp
  rw [after0_2]
  obtain ⟨a, l, rfl⟩ : ∃ (a : Fin 8) (l : Fin 128), y = ix2 a l := ⟨y 0, y 1, eq_ix2 y⟩
  have e : (win0_2.blk t).view.emb (ix2 a l) = ix2 a l := by blk_ext [idx t]
  rw [e]
  have ht : t.val = 7 := by have := (flush0_2 t).mp hf; have : t.val < 8 := t.isLt; omega
  refine (outs2 m c t (by omega) a l).trans ?_
  have S : ∑ s : Fin 8, term m c (8 * (t.val / 8) + s.val) l = ∑ i : Fin 2048, lane m c i l.val := by
    refine Eq.trans ?_ (Fin.sum_univ_tiles 8 256 (by decide) _).symm
    refine Finset.sum_congr rfl fun s _ => ?_
    unfold term
    have hs : 8 * (t.val / 8) + s.val < grid0.N := by show _ < 8; omega
    rw [dif_pos hs]
    refine Finset.sum_congr rfl fun r _ => congrArg (fun k => lane m c k l.val) (Fin.ext ?_)
    show 256 * (8 * (t.val / 8) + s.val) + r.val = s.val * 256 + r.val; omega
  rw [S]
  pointwise [val_main_v15, val_main_v14, val_main_v13, val_main_v8, val_main_v7, val_main_v6, val_main_cst_1, val_main_cst_2,
    val_main_call0_v0, val_main_c]
  unfold lane
  by_cases h : l.val < 32
  · rw [dif_pos h]
    simp [dif_pos h]
  · rw [dif_neg h]
    simp only [dif_neg h, Finset.sum_const_zero]
    show (0 : EReal) = ((0 : ℤ) : ℝ)
    simp

end Cert.Proof.Dt

end
-- ==== Proof.Dt.Pair.lean ====
/- The step size's gradient and its reference side by side: the reference's frame, and the equality of the results. -/
module

public import proofs.«01_k».proof.Defs
public import proofs.«01_k».proof.Proof.Dt.Value
public import proofs.«01_k».proof.Proof.Gen.Reference8Ideal.Run

@[expose] public section

set_option maxRecDepth 16384

noncomputable section

namespace Cert.Proof.Dt

open Idealize.ShloMosaic Idealize.SL.Sem Cert.Reference8Ideal.Read

/-- The reference leaves its arguments; it has no semaphore. -/
theorem frameR : Cert.quiescent_Reference8Ideal (hReference8Ideal := Cert.Reference8Ideal.Gen.facts) := fun m ρ _ =>
  (θ_run _ _ _).mono (fun r h => ⟨fun c => (h c).2.2, sem_eq_zero_of_no_sems (by decide) r.2⟩)
    (Cert.Reference8Ideal.Value.run (F := Ideal) m ρ)

/-- Both programs end with the same two arrays. -/
theorem equal : Cert.algebraic_Kernel8Ideal_Reference8Ideal (hKernel8Ideal := Cert.Kernel8Ideal.Gen.facts)
    (hReference8Ideal := Cert.Reference8Ideal.Gen.facts) := fun m ρ m' ρ' _ hag =>
  ⟨fun c => val_main_v12 (F := Ideal) (Ad m c) (Aq m c),
   fun c => val_main_v15 (F := Ideal) (Ad m c),
   (θ_run _ _ _).mono (fun _ h c => ⟨(h c).1.trans (arr1 m c), (h c).2.1.trans (arr2 m c), (h c).2.2⟩)
     (Cert.Kernel8Ideal.Value.run_blocks (F := Ideal) m ρ),
   (θ_run _ _ _).mono (fun _ h c => by
     obtain ⟨e0, e1⟩ := hag c
     refine ⟨(h c).1.trans ?_, (h c).2.1.trans ?_, (h c).2.2⟩
     · rw [val_main_v12_eq, e0, e1]
     · rw [val_main_v15_eq, e0]
     )
     (Cert.Reference8Ideal.Value.run (F := Ideal) m' ρ')⟩

end Cert.Proof.Dt

end
-- ==== Proof.Shortconv.Run.lean ====
module

public import proofs.«01_k».proof.Proof.Gen.Kernel9Ideal.Frame
public import proofs.«01_k».proof.Proof.Gen.Kernel9Ideal.Skeleton
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.VecWindow
public import Idealize.ShloMosaic.Lib.WritesUnit

@[expose] public section

set_option maxRecDepth 16384

noncomputable section

namespace Cert.Kernel9Ideal.Hand

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (c : Dev nD) (i : grid0.Coords)
  (arg2 : Memref sig .tc .vmem S2048x256 .f32) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S8x256 .f32) (harg6 : arg6.IsWhole)
  (arg8 : Memref sig .tc .vmem S2048x256 .bf16) (harg8 : arg8.IsWhole)
  (arg9 : Memref sig .tc .vmem S8x256 .f32) (harg9 : arg9.IsWhole)
  (arg10 : Memref sig .tc .vmem S2x2048x256 .bf16) (harg10 : arg10.IsWhole)
  (x0 : Vec F S2048x256 .f32) (x1 x2 x3 : Vec F S2048x256 .bf16) (x4 : Vec F S8x256 .f32)

/-- The body with its buffers, at one point. -/
abbrev body : Prog (TpuEff nD τ sig (Elt F) Λ₀ .tc) PUnit :=
  cc0_sc_bwd i arg2 harg2 arg3 harg3 arg4 harg4 arg5 harg5 arg6 harg6 (Memref.whole main_arg3) (Memref.isWhole_whole _)
    arg8 harg8 arg9 harg9 arg10 harg10

/-- The blocks a point reads, and the three buffers it writes, at these contents. -/
abbrev held (y : Vec F S2048x256 .bf16) (g : Vec F S8x256 .f32) (k : Vec F S2x2048x256 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg8 fullShare y
    ∗ owns (c : Thread nD τ) arg9 fullShare g ∗ owns (c : Thread nD τ) arg10 fullShare k)

/-- The cotangent of the first gate's product, rounded. -/
abbrev dB : Vec F S2048x256 .bf16 := k0_pay1 (k0_pay18 x0 (k0_pay11 x2 x3 x4))

/-- The taps' gradients, one row each. -/
abbrev dW : Vec F S8x256 .f32 := k0_pay17 (k0_pay8 x2 x3) (k0_pay9 x2 x3) (k0_pay10 x2 x3) (k0_pay12 x0 x1)

/-- The cotangent of the convolution's input. -/
abbrev dU : FVec F S2048x256 .f32 :=
  k0_pay16 (k0_pay7 x4) (k0_pay12 x0 x1) (k0_pay13 x0 x4 x1) (k0_pay14 x4) (iota .tc S2048x256 32 [0] iota_S2048x256_d0_w32) k0_pay15

/-- Two slabs kept one behind the other. -/
def pile (a b : Vec F S1x2048x256 .bf16) : Vec F S2x2048x256 .bf16 := fun y =>
  if (y 0).val = 0 then a (ix3 0 (y 1) (y 2)) else b (ix3 0 (y 1) (y 2))

theorem read_pile (v : View sig .tc .vmem S2x2048x256 .bf16) (f : v.ty.Contents (Elt F)) (a b : Vec F S1x2048x256 .bf16) :
    v.read (Elt F) (v.writes (Elt F) f
      [⟨Rect.unit ![1, 0, 0] ![1, 2048, 256] inb_S2x2048x256_S1x2048x256_1_0_0, b⟩,
        ⟨Rect.unit ![0, 0, 0] ![1, 2048, 256] inb_S2x2048x256_S1x2048x256_0_0_0, a⟩]) = pile a b := by
  funext y
  have hy : (y 0).val < 2 := (y 0).isLt
  by_cases h : (y 0).val = 0
  · rw [View.read_writes_cons_unit_of_not_mem v f _ _ _ y rfl 0 (.inl (by show (y 0).val < 1; omega))]
    refine (View.read_writes_cons_unit_of_mem v f (off' := ![0, 0, 0]) _ _ _ y (ix3 0 (y 1) (y 2)) rfl fun d => ?_).trans (if_pos h).symm
    fin_cases d <;> first | exact h | exact (Nat.zero_add _).symm
  · refine (View.read_writes_cons_unit_of_mem v f (off' := ![1, 0, 0]) _ _ _ y (ix3 0 (y 1) (y 2)) rfl fun d => ?_).trans (if_neg h).symm
    fin_cases d <;> first | exact (Nat.zero_add _).symm | (show (y 0).val = 1 + 0; omega)

theorem hz2 : (![0, 0] : Fin 2 → ℕ) = fun _ => 0 := by decide

set_option maxHeartbeats 1000000 in
/-- A first point of a column writes the first gate's cotangent and the taps' gradients, and keeps the other two slabs. -/
theorem run_first (h0 : k0_cond1 i = 1#1) (h1 : ¬k0_cond2 i = 1#1)
    (E : Set ℕ) (K : PUnit → sProp 𝕄) :
    iprop((∃ y g k, held c arg2 arg3 arg4 arg5 arg6 arg8 arg9 arg10 x0 x1 x2 x3 x4 y g k)
        ∗ (held c arg2 arg3 arg4 arg5 arg6 arg8 arg9 arg10 x0 x1 x2 x3 x4 (dB x0 x2 x3 x4) (dW x0 x1 x2 x3)
            (pile (k0_pay2 (k0_pay6 x3) (dU x0 x1 x4)) (k0_pay3 (k0_pay5 x2) (dU x0 x1 x4))) -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_sc_bwd_eq_skeleton]; unfold cc0_sc_bwd_skel
  simp only [k0_part1_eq_skeleton, k0_part2_eq_skeleton]
  unfold owns
  iintro ⟨⟨%y, %g, %k, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h0 | sl_exact h1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_full (s := S2048x256) _ _ _ _ _).trans ?_
    sl_unfold_words
    simp only [View.readAt_eq_ld, hf0, hf1, hf2, hf3, hf4, View.ld_unit_zero (S := S2048x256) hz2, View.ld_unit_zero (S := S8x256) hz2]
  isplitl [H6]
  · iexists _; isplitr; swap; · iexact H6
    ipureintro
    refine (View.read_writes_full (s := S8x256) _ _ _ _ _).trans ?_
    sl_unfold_words
    simp only [View.readAt_eq_ld, hf0, hf1, hf2, hf3, hf4, View.ld_unit_zero (S := S2048x256) hz2, View.ld_unit_zero (S := S8x256) hz2]
  iexists _; isplitr; swap; · iexact HS
  ipureintro
  refine (read_pile _ _ _ _).trans ?_
  sl_unfold_words
  simp only [View.readAt_eq_ld, hf0, hf1, hf2, hf3, hf4, View.ld_unit_zero (S := S2048x256) hz2, View.ld_unit_zero (S := S8x256) hz2]

set_option maxHeartbeats 1000000 in
/-- A later point writes the slab kept for it, and leaves the taps' gradients and the slabs as they were. -/
theorem run_rest (h0 : ¬k0_cond1 i = 1#1) (h1 : k0_cond2 i = 1#1) (s : Fin 2) (hs : k0_off1 i = ![s.val, 0, 0])
    (y : Vec F S2048x256 .bf16) (g : Vec F S8x256 .f32) (k : Vec F S2x2048x256 .bf16) (E : Set ℕ) (K : PUnit → sProp 𝕄) :
    iprop(held c arg2 arg3 arg4 arg5 arg6 arg8 arg9 arg10 x0 x1 x2 x3 x4 y g k
        ∗ (held c arg2 arg3 arg4 arg5 arg6 arg8 arg9 arg10 x0 x1 x2 x3 x4 (k0_pay4 fun x => k (ix3 s (x 1) (x 2))) g k -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_sc_bwd_eq_skeleton]; unfold cc0_sc_bwd_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  sl_exec (disch := first | sl_exact h0 | sl_exact h1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_full (s := S2048x256) _ _ _ _ _).trans ?_
    sl_unfold_words
    refine congrArg k0_pay4 (funext fun x => ?_)
    rw [View.readAt_eq_ld, hfs]
    refine congrArg k (funext fun a => Fin.ext ?_)
    show k0_off1 i a + 1 * (x a).val = _
    rw [hs]
    fin_cases a
    · have h : (x 0).val < 1 := (x 0).isLt
      show s.val + 1 * (x 0).val = s.val
      omega
    · exact (Nat.zero_add _).trans (Nat.one_mul _)
    · exact (Nat.zero_add _).trans (Nat.one_mul _)
  isplitl [H6]
  · iexists _; isplitr; · ipureintro; exact hf6
    iexact H6
  iexists _; isplitr; · ipureintro; exact hfs
  iexact HS

end Cert.Kernel9Ideal.Hand

end
-- ==== Proof.Shortconv.Frame.lean ====
module

public import proofs.«01_k».proof.Proof.Shortconv.Run
public import Idealize.ShloMosaic.Lib.Pipeline.TableIdle

@[expose] public section

set_option maxRecDepth 16384

noncomputable section

/-! # The short convolution's gradient: what every point of the grid leaves

The grid has four columns of three points. The first point of a column writes the first gate's cotangent and the taps'
gradients and keeps two slabs; the other two points write these. So everything a column leaves is a function of the blocks at
its first point. -/

namespace Cert.Kernel9Ideal.Hand

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first point of the column that point `n` lies in. -/
def col (n : ℕ) : Fin cfg0.N := ⟨3 * (n / 3 % 4), by have h : cfg0.N = 12 := N_0; omega⟩

/-- The first point of a column is its own. -/
theorem col_of (t : Fin cfg0.N) (h : t.val % 3 = 0) : col t.val = t := by
  have hN : t.val < 12 := lt_of_lt_of_eq t.isLt N_0
  exact Fin.ext (by show 3 * (t.val / 3 % 4) = t.val; omega)

/-- A later point's column is that of the point before it. -/
theorem col_succ (n : ℕ) (h : (n + 1) % 3 ≠ 0) : col (n + 1) = col n := Fin.ext (by
  show 3 * ((n + 1) / 3 % 4) = 3 * (n / 3 % 4)
  have : (n + 1) / 3 = n / 3 := by omega
  rw [this])

/-- The first gate's cotangent at the column that begins at `s`. -/
def gateAt (s : Fin cfg0.N) : Vec F S2048x256 .bf16 := dB (iblk m c 0 s) (iblk m c 2 s) (iblk m c 3 s) (iblk m c 4 s)

/-- The taps' gradients at that column. -/
def tapsAt (s : Fin cfg0.N) : Vec F S8x256 .f32 := dW (iblk m c 0 s) (iblk m c 1 s) (iblk m c 2 s) (iblk m c 3 s)

/-- The two slabs kept for that column's later points. -/
def keptAt (s : Fin cfg0.N) : Vec F S2x2048x256 .bf16 :=
  pile (k0_pay2 (k0_pay6 (iblk m c 3 s)) (dU (iblk m c 0 s) (iblk m c 1 s) (iblk m c 4 s)))
    (k0_pay3 (k0_pay5 (iblk m c 2 s)) (dU (iblk m c 0 s) (iblk m c 1 s) (iblk m c 4 s)))

/-- The slab that the `k`-th later point of that column writes. -/
def slabAt (s : Fin cfg0.N) (k : Fin 2) : Vec F S2048x256 .bf16 := k0_pay4 fun x => keptAt m c s (ix3 k (x 1) (x 2))

/-- Which of the two slabs a later point writes. -/
def slab (n : ℕ) : Fin 2 := ⟨(n + 2) % 3 % 2, Nat.mod_lt _ (by decide)⟩

/-- What point `t` writes of the shared gradient array. -/
def rowsAt (t : Fin cfg0.N) : Vec F S2048x256 .bf16 :=
  if t.val % 3 = 0 then gateAt m c (col t.val) else slabAt m c (col t.val) (slab t.val)

/-- Between two points of one column the kept slabs are named; between two columns nothing is. -/
def inv (n : ℕ) : sProp 𝕄 :=
  if n % 3 = 0 then Pipeline.ΦA spec0 c
  else iprop(owns (c : Thread nD τ) (Memref.whole cc0_scratch0) fullShare (keptAt m c (col n)) ∗ (∃ r, prngReg c r))

/-- The array's contents before, what each point leaves in every buffer, and what holds between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsAt m c t
    | ⟨6, _⟩ => tapsAt m c (col t.val)
  Φ t := inv m c t.val
  q w := Pipeline.shareOf spec0 w
  owed _ := 0

theorem A_eq (w : Fin cfg0.W) : (dats m 0 c).A w = V m c (Pipeline.arrRef spec0 w) := by dsimp only [dats]

theorem after_rows (t : Fin cfg0.N) : (dats m 0 c).after 5 t = rowsAt m c t := by dsimp only [dats]
theorem after_taps (t : Fin cfg0.N) : (dats m 0 c).after 6 t = tapsAt m c (col t.val) := by dsimp only [dats]

theorem live (w : Fin cfg0.W) (hw : w.val ≠ 6) (t : Fin cfg0.N) : cfg0.idle w (cfg0.grid.coords t) = false := by
  revert w t; decide +kernel

theorem idle_taps (t : Fin cfg0.N) : cfg0.idle 6 (cfg0.grid.coords t) = !decide (t.val % 3 = 0) := by
  revert t; decide +kernel

/-- Whatever a later point finds in the taps' buffer is the column's taps' gradients. -/
theorem before_taps (t : Fin cfg0.N) (h : t.val % 3 ≠ 0) (d) : (dats m 0 c).before 6 t d = tapsAt m c (col t.val) := by
  have hc : ∀ t : Fin cfg0.N, t.val % 3 ≠ 0 → tapsAt m c (col t.val) = tapsAt m c (col (t.val - 1)) := fun t h => by
    obtain ⟨n, hn⟩ : ∃ n, t.val = n + 1 := ⟨t.val - 1, by omega⟩
    rw [hn, col_succ n (by omega)]; rfl
  rw [Dat.before_out_traj (dats m 0 c) 6 rfl (fun _ _ => rfl) (fun t h0 hi hf => by
      rw [after_taps, after_taps]
      refine hc t fun h3 => ?_
      rw [idle_taps, decide_eq_true h3] at hi; exact absurd hi (by decide)) t.val t rfl d, if_neg, after_taps]
  · exact (hc t h).symm
  · revert h; revert t; decide +kernel

/-- Every window but the taps' hands back its buffer at the stated contents. -/
theorem leaves (w : Fin cfg0.W) (hw : w.val ≠ 6) (t : Fin cfg0.N) :
    (dats m 0 c).leavesExact w t = owns (c : Thread nD τ) ((cfg0.win w).stage (cfg0.slots t w)) fullShare ((dats m 0 c).after w t) := by
  unfold Dat.leavesExact; rw [live w hw t]

/-- The taps' buffer holds the column's taps' gradients at every point, so it may be handed back with these. -/
theorem leaves_taps (t : Fin cfg0.N) :
    owns (c : Thread nD τ) ((cfg0.win 6).stage (cfg0.slots t 6)) fullShare (tapsAt m c (col t.val)) ⊢ (dats m 0 c).leavesExact 6 t := by
  have hN : t.val < 12 := lt_of_lt_of_eq t.isLt N_0
  by_cases h : t.val % 3 = 1
  · have hf : (cfg0.win 6).flush t = false := by
      rcases hb : (cfg0.win 6).flush t with _ | _
      · rfl
      · exact absurd ((flush0_6 t).mp hb) (by omega)
    rw [(dats m 0 c).leavesExact_idle 6 t (by rw [idle_taps, decide_eq_false (by omega)]; rfl) hf]
    iintro H
    iexists (tapsAt m c (col t.val))
    rw [before_taps m c t (by omega)]
    iexact H
  · unfold Dat.leavesExact
    rw [idle_taps, after_taps]
    by_cases h0 : t.val % 3 = 0
    · rw [decide_eq_true h0]; exact .rfl
    · rw [decide_eq_false h0, (flush0_6 t).mpr (by omega)]; exact .rfl

/-- What the launch hands the pipeline is the kept slabs at some contents and the generator's register. -/
theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem cond_first (t : Fin cfg0.N) : k0_cond1 (grid0.coords t) = 1#1 ↔ t.val % 3 = 0 := by revert t; decide +kernel
theorem cond_rest (t : Fin cfg0.N) : k0_cond2 (grid0.coords t) = 1#1 ↔ t.val % 3 ≠ 0 := by revert t; decide +kernel
theorem off_rest (t : Fin cfg0.N) (h : t.val % 3 ≠ 0) : k0_off1 (grid0.coords t) = ![(slab t.val).val, 0, 0] := by
  revert h; revert t; decide +kernel

/-- What the body is called with at point `t`, -/
def bodyPre (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (t : Fin cfg0.N) : sProp 𝕄 :=
  iprop(inv m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- What is known after a point that is not a column's last. -/
theorem inv_pos (n : ℕ) (h : n % 3 ≠ 0) : inv m c n
    = iprop(owns (c : Thread nD τ) (Memref.whole cc0_scratch0) fullShare (keptAt m c (col n)) ∗ (∃ r, prngReg c r)) := if_neg h

/-- Whatever is known between two points, the slabs are there at some contents. -/
theorem inv_forget (n : ℕ) : inv m c n ⊢ (Pipeline.ΦA spec0 c : sProp 𝕄) := by
  by_cases h : n % 3 = 0
  · unfold inv; rw [if_pos h]
  · rw [inv_pos m c n h, start_eq]
    iintro ⟨HS, Hg⟩
    isplitl [HS]
    · iexists _; iexact HS
    iexact Hg

/-- The body at any point. -/
theorem sound_body (t : Fin cfg0.N) :
    bodyPre m c t ⊢ wp frame (wpE (defs₀ (F := F)) Variants.none c none) Set.univ (bodyAt0 t) (fun _ => bodyPost m c t) := by
  unfold bodyPre bodyPost
  simp only [leaves m c 0 (by decide), leaves m c 1 (by decide), leaves m c 2 (by decide), leaves m c 3 (by decide),
    leaves m c 4 (by decide), leaves m c 5 (by decide), after_rows,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl,
    before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t]
  rw [show (dats m 0 c).owesAt () t.succ = (dats m 0 c).owesAt () t.castSucc from rfl]
  have hN : t.val < 12 := lt_of_lt_of_eq t.isLt N_0
  by_cases h : t.val % 3 = 0
  · rw [show rowsAt m c t = gateAt m c t from by unfold rowsAt; rw [if_pos h, col_of t h],
      inv_pos m c (t.val + 1) (by omega), col_succ t.val (by omega), col_of t h,
      show inv m c t.val = Pipeline.ΦA spec0 c from if_pos h, start_eq]
    iintro ⟨⟨⟨%k, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (iblk m c 0 t) (iblk m c 1 t) (iblk m c 2 t) (iblk m c 3 t) (iblk m c 4 t)
      ((cond_first t).mpr h) (fun h1 => (cond_rest t).mp h1 h) Set.univ _)
    isplitl [H0 H1 H2 H3 H4 H5 H6 HS]
    · iexists _; iexists _; iexists _
      unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_taps m c t)
    rw [col_of t h]
    iexact H6
  · rw [show rowsAt m c t = slabAt m c (col t.val) (slab t.val) from if_neg h, inv_pos m c t.val h]
    simp only [before_taps m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_rest c (grid0.coords t) _ _ _ _ _ _ _ _ _ _ _ _ _ _ _ _ (iblk m c 0 t) (iblk m c 1 t) (iblk m c 2 t) (iblk m c 3 t) (iblk m c 4 t)
      (fun h1 => h ((cond_first t).mp h1)) ((cond_rest t).mpr h) (slab t.val) (off_rest t h) _ (tapsAt m c (col t.val)) (keptAt m c (col t.val)) Set.univ _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · by_cases h2 : (t.val + 1) % 3 = 0
      · rw [show inv m c (t.val + 1) = Pipeline.ΦA spec0 c from if_pos h2, start_eq]
        isplitl [HS]
        · iexists _; iexact HS
        iexact Hg
      · rw [inv_pos m c _ h2, col_succ _ h2]
        isplitl [HS]
        · iexact HS
        iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_taps m c t)
    iexact H6

/-- The body's name at point `t`'s buffers is the body. -/
theorem body_row (t : Fin cfg0.N) : defs₀ (F := F) .tc cfg0.body (cfg0.bodyArgs t (cfg0.slots t)) = bodyAt0 t := by
  unfold defs₀; rw [Defs.onTc_tc]

/-- Every point of the pipeline is sound. -/
theorem sound : BodyObligation (dats (F := F) m 0 c) (defs₀ (F := F)) Variants.none () Set.univ := fun t => by
  rw [bigSep_W0, bigSep_W0, body_row]
  exact triple_restated (sound_body m c t) rfl .rfl fun _ => .rfl

theorem hin : Pipeline.ΦA spec0 c ⊢ (dats m 0 c).Φ 0 := .rfl

theorem hout : (dats m 0 c).Φ (Fin.last cfg0.N) ⊢ Pipeline.ΦA spec0 c :=
  inv_forget m c (Fin.last cfg0.N).val

set_option backward.isDefEq.respectTransparency.types false in
/-- The kernel ends with every array at what the points wrote back, and with its semaphores at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (sound m c).loose) (hq := fun _ _ _ => rfl)
    (howed := fun _ _ => rfl) (V := V m) (hmain := hmain m Variants.none) (hA := A_eq m) (hin := hin m) (hout := hout m)

/-- The same without the semaphores. -/
theorem run : θ_run defs (onTc (τ := τ) (main (F := F))) (s₀ m ρ) (Pipeline.FramePost cfgs (dats m) 0 (V m)) :=
  (θ_run defs _ _).mono (fun _ h => h.1) (run_quiet m ρ)

/-- The kernel's arguments are unchanged and its semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiet m ρ))

end Cert.Kernel9Ideal.Hand

end
-- ==== Proof.Shortconv.Spec.lean ====
/- The gated short convolution's gradient, one column at a time, and the body's payloads at such a column. No number has to be
   finite: both programs take the same products and sums. -/
module

public import proofs.«01_k».proof.Proof.Shortconv.Frame
public import proofs.«01_k».proof.Proof.Conv.Spec

@[expose] public section

set_option maxRecDepth 16384

noncomputable section

namespace Cert.Proof.Shortconv

/-- A column moved `k` rows down, zeros entering at the top; and `k` rows up, zeros entering at the bottom. -/
def back (k : ℕ) (f : Fin 2048 → EReal) (i : Fin 2048) : EReal := if k ≤ i.val then f ⟨i.val - k, by omega⟩ else 0
def ahead (k : ℕ) (f : Fin 2048 → EReal) (i : Fin 2048) : EReal := if h : i.val + k < 2048 then f ⟨i.val + k, h⟩ else 0

/-- One column's data: the two gates `g` and `c`, the input `x`, the taps, and the result's cotangent `d`. -/
structure Col where
  g : Fin 2048 → EReal
  c : Fin 2048 → EReal
  x : Fin 2048 → EReal
  d : Fin 2048 → EReal
  w0 : EReal
  w1 : EReal
  w2 : EReal

variable (a : Col)

/-- The convolution's input and output, and the output's cotangent. -/
def Col.u (i : Fin 2048) : EReal := a.c i * a.x i
def Col.cv (i : Fin 2048) : EReal := a.w0 * back 2 a.u i + a.w1 * back 1 a.u i + a.w2 * a.u i
def Col.dc (i : Fin 2048) : EReal := a.d i * a.g i

/-- The cotangent of the convolution's input. -/
def Col.du (i : Fin 2048) : EReal := a.w2 * a.dc i + a.w1 * ahead 1 a.dc i + a.w0 * ahead 2 a.dc i

/-- The taps' gradients as the rows of an 8-row block. -/
def Col.gw (r : Fin 8) : EReal :=
  if r = 0 then ∑ i, a.dc i * back 2 a.u i else if r = 1 then ∑ i, a.dc i * back 1 a.u i
  else if r = 2 then ∑ i, a.dc i * a.u i else 0

open Cert.Kernel9Ideal Cert.Kernel9Ideal.Gen Cert.Kernel9Ideal.Hand Idealize.ShloMosaic Idealize.ShloMosaic.TcCoe

/-- The body's move down: rotated rows under the row test. -/
theorem select_back (f : Fin 2048 → EReal) (k : Fin 4) (i : Fin 2048) (h : (i.val + 2048 - k.val) % 2048 < 2048) :
    Scalar.select (α := EReal) (IntOp.cmpi .sge (BitVec.ofNat 32 i.val) (BitVec.ofNat 32 k.val)) (f ⟨(i.val + 2048 - k.val) % 2048, h⟩) 0
      = back k.val f i := by
  unfold Scalar.select back
  rw [Conv.row_ge]
  by_cases hk : k.val ≤ i.val
  · rw [if_pos hk, if_pos (show 1#1 = 1 from rfl), if_pos hk]
    exact congrArg f (Fin.ext (by show (i.val + 2048 - k.val) % 2048 = i.val - k.val; omega))
  · rw [if_neg hk, if_neg (by decide), if_neg hk]

/-- The body's move up, with the tap's product taken under the row test. -/
theorem select_ahead (w : EReal) (f : Fin 2048 → EReal) (k : Fin 4) (i : Fin 2048) (h : (i.val + 2048 - (2048 - k.val)) % 2048 < 2048) :
    Scalar.select (α := EReal) (IntOp.cmpi .slt (BitVec.ofNat 32 i.val) (BitVec.ofNat 32 (2048 - k.val)))
      (w * f ⟨(i.val + 2048 - (2048 - k.val)) % 2048, h⟩) 0 = w * ahead k.val f i := by
  unfold Scalar.select ahead
  rw [Conv.row_lt]
  by_cases hk : i.val + k.val < 2048
  · rw [if_pos hk, if_pos (show 1#1 = 1 from rfl), dif_pos hk]
    exact congrArg (fun j => w * f j) (Fin.ext (by show (i.val + 2048 - (2048 - k.val)) % 2048 = i.val + k.val; omega))
  · rw [if_neg hk, if_neg (by decide), dif_neg hk, mul_zero]

/-- The body's stacking of three rows under row tests, zeros below. -/
theorem rows (s0 s1 s2 : EReal) (r : Fin 8) :
    Scalar.select (α := EReal) (IntOp.cmpi .eq (BitVec.ofNat 32 r.val) 0#32) s0
      (Scalar.select (IntOp.cmpi .eq (BitVec.ofNat 32 r.val) 1#32) s1
        (Scalar.select (IntOp.cmpi .eq (BitVec.ofNat 32 r.val) 2#32) s2 0))
      = if r = 0 then s0 else if r = 1 then s1 else if r = 2 then s2 else 0 := by
  fin_cases r <;> rfl

variable (x0 : FVec Ideal S2048x256 .f32) (x1 x2 x3 : FVec Ideal S2048x256 .bf16) (x4 : FVec Ideal S8x256 .f32) (l : Fin 256)

/-- What column `l` of the body's five input blocks holds. -/
structure Holds : Prop where
  hd i : x0 (ix2 i l) = a.d i
  hg i : x1 (ix2 i l) = a.g i
  hc i : x2 (ix2 i l) = a.c i
  hx i : x3 (ix2 i l) = a.x i
  h0 : x4 (ix2 0 l) = a.w0
  h1 : x4 (ix2 1 l) = a.w1
  h2 : x4 (ix2 2 l) = a.w2

variable {a x0 x1 x2 x3 x4 l} (H : Holds a x0 x1 x2 x3 x4 l)
include H

theorem pay8 (i : Fin 2048) : k0_pay8 (F := Ideal) x2 x3 (ix2 i l) = a.u i := by
  pointwise [k0_pay8, k0_pay5, k0_pay6, H.hc, H.hx]
  rfl

theorem pay9 (i : Fin 2048) : k0_pay9 (F := Ideal) x2 x3 (ix2 i l) = back 1 a.u i := by
  pointwise [k0_pay9, pay8 H]
  exact select_back a.u 1 i _

theorem pay10 (i : Fin 2048) : k0_pay10 (F := Ideal) x2 x3 (ix2 i l) = back 2 a.u i := by
  pointwise [k0_pay10, pay8 H]
  exact select_back a.u 2 i _

theorem pay12 (i : Fin 2048) : k0_pay12 (F := Ideal) x0 x1 (ix2 i l) = a.dc i := by
  pointwise [k0_pay12, H.hd, H.hg]
  rfl

theorem val_dB (i : Fin 2048) : dB (F := Ideal) x0 x2 x3 x4 (ix2 i l) = a.d i * a.cv i := by
  pointwise [dB, k0_pay1, k0_pay18, k0_pay11, k0_pay7, pay8 H, pay9 H, pay10 H, H.hd, H.h0, H.h1, H.h2]
  rfl

theorem val_dU (i : Fin 2048) : dU (F := Ideal) x0 x1 x4 (ix2 i l) = a.du i := by
  pointwise [dU, k0_pay16, k0_pay13, k0_pay14, k0_pay15, k0_pay7, pay12 H, H.h0, H.h1, H.h2]
  exact congrArg₂ _ (congrArg₂ _ rfl (select_ahead a.w1 a.dc 1 i _)) (select_ahead a.w0 a.dc 2 i _)

theorem val_dW (r : Fin 8) : dW (F := Ideal) x0 x1 x2 x3 (ix2 r l) = a.gw r := by
  pointwise [dW, k0_pay17, pay8 H, pay9 H, pay10 H, pay12 H]
  exact rows _ _ _ r

/-- The two kept slabs, each read as a later point writes it. -/
theorem val_slab (k : Fin 2) (i : Fin 2048) :
    k0_pay4 (F := Ideal) (fun x => pile (F := Ideal) (k0_pay2 (F := Ideal) (k0_pay6 (F := Ideal) x3) (dU (F := Ideal) x0 x1 x4)) (k0_pay3 (F := Ideal) (k0_pay5 (F := Ideal) x2) (dU (F := Ideal) x0 x1 x4)) (ix3 k (x 1) (x 2))) (ix2 i l)
      = a.du i * (if k = 0 then a.x i else a.c i) := by
  pointwise [k0_pay4, pile]
  fin_cases k
  · refine (if_pos rfl).trans ?_
    pointwise [k0_pay2, k0_pay6, val_dU H, H.hx]
  · refine (if_neg (by decide)).trans ?_
    pointwise [k0_pay3, k0_pay5, val_dU H, H.hc]

end Cert.Proof.Shortconv

end
-- ==== Proof.Shortconv.Ref.lean ====
/- The reference's two results read at an index. -/
module

public import proofs.«01_k».proof.Proof.Shortconv.Spec
public import proofs.«01_k».proof.Proof.Gen.Reference9Ideal.Read

@[expose] public section

set_option maxRecDepth 16384

noncomputable section

namespace Cert.Proof.Shortconv

open Idealize.ShloMosaic Cert.Reference9Ideal.Read

variable (x0 : FVec Ideal ⟨2, ![2048, 1024]⟩ .f32) (x1 : FVec Ideal ⟨2, ![2048, 11296]⟩ .f32) (x2 : FVec Ideal ⟨2, ![3, 1024]⟩ .f32)
  (x3 : FVec Ideal ⟨2, ![2048, 11520]⟩ .bf16)

/-- Channel `j` of the arguments: the gates and the input of a channel lie 1024 columns apart in `proj`. -/
def colOf (j : Fin 1024) : Col where
  g i := x1 (ix2 i ⟨j.val, by omega⟩)
  c i := x1 (ix2 i ⟨1024 + j.val, by omega⟩)
  x i := x1 (ix2 i ⟨2048 + j.val, by omega⟩)
  d i := x0 (ix2 i j)
  w0 := x2 (ix2 0 j)
  w1 := x2 (ix2 1 j)
  w2 := x2 (ix2 2 j)

/-- A moved column read at a row: a row of the column, or a zero that entered. -/
theorem back_top (k : ℕ) (f : Fin 2048 → EReal) (i : Fin 2048) (h : i.val < k) : (0 : EReal) = back k f i := by
  unfold back; rw [if_neg (by omega)]
theorem back_row (k : ℕ) (f : Fin 2048 → EReal) (i n : Fin 2048) (h : n.val + k = i.val) : f n = back k f i := by
  unfold back; rw [if_pos (by omega)]
  exact congrArg f (Fin.ext (by show n.val = i.val - k; omega))
theorem ahead_dite (w : EReal) (f : Fin 2048 → EReal) (k : ℕ) (i : Fin 2048) {P : Prop} [Decidable P] (g : P → EReal)
    (hP : P ↔ i.val + k < 2048) (hg : ∀ (h : P) (h' : i.val + k < 2048), g h = f ⟨i.val + k, h'⟩ * w) :
    (if h : P then g h else 0) = w * ahead k f i := by
  unfold ahead
  by_cases h : P
  · rw [dif_pos h, dif_pos (hP.mp h), hg h (hP.mp h), mul_comm]
  · rw [dif_neg h, dif_neg (fun h' => h (hP.mpr h')), mul_zero]

/-- The host's stacking of three rows of sums, zeros below. -/
theorem rows_host (s0 s1 s2 : EReal) (r : Fin 8) :
    (if _h : r.val < 3 then
      ((if _h : 2 ≤ r.val ∧ r.val - 2 < 1 then s2 else 0) + if _h : 1 ≤ r.val ∧ r.val - 1 < 1 then s1 else 0)
        + if _h : r.val < 1 then s0 else 0
    else 0) = if r = 0 then s0 else if r = 1 then s1 else if r = 2 then s2 else 0 := by
  fin_cases r <;> simp

variable (j : Fin 1024)

/-- The convolution's input, and the three rows of the padded input that row `i` reads. -/
theorem u3 (i : Fin 2048) : val_main_v3 (F := Ideal) x1 (ix2 i j) = (colOf x0 x1 x2 j).u i := by
  pointwise [val_main_v3, val_main_v1, val_main_v2]
  rfl

theorem pad7 (i : Fin 2048) : val_main_v7 (F := Ideal) x1 (ix2 i j) = back 2 (colOf x0 x1 x2 j).u i := by
  pointwise [val_main_v7, val_main_v5, val_main_v4, val_main_cst, u3 x0 x1 x2]
  by_cases h : i.val < 2
  · exact (dif_pos h).trans (back_top _ _ i (by omega))
  · exact (dif_neg h).trans (back_row _ _ i _ (by simp only []; omega))

theorem pad13 (i : Fin 2048) : val_main_v13 (F := Ideal) x1 (ix2 i j) = back 1 (colOf x0 x1 x2 j).u i := by
  pointwise [val_main_v13, val_main_v5, val_main_v4, val_main_cst, u3 x0 x1 x2]
  by_cases h : 1 + i.val < 2
  · exact (dif_pos h).trans (back_top _ _ i (by omega))
  · exact (dif_neg h).trans (back_row _ _ i _ (by simp only []; omega))

theorem pad20 (i : Fin 2048) : val_main_v20 (F := Ideal) x1 (ix2 i j) = (colOf x0 x1 x2 j).u i := by
  pointwise [val_main_v20, val_main_v5, val_main_v4, val_main_cst, u3 x0 x1 x2]

/-- The convolution's output, and its cotangent. -/
theorem r26 (i : Fin 2048) : val_main_v26 (F := Ideal) x1 x2 (ix2 i j) = (colOf x0 x1 x2 j).cv i := by
  pointwise [val_main_v26, val_main_v25, val_main_v24, val_main_v23, val_main_v22, val_main_v21, val_main_v19, val_main_v18, val_main_v17,
    val_main_v16, val_main_v15, val_main_v14, val_main_v12, val_main_v11, val_main_v10, val_main_v9, val_main_v8,
    pad7 x0 x1 x2, pad13 x0 x1 x2, pad20 x0 x1 x2]
  exact congrArg₂ _ (congrArg₂ _ (mul_comm _ _) (mul_comm _ _)) (mul_comm _ _)

theorem r28 (i : Fin 2048) : val_main_v28 (F := Ideal) x0 x1 (ix2 i j) = (colOf x0 x1 x2 j).dc i := by
  pointwise [val_main_v28, val_main_v0]
  exact mul_comm _ _

/-- The cotangent of the convolution's input. -/
theorem r62 (i : Fin 2048) : val_main_v62 (F := Ideal) x0 x1 x2 (ix2 i j) = (colOf x0 x1 x2 j).du i := by
  pointwise [val_main_v62, val_main_v60, val_main_v59, val_main_v49, val_main_v48, val_main_v38, val_main_v34, val_main_v33,
    val_main_v43, val_main_v42, val_main_v54, val_main_v53, val_main_cst_4, val_main_cst_8, val_main_cst_12, val_main_v23, val_main_v22,
    val_main_v21, val_main_v16, val_main_v15, val_main_v14, val_main_v10, val_main_v9, val_main_v8, r28 x0 x1 x2]
  exact congrArg₂ (· + ·) (congrArg₂ (· + ·) (mul_comm _ _)
    (ahead_dite _ (colOf x0 x1 x2 j).dc 1 i _ (by omega) fun _ _ => congrArg (fun m => (colOf x0 x1 x2 j).dc m * _) (Fin.ext (by show 2 + i.val - 1 = i.val + 1; omega))))
    (ahead_dite _ (colOf x0 x1 x2 j).dc 2 i _ (by omega) fun _ _ => congrArg (fun m => (colOf x0 x1 x2 j).dc m * _) (Fin.ext (by show 2 + i.val = i.val + 2; omega)))

/-- The taps' gradients, row by row. -/
theorem r71 (r : Fin 8) : val_main_v71 (F := Ideal) x0 x1 (ix2 r j) = (colOf x0 x1 x2 j).gw r := by
  pointwise [val_main_v71, val_main_v70, val_main_cst_13, val_main_v58, val_main_v57, val_main_cst_11, val_main_v56, val_main_v55,
    val_main_cst_10, val_main_v52, val_main_v51, val_main_cst_9, val_main_v50, val_main_v47, val_main_v46, val_main_cst_7, val_main_v45,
    val_main_v44, val_main_cst_6, val_main_v41, val_main_v40, val_main_cst_5, val_main_v39, val_main_v37, val_main_cst_3, val_main_v36,
    val_main_v35, val_main_cst_2, val_main_v32, val_main_v31, val_main_cst_1, val_main_v30, r28 x0 x1 x2, pad7 x0 x1 x2, pad13 x0 x1 x2,
    pad20 x0 x1 x2]
  refine (rows_host _ _ _ r).trans ?_
  simp only [Finset.univ_unique, Finset.sum_singleton, Col.gw, mul_comm]

/-- The reference's shared gradient array: three stretches of 1024 columns, then what the argument held. -/
theorem r69_g (i : Fin 2048) (l : Fin 11520) (h : l.val = j.val) :
    val_main_v69 (F := Ideal) x0 x1 x2 x3 (ix2 i l) = (colOf x0 x1 x2 j).d i * (colOf x0 x1 x2 j).cv i := by
  pointwise [val_main_v69, val_main_v65, val_main_v66, val_main_v67, val_main_v68]
  refine (dif_pos (show l.val < 1024 by omega)).trans ?_
  have e : (⟨l.val, by omega⟩ : Fin 1024) = j := Fin.ext h
  rw [e]
  pointwise [val_main_v29, r26 x0 x1 x2]
  rfl

theorem r69_c (i : Fin 2048) (l : Fin 11520) (h : l.val = 1024 + j.val) :
    val_main_v69 (F := Ideal) x0 x1 x2 x3 (ix2 i l) = (colOf x0 x1 x2 j).du i * (colOf x0 x1 x2 j).x i := by
  pointwise [val_main_v69, val_main_v65, val_main_v66, val_main_v67, val_main_v68]
  refine (dif_neg (show ¬ l.val < 1024 by omega)).trans ((dif_pos (show l.val - 1024 < 1024 by omega)).trans ?_)
  have e : (⟨l.val - 1024, by omega⟩ : Fin 1024) = j := Fin.ext (by show l.val - 1024 = j.val; omega)
  rw [e]
  pointwise [val_main_v64, val_main_v2, r62 x0 x1 x2]
  rfl

theorem r69_x (i : Fin 2048) (l : Fin 11520) (h : l.val = 2048 + j.val) :
    val_main_v69 (F := Ideal) x0 x1 x2 x3 (ix2 i l) = (colOf x0 x1 x2 j).du i * (colOf x0 x1 x2 j).c i := by
  pointwise [val_main_v69, val_main_v65, val_main_v66, val_main_v67, val_main_v68]
  refine (dif_neg (show ¬ l.val < 1024 by omega)).trans ((dif_neg (show ¬ l.val - 1024 < 1024 by omega)).trans
    ((dif_pos (show l.val - 1024 - 1024 < 1024 by omega)).trans ?_))
  have e : (⟨l.val - 1024 - 1024, by omega⟩ : Fin 1024) = j := Fin.ext (by show l.val - 1024 - 1024 = j.val; omega)
  rw [e]
  pointwise [val_main_v63, val_main_v1, r62 x0 x1 x2]
  exact mul_comm _ _

theorem r69_out (i : Fin 2048) (l : Fin 11520) (h : 3072 ≤ l.val) :
    val_main_v69 (F := Ideal) x0 x1 x2 x3 (ix2 i l) = x3 (ix2 i l) := by
  pointwise [val_main_v69, val_main_v65, val_main_v66, val_main_v67, val_main_v68]
  refine (dif_neg (show ¬ l.val < 1024 by omega)).trans ((dif_neg (show ¬ l.val - 1024 < 1024 by omega)).trans
    ((dif_neg (show ¬ l.val - 1024 - 1024 < 1024 by omega)).trans ?_))
  exact congrArg (fun m => x3 (ix2 i m)) (Fin.ext (by show 3072 + (l.val - 1024 - 1024 - 1024) = l.val; omega))

end Cert.Proof.Shortconv

end
-- ==== Proof.Shortconv.Value.lean ====
/- The two arrays the short convolution's gradient leaves, block by block, against the reference's. -/
module

public import proofs.«01_k».proof.Proof.Shortconv.Ref
public import Idealize.ShloMosaic.Lib.Claim
public import Idealize.ShloMosaic.Lib.StableHlo.RunRead

@[expose] public section

set_option maxRecDepth 16384

noncomputable section

namespace Cert.Proof.Shortconv

open Cert.Kernel9Ideal Cert.Kernel9Ideal.Gen Cert.Kernel9Ideal.Hand Idealize.ShloMosaic Idealize.ShloMosaic.TcCoe Idealize.SL.Sem

/-- Which block of its array each window takes at the first point `t` of a column of the grid, -/
theorem idx : ∀ t : Fin grid0.N, win0_0.index t = ![0, t.val / 3] ∧ win0_1.index t = ![0, t.val / 3] ∧ win0_2.index t = ![0, 4 + t.val / 3]
    ∧ win0_3.index t = ![0, 8 + t.val / 3] ∧ win0_4.index t = ![0, t.val / 3] ∧ win0_5.index t = ![0, 4 * (t.val % 3) + t.val / 3]
    ∧ win0_6.index t = ![0, t.val / 3] := by decide +kernel

variable (m : (ℓ : Loc nD τ sig) → Buf (Elt Ideal) ℓ) (c : Dev nD)

/-- The arguments at device `c`. -/
abbrev Ad : FVec Ideal S2048x1024 .f32 := m ((c : Thread nD τ).loc main_arg0)
abbrev Ap : FVec Ideal S2048x11296 .f32 := m ((c : Thread nD τ).loc main_arg1)
abbrev Aw : FVec Ideal S3x1024 .f32 := m ((c : Thread nD τ).loc main_arg2)
abbrev Aq : FVec Ideal S2048x11520 .bf16 := m ((c : Thread nD τ).loc main_arg3)

/-- Channel `l` of point `t`'s block. -/
def chan (t : Fin grid0.N) (l : Fin 256) : Fin 1024 := ⟨256 * (t.val / 3) + l.val, by have := (show t.val < 12 from t.isLt); omega⟩

theorem blk0 (t : Fin grid0.N) (i : Fin 2048) (l : Fin 256) : iblk m c 0 t (ix2 i l) = Ad m c (ix2 i (chan t l)) := by
  unfold chan; blk_ext [iblk, V, idx t]

/-- The packed projection's first columns are `proj`'s. -/
theorem packed (i : Fin 2048) (j : Fin 11520) (h' : j.val < 9216) :
    V m c main_v5 (ix2 i j) = Ap m c (ix2 i ⟨j.val, by omega⟩) := by
  unfold V
  after_reads_simp
  pointwise
  refine (dif_pos h').trans ?_
  after_reads_simp
  pointwise

theorem taps (k : Fin 8) (j : Fin 1024) (h : k.val < 3) : V m c main_v7 (ix2 k j) = Aw m c (ix2 ⟨k.val, h⟩ j) := by
  unfold V
  after_reads_simp
  pointwise
  refine (dif_pos h).trans ?_
  rfl

theorem blk1 (t : Fin grid0.N) (i : Fin 2048) (l : Fin 256) : iblk m c 1 t (ix2 i l) = Ap m c (ix2 i ⟨(chan t l).val, by omega⟩) := by
  refine Eq.trans ?_ (packed m c i ⟨(chan t l).val, by omega⟩ (by show (chan t l).val < 9216; omega))
  show V m c main_v5 _ = _
  congr 1
  blk_ext [idx t, chan]

theorem blk2 (t : Fin grid0.N) (i : Fin 2048) (l : Fin 256) :
    iblk m c 2 t (ix2 i l) = Ap m c (ix2 i ⟨1024 + (chan t l).val, by omega⟩) := by
  refine Eq.trans ?_ (packed m c i ⟨1024 + (chan t l).val, by omega⟩ (by show 1024 + (chan t l).val < 9216; omega))
  show V m c main_v5 _ = _
  congr 1
  blk_ext [idx t, chan]

theorem blk3 (t : Fin grid0.N) (i : Fin 2048) (l : Fin 256) :
    iblk m c 3 t (ix2 i l) = Ap m c (ix2 i ⟨2048 + (chan t l).val, by omega⟩) := by
  refine Eq.trans ?_ (packed m c i ⟨2048 + (chan t l).val, by omega⟩ (by show 2048 + (chan t l).val < 9216; omega))
  show V m c main_v5 _ = _
  congr 1
  blk_ext [idx t, chan]

theorem blk4 (t : Fin grid0.N) (k : Fin 8) (l : Fin 256) (h : k.val < 3) :
    iblk m c 4 t (ix2 k l) = Aw m c (ix2 ⟨k.val, h⟩ (chan t l)) := by
  refine Eq.trans ?_ (taps m c k (chan t l) h)
  show V m c main_v7 _ = V m c main_v7 _
  congr 1
  blk_ext [idx t, chan]

/-- A point's blocks hold its channels. -/
theorem holds (t : Fin grid0.N) (l : Fin 256) :
    Holds (colOf (Ad m c) (Ap m c) (Aw m c) (chan t l)) (iblk m c 0 t) (iblk m c 1 t) (iblk m c 2 t) (iblk m c 3 t) (iblk m c 4 t) l where
  hd i := blk0 m c t i l
  hg i := blk1 m c t i l
  hc i := blk2 m c t i l
  hx i := blk3 m c t i l
  h0 := blk4 m c t 0 l (by decide)
  h1 := blk4 m c t 1 l (by decide)
  h2 := blk4 m c t 2 l (by decide)

/-- A column's first point takes the same channels as every point of it. -/
theorem chan_col (t : Fin grid0.N) (l : Fin 256) : chan (col t.val) l = chan t l := by
  have ht : t.val < 12 := t.isLt
  exact Fin.ext (by show 256 * (3 * (t.val / 3 % 4) / 3) + l.val = 256 * (t.val / 3) + l.val; omega)

/-- What point `t` writes of the shared gradient array is the reference's. -/
theorem rows_val (t : Fin grid0.N) (i : Fin 2048) (l : Fin 256) (n : Fin 11520) (hn : n.val = 1024 * (t.val % 3) + (chan t l).val) :
    rowsAt m c t (ix2 i l) = Cert.Reference9Ideal.Read.val_main_v69 (F := Ideal) (Ad m c) (Ap m c) (Aw m c) (Aq m c) (ix2 i n) := by
  have H := holds m c (col t.val) l
  rw [chan_col] at H
  unfold rowsAt
  by_cases h0 : t.val % 3 = 0
  · rw [if_pos h0, r69_g (Ad m c) (Ap m c) (Aw m c) (Aq m c) (chan t l) i n (by omega)]
    exact val_dB H i
  · rw [if_neg h0]
    refine (val_slab H (slab t.val) i).trans ?_
    by_cases h1 : t.val % 3 = 1
    · rw [r69_c (Ad m c) (Ap m c) (Aw m c) (Aq m c) (chan t l) i n (by omega),
        if_pos (Fin.ext (by show (t.val + 2) % 3 % 2 = 0; omega))]
    · rw [r69_x (Ad m c) (Ap m c) (Aw m c) (Aq m c) (chan t l) i n (by omega),
        if_neg (fun h => by have h : (t.val + 2) % 3 % 2 = 0 := congrArg Fin.val h; omega)]

/-- The shared gradient array: the three stretches of columns written, the others as the argument held them. -/
theorem arr5 : (dats m 0 c).arrAt 5 cfg0.N
    = (Cert.Reference9Ideal.Read.val_main_v69 (F := Ideal) (Ad m c) (Ap m c) (Aw m c) (Aq m c)) := by
  refine (dats m 0 c).arrAt_eq_of_coversWhere_of_agree 5 _ (fun β => β 1 < 12) (by decide +kernel) (fun t hf y => ?_)
    (fun j hj => ?_)
  · blk_simp
    rw [after_rows]
    obtain ⟨i, l, rfl⟩ : ∃ (i : Fin 2048) (l : Fin 256), y = ix2 i l := ⟨y 0, y 1, eq_ix2 y⟩
    have e : (win0_5.blk t).view.emb (ix2 i l) = ix2 i (⟨1024 * (t.val % 3) + (chan t l).val, by omega⟩ : Fin 11520) := by
      unfold chan; blk_ext [idx t]
    rw [e]
    exact rows_val m c t i l _ rfl
  · blk_simp [Pipeline.Window.cell_apply] at hj
    obtain ⟨i, l, rfl⟩ : ∃ (i : Fin 2048) (l : Fin 11520), j = ix2 i l := ⟨j 0, j 1, eq_ix2 j⟩
    refine Eq.trans ?_ (r69_out (Ad m c) (Ap m c) (Aw m c) (Aq m c) i l (by revert hj; show ¬ (l.val / 256 < 12) → _; omega)).symm
    rw [A_eq]
    show V m c main_v8_0 _ = _
    entry_read
    rfl

/-- The taps' gradients. -/
theorem arr6 : (dats m 0 c).arrAt 6 cfg0.N = (Cert.Reference9Ideal.Read.val_main_v71 (F := Ideal) (Ad m c) (Ap m c)) := by
  refine (dats m 0 c).arrAt_eq_of_covers 6 _ (by decide +kernel) fun t hf y => ?_
  blk_simp
  rw [after_taps]
  obtain ⟨a, l, rfl⟩ : ∃ (a : Fin 8) (l : Fin 256), y = ix2 a l := ⟨y 0, y 1, eq_ix2 y⟩
  have e : (win0_6.blk t).view.emb (ix2 a l) = ix2 a (chan t l) := by unfold chan; blk_ext [idx t]
  have H := holds m c (col t.val) l
  rw [chan_col] at H
  rw [e, r71 (Ad m c) (Ap m c) (Aw m c) (chan t l) a]
  exact val_dW H a

end Cert.Proof.Shortconv

end
-- ==== Proof.Shortconv.Pair.lean ====
/- The gated short convolution's gradient and its reference side by side: the frames, and the equality of the results. -/
module

public import proofs.«01_k».proof.Defs
public import proofs.«01_k».proof.Proof.Shortconv.Value
public import proofs.«01_k».proof.Proof.Gen.Kernel9
public import proofs.«01_k».proof.Proof.Gen.Reference9Ideal.Run

@[expose] public section

set_option maxRecDepth 16384

noncomputable section

namespace Cert.Proof.Shortconv

open Idealize.ShloMosaic Idealize.SL.Sem Cert.Reference9Ideal.Read

/-- The idealized kernel leaves its arguments and its semaphores. -/
theorem frameI : Cert.quiescent_Kernel9Ideal (hKernel9Ideal := Cert.Kernel9Ideal.Gen.facts) := fun m ρ _ =>
  Cert.Kernel9Ideal.Hand.frame (F := Ideal) m ρ

section
attribute [local instance] Cert.Kernel9.Gen.facts Cert.Kernel9Ideal.Gen.facts

/-- The program as printed runs the ideal program's body, -/
theorem bodies : Cert.Kernel9.defs₀ (F := Bits) = Cert.Kernel9Ideal.defs₀ (F := Bits) := by
  unfold Cert.Kernel9.defs₀ Cert.Kernel9Ideal.defs₀
  refine congrArg Defs.onTc ?_
  funext x y
  match x, y with
  | 0, (t, s) => rfl
  | ⟨n + 1, h⟩, _ => exact absurd h (by omega)

/-- and so calls the same table, -/
theorem tables : Cert.Kernel9.defs (F := Bits) = Cert.Kernel9Ideal.defs (F := Bits) := by
  unfold Cert.Kernel9.defs Cert.Kernel9Ideal.defs
  rw [bodies]; rfl
end

/-- which leaves its arguments and its semaphores likewise. -/
theorem frameK : Cert.quiescent_Kernel9 (hKernel9 := Cert.Kernel9.Gen.facts) := fun m ρ _ => by
  rw [tables]
  exact Cert.Kernel9Ideal.Hand.frame (F := Bits) m ρ

/-- The reference leaves its arguments; it has no semaphore. -/
theorem frameR : Cert.quiescent_Reference9Ideal (hReference9Ideal := Cert.Reference9Ideal.Gen.facts) := fun m ρ _ =>
  (θ_run _ _ _).mono (fun r h => ⟨fun c => (h c).2.2, sem_eq_zero_of_no_sems (by decide) r.2⟩)
    (Cert.Reference9Ideal.Value.run (F := Ideal) m ρ)

/-- Both programs end with the same two arrays. -/
theorem equal : Cert.algebraic_Kernel9Ideal_Reference9Ideal (hKernel9Ideal := Cert.Kernel9Ideal.Gen.facts)
    (hReference9Ideal := Cert.Reference9Ideal.Gen.facts) := fun m ρ m' ρ' _ hag =>
  ⟨fun c => val_main_v69 (F := Ideal) (Ad m c) (Ap m c) (Aw m c) (Aq m c),
   fun c => val_main_v71 (F := Ideal) (Ad m c) (Ap m c),
   (θ_run _ _ _).mono (fun _ h c => ⟨((h.2 c).1 5).trans (arr5 m c), ((h.2 c).1 6).trans (arr6 m c), h.1.1 c⟩)
     (θ_run_and (Cert.Kernel9Ideal.Hand.frame (F := Ideal) m ρ) (Cert.Kernel9Ideal.Hand.run (F := Ideal) m ρ)),
   (θ_run _ _ _).mono (fun _ h c => by
     obtain ⟨e0, e1, e2, e3⟩ := hag c
     refine ⟨(h c).1.trans ?_, (h c).2.1.trans ?_, (h c).2.2⟩
     · exact (val_main_v69_eq _ _).trans (by congr 1)
     · exact (val_main_v71_eq _ _).trans (by congr 1))
     (Cert.Reference9Ideal.Value.run (F := Ideal) m' ρ')⟩

end Cert.Proof.Shortconv

end
-- ==== Proof.Rmsin.Run.lean ====
module

public import proofs.«01_k».proof.Proof.Gen.Kernel10Ideal.Frame
public import proofs.«01_k».proof.Proof.Gen.Kernel10Ideal.Skeleton
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.VecWindow
public import Idealize.ShloMosaic.Lib.WritesUnit

@[expose] public section

set_option maxRecDepth 16384

noncomputable section

/-! # The first norm's gradient: its body, at one point

The product with w_in is added up over three blocks of columns. The sums of all four blocks of rows stay in one scratch
array; a point adds to its own block of rows, and at the last block of columns the norm's gradient is taken from it. -/

namespace Cert.Kernel10Ideal.Hand

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One block of 512 rows of the scratch array, -/
def blk (k : Vec F S2048x1024 .f32) (b : Fin 4) : Vec F S512x1024 .f32 := fun x =>
  k (ix2 ⟨512 * b.val + (x 0).val, by have h : (x 0).val < 512 := (x 0).isLt; have := b.isLt; omega⟩ (x 1))

/-- and the array with that block replaced. -/
def put (k : Vec F S2048x1024 .f32) (b : Fin 4) (w : Vec F S512x1024 .f32) : Vec F S2048x1024 .f32 := fun y =>
  if (y 0).val / 512 = b.val then w (ix2 ⟨(y 0).val % 512, Nat.mod_lt _ (by decide)⟩ (y 1)) else k y

/-- A replaced block reads as what replaced it, -/
theorem blk_put (k : Vec F S2048x1024 .f32) (b : Fin 4) (w : Vec F S512x1024 .f32) : blk (put k b w) b = w := by
  funext x
  obtain ⟨i, j, rfl⟩ : ∃ i j, x = ix2 i j := ⟨x 0, x 1, by funext d; fin_cases d <;> rfl⟩
  have hi : i.val < 512 := i.isLt
  unfold blk put
  rw [if_pos (by show (512 * b.val + i.val) / 512 = b.val; omega)]
  exact congrArg (fun i' => w (ix2 i' j)) (Fin.ext (by show (512 * b.val + i.val) % 512 = i.val; omega))

/-- another block as before, -/
theorem blk_put_ne (k : Vec F S2048x1024 .f32) (b b' : Fin 4) (h : b' ≠ b) (w : Vec F S512x1024 .f32) : blk (put k b w) b' = blk k b' := by
  funext x
  have hi : (x 0).val < 512 := (x 0).isLt
  unfold blk put
  exact if_neg (by
    show ¬(512 * b'.val + (x 0).val) / 512 = b.val
    intro e; exact h (Fin.ext (by omega)))

/-- and of two replacements the later one counts. -/
theorem put_put (k : Vec F S2048x1024 .f32) (b : Fin 4) (w w' : Vec F S512x1024 .f32) : put (put k b w) b w' = put k b w' := by
  funext y
  unfold put
  by_cases h : (y 0).val / 512 = b.val
  · rw [if_pos h, if_pos h]
  · rw [if_neg h, if_neg h, if_neg h]

/-- A load of 512 rows from row 512·b is that block. -/
theorem ld_blk (k : Vec F S2048x1024 .f32) (b : Fin 4) {off : Fin 2 → ℕ} (inb : ∀ a, off a + S512x1024.size a ≤ S2048x1024.size a)
    (hoff : off = ![512 * b.val, 0]) : View.ld k (Rect.unit (s := S2048x1024) off S512x1024.size inb) = blk k b := by
  subst hoff
  funext x
  refine congrArg k (funext fun d => Fin.ext ?_)
  fin_cases d
  · show 512 * b.val + 1 * (x 0).val = 512 * b.val + (x 0).val; omega
  · show 0 + 1 * (x 1).val = (x 1).val; omega

/-- A store of 512 rows at row 512·b replaces that block. -/
theorem read_put {sig' : RefSig} {κ : Kind} {sp : Space} (v : View sig' κ sp S2048x1024 .f32) (f : v.ty.Contents (Elt F)) (b : Fin 4) {off : Fin 2 → ℕ}
    (inb : ∀ a, off a + S512x1024.size a ≤ S2048x1024.size a) (hoff : off = ![512 * b.val, 0]) (w : Vec F S512x1024 .f32)
    (L : List (View.Piece (Elt F) S2048x1024 .f32)) :
    v.read (Elt F) (v.writes (Elt F) f (⟨Rect.unit (s := S2048x1024) off S512x1024.size inb, w⟩ :: L)) = put (v.read (Elt F) (v.writes (Elt F) f L)) b w := by
  funext y
  have hb := b.isLt
  unfold put
  by_cases h : (y 0).val / 512 = b.val
  · rw [if_pos h]
    refine View.read_writes_cons_unit_of_mem v f (off' := ![512 * b.val, 0]) _ _ _ y (ix2 ⟨(y 0).val % 512, Nat.mod_lt _ (by decide)⟩ (y 1)) hoff fun d => ?_
    fin_cases d
    · show (y 0).val = 512 * b.val + (y 0).val % 512; omega
    · exact (Nat.zero_add _).symm
  · rw [if_neg h]
    refine View.read_writes_cons_unit_of_not_mem v f (off' := ![512 * b.val, 0]) _ _ _ y hoff 0 ?_
    show (y 0).val < 512 * b.val ∨ 512 * b.val + 512 ≤ (y 0).val
    omega

/-- A load of the rows just stored is what was stored. -/
theorem cov_blk {sig' : RefSig} {κ : Kind} {sp : Space} (v : View sig' κ sp S2048x1024 .f32) (b : Fin 4) {off : Fin 2 → ℕ}
    (inb : ∀ a, off a + S512x1024.size a ≤ S2048x1024.size a) (hoff : off = ![512 * b.val, 0]) (w : (Rect.unit (s := S2048x1024) off S512x1024.size inb).shape.Idx → Elt F .f32)
    (L : List (View.Piece (Elt F) S2048x1024 .f32)) :
    v.readCov (⟨Rect.unit (s := S2048x1024) off S512x1024.size inb, w⟩ :: L) (Rect.unit (s := S2048x1024) off S512x1024.size inb).toLoadRect = w := by
  refine (show _ = View.ld (v.read (Elt F) (v.writes (Elt F) v.junk (⟨Rect.unit (s := S2048x1024) off S512x1024.size inb, w⟩ :: L))) (Rect.unit (s := S2048x1024) off S512x1024.size inb) from rfl).trans ?_
  rw [read_put v _ b inb hoff, ld_blk _ b inb hoff, blk_put]

theorem hz2 : (![0, 0] : Fin 2 → ℕ) = fun _ => 0 := by decide

section Body

variable (c : Dev nD) (i : grid0.Coords)
  (arg2 : Memref sig .tc .vmem S512x3840 .bf16) (harg2 : arg2.IsWhole)
  (arg3 : Memref sig .tc .vmem S3840x1024 .bf16) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg8 : Memref sig .tc .vmem S512x1024 .f32) (harg8 : arg8.IsWhole)
  (arg9 : Memref sig .tc .vmem S8x1024 .f32) (harg9 : arg9.IsWhole)
  (arg10 : Memref sig .tc .vmem S2048x1024 .f32) (harg10 : arg10.IsWhole)
  (x0 : Vec F S512x3840 .bf16) (x1 : Vec F S3840x1024 .bf16) (x2 : Vec F S512x1024 .f32) (x3 : Vec F S1x1024 .f32) (x4 : Vec F S512x1024 .f32)

/-- The body with its buffers, at one point. -/
abbrev body : Prog (TpuEff nD τ sig (Elt F) Λ₀ .tc) PUnit :=
  cc0_in_proj_dx i arg2 harg2 arg3 harg3 arg4 harg4 arg5 harg5 arg6 harg6 (Memref.whole main_arg5) (Memref.isWhole_whole _)
    arg8 harg8 arg9 harg9 arg10 harg10

/-- The blocks a point reads, and the three buffers it writes, at these contents. -/
abbrev held (y : Vec F S512x1024 .f32) (g : Vec F S8x1024 .f32) (k : Vec F S2048x1024 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg8 fullShare y
    ∗ owns (c : Thread nD τ) arg9 fullShare g ∗ owns (c : Thread nD τ) arg10 fullShare k)

variable (b : Fin 4) (o : (![BitVec.toNat (Scalar.indexCast (Scalar.muli (BitVec.ofNat 32 (i 1).val) 512#32)), 0] : Fin 2 → ℕ) = ![512 * b.val, 0])
  (y : Vec F S512x1024 .f32) (g : Vec F S8x1024 .f32) (k : Vec F S2048x1024 .f32)

include o

set_option maxHeartbeats 1000000 in
/-- The first point of all sets the weight's gradient and its block of rows to zero first. -/
theorem run_start (h1 : k0_cond1 i = 1#1) (h2 : k0_cond2 i = 1#1) (h3 : ¬k0_cond3 i = 1#1)
    (E : Set ℕ) (K : PUnit → sProp 𝕄) :
    iprop(held c arg2 arg3 arg4 arg5 arg6 arg8 arg9 arg10 x0 x1 x2 x3 x4 y g k
        ∗ (held c arg2 arg3 arg4 arg5 arg6 arg8 arg9 arg10 x0 x1 x2 x3 x4 y k0_pay1
            (put k b (k0_pay3 k0_pay2 x0 x1)) -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_in_proj_dx_eq_skeleton]; unfold cc0_in_proj_dx_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    refine (View.read_writes_full (s := S8x1024) _ _ _ _ _).trans ?_
    sl_unfold_words
    simp only [View.readAt_eq_ld, hf0, hf1, hf2, hf3, hf4, hf6, hfs, View.writes_nil, read_put _ _ b _ o, ld_blk _ b _ o, cov_blk _ b _ o, blk_put, put_put,
      View.ld_unit_zero (S := S512x3840) hz2, View.ld_unit_zero (S := S3840x1024) hz2, View.ld_unit_zero (S := S512x1024) hz2,
      View.ld_unit_zero (S := S1x1024) hz2, View.ld_unit_zero (S := S8x1024) hz2]
    repeat (first | erw [cov_blk _ b _ o] | erw [read_put _ _ b _ o] | erw [ld_blk _ b _ o])
    try simp only [View.writes_nil, hfs, put_put]
  iexists _; isplitr; swap; · iexact HS
  ipureintro
  sl_unfold_words
  simp only [View.readAt_eq_ld, hf0, hf1, hf2, hf3, hf4, hf6, hfs, View.writes_nil, read_put _ _ b _ o, ld_blk _ b _ o, cov_blk _ b _ o, blk_put, put_put,
    View.ld_unit_zero (S := S512x3840) hz2, View.ld_unit_zero (S := S3840x1024) hz2, View.ld_unit_zero (S := S512x1024) hz2,
    View.ld_unit_zero (S := S1x1024) hz2, View.ld_unit_zero (S := S8x1024) hz2]
  repeat (first | erw [cov_blk _ b _ o] | erw [read_put _ _ b _ o] | erw [ld_blk _ b _ o])
  try simp only [View.writes_nil, hfs, put_put]

set_option maxHeartbeats 1000000 in
/-- A point at the first block of columns sets its block of rows to zero first. -/
theorem run_first (h1 : ¬k0_cond1 i = 1#1) (h2 : k0_cond2 i = 1#1) (h3 : ¬k0_cond3 i = 1#1)
    (E : Set ℕ) (K : PUnit → sProp 𝕄) :
    iprop(held c arg2 arg3 arg4 arg5 arg6 arg8 arg9 arg10 x0 x1 x2 x3 x4 y g k
        ∗ (held c arg2 arg3 arg4 arg5 arg6 arg8 arg9 arg10 x0 x1 x2 x3 x4 y g
            (put k b (k0_pay3 k0_pay2 x0 x1)) -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_in_proj_dx_eq_skeleton]; unfold cc0_in_proj_dx_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact HS
  ipureintro
  sl_unfold_words
  simp only [View.readAt_eq_ld, hf0, hf1, hf2, hf3, hf4, hf6, hfs, View.writes_nil, read_put _ _ b _ o, ld_blk _ b _ o, cov_blk _ b _ o, blk_put, put_put,
    View.ld_unit_zero (S := S512x3840) hz2, View.ld_unit_zero (S := S3840x1024) hz2, View.ld_unit_zero (S := S512x1024) hz2,
    View.ld_unit_zero (S := S1x1024) hz2, View.ld_unit_zero (S := S8x1024) hz2]
  repeat (first | erw [cov_blk _ b _ o] | erw [read_put _ _ b _ o] | erw [ld_blk _ b _ o])
  try simp only [View.writes_nil, hfs, put_put]

set_option maxHeartbeats 1000000 in
/-- A point at the second block of columns adds to its block of rows. -/
theorem run_middle (h1 : ¬k0_cond1 i = 1#1) (h2 : ¬k0_cond2 i = 1#1) (h3 : ¬k0_cond3 i = 1#1)
    (E : Set ℕ) (K : PUnit → sProp 𝕄) :
    iprop(held c arg2 arg3 arg4 arg5 arg6 arg8 arg9 arg10 x0 x1 x2 x3 x4 y g k
        ∗ (held c arg2 arg3 arg4 arg5 arg6 arg8 arg9 arg10 x0 x1 x2 x3 x4 y g
            (put k b (k0_pay3 (blk k b) x0 x1)) -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_in_proj_dx_eq_skeleton]; unfold cc0_in_proj_dx_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; swap; · iexact HS
  ipureintro
  sl_unfold_words
  simp only [View.readAt_eq_ld, hf0, hf1, hf2, hf3, hf4, hf6, hfs, View.writes_nil, read_put _ _ b _ o, ld_blk _ b _ o, cov_blk _ b _ o, blk_put, put_put,
    View.ld_unit_zero (S := S512x3840) hz2, View.ld_unit_zero (S := S3840x1024) hz2, View.ld_unit_zero (S := S512x1024) hz2,
    View.ld_unit_zero (S := S1x1024) hz2, View.ld_unit_zero (S := S8x1024) hz2]
  repeat (first | erw [cov_blk _ b _ o] | erw [read_put _ _ b _ o] | erw [ld_blk _ b _ o])
  try simp only [View.writes_nil, hfs, put_put]

set_option maxHeartbeats 1000000 in
/-- A point at the third block of columns adds to its block of rows and takes the norm's gradient from it. -/
theorem run_last (h1 : ¬k0_cond1 i = 1#1) (h2 : ¬k0_cond2 i = 1#1) (h3 : k0_cond3 i = 1#1)
    (E : Set ℕ) (K : PUnit → sProp 𝕄) :
    iprop(held c arg2 arg3 arg4 arg5 arg6 arg8 arg9 arg10 x0 x1 x2 x3 x4 y g k
        ∗ (held c arg2 arg3 arg4 arg5 arg6 arg8 arg9 arg10 x0 x1 x2 x3 x4 (k0_pay7 (k0_pay3 (blk k b) x0 x1) x2 x3 x4) (k0_pay6 (k0_pay3 (blk k b) x0 x1) x2 g)
            (put k b (k0_pay3 (blk k b) x0 x1)) -∗ K ⟨⟩))
      ⊢ wp frame (wpE (defs₀ (F := F)) Variants.none c none) E
          (body i arg2 harg2 arg3 harg3 arg4 harg4 arg5 harg5 arg6 harg6 arg8 harg8 arg9 harg9 arg10 harg10) K := by
  unfold body held
  simp only [cc0_in_proj_dx_eq_skeleton]; unfold cc0_in_proj_dx_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (View.read_writes_full (s := S512x1024) _ _ _ _ _).trans ?_
    sl_unfold_words
    simp only [View.readAt_eq_ld, hf0, hf1, hf2, hf3, hf4, hf6, hfs, View.writes_nil, read_put _ _ b _ o, ld_blk _ b _ o, cov_blk _ b _ o, blk_put, put_put,
      View.ld_unit_zero (S := S512x3840) hz2, View.ld_unit_zero (S := S3840x1024) hz2, View.ld_unit_zero (S := S512x1024) hz2,
      View.ld_unit_zero (S := S1x1024) hz2, View.ld_unit_zero (S := S8x1024) hz2]
    repeat (first | erw [cov_blk _ b _ o] | erw [read_put _ _ b _ o] | erw [ld_blk _ b _ o])
    try simp only [View.writes_nil, hfs, put_put]
  isplitl [H6]
  · iexists _; isplitr; swap; · iexact H6
    ipureintro
    refine (View.read_writes_full (s := S8x1024) _ _ _ _ _).trans ?_
    sl_unfold_words
    simp only [View.readAt_eq_ld, hf0, hf1, hf2, hf3, hf4, hf6, hfs, View.writes_nil, read_put _ _ b _ o, ld_blk _ b _ o, cov_blk _ b _ o, blk_put, put_put,
      View.ld_unit_zero (S := S512x3840) hz2, View.ld_unit_zero (S := S3840x1024) hz2, View.ld_unit_zero (S := S512x1024) hz2,
      View.ld_unit_zero (S := S1x1024) hz2, View.ld_unit_zero (S := S8x1024) hz2]
    repeat (first | erw [cov_blk _ b _ o] | erw [read_put _ _ b _ o] | erw [ld_blk _ b _ o])
    try simp only [View.writes_nil, hfs, put_put]
  iexists _; isplitr; swap; · iexact HS
  ipureintro
  sl_unfold_words
  simp only [View.readAt_eq_ld, hf0, hf1, hf2, hf3, hf4, hf6, hfs, View.writes_nil, read_put _ _ b _ o, ld_blk _ b _ o, cov_blk _ b _ o, blk_put, put_put,
    View.ld_unit_zero (S := S512x3840) hz2, View.ld_unit_zero (S := S3840x1024) hz2, View.ld_unit_zero (S := S512x1024) hz2,
    View.ld_unit_zero (S := S1x1024) hz2, View.ld_unit_zero (S := S8x1024) hz2]
  repeat (first | erw [cov_blk _ b _ o] | erw [read_put _ _ b _ o] | erw [ld_blk _ b _ o])
  try simp only [View.writes_nil, hfs, put_put]

end Body

end Cert.Kernel10Ideal.Hand

end
-- ==== Proof.Rmsin.Frame.lean ====
module

public import proofs.«01_k».proof.Proof.Rmsin.Run
public import Idealize.ShloMosaic.Lib.Pipeline.TableIdle

@[expose] public section

set_option maxRecDepth 16384

noncomputable section

/-! # The first norm's gradient: what every point of the grid leaves

Point 4·p + b adds the p-th block of columns to the b-th block of rows. What the scratch array holds of a block of rows is
its running sum, once a point has touched it; before that nothing is known of it. -/

namespace Cert.Kernel10Ideal.Hand

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The point that adds block `p` of the columns to block `b` of the rows. -/
def pt (p b : ℕ) : Fin cfg0.N := ⟨(4 * p + b) % 12, by have h : cfg0.N = 12 := N_0; omega⟩

theorem pt_of (t : Fin cfg0.N) : pt (t.val / 4) (t.val % 4) = t := by
  have hN : t.val < 12 := lt_of_lt_of_eq t.isLt N_0
  exact Fin.ext (by show (4 * (t.val / 4) + t.val % 4) % 12 = t.val; omega)

/-- The sum of the first `p` blocks of columns, at block `b` of the rows. -/
def acc (b : ℕ) : ℕ → Vec F S512x1024 .f32
  | 0 => k0_pay2
  | p + 1 => k0_pay3 (acc b p) (iblk m c 0 (pt p b)) (iblk m c 1 (pt p b))

/-- The weight's gradient after the first `j` blocks of rows. -/
def gw : ℕ → Vec F S8x1024 .f32
  | 0 => k0_pay1
  | j + 1 => k0_pay6 (acc m c j 3) (iblk m c 2 (pt 2 j)) (gw j)

/-- The argument's gradient at the block of rows of point `t`. -/
def dxAt (t : Fin cfg0.N) : Vec F S512x1024 .f32 :=
  k0_pay7 (acc m c (t.val % 4) 3) (iblk m c 2 t) (iblk m c 3 t) (iblk m c 4 t)

/-- What the scratch array holds after `n` points. -/
def Good (n : ℕ) (k : Vec F S2048x1024 .f32) : Prop :=
  ∀ b : Fin 4, (n + 3 - b.val) / 4 ≠ 0 → blk k b = acc m c b.val ((n + 3 - b.val) / 4)

/-- Point `t` adds one block of columns, whatever its block of rows held if it is its first. -/
theorem good_step (t : Fin cfg0.N) (k : Vec F S2048x1024 .f32) (hk : Good m c t.val k) (b : Fin 4) (hb : b.val = t.val % 4) :
    Good m c (t.val + 1) (put k b (acc m c b.val (t.val / 4 + 1))) := fun b' h => by
  have hN : t.val < 12 := lt_of_lt_of_eq t.isLt N_0
  by_cases e : b' = b
  · subst e
    rw [blk_put, show (t.val + 1 + 3 - b'.val) / 4 = t.val / 4 + 1 from by omega]
  · have he : b'.val ≠ b.val := fun x => e (Fin.ext x)
    have hb' := b'.isLt
    have hs : (t.val + 1 + 3 - b'.val) / 4 = (t.val + 3 - b'.val) / 4 := by omega
    rw [blk_put_ne _ _ _ e, hs, hk b' (by rw [← hs]; exact h)]

/-- At a later block of columns the rows hold the sum so far. -/
theorem good_blk (t : Fin cfg0.N) (k : Vec F S2048x1024 .f32) (hk : Good m c t.val k) (b : Fin 4) (hb : b.val = t.val % 4)
    (h : 4 ≤ t.val) : blk k b = acc m c b.val (t.val / 4) := by
  have e : (t.val + 3 - b.val) / 4 = t.val / 4 := by omega
  rw [hk b (by omega), e]

theorem acc_at (t : Fin cfg0.N) (b : Fin 4) (hb : b.val = t.val % 4) :
    acc m c b.val (t.val / 4 + 1) = k0_pay3 (acc m c b.val (t.val / 4)) (iblk m c 0 t) (iblk m c 1 t) := by
  show k0_pay3 (acc m c b.val (t.val / 4)) (iblk m c 0 (pt (t.val / 4) b.val)) (iblk m c 1 (pt (t.val / 4) b.val)) = _
  rw [hb, pt_of]

/-- Between the points. -/
def inv (n : ℕ) : sProp 𝕄 :=
  iprop((∃ k, owns (c : Thread nD τ) (Memref.whole cc0_scratch0) fullShare k ∗ ⌜Good m c n k⌝) ∗ (∃ r, prngReg c r))

/-- The array's contents before, what each point leaves in every buffer, and what holds between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => gw m c (t.val - 7)
  Φ t := inv m c t.val
  q _ := fullShare
  owed _ := 0

theorem A_eq (w : Fin cfg0.W) : (dats m 0 c).A w = V m c (Pipeline.arrRef spec0 w) := by dsimp only [dats]

theorem after_dx (t : Fin cfg0.N) : (dats m 0 c).after 5 t = dxAt m c t := by dsimp only [dats]
theorem after_gw (t : Fin cfg0.N) : (dats m 0 c).after 6 t = gw m c (t.val - 7) := by dsimp only [dats]

theorem live (w : Fin cfg0.W) (hw : w.val < 5) (t : Fin cfg0.N) : cfg0.idle w (cfg0.grid.coords t) = false := by
  revert w t; decide +kernel

theorem idle_dx (t : Fin cfg0.N) : cfg0.idle 5 (cfg0.grid.coords t) = decide (t.val < 8) := by revert t; decide +kernel
theorem idle_gw (t : Fin cfg0.N) : cfg0.idle 6 (cfg0.grid.coords t) = (decide (t.val < 8) && decide (0 < t.val)) := by
  revert t; decide +kernel
theorem flush_dx (t : Fin cfg0.N) (h : t.val < 8) : (cfg0.win 5).flush t = false := by revert h; revert t; decide +kernel

/-- From the second point on the weight's buffer holds what the point before left. -/
theorem before_gw (t : Fin cfg0.N) (h : t.val ≠ 0) (d) : (dats m 0 c).before 6 t d = gw m c (t.val - 1 - 7) := by
  rw [Dat.before_out_traj (dats m 0 c) 6 rfl (fun _ _ => rfl) (fun t h0 hi hf => by
      rw [after_gw, after_gw]
      have ht : t.val < 8 := by
        rw [idle_gw, Bool.and_eq_true, decide_eq_true_eq, decide_eq_true_eq] at hi; exact hi.1
      rw [show t.val - 7 = t.val - 1 - 7 from by omega]) t.val t rfl d, if_neg, after_gw]
  revert h; revert t; decide +kernel

/-- An input's buffer is handed back as it was. -/
theorem leaves (w : Fin cfg0.W) (hw : w.val < 5) (t : Fin cfg0.N) :
    (dats m 0 c).leavesExact w t = owns (c : Thread nD τ) ((cfg0.win w).stage (cfg0.slots t w)) fullShare ((dats m 0 c).after w t) := by
  unfold Dat.leavesExact; rw [live w hw t]

/-- Before the last block of columns nothing is written of the argument's gradient; -/
theorem leaves_dx_idle (t : Fin cfg0.N) (h : t.val < 8) (d) :
    owns (c : Thread nD τ) ((cfg0.win 5).stage (cfg0.slots t 5)) fullShare ((dats m 0 c).before 5 t d) ⊢ (dats m 0 c).leavesExact 5 t := by
  rw [(dats m 0 c).leavesExact_idle 5 t (by rw [idle_dx]; exact decide_eq_true h) (flush_dx t h)]
  iintro H
  iexists d
  iexact H

/-- from then on a point's block. -/
theorem leaves_dx (t : Fin cfg0.N) (h : 8 ≤ t.val) :
    (dats m 0 c).leavesExact 5 t = owns (c : Thread nD τ) ((cfg0.win 5).stage (cfg0.slots t 5)) fullShare (dxAt m c t) := by
  unfold Dat.leavesExact; rw [idle_dx, decide_eq_false (by omega), after_dx]

/-- The weight's buffer holds the blocks of rows so far at every point, so it may be handed back with these. -/
theorem leaves_gw (t : Fin cfg0.N) :
    owns (c : Thread nD τ) ((cfg0.win 6).stage (cfg0.slots t 6)) fullShare (gw m c (t.val - 7)) ⊢ (dats m 0 c).leavesExact 6 t := by
  have hN : t.val < 12 := lt_of_lt_of_eq t.isLt N_0
  by_cases h : t.val < 8 ∧ 0 < t.val
  · have hf : (cfg0.win 6).flush t = false := by
      rcases hb : (cfg0.win 6).flush t with _ | _
      · rfl
      · exact absurd ((flush0_6 t).mp hb) (by omega)
    rw [(dats m 0 c).leavesExact_idle 6 t (by rw [idle_gw, decide_eq_true h.1, decide_eq_true h.2]; rfl) hf]
    iintro H
    iexists (gw m c (t.val - 7))
    rw [before_gw m c t (by omega), show t.val - 1 - 7 = t.val - 7 from by omega]
    iexact H
  · have hi : cfg0.idle 6 (cfg0.grid.coords t) = false := by
      rw [idle_gw, Bool.and_eq_false_iff, decide_eq_false_iff_not, decide_eq_false_iff_not]; omega
    unfold Dat.leavesExact
    rw [hi, after_gw]

/-- What the launch hands the pipeline is the scratch array at some contents and the generator's register. -/
theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem cond_start (t : Fin cfg0.N) : k0_cond1 (grid0.coords t) = 1#1 ↔ t.val = 0 := by revert t; decide +kernel
theorem cond_first (t : Fin cfg0.N) : k0_cond2 (grid0.coords t) = 1#1 ↔ t.val < 4 := by revert t; decide +kernel
theorem cond_last (t : Fin cfg0.N) : k0_cond3 (grid0.coords t) = 1#1 ↔ 8 ≤ t.val := by revert t; decide +kernel

/-- The block of rows of a point, -/
def rowOf (t : Fin cfg0.N) : Fin 4 := ⟨t.val % 4, Nat.mod_lt _ (by decide)⟩

/-- and where it begins. -/
theorem off_row (t : Fin cfg0.N) :
    (![BitVec.toNat (Scalar.indexCast (Scalar.muli (BitVec.ofNat 32 ((grid0.coords t) 1).val) 512#32)), 0] : Fin 2 → ℕ) = ![512 * (rowOf t).val, 0] := by
  revert t; decide +kernel

/-- What the body is called with at point `t`, -/
def bodyPre (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (t : Fin cfg0.N) : sProp 𝕄 :=
  iprop(inv m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- Whatever is known between two points, the scratch array is there at some contents. -/
theorem inv_forget (n : ℕ) : inv m c n ⊢ (Pipeline.ΦA spec0 c : sProp 𝕄) := by
  rw [start_eq]
  unfold inv
  iintro ⟨⟨%k, HS, -⟩, Hg⟩
  isplitl [HS]
  · iexists _; iexact HS
  iexact Hg

/-- Before the first point nothing need be known. -/
theorem inv_start : (Pipeline.ΦA spec0 c : sProp 𝕄) ⊢ inv m c 0 := by
  rw [start_eq]
  unfold inv
  iintro ⟨⟨%k, HS⟩, Hg⟩
  isplitl [HS]
  · iexists k
    isplitl [HS]; · iexact HS
    ipureintro
    exact fun b h => absurd (show (0 + 3 - b.val) / 4 = 0 by omega) h
  iexact Hg

/-- The body at any point. -/
theorem sound_body (t : Fin cfg0.N) :
    bodyPre m c t ⊢ wp frame (wpE (defs₀ (F := F)) Variants.none c none) Set.univ (bodyAt0 t) (fun _ => bodyPost m c t) := by
  unfold bodyPre bodyPost
  simp only [leaves m c 0 (by decide), leaves m c 1 (by decide), leaves m c 2 (by decide), leaves m c 3 (by decide), leaves m c 4 (by decide),
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl,
    before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t]
  rw [show (dats m 0 c).owesAt () t.succ = (dats m 0 c).owesAt () t.castSucc from rfl]
  have hN : t.val < 12 := lt_of_lt_of_eq t.isLt N_0
  have hb : (rowOf t).val = t.val % 4 := rfl
  unfold inv
  rcases (show t.val = 0 ∨ (0 < t.val ∧ t.val < 4) ∨ (4 ≤ t.val ∧ t.val < 8) ∨ 8 ≤ t.val from by omega) with h | h | h | h
  · iintro ⟨⟨⟨%k, HS, %hk⟩, Hg⟩, Ho, ⟨%d0, H0⟩, ⟨%d1, H1⟩, ⟨%d2, H2⟩, ⟨%d3, H3⟩, ⟨%d4, H4⟩, ⟨%d5, H5⟩, ⟨%d6, H6⟩⟩
    iapply (run_start c (grid0.coords t) _ _ _ _ _ _ _ _ _ _ _ _ _ _ _ _ (iblk m c 0 t) (iblk m c 1 t) (iblk m c 2 t) (iblk m c 3 t) (iblk m c 4 t)
      (rowOf t) (off_row t) ((dats m 0 c).before 5 t d5) ((dats m 0 c).before 6 t d6) k ((cond_start t).mpr h) ((cond_first t).mpr (by omega)) (fun h => absurd ((cond_last t).mp h) (by omega)) Set.univ _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]
      · iexists _
        isplitl [HS]; · iexact HS
        ipureintro
        have := good_step m c t k hk (rowOf t) hb
        rwa [acc_at m c t (rowOf t) hb, show t.val / 4 = 0 from by omega] at this
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_dx_idle m c t (by omega) d5); iexact H5
    iapply (leaves_gw m c t)
    rw [show t.val - 7 = 0 from by omega]
    unfold gw
    iexact H6
  · simp only [before_gw m c t (by omega)]
    iintro ⟨⟨⟨%k, HS, %hk⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (iblk m c 0 t) (iblk m c 1 t) (iblk m c 2 t) (iblk m c 3 t) (iblk m c 4 t)
      (rowOf t) (off_row t) ((dats m 0 c).before 5 t d5) (gw m c (t.val - 1 - 7)) k (fun h => absurd ((cond_start t).mp h) (by omega)) ((cond_first t).mpr (by omega)) (fun h => absurd ((cond_last t).mp h) (by omega)) Set.univ _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]
      · iexists _
        isplitl [HS]; · iexact HS
        ipureintro
        have := good_step m c t k hk (rowOf t) hb
        rwa [acc_at m c t (rowOf t) hb, show t.val / 4 = 0 from by omega] at this
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_dx_idle m c t (by omega) d5); iexact H5
    iapply (leaves_gw m c t)
    rw [show t.val - 7 = t.val - 1 - 7 from by omega]
    iexact H6
  · simp only [before_gw m c t (by omega)]
    iintro ⟨⟨⟨%k, HS, %hk⟩, Hg⟩, Ho, ⟨%d0, H0⟩, ⟨%d1, H1⟩, ⟨%d2, H2⟩, ⟨%d3, H3⟩, ⟨%d4, H4⟩, ⟨%d5, H5⟩, ⟨%d6, H6⟩⟩
    iapply (run_middle c (grid0.coords t) _ _ _ _ _ _ _ _ _ _ _ _ _ _ _ _ (iblk m c 0 t) (iblk m c 1 t) (iblk m c 2 t) (iblk m c 3 t) (iblk m c 4 t)
      (rowOf t) (off_row t) ((dats m 0 c).before 5 t d5) (gw m c (t.val - 1 - 7)) k (fun h => absurd ((cond_start t).mp h) (by omega)) (fun h => absurd ((cond_first t).mp h) (by omega)) (fun h => absurd ((cond_last t).mp h) (by omega)) Set.univ _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]
      · iexists _
        isplitl [HS]; · iexact HS
        ipureintro
        have := good_step m c t k hk (rowOf t) hb
        rwa [acc_at m c t (rowOf t) hb, ← good_blk m c t k hk (rowOf t) hb (by omega)] at this
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_dx_idle m c t (by omega) d5); iexact H5
    iapply (leaves_gw m c t)
    rw [show t.val - 7 = t.val - 1 - 7 from by omega]
    iexact H6
  · simp only [before_gw m c t (by omega)]
    have hp : t.val / 4 = 2 := by omega
    have ha (k : Vec F S2048x1024 .f32) (hk : Good m c t.val k) : k0_pay3 (blk k (rowOf t)) (iblk m c 0 t) (iblk m c 1 t) = acc m c (t.val % 4) 3 := by
      rw [good_blk m c t k hk (rowOf t) hb (by omega), ← acc_at m c t (rowOf t) hb, hp]; rfl
    have hg : gw m c (t.val - 7) = k0_pay6 (acc m c (t.val % 4) 3) (iblk m c 2 t) (gw m c (t.val - 1 - 7)) := by
      have e : t.val - 1 - 7 = t.val % 4 := by omega
      have e2 : pt 2 (t.val % 4) = t := by rw [← hp]; exact pt_of t
      rw [show t.val - 7 = (t.val - 1 - 7) + 1 from by omega, e]
      show k0_pay6 (acc m c (t.val % 4) 3) (iblk m c 2 (pt 2 (t.val % 4))) (gw m c (t.val % 4)) = _
      rw [e2]
    iintro ⟨⟨⟨%k, HS, %hk⟩, Hg⟩, Ho, ⟨%d0, H0⟩, ⟨%d1, H1⟩, ⟨%d2, H2⟩, ⟨%d3, H3⟩, ⟨%d4, H4⟩, ⟨%d5, H5⟩, ⟨%d6, H6⟩⟩
    iapply (run_last c (grid0.coords t) _ _ _ _ _ _ _ _ _ _ _ _ _ _ _ _ (iblk m c 0 t) (iblk m c 1 t) (iblk m c 2 t) (iblk m c 3 t) (iblk m c 4 t)
      (rowOf t) (off_row t) ((dats m 0 c).before 5 t d5) (gw m c (t.val - 1 - 7)) k (fun h => absurd ((cond_start t).mp h) (by omega)) (fun h => absurd ((cond_first t).mp h) (by omega)) ((cond_last t).mpr (by omega)) Set.univ _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]
      · iexists _
        isplitl [HS]; · iexact HS
        ipureintro
        have := good_step m c t k hk (rowOf t) hb
        rwa [acc_at m c t (rowOf t) hb, ← good_blk m c t k hk (rowOf t) hb (by omega)] at this
      iexact Hg
    isplitl [Ho]; · iexact Ho
    isplitl [H0]; · iexact H0
    isplitl [H1]; · iexact H1
    isplitl [H2]; · iexact H2
    isplitl [H3]; · iexact H3
    isplitl [H4]; · iexact H4
    isplitl [H5]; · rw [leaves_dx m c t h]; unfold dxAt; rw [← ha k hk]; iexact H5
    iapply (leaves_gw m c t)
    rw [hg, ← ha k hk]
    iexact H6

/-- The body's name at point `t`'s buffers is the body. -/
theorem body_row (t : Fin cfg0.N) : defs₀ (F := F) .tc cfg0.body (cfg0.bodyArgs t (cfg0.slots t)) = bodyAt0 t := by
  unfold defs₀; rw [Defs.onTc_tc]

/-- Every point of the pipeline is sound. -/
theorem sound : BodyObligation (dats (F := F) m 0 c) (defs₀ (F := F)) Variants.none () Set.univ := fun t => by
  rw [bigSep_W0, bigSep_W0, body_row]
  exact triple_restated (sound_body m c t) rfl .rfl fun _ => .rfl

theorem hin : Pipeline.ΦA spec0 c ⊢ (dats m 0 c).Φ 0 := inv_start m c

theorem hout : (dats m 0 c).Φ (Fin.last cfg0.N) ⊢ Pipeline.ΦA spec0 c :=
  inv_forget m c (Fin.last cfg0.N).val

set_option backward.isDefEq.respectTransparency.types false in
/-- The kernel ends with every array at what the points wrote back, and with its semaphores at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (sound m c).loose) (hshare := fun c => (dats m 0 c).share_full fun _ => rfl)
    (howed := fun _ _ => rfl) (V := V m) (hmain := hmain m Variants.none) (hA := A_eq m) (hin := hin m) (hout := hout m)

/-- The same without the semaphores. -/
theorem run : θ_run defs (onTc (τ := τ) (main (F := F))) (s₀ m ρ) (Pipeline.FramePost cfgs (dats m) 0 (V m)) :=
  (θ_run defs _ _).mono (fun _ h => h.1) (run_quiet m ρ)

/-- The kernel's arguments are unchanged and its semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Kernel10Ideal.Hand

end
-- ==== Proof.Rmsin.Columns.lean ====
/- The projection's columns in the order in which the kernels keep them: the heads' raw time steps last, then zeros. -/
module

public import Idealize.ShloMosaic.Lib.Pointwise

@[expose] public section

set_option maxRecDepth 16384

noncomputable section

namespace Cert.Proof.Rmsin

/-- A row of the projection in the kernels' order of columns. -/
def spread (f : Fin 11296 → EReal) (n : Fin 11520) : EReal :=
  if h : n.val < 9216 then f ⟨n.val, by omega⟩
  else if h : n.val < 11264 then f ⟨n.val + 32, by omega⟩
  else if h : n.val < 11296 then f ⟨n.val - 2048, by omega⟩
  else 0

/-- A row at a natural number, zero past its end. -/
def past (f : Fin 11296 → EReal) (n : ℕ) : EReal := if h : n < 11296 then f ⟨n, h⟩ else 0

theorem spread_past (f : Fin 11296 → EReal) (n : Fin 11520) : spread f n =
    if n.val < 9216 then past f n.val else if n.val < 11264 then past f (n.val + 32)
    else if n.val < 11296 then past f (n.val - 2048) else 0 := by
  unfold spread past
  split_ifs <;> first | rfl | omega

/-- A sum does not see the order, -/
theorem sum_one (f : Fin 11296 → EReal) : ∑ n : Fin 11520, spread f n = ∑ n : Fin 11296, f n := by
  have l : ∑ n : Fin 11296, f n = ∑ n ∈ Finset.range 11296, past f n := by
    rw [← Fin.sum_univ_eq_sum_range]
    exact Finset.sum_congr rfl fun n _ => by unfold past; rw [dif_pos n.isLt]
  have r : ∑ n : Fin 11520, spread f n = ∑ n ∈ Finset.range 11520,
      if n < 9216 then past f n else if n < 11264 then past f (n + 32) else if n < 11296 then past f (n - 2048) else 0 := by
    rw [← Fin.sum_univ_eq_sum_range]
    exact Finset.sum_congr rfl fun n _ => spread_past f n
  rw [l, r, show 11520 = 9216 + 2048 + 32 + 224 from rfl, show 11296 = 9216 + 32 + 2048 from rfl]
  rw [Finset.sum_range_add, Finset.sum_range_add, Finset.sum_range_add, Finset.sum_range_add, Finset.sum_range_add]
  have h1 : ∀ n ∈ Finset.range 9216, (if n < 9216 then past f n else if n < 11264 then past f (n + 32)
      else if n < 9216 + 32 + 2048 then past f (n - 2048) else 0) = past f n := fun n h => if_pos (Finset.mem_range.mp h)
  have h2 : ∀ n ∈ Finset.range 2048, (if 9216 + n < 9216 then past f (9216 + n) else if 9216 + n < 11264 then past f (9216 + n + 32)
      else if 9216 + n < 9216 + 32 + 2048 then past f (9216 + n - 2048) else 0) = past f (9216 + 32 + n) := fun n h => by
    have := Finset.mem_range.mp h
    rw [if_neg (by omega), if_pos (by omega)]; exact congrArg (past f) (by omega)
  have h3 : ∀ n ∈ Finset.range 32, (if 9216 + 2048 + n < 9216 then past f (9216 + 2048 + n)
      else if 9216 + 2048 + n < 11264 then past f (9216 + 2048 + n + 32)
      else if 9216 + 2048 + n < 9216 + 32 + 2048 then past f (9216 + 2048 + n - 2048) else 0) = past f (9216 + n) := fun n h => by
    have := Finset.mem_range.mp h
    rw [if_neg (by omega), if_neg (by omega), if_pos (by omega)]; exact congrArg (past f) (by omega)
  have h4 : ∀ n ∈ Finset.range 224, (if 9216 + 2048 + 32 + n < 9216 then past f (9216 + 2048 + 32 + n)
      else if 9216 + 2048 + 32 + n < 11264 then past f (9216 + 2048 + 32 + n + 32)
      else if 9216 + 2048 + 32 + n < 9216 + 32 + 2048 then past f (9216 + 2048 + 32 + n - 2048) else 0) = 0 := fun n h => by
    rw [if_neg (by omega), if_neg (by omega), if_neg (by omega)]
  rw [Finset.sum_congr rfl h1, Finset.sum_congr rfl h2, Finset.sum_congr rfl h3, Finset.sum_congr rfl h4, Finset.sum_const_zero,
    add_zero]
  exact add_right_comm _ _ _

/-- and neither does one of products. -/
theorem sum_spread (f g : Fin 11296 → EReal) : ∑ n : Fin 11520, spread f n * spread g n = ∑ n : Fin 11296, f n * g n := by
  rw [← sum_one]
  refine Finset.sum_congr rfl fun n _ => ?_
  unfold spread
  split_ifs <;> first | rfl | exact zero_mul _

end Cert.Proof.Rmsin

end
-- ==== Proof.Rmsin.Value.lean ====
/- The two arrays that the first norm's gradient, fused with its product, leaves, block by block, against the reference's. -/
module

public import proofs.«01_k».proof.Proof.Common.Norm
public import proofs.«01_k».proof.Proof.Rmsin.Frame
public import proofs.«01_k».proof.Proof.Rmsin.Columns
public import proofs.«01_k».proof.Proof.Gen.Reference10Ideal.Read
public import proofs.«01_k».proof.Proof.Gen.Pre_finite_rmsin
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Rmsin

open Cert.Kernel10Ideal Cert.Kernel10Ideal.Gen Cert.Kernel10Ideal.Hand Idealize.ShloMosaic Idealize.ShloMosaic.TcCoe
  Idealize.SL.Sem Cert.Proof.Common

/-- Which block of its array each window takes at point `t`: rows `t % 4`, columns `t / 4` of the product's operands; -/
theorem idx : ∀ t : Fin grid0.N, win0_0.index t = ![t.val % 4, t.val / 4] ∧ win0_1.index t = ![t.val / 4, 0]
    ∧ win0_3.index t = ![0, 0] ∧ win0_6.index t = ![0, 0] := by decide +kernel

/-- and during the last block of columns, the block of rows of everything else. -/
theorem idx_last : ∀ t : Fin grid0.N, 8 ≤ t.val → win0_2.index t = ![t.val % 4, 0] ∧ win0_4.index t = ![t.val % 4, 0]
    ∧ win0_5.index t = ![t.val % 4, 0] := by decide +kernel

variable (m : (ℓ : Loc nD τ sig) → Buf (Elt Ideal) ℓ) (c : Dev nD)

/-- The arguments at device `c`. -/
abbrev Ad : FVec Ideal S2048x11296 .f32 := m ((c : Thread nD τ).loc main_arg0)
abbrev Aw : FVec Ideal S1024x11296 .f32 := m ((c : Thread nD τ).loc main_arg1)
abbrev Ax : FVec Ideal S2048x1024 .f32 := m ((c : Thread nD τ).loc main_arg2)
abbrev An : FVec Ideal S1024 .f32 := m ((c : Thread nD τ).loc main_arg3)
abbrev Ag : FVec Ideal S2048x1024 .f32 := m ((c : Thread nD τ).loc main_arg4)

/-- Row `r` of block `b`. -/
def row (b : ℕ) (r : Fin 512) : Fin 2048 := ⟨512 * (b % 4) + r.val, by omega⟩

/-- The product's left operand: the cotangent with its columns reordered, -/
theorem left (i : Fin 2048) (j : Fin 11520) : V m c main_v10 (ix2 i j) = spread (fun n => Ad m c (ix2 i n)) j := by
  unfold V
  after_reads_simp
  pointwise
  unfold spread
  by_cases h1 : j.val < 9216
  · simp only [dif_pos h1]
    after_reads_simp
    pointwise
  simp only [dif_neg h1]
  by_cases h2 : j.val < 11264
  · rw [dif_pos (show j.val - 9216 < 2048 by omega), dif_pos h2]
    after_reads_simp
    pointwise
    simp only [show 9248 + (j.val - 9216) = j.val + 32 by omega]
  rw [dif_neg (show ¬j.val - 9216 < 2048 by omega), dif_neg h2]
  by_cases h3 : j.val < 11296
  · rw [dif_pos (show j.val - 9216 - 2048 < 32 by omega), dif_pos h3]
    after_reads_simp
    pointwise
    simp only [show 9216 + (j.val - 9216 - 2048) = j.val - 2048 by omega]
  rw [dif_neg (show ¬j.val - 9216 - 2048 < 32 by omega), dif_neg h3]
  after_reads_simp
  pointwise

/-- and its right one: the weight likewise, transposed. -/
theorem right (l : Fin 1024) (j : Fin 11520) : V m c main_v12 (ix2 j l) = spread (fun n => Aw m c (ix2 l n)) j := by
  unfold V
  after_reads_simp
  pointwise
  unfold spread
  by_cases h1 : j.val < 9216
  · simp only [dif_pos h1]
    after_reads_simp
    pointwise
  simp only [dif_neg h1]
  by_cases h2 : j.val < 11264
  · rw [dif_pos (show j.val - 9216 < 2048 by omega), dif_pos h2]
    after_reads_simp
    pointwise
    simp only [show 9248 + (j.val - 9216) = j.val + 32 by omega]
  rw [dif_neg (show ¬j.val - 9216 < 2048 by omega), dif_neg h2]
  by_cases h3 : j.val < 11296
  · rw [dif_pos (show j.val - 9216 - 2048 < 32 by omega), dif_pos h3]
    after_reads_simp
    pointwise
    simp only [show 9216 + (j.val - 9216 - 2048) = j.val - 2048 by omega]
  rw [dif_neg (show ¬j.val - 9216 - 2048 < 32 by omega), dif_neg h3]
  after_reads_simp
  pointwise

/-- Column `l` of the `p`-th block of columns. -/
def col (p : ℕ) (l : Fin 3840) : Fin 11520 := ⟨3840 * (p % 3) + l.val, by omega⟩

theorem blk0 (p b : ℕ) (hp : p < 3) (hb : b < 4) (r : Fin 512) (l : Fin 3840) :
    iblk m c 0 (pt p b) (ix2 r l) = spread (fun n => Ad m c (ix2 (row b r) n)) (col p l) := by
  refine Eq.trans ?_ (left m c (row b r) (col p l))
  show V m c main_v10 _ = _
  congr 1
  have e : (pt p b).val = 4 * p + b := by show (4 * p + b) % 12 = _; omega
  unfold row col
  blk_ext [idx (pt p b), e]
theorem blk1 (p b : ℕ) (hp : p < 3) (hb : b < 4) (l : Fin 1024) (j : Fin 3840) :
    iblk m c 1 (pt p b) (ix2 j l) = spread (fun n => Aw m c (ix2 l n)) (col p j) := by
  refine Eq.trans ?_ (right m c l (col p j))
  show V m c main_v12 _ = _
  congr 1
  have e : (pt p b).val = 4 * p + b := by show (4 * p + b) % 12 = _; omega
  unfold col
  blk_ext [idx (pt p b), e]
theorem blk2 (t : Fin grid0.N) (ht : 8 ≤ t.val) (r : Fin 512) (l : Fin 1024) :
    iblk m c 2 t (ix2 r l) = Ax m c (ix2 (row t.val r) l) := by
  unfold row; blk_ext [iblk, V, idx_last t ht]
theorem blk3 (t : Fin grid0.N) (l : Fin 1024) : iblk m c 3 t (ix2 0 l) = An m c (ix1 l) := by
  blk_ext! [iblk, V, idx t]
theorem blk4 (t : Fin grid0.N) (ht : 8 ≤ t.val) (r : Fin 512) (l : Fin 1024) :
    iblk m c 4 t (ix2 r l) = Ag m c (ix2 (row t.val r) l) := by
  unfold row; blk_ext [iblk, V, idx_last t ht]

/-- The length of a row. -/
abbrev N : EReal := Ideal.ofBits .f32 0x44800000#32

section Forms

variable (d : FVec Ideal S2048x11296 .f32) (w : FVec Ideal S1024x11296 .f32) (x : FVec Ideal S2048x1024 .f32) (v : FVec Ideal S1024 .f32)
  (g : FVec Ideal S2048x1024 .f32)

/-- The product's gradient with respect to its normed operand, the norm's weight multiplied in, and a row of `x`. -/
def back (i : Fin 2048) (l : Fin 1024) : EReal := ∑ n : Fin 11296, d (ix2 i n) * w (ix2 l n)
def weighted (i : Fin 2048) (l : Fin 1024) : EReal := back d w i l * v (ix1 l)
def line (i : Fin 2048) (l : Fin 1024) : EReal := x (ix2 i l)

open Cert.Reference10Ideal.Read

theorem r38 (i : Fin 2048) (l : Fin 1024) : val_main_v38 (F := Ideal) d w x v g (ix2 i l)
    = g (ix2 i l) + weighted d w v i l * rs N (line x i) + line x i l * meanTerm N (line x i) (weighted d w v i)
      + meanTerm N (line x i) (weighted d w v i) * line x i l := by
  unfold meanTerm rs line weighted back
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v17, val_main_v13, val_main_v10, val_main_v9, val_main_v8, val_main_v7, val_main_v6, val_main_v5, val_main_v4,
    val_main_v3, val_main_v2, val_main_v1, val_main_v0, val_main_cst, val_main_cst_0, val_main_cst_1, val_main_cst_2, val_main_cst_5,
    val_main_cst_6, val_main_cst_7]
  simp only [Fin.sum_univ_one]

theorem r40 (a : Fin 8) (l : Fin 1024) : val_main_v40 (F := Ideal) d w x (ix2 a l)
    = ∑ i : Fin 2048, back d w i l * (line x i l * rs N (line x i)) := by
  unfold rs line back
  pointwise [val_main_v40, val_main_v39, val_main_v23, val_main_v20, val_main_v19, val_main_v18, val_main_v12, val_main_v11, val_main_v17, val_main_v7, val_main_v6, val_main_v5, val_main_v4,
    val_main_v3, val_main_v2, val_main_v1, val_main_v0, val_main_cst, val_main_cst_0, val_main_cst_1, val_main_cst_3, val_main_cst_4]
  rw [Fin.sum_univ_one]
  exact Finset.sum_congr rfl fun _ _ => mul_comm _ _

end Forms

/-- One block of columns' share of the product. -/
theorem pay3 (a : FVec Ideal S512x1024 .f32) (p b : ℕ) (hp : p < 3) (hb : b < 4) (r : Fin 512) (l : Fin 1024) :
    k0_pay3 a (iblk m c 0 (pt p b)) (iblk m c 1 (pt p b)) (ix2 r l) = a (ix2 r l)
      + ∑ j : Fin 3840, spread (fun n => Ad m c (ix2 (row b r) n)) (col p j) * spread (fun n => Aw m c (ix2 l n)) (col p j) := by
  have b0 := blk0 m c p b hp hb
  have b1 := blk1 m c p b hp hb
  generalize iblk m c 0 (pt p b) = x0 at *
  generalize iblk m c 1 (pt p b) = x1 at *
  pointwise [k0_pay3, b0, b1]

/-- All three blocks of columns make the whole product. -/
theorem acc_all (b : ℕ) (hb : b < 4) (r : Fin 512) (l : Fin 1024) :
    acc m c b 3 (ix2 r l) = back (Ad m c) (Aw m c) (row b r) l := by
  have e0 : acc m c b 0 (ix2 r l) = 0 := by unfold acc; pointwise [k0_pay2]
  have e (p : ℕ) (hp : p < 3) := pay3 m c (acc m c b p) p b hp hb r l
  have s (p : ℕ) : acc m c b (p + 1) = k0_pay3 (acc m c b p) (iblk m c 0 (pt p b)) (iblk m c 1 (pt p b)) := rfl
  rw [s, e 2 (by decide), s, e 1 (by decide), s, e 0 (by decide), e0, zero_add]
  unfold back
  rw [← sum_spread]
  refine Eq.trans ?_ (Fin.sum_univ_tiles 3 3840 (by decide) _).symm
  rw [Fin.sum_univ_three]
  rfl

/-- The payloads at an index. -/
theorem pay7 (t : Fin cfg0.N) (ht : 8 ≤ t.val) (r : Fin 512) (l : Fin 1024) : dxAt m c t (ix2 r l)
    = Ag m c (ix2 (row t.val r) l) + byHand N (line (Ax m c) (row t.val r)) (weighted (Ad m c) (Aw m c) (An m c) (row t.val r)) l := by
  unfold byHand rs line weighted dxAt
  have a (r : Fin 512) (l : Fin 1024) : acc m c (t.val % 4) 3 (ix2 r l) = back (Ad m c) (Aw m c) (row t.val r) l := by
    rw [acc_all m c _ (by omega)]
    unfold row
    simp only [Nat.mod_mod]
  have b2 := blk2 m c t ht
  have b3 := blk3 m c t
  have b4 := blk4 m c t ht
  generalize acc m c (t.val % 4) 3 = x0 at *
  generalize iblk m c 2 t = x2 at *
  generalize iblk m c 3 t = x3 at *
  generalize iblk m c 4 t = x4 at *
  pointwise [k0_pay7, k0_pay4, k0_pay5, a, b2, b3, b4]

/-- The weight's gradient's sum over the rows of block `b`, at a column. -/
def term (b : ℕ) (l : Fin 1024) : EReal :=
  ∑ r : Fin 512, back (Ad m c) (Aw m c) (row b r) l * (line (Ax m c) (row b r) l * rs N (line (Ax m c) (row b r)))

theorem pay6 (b : ℕ) (hb : b < 4) (o : FVec Ideal S8x1024 .f32) (a : Fin 8) (l : Fin 1024) :
    k0_pay6 (acc m c b 3) (iblk m c 2 (pt 2 b)) o (ix2 a l) = o (ix2 a l) + term m c b l := by
  unfold term rs line
  have e : (pt 2 b).val = 8 + b := by show (4 * 2 + b) % 12 = _; omega
  have a0 := acc_all m c b hb
  have b2 (r : Fin 512) (l : Fin 1024) : iblk m c 2 (pt 2 b) (ix2 r l) = Ax m c (ix2 (row b r) l) := by
    rw [blk2 m c (pt 2 b) (by omega), e]
    unfold row
    simp only [show (8 + b) % 4 = b % 4 by omega]
  generalize acc m c b 3 = x0 at *
  generalize iblk m c 2 (pt 2 b) = x2 at *
  pointwise [k0_pay6, k0_pay4, k0_pay5, a0, b2]

theorem gw_all (a : Fin 8) (l : Fin 1024) : gw m c 4 (ix2 a l) = ∑ b : Fin 4, term m c b.val l := by
  have e0 : gw m c 0 (ix2 a l) = 0 := by unfold gw; pointwise [k0_pay1]
  have s (b : ℕ) (hb : b < 4) : gw m c (b + 1) (ix2 a l) = gw m c b (ix2 a l) + term m c b l := pay6 m c b hb _ a l
  rw [s 3 (by decide), s 2 (by decide), s 1 (by decide), s 0 (by decide), e0, zero_add, Fin.sum_univ_four]
  rfl

/-- The norm's weight's gradient. -/
theorem arr6 : (dats m 0 c).arrAt 6 cfg0.N = (Cert.Reference10Ideal.Read.val_main_v40 (F := Ideal) (Ad m c) (Aw m c) (Ax m c)) := by
  refine (dats m 0 c).arrAt_eq_of_covers 6 _ (by decide +kernel) fun t hf y => ?_
  blk_simp
  rw [after_gw]
  obtain ⟨a, l, rfl⟩ : ∃ (a : Fin 8) (l : Fin 1024), y = ix2 a l := ⟨y 0, y 1, eq_ix2 y⟩
  have e : (win0_6.blk t).view.emb (ix2 a l) = ix2 a l := by blk_ext [idx t]
  have ht : t.val = 11 := by have := (flush0_6 t).mp hf; have : t.val < 12 := t.isLt; omega
  rw [e, r40, ht]
  refine (gw_all m c a l).trans ?_
  refine Eq.trans ?_ (Fin.sum_univ_tiles 4 512 (by decide) _).symm
  refine Finset.sum_congr rfl fun s _ => ?_
  unfold term
  refine Finset.sum_congr rfl fun r _ => ?_
  have e : row s.val r = ⟨s.val * 512 + r.val, by omega⟩ :=
    Fin.ext (by show 512 * (s.val % 4) + r.val = s.val * 512 + r.val; omega)
  rw [e]

variable {m c}

section Finite

variable {d : FVec Ideal S2048x11296 .f32} {w : FVec Ideal S1024x11296 .f32} {x : FVec Ideal S2048x1024 .f32} {v : FVec Ideal S1024 .f32}
  {g : FVec Ideal S2048x1024 .f32} {o : FVec Ideal S8x128 .bf16} (H : Cert.Pre_finite_rmsin.fn (F := Ideal) d w x v g o = fun _ => 1#1)
include H

/-- What the precondition says at an index. -/
theorem said (i : Fin 2048) (n : Fin 11296) : IsReal (d (ix2 i n)) ∧ (∀ h : i.val < 1024, IsReal (w (ix2 ⟨i.val, h⟩ n)))
    ∧ ∀ h : n.val < 1024, IsReal (x (ix2 i ⟨n.val, h⟩)) ∧ IsReal (v (ix1 ⟨n.val, h⟩)) := by
  have H := congrFun H (ix2 i n)
  pointwise [Cert.Pre_finite_rmsin.fn, Cert.Pre_finite_rmsin.fn_part1] at H
  simp only [IntOp.andi_eq_one] at H
  obtain ⟨⟨hd, hw⟩, hx⟩ := H
  refine ⟨.of_abs_lt _ hd, fun h => ?_, fun h => ?_⟩
  · rw [dif_pos h] at hw; exact .of_abs_lt _ hw
  · rw [dif_pos h] at hx
    simp only [IntOp.andi_eq_one] at hx
    exact ⟨.of_abs_lt _ hx.1, .of_abs_lt _ hx.2⟩

/-- Real rows of `x` and of the weighted product. -/
theorem reals (i : Fin 2048) : (∀ l, IsReal (line x i l)) ∧ ∀ l, IsReal (weighted d w v i l) :=
  ⟨fun l => ((said H i ⟨l.val, by omega⟩).2.2 l.isLt).1,
   fun l => (IsReal.sum fun n => (said H i n).1.mul ((said H ⟨l.val, by omega⟩ n).2.1 l.isLt)).mul
     ((said H i ⟨l.val, by omega⟩).2.2 l.isLt).2⟩

end Finite

/-- The gradient of `x`, added to what came before. -/
theorem arr5 (H : ∀ i, (∀ l, IsReal (line (Ax m c) i l)) ∧ ∀ l, IsReal (weighted (Ad m c) (Aw m c) (An m c) i l)) :
    (dats m 0 c).arrAt 5 cfg0.N
    = (Cert.Reference10Ideal.Read.val_main_v38 (F := Ideal) (Ad m c) (Aw m c) (Ax m c) (An m c) (Ag m c)) := by
  refine (dats m 0 c).arrAt_eq_of_covers 5 _ (by decide +kernel) fun t hf y => ?_
  blk_simp
  rw [after_dx]
  have ht : 8 ≤ t.val := by
    by_contra h
    have h := flush_dx t (by omega)
    exact absurd hf (by simpa using h)
  obtain ⟨r, l, rfl⟩ : ∃ (r : Fin 512) (l : Fin 1024), y = ix2 r l := ⟨y 0, y 1, eq_ix2 y⟩
  have e : (win0_5.blk t).view.emb (ix2 r l) = ix2 (row t.val r) l := by unfold row; blk_ext [idx_last t ht]
  rw [e, r38]
  refine (pay7 m c t ht r l).trans ?_
  rw [norm_grad word_1024 (by norm_num) (H (row t.val r)).1 (H (row t.val r)).2, add_assoc, add_assoc, add_assoc]

end Cert.Proof.Rmsin

end
-- ==== Proof.Rmsin.Pair.lean ====
/- The first norm's gradient, fused with its product, and its reference side by side: the frames, and the equality of the results. -/
module

public import proofs.«01_k».proof.Defs
public import proofs.«01_k».proof.Proof.Rmsin.Value
public import proofs.«01_k».proof.Proof.Gen.Kernel10
public import proofs.«01_k».proof.Proof.Gen.Reference10Ideal.Run

@[expose] public section

set_option maxRecDepth 16384

noncomputable section

namespace Cert.Proof.Rmsin

open Idealize.ShloMosaic Idealize.SL.Sem Cert.Reference10Ideal.Read

/-- The idealized kernel leaves its arguments and its semaphores. -/
theorem frameI : Cert.quiescent_Kernel10Ideal (hKernel10Ideal := Cert.Kernel10Ideal.Gen.facts) := fun m ρ _ =>
  Cert.Kernel10Ideal.Hand.frame (F := Ideal) m ρ

section
attribute [local instance] Cert.Kernel10.Gen.facts Cert.Kernel10Ideal.Gen.facts

/-- The program as printed runs the ideal program's body, -/
theorem bodies : Cert.Kernel10.defs₀ (F := Bits) = Cert.Kernel10Ideal.defs₀ (F := Bits) := by
  unfold Cert.Kernel10.defs₀ Cert.Kernel10Ideal.defs₀
  refine congrArg Defs.onTc ?_
  funext x y
  match x, y with
  | 0, (t, s) => rfl
  | ⟨n + 1, h⟩, _ => exact absurd h (by omega)

/-- and so calls the same table, -/
theorem tables : Cert.Kernel10.defs (F := Bits) = Cert.Kernel10Ideal.defs (F := Bits) := by
  unfold Cert.Kernel10.defs Cert.Kernel10Ideal.defs
  rw [bodies]; rfl
end

/-- which leaves its arguments and its semaphores likewise. -/
theorem frameK : Cert.quiescent_Kernel10 (hKernel10 := Cert.Kernel10.Gen.facts) := fun m ρ _ => by
  rw [tables]
  exact Cert.Kernel10Ideal.Hand.frame (F := Bits) m ρ

/-- The reference leaves its arguments; it has no semaphore. -/
theorem frameR : Cert.quiescent_Reference10Ideal (hReference10Ideal := Cert.Reference10Ideal.Gen.facts) := fun m ρ _ =>
  (θ_run _ _ _).mono (fun r h => ⟨fun c => (h c).2.2, sem_eq_zero_of_no_sems (by decide) r.2⟩)
    (Cert.Reference10Ideal.Value.run (F := Ideal) m ρ)

/-- On finite arguments both programs end with the same two arrays. -/
theorem equal : Cert.algebraic_Kernel10Ideal_Reference10Ideal_pre_finite_rmsin (hKernel10Ideal := Cert.Kernel10Ideal.Gen.facts)
    (hReference10Ideal := Cert.Reference10Ideal.Gen.facts) (hPre_finite_rmsin := Cert.Pre_finite_rmsin.Gen.facts) :=
  fun m ρ m' ρ' hpre hag =>
  ⟨fun c => val_main_v38 (F := Ideal) (Ad m c) (Aw m c) (Ax m c) (An m c) (Ag m c),
   fun c => val_main_v40 (F := Ideal) (Ad m c) (Aw m c) (Ax m c),
   (θ_run _ _ _).mono (fun _ h c => ⟨((h.2 c).1 5).trans (arr5 (reals (g := Ag m c) (hpre c))),
       ((h.2 c).1 6).trans (arr6 m c), h.1.1 c⟩)
     (θ_run_and (Cert.Kernel10Ideal.Hand.frame (F := Ideal) m ρ) (Cert.Kernel10Ideal.Hand.run (F := Ideal) m ρ)),
   (θ_run _ _ _).mono (fun _ h c => by
     obtain ⟨e0, e1, e2, e3, e4, e5⟩ := hag c
     refine ⟨(h c).1.trans ?_, (h c).2.1.trans ?_, (h c).2.2⟩
     · rw [val_main_v38_eq, e0, e1, e2, e3, e4]
     · rw [val_main_v40_eq, e0, e1, e2])
     (Cert.Reference10Ideal.Value.run (F := Ideal) m' ρ')⟩

end Cert.Proof.Rmsin

end
-- ==== Proof.SsdFwd.Spec.lean ====
/- The chunked scan as formulas of its arguments, which may be infinite: nothing here needs a finite number. -/
module

public import proofs.«01_k».proof.Proof.Ssd.Spec

@[expose] public section

noncomputable section

namespace Cert.Proof.SsdFwd

open Idealize.ShloMosaic Cert.Proof.Ssd

/-- The arguments: the convolved `x`, `B`, `C` side by side, the step's raw values, their bias, the rates' logarithms, and the
    skip weights. -/
structure In where
  X : Fin 2048 → Fin 4096 → EReal
  T : Fin 2048 → Fin 32 → EReal
  bi : Fin 32 → EReal
  al : Fin 32 → EReal
  D : Fin 32 → EReal

/-- The five arrays as such arguments. -/
def ofArrays (x : FVec Ideal ⟨2, ![2048, 4096]⟩ .f32) (t : FVec Ideal ⟨2, ![2048, 32]⟩ .f32) (b al d : FVec Ideal ⟨1, ![32]⟩ .f32) : In :=
  ⟨fun i j => x (ix2 i j), fun i h => t (ix2 i h), fun h => b (ix1 h), fun h => al (ix1 h), fun h => d (ix1 h)⟩

namespace In

variable (k : In)

/-- The step, the softplus of its raw value with its bias. -/
def dt (i : Fin 2048) (h : Fin 32) : EReal :=
  max (k.T i h + k.bi h) 0 + Ideal.log1p (Ideal.exp (-FloatOps.absf (F := Ideal) (φ := .f32) (k.T i h + k.bi h)))

/-- The sum of the decays of a chunk's rows up to row `i`. -/
def cs (q : Fin 16) (i : Fin 128) (h : Fin 32) : EReal := ∑ j, if j ≤ i then k.dt (row q j) h * -Ideal.exp (k.al h) else 0

/-- The decay from row `j` to row `i`, and from row `j` to the chunk's end. -/
def l (q : Fin 16) (h : Fin 32) (i j : Fin 128) : EReal := Ideal.exp (if j ≤ i then k.cs q i h - k.cs q j h else ⊥)
def dec (q : Fin 16) (h : Fin 32) (j : Fin 128) : EReal := Ideal.exp (k.cs q 127 h - k.cs q j h)

/-- The products of the rows of `C` and of `B`. -/
def g (q : Fin 16) (a : Fin 8) (i j : Fin 128) : EReal := ∑ n, k.X (row q i) (ccol a n) * k.X (row q j) (bcol a n)

/-- What chunk `q` adds to the state. -/
def add (q : Fin 16) (a : Fin 8) (n : Fin 128) (r : Fin 4) (p : Fin 64) : EReal :=
  ∑ j, k.X (row q j) (bcol a n) * (k.X (row q j) (xcol a r p) * k.dt (row q j) (head a r) * k.dec q (head a r) j)

/-- The state after `m` chunks. -/
def S : ℕ → Fin 8 → Fin 128 → Fin 4 → Fin 64 → EReal
  | 0, _, _, _, _ => 0
  | m + 1, a, n, r, p => Ideal.exp (k.cs (Args.nth m) 127 (head a r)) * S m a n r p + k.add (Args.nth m) a n r p

/-- The output: the state entering the chunk, the input itself, and the rows of the chunk up to row `i`. -/
def y (q : Fin 16) (i : Fin 128) (a : Fin 8) (r : Fin 4) (p : Fin 64) : EReal :=
  (∑ n, k.X (row q i) (ccol a n) * k.S q.val a n r p) * Ideal.exp (k.cs q i (head a r)) + k.D (head a r) * k.X (row q i) (xcol a r p)
    + ∑ j, k.g q a i j * k.l q (head a r) i j * (k.X (row q j) (xcol a r p) * k.dt (row q j) (head a r))

theorem S_succ (q : Fin 16) (a : Fin 8) (n : Fin 128) (r : Fin 4) (p : Fin 64) :
    k.S (q.val + 1) a n r p = Ideal.exp (k.cs q 127 (head a r)) * k.S q.val a n r p + k.add q a n r p := by
  rw [S, Args.nth_val]

end In

end Cert.Proof.SsdFwd

end
-- ==== Proof.SsdFwd.Host.lean ====
/- The steps, the running sums and the vectors, as the scan's launch reads them, and what each of its windows holds. -/
module

public import Idealize.ShloMosaic.Lib.Pointwise
public import Idealize.ShloMosaic.Lib.Claim
public import Idealize.ShloMosaic.Lib.Pipeline.ValueKit
public import Idealize.ShloMosaic.Lib.StableHlo.RunRead
public import proofs.«01_k».proof.Proof.Gen.Kernel11Ideal.Value
public import proofs.«01_k».proof.Proof.SsdFwd.Spec
public import proofs.«01_k».proof.Proof.Ssd.Reads
public import proofs.«01_k».proof.Proof.Ssd.Cumsum

@[expose] public section

set_option maxRecDepth 16384

noncomputable section

namespace Cert.Proof.SsdFwd

open Cert.Kernel11Ideal Cert.Kernel11Ideal.Gen Cert.Kernel11Ideal.Value Idealize.ShloMosaic Idealize.ShloMosaic.TcCoe
open Cert.Proof.Ssd (row head lane cumsum3)

variable (m : (ℓ : Loc nD τ sig) → Buf (Elt Ideal) ℓ) (c : Dev nD)

/-- The arguments at device `c`. -/
abbrev Ax : FVec Ideal S2048x4096 .f32 := m ((c : Thread nD τ).loc main_arg0)
abbrev At : FVec Ideal S2048x32 .f32 := m ((c : Thread nD τ).loc main_arg1)
abbrev Ab : FVec Ideal S32 .f32 := m ((c : Thread nD τ).loc main_arg2)
abbrev Al : FVec Ideal S32 .f32 := m ((c : Thread nD τ).loc main_arg3)
abbrev Ad : FVec Ideal S32 .f32 := m ((c : Thread nD τ).loc main_arg4)
def args : In := ofArrays (Ax m c) (At m c) (Ab m c) (Al m c) (Ad m c)

/-- The buffers after the lines up to the running sums' argument, and after the running sums. -/
def W1 : Valuation τ sig (Elt Ideal) := StableHlo.after hostOps0 (fun b => m (c, b))
def W2 : Valuation τ sig (Elt Ideal) := StableHlo.after hostOps0_1 (W1 m c)

theorem V_eq (b : Ref sig .tc) : V m c b = StableHlo.after hostOps0_2 (W2 m c) b := by
  unfold W2 W1
  rw [← StableHlo.after_append, ← StableHlo.after_append]
  rfl

/-- The buffers read below, at their shapes. -/
abbrev dt1 : FVec Ideal S2048x32 .f32 := W1 m c main_v15
abbrev da1 : FVec Ideal S16x128x32 .f32 := W1 m c main_v21
abbrev vec1 : FVec Ideal S8x8x128 .f32 := W1 m c main_v5
abbrev cs2 : FVec Ideal S16x128x32 .f32 := W2 m c main_v22
abbrev dtV : FVec Ideal S8x2048x128 .f32 := V m c main_v25
abbrev csV : FVec Ideal S8x2048x128 .f32 := V m c main_v29
abbrev vecV : FVec Ideal S8x8x128 .f32 := V m c main_v5

theorem w1_dt (t : Fin 2048) (h : Fin 32) : dt1 m c (ix2 t h) = (args m c).dt t h := by
  have e : dt1 m c (ix2 t h) = max (At m c (ix2 t h) + Ab m c (ix1 h)) 0
      + Ideal.log1p (Ideal.exp (-FloatOps.absf (F := Ideal) (φ := .f32) (At m c (ix2 t h) + Ab m c (ix1 h)))) := by
    unfold dt1 W1
    after_reads_simp
    pointwise
  exact e

theorem w1_da (t : Fin 16) (i) (h : Fin 32) : da1 m c (ix3 t i h) = (args m c).dt (row t i) h * -Ideal.exp (Al m c (ix1 h)) := by
  rw [← w1_dt]
  unfold da1 dt1 W1 row
  after_reads_simp
  pointwise

theorem w1_vec1 (g : Fin 8) (r : Fin 4) : vec1 m c (ix3 g 1 (lane r)) = Ad m c (ix1 (head g r)) := by
  unfold vec1 W1 head lane
  after_reads_simp
  pointwise
  after_reads_simp
  pointwise

theorem w2_cs (t : Fin 16) (i) (h : Fin 32) : cs2 m c (ix3 t i h) = (args m c).cs t i h := by
  unfold cs2 W2
  after_reads_simp
  refine Eq.trans (cumsum3 (da1 m c) _ _ h_S_ ?_ t i h) ?_
  · show Ideal.ofBits .f32 0#32 = 0
    simp [Ideal.ofBits, Ideal.ieee]
  · exact Finset.sum_congr rfl fun j _ => congrArg (fun e => if j ≤ i then e else 0) (w1_da m c t j h)

theorem v_dt (g : Fin 8) (t : Fin 2048) (r : Fin 4) : dtV m c (ix3 g t (lane r)) = (args m c).dt t (head g r) := by
  have e := w1_dt m c
  unfold dt1 at e
  unfold dtV
  rw [V_eq]
  unfold W2
  generalize W1 m c = W at *
  unfold lane
  after_reads_simp
  pointwise
  exact e t (head g r)

theorem v_cs (g : Fin 8) (t : Fin 16) (i) (r : Fin 4) : csV m c (ix3 g (row t i) (lane r)) = (args m c).cs t i (head g r) := by
  have e := w2_cs m c
  unfold cs2 at e
  unfold csV
  rw [V_eq]
  generalize W2 m c = W at *
  unfold lane row
  after_reads_simp
  pointwise
  refine (dif_pos (by omega)).trans ?_
  exact e t i (head g r)

theorem v_vec : vecV m c = vec1 m c := by
  unfold vecV
  rw [V_eq]
  unfold W2
  after_reads_simp

/-- Which block of its array each window takes at point `t`. -/
theorem idx : ∀ t : Fin grid0.N, win0_0.index t = ![t.val, 0] ∧ win0_1.index t = ![t.val, 2]
    ∧ win0_2.index t = ![t.val, 3] ∧ win0_3.index t = ![0, t.val, 0] ∧ win0_4.index t = ![0, t.val, 0]
    ∧ win0_5.index t = ![0, 0, 0] ∧ win0_6.index t = ![t.val, 0] ∧ win0_7.index t = ![0, t.val, 0, 0] := by decide +kernel

/-- The chunk of a point. -/
def at' (t : Fin grid0.N) : Fin 16 := ⟨t.val, t.isLt⟩

theorem blk0 (t : Fin grid0.N) (i : Fin 128) (j : Fin 2048) :
    iblk m c 0 t (ix2 i j) = Ax m c (ix2 (row (at' t) i) ⟨j.val, by omega⟩) := by
  unfold row at'; blk_ext [iblk, V, idx t]

theorem blk1 (t : Fin grid0.N) (i : Fin 128) (j : Fin 1024) :
    iblk m c 1 t (ix2 i j) = Ax m c (ix2 (row (at' t) i) ⟨2048 + j.val, by omega⟩) := by
  unfold row at'; blk_ext [iblk, V, idx t]

theorem blk2 (t : Fin grid0.N) (i : Fin 128) (j : Fin 1024) :
    iblk m c 2 t (ix2 i j) = Ax m c (ix2 (row (at' t) i) ⟨3072 + j.val, by omega⟩) := by
  unfold row at'; blk_ext [iblk, V, idx t]

theorem blk3 (t : Fin grid0.N) (g : Fin 8) (i l : Fin 128) :
    iblk m c 3 t (ix3 g i l) = dtV m c (ix3 g (row (at' t) i) l) := by
  unfold dtV iblk row at'
  generalize V m c main_v25 = A
  blk_ext [idx t]

theorem blk4 (t : Fin grid0.N) (g : Fin 8) (i l : Fin 128) :
    iblk m c 4 t (ix3 g i l) = csV m c (ix3 g (row (at' t) i) l) := by
  unfold csV iblk row at'
  generalize V m c main_v29 = A
  blk_ext [idx t]

theorem blk5 (t : Fin grid0.N) (g i : Fin 8) (l : Fin 128) :
    iblk m c 5 t (ix3 g i l) = vecV m c (ix3 g i l) := by
  unfold vecV iblk
  generalize V m c main_v5 = A
  blk_ext [idx t]

end Cert.Proof.SsdFwd

end
-- ==== Proof.SsdFwd.Ops.lean ====
/- One group of heads in one chunk of the scan: what the body stores for the group, of the group's slices of its input
   blocks, and its value at an index. -/
module

public import proofs.«01_k».proof.Proof.Gen.Kernel11Ideal.Frame
public import proofs.«01_k».proof.Proof.Ssd.Reads

@[expose] public section

set_option maxRecDepth 16384

noncomputable section

namespace Cert.Proof.SsdFwd

open Cert.Kernel11Ideal Cert.Kernel11Ideal.Gen Idealize.ShloMosaic Idealize.ShloMosaic.TcCoe Idealize.SL.Sem
open Cert.Proof.Ssd (z32 colsQ cols expand expand8 skipRow lastRow ecs dec elast mmBM mmWide decays tri mAll lane0 lane1 lane2 lane3 col blk lane
  expand_apply expand8_apply tri_cmp stack4_apply col_cmp)

section Ops
variable {F : FTy → Type} [FloatOps F]

/-- The four heads' matrices times the weighted inputs, one below the other. -/
def ydAll (dt cs b c : FVec F S128x128 .f32) (x : FVec F S128x256 .f32) : FVec F S512x256 .f32 :=
  matmul dot_S512x128_S128x256_S512x256_1_0_0_1_n_n none (mAll cs b c) (truncf .bf16 (mulf x (expand dt)) bitsLt_bf16_f32)
    (constant S512x256 .f32 0x00000000#32)

/-- One head's columns, zero elsewhere. -/
def keep (lo hi : BitVec 32) (v : FVec F S128x256 .f32) : FVec F S128x256 .f32 := select (colsQ lo hi) v (broadcast S128x256 z32)

/-- The output of the group. -/
def yG (dt cs b c : FVec F S128x128 .f32) (vv : FVec F S8x128 .f32) (x s : FVec F S128x256 .f32) : FVec F S128x256 .f32 :=
  addf (addf (addf (addf (addf (mulf (mmWide c s) (ecs cs)) (mulf (broadcastTo S128x256 (skipRow vv) broadcasts_S1x256_S128x256) x))
    (keep 0#32 64#32 (extractStridedSlice S128x256 ![0, 0] (ydAll dt cs b c x) slices_S512x256_o0_0_S128x256)))
    (keep 64#32 128#32 (extractStridedSlice S128x256 ![128, 0] (ydAll dt cs b c x) slices_S512x256_o128_0_S128x256)))
    (keep 128#32 192#32 (extractStridedSlice S128x256 ![256, 0] (ydAll dt cs b c x) slices_S512x256_o256_0_S128x256)))
    (keep 192#32 256#32 (extractStridedSlice S128x256 ![384, 0] (ydAll dt cs b c x) slices_S512x256_o384_0_S128x256))

/-- The state the group leaves. -/
def sG (dt cs b : FVec F S128x128 .f32) (x s : FVec F S128x256 .f32) : FVec F S128x256 .f32 :=
  addf (mulf (broadcastTo S128x256 (elast cs) broadcasts_S1x256_S128x256) s)
    (matmul dot_S128x128_S128x256_S128x256_0_0_1_1_n_n none (truncf .bf16 b bitsLt_bf16_f32)
      (truncf .bf16 (mulf (mulf x (expand dt)) (dec cs)) bitsLt_bf16_f32) (constant S128x256 .f32 0x00000000#32))

end Ops

variable (dt cs b c : FVec Ideal S128x128 .f32) (vv : FVec Ideal S8x128 .f32) (x s : FVec Ideal S128x256 .f32)

theorem decays_at (w : FVec Ideal S128x1 .f32) (i j : Fin 128) :
    decays w (ix2 i j) = Ideal.exp (if j ≤ i then w (ix2 i 0) - w (ix2 j 0) else ⊥) := by
  pointwise [decays, tri]
  rw [tri_cmp]
  split
  · rfl
  · have e : Ideal.ofBits FTy.f32 4286578688#32 = ⊥ := by simp [Ideal.ofBits, Ideal.ieee]
    rw [e]; rfl

/-- Head `r`'s matrix at an index. -/
def mE (cs b c : FVec Ideal S128x128 .f32) (r : Fin 4) (i j : Fin 128) : EReal :=
  (∑ n : Fin 128, c (ix2 i n) * b (ix2 j n)) * Ideal.exp (if j ≤ i then cs (ix2 i (lane r)) - cs (ix2 j (lane r)) else ⊥)

theorem mAll_at (r : Fin 4) (i j : Fin 128) : mAll cs b c (ix2 (blk r i) j) = mE cs b c r i j := by
  refine (stack4_apply _ _ _ _ r i j).trans ?_
  unfold mE
  match r with
  | 0 => pointwise [mmBM, decays_at, lane0]; rfl
  | 1 => pointwise [mmBM, decays_at, lane1]; rfl
  | 2 => pointwise [mmBM, decays_at, lane2]; rfl
  | 3 => pointwise [mmBM, decays_at, lane3]; rfl

theorem ydAll_at (q : Fin 4) (i : Fin 128) (r : Fin 4) (p : Fin 64) :
    ydAll dt cs b c x (ix2 (blk q i) (col r p)) = ∑ j : Fin 128, mE cs b c q i j * (x (ix2 j (col r p)) * dt (ix2 j (lane r))) := by
  pointwise [ydAll]
  simp only [mAll_at, expand_apply]

theorem yG_at (i : Fin 128) (r : Fin 4) (p : Fin 64) : yG dt cs b c vv x s (ix2 i (col r p))
    = (∑ n : Fin 128, c (ix2 i n) * s (ix2 n (col r p))) * Ideal.exp (cs (ix2 i (lane r))) + vv (ix2 1 (lane r)) * x (ix2 i (col r p))
      + ∑ j : Fin 128, mE cs b c r i j * (x (ix2 j (col r p)) * dt (ix2 j (lane r))) := by
  obtain ⟨e0, e1, e2, e3⟩ := col_cmp r p
  have e (a : Fin 4) (q : Fin 512) (hq : q.val = 128 * a.val + i.val) : ydAll dt cs b c x (ix2 q (col r p))
      = ∑ j : Fin 128, mE cs b c a i j * (x (ix2 j (col r p)) * dt (ix2 j (lane r))) := by
    rw [show q = blk a i from Fin.ext hq]; exact ydAll_at dt cs b c x a i r p
  pointwise [yG, keep, colsQ, cols, mmWide, ecs, skipRow]
  rw [e0, e1, e2, e3, e 0, e 1, e 2, e 3, expand_apply, expand8_apply]
  · fin_cases r <;> simp [Scalar.select]
  all_goals simp

theorem sG_at (n : Fin 128) (r : Fin 4) (p : Fin 64) : sG dt cs b x s (ix2 n (col r p))
    = Ideal.exp (cs (ix2 127 (lane r))) * s (ix2 n (col r p))
      + ∑ j : Fin 128, b (ix2 j n) * (x (ix2 j (col r p)) * dt (ix2 j (lane r)) * Ideal.exp (cs (ix2 127 (lane r)) - cs (ix2 j (lane r)))) := by
  pointwise [sG, elast, lastRow, dec]
  simp only [expand_apply]

end Cert.Proof.SsdFwd

end
-- ==== Proof.SsdFwd.Body.lean ====
/- What the body leaves at a point of the scan's grid: the first point finds a zero state, a later one the state left before. -/
module

public import proofs.«01_k».proof.Proof.SsdFwd.Ops
public import proofs.«01_k».proof.Proof.Ssd.Body
public import proofs.«01_k».proof.Proof.Gen.Kernel11Ideal.Value

@[expose] public section

set_option maxRecDepth 16384

noncomputable section

namespace Cert.Proof.SsdFwd

open Cert.Kernel11Ideal Cert.Kernel11Ideal.Gen Cert.Kernel11Ideal.Value Idealize.ShloMosaic Idealize.ShloMosaic.TcCoe Idealize.SL.Sem
open Cert.Proof.Ssd (sl3 slv sld slw sln beside256 beside256_piece canon_ds)

variable {F : FTy → Type} [FloatOps F]

/-- Eight states, with an axis of length one for the chunk. -/
def stackOf {α : Type} (f : Fin 8 → S128x256.Idx → α) : S8x1x128x256.Idx → α := fun y => f (y 0) (ix2 (y 2) (y 3))

theorem stackOf_piece {α : Type} (f : Fin 8 → S128x256.Idx → α) (g : Fin 8) (hc : S128x256.ShapeCasts S1x1x128x256)
    (x : S1x1x128x256.Idx) (y : S8x1x128x256.Idx) (h0 : (y 0 : ℕ) = g.val + (x 0 : ℕ)) (h2 : (y 2 : ℕ) = (x 2 : ℕ))
    (h3 : (y 3 : ℕ) = (x 3 : ℕ)) : shapeCast S1x1x128x256 (f g) hc x = stackOf f y := by
  have x0 : (x 0 : ℕ) < 1 := (x 0).isLt
  have x1 : (x 1 : ℕ) < 1 := (x 1).isLt
  unfold stackOf
  rw [show y 0 = g from Fin.ext (by omega)]
  refine shapeCast_apply _ _ _ _ ?_
  rw [Shape.rowMajor_val_four, Shape.rowMajor_val_two]
  simp [ix2]
  omega

/-- What group `g` stores: its output and the state it leaves. -/
def yF (x0 : Vec F S128x2048 .f32) (x1 x2 : Vec F S128x1024 .f32) (x3 x4 : Vec F S8x128x128 .f32) (x5 : Vec F S8x8x128 .f32)
    (st : Vec F S8x128x256 .f32) (g : Fin 8) : Vec F S128x256 .f32 :=
  yG (sl3 x3 g) (sl3 x4 g) (sln x1 g) (sln x2 g) (slv x5 g) (slw x0 g) (sld st g)
def sF (x0 : Vec F S128x2048 .f32) (x1 : Vec F S128x1024 .f32) (x3 x4 : Vec F S8x128x128 .f32) (st : Vec F S8x128x256 .f32) (g : Fin 8) :
    Vec F S128x256 .f32 :=
  sG (sl3 x3 g) (sl3 x4 g) (sln x1 g) (slw x0 g) (sld st g)

variable (c : Dev nD) (i : grid0.Coords)
  (arg2 : Memref sig .tc .vmem S128x2048 .f32) (harg2 : arg2.IsWhole) (arg3 : Memref sig .tc .vmem S128x1024 .f32) (harg3 : arg3.IsWhole)
  (arg4 : Memref sig .tc .vmem S128x1024 .f32) (harg4 : arg4.IsWhole) (arg5 : Memref sig .tc .vmem S8x128x128 .f32) (harg5 : arg5.IsWhole)
  (arg6 : Memref sig .tc .vmem S8x128x128 .f32) (harg6 : arg6.IsWhole) (arg7 : Memref sig .tc .vmem S8x8x128 .f32) (harg7 : arg7.IsWhole)
  (arg8 : Memref sig .tc .vmem S128x2048 .f32) (harg8 : arg8.IsWhole) (arg9 : Memref sig .tc .vmem S8x1x128x256 .f32) (harg9 : arg9.IsWhole)
  (arg10 : Memref sig .tc .vmem S8x128x256 .f32) (harg10 : arg10.IsWhole)
  (x0 : Vec F S128x2048 .f32) (x1 x2 : Vec F S128x1024 .f32) (x3 x4 : Vec F S8x128x128 .f32) (x5 : Vec F S8x8x128 .f32)
  (xs0 : Vec F S8x128x256 .f32)

/-- The output stored at a later point. -/
theorem out_B_y (hc) : out0_B_6 c i arg2 harg2 arg3 harg3 arg4 harg4 arg5 harg5 arg6 harg6 arg7 harg7 arg8 harg8 arg9 harg9 arg10 harg10 hc x0 x1 x2 x3 x4 x5 xs0 = beside256 (yF x0 x1 x2 x3 x4 x5 xs0) := by
  unfold out0_B_6
  rw [View.read_writes_eq_canon _ _ _ (cover0_B_6 c i arg2 harg2 arg3 harg3 arg4 harg4 arg5 harg5 arg6 harg6 arg7 harg7 arg8 harg8 arg9 harg9 arg10 harg10 hc x0 x1 x2 x3 x4 x5 xs0)]
  unfold kernelRun0_B
  dsimp only
  sl_unfold_words
  simp only [View.readAt_eq_ld, harg2.read_unread, harg3.read_unread, harg4.read_unread, harg5.read_unread, harg6.read_unread, harg7.read_unread,
    harg10.read_unread]
  funext y
  have P := beside256_piece (yF x0 x1 x2 x3 x4 x5 xs0)
  canon_tiles x h
  exacts [P 7 x y h0 h1, P 6 x y h0 h1, P 5 x y h0 h1, P 4 x y h0 h1, P 3 x y h0 h1, P 2 x y h0 h1, P 1 x y h0 h1, P 0 x y h0 (by simpa using h1)]

/-- The states entering the chunk, stored at a later point. -/
theorem out_B_s (hc) : out0_B_7 c i arg2 harg2 arg3 harg3 arg4 harg4 arg5 harg5 arg6 harg6 arg7 harg7 arg8 harg8 arg9 harg9 arg10 harg10 hc x0 x1 x2 x3 x4 x5 xs0 = stackOf (sld xs0) := by
  unfold out0_B_7
  rw [View.read_writes_eq_canon _ _ _ (cover0_B_7 c i arg2 harg2 arg3 harg3 arg4 harg4 arg5 harg5 arg6 harg6 arg7 harg7 arg8 harg8 arg9 harg9 arg10 harg10 hc x0 x1 x2 x3 x4 x5 xs0)]
  unfold kernelRun0_B
  dsimp only
  sl_unfold_words
  simp only [View.readAt_eq_ld, harg2.read_unread, harg3.read_unread, harg4.read_unread, harg5.read_unread, harg6.read_unread, harg7.read_unread,
    harg10.read_unread]
  funext y
  have P := fun g => stackOf_piece (sld xs0) g shapeCasts_S128x256_S1x1x128x256
  canon_tiles x h
  exacts [P 7 x y h0 h2 h3, P 6 x y h0 h2 h3, P 5 x y h0 h2 h3, P 4 x y h0 h2 h3, P 3 x y h0 h2 h3, P 2 x y h0 h2 h3, P 1 x y h0 h2 h3, P 0 x y (by simpa using h0) h2 h3]

/-- The state left at a later point. -/
theorem out_B_st (hc) : sout0_B_0 c i arg2 harg2 arg3 harg3 arg4 harg4 arg5 harg5 arg6 harg6 arg7 harg7 arg8 harg8 arg9 harg9 arg10 harg10 hc x0 x1 x2 x3 x4 x5 xs0 = stackAlong0 (sF x0 x1 x3 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc x0 x1 x2 x3 x4 x5 xs0)]
  unfold kernelRun0_B
  dsimp only
  sl_unfold_words
  simp only [View.readAt_eq_ld, harg2.read_unread, harg3.read_unread, harg4.read_unread, harg5.read_unread, harg6.read_unread, harg7.read_unread,
    harg10.read_unread]
  funext y
  have P := fun g hc => stack_piece (sF x0 x1 x3 x4 xs0) g hc
  canon_tiles x h
  exacts [P 7 _ x y h0 (fun a => by fin_cases a <;> assumption), P 6 _ x y h0 (fun a => by fin_cases a <;> assumption), P 5 _ x y h0 (fun a => by fin_cases a <;> assumption), P 4 _ x y h0 (fun a => by fin_cases a <;> assumption), P 3 _ x y h0 (fun a => by fin_cases a <;> assumption), P 2 _ x y h0 (fun a => by fin_cases a <;> assumption), P 1 _ x y h0 (fun a => by fin_cases a <;> assumption), P 0 _ x y (by simpa using h0) (fun a => by fin_cases a <;> assumption)]

/-- The output stored at the first point. -/
theorem out_A_y (hc) : out0_A_6 c i arg2 harg2 arg3 harg3 arg4 harg4 arg5 harg5 arg6 harg6 arg7 harg7 arg8 harg8 arg9 harg9 arg10 harg10 hc x0 x1 x2 x3 x4 x5 = beside256 (yF x0 x1 x2 x3 x4 x5 k0_pay2) := by
  unfold out0_A_6
  rw [View.read_writes_eq_canon _ _ _ (cover0_A_6 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg10.read_unread]
  funext y
  have P := beside256_piece (yF x0 x1 x2 x3 x4 x5 k0_pay2)
  canon_tiles x h
  exacts [P 7 x y h0 h1, P 6 x y h0 h1, P 5 x y h0 h1, P 4 x y h0 h1, P 3 x y h0 h1, P 2 x y h0 h1, P 1 x y h0 h1, P 0 x y h0 (by simpa using h1)]

/-- The states entering the chunk, stored at the first point. -/
theorem out_A_s (hc) : out0_A_7 c i arg2 harg2 arg3 harg3 arg4 harg4 arg5 harg5 arg6 harg6 arg7 harg7 arg8 harg8 arg9 harg9 arg10 harg10 hc x0 x1 x2 x3 x4 x5 = stackOf (sld (k0_pay2 (F := F))) := by
  unfold out0_A_7
  rw [View.read_writes_eq_canon _ _ _ (cover0_A_7 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  simp (disch := decide) only [↓ View.readCov_skip, ↓ View.readCov_cons_toLoadRect, ↓ View.readCov_fill]
  funext y
  have P := fun g => stackOf_piece (sld (k0_pay2 (F := F))) g shapeCasts_S128x256_S1x1x128x256
  canon_tiles x h
  exacts [P 7 x y h0 h2 h3, P 6 x y h0 h2 h3, P 5 x y h0 h2 h3, P 4 x y h0 h2 h3, P 3 x y h0 h2 h3, P 2 x y h0 h2 h3, P 1 x y h0 h2 h3, P 0 x y (by simpa using h0) h2 h3]

/-- The state left at the first point. -/
theorem out_A_st (hc) : sout0_A_0 c i arg2 harg2 arg3 harg3 arg4 harg4 arg5 harg5 arg6 harg6 arg7 harg7 arg8 harg8 arg9 harg9 arg10 harg10 hc x0 x1 x2 x3 x4 x5 = stackAlong0 (sF x0 x1 x3 x4 k0_pay2) := by
  unfold sout0_A_0
  rw [View.read_writes_eq_canon _ _ _ (scover0_A_0 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread,
    harg10.read_unread]
  funext y
  have P := fun g hc off inb h0 hs => stack_piece_emb (sF x0 x1 x3 x4 k0_pay2) g hc off inb h0 hs
  exact canon_ds (stackAlong0 (sF x0 x1 x3 x4 k0_pay2)) _ _ _ _ _ _ _ _ _
    (P 0 _ _ _ rfl (by decide)) (P 1 _ _ _ rfl (by decide)) (P 2 _ _ _ rfl (by decide)) (P 3 _ _ _ rfl (by decide)) (P 4 _ _ _ rfl (by decide)) (P 5 _ _ _ rfl (by decide)) (P 6 _ _ _ rfl (by decide)) (P 7 _ _ _ rfl (by decide)) y

end Cert.Proof.SsdFwd

end
-- ==== Proof.SsdFwd.Points.lean ====
/- What the scan's launch leaves at each point of its grid, and its two result arrays. -/
module

public import proofs.«01_k».proof.Proof.SsdFwd.Host
public import proofs.«01_k».proof.Proof.SsdFwd.Body
public import proofs.«01_k».proof.Proof.Ssd.Arrays

@[expose] public section

set_option maxRecDepth 16384

noncomputable section

namespace Cert.Proof.SsdFwd

open Cert.Kernel11Ideal Cert.Kernel11Ideal.Gen Cert.Kernel11Ideal.Value Idealize.ShloMosaic Idealize.ShloMosaic.TcCoe
open Cert.Proof.Ssd (row head inner xcol bcol ccol lane col sl3 slv sld slw sln sl3_apply slv_apply sld_apply slw_apply sln_apply beside256
  beside256_at stack_at inner_surj col_surj Args.nth Args.nth_val)

variable (m : (ℓ : Loc nD τ sig) → Buf (Elt Ideal) ℓ) (c : Dev nD)

/-- The three arrays that a point leaves, over the state that it finds. -/
def left (t : Fin grid0.N) (xs : Vec Ideal S8x128x256 .f32) :
    Vec Ideal S128x2048 .f32 × Vec Ideal S8x1x128x256 .f32 × Vec Ideal S8x128x256 .f32 :=
  (beside256 (yF (iblk m c 0 t) (iblk m c 1 t) (iblk m c 2 t) (iblk m c 3 t) (iblk m c 4 t) (iblk m c 5 t) xs),
   stackOf (sld xs),
   stackAlong0 (sF (iblk m c 0 t) (iblk m c 1 t) (iblk m c 3 t) (iblk m c 4 t) xs))

theorem left_A (t : Fin grid0.N) (h : t.val % 16 = 0) : outsAt0 m c t.val t.isLt = left m c t (k0_pay2 (F := Ideal)) := by
  rw [outsAt0_A m c t h, out_A_y, out_A_s, out_A_st]
  rfl

theorem left_B (t : Fin grid0.N) (h : ¬ t.val % 16 = 0) : outsAt0 m c t.val t.isLt
    = left m c t (outsAt0 m c (t.val - 1) (Nat.lt_of_le_of_lt (Nat.sub_le _ _) t.isLt)).2.2 := by
  rw [outsAt0_B m c t h, out_B_y, out_B_s, out_B_st]
  rfl

section Blocks
variable (t : Fin grid0.N) (g : Fin 8)

/-- The blocks of point `t`, group `g`, hold the values of the point's chunk. -/
theorem hdt (i) (r) : sl3 (iblk m c 3 t) g (ix2 i (lane r)) = (args m c).dt (row (at' t) i) (head g r) := by
  rw [sl3_apply, blk3, v_dt]
theorem hcs (i) (r) : sl3 (iblk m c 4 t) g (ix2 i (lane r)) = (args m c).cs (at' t) i (head g r) := by
  rw [sl3_apply, blk4, v_cs]
theorem hb (i) (n) : sln (iblk m c 1 t) g (ix2 i n) = (args m c).X (row (at' t) i) (bcol g n) := by
  rw [sln_apply, blk1]
  exact congrArg (fun j => (args m c).X (row (at' t) i) j) (Fin.ext (by simp only [bcol]; omega))
theorem hc (i) (n) : sln (iblk m c 2 t) g (ix2 i n) = (args m c).X (row (at' t) i) (ccol g n) := by
  rw [sln_apply, blk2]
  exact congrArg (fun j => (args m c).X (row (at' t) i) j) (Fin.ext (by simp only [ccol]; omega))
theorem hx (i) (r) (p) : slw (iblk m c 0 t) g (ix2 i (col r p)) = (args m c).X (row (at' t) i) (xcol g r p) := by
  rw [slw_apply, blk0]
  exact congrArg (fun j => (args m c).X (row (at' t) i) j) (Fin.ext (by simp only [xcol, col]; omega))
theorem hD (r) : slv (iblk m c 5 t) g (ix2 1 (lane r)) = (args m c).D (head g r) := by
  rw [slv_apply, blk5, v_vec, w1_vec1]; rfl

variable (xs : Vec Ideal S8x128x256 .f32) (hxs : ∀ g n r p, xs (ix3 g n (col r p)) = (args m c).S t.val g n r p)
include hxs

theorem y_at (i : Fin 128) (r : Fin 4) (p : Fin 64) :
    yF (iblk m c 0 t) (iblk m c 1 t) (iblk m c 2 t) (iblk m c 3 t) (iblk m c 4 t) (iblk m c 5 t) xs g (ix2 i (col r p))
      = (args m c).y (at' t) i g r p := by
  unfold yF
  rw [yG_at]
  simp only [mE, hdt, hcs, hb, hc, hx, hD, sld_apply, hxs]
  rfl

theorem s_at (n : Fin 128) (r : Fin 4) (p : Fin 64) :
    sF (iblk m c 0 t) (iblk m c 1 t) (iblk m c 3 t) (iblk m c 4 t) xs g (ix2 n (col r p)) = (args m c).S (t.val + 1) g n r p := by
  unfold sF
  rw [sG_at]
  simp only [hdt, hcs, hb, hx, sld_apply, hxs]
  exact ((args m c).S_succ (at' t) g n r p).symm

end Blocks

/-- Every point finds the state entering its chunk. -/
theorem found (n : ℕ) : ∀ t : Fin grid0.N, t.val = n → ∃ xs, outsAt0 m c t.val t.isLt = left m c t xs
    ∧ ∀ g n r p, xs (ix3 g n (col r p)) = (args m c).S t.val g n r p := by
  induction n with
  | zero =>
    intro t ht
    refine ⟨_, left_A m c t (by omega), fun g n r p => ?_⟩
    rw [ht]
    unfold k0_pay2
    pointwise
    rfl
  | succ n ih =>
    intro t ht
    have hlt : t.val < 16 := t.isLt
    obtain ⟨xs, e, hxs⟩ := ih ⟨n, by omega⟩ rfl
    have e' : outsAt0 m c (t.val - 1) (Nat.lt_of_le_of_lt (Nat.sub_le _ _) t.isLt) = left m c ⟨n, by omega⟩ xs := by
      rw [← e]; congr 1; simp only [ht]; omega
    refine ⟨_, left_B m c t (by omega), fun g n' r p => ?_⟩
    rw [e', ht]
    unfold left
    dsimp only
    exact (stack_at (A := 128) (B := 256) _ g n' (col r p)).trans (s_at m c ⟨n, by omega⟩ g xs hxs n' r p)

/-- The output. -/
theorem arr6 (G : FVec Ideal S2048x2048 .f32) (hG : ∀ q i g r p, G (ix2 (row q i) (inner g r p)) = (args m c).y q i g r p) :
    (dats m 0 c).arrAt 6 cfg0.N = G := by
  refine (dats m 0 c).arrAt_eq_of_covers 6 _ (by decide +kernel) fun t hf y => ?_
  blk_simp
  rw [after0_6]
  obtain ⟨xs, e, hxs⟩ := found m c t.val t rfl
  obtain ⟨i, j, rfl⟩ : ∃ (i : Fin 128) (j : Fin 2048), y = ix2 i j := ⟨y 0, y 1, eq_ix2 y⟩
  obtain ⟨g, r, p, rfl⟩ := inner_surj j
  have e' : (win0_6.blk t).view.emb (ix2 i (inner g r p)) = ix2 (row (at' t) i) (inner g r p) := by
    unfold row at' Ssd.inner; blk_ext [idx t]
  rw [e', hG, e]
  unfold left
  dsimp only
  exact (beside256_at _ g i r p).trans (y_at m c t g xs hxs i r p)

/-- The states entering the chunks. -/
theorem arr7 (G : FVec Ideal S8x16x128x256 .f32) (hG : ∀ g q n r p, G (ix4 g q n (col r p)) = (args m c).S q.val g n r p) :
    (dats m 0 c).arrAt 7 cfg0.N = G := by
  refine (dats m 0 c).arrAt_eq_of_covers 7 _ (by decide +kernel) fun t hf y => ?_
  blk_simp
  rw [after0_7]
  obtain ⟨xs, e, hxs⟩ := found m c t.val t rfl
  obtain ⟨g, o, n, j, rfl⟩ : ∃ (g : Fin 8) (o : Fin 1) (n : Fin 128) (j : Fin 256), y = ix4 g o n j := ⟨y 0, y 1, y 2, y 3, eq_ix4 y⟩
  obtain ⟨r, p, rfl⟩ := col_surj j
  obtain rfl : o = 0 := Subsingleton.elim _ _
  have e' : (win0_7.blk t).view.emb (ix4 g 0 n (col r p)) = ix4 g (at' t) n (col r p) := by
    unfold at'; blk_ext [idx t]
  rw [e', hG, e]
  unfold left
  dsimp only
  show sld xs g (ix2 n (col r p)) = _
  rw [sld_apply, hxs]
  rfl

end Cert.Proof.SsdFwd

end
-- ==== Proof.SsdFwd.Ref.lean ====
/- The reference's lines, at an index. -/
module

public import proofs.«01_k».proof.Proof.Gen.Reference11Ideal.Read
public import Idealize.ShloMosaic.Lib.Pointwise
public import Idealize.ShloMosaic.Lib.Pipeline.ValueKit
public import proofs.«01_k».proof.Proof.SsdFwd.Spec
public import proofs.«01_k».proof.Proof.Ssd.Reads
public import proofs.«01_k».proof.Proof.Ssd.Cumsum

@[expose] public section

set_option maxRecDepth 16384

noncomputable section

namespace Cert.Proof.SsdFwd

open Cert.Reference11Ideal Cert.Reference11Ideal.Gen Cert.Reference11Ideal.Read Idealize.ShloMosaic Idealize.ShloMosaic.TcCoe
open Cert.Proof.Ssd (row head inner xcol bcol ccol col cumsum4 Args.nth Args.nth_val)

variable (x : FVec Ideal S2048x4096 .f32) (t : FVec Ideal S2048x32 .f32) (b al d : FVec Ideal S32 .f32)

include d

theorem r9 (i : Fin 2048) (h : Fin 32) : val_main_v9 (F := Ideal) t b (ix2 i h) = (ofArrays x t b al d).dt i h := by
  pointwise [val_main_v9, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst,
    val_main_v8, val_main_v7, val_main_v6]
  rw [if_neg (fun h => h rfl)]
  rfl

theorem r12 (q : Fin 16) (i : Fin 128) (g : Fin 8) (r : Fin 4) (p : Fin 64) :
    val_main_v12 (F := Ideal) x (ix5 q i g r p) = (ofArrays x t b al d).X (row q i) (xcol g r p) := by
  pointwise [val_main_v12, val_main_v1, val_main_v0]
  rfl

theorem r13 (q : Fin 16) (i : Fin 128) (g : Fin 8) (r : Fin 4) :
    val_main_v13 (F := Ideal) t b (ix4 q i g r) = (ofArrays x t b al d).dt (row q i) (head g r) := by
  pointwise [val_main_v13]
  exact r9 x t b al d _ _

theorem r14 (q : Fin 16) (i : Fin 128) (g : Fin 8) (n : Fin 128) :
    val_main_v14 (F := Ideal) x (ix4 q i g n) = (ofArrays x t b al d).X (row q i) (bcol g n) := by
  pointwise [val_main_v14, val_main_v3, val_main_v2]
  rfl

theorem r15 (q : Fin 16) (i : Fin 128) (g : Fin 8) (n : Fin 128) :
    val_main_v15 (F := Ideal) x (ix4 q i g n) = (ofArrays x t b al d).X (row q i) (ccol g n) := by
  pointwise [val_main_v15, val_main_v5, val_main_v4]
  rfl

theorem r16 (g : Fin 8) (r : Fin 4) : val_main_v16 (F := Ideal) al (ix2 g r) = -Ideal.exp ((ofArrays x t b al d).al (head g r)) := by
  pointwise [val_main_v16, val_main_v11, val_main_v10]
  rfl

theorem r20 (q : Fin 16) (i : Fin 128) (g : Fin 8) (r : Fin 4) :
    val_main_v20 (F := Ideal) t b al (ix4 q i g r) = (ofArrays x t b al d).cs q i (head g r) := by
  unfold val_main_v20
  refine (cumsum4 _ _ _ h_S_ (by pointwise [val_main_call1_call0_v0, val_main_call1_call0_cst]) q i g r).trans ?_
  pointwise [val_main_v19, val_main_v18, val_main_v17, r16 x t b al d, r13 x t b al d]
  rfl

theorem r23 (q : Fin 16) (i : Fin 128) (g : Fin 8) (r : Fin 4) (p : Fin 64) :
    val_main_v23 (F := Ideal) x t b (ix5 q i g r p) = (ofArrays x t b al d).X (row q i) (xcol g r p) * (ofArrays x t b al d).dt (row q i) (head g r) := by
  pointwise [val_main_v23, val_main_v22, val_main_v21, r13 x t b al d, r12 x t b al d]

omit d in
theorem r31 (q : Fin 16) (i j : Fin 128) (g : Fin 8) (r : Fin 4) :
    val_main_call3_v1 (F := Ideal) (ix5 q i j g r) = if j ≤ i then 1#1 else 0#1 := by
  pointwise [val_main_call3_v1, val_main_v31, val_main_v30, val_main_v29, val_main_c, val_main_call2_v5, val_main_call2_v4, val_main_call2_v3,
    val_main_call2_v2, val_main_call2_v1, val_main_call2_v0, val_main_call2_c, val_main_call2_c_0]
  revert i j
  decide +kernel

theorem r33 (q : Fin 16) (i j : Fin 128) (g : Fin 8) (r : Fin 4) :
    val_main_v33 (F := Ideal) t b al (ix5 q i j g r) = (ofArrays x t b al d).l q (head g r) i j := by
  pointwise [val_main_v33, val_main_v32, r31, val_main_call3_v2, val_main_call3_v0, val_main_cst, val_main_v28, val_main_v27, val_main_v26,
    val_main_v25, val_main_v24, r20 x t b al d]
  unfold In.l
  by_cases h : j ≤ i
  · rw [if_pos h, if_pos h]; rfl
  · have e : Ideal.ofBits FTy.f32 4286578688#32 = ⊥ := by simp [Ideal.ofBits, Ideal.ieee]
    rw [if_neg h, if_neg h]
    exact congrArg Ideal.exp e

theorem r36 (q : Fin 16) (i j : Fin 128) (g : Fin 8) : val_main_v36 (F := Ideal) x (ix5 q i j g 0) = (ofArrays x t b al d).g q g i j := by
  pointwise [val_main_v36, val_main_v35, val_main_v34, r14 x t b al d, r15 x t b al d]
  exact Finset.sum_congr rfl fun n _ => mul_comm _ _

theorem r39 (q : Fin 16) (i : Fin 128) (g : Fin 8) (r : Fin 4) (p : Fin 64) : val_main_v40 (F := Ideal) x t b al (ix5 q i g r p)
    = ∑ j, (ofArrays x t b al d).g q g i j * (ofArrays x t b al d).l q (head g r) i j * ((ofArrays x t b al d).X (row q j) (xcol g r p) * (ofArrays x t b al d).dt (row q j) (head g r)) := by
  pointwise [val_main_v40, val_main_v39, val_main_v38, val_main_v37, r33 x t b al d, r36 x t b al d, r23 x t b al d]
  exact Finset.sum_congr rfl fun n _ => mul_comm _ _

theorem r44 (q : Fin 16) (i : Fin 128) (g : Fin 8) (r : Fin 4) :
    val_main_v44 (F := Ideal) t b al (ix4 q i g r) = (ofArrays x t b al d).dec q (head g r) i := by
  pointwise [val_main_v44, val_main_v43, val_main_v42, val_main_v41, r20 x t b al d]
  rfl

theorem r48 (q : Fin 16) (g : Fin 8) (r : Fin 4) (p : Fin 64) (n : Fin 128) :
    val_main_v48 (F := Ideal) x t b al (ix5 q g r p n) = (ofArrays x t b al d).add q g n r p := by
  pointwise [val_main_v48, val_main_v47, val_main_v46, val_main_v45, r44 x t b al d, r23 x t b al d, r14 x t b al d]
  refine Finset.sum_congr rfl fun j _ => ?_
  rw [mul_comm]
  exact congrArg _ (mul_comm _ _)

theorem r51 (q : Fin 16) (g : Fin 8) (r : Fin 4) :
    val_main_v51 (F := Ideal) t b al (ix3 q g r) = Ideal.exp ((ofArrays x t b al d).cs q 127 (head g r)) := by
  pointwise [val_main_v51, val_main_v50, val_main_v49, r20 x t b al d]

omit d in
/-- The states entering the chunks. -/
def car : Fin 16 → FVec Ideal S1x8x4x64x128 .f32 :=
  ![val_main_v52 (F := Ideal), val_main_v88 (F := Ideal) x t b al, val_main_v91 (F := Ideal) x t b al, val_main_v94 (F := Ideal) x t b al, val_main_v97 (F := Ideal) x t b al, val_main_v100 (F := Ideal) x t b al,
    val_main_v103 (F := Ideal) x t b al, val_main_v106 (F := Ideal) x t b al, val_main_v109 (F := Ideal) x t b al, val_main_v112 (F := Ideal) x t b al, val_main_v115 (F := Ideal) x t b al, val_main_v118 (F := Ideal) x t b al,
    val_main_v121 (F := Ideal) x t b al, val_main_v124 (F := Ideal) x t b al, val_main_v127 (F := Ideal) x t b al, val_main_v130 (F := Ideal) x t b al]

omit d in
/-- A chunk's piece of an array, and a chunk's decay laid over a state. -/
theorem piece (o : Fin 16) (v : FVec Ideal S16x8x4x64x128 .f32) (h : S16x8x4x64x128.Slices ![o.val, 0, 0, 0, 0] S1x8x4x64x128)
    (g : Fin 8) (r : Fin 4) (p : Fin 64) (n : Fin 128) :
    extractStridedSlice S1x8x4x64x128 ![o.val, 0, 0, 0, 0] v h (ix5 0 g r p n) = v (ix5 o g r p n) := by
  pointwise

omit d in
theorem laid (o : Fin 16) (h : S16x8x4x1x1.Slices ![o.val, 0, 0, 0, 0] S1x8x4x1x1) (g : Fin 8) (r : Fin 4) (p : Fin 64) (n : Fin 128) :
    broadcastInDim S1x8x4x64x128 ![0, 1, 2, 3, 4] bcast_S1x8x4x1x1_S1x8x4x64x128_0_1_2_3_4
        (extractStridedSlice S1x8x4x1x1 ![o.val, 0, 0, 0, 0] (val_main_v69 (F := Ideal) t b al) h) (ix5 0 g r p n)
      = val_main_v51 (F := Ideal) t b al (ix3 o g r) := by
  pointwise [val_main_v69]

omit d in
theorem car_step (o : Fin 15) (g : Fin 8) (r : Fin 4) (p : Fin 64) (n : Fin 128) : car x t b al o.succ (ix5 0 g r p n)
    = car x t b al o.castSucc (ix5 0 g r p n) * val_main_v51 (F := Ideal) t b al (ix3 o.castSucc g r)
      + val_main_v48 (F := Ideal) x t b al (ix5 o.castSucc g r p n) := by
  rw [← piece o.castSucc (val_main_v48 (F := Ideal) x t b al) (by revert o; decide) g r p n, ← laid t b al o.castSucc (by revert o; decide) g r p n]
  fin_cases o <;> rfl

omit d in
theorem r134_car (q : Fin 16) (g : Fin 8) (r : Fin 4) (p : Fin 64) (n : Fin 128) :
    val_main_v134 (F := Ideal) x t b al (ix5 q g r p n) = car x t b al q (ix5 0 g r p n) := by
  unfold val_main_v134
  concat_tiles i h
  all_goals
    (obtain rfl : i = ix5 0 g r p n := by
      rw [eq_ix5 i]
      congr 1 <;> first | exact Fin.ext h0 | exact Fin.ext h1 | exact Fin.ext h2 | exact Fin.ext h3 | exact Fin.ext h4)
  all_goals
    (obtain rfl : q = ⟨_, by decide⟩ := Fin.ext h
     rfl)

/-- The states are the scan's. -/
theorem car_eq (n : ℕ) : ∀ q : Fin 16, q.val = n → ∀ g r p n', car x t b al q (ix5 0 g r p n') = (ofArrays x t b al d).S q.val g n' r p := by
  induction n with
  | zero =>
    intro q hq g r p n'
    obtain rfl : q = 0 := Fin.ext hq
    show val_main_v52 (F := Ideal) (ix5 0 g r p n') = 0
    pointwise [val_main_v52, val_main_cst_0]
  | succ n ih =>
    intro q hq g r p n'
    obtain ⟨o, rfl⟩ : ∃ o : Fin 15, q = o.succ := ⟨⟨n, by omega⟩, Fin.ext hq⟩
    rw [car_step, ih o.castSucc (by simpa using hq), r51 x t b al d, r48 x t b al d]
    exact (congrArg (· + _) (mul_comm _ _)).trans ((ofArrays x t b al d).S_succ o.castSucc g n' r p).symm

theorem r134 (q : Fin 16) (g : Fin 8) (r : Fin 4) (p : Fin 64) (n : Fin 128) :
    val_main_v134 (F := Ideal) x t b al (ix5 q g r p n) = (ofArrays x t b al d).S q.val g n r p := by
  rw [r134_car, car_eq x t b al d q.val q rfl]

/-- The output. -/
theorem r148 (q : Fin 16) (i : Fin 128) (g : Fin 8) (r : Fin 4) (p : Fin 64) :
    val_main_v148 (F := Ideal) x t b al d (ix2 (row q i) (inner g r p)) = (ofArrays x t b al d).y q i g r p := by
  have e : val_main_v141 (F := Ideal) x t b al (ix5 q i g r p)
      = (∑ j, (ofArrays x t b al d).g q g i j * (ofArrays x t b al d).l q (head g r) i j * ((ofArrays x t b al d).X (row q j) (xcol g r p) * (ofArrays x t b al d).dt (row q j) (head g r)))
        + (∑ n, (ofArrays x t b al d).X (row q i) (ccol g n) * (ofArrays x t b al d).S q.val g n r p) * Ideal.exp ((ofArrays x t b al d).cs q i (head g r)) := by
    pointwise [val_main_v141, val_main_v140, val_main_v139, val_main_v138, val_main_v137, val_main_v136, val_main_v135, r39 x t b al d,
      r20 x t b al d, r134 x t b al d, r15 x t b al d]
    simp only [mul_comm]
  have e' : val_main_v148 (F := Ideal) x t b al d (ix2 (row q i) (inner g r p))
      = val_main_v141 (F := Ideal) x t b al (ix5 q i g r p) + d (ix1 (head g r)) * x (ix2 (row q i) (xcol g r p)) := by
    unfold row Ssd.inner head xcol
    pointwise [val_main_v148, val_main_v147, val_main_v146, val_main_v145, val_main_v144, val_main_v143, val_main_v142, val_main_v1, val_main_v0]
    simp only [show ((g.val * 4 + r.val) * 64 + p.val) / 64 = g.val * 4 + r.val by omega]
  rw [e', e]
  unfold In.y
  rw [add_assoc, add_comm]
  rfl

/-- The states. -/
theorem r150 (g : Fin 8) (q : Fin 16) (n : Fin 128) (r : Fin 4) (p : Fin 64) :
    val_main_v150 (F := Ideal) x t b al (ix4 g q n (col r p)) = (ofArrays x t b al d).S q.val g n r p := by
  rw [← r134 x t b al d]
  unfold col
  pointwise [val_main_v150, val_main_v149]

end Cert.Proof.SsdFwd

end
-- ==== Proof.SsdFwd.Pair.lean ====
/- The scan's forward launch and its reference side by side: the reference's frame, and the equality of the two results. -/
module

public import proofs.«01_k».proof.Defs
public import proofs.«01_k».proof.Proof.SsdFwd.Points
public import proofs.«01_k».proof.Proof.SsdFwd.Ref
public import proofs.«01_k».proof.Proof.Gen.Reference11Ideal.Run

@[expose] public section

set_option maxRecDepth 16384

noncomputable section

namespace Cert.Proof.SsdFwd

open Idealize.ShloMosaic Idealize.SL.Sem Cert.Reference11Ideal.Read

/-- The reference leaves its arguments; it has no semaphore. -/
theorem frameR : Cert.quiescent_Reference11Ideal (hReference11Ideal := Cert.Reference11Ideal.Gen.facts) := fun m ρ _ =>
  (θ_run _ _ _).mono (fun r h => ⟨fun c => (h c).2.2, sem_eq_zero_of_no_sems (by decide) r.2⟩)
    (Cert.Reference11Ideal.Value.run (F := Ideal) m ρ)

/-- Both programs end with the same two arrays. -/
theorem equal : Cert.algebraic_Kernel11Ideal_Reference11Ideal (hKernel11Ideal := Cert.Kernel11Ideal.Gen.facts)
    (hReference11Ideal := Cert.Reference11Ideal.Gen.facts) := fun m ρ m' ρ' _ hag =>
  ⟨fun c => val_main_v148 (F := Ideal) (Ax m c) (At m c) (Ab m c) (Al m c) (Ad m c),
   fun c => val_main_v150 (F := Ideal) (Ax m c) (At m c) (Ab m c) (Al m c),
   (θ_run _ _ _).mono (fun _ h c => ⟨(h c).1.trans (arr6 m c _ (r148 _ _ _ _ _)), (h c).2.1.trans (arr7 m c _ (r150 _ _ _ _ (Ad m c))), (h c).2.2⟩)
     (Cert.Kernel11Ideal.Value.run_blocks (F := Ideal) m ρ),
   (θ_run _ _ _).mono (fun _ h c => by
     obtain ⟨e0, e1, e2, e3, e4⟩ := hag c
     refine ⟨(h c).1.trans ?_, (h c).2.1.trans ?_, (h c).2.2⟩
     · exact (val_main_v148_eq _).trans (by congr 1)
     · exact (val_main_v150_eq _).trans (by congr 1))
     (Cert.Reference11Ideal.Value.run (F := Ideal) m' ρ')⟩

end Cert.Proof.SsdFwd

end
-- ==== Proof.Common.Shift.lean ====
/- Moving a column of extended reals down by a few rows, zeros entering at the top: as rotated rows under a row test, and as
   rows of a column that is padded above. -/
module

public import Idealize.ShloMosaic.Lib.Pipeline.ValueKit
public import Idealize.ShloMosaic.Lib.Pointwise

@[expose] public section

noncomputable section

namespace Cert.Proof.Common

open Idealize.ShloMosaic

/-- Row `i` of the column `f` moved down by `k` rows. -/
def down (k : ℕ) (f : Fin 2048 → EReal) (i : Fin 2048) : EReal := if k ≤ i.val then f ⟨i.val - k, by omega⟩ else 0

/-- The row test that hides the rows which a rotation brings around. -/
theorem reached : ∀ (k : Fin 4) (i : Fin 2048), IntOp.cmpi .sge (BitVec.ofNat 32 i.val) (BitVec.ofNat 32 k.val)
    = if k.val ≤ i.val then 1#1 else 0#1 := by decide +kernel

/-- Rotated rows under the row test. -/
theorem select_down (f : Fin 2048 → EReal) (k : Fin 4) (i : Fin 2048) (h : (i.val + 2048 - k.val) % 2048 < 2048) :
    Scalar.select (α := EReal) (IntOp.cmpi .sge (BitVec.ofNat 32 i.val) (BitVec.ofNat 32 k.val)) (f ⟨(i.val + 2048 - k.val) % 2048, h⟩) 0
      = down k.val f i := by
  unfold Scalar.select down
  rw [reached]
  by_cases hk : k.val ≤ i.val
  · rw [if_pos hk, if_pos (show 1#1 = 1 from rfl), if_pos hk]
    exact congrArg f (Fin.ext (by show (i.val + 2048 - k.val) % 2048 = i.val - k.val; omega))
  · rw [if_neg hk, if_neg (by decide), if_neg hk]

/-- The same with a tap's product taken under the row test. -/
theorem select_tap (w : EReal) (f : Fin 2048 → EReal) (k : Fin 4) (i : Fin 2048) (h : (i.val + 2048 - k.val) % 2048 < 2048) :
    Scalar.select (α := EReal) (IntOp.cmpi .sge (BitVec.ofNat 32 i.val) (BitVec.ofNat 32 k.val)) (w * f ⟨(i.val + 2048 - k.val) % 2048, h⟩) 0
      = w * down k.val f i := by
  rw [select_down (fun n => w * f n) k i h]
  unfold down
  by_cases hk : k.val ≤ i.val
  · rw [if_pos hk, if_pos hk]
  · rw [if_neg hk, if_neg hk, mul_zero]

/-- A row of the padded column that lies in the padding, and one that lies below it. -/
theorem down_top (k : ℕ) (f : Fin 2048 → EReal) (i : Fin 2048) (h : i.val < k) : 0 = down k f i := by
  unfold down; rw [if_neg (by omega)]
theorem down_row (k : ℕ) (f : Fin 2048 → EReal) (i n : Fin 2048) (h : n.val + k = i.val) : f n = down k f i := by
  unfold down; rw [if_pos (by omega)]
  exact congrArg f (Fin.ext (by show n.val = i.val - k; omega))

end Cert.Proof.Common

end
-- ==== Proof.ConvFwd.Value.lean ====
/- The array that the causal convolution into `silu` leaves, block by block, against the reference's. -/
module

public import proofs.«01_k».proof.Proof.Gen.Kernel12Ideal.Value
public import proofs.«01_k».proof.Proof.Gen.Reference12Ideal.Read
public import proofs.«01_k».proof.Proof.Common.Shift
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.ConvFwd

open Cert.Kernel12Ideal Cert.Kernel12Ideal.Gen Cert.Kernel12Ideal.Value Idealize.ShloMosaic Idealize.ShloMosaic.TcCoe
  Idealize.SL.Sem Cert.Proof.Common

/-- Which block each window takes at point `t`: the `t`-th block of 256 channels. -/
theorem idx : ∀ t : Fin grid0.N, win0_0.index t = ![0, 20 + t.val] ∧ win0_1.index t = ![0, t.val] ∧ win0_2.index t = ![0, t.val] := by
  decide +kernel

variable (m : (ℓ : Loc nD τ sig) → Buf (Elt Ideal) ℓ) (c : Dev nD)

/-- The arguments at device `c`. -/
abbrev Ap : FVec Ideal S2048x11296 .f32 := m ((c : Thread nD τ).loc main_arg0)
abbrev Aw : FVec Ideal S4x4096 .f32 := m ((c : Thread nD τ).loc main_arg1)
abbrev Ab : FVec Ideal S4096 .f32 := m ((c : Thread nD τ).loc main_arg2)

/-- Channel `l` of point `t`'s block. -/
def chan (t : Fin grid0.N) (l : Fin 256) : Fin 4096 := ⟨256 * t.val + l.val, by have := (show t.val < 16 from t.isLt); omega⟩

/-- The packed projection's columns before the gate are `proj`'s. -/
theorem packed (i : Fin 2048) (j : Fin 11520) (h' : j.val < 9216) :
    V m c main_v5 (ix2 i j) = Ap m c (ix2 i ⟨j.val, by omega⟩) := by
  unfold V
  after_reads_simp
  pointwise
  refine (dif_pos h').trans ?_
  after_reads_simp
  pointwise

/-- The taps' array: four rows of taps, one of the bias. -/
theorem taps (k : Fin 8) (j : Fin 4096) : (V m c main_v8 : FVec Ideal S8x4096 .f32) (ix2 k j)
    = if h : k.val < 4 then Aw m c (ix2 ⟨k.val, h⟩ j) else if k.val - 4 < 1 then Ab m c (ix1 j) else 0 := by
  unfold V
  after_reads_simp
  pointwise
  after_reads_simp
  pointwise
  rfl

/-- Input channel `j` of the convolution, which lies at column `5120 + j` of `proj`. -/
def inp (x0 : FVec Ideal S2048x11296 .f32) (j : Fin 4096) (i : Fin 2048) : EReal := x0 (ix2 i ⟨5120 + j.val, by omega⟩)

theorem blk0 (t : Fin grid0.N) (i : Fin 2048) (l : Fin 256) : iblk m c 0 t (ix2 i l) = inp (Ap m c) (chan t l) i := by
  unfold inp
  refine Eq.trans ?_ (packed m c i ⟨5120 + (chan t l).val, by omega⟩ (by show 5120 + _ < 9216; omega))
  show V m c main_v5 _ = _
  congr 1
  blk_ext [idx t, chan]

theorem blk1 (t : Fin grid0.N) (k : Fin 8) (l : Fin 256) : iblk m c 1 t (ix2 k l)
    = if h : k.val < 4 then Aw m c (ix2 ⟨k.val, h⟩ (chan t l)) else if k.val - 4 < 1 then Ab m c (ix1 (chan t l)) else 0 := by
  refine Eq.trans ?_ (taps m c k (chan t l))
  show V m c main_v8 _ = V m c main_v8 _
  congr 1
  blk_ext [idx t, chan]

/-- The convolution of a channel, before `silu`. -/
def pre (x0 : FVec Ideal S2048x11296 .f32) (x1 : FVec Ideal S4x4096 .f32) (x2 : FVec Ideal S4096 .f32) (j : Fin 4096) (i : Fin 2048) : EReal :=
  x1 (ix2 0 j) * down 3 (inp x0 j) i + x1 (ix2 1 j) * down 2 (inp x0 j) i + x1 (ix2 2 j) * down 1 (inp x0 j) i
    + x1 (ix2 3 j) * inp x0 j i + x2 (ix1 j)

/-- The body's convolution, at a block's index. -/
theorem pay2 (t : Fin grid0.N) (i : Fin 2048) (l : Fin 256) : k0_pay2 (iblk m c 0 t) (iblk m c 1 t) (ix2 i l)
    = pre (Ap m c) (Aw m c) (Ab m c) (chan t l) i := by
  have e := fun i => blk0 m c t i l
  have h0 : iblk m c 1 t (ix2 0 l) = Aw m c (ix2 0 (chan t l)) := blk1 m c t 0 l
  have h1 : iblk m c 1 t (ix2 1 l) = Aw m c (ix2 1 (chan t l)) := blk1 m c t 1 l
  have h2 : iblk m c 1 t (ix2 2 l) = Aw m c (ix2 2 (chan t l)) := blk1 m c t 2 l
  have h3 : iblk m c 1 t (ix2 3 l) = Aw m c (ix2 3 (chan t l)) := blk1 m c t 3 l
  have h4 : iblk m c 1 t (ix2 4 l) = Ab m c (ix1 (chan t l)) := blk1 m c t 4 l
  generalize iblk m c 0 t = x0 at *
  generalize iblk m c 1 t = x1 at *
  unfold pre
  pointwise [k0_pay2, e, h0, h1, h2, h3, h4]
  have s := fun w k => select_tap w (inp (Ap m c) (chan t l)) k i (Nat.mod_lt _ (by decide))
  exact congrArg₂ _ (congrArg₂ _ (congrArg₂ _ (congrArg₂ _ (s _ 3) (s _ 2)) (s _ 1)) rfl) rfl

section Host

open Cert.Reference12Ideal.Read

variable (x0 : FVec Ideal S2048x11296 .f32) (x1 : FVec Ideal S4x4096 .f32) (x2 : FVec Ideal S4096 .f32) (j : Fin 4096)

/-- The rows of the padded input that row `i` of the convolution reads. -/theorem pad3 (i : Fin 2048) : val_main_v3 (F := Ideal) x0 (ix2 i j) = down 3 (inp x0 j) i := by
  pointwise [val_main_v3, val_main_v2, val_main_v1, val_main_cst, val_main_v0]
  by_cases h : i.val < 3
  · exact (dif_pos h).trans (down_top _ _ i (by omega))
  · exact (dif_neg h).trans (down_row 3 (inp x0 j) i ⟨i.val - 3, by omega⟩ (by show i.val - 3 + 3 = i.val; omega))

theorem pad9 (i : Fin 2048) : val_main_v9 (F := Ideal) x0 (ix2 i j) = down 2 (inp x0 j) i := by
  pointwise [val_main_v9, val_main_v2, val_main_v1, val_main_cst, val_main_v0]
  by_cases h : 1 + i.val < 3
  · exact (dif_pos h).trans (down_top _ _ i (by omega))
  · exact (dif_neg h).trans (down_row 2 (inp x0 j) i ⟨1 + i.val - 3, by omega⟩ (by show 1 + i.val - 3 + 2 = i.val; omega))

theorem pad16 (i : Fin 2048) : val_main_v16 (F := Ideal) x0 (ix2 i j) = down 1 (inp x0 j) i := by
  pointwise [val_main_v16, val_main_v2, val_main_v1, val_main_cst, val_main_v0]
  by_cases h : 2 + i.val < 3
  · exact (dif_pos h).trans (down_top _ _ i (by omega))
  · exact (dif_neg h).trans (down_row 1 (inp x0 j) i ⟨2 + i.val - 3, by omega⟩ (by show 2 + i.val - 3 + 1 = i.val; omega))

theorem pad23 (i : Fin 2048) : val_main_v23 (F := Ideal) x0 (ix2 i j) = inp x0 j i := by
  unfold inp
  pointwise [val_main_v23, val_main_v2, val_main_v1, val_main_cst, val_main_v0]

/-- The reference's convolution. -/
theorem r32 (i : Fin 2048) : val_main_v32 (F := Ideal) x0 x1 x2 (ix2 i j) = pre x0 x1 x2 j i := by
  have h3 := pad3 x0 j
  have h9 := pad9 x0 j
  have h16 := pad16 x0 j
  have h23 := pad23 x0 j
  unfold pre
  pointwise [val_main_v4, val_main_v5, val_main_v6, val_main_v7, val_main_v8, val_main_v10, val_main_v11, val_main_v12, val_main_v13, val_main_v14, val_main_v15,
    val_main_v17, val_main_v18, val_main_v19, val_main_v20, val_main_v21, val_main_v22, val_main_v24, val_main_v25, val_main_v26, val_main_v27,
    val_main_v28, val_main_v29, val_main_v30, val_main_v31, val_main_v32, h3, h9, h16, h23]
  simp only [mul_comm (x1 _)]

end Host

open Cert.Reference12Ideal.Read in
/-- The whole array. -/
theorem arr2 : (dats m 0 c).arrAt 2 cfg0.N = (val_main_v33 (F := Ideal) (Ap m c) (Aw m c) (Ab m c)) := by
  refine (dats m 0 c).arrAt_eq_of_covers 2 _ (by decide +kernel) fun t hf y => ?_
  blk_simp
  rw [after0_2]
  frame_out
  obtain ⟨i, l, rfl⟩ : ∃ (i : Fin 2048) (l : Fin 256), y = ix2 i l := ⟨y 0, y 1, eq_ix2 y⟩
  have e : (win0_2.blk t).view.emb (ix2 i l) = ix2 i (chan t l) := by unfold chan; blk_ext [idx t]
  rw [e]
  have e2 := pay2 m c t i l
  have e3 := r32 (Ap m c) (Aw m c) (Ab m c) (chan t l) i
  unfold k0_pay3
  generalize k0_pay2 (iblk m c 0 t) (iblk m c 1 t) = x2 at *
  pointwise [k0_pay1, e2, e3, val_main_call0_v0, val_main_call0_v1, val_main_call0_cst, val_main_call0_v2, val_main_call0_v3, val_main_call0_cst_0, val_main_call0_v4,
    val_main_call0_v5, val_main_v33]
  simp only [zero_sub]

end Cert.Proof.ConvFwd

end
-- ==== Proof.ConvFwd.Pair.lean ====
/- The causal convolution into `silu` and its reference side by side: the reference's frame, and the equality of the results. -/
module

public import proofs.«01_k».proof.Defs
public import proofs.«01_k».proof.Proof.ConvFwd.Value
public import proofs.«01_k».proof.Proof.Gen.Reference12Ideal.Run

@[expose] public section

set_option maxRecDepth 16384

noncomputable section

namespace Cert.Proof.ConvFwd

open Idealize.ShloMosaic Idealize.SL.Sem Cert.Reference12Ideal.Read

/-- The reference leaves its arguments; it has no semaphore. -/
theorem frameR : Cert.quiescent_Reference12Ideal (hReference12Ideal := Cert.Reference12Ideal.Gen.facts) := fun m ρ _ =>
  (θ_run _ _ _).mono (fun r h => ⟨fun c => (h c).2, sem_eq_zero_of_no_sems (by decide) r.2⟩)
    (Cert.Reference12Ideal.Value.run (F := Ideal) m ρ)

/-- Both programs end with the same array. -/
theorem equal : Cert.algebraic_Kernel12Ideal_Reference12Ideal (hKernel12Ideal := Cert.Kernel12Ideal.Gen.facts)
    (hReference12Ideal := Cert.Reference12Ideal.Gen.facts) := fun m ρ m' ρ' _ hag =>
  ⟨fun c => val_main_v33 (F := Ideal) (Ap m c) (Aw m c) (Ab m c),
   (θ_run _ _ _).mono (fun _ h c => ⟨(h c).1.trans (arr2 m c), (h c).2⟩)
     (Cert.Kernel12Ideal.Value.run_blocks (F := Ideal) m ρ),
   (θ_run _ _ _).mono (fun _ h c => by
     obtain ⟨e0, e1, e2⟩ := hag c
     refine ⟨(h c).1.trans ?_, (h c).2⟩
     · rw [val_main_v33_eq, e0, e1, e2]
     )
     (Cert.Reference12Ideal.Value.run (F := Ideal) m' ρ')⟩

end Cert.Proof.ConvFwd

end
-- ==== Proof.ScFwd.Value.lean ====
/- The array that the short convolution's forward pass leaves, block by block, against the reference's. -/
module

public import proofs.«01_k».proof.Proof.Gen.Kernel13Ideal.Value
public import proofs.«01_k».proof.Proof.Gen.Reference13Ideal.Read
public import proofs.«01_k».proof.Proof.Common.Shift
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.ScFwd

open Cert.Kernel13Ideal Cert.Kernel13Ideal.Gen Cert.Kernel13Ideal.Value Idealize.ShloMosaic Idealize.ShloMosaic.TcCoe
  Idealize.SL.Sem Cert.Proof.Common

/-- Which block each window takes at point `t`: the `t`-th block of 256 channels. -/
theorem idx : ∀ t : Fin grid0.N, win0_0.index t = ![0, t.val] ∧ win0_1.index t = ![0, 4 + t.val] ∧ win0_2.index t = ![0, 8 + t.val]
    ∧ win0_3.index t = ![0, t.val] ∧ win0_4.index t = ![0, t.val] := by decide +kernel

variable (m : (ℓ : Loc nD τ sig) → Buf (Elt Ideal) ℓ) (c : Dev nD)

/-- The arguments at device `c`. -/
abbrev Ap : FVec Ideal S2048x11296 .f32 := m ((c : Thread nD τ).loc main_arg0)
abbrev Aw : FVec Ideal S3x1024 .f32 := m ((c : Thread nD τ).loc main_arg1)

/-- Channel `l` of point `t`'s block. -/
def chan (t : Fin grid0.N) (l : Fin 256) : Fin 1024 := ⟨256 * t.val + l.val, by have := (show t.val < 4 from t.isLt); omega⟩

/-- The packed projection's columns before the gate are `proj`'s. -/
theorem packed (i : Fin 2048) (j : Fin 11520) (h' : j.val < 9216) :
    V m c main_v5 (ix2 i j) = Ap m c (ix2 i ⟨j.val, by omega⟩) := by
  unfold V
  after_reads_simp
  pointwise
  refine (dif_pos h').trans ?_
  after_reads_simp
  pointwise

theorem taps (k : Fin 8) (j : Fin 1024) (h : k.val < 3) : V m c main_v7 (ix2 k j) = Aw m c (ix2 ⟨k.val, h⟩ j) := by
  unfold V
  after_reads_simp
  pointwise
  refine (dif_pos h).trans ?_
  rfl

theorem blk0 (t : Fin grid0.N) (i : Fin 2048) (l : Fin 256) :
    iblk m c 0 t (ix2 i l) = Ap m c (ix2 i ⟨(chan t l).val, by omega⟩) := by
  refine Eq.trans ?_ (packed m c i ⟨(chan t l).val, by omega⟩ (by show (chan t l).val < 9216; omega))
  show V m c main_v5 _ = _
  congr 1
  blk_ext [idx t, chan]

theorem blk1 (t : Fin grid0.N) (i : Fin 2048) (l : Fin 256) :
    iblk m c 1 t (ix2 i l) = Ap m c (ix2 i ⟨1024 + (chan t l).val, by omega⟩) := by
  refine Eq.trans ?_ (packed m c i ⟨1024 + (chan t l).val, by omega⟩ (by show 1024 + (chan t l).val < 9216; omega))
  show V m c main_v5 _ = _
  congr 1
  blk_ext [idx t, chan]

theorem blk2 (t : Fin grid0.N) (i : Fin 2048) (l : Fin 256) :
    iblk m c 2 t (ix2 i l) = Ap m c (ix2 i ⟨2048 + (chan t l).val, by omega⟩) := by
  refine Eq.trans ?_ (packed m c i ⟨2048 + (chan t l).val, by omega⟩ (by show 2048 + (chan t l).val < 9216; omega))
  show V m c main_v5 _ = _
  congr 1
  blk_ext [idx t, chan]

theorem blk3 (t : Fin grid0.N) (k : Fin 8) (l : Fin 256) (h : k.val < 3) :
    iblk m c 3 t (ix2 k l) = Aw m c (ix2 ⟨k.val, h⟩ (chan t l)) := by
  refine Eq.trans ?_ (taps m c k (chan t l) h)
  show V m c main_v7 _ = V m c main_v7 _
  congr 1
  blk_ext [idx t, chan]

/-- Input channel `j` of the convolution: a product of two of `proj`'s columns. -/
def inp (x0 : FVec Ideal S2048x11296 .f32) (j : Fin 1024) (i : Fin 2048) : EReal :=
  x0 (ix2 i ⟨1024 + j.val, by omega⟩) * x0 (ix2 i ⟨2048 + j.val, by omega⟩)

/-- The gated convolution of a channel. -/
def res (x0 : FVec Ideal S2048x11296 .f32) (x1 : FVec Ideal S3x1024 .f32) (j : Fin 1024) (i : Fin 2048) : EReal :=
  x0 (ix2 i ⟨j.val, by omega⟩)
    * (x1 (ix2 0 j) * down 2 (inp x0 j) i + x1 (ix2 1 j) * down 1 (inp x0 j) i + x1 (ix2 2 j) * inp x0 j i)

/-- What the body stores, at a block's index. -/
theorem pay1 (t : Fin grid0.N) (i : Fin 2048) (l : Fin 256) :
    k0_pay1 (iblk m c 1 t) (iblk m c 2 t) (iblk m c 3 t) (iblk m c 0 t) (ix2 i l) = res (Ap m c) (Aw m c) (chan t l) i := by
  have e0 := blk0 m c t i l
  have e1 := fun i => blk1 m c t i l
  have e2 := fun i => blk2 m c t i l
  have h0 : iblk m c 3 t (ix2 0 l) = Aw m c (ix2 0 (chan t l)) := blk3 m c t 0 l (by decide)
  have h1 : iblk m c 3 t (ix2 1 l) = Aw m c (ix2 1 (chan t l)) := blk3 m c t 1 l (by decide)
  have h2 : iblk m c 3 t (ix2 2 l) = Aw m c (ix2 2 (chan t l)) := blk3 m c t 2 l (by decide)
  generalize iblk m c 0 t = x0 at *
  generalize iblk m c 1 t = x1 at *
  generalize iblk m c 2 t = x2 at *
  generalize iblk m c 3 t = x3 at *
  unfold res
  pointwise [k0_pay1, e0, e1, e2, h0, h1, h2]
  have s := fun w k => select_tap w (inp (Ap m c) (chan t l)) k i (Nat.mod_lt _ (by decide))
  exact congrArg₂ _ rfl (congrArg₂ _ (congrArg₂ _ (s _ 2) (s _ 1)) rfl)

section Host

open Cert.Reference13Ideal.Read

variable (x0 : FVec Ideal S2048x11296 .f32) (x1 : FVec Ideal S3x1024 .f32) (j : Fin 1024)

/-- The rows of the padded input that row `i` of the convolution reads. -/
theorem pad6 (i : Fin 2048) : val_main_v6 (F := Ideal) x0 (ix2 i j) = down 2 (inp x0 j) i := by
  pointwise [val_main_v6, val_main_v5, val_main_v4, val_main_cst, val_main_v3, val_main_v2, val_main_v1]
  by_cases h : i.val < 2
  · exact (dif_pos h).trans (down_top _ _ i (by omega))
  · exact (dif_neg h).trans (down_row 2 (inp x0 j) i ⟨i.val - 2, by omega⟩ (by show i.val - 2 + 2 = i.val; omega))

theorem pad12 (i : Fin 2048) : val_main_v12 (F := Ideal) x0 (ix2 i j) = down 1 (inp x0 j) i := by
  pointwise [val_main_v12, val_main_v5, val_main_v4, val_main_cst, val_main_v3, val_main_v2, val_main_v1]
  by_cases h : 1 + i.val < 2
  · exact (dif_pos h).trans (down_top _ _ i (by omega))
  · exact (dif_neg h).trans (down_row 1 (inp x0 j) i ⟨1 + i.val - 2, by omega⟩ (by show 1 + i.val - 2 + 1 = i.val; omega))

theorem pad19 (i : Fin 2048) : val_main_v19 (F := Ideal) x0 (ix2 i j) = inp x0 j i := by
  unfold inp
  pointwise [val_main_v19, val_main_v5, val_main_v4, val_main_cst, val_main_v3, val_main_v2, val_main_v1]

/-- The reference's result. -/
theorem r27 (i : Fin 2048) : val_main_v27 (F := Ideal) x0 x1 (ix2 i j) = res x0 x1 j i := by
  have h6 := pad6 x0 j
  have h12 := pad12 x0 j
  have h19 := pad19 x0 j
  unfold res
  pointwise [val_main_v0, val_main_v7, val_main_v8, val_main_v9, val_main_v10, val_main_v11, val_main_v13, val_main_v14, val_main_v15, val_main_v16, val_main_v17,
    val_main_v18, val_main_v20, val_main_v21, val_main_v22, val_main_v23, val_main_v24, val_main_v25, val_main_v26, val_main_v27, h6, h12, h19]
  simp only [mul_comm (x1 _)]

end Host

/-- The whole array. -/
theorem arr4 : (dats m 0 c).arrAt 4 cfg0.N = (Cert.Reference13Ideal.Read.val_main_v27 (F := Ideal) (Ap m c) (Aw m c)) := by
  refine (dats m 0 c).arrAt_eq_of_covers 4 _ (by decide +kernel) fun t hf y => ?_
  blk_simp
  rw [after0_4]
  frame_out
  obtain ⟨i, l, rfl⟩ : ∃ (i : Fin 2048) (l : Fin 256), y = ix2 i l := ⟨y 0, y 1, eq_ix2 y⟩
  have e : (win0_4.blk t).view.emb (ix2 i l) = ix2 i (chan t l) := by unfold chan; blk_ext [idx t]
  rw [e]
  exact (pay1 m c t i l).trans (r27 (Ap m c) (Aw m c) (chan t l) i).symm

end Cert.Proof.ScFwd

end
-- ==== Proof.ScFwd.Pair.lean ====
/- The short convolution's forward pass and its reference side by side: the reference's frame, and the equality of the results. -/
module

public import proofs.«01_k».proof.Defs
public import proofs.«01_k».proof.Proof.ScFwd.Value
public import proofs.«01_k».proof.Proof.Gen.Reference13Ideal.Run

@[expose] public section

set_option maxRecDepth 16384

noncomputable section

namespace Cert.Proof.ScFwd

open Idealize.ShloMosaic Idealize.SL.Sem Cert.Reference13Ideal.Read

/-- The reference leaves its arguments; it has no semaphore. -/
theorem frameR : Cert.quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

/-- Both programs end with the same array. -/
theorem equal : Cert.algebraic_Kernel13Ideal_Reference13Ideal (hKernel13Ideal := Cert.Kernel13Ideal.Gen.facts)
    (hReference13Ideal := Cert.Reference13Ideal.Gen.facts) := fun m ρ m' ρ' _ hag =>
  ⟨fun c => val_main_v27 (F := Ideal) (Ap m c) (Aw m c),
   (θ_run _ _ _).mono (fun _ h c => ⟨(h c).1.trans (arr4 m c), (h c).2⟩)
     (Cert.Kernel13Ideal.Value.run_blocks (F := Ideal) m ρ),
   (θ_run _ _ _).mono (fun _ h c => by
     obtain ⟨e0, e1⟩ := hag c
     refine ⟨(h c).1.trans ?_, (h c).2⟩
     · rw [val_main_v27_eq, e0, e1]
     )
     (Cert.Reference13Ideal.Value.run (F := Ideal) m' ρ')⟩

end Cert.Proof.ScFwd

end
-- ==== Proof.GnormFwd.Value.lean ====
/- The array that the gated group norm's forward pass leaves, block by block, against the reference's. -/
module

public import proofs.«01_k».proof.Proof.Gen.Kernel14Ideal.Value
public import proofs.«01_k».proof.Proof.Gen.Reference14Ideal.Read
public import proofs.«01_k».proof.Proof.Common.Norm
public import proofs.«01_k».proof.Proof.Gnorm.Ref
public import Idealize.ShloMosaic.Lib.Pipeline.ValueKit
public import Idealize.ShloMosaic.Lib.Pointwise
public import Idealize.ShloMosaic.Lib.StableHlo.RunRead

@[expose] public section

set_option maxRecDepth 16384

noncomputable section

open Cert.Proof.Gnorm (gated sg at1 at8 grp pos Yg Zg Wg)

namespace Cert.Proof.GnormFwd

open Cert.Kernel14Ideal Cert.Kernel14Ideal.Gen Cert.Kernel14Ideal.Value Idealize.ShloMosaic Idealize.ShloMosaic.TcCoe
  Idealize.SL.Sem Cert.Proof.Common

/-- Which block each window takes at point `t`: row block `t / 2`, column block `t % 2`. -/
theorem idx : ∀ t : Fin grid0.N, win0_0.index t = ![t.val / 2, t.val % 2] ∧ win0_1.index t = ![t.val / 2, 3 + t.val % 2]
    ∧ win0_2.index t = ![0, t.val % 2] ∧ win0_3.index t = ![t.val / 2, t.val % 2] := by decide +kernel

theorem hz2 : (![0, 0] : Fin 2 → ℕ) = fun _ => 0 := by decide

/-- A group's gated entries, normed and weighted. -/
def normS (y z w : Fin 256 → EReal) (l : Fin 256) : EReal := gated y z l * rs Gnorm.N (gated y z) * w l

section Block

variable (y : Vec Ideal S256x1024 .f32) (z : Vec Ideal S256x1024 .bf16) (w : Vec Ideal S1x1024 .f32)

/-- Group `k` of a row of each block. -/
def yR (r : Fin 256) (k : Fin 4) (l : Fin 256) : EReal := y (ix2 r (at1 k l))
def zR (r : Fin 256) (k : Fin 4) (l : Fin 256) : EReal := z (ix2 r (at1 k l))
def wR (k : Fin 4) (l : Fin 256) : EReal := w (ix2 0 (at1 k l))

/-- The block that the body leaves. -/
def normB : Vec Ideal S256x1024 .bf16 := fun j =>
  normS (yR y (j 0) (grp (j 1))) (zR z (j 0) (grp (j 1))) (wR w (grp (j 1))) (pos (j 1))

variable (r : Fin 256) (l : Fin 256)

theorem n0 : k0_pay6 z y w (ix2 r l) = normS (yR y r 0) (zR z r 0) (wR w 0) l := by
  unfold normS gated sg rs yR zR wR at1
  pointwise [k0_pay4, k0_pay5, k0_pay6]

theorem n1 : k0_pay1 (k0_pay5 w) (k0_pay7 z y) (k0_pay8 z y) (ix2 r l) = normS (yR y r 1) (zR z r 1) (wR w 1) l := by
  unfold normS gated sg rs yR zR wR at1
  pointwise [k0_pay1, k0_pay4, k0_pay5, k0_pay7, k0_pay8]

theorem n2 : k0_pay2 (k0_pay4 z y) (k0_pay5 w) (ix2 r l) = normS (yR y r 2) (zR z r 2) (wR w 2) l := by
  unfold normS gated sg rs yR zR wR at1
  pointwise [k0_pay2, k0_pay4, k0_pay5]

theorem n3 : k0_pay3 (k0_pay4 z y) (k0_pay5 w) (ix2 r l) = normS (yR y r 3) (zR z r 3) (wR w 3) l := by
  unfold normS gated sg rs yR zR wR at1
  pointwise [k0_pay3, k0_pay4, k0_pay5]

/-- Slice `k` of the columns, holding the norms of its groups, is that slice of the block. -/
theorem normB_of (k : Fin 4) (v : FVec Ideal S256x256 .bf16) (hv : ∀ r l, v (ix2 r l) = normS (yR y r k) (zR z r k) (wR w k) l)
    (x : S256x256.Idx) (j : S256x1024.Idx) (h0 : (j 0 : ℕ) = (x 0 : ℕ)) (h1 : (j 1 : ℕ) = 256 * k.val + (x 1 : ℕ)) : v x = normB y z w j := by
  obtain ⟨r, l, rfl⟩ : ∃ (r : Fin 256) (l : Fin 256), x = ix2 r l := ⟨x 0, x 1, eq_ix2 x⟩
  have e0 : j 0 = r := Fin.ext h0
  have h1 : (j 1 : ℕ) = 256 * k.val + l.val := h1
  have e1 : grp (j 1) = k := Fin.ext (by show (j 1 : ℕ) / 256 = _; omega)
  have e2 : pos (j 1) = l := Fin.ext (by show (j 1 : ℕ) % 256 = _; omega)
  unfold normB
  rw [e0, e1, e2]
  exact hv r l

end Block

variable (m : (ℓ : Loc nD τ sig) → Buf (Elt Ideal) ℓ) (c : Dev nD)

/-- The block that point `t` leaves. -/
theorem outs3 (t : Fin cfg0.N) : outsAt0 m c t = normB (iblk m c 0 t) (X0_1 m c t) (iblk m c 2 t) := by
  unfold outsAt0 out0_A_3
  rw [View.read_writes_eq_canon _ _ _ (cover0_A_3 _ _ _ _ _ _ _ _ _ _ _ _ _)]
  unfold kernelRun0_A
  dsimp only
  sl_unfold_words
  simp only [View.readAt_eq_ld, Memref.IsWhole.read_unread, View.ld_unit_zero (S := S256x1024) hz2, View.ld_unit_zero (S := S1x1024) hz2]
  generalize iblk m c 0 t = y
  generalize X0_1 m c t = z
  generalize iblk m c 2 t = w
  funext j
  canon_tiles x h
  · exact normB_of y z w 3 _ (n3 y z w) x j h0 h1
  · exact normB_of y z w 2 _ (n2 y z w) x j h0 h1
  · exact normB_of y z w 1 _ (n1 y z w) x j h0 h1
  · exact normB_of y z w 0 _ (n0 y z w) x j h0 (h1.trans (Nat.zero_add _).symm)

/-- The arguments at device `c`. -/
abbrev Ay : FVec Ideal S2048x2048 .f32 := m ((c : Thread nD τ).loc main_arg0)
abbrev Ap : FVec Ideal S2048x11296 .f32 := m ((c : Thread nD τ).loc main_arg1)
abbrev Aw : FVec Ideal S2048 .f32 := m ((c : Thread nD τ).loc main_arg2)

/-- Row `r` and group `k` of point `t`'s block. -/
def row (t : Fin grid0.N) (r : Fin 256) : Fin 2048 := ⟨256 * (t.val / 2) + r.val, by have := (show t.val < 16 from t.isLt); omega⟩
def gr (t : Fin grid0.N) (k : Fin 4) : Fin 8 := ⟨4 * (t.val % 2) + k.val, by omega⟩

/-- The packed projection's columns before the gate are `proj`'s. -/
theorem packed (i : Fin 2048) (j : Fin 11520) (h' : j.val < 9216) :
    V m c main_v5 (ix2 i j) = Ap m c (ix2 i ⟨j.val, by omega⟩) := by
  unfold V
  after_reads_simp
  pointwise
  refine (dif_pos h').trans ?_
  after_reads_simp
  pointwise

variable (t : Fin grid0.N) (r : Fin 256) (k : Fin 4)

theorem blkY : yR (iblk m c 0 t) r k = Yg (Ay m c) (row t r) (gr t k) := by
  funext l
  unfold yR Yg at1 at8 row gr
  blk_ext [iblk, V, idx t]

theorem blkW : wR (iblk m c 2 t) k = Wg (Aw m c) (gr t k) := by
  funext l
  unfold wR Wg at1 at8 gr
  blk_ext! [iblk, V, idx t]

theorem blkZ : zR (X0_1 m c t) r k = Zg (Ap m c) (row t r) (gr t k) := by
  funext l
  have ht : t.val < 16 := t.isLt
  unfold zR Zg
  refine Eq.trans ?_ (packed m c (row t r) ⟨3072 + (at8 (gr t k) l).val, by omega⟩ (by show 3072 + _ < 9216; omega))
  unfold X0_1 Pipeline.Window.fill
  rw [dif_pos (moved0_1 t _)]
  show V m c main_v5 _ = _
  congr 1
  unfold at1 at8 gr row
  blk_ext [idx t]

section Host

open Cert.Reference14Ideal.Read

variable (y : FVec Ideal S2048x2048 .f32) (p : FVec Ideal S2048x11296 .f32) (w : FVec Ideal S2048 .f32) (i : Fin 2048) (g : Fin 8) (l : Fin 256)

theorem r1 : val_main_v1 (F := Ideal) p (ix2 i (at8 g l)) = Zg p i g l * sg (Zg p i g l) := by
  unfold sg Zg
  pointwise [val_main_v0, val_main_call0_v0, val_main_call0_v1, val_main_call0_cst, val_main_call0_v2, val_main_call0_v3, val_main_call0_cst_0, val_main_call0_v4,
    val_main_call0_v5, val_main_v1]
  simp only [zero_sub]

theorem r3 : val_main_v3 (F := Ideal) y p (ix3 i g l) = gated (Yg y i g) (Zg p i g) l := by
  have h := r1 p i g l
  unfold gated Yg
  unfold at8 at *
  pointwise [val_main_v3, val_main_v2, h]

theorem r11 : val_main_v11 (F := Ideal) y p (ix3 i g 0) = rs Gnorm.N (gated (Yg y i g) (Zg p i g)) := by
  have h := r3 y p i g
  unfold rs
  pointwise [val_main_v4, val_main_cst, val_main_v5, val_main_v6, val_main_cst_0, val_main_v7, val_main_v8, val_main_cst_1, val_main_v9, val_main_v10,
    val_main_v11, h]

/-- The reference's result, at a group's entry. -/
theorem r18 : val_main_v18 (F := Ideal) y p w (ix2 i (at8 g l)) = normS (Yg y i g) (Zg p i g) (Wg w g) l := by
  have h := r3 y p i g
  have h' := r11 y p i g
  unfold normS Wg
  unfold at8
  pointwise [val_main_v12, val_main_v13, val_main_v14, val_main_v15, val_main_v16, val_main_v17, val_main_v18, h, h']

end Host

/-- The whole array. -/
theorem arr3 : (dats m 0 c).arrAt 3 cfg0.N = (Cert.Reference14Ideal.Read.val_main_v18 (F := Ideal) (Ay m c) (Ap m c) (Aw m c)) := by
  refine (dats m 0 c).arrAt_eq_of_covers 3 _ (by decide +kernel) fun t hf y => ?_
  blk_simp
  rw [after0_3, outs3]
  obtain ⟨r, l, rfl⟩ : ∃ (r : Fin 256) (l : Fin 1024), y = ix2 r l := ⟨y 0, y 1, eq_ix2 y⟩
  have e : (win0_3.blk t).view.emb (ix2 r l) = ix2 (row t r) (at8 (gr t (grp l)) (pos l)) := by
    unfold row at8 gr grp pos; blk_ext [idx t]
  rw [e, r18]
  show normS (yR _ r (grp l)) (zR _ r (grp l)) (wR _ (grp l)) (pos l) = _
  rw [blkY, blkZ, blkW]

end Cert.Proof.GnormFwd

end
-- ==== Proof.GnormFwd.Pair.lean ====
/- The gated group norm's forward pass and its reference side by side: the reference's frame, and the equality of the results. -/
module

public import proofs.«01_k».proof.Defs
public import proofs.«01_k».proof.Proof.GnormFwd.Value
public import proofs.«01_k».proof.Proof.Gen.Reference14Ideal.Run

@[expose] public section

set_option maxRecDepth 16384

noncomputable section

namespace Cert.Proof.GnormFwd

open Idealize.ShloMosaic Idealize.SL.Sem Cert.Reference14Ideal.Read

/-- The reference leaves its arguments; it has no semaphore. -/
theorem frameR : Cert.quiescent_Reference14Ideal (hReference14Ideal := Cert.Reference14Ideal.Gen.facts) := fun m ρ _ =>
  (θ_run _ _ _).mono (fun r h => ⟨fun c => (h c).2, sem_eq_zero_of_no_sems (by decide) r.2⟩)
    (Cert.Reference14Ideal.Value.run (F := Ideal) m ρ)

/-- Both programs end with the same array. -/
theorem equal : Cert.algebraic_Kernel14Ideal_Reference14Ideal (hKernel14Ideal := Cert.Kernel14Ideal.Gen.facts)
    (hReference14Ideal := Cert.Reference14Ideal.Gen.facts) := fun m ρ m' ρ' _ hag =>
  ⟨fun c => val_main_v18 (F := Ideal) (Ay m c) (Ap m c) (Aw m c),
   (θ_run _ _ _).mono (fun _ h c => ⟨(h c).1.trans (arr3 m c), (h c).2⟩)
     (Cert.Kernel14Ideal.Value.run_blocks (F := Ideal) m ρ),
   (θ_run _ _ _).mono (fun _ h c => by
     obtain ⟨e0, e1, e2⟩ := hag c
     refine ⟨(h c).1.trans ?_, (h c).2⟩
     · rw [val_main_v18_eq, e0, e1, e2]
     )
     (Cert.Reference14Ideal.Value.run (F := Ideal) m' ρ')⟩

end Cert.Proof.GnormFwd

end
-- ==== Proof.MergeFwd.Value.lean ====
/- The two arrays that the merge of the branches leaves, block by block, against the reference's. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.MergeFwd

open Cert.Kernel15Ideal Cert.Kernel15Ideal.Gen Cert.Kernel15Ideal.Value Idealize.ShloMosaic Idealize.ShloMosaic.TcCoe
  Idealize.SL.Sem

/-- Which block each window takes at point `t`: the `t`-th row block, at a fixed column block. -/
theorem idx : ∀ t : Fin grid0.N, win0_0.index t = ![t.val, 0] ∧ win0_1.index t = ![0, 0] ∧ win0_2.index t = ![t.val, 9]
    ∧ win0_3.index t = ![t.val, 10] ∧ win0_4.index t = ![0, 0] ∧ win0_5.index t = ![0, 1] ∧ win0_6.index t = ![t.val, 0]
    ∧ win0_7.index t = ![t.val, 0] ∧ win0_8.index t = ![t.val, 0] := by
  decide +kernel

variable (m : (ℓ : Loc nD τ sig) → Buf (Elt Ideal) ℓ) (c : Dev nD)

/-- The arguments at device `c`. -/
abbrev Ay : FVec Ideal S2048x2048 .bf16 := m ((c : Thread nD τ).loc main_arg0)
abbrev Aw : FVec Ideal S2048x1024 .f32 := m ((c : Thread nD τ).loc main_arg1)
abbrev Ap : FVec Ideal S2048x11296 .f32 := m ((c : Thread nD τ).loc main_arg2)
abbrev Ab : FVec Ideal S2048 .f32 := m ((c : Thread nD τ).loc main_arg3)
abbrev Aa : FVec Ideal S2048x1024 .f32 := m ((c : Thread nD τ).loc main_arg4)

/-- Row `r` of point `t`'s block, and column `l` of a half of the gate. -/
def row (t : Fin grid0.N) (r : Fin 512) : Fin 2048 := ⟨512 * t.val + r.val, by have := (show t.val < 4 from t.isLt); omega⟩
def left (l : Fin 1024) : Fin 2048 := ⟨l.val, by omega⟩
def right (l : Fin 1024) : Fin 2048 := ⟨1024 + l.val, by omega⟩

theorem blk0 (t : Fin grid0.N) (r : Fin 512) (l : Fin 2048) : iblk m c 0 t (ix2 r l) = Ay m c (ix2 (row t r) l) := by
  unfold row; blk_ext [iblk, V, idx t]
theorem blk1 (t : Fin grid0.N) (r : Fin 2048) (l : Fin 1024) : iblk m c 1 t (ix2 r l) = Aw m c (ix2 r l) := by
  blk_ext! [iblk, V, idx t]
theorem blk4 (t : Fin grid0.N) (l : Fin 1024) : iblk m c 4 t (ix2 0 l) = Ab m c (ix1 (left l)) := by
  unfold left; blk_ext! [iblk, V, idx t]
theorem blk5 (t : Fin grid0.N) (l : Fin 1024) : iblk m c 5 t (ix2 0 l) = Ab m c (ix1 (right l)) := by
  unfold right; blk_ext! [iblk, V, idx t]
theorem blk6 (t : Fin grid0.N) (r : Fin 512) (l : Fin 1024) : iblk m c 6 t (ix2 r l) = Aa m c (ix2 (row t r) l) := by
  unfold row; blk_ext [iblk, V, idx t]

/-- The packed projection's gate columns, which lie 32 columns further right in `proj`. -/
theorem packed (i : Fin 2048) (j : Fin 11520) (h : 9216 ≤ j.val) (h' : j.val < 11264) :
    V m c main_v6 (ix2 i j) = Ap m c (ix2 i ⟨j.val + 32, by omega⟩) := by
  unfold V
  after_results
  pointwise
  refine (dif_neg (show ¬ j.val < 9216 by omega)).trans ((dif_pos (show j.val - 9216 < 2048 by omega)).trans ?_)
  generalize hk : (⟨j.val - 9216, _⟩ : Fin 2048) = k
  replace hk : k.val = j.val - 9216 := (congrArg Fin.val hk).symm
  repeat first
    | rw [StableHlo.unary_result]
    | (rw [StableHlo.unary_result_ne]; rotate_left; decide)
    | (rw [StableHlo.nullary_result_ne]; rotate_left; decide)
  pointwise
  exact congrArg (fun k => Ap m c (ix2 i k)) (Fin.ext (by show 9248 + k.val = j.val + 32; omega))

theorem blk2 (t : Fin grid0.N) (r : Fin 512) (l : Fin 1024) :
    X0_2 m c t (ix2 r l) = Ap m c (ix2 (row t r) ⟨9248 + (left l).val, by omega⟩) := by
  refine Eq.trans ?_ ((packed m c (row t r) ⟨9216 + l.val, by omega⟩ (by simp) (by show 9216 + _ < 11264; omega)).trans ?_)
  · unfold X0_2 Pipeline.Window.fill
    rw [dif_pos (moved0_2 t (ix2 r l))]
    show V m c main_v6 _ = _
    congr 1
    blk_ext [idx t, row]
  · exact congrArg (fun k => Ap m c (ix2 (row t r) k)) (Fin.ext (by show 9216 + _ + 32 = 9248 + l.val; omega))

theorem blk3 (t : Fin grid0.N) (r : Fin 512) (l : Fin 1024) :
    X0_3 m c t (ix2 r l) = Ap m c (ix2 (row t r) ⟨9248 + (right l).val, by omega⟩) := by
  refine Eq.trans ?_ ((packed m c (row t r) ⟨9216 + (1024 + l.val), by omega⟩ (by show 9216 ≤ 9216 + _; omega)
    (by show 9216 + _ < 11264; omega)).trans ?_)
  · unfold X0_3 Pipeline.Window.fill
    rw [dif_pos (moved0_3 t (ix2 r l))]
    show V m c main_v6 _ = _
    congr 1
    blk_ext [idx t, row]
  · exact congrArg (fun k => Ap m c (ix2 (row t r) k)) (Fin.ext (by show 9216 + _ + 32 = 9248 + (1024 + l.val); omega))

theorem outs7 (t : Fin cfg0.N) : (outsAt0 m c t).1 = k0_pay2 (iblk m c 0 t) (iblk m c 1 t) := by
  unfold outsAt0; dsimp only; frame_out

theorem outs8 (t : Fin cfg0.N) : (outsAt0 m c t).2 = k0_pay1 (k0_pay2 (iblk m c 0 t) (iblk m c 1 t))
    (k0_pay3 (X0_3 m c t) (iblk m c 5 t)) (k0_pay4 (X0_2 m c t) (iblk m c 4 t) (iblk m c 6 t)) := by
  unfold outsAt0; dsimp only; frame_out

open Cert.Reference15Ideal.Read

/-- The state space branch's output, at a block's index. -/
theorem pay2 (t : Fin grid0.N) (r : Fin 512) (l : Fin 1024) : k0_pay2 (iblk m c 0 t) (iblk m c 1 t) (ix2 r l)
    = val_main_v1 (F := Ideal) (Ay m c) (Aw m c) (ix2 (row t r) l) := by
  have b0 := blk0 m c t
  have b1 := blk1 m c t
  generalize iblk m c 1 t = x1 at *
  generalize iblk m c 0 t = x0 at *
  pointwise [k0_pay2, b0, b1, val_main_v1, val_main_v0]

theorem arr7 : (dats m 0 c).arrAt 7 cfg0.N = (val_main_v1 (F := Ideal) (Ay m c) (Aw m c)) := by
  refine (dats m 0 c).arrAt_eq_of_covers 7 _ (by decide +kernel) fun t hf y => ?_
  blk_simp
  rw [after0_7, outs7]
  obtain ⟨r, l, rfl⟩ : ∃ (r : Fin 512) (l : Fin 1024), y = ix2 r l := ⟨y 0, y 1, eq_ix2 y⟩
  have e : (win0_7.blk t).view.emb (ix2 r l) = ix2 (row t r) l := by unfold row; blk_ext [idx t]
  rw [e]
  exact pay2 m c t r l

/-- The two branches merged. -/
theorem arr8 : (dats m 0 c).arrAt 8 cfg0.N
    = (val_main_v17 (F := Ideal) (Ay m c) (Aw m c) (Ap m c) (Ab m c) (Aa m c)) := by
  refine (dats m 0 c).arrAt_eq_of_covers 8 _ (by decide +kernel) fun t hf y => ?_
  blk_simp
  rw [after0_8, outs8]
  obtain ⟨r, l, rfl⟩ : ∃ (r : Fin 512) (l : Fin 1024), y = ix2 r l := ⟨y 0, y 1, eq_ix2 y⟩
  have e : (win0_8.blk t).view.emb (ix2 r l) = ix2 (row t r) l := by unfold row; blk_ext [idx t]
  rw [e]
  have e0 := pay2 m c t r l
  have e2 := blk2 m c t r l
  have e3 := blk3 m c t r l
  have e4 := blk4 m c t l
  have e5 := blk5 m c t l
  have e6 := blk6 m c t r l
  generalize k0_pay2 (iblk m c 0 t) (iblk m c 1 t) = x0 at *
  generalize X0_2 m c t = x2 at *
  generalize X0_3 m c t = x3 at *
  generalize iblk m c 4 t = x4 at *
  generalize iblk m c 5 t = x5 at *
  generalize iblk m c 6 t = x6 at *
  unfold left right at *
  pointwise [k0_pay1, k0_pay3, k0_pay4, e0, e2, e3, e4, e5, e6, val_main_v2, val_main_v3, val_main_v4, val_main_v5, val_main_v6, val_main_v7, val_main_cst, val_main_v8, val_main_v9, val_main_cst_0, val_main_v10,
    val_main_v11, val_main_v12, val_main_v13, val_main_v14, val_main_v15, val_main_v16, val_main_v17]
  simp only [zero_sub]

end Cert.Proof.MergeFwd

end
-- ==== Proof.MergeFwd.Pair.lean ====
/- The merge of the branches and its reference side by side: the reference's frame, and the equality of the results. -/
module

public import proofs.«01_k».proof.Defs
public import proofs.«01_k».proof.Proof.MergeFwd.Value
public import proofs.«01_k».proof.Proof.Gen.Reference15Ideal.Run

@[expose] public section

set_option maxRecDepth 16384

noncomputable section

namespace Cert.Proof.MergeFwd

open Idealize.ShloMosaic Idealize.SL.Sem Cert.Reference15Ideal.Read

/-- The reference leaves its arguments; it has no semaphore. -/
theorem frameR : Cert.quiescent_Reference15Ideal (hReference15Ideal := Cert.Reference15Ideal.Gen.facts) := fun m ρ _ =>
  (θ_run _ _ _).mono (fun r h => ⟨fun c => (h c).2.2, sem_eq_zero_of_no_sems (by decide) r.2⟩)
    (Cert.Reference15Ideal.Value.run (F := Ideal) m ρ)

/-- Both programs end with the same arrays. -/
theorem equal : Cert.algebraic_Kernel15Ideal_Reference15Ideal (hKernel15Ideal := Cert.Kernel15Ideal.Gen.facts)
    (hReference15Ideal := Cert.Reference15Ideal.Gen.facts) := fun m ρ m' ρ' _ hag =>
  ⟨fun c => val_main_v1 (F := Ideal) (Ay m c) (Aw m c),
   fun c => val_main_v17 (F := Ideal) (Ay m c) (Aw m c) (Ap m c) (Ab m c) (Aa m c),
   (θ_run _ _ _).mono (fun _ h c => ⟨(h c).1.trans (arr7 m c), (h c).2.1.trans (arr8 m c), (h c).2.2⟩)
     (Cert.Kernel15Ideal.Value.run_blocks (F := Ideal) m ρ),
   (θ_run _ _ _).mono (fun _ h c => by
     obtain ⟨e0, e1, e2, e3, e4⟩ := hag c
     refine ⟨(h c).1.trans ?_, (h c).2.1.trans ?_, (h c).2.2⟩
     · rw [val_main_v1_eq, e0, e1]
     · rw [val_main_v17_eq, e0, e1, e2, e3, e4]
     )
     (Cert.Reference15Ideal.Value.run (F := Ideal) m' ρ')⟩

end Cert.Proof.MergeFwd

end
-- ==== Proof.RmsFwd.Value.lean ====
/- The array that the norm of the residual stream leaves, block by block, against the reference's. -/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.RmsFwd

open Cert.Kernel16Ideal Cert.Kernel16Ideal.Gen Cert.Kernel16Ideal.Value Idealize.ShloMosaic Idealize.ShloMosaic.TcCoe
  Idealize.SL.Sem

/-- Which block each window takes at point `t`: the `t`-th row block, or the whole array. -/
theorem idx : ∀ t : Fin grid0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The arguments at device `c`. -/
abbrev Ax : FVec Ideal S2048x1024 .f32 := m ((c : Thread nD τ).loc main_arg0)
abbrev Aw : FVec Ideal S1024 .f32 := m ((c : Thread nD τ).loc main_arg1)
abbrev Ad : FVec Ideal S8x128 .f32 := m ((c : Thread nD τ).loc main_arg2)

/-- Row `r` of point `t`'s block. -/
def row (t : Fin grid0.N) (r : Fin 256) : Fin 2048 := ⟨256 * t.val + r.val, by have := (show t.val < 8 from t.isLt); omega⟩

theorem blk0 (t : Fin grid0.N) (r : Fin 256) (l : Fin 1024) : iblk m c 0 t (ix2 r l) = Ax m c (ix2 (row t r) l) := by
  unfold row; blk_ext [iblk, V, idx t]

theorem blk1 (t : Fin grid0.N) (l : Fin 1024) : iblk m c 1 t (ix2 0 l) = Aw m c (ix1 l) := by
  blk_ext! [iblk, V, idx t]

theorem outs2 (t : Fin cfg0.N) : outsAt0 m c t = k0_pay1 (iblk m c 0 t) (iblk m c 1 t) := by
  unfold outsAt0; frame_out

open Cert.Reference16Ideal.Read in
/-- The whole array. -/
theorem arr2 : (dats m 0 c).arrAt 2 cfg0.N = (val_main_v13 (F := Ideal) (Ax m c) (Aw m c)) := by
  refine (dats m 0 c).arrAt_eq_of_covers 2 _ (by decide +kernel) fun t hf y => ?_
  blk_simp
  rw [after0_2, outs2]
  obtain ⟨r, l, rfl⟩ : ∃ (r : Fin 256) (l : Fin 1024), y = ix2 r l := ⟨y 0, y 1, eq_ix2 y⟩
  have e : (win0_2.blk t).view.emb (ix2 r l) = ix2 (row t r) l := by unfold row; blk_ext [idx t]
  rw [e]
  have e0 := fun n => blk0 m c t r n
  have e1 := fun n => blk1 m c t n
  generalize iblk m c 1 t = x1 at *
  generalize iblk m c 0 t = x0 at *
  pointwise [k0_pay1, e0, e1, val_main_v0, val_main_cst, val_main_v1, val_main_v2, val_main_cst_0, val_main_v3, val_main_v4, val_main_cst_1, val_main_v5, val_main_v6, val_main_v7,
    val_main_v8, val_main_v9, val_main_v10, val_main_v11, val_main_v12, val_main_v13]

end Cert.Proof.RmsFwd

end
-- ==== Proof.RmsFwd.Pair.lean ====
/- The norm of the residual stream and its reference side by side: the reference's frame, and the equality of the results. -/
module

public import proofs.«01_k».proof.Defs
public import proofs.«01_k».proof.Proof.RmsFwd.Value
public import proofs.«01_k».proof.Proof.Gen.Reference16Ideal.Run

@[expose] public section

set_option maxRecDepth 16384

noncomputable section

namespace Cert.Proof.RmsFwd

open Idealize.ShloMosaic Idealize.SL.Sem Cert.Reference16Ideal.Read

/-- The reference leaves its arguments; it has no semaphore. -/
theorem frameR : Cert.quiescent_Reference16Ideal (hReference16Ideal := Cert.Reference16Ideal.Gen.facts) := fun m ρ _ =>
  (θ_run _ _ _).mono (fun r h => ⟨fun c => (h c).2, sem_eq_zero_of_no_sems (by decide) r.2⟩)
    (Cert.Reference16Ideal.Value.run (F := Ideal) m ρ)

/-- Both programs end with the same array. -/
theorem equal : Cert.algebraic_Kernel16Ideal_Reference16Ideal (hKernel16Ideal := Cert.Kernel16Ideal.Gen.facts)
    (hReference16Ideal := Cert.Reference16Ideal.Gen.facts) := fun m ρ m' ρ' _ hag =>
  ⟨fun c => val_main_v13 (F := Ideal) (Ax m c) (Aw m c),
   (θ_run _ _ _).mono (fun _ h c => ⟨(h c).1.trans (arr2 m c), (h c).2⟩)
     (Cert.Kernel16Ideal.Value.run_blocks (F := Ideal) m ρ),
   (θ_run _ _ _).mono (fun _ h c => by
     obtain ⟨e0, e1, e2⟩ := hag c
     refine ⟨(h c).1.trans ?_, (h c).2⟩
     · rw [val_main_v13_eq, e0, e1]
     )
     (Cert.Reference16Ideal.Value.run (F := Ideal) m' ρ')⟩

end Cert.Proof.RmsFwd

end
-- ==== Proof.ResRms.Value.lean ====
/- The two arrays that the product added to the residual stream and normed leaves, block by block, against the reference's. -/
module

public import proofs.«01_k».proof.Proof.Gen.Kernel17Ideal.Value
public import proofs.«01_k».proof.Proof.Gen.Reference17Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.ResRms

open Cert.Kernel17Ideal Cert.Kernel17Ideal.Gen Cert.Kernel17Ideal.Value Idealize.ShloMosaic Idealize.ShloMosaic.TcCoe
  Idealize.SL.Sem

/-- Which block each window takes at point `t`: the `t`-th row block, or the whole array. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

variable (m : (ℓ : Loc nD τ sig) → Buf (Elt Ideal) ℓ) (c : Dev nD)

/-- The arguments at device `c`. -/
abbrev Am : FVec Ideal S2048x1024 .bf16 := m ((c : Thread nD τ).loc main_arg0)
abbrev Aw : FVec Ideal S1024x1024 .f32 := m ((c : Thread nD τ).loc main_arg1)
abbrev Ax : FVec Ideal S2048x1024 .f32 := m ((c : Thread nD τ).loc main_arg2)
abbrev An : FVec Ideal S1024 .f32 := m ((c : Thread nD τ).loc main_arg3)

/-- Row `r` of point `t`'s block. -/
def row (t : Fin grid0.N) (r : Fin 1024) : Fin 2048 := ⟨1024 * t.val + r.val, by have := (show t.val < 2 from t.isLt); omega⟩

theorem blk0 (t : Fin grid0.N) (r l : Fin 1024) : iblk m c 0 t (ix2 r l) = Am m c (ix2 (row t r) l) := by
  unfold row; blk_ext [iblk, V, idx t]
theorem blk1 (t : Fin grid0.N) (r l : Fin 1024) : iblk m c 1 t (ix2 r l) = Aw m c (ix2 r l) := by
  blk_ext! [iblk, V, idx t]
theorem blk2 (t : Fin grid0.N) (r l : Fin 1024) : iblk m c 2 t (ix2 r l) = Ax m c (ix2 (row t r) l) := by
  unfold row; blk_ext [iblk, V, idx t]
theorem blk3 (t : Fin grid0.N) (l : Fin 1024) : iblk m c 3 t (ix2 0 l) = An m c (ix1 l) := by
  blk_ext! [iblk, V, idx t]

open Cert.Reference17Ideal.Read

/-- The residual stream after the product is added, at a block's index. -/
theorem pay1 (t : Fin grid0.N) (r l : Fin 1024) : k0_pay1 (iblk m c 2 t) (iblk m c 0 t) (iblk m c 1 t) (ix2 r l)
    = val_main_v2 (F := Ideal) (Am m c) (Aw m c) (Ax m c) (ix2 (row t r) l) := by
  have b0 := blk0 m c t
  have b1 := blk1 m c t
  have b2 := blk2 m c t
  generalize iblk m c 2 t = x2 at *
  generalize iblk m c 1 t = x1 at *
  generalize iblk m c 0 t = x0 at *
  pointwise [k0_pay1, b0, b1, b2, val_main_v2, val_main_v1, val_main_v0]

/-- The residual stream. -/
theorem arr4 : (dats m 0 c).arrAt 4 cfg0.N = (val_main_v2 (F := Ideal) (Am m c) (Aw m c) (Ax m c)) := by
  refine (dats m 0 c).arrAt_eq_of_covers 4 _ (by decide +kernel) fun t hf y => ?_
  blk_simp
  rw [after0_4]
  frame_out
  obtain ⟨r, l, rfl⟩ : ∃ (r l : Fin 1024), y = ix2 r l := ⟨y 0, y 1, eq_ix2 y⟩
  have e : (win0_4.blk t).view.emb (ix2 r l) = ix2 (row t r) l := by unfold row; blk_ext [idx t]
  rw [e]
  exact pay1 m c t r l

/-- Its norm. -/
theorem arr5 : (dats m 0 c).arrAt 5 cfg0.N = (val_main_v16 (F := Ideal) (Am m c) (Aw m c) (Ax m c) (An m c)) := by
  refine (dats m 0 c).arrAt_eq_of_covers 5 _ (by decide +kernel) fun t hf y => ?_
  blk_simp
  rw [after0_5]
  frame_out
  obtain ⟨r, l, rfl⟩ : ∃ (r l : Fin 1024), y = ix2 r l := ⟨y 0, y 1, eq_ix2 y⟩
  have e : (win0_5.blk t).view.emb (ix2 r l) = ix2 (row t r) l := by unfold row; blk_ext [idx t]
  rw [e]
  have e0 := fun n => pay1 m c t r n
  have e1 := fun n => blk3 m c t n
  unfold k0_pay2
  generalize k0_pay1 (iblk m c 2 t) (iblk m c 0 t) (iblk m c 1 t) = x0 at *
  generalize iblk m c 3 t = x3 at *
  pointwise [e0, e1, val_main_v3, val_main_cst, val_main_v4, val_main_v5, val_main_cst_0, val_main_v6, val_main_v7, val_main_cst_1, val_main_v8, val_main_v9,
    val_main_v10, val_main_v11, val_main_v12, val_main_v13, val_main_v14, val_main_v15, val_main_v16]

end Cert.Proof.ResRms

end
-- ==== Proof.ResRms.Pair.lean ====
/- The product added to the residual stream and normed and its reference side by side: the reference's frame, and the equality of the results. -/
module

public import proofs.«01_k».proof.Defs
public import proofs.«01_k».proof.Proof.ResRms.Value
public import proofs.«01_k».proof.Proof.Gen.Reference17Ideal.Run

@[expose] public section

set_option maxRecDepth 16384

noncomputable section

namespace Cert.Proof.ResRms

open Idealize.ShloMosaic Idealize.SL.Sem Cert.Reference17Ideal.Read

/-- The reference leaves its arguments; it has no semaphore. -/
theorem frameR : Cert.quiescent_Reference17Ideal (hReference17Ideal := Cert.Reference17Ideal.Gen.facts) := fun m ρ _ =>
  (θ_run _ _ _).mono (fun r h => ⟨fun c => (h c).2.2, sem_eq_zero_of_no_sems (by decide) r.2⟩)
    (Cert.Reference17Ideal.Value.run (F := Ideal) m ρ)

/-- Both programs end with the same arrays. -/
theorem equal : Cert.algebraic_Kernel17Ideal_Reference17Ideal (hKernel17Ideal := Cert.Kernel17Ideal.Gen.facts)
    (hReference17Ideal := Cert.Reference17Ideal.Gen.facts) := fun m ρ m' ρ' _ hag =>
  ⟨fun c => val_main_v2 (F := Ideal) (Am m c) (Aw m c) (Ax m c),
   fun c => val_main_v16 (F := Ideal) (Am m c) (Aw m c) (Ax m c) (An m c),
   (θ_run _ _ _).mono (fun _ h c => ⟨(h c).1.trans (arr4 m c), (h c).2.1.trans (arr5 m c), (h c).2.2⟩)
     (Cert.Kernel17Ideal.Value.run_blocks (F := Ideal) m ρ),
   (θ_run _ _ _).mono (fun _ h c => by
     obtain ⟨e0, e1, e2, e3⟩ := hag c
     refine ⟨(h c).1.trans ?_, (h c).2.1.trans ?_, (h c).2.2⟩
     · rw [val_main_v2_eq, e0, e1, e2]
     · rw [val_main_v16_eq, e0, e1, e2, e3]
     )
     (Cert.Reference17Ideal.Value.run (F := Ideal) m' ρ')⟩

end Cert.Proof.ResRms

end
-- ==== Proof.Relu2.Value.lean ====
/- The two arrays that the product into the squared relu leaves, block by block, against the reference's. -/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Relu2

open Cert.Kernel18Ideal Cert.Kernel18Ideal.Gen Cert.Kernel18Ideal.Value Idealize.ShloMosaic Idealize.ShloMosaic.TcCoe
  Idealize.SL.Sem

/-- Which block each window takes at point `t`: row block `t % 2`, column block `t / 2`. -/
theorem idx : ∀ t : Fin grid0.N, win0_0.index t = ![t.val % 2, 0] ∧ win0_1.index t = ![0, t.val / 2]
    ∧ win0_2.index t = ![t.val % 2, t.val / 2] ∧ win0_3.index t = ![t.val % 2, t.val / 2] := by decide +kernel

variable (m : (ℓ : Loc nD τ sig) → Buf (Elt Ideal) ℓ) (c : Dev nD)

/-- The arguments at device `c`. -/
abbrev Ah : FVec Ideal S2048x1024 .bf16 := m ((c : Thread nD τ).loc main_arg0)
abbrev Aw : FVec Ideal S1024x4096 .f32 := m ((c : Thread nD τ).loc main_arg1)

/-- Row `r` and column `l` of point `t`'s block. -/
def row (t : Fin grid0.N) (r : Fin 1024) : Fin 2048 := ⟨1024 * (t.val % 2) + r.val, by omega⟩
def col (t : Fin grid0.N) (l : Fin 1024) : Fin 4096 :=
  ⟨1024 * (t.val / 2) + l.val, by have := (show t.val < 8 from t.isLt); omega⟩

theorem blk0 (t : Fin grid0.N) (r l : Fin 1024) : iblk m c 0 t (ix2 r l) = Ah m c (ix2 (row t r) l) := by
  unfold row; blk_ext [iblk, V, idx t]

theorem blk1 (t : Fin grid0.N) (r l : Fin 1024) : iblk m c 1 t (ix2 r l) = Aw m c (ix2 r (col t l)) := by
  unfold col; blk_ext! [iblk, V, idx t]

open Cert.Reference18Ideal.Read in
/-- The product. -/
theorem arr2 : (dats m 0 c).arrAt 2 cfg0.N = (val_main_v2 (F := Ideal) (Ah m c) (Aw m c)) := by
  refine (dats m 0 c).arrAt_eq_of_covers 2 _ (by decide +kernel) fun t hf y => ?_
  blk_simp
  rw [after0_2]
  frame_out
  obtain ⟨r, l, rfl⟩ : ∃ (r l : Fin 1024), y = ix2 r l := ⟨y 0, y 1, eq_ix2 y⟩
  have e : (win0_2.blk t).view.emb (ix2 r l) = ix2 (row t r) (col t l) := by unfold row col; blk_ext [idx t]
  rw [e]
  have e0 := fun n => blk0 m c t r n
  have e1 := fun n => blk1 m c t n l
  generalize iblk m c 1 t = x1 at *
  generalize iblk m c 0 t = x0 at *
  pointwise [k0_pay2, k0_pay1, e0, e1, val_main_v2, val_main_v1, val_main_v0]

open Cert.Reference18Ideal.Read in
/-- The squared relu of the product. -/
theorem arr3 : (dats m 0 c).arrAt 3 cfg0.N = (val_main_v5 (F := Ideal) (Ah m c) (Aw m c)) := by
  refine (dats m 0 c).arrAt_eq_of_covers 3 _ (by decide +kernel) fun t hf y => ?_
  blk_simp
  rw [after0_3]
  frame_out
  obtain ⟨r, l, rfl⟩ : ∃ (r l : Fin 1024), y = ix2 r l := ⟨y 0, y 1, eq_ix2 y⟩
  have e : (win0_3.blk t).view.emb (ix2 r l) = ix2 (row t r) (col t l) := by unfold row col; blk_ext [idx t]
  rw [e]
  have e0 := fun n => blk0 m c t r n
  have e1 := fun n => blk1 m c t n l
  generalize iblk m c 1 t = x1 at *
  generalize iblk m c 0 t = x0 at *
  pointwise [k0_pay3, k0_pay1, e0, e1, val_main_v0, val_main_v1, val_main_call0_cst, val_main_call0_v0, val_main_v3, val_main_v4, val_main_v5]

end Cert.Proof.Relu2

end
-- ==== Proof.Relu2.Pair.lean ====
/- The product into the squared relu and its reference side by side: the reference's frame, and the equality of the results. -/
module

public import proofs.«01_k».proof.Defs
public import proofs.«01_k».proof.Proof.Relu2.Value
public import proofs.«01_k».proof.Proof.Gen.Reference18Ideal.Run

@[expose] public section

set_option maxRecDepth 16384

noncomputable section

namespace Cert.Proof.Relu2

open Idealize.ShloMosaic Idealize.SL.Sem Cert.Reference18Ideal.Read

/-- The reference leaves its arguments; it has no semaphore. -/
theorem frameR : Cert.quiescent_Reference18Ideal (hReference18Ideal := Cert.Reference18Ideal.Gen.facts) := fun m ρ _ =>
  (θ_run _ _ _).mono (fun r h => ⟨fun c => (h c).2.2, sem_eq_zero_of_no_sems (by decide) r.2⟩)
    (Cert.Reference18Ideal.Value.run (F := Ideal) m ρ)

/-- Both programs end with the same arrays. -/
theorem equal : Cert.algebraic_Kernel18Ideal_Reference18Ideal (hKernel18Ideal := Cert.Kernel18Ideal.Gen.facts)
    (hReference18Ideal := Cert.Reference18Ideal.Gen.facts) := fun m ρ m' ρ' _ hag =>
  ⟨fun c => val_main_v2 (F := Ideal) (Ah m c) (Aw m c),
   fun c => val_main_v5 (F := Ideal) (Ah m c) (Aw m c),
   (θ_run _ _ _).mono (fun _ h c => ⟨(h c).1.trans (arr2 m c), (h c).2.1.trans (arr3 m c), (h c).2.2⟩)
     (Cert.Kernel18Ideal.Value.run_blocks (F := Ideal) m ρ),
   (θ_run _ _ _).mono (fun _ h c => by
     obtain ⟨e0, e1⟩ := hag c
     refine ⟨(h c).1.trans ?_, (h c).2.1.trans ?_, (h c).2.2⟩
     · rw [val_main_v2_eq, e0, e1]
     · rw [val_main_v5_eq, e0, e1]
     )
     (Cert.Reference18Ideal.Value.run (F := Ideal) m' ρ')⟩

end Cert.Proof.Relu2

end
-- ==== Proof.DtPrep.Value.lean ====
/- The steps, the running sums of their decays and their slopes, each head in its group's lane, against the reference's. -/
module

public import proofs.«01_k».proof.Proof.Gen.Kernel19Ideal.Value
public import proofs.«01_k».proof.Proof.Gen.Reference19Ideal.Read
public import proofs.«01_k».proof.Proof.Common.Norm
public import proofs.«01_k».proof.Proof.Ssd.Cumsum
public import proofs.«01_k».proof.Proof.Ssd.Host
public import proofs.«01_k».proof.Proof.Gen.Pre_finite_dt_prep
public import Idealize.ShloMosaic.Lib.KernelVsHost
public import Idealize.ShloMosaic.Lib.Pipeline.ValueKit
public import Idealize.ShloMosaic.Lib.Pointwise
public import Idealize.ShloMosaic.Lib.StableHlo.RunRead

@[expose] public section

set_option maxRecDepth 16384

noncomputable section

open Cert.Proof.Ssd (cumsum3 softplus_coe)

namespace Cert.Proof.DtPrep

open Cert.Kernel19Ideal Cert.Kernel19Ideal.Gen Cert.Kernel19Ideal.Value Idealize.ShloMosaic Idealize.ShloMosaic.TcCoe
  Idealize.SL.Sem Cert.Proof.Common

/-- Which block each window takes at point `t`. -/
theorem idx : ∀ t : Fin grid0.N, win0_0.index t = ![t.val, 0] ∧ win0_1.index t = ![0, 0] ∧ win0_2.index t = ![0, t.val, 0]
    ∧ win0_3.index t = ![0, t.val, 0] ∧ win0_4.index t = ![0, t.val, 0] := by decide +kernel

/-- The step of a number, and its slope. -/
def sp (x : EReal) : EReal := max x 0 + Ideal.log1p (Ideal.exp (-FloatOps.absf (F := Ideal) (φ := .f32) x))
def sl (x : EReal) : EReal := Ideal.div 1 (1 + Ideal.exp (-x))

section Turn

variable (v : FVec Ideal S128x128 .f32)

/-- Four lanes of a block, from lane `4 g` on, in the first four places; zero in the others. -/
def turn (g : Fin 8) (r k : Fin 128) : EReal := if k.val < 4 then v (ix2 r ⟨(4 * g.val + k.val) % 128, by omega⟩) else 0

/-- All eight groups' lanes. -/
def turnB : Vec Ideal S8x128x128 .f32 := fun j => turn v (j 0) (j 1) (j 2)

/-- The numbers of the lanes. -/
abbrev lanes : IVec S128x128 32 := iota .tc S128x128 32 [1] iota_S128x128_d1_w32

/-- A block whose lanes from the fourth on are zero, under a new axis. -/
def four (w : FVec Ideal S128x128 .f32) : FVec Ideal S1x128x128 .f32 :=
  shapeCast S1x128x128 (select (cmpi .slt lanes (broadcast S128x128 4#32)) w (broadcast S128x128 (Scalar.ofBits .f32 0x00000000#32))) shapeCasts_S128x128_S1x128x128

/-- The same block with its lanes turned by `s`. -/
def turned (s : BitVec 32) : FVec Ideal S1x128x128 .f32 := four (dynamicRotate 1 s none v rotates_S128x128_d1)

theorem lane_lt : ∀ k : Fin 128, IntOp.cmpi .slt (BitVec.ofNat 32 k.val) 4#32 = if k.val < 4 then 1#1 else 0#1 := by decide +kernel

theorem four_apply (w : FVec Ideal S128x128 .f32) (r k : Fin 128) : four w (ix3 0 r k) = if k.val < 4 then w (ix2 r k) else 0 := by
  pointwise [four, lanes]
  rw [lane_lt]
  by_cases h : k.val < 4 <;> simp [h, Scalar.select]

/-- A block turned back by `4 g` lanes, cut after the fourth, holds group `g`'s lanes. -/
theorem turned_apply (g : Fin 8) (s : BitVec 32) (hs : s.toNat + 4 * g.val = 128) (r k : Fin 128) : turned v s (ix3 0 r k) = turn v g r k := by
  unfold turned turn
  rw [four_apply]
  by_cases h : k.val < 4
  · rw [if_pos h, if_pos h]
    refine dynamicRotate_apply (s := S128x128) (1 : Fin 2) s v _ _ _ fun b => ?_
    fin_cases b
    · rfl
    · show (4 * g.val + k.val) % 128 = (k.val + 128 - s.toNat % 128) % 128
      have := g.isLt
      by_cases h0 : g.val = 0
      · have e : s.toNat = 128 := by omega
        rw [e, h0]; omega
      · rw [Nat.mod_eq_of_lt (a := s.toNat) (by omega)]
        congr 1; omega
  · rw [if_neg h, if_neg h]

theorem four_turn (r k : Fin 128) : four v (ix3 0 r k) = turn v 0 r k := by
  unfold turn
  rw [four_apply]
  by_cases h : k.val < 4
  · rw [if_pos h, if_pos h]
    exact congrArg (fun q => v (ix2 r q)) (Fin.ext (by show k.val = (4 * 0 + k.val) % 128; omega))
  · rw [if_neg h, if_neg h]

theorem slab (g : Fin 8) (w : FVec Ideal S1x128x128 .f32) (hw : ∀ r k, w (ix3 0 r k) = turn v g r k) (x : S1x128x128.Idx) (j : S8x128x128.Idx)
    (h0 : (j 0 : ℕ) = g.val + (x 0 : ℕ)) (h1 : (j 1 : ℕ) = (x 1 : ℕ)) (h2 : (j 2 : ℕ) = (x 2 : ℕ)) : w x = turnB v j := by
  obtain ⟨o, r, k, rfl⟩ : ∃ (o : Fin 1) (r k : Fin 128), x = ix3 o r k := ⟨x 0, x 1, x 2, eq_ix3 x⟩
  obtain rfl : o = 0 := Subsingleton.elim _ _
  have e0 : j 0 = g := Fin.ext h0
  have e1 : j 1 = r := Fin.ext h1
  have e2 : j 2 = k := Fin.ext h2
  unfold turnB
  rw [e0, e1, e2]
  exact hw r k

/-- The eight stores fill the block with the groups' lanes. -/
theorem stores : View.canon [⟨r0_9, turned v 100#32⟩, ⟨r0_8, turned v 104#32⟩, ⟨r0_7, turned v 108#32⟩, ⟨r0_6, turned v 112#32⟩,
    ⟨r0_5, turned v 116#32⟩, ⟨r0_4, turned v 120#32⟩, ⟨r0_3, turned v 124#32⟩, ⟨r0_2, four v⟩] = turnB v := by
  funext j
  canon_tiles x h
  · exact slab v 7 _ (turned_apply v 7 _ rfl) x j h0 h1 h2
  · exact slab v 6 _ (turned_apply v 6 _ rfl) x j h0 h1 h2
  · exact slab v 5 _ (turned_apply v 5 _ rfl) x j h0 h1 h2
  · exact slab v 4 _ (turned_apply v 4 _ rfl) x j h0 h1 h2
  · exact slab v 3 _ (turned_apply v 3 _ rfl) x j h0 h1 h2
  · exact slab v 2 _ (turned_apply v 2 _ rfl) x j h0 h1 h2
  · exact slab v 1 _ (turned_apply v 1 _ rfl) x j h0 h1 h2
  · exact slab v 0 _ (four_turn v) x j (h0.trans (Nat.zero_add _).symm) h1 h2

end Turn

variable (m : (ℓ : Loc nD τ sig) → Buf (Elt Ideal) ℓ) (c : Dev nD)

theorem hz2 : (![0, 0] : Fin 2 → ℕ) = fun _ => 0 := by decide

section Block

variable (x : Vec Ideal S128x256 .f32) (y : Vec Ideal S8x128 .f32)

/-- The number before the step, and the decay's rate, in a lane of a block. -/
def preR (r l : Fin 128) : EReal := x (ix2 r ⟨l.val, by omega⟩) + y (ix2 0 l)
def rateR (l : Fin 128) : EReal := -Ideal.exp (y (ix2 1 l))

theorem out2 : out0_2 x y = turnB (k0_pay37 x y) := stores (k0_pay37 x y)
theorem out3 : out0_3 x y = turnB (k0_pay38 x y) := stores (k0_pay38 x y)
theorem out4 : out0_4 x y = turnB (k0_pay39 x y) := stores (k0_pay39 x y)

theorem pay2_apply (r l : Fin 128) : k0_pay2 (View.ld y r0_0) (View.ld x r0_1) (ix2 r l) = preR x y r l := by
  rw [View.ld_unit_zero (S := S8x128) hz2]
  unfold preR
  pointwise [k0_pay2, k0_pay1]

theorem pay37_apply (r l : Fin 128) : k0_pay37 x y (ix2 r l) = sp (preR x y r l) := by
  have h := pay2_apply x y
  unfold sp k0_pay37
  pointwise [k0_pay3, h]
  simp only [zero_sub]

theorem pay39_apply (r l : Fin 128) : k0_pay39 x y (ix2 r l) = sl (preR x y r l) := by
  have h := pay2_apply x y
  unfold sl k0_pay39
  pointwise [k0_pay7, k0_pay6, k0_pay5, h]
  simp only [zero_sub]

theorem tri_le : ∀ r k : Fin 128, IntOp.cmpi .sle (BitVec.ofNat 32 k.val) (BitVec.ofNat 32 r.val) = if k ≤ r then 1#1 else 0#1 := by decide +kernel

/-- The running sum: the number splits in three parts, of which a real number has only the first. -/
theorem pay38_apply (r l : Fin 128) (H : ∀ k, IsReal (sp (preR x y k l) * rateR y l)) :
    k0_pay38 x y (ix2 r l) = ∑ k, if k ≤ r then sp (preR x y k l) * rateR y l else 0 := by
  have h := pay37_apply x y
  unfold k0_pay37 at h
  unfold rateR at *
  unfold k0_pay38
  pointwise [k0_pay4, k0_pay1, h]
  have z (k : Fin 128) : sp (preR x y k l) * -Ideal.exp (y (ix2 1 l)) - sp (preR x y k l) * -Ideal.exp (y (ix2 1 l)) = 0 := by
    obtain ⟨a, e⟩ := H k
    rw [e, ← EReal.coe_sub, sub_self]; rfl
  simp only [zero_sub (Ideal.exp (y (ix2 1 l))), z, sub_zero, mul_zero, Finset.sum_const_zero, add_zero, tri_le]
  refine Finset.sum_congr rfl fun k _ => ?_
  by_cases hk : k ≤ r
  · simp [hk, FloatOps.sitofp]
  · simp [hk, FloatOps.sitofp]

end Block

/-- The arguments at device `c`. -/
abbrev Ar : FVec Ideal S2048x32 .f32 := m ((c : Thread nD τ).loc main_arg0)
abbrev Ab : FVec Ideal S32 .f32 := m ((c : Thread nD τ).loc main_arg1)
abbrev Al : FVec Ideal S32 .f32 := m ((c : Thread nD τ).loc main_arg2)

/-- Row `r` of point `t`'s block. -/
def row (t : Fin 16) (r : Fin 128) : Fin 2048 := ⟨t.val * 128 + r.val, by omega⟩

variable (t : Fin grid0.N) (r : Fin 128)

theorem pre_eq (h : Fin 32) : preR (iblk m c 0 t) (iblk m c 1 t) r ⟨h.val, by omega⟩ = Ar m c (ix2 (row t r) h) + Ab m c (ix1 h) := by
  unfold preR
  congr 1
  · have e : iblk m c 0 t (ix2 r ⟨h.val, by omega⟩) = V m c main_v4 (ix2 (row t r) ⟨h.val, by omega⟩) := by
      unfold row; blk_ext [iblk, idx t]
    refine e.trans ?_
    unfold V
    after_reads_simp
    pointwise
  · have e : iblk m c 1 t (ix2 0 ⟨h.val, by omega⟩) = V m c main_v3 (ix2 0 ⟨h.val, by omega⟩) := by
      blk_ext [iblk, idx t]
    refine e.trans ?_
    unfold V
    after_reads_simp
    pointwise
    after_reads_simp
    pointwise

theorem rate_eq (h : Fin 32) : rateR (iblk m c 1 t) ⟨h.val, by omega⟩ = -Ideal.exp (Al m c (ix1 h)) := by
  unfold rateR
  refine congrArg (fun q => -Ideal.exp q) ?_
  have e : iblk m c 1 t (ix2 1 ⟨h.val, by omega⟩) = V m c main_v3 (ix2 1 ⟨h.val, by omega⟩) := by
    blk_ext [iblk, idx t]
  refine e.trans ?_
  unfold V
  after_reads_simp
  pointwise
  after_reads_simp
  pointwise

section Host

open Cert.Reference19Ideal.Read

variable (a : FVec Ideal S2048x32 .f32) (b al : FVec Ideal S32 .f32) (i : Fin 2048) (h : Fin 32) (g : Fin 8) (k : Fin 128)

/-- Head `k` of group `g`. -/
def head (g : Fin 8) (k : Fin 128) : Fin 32 := ⟨(4 * g.val + k.val) % 32, by omega⟩

theorem r3 : val_main_v3 (F := Ideal) a b (ix2 i h) = sp (a (ix2 i h) + b (ix1 h)) := by
  unfold sp
  pointwise [val_main_v0, val_main_v1, val_main_v2, val_main_call0_cst, val_main_call0_v0, val_main_call0_v1, val_main_call0_v2, val_main_call0_v3,
    val_main_call0_v4, val_main_call0_v5, val_main_call0_v6, val_main_call0_v7, val_main_call0_v8, val_main_call0_v9, val_main_call0_v10,
    val_main_call0_v11, val_main_v3, val_main_call1_call0_cst, val_main_call1_call0_v0]
  rw [if_neg (fun h => h rfl)]

theorem r20 : val_main_v20 (F := Ideal) a b (ix2 i h) = sl (a (ix2 i h) + b (ix1 h)) := by
  unfold sl
  pointwise [val_main_v12, val_main_v13, val_main_v14, val_main_v15, val_main_v16, val_main_cst, val_main_v17, val_main_v18, val_main_cst_0, val_main_v19,
    val_main_v20]

theorem r10 (t : Fin 16) (r : Fin 128) : val_main_v10 (F := Ideal) a b al (ix3 t r h)
    = ∑ k, if k ≤ r then sp (a (ix2 (row t k) h) + b (ix1 h)) * -Ideal.exp (al (ix1 h)) else 0 := by
  have e (k : Fin 128) : val_main_v9 (F := Ideal) a b al (ix3 t k h) = sp (a (ix2 (row t k) h) + b (ix1 h)) * -Ideal.exp (al (ix1 h)) := by
    have e := r3 a b
    unfold row
    pointwise [val_main_v9, val_main_v8, val_main_v7, val_main_v6, val_main_v5, val_main_v4, e]
  unfold val_main_v10
  refine (cumsum3 (val_main_v9 (F := Ideal) a b al) _ _ _ ?_ t r h).trans ?_
  · show Ideal.ofBits .f32 0#32 = 0
    simp [Ideal.ofBits, Ideal.ieee]
  · simp only [e]

/-- A head's number, where the lane is a head's. -/
theorem at_head (f : Fin 32 → EReal) : (if h : k.val < 4 then f ⟨g.val * 4 + k.val, by omega⟩ else 0) = if k.val < 4 then f (head g k) else 0 := by
  by_cases h : k.val < 4
  · rw [dif_pos h, if_pos h]
    exact congrArg f (Fin.ext (by show g.val * 4 + k.val = (4 * g.val + k.val) % 32; omega))
  · rw [dif_neg h, if_neg h]

theorem r24 : val_main_v24 (F := Ideal) a b (ix3 g i k) = if k.val < 4 then val_main_v3 (F := Ideal) a b (ix2 i (head g k)) else 0 := by
  pointwise [val_main_v24, val_main_v23, val_main_v22, val_main_v21, val_main_cst_1]
  exact at_head g k (fun h => val_main_v3 (F := Ideal) a b (ix2 i h))

theorem r28 (t : Fin 16) (r : Fin 128) : val_main_v28 (F := Ideal) a b al (ix3 g (row t r) k) = if k.val < 4 then val_main_v10 (F := Ideal) a b al (ix3 t r (head g k)) else 0 := by
  unfold row
  pointwise [val_main_v28, val_main_v27, val_main_v26, val_main_v25, val_main_v11, val_main_cst_2]
  exact at_head g k (fun h => val_main_v10 (F := Ideal) a b al (ix3 t r h))

theorem r32 : val_main_v32 (F := Ideal) a b (ix3 g i k) = if k.val < 4 then val_main_v20 (F := Ideal) a b (ix2 i (head g k)) else 0 := by
  pointwise [val_main_v32, val_main_v31, val_main_v30, val_main_v29, val_main_cst_3]
  exact at_head g k (fun h => val_main_v20 (F := Ideal) a b (ix2 i h))

end Host

/-- A group's lanes of a block whose heads are known. -/
theorem turn_head (v : FVec Ideal S128x128 .f32) (f : Fin 32 → EReal) (hv : ∀ h : Fin 32, v (ix2 r ⟨h.val, by omega⟩) = f h) (g : Fin 8) (k : Fin 128) :
    turn v g r k = if k.val < 4 then f (head g k) else 0 := by
  unfold turn
  by_cases h : k.val < 4
  · rw [if_pos h, if_pos h, ← hv]
    exact congrArg (fun q => v (ix2 r q)) (Fin.ext (by show (4 * g.val + k.val) % 128 = (4 * g.val + k.val) % 32; omega))
  · rw [if_neg h, if_neg h]

/-- The first and the third array, on any arguments. -/
theorem arr2 : (dats m 0 c).arrAt 2 cfg0.N = (Cert.Reference19Ideal.Read.val_main_v24 (F := Ideal) (Ar m c) (Ab m c)) := by
  refine (dats m 0 c).arrAt_eq_of_covers 2 _ (by decide +kernel) fun t hf y => ?_
  blk_simp
  rw [after0_2, out2]
  obtain ⟨g, r, k, rfl⟩ : ∃ (g : Fin 8) (r k : Fin 128), y = ix3 g r k := ⟨y 0, y 1, y 2, eq_ix3 y⟩
  have e : (win0_2.blk t).view.emb (ix3 g r k) = ix3 g (row t r) k := by unfold row; blk_ext [idx t]
  rw [e, r24]
  refine turn_head r _ (fun h => Cert.Reference19Ideal.Read.val_main_v3 (F := Ideal) (Ar m c) (Ab m c) (ix2 (row t r) h)) (fun h => ?_) g k
  rw [pay37_apply, pre_eq, r3]

theorem arr4 : (dats m 0 c).arrAt 4 cfg0.N = (Cert.Reference19Ideal.Read.val_main_v32 (F := Ideal) (Ar m c) (Ab m c)) := by
  refine (dats m 0 c).arrAt_eq_of_covers 4 _ (by decide +kernel) fun t hf y => ?_
  blk_simp
  rw [after0_4, out4]
  obtain ⟨g, r, k, rfl⟩ : ∃ (g : Fin 8) (r k : Fin 128), y = ix3 g r k := ⟨y 0, y 1, y 2, eq_ix3 y⟩
  have e : (win0_4.blk t).view.emb (ix3 g r k) = ix3 g (row t r) k := by unfold row; blk_ext [idx t]
  rw [e, r32]
  refine turn_head r _ (fun h => Cert.Reference19Ideal.Read.val_main_v20 (F := Ideal) (Ar m c) (Ab m c) (ix2 (row t r) h)) (fun h => ?_) g k
  rw [pay39_apply, pre_eq, r20]

/-- A real number's step is real. -/
theorem sp_real {x : EReal} (h : IsReal x) : IsReal (sp x) := by
  obtain ⟨a, rfl⟩ := h
  exact ⟨_, softplus_coe a⟩

/-- Real arguments make each term of the running sums real. -/
theorem terms {a : FVec Ideal S2048x32 .f32} {b al : FVec Ideal S32 .f32} (H : Cert.Pre_finite_dt_prep.fn (F := Ideal) a b al = fun _ => 1#1)
    (i : Fin 2048) (h : Fin 32) : IsReal (sp (a (ix2 i h) + b (ix1 h)) * -Ideal.exp (al (ix1 h))) := by
  have H := congrFun H (ix2 i h)
  pointwise [Cert.Pre_finite_dt_prep.fn] at H
  simp only [IntOp.andi_eq_one] at H
  obtain ⟨⟨ha, hb⟩, hl⟩ := H
  refine (sp_real ((IsReal.of_abs_lt _ ha).add (.of_abs_lt _ hb))).mul ?_
  obtain ⟨q, e⟩ := IsReal.of_abs_lt _ hl
  rw [e, Ideal.exp_coe, ← EReal.coe_neg]
  exact .coe _

/-- The second array, where the terms are real. -/
theorem arr3 (H : ∀ i h, IsReal (sp (Ar m c (ix2 i h) + Ab m c (ix1 h)) * -Ideal.exp (Al m c (ix1 h)))) :
    (dats m 0 c).arrAt 3 cfg0.N = (Cert.Reference19Ideal.Read.val_main_v28 (F := Ideal) (Ar m c) (Ab m c) (Al m c)) := by
  refine (dats m 0 c).arrAt_eq_of_covers 3 _ (by decide +kernel) fun t hf y => ?_
  blk_simp
  rw [after0_3, out3]
  obtain ⟨g, r, k, rfl⟩ : ∃ (g : Fin 8) (r k : Fin 128), y = ix3 g r k := ⟨y 0, y 1, y 2, eq_ix3 y⟩
  have e : (win0_3.blk t).view.emb (ix3 g r k) = ix3 g (row t r) k := by unfold row; blk_ext [idx t]
  rw [e]
  refine Eq.trans ?_ (r28 (t := t) ..).symm
  refine turn_head r _ (fun h => Cert.Reference19Ideal.Read.val_main_v10 (F := Ideal) (Ar m c) (Ab m c) (Al m c) (ix3 t r h)) (fun h => ?_) g k
  refine (pay38_apply _ _ _ _ fun k => by rw [pre_eq, rate_eq]; exact H _ _).trans (Eq.trans ?_ (r10 (t := t) ..).symm)
  simp only [pre_eq, rate_eq]

end Cert.Proof.DtPrep

end
-- ==== Proof.DtPrep.Pair.lean ====
/- The steps' preparation and its reference side by side: the reference's frame, and the equality of the results. -/
module

public import proofs.«01_k».proof.Defs
public import proofs.«01_k».proof.Proof.DtPrep.Value
public import proofs.«01_k».proof.Proof.Gen.Reference19Ideal.Run

@[expose] public section

set_option maxRecDepth 16384

noncomputable section

namespace Cert.Proof.DtPrep

open Idealize.ShloMosaic Idealize.SL.Sem Cert.Reference19Ideal.Read

/-- The reference leaves its arguments; it has no semaphore. -/
theorem frameR : Cert.quiescent_Reference19Ideal (hReference19Ideal := Cert.Reference19Ideal.Gen.facts) := fun m ρ _ =>
  (θ_run _ _ _).mono (fun r h => ⟨fun c => (h c).2.2.2, sem_eq_zero_of_no_sems (by decide) r.2⟩)
    (Cert.Reference19Ideal.Value.run (F := Ideal) m ρ)

/-- On finite arguments both programs end with the same three arrays. -/
theorem equal : Cert.algebraic_Kernel19Ideal_Reference19Ideal_pre_finite_dt_prep (hKernel19Ideal := Cert.Kernel19Ideal.Gen.facts)
    (hReference19Ideal := Cert.Reference19Ideal.Gen.facts) (hPre_finite_dt_prep := Cert.Pre_finite_dt_prep.Gen.facts) := fun m ρ m' ρ' hpre hag =>
  ⟨fun c => val_main_v24 (F := Ideal) (Ar m c) (Ab m c),
   fun c => val_main_v28 (F := Ideal) (Ar m c) (Ab m c) (Al m c),
   fun c => val_main_v32 (F := Ideal) (Ar m c) (Ab m c),
   (θ_run _ _ _).mono (fun _ h c =>
     ⟨(h c).1.trans (arr2 m c), (h c).2.1.trans (arr3 m c (terms (a := Ar m c) (b := Ab m c) (al := Al m c) (hpre c))),
       (h c).2.2.1.trans (arr4 m c), (h c).2.2.2⟩)
     (Cert.Kernel19Ideal.Value.run_blocks (F := Ideal) m ρ),
   (θ_run _ _ _).mono (fun _ h c => by
     obtain ⟨e0, e1, e2⟩ := hag c
     refine ⟨(h c).1.trans ?_, (h c).2.1.trans ?_, (h c).2.2.1.trans ?_, (h c).2.2.2⟩
     · rw [val_main_v24_eq, e0, e1]
     · rw [val_main_v28_eq, e0, e1, e2]
     · rw [val_main_v32_eq, e0, e1])
     (Cert.Reference19Ideal.Value.run (F := Ideal) m' ρ')⟩

end Cert.Proof.DtPrep

end
-- ==== Proof.Dw.Value.lean ====
/- The gradient of w_in, block by block, against the reference's product. -/
module

public import proofs.«01_k».proof.Proof.Gen.Kernel20Ideal.Value
public import proofs.«01_k».proof.Proof.Gen.Reference20Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Dw

open Cert.Kernel20Ideal Cert.Kernel20Ideal.Gen Cert.Kernel20Ideal.Value Idealize.ShloMosaic Idealize.ShloMosaic.TcCoe
  Idealize.SL.Sem

/-- Which block each window takes at point `t`. -/
theorem idx : ∀ t : Fin grid0.N, win0_0.index t = ![0, t.val] ∧ win0_1.index t = ![0, 0] ∧ win0_2.index t = ![t.val, 0] := by
  decide +kernel

variable (m : (ℓ : Loc nD τ sig) → Buf (Elt Ideal) ℓ) (c : Dev nD)

/-- The arguments at device `c`. -/
abbrev Ap : FVec Ideal S2048x11520 .bf16 := m ((c : Thread nD τ).loc main_arg0)
abbrev Ah : FVec Ideal S2048x1024 .bf16 := m ((c : Thread nD τ).loc main_arg1)

/-- Row `r` of point `t`'s block of the result, a column of the projection. -/
def row (t : Fin grid0.N) (r : Fin 1280) : Fin 11520 := ⟨1280 * t.val + r.val, by have := (show t.val < 9 from t.isLt); omega⟩

theorem blk0 (t : Fin grid0.N) (i : Fin 2048) (r : Fin 1280) : iblk m c 0 t (ix2 i r) = Ap m c (ix2 i (row t r)) := by
  unfold row; blk_ext [iblk, V, idx t]

theorem blk1 (t : Fin grid0.N) (i : Fin 2048) (l : Fin 1024) : iblk m c 1 t (ix2 i l) = Ah m c (ix2 i l) := by
  blk_ext [iblk, V, idx t]

open Cert.Reference20Ideal.Read in
/-- The product, over all rows at once. -/
theorem arr2 : (dats m 0 c).arrAt 2 cfg0.N = (val_main_v4 (F := Ideal) (Ap m c) (Ah m c)) := by
  refine (dats m 0 c).arrAt_eq_of_covers 2 _ (by decide +kernel) fun t hf y => ?_
  blk_simp
  rw [after0_2]
  frame_out
  obtain ⟨r, l, rfl⟩ : ∃ (r : Fin 1280) (l : Fin 1024), y = ix2 r l := ⟨y 0, y 1, eq_ix2 y⟩
  have e : (win0_2.blk t).view.emb (ix2 r l) = ix2 (row t r) l := by unfold row; blk_ext [idx t]
  rw [e]
  have e0 := fun n => blk0 m c t n r
  have e1 := fun n => blk1 m c t n l
  generalize iblk m c 1 t = x1 at *
  generalize iblk m c 0 t = x0 at *
  pointwise [k0_pay1, e0, e1, val_main_v4, val_main_v3, val_main_v2, val_main_v1, val_main_v0]

end Cert.Proof.Dw

end
-- ==== Proof.Dw.Pair.lean ====
/- The product that is the gradient of w_in and its reference side by side: the reference's frame, and the equality of the results. -/
module

public import proofs.«01_k».proof.Defs
public import proofs.«01_k».proof.Proof.Dw.Value
public import proofs.«01_k».proof.Proof.Gen.Reference20Ideal.Run

@[expose] public section

set_option maxRecDepth 16384

noncomputable section

namespace Cert.Proof.Dw

open Idealize.ShloMosaic Idealize.SL.Sem Cert.Reference20Ideal.Read

/-- The reference leaves its arguments; it has no semaphore. -/
theorem frameR : Cert.quiescent_Reference20Ideal (hReference20Ideal := Cert.Reference20Ideal.Gen.facts) := fun m ρ _ =>
  (θ_run _ _ _).mono (fun r h => ⟨fun c => (h c).2, sem_eq_zero_of_no_sems (by decide) r.2⟩)
    (Cert.Reference20Ideal.Value.run (F := Ideal) m ρ)

/-- Both programs end with the same array. -/
theorem equal : Cert.algebraic_Kernel20Ideal_Reference20Ideal (hKernel20Ideal := Cert.Kernel20Ideal.Gen.facts)
    (hReference20Ideal := Cert.Reference20Ideal.Gen.facts) := fun m ρ m' ρ' _ hag =>
  ⟨fun c => val_main_v4 (F := Ideal) (Ap m c) (Ah m c),
   (θ_run _ _ _).mono (fun _ h c => ⟨(h c).1.trans (arr2 m c), (h c).2⟩)
     (Cert.Kernel20Ideal.Value.run_blocks (F := Ideal) m ρ),
   (θ_run _ _ _).mono (fun _ h c => by
     obtain ⟨e0, e1⟩ := hag c
     refine ⟨(h c).1.trans ?_, (h c).2⟩
     · rw [val_main_v4_eq, e0, e1]
     )
     (Cert.Reference20Ideal.Value.run (F := Ideal) m' ρ')⟩

end Cert.Proof.Dw

end
-- ==== Proof.Adamw.Value.lean ====
/- What one step of the optimiser leaves, block by block, against the reference's. -/
module

public import proofs.«01_k».proof.Proof.Gen.Kernel21Ideal.Value
public import proofs.«01_k».proof.Proof.Gen.Reference21Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Adamw

open Cert.Kernel21Ideal Cert.Kernel21Ideal.Gen Cert.Kernel21Ideal.Value Idealize.ShloMosaic Idealize.ShloMosaic.TcCoe
  Idealize.SL.Sem

/-- Every window takes the `t`-th block of 128 rows at point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

variable (m : (ℓ : Loc nD τ sig) → Buf (Elt Ideal) ℓ) (c : Dev nD)

/-- The weight, its gradient and its two moments at device `c`. -/
abbrev Aw : FVec Ideal S1024x1024 .f32 := m ((c : Thread nD τ).loc main_arg0)
abbrev Ag : FVec Ideal S1024x1024 .f32 := m ((c : Thread nD τ).loc main_arg1)
abbrev Am : FVec Ideal S1024x1024 .f32 := m ((c : Thread nD τ).loc main_arg2)
abbrev Av : FVec Ideal S1024x1024 .f32 := m ((c : Thread nD τ).loc main_arg3)

/-- Row `r` of point `t`'s block. -/
def row (t : Fin grid0.N) (r : Fin 128) : Fin 1024 := ⟨128 * t.val + r.val, by have := (show t.val < 8 from t.isLt); omega⟩

variable (t : Fin grid0.N) (r : Fin 128) (l : Fin 1024)

theorem blk0 : iblk m c 0 t (ix2 r l) = Aw m c (ix2 (row t r) l) := by unfold row; blk_ext [iblk, V, idx t]
theorem blk1 : iblk m c 1 t (ix2 r l) = Ag m c (ix2 (row t r) l) := by unfold row; blk_ext [iblk, V, idx t]
theorem blk2 : iblk m c 2 t (ix2 r l) = Am m c (ix2 (row t r) l) := by unfold row; blk_ext [iblk, V, idx t]
theorem blk3 : iblk m c 3 t (ix2 r l) = Av m c (ix2 (row t r) l) := by unfold row; blk_ext [iblk, V, idx t]

open Cert.Reference21Ideal.Read in
/-- The weight's change. -/
theorem arr4 : (dats m 0 c).arrAt 4 cfg0.N = (val_main_v23 (F := Ideal) (Aw m c) (Ag m c) (Am m c) (Av m c)) := by
  refine (dats m 0 c).arrAt_eq_of_covers 4 _ (by decide +kernel) fun t hf y => ?_
  blk_simp
  rw [after0_4]
  frame_out
  obtain ⟨r, l, rfl⟩ : ∃ (r : Fin 128) (l : Fin 1024), y = ix2 r l := ⟨y 0, y 1, eq_ix2 y⟩
  have e : (win0_4.blk t).view.emb (ix2 r l) = ix2 (row t r) l := by unfold row; blk_ext [idx t]
  rw [e]
  have e0 := blk0 m c t r l
  have e1 := blk1 m c t r l
  have e2 := blk2 m c t r l
  have e3 := blk3 m c t r l
  generalize iblk m c 3 t = x3 at *
  generalize iblk m c 2 t = x2 at *
  generalize iblk m c 1 t = x1 at *
  generalize iblk m c 0 t = x0 at *
  pointwise [k0_pay3, k0_pay2, k0_pay1, e0, e1, e2, e3, val_main_cst, val_main_v0, val_main_v1, val_main_cst_0, val_main_v2, val_main_v3, val_main_v4, val_main_cst_1, val_main_v5, val_main_v6, val_main_v7,
    val_main_cst_2, val_main_v8, val_main_v9, val_main_v10, val_main_cst_3, val_main_v11, val_main_v12, val_main_cst_4, val_main_v13, val_main_v14,
    val_main_v15, val_main_cst_5, val_main_v16, val_main_v17, val_main_v18, val_main_cst_6, val_main_v19, val_main_v20, val_main_v21, val_main_cst_7,
    val_main_v22, val_main_v23]

open Cert.Reference21Ideal.Read in
/-- The first moment. -/
theorem arr5 : (dats m 0 c).arrAt 5 cfg0.N = (val_main_v4 (F := Ideal) (Ag m c) (Am m c)) := by
  refine (dats m 0 c).arrAt_eq_of_covers 5 _ (by decide +kernel) fun t hf y => ?_
  blk_simp
  rw [after0_5]
  frame_out
  obtain ⟨r, l, rfl⟩ : ∃ (r : Fin 128) (l : Fin 1024), y = ix2 r l := ⟨y 0, y 1, eq_ix2 y⟩
  have e : (win0_5.blk t).view.emb (ix2 r l) = ix2 (row t r) l := by unfold row; blk_ext [idx t]
  rw [e]
  have e0 := blk0 m c t r l
  have e1 := blk1 m c t r l
  have e2 := blk2 m c t r l
  have e3 := blk3 m c t r l
  generalize iblk m c 3 t = x3 at *
  generalize iblk m c 2 t = x2 at *
  generalize iblk m c 1 t = x1 at *
  generalize iblk m c 0 t = x0 at *
  pointwise [k0_pay1, e1, e2, val_main_v4, val_main_v3, val_main_v2, val_main_v1, val_main_v0, val_main_cst, val_main_cst_0]

open Cert.Reference21Ideal.Read in
/-- The second moment. -/
theorem arr6 : (dats m 0 c).arrAt 6 cfg0.N = (val_main_v10 (F := Ideal) (Ag m c) (Av m c)) := by
  refine (dats m 0 c).arrAt_eq_of_covers 6 _ (by decide +kernel) fun t hf y => ?_
  blk_simp
  rw [after0_6]
  frame_out
  obtain ⟨r, l, rfl⟩ : ∃ (r : Fin 128) (l : Fin 1024), y = ix2 r l := ⟨y 0, y 1, eq_ix2 y⟩
  have e : (win0_6.blk t).view.emb (ix2 r l) = ix2 (row t r) l := by unfold row; blk_ext [idx t]
  rw [e]
  have e0 := blk0 m c t r l
  have e1 := blk1 m c t r l
  have e2 := blk2 m c t r l
  have e3 := blk3 m c t r l
  generalize iblk m c 3 t = x3 at *
  generalize iblk m c 2 t = x2 at *
  generalize iblk m c 1 t = x1 at *
  generalize iblk m c 0 t = x0 at *
  pointwise [k0_pay2, e1, e3, val_main_v10, val_main_v9, val_main_v8, val_main_v7, val_main_v6, val_main_v5, val_main_cst_1, val_main_cst_2]

/-- The gradient, handed on. -/
theorem arr7 : (dats m 0 c).arrAt 7 cfg0.N = Ag m c := by
  refine (dats m 0 c).arrAt_eq_of_covers 7 _ (by decide +kernel) fun t hf y => ?_
  blk_simp
  rw [after0_7]
  frame_out
  obtain ⟨r, l, rfl⟩ : ∃ (r : Fin 128) (l : Fin 1024), y = ix2 r l := ⟨y 0, y 1, eq_ix2 y⟩
  have e : (win0_7.blk t).view.emb (ix2 r l) = ix2 (row t r) l := by unfold row; blk_ext [idx t]
  rw [e]
  exact blk1 m c t r l

end Cert.Proof.Adamw

end
-- ==== Proof.Adamw.Pair.lean ====
/- One step of the optimiser and its reference side by side: the reference's frame, and the equality of the results. -/
module

public import proofs.«01_k».proof.Defs
public import proofs.«01_k».proof.Proof.Adamw.Value
public import proofs.«01_k».proof.Proof.Gen.Reference21Ideal.Run

@[expose] public section

set_option maxRecDepth 16384

noncomputable section

namespace Cert.Proof.Adamw

open Idealize.ShloMosaic Idealize.SL.Sem Cert.Reference21Ideal.Read

/-- The reference leaves its arguments; it has no semaphore. -/
theorem frameR : Cert.quiescent_Reference21Ideal (hReference21Ideal := Cert.Reference21Ideal.Gen.facts) := fun m ρ _ =>
  (θ_run _ _ _).mono (fun r h => ⟨fun c => (h c).2.2.2.2, sem_eq_zero_of_no_sems (by decide) r.2⟩)
    (Cert.Reference21Ideal.Value.run (F := Ideal) m ρ)

/-- Both programs end with the same arrays. -/
theorem equal : Cert.algebraic_Kernel21Ideal_Reference21Ideal (hKernel21Ideal := Cert.Kernel21Ideal.Gen.facts)
    (hReference21Ideal := Cert.Reference21Ideal.Gen.facts) := fun m ρ m' ρ' _ hag =>
  ⟨fun c => val_main_v23 (F := Ideal) (Aw m c) (Ag m c) (Am m c) (Av m c),
   fun c => val_main_v4 (F := Ideal) (Ag m c) (Am m c),
   fun c => val_main_v10 (F := Ideal) (Ag m c) (Av m c),
   fun c => Ag m c,
   (θ_run _ _ _).mono (fun _ h c => ⟨(h c).1.trans (arr4 m c), (h c).2.1.trans (arr5 m c), (h c).2.2.1.trans (arr6 m c),
     (h c).2.2.2.1.trans (arr7 m c), (h c).2.2.2.2⟩)
     (Cert.Kernel21Ideal.Value.run_blocks (F := Ideal) m ρ),
   (θ_run _ _ _).mono (fun _ h c => by
     obtain ⟨e0, e1, e2, e3⟩ := hag c
     refine ⟨(h c).1.trans ?_, (h c).2.1.trans ?_, (h c).2.2.1.trans ?_, (h c).2.2.2.1.trans e1, (h c).2.2.2.2⟩
     · rw [val_main_v23_eq, e0, e1, e2, e3]
     · rw [val_main_v4_eq, e1, e2]
     · rw [val_main_v10_eq, e1, e3]
     )
     (Cert.Reference21Ideal.Value.run (F := Ideal) m' ρ')⟩

end Cert.Proof.Adamw

end
-- ==== Proof.Sum8.Value.lean ====
/- The sum of the eight devices' arrays, against the reference's. -/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.Sum8

open Cert.Kernel22Ideal Cert.Kernel22Ideal.Gen Cert.Kernel22Ideal.Value Idealize.ShloMosaic Idealize.ShloMosaic.TcCoe
  Idealize.SL.Sem

/-- Both windows are whole arrays. -/
theorem idx : ∀ t : Fin grid0.N, win0_0.index t = ![0, 0, 0] ∧ win0_1.index t = ![0, 0] := by decide +kernel

variable (m : (ℓ : Loc nD τ sig) → Buf (Elt Ideal) ℓ) (c : Dev nD)

/-- The argument at device `c`. -/
abbrev Av : FVec Ideal S8x256x128 .f32 := m ((c : Thread nD τ).loc main_arg0)

theorem blk0 (t : Fin grid0.N) (k : Fin 8) (i : Fin 256) (l : Fin 128) : iblk m c 0 t (ix3 k i l) = Av m c (ix3 k i l) := by
  blk_ext [iblk, V, idx t]

open Cert.Reference22Ideal.Read in
/-- The sum, added up one after another. -/
theorem arr1 : (dats m 0 c).arrAt 1 cfg0.N = (val_main_v0 (F := Ideal) (Av m c)) := by
  refine (dats m 0 c).arrAt_eq_of_covers 1 _ (by decide +kernel) fun t hf y => ?_
  blk_simp
  rw [after0_1]
  frame_out
  obtain ⟨i, l, rfl⟩ : ∃ (i : Fin 256) (l : Fin 128), y = ix2 i l := ⟨y 0, y 1, eq_ix2 y⟩
  have e : (win0_1.blk t).view.emb (ix2 i l) = ix2 i l := by blk_ext [idx t]
  rw [e]
  have e0 := fun k => blk0 m c t k i l
  generalize iblk m c 0 t = x0 at *
  pointwise [k0_pay1, e0, val_main_v0, val_main_cst]
  exact (Fin.sum_univ_eight fun k => Av m c (ix3 k i l)).symm

end Cert.Proof.Sum8

end
-- ==== Proof.Sum8.Pair.lean ====
/- The sum of the devices' arrays and its reference side by side: the reference's frame, and the equality of the results. -/
module

public import proofs.«01_k».proof.Defs
public import proofs.«01_k».proof.Proof.Sum8.Value
public import proofs.«01_k».proof.Proof.Gen.Reference22Ideal.Run

@[expose] public section

set_option maxRecDepth 16384

noncomputable section

namespace Cert.Proof.Sum8

open Idealize.ShloMosaic Idealize.SL.Sem Cert.Reference22Ideal.Read

/-- The reference leaves its arguments; it has no semaphore. -/
theorem frameR : Cert.quiescent_Reference22Ideal (hReference22Ideal := Cert.Reference22Ideal.Gen.facts) := fun m ρ _ =>
  (θ_run _ _ _).mono (fun r h => ⟨fun c => (h c).2, sem_eq_zero_of_no_sems (by decide) r.2⟩)
    (Cert.Reference22Ideal.Value.run (F := Ideal) m ρ)

/-- Both programs end with the same array. -/
theorem equal : Cert.algebraic_Kernel22Ideal_Reference22Ideal (hKernel22Ideal := Cert.Kernel22Ideal.Gen.facts)
    (hReference22Ideal := Cert.Reference22Ideal.Gen.facts) := fun m ρ m' ρ' _ hag =>
  ⟨fun c => val_main_v0 (F := Ideal) (Av m c),
   (θ_run _ _ _).mono (fun _ h c => ⟨(h c).1.trans (arr1 m c), (h c).2⟩)
     (Cert.Kernel22Ideal.Value.run_blocks (F := Ideal) m ρ),
   (θ_run _ _ _).mono (fun _ h c => by
     have e0 := hag c
     refine ⟨(h c).1.trans ?_, (h c).2⟩
     · rw [val_main_v0_eq, e0]
     )
     (Cert.Reference22Ideal.Value.run (F := Ideal) m' ρ')⟩

end Cert.Proof.Sum8

end
-- ==== Proof.ChipSum.Words.lean ====
/- The chip's and the core's numbers: what the precondition says of the two words, and why every block the call names then lies in
   its array. -/
module

public import proofs.«01_k».proof.Defs
public import proofs.«01_k».proof.Proof.Gen.Kernel23.Frame
public import proofs.«01_k».proof.Proof.Gen.Kernel23Ideal.Frame
public import proofs.«01_k».proof.Proof.Gen.Pre_in_mesh
public import Idealize.ShloMosaic.Lib.Pipeline.ValueKit
public import Idealize.ShloMosaic.Lib.Pointwise

@[expose] public section

set_option maxRecDepth 16384

noncomputable section

namespace Cert.Proof.ChipSum

open Idealize.ShloMosaic Idealize.ShloMosaic.TcCoe

/-- The two words at chip `a` and core `b`. -/
def word (a : Fin 4) (b : Fin 2) : IVec Cert.Pre_in_mesh.S2 32 := fun i => if (i 0).val = 0 then BitVec.ofNat 32 a.val else BitVec.ofNat 32 b.val

section
open Cert.Pre_in_mesh

/-- A slice of one word is that word, -/
theorem slice0 (x : IVec S2 32) (h : S2.Slices ![0] S1) : extractStridedSlice S1 ![0] x h = fun _ => x (ix1 (0 : Fin 2)) :=
  funext fun i => extractStridedSlice_apply ![0] x h i (ix1 (0 : Fin 2)) fun a => match a with
    | ⟨0, _⟩ => by have h0 : (i 0).val < 1 := (i 0).isLt; show 0 = 0 + (i 0).val; omega

/-- whichever of the two it is. -/
theorem slice1 (x : IVec S2 32) (h : S2.Slices ![1] S1) : extractStridedSlice S1 ![1] x h = fun _ => x (ix1 (1 : Fin 2)) :=
  funext fun i => extractStridedSlice_apply ![1] x h i (ix1 (1 : Fin 2)) fun a => match a with
    | ⟨0, _⟩ => by have h0 : (i 0).val < 1 := (i 0).isLt; show 1 = 1 + (i 0).val; omega

theorem small (v : BitVec 32) (n : Nat) (hn : n < 100) (h : IntOp.cmpi .sge v 0#32 = 1#1) (h' : IntOp.cmpi .sle v (BitVec.ofNat 32 n) = 1#1) :
    v.toNat ≤ n := by
  have one (p : Bool) : (BitVec.ofBool p = 1#1) ↔ p = true := by cases p <;> decide
  simp only [IntOp.cmpi, one, BitVec.sle, decide_eq_true_eq, BitVec.toInt_eq_toNat_cond, BitVec.toNat_ofNat] at h h'
  have hv := v.isLt
  split at h' <;> split at h <;> simp at h h' <;> omega

/-- Under the precondition the two words are a chip's and a core's number. -/
theorem words {F : FTy → Type} [FloatOps F] (g : FVec F S11520x1024 .bf16) (ra : FVec F S4x1536x1024 .bf16) (x : IVec S2 32)
    (h : Cert.Pre_in_mesh.fn (F := F) g ra x = fun _ => 1#1) : ∃ a b, x = word a b := by
  have both (p q : BitVec 1) : IntOp.andi p q = 1#1 ↔ p = 1#1 ∧ q = 1#1 := by revert p q; decide
  have e := congrFun h fun a => a.elim0
  simp only [Cert.Pre_in_mesh.fn, slice0, slice1, andi, cmpi, constantI, both, shapeCast] at e
  obtain ⟨⟨⟨e0, e1⟩, e2⟩, e3⟩ := e
  have n0 := small _ 3 (by omega) e0 e1
  have n1 := small _ 1 (by omega) e2 e3
  refine ⟨⟨_, Nat.lt_succ_of_le n0⟩, ⟨_, Nat.lt_succ_of_le n1⟩, funext fun i => ?_⟩
  obtain ⟨k, rfl⟩ : ∃ k : Fin 2, i = ix1 k := ⟨i 0, eq_ix1 i⟩
  match k with
  | ⟨0, _⟩ => exact (BitVec.ofNat_toNat 32 _ |>.trans (BitVec.setWidth_eq _)).symm
  | ⟨1, _⟩ => exact (BitVec.ofNat_toNat 32 _ |>.trans (BitVec.setWidth_eq _)).symm

end

section
open Cert.Kernel23 Cert.Kernel23.Gen

/-- The words as the call's table. -/
def tabB (a : Fin 4) (b : Fin 2) : pre0.Contents (Elt Bits) := fun | ⟨0, _⟩ => word a b | ⟨_ + 1, h⟩ => absurd h (by simp)

theorem okB : ∀ (a : Fin 4) (b : Fin 2), ok0 (F := Bits) (tabB a b) := by decide +kernel

theorem okB_of_pre (m : (ℓ : Loc nD τ sig) → Buf (Elt Bits) ℓ) (h : Cert.Pre_Kernel23 (hPre_in_mesh := Cert.Pre_in_mesh.Gen.facts) m) : Ok m := by
  obtain ⟨a, b, e⟩ := words _ _ _ (h 0)
  have et : tbl m = tabB a b := funext fun j => match j with | ⟨0, _⟩ => e
  unfold Ok
  rw [et]
  exact okB a b

end

section
open Cert.Kernel23Ideal Cert.Kernel23Ideal.Gen

/-- The same for the idealized call. -/
def tab (a : Fin 4) (b : Fin 2) : pre0.Contents (Elt Ideal) := fun | ⟨0, _⟩ => word a b | ⟨_ + 1, h⟩ => absurd h (by simp)

theorem okI : ∀ (a : Fin 4) (b : Fin 2), ok0 (F := Ideal) (tab a b) := by decide +kernel

theorem tbl_of_pre (m : (ℓ : Loc nD τ sig) → Buf (Elt Ideal) ℓ) (h : Cert.Pre_Kernel23Ideal (hPre_in_mesh := Cert.Pre_in_mesh.Gen.facts) m) :
    ∃ a b, tbl m = tab a b := by
  obtain ⟨a, b, e⟩ := words _ _ _ (h 0)
  exact ⟨a, b, funext fun j => match j with | ⟨0, _⟩ => e⟩

theorem ok_of_pre (m : (ℓ : Loc nD τ sig) → Buf (Elt Ideal) ℓ) (h : Cert.Pre_Kernel23Ideal (hPre_in_mesh := Cert.Pre_in_mesh.Gen.facts) m) : Ok m := by
  obtain ⟨a, b, et⟩ := tbl_of_pre m h
  unfold Ok
  rw [et]
  exact okI a b

end

end Cert.Proof.ChipSum

end
-- ==== Proof.ChipSum.Value.lean ====
/- A chip's own part added to the part that another chip sent, against the reference's. -/
module

public import proofs.«01_k».proof.Proof.ChipSum.Words

@[expose] public section

set_option maxRecDepth 16384

noncomputable section

namespace Cert.Proof.ChipSum

open Cert.Kernel23Ideal Cert.Kernel23Ideal.Gen Idealize.ShloMosaic Idealize.ShloMosaic.TcCoe Idealize.SL.Sem

/-- Where the blocks begin at chip `a` and core `b`. -/
theorem idx0 : ∀ (a : Fin 4) (b : Fin 2) (t : Fin grid0.N),
    cc0_transform_0 inb_S2_S1_0 numel1_S1 inb_S2_S1_1 (tab a b) (grid0.coords t) = ![2816 * a.val + 1536 * b.val + 768 * t.val, 0] := by
  decide +kernel
theorem idx1 : ∀ (a : Fin 4) (b : Fin 2) (t : Fin grid0.N),
    cc0_transform_1 inb_S2_S1_0 numel1_S1 (tab a b) (grid0.coords t) = ![a.val, t.val, 0] := by decide +kernel
theorem idx2 : ∀ t : Fin grid0.N, cc0_transform_2 (grid0.coords t) = ![t.val, 0] := by decide +kernel

variable (m : (ℓ : Loc nD τ sig) → Buf (Elt Ideal) ℓ) (hO : Ok m) (c : Dev nD) (a : Fin 4) (b : Fin 2)

/-- The arguments at device `c`. -/
abbrev Gv : FVec Ideal S11520x1024 .bf16 := m ((c : Thread nD τ).loc main_arg0)
abbrev Rv : FVec Ideal S4x1536x1024 .bf16 := m ((c : Thread nD τ).loc main_arg1)

theorem blk0 (h : tbl m = tab a b) (t : Fin grid0.N) (i : Fin 768) (l : Fin 1024) (hb : 2816 * a.val + 1536 * b.val + (768 * t.val + i.val) < 11520) :
    iblk m hO c 0 t (ix2 i l) = Gv m c (ix2 ⟨2816 * a.val + 1536 * b.val + (768 * t.val + i.val), hb⟩ l) := by
  have e := idx0 a b t
  rw [← h] at e
  refine congrArg (Gv m c) (funext fun k => Fin.ext ?_)
  match k with
  | ⟨0, _⟩ =>
    show cc0_transform_0 inb_S2_S1_0 numel1_S1 inb_S2_S1_1 (tbl m) (grid0.coords t) 0 + 1 * i.val = 2816 * a.val + 1536 * b.val + (768 * t.val + i.val)
    rw [e]
    show 2816 * a.val + 1536 * b.val + 768 * t.val + 1 * i.val = _
    omega
  | ⟨1, _⟩ =>
    show cc0_transform_0 inb_S2_S1_0 numel1_S1 inb_S2_S1_1 (tbl m) (grid0.coords t) 1 + 1 * l.val = l.val
    rw [e]
    show 0 + 1 * l.val = _
    omega

theorem blk1 (h : tbl m = tab a b) (t : Fin grid0.N) (i : Fin 768) (l : Fin 1024) (hb : 768 * t.val + i.val < 1536) :
    iblk m hO c 1 t (ix3 (0 : Fin 1) i l) = Rv m c (ix3 a ⟨768 * t.val + i.val, hb⟩ l) := by
  have e := idx1 a b t
  rw [← h] at e
  refine congrArg (Rv m c) (funext fun k => Fin.ext ?_)
  match k with
  | ⟨0, _⟩ =>
    show cc0_transform_1 inb_S2_S1_0 numel1_S1 (tbl m) (grid0.coords t) 0 * 1 + 1 * 0 = a.val
    rw [e]
    show a.val * 1 + 1 * 0 = _
    omega
  | ⟨1, _⟩ =>
    show cc0_transform_1 inb_S2_S1_0 numel1_S1 (tbl m) (grid0.coords t) 1 * 768 + 1 * i.val = 768 * t.val + i.val
    rw [e]
    show t.val * 768 + 1 * i.val = _
    omega
  | ⟨2, _⟩ =>
    show cc0_transform_1 inb_S2_S1_0 numel1_S1 (tbl m) (grid0.coords t) 2 * 1024 + 1 * l.val = l.val
    rw [e]
    show 0 * 1024 + 1 * l.val = _
    omega

/-- Where the result's block lies. -/
theorem emb2 (t : Fin grid0.N) (i : Fin 768) (l : Fin 1024) (hb : 768 * t.val + i.val < 1536) :
    (((cfgM m hO).win 2).blk t).view.emb (ix2 i l) = ix2 (⟨768 * t.val + i.val, hb⟩ : Fin 1536) l := by
  have e := idx2 t
  refine funext fun k => Fin.ext ?_
  match k with
  | ⟨0, _⟩ =>
    show cc0_transform_2 (grid0.coords t) 0 * 768 + 1 * i.val = 768 * t.val + i.val
    rw [e]
    show t.val * 768 + 1 * i.val = _
    omega
  | ⟨1, _⟩ =>
    show cc0_transform_2 (grid0.coords t) 1 * 1024 + 1 * l.val = l.val
    rw [e]
    show 0 * 1024 + 1 * l.val = _
    omega

/-- The sum of the two parts, in the plain words of the arrays. -/
def total (hb : ∀ i : Fin 1536, 2816 * a.val + 1536 * b.val + i.val < 11520) : FVec Ideal S1536x1024 .f32 := fun y =>
  FloatOps.addf (FloatOps.extf .f32 bitsLt_bf16_f32 (Gv m c (ix2 ⟨2816 * a.val + 1536 * b.val + (y 0).val, hb (y 0)⟩ (y 1))))
    (FloatOps.extf .f32 bitsLt_bf16_f32 (Rv m c (ix3 a (y 0) (y 1))))

theorem inside (i : Fin 1536) : 2816 * a.val + 1536 * b.val + i.val < 11520 := by
  have ha := a.isLt; have hb := b.isLt; have hi := i.isLt; omega

/-- Every index is a row and a column. -/
theorem pair (n k : Nat) (y : (⟨2, ![n, k]⟩ : Shape).Idx) : ∃ (i : Fin n) (l : Fin k), y = ix2 i l := ⟨y 0, y 1, eq_ix2 y⟩

theorem cover (i : S1536x1024.Idx) : ∃ t : Fin (cfgM m hO).N, ((cfgM m hO).win 2).flush t = true ∧ i ∈ (((cfgM m hO).win 2).blk t).view.set := by
  obtain ⟨r, l, rfl⟩ := pair 1536 1024 i
  have h0 := r.isLt
  have ht : r.val / 768 < grid0.N := by rw [N_0]; omega
  have hr : r.val % 768 < 768 := by omega
  have hb : 768 * (r.val / 768) + r.val % 768 < 1536 := by omega
  have er : (⟨768 * (r.val / 768) + r.val % 768, hb⟩ : Fin 1536) = r := Fin.ext (by show 768 * (r.val / 768) + r.val % 768 = r.val; omega)
  refine ⟨⟨r.val / 768, ht⟩, flush0_2 (adm m hO) _, ?_⟩
  have e := (emb2 m hO ⟨r.val / 768, ht⟩ ⟨r.val % 768, hr⟩ l hb).trans (congrArg (fun q : Fin 1536 => (ix2 q l : S1536x1024.Idx)) er)
  exact (congrArg (· ∈ (((cfgM m hO).win 2).blk ⟨r.val / 768, ht⟩).view.set) e).mp
    ((((cfgM m hO).win 2).blk ⟨r.val / 768, ht⟩).view.emb_mem_set (ix2 (⟨r.val % 768, hr⟩ : Fin 768) l))

/-- What the call leaves. -/
theorem arr2 (h : tbl m = tab a b) : (dats m hO 0 c).arrAt 2 (cfgM m hO).N = total m c a b (inside a b) := by
  refine (dats m hO 0 c).arrAt_eq_of_emb 2 _ (fun t hf y => ?_) (cover m hO)
  blk_simp
  rw [after0_2]
  unfold outsAt0
  frame_out
  refine (congrFun (congrArg₂ k0_pay1 ((hs0_0 m hO t).read_unread _) ((hs0_1 m hO t).read_unread _)) y).trans ?_
  obtain ⟨i, l, rfl⟩ := pair 768 1024 y
  have ht : t.val < 2 := Nat.lt_of_lt_of_eq t.isLt N_0
  have hi := i.isLt
  have hb : 768 * t.val + i.val < 1536 := by omega
  refine Eq.trans ?_ (congrArg (total m c a b (inside a b)) (emb2 m hO t i l hb)).symm
  have e0 := blk0 m hO c a b h t i l (inside a b ⟨_, hb⟩)
  have e1 := blk1 m hO c a b h t i l hb
  generalize iblk m hO c 0 t = x0 at *
  generalize iblk m hO c 1 t = x1 at *
  pointwise [k0_pay1, e0, e1, total]

end Cert.Proof.ChipSum

end
-- ==== Proof.ChipSum.Pair.lean ====
/- The reference reads the same two parts, and both programs end with the same sum: the frames and the equality of the results. -/
module

public import proofs.«01_k».proof.Proof.ChipSum.Value
public import proofs.«01_k».proof.Proof.Gen.Reference23Ideal.Read
public import Idealize.ShloMosaic.Lib.StableHlo.RunRead

@[expose] public section

set_option maxRecDepth 16384

noncomputable section

namespace Cert.Proof.ChipSum

open Idealize.ShloMosaic Idealize.ShloMosaic.TcCoe Idealize.SL.Sem

section
open Cert.Reference23Ideal Cert.Reference23Ideal.Gen Cert.Reference23Ideal.Read

theorem cast_one {s t : Shape} (v : BitVec 32) (h : s.ShapeCasts t) : shapeCast t (fun _ : s.Idx => v) h = fun _ => v := rfl

/-- A select whose condition is the truth of `p`. -/
theorem pick {α : Type} (p : Bool) (x y : α) : Scalar.select (BitVec.ofBool p) x y = if p then x else y := by
  cases p <;> rfl
theorem both (p q : Bool) : IntOp.andi (BitVec.ofBool p) (BitVec.ofBool q) = BitVec.ofBool (p && q) := by
  cases p <;> cases q <;> rfl

variable (x0 : FVec Ideal S11520x1024 .bf16) (x1 : FVec Ideal S4x1536x1024 .bf16) (a : Fin 4) (b : Fin 2)

/-- Which chip's and which core's part is taken. -/
theorem atChip (k : Nat) : IntOp.cmpi .eq (word a b (ix1 (0 : Fin 2))) (BitVec.ofNat 32 k) = BitVec.ofBool (BitVec.ofNat 32 a.val == BitVec.ofNat 32 k) := rfl
theorem atCore (k : Nat) : IntOp.cmpi .eq (word a b (ix1 (1 : Fin 2))) (BitVec.ofNat 32 k) = BitVec.ofBool (BitVec.ofNat 32 b.val == BitVec.ofNat 32 k) := rfl

theorem other (r : Fin 1536) (l : Fin 1024) : val_main_v70 (F := Ideal) x1 (word a b) (ix2 r l) = x1 (ix3 a r l) := by
  simp only [val_main_v7_apply, val_main_v28_apply, val_main_v49_apply, val_main_v70_apply, val_main_v4_apply,
    val_main_v25_apply, val_main_v46_apply, val_main_v67_apply, val_main_v3_apply, val_main_v24_apply,
    val_main_v45_apply, val_main_v66_apply, val_main_v1, val_main_v2, val_main_v22, val_main_v23, val_main_v43,
    val_main_v44, val_main_v64, val_main_v65, val_main_c_apply, val_main_c_2_apply, val_main_c_5_apply,
    val_main_c_8_apply, slice0, cast_one, atChip, pick]
  have hr := r.isLt
  have hl := l.isLt
  fin_cases a <;> simp <;> pointwise [val_main_v6_apply, val_main_v27_apply, val_main_v48_apply, val_main_v69_apply,
    val_main_v5_apply, val_main_v26_apply, val_main_v47_apply, val_main_v68_apply] <;>
    refine congrArg x1 (funext fun k => Fin.ext ?_) <;>
    match k with
    | ⟨0, _⟩ => rfl
    | ⟨1, _⟩ => show (r.val * 1024 + l.val) / 1024 % 1536 = r.val; omega
    | ⟨2, _⟩ => show (r.val * 1024 + l.val) % 1024 = l.val; omega

theorem mine (r : Fin 1536) (l : Fin 1024) :
    val_main_v84 (F := Ideal) x0 (word a b) (ix2 r l) = x0 (ix2 ⟨2816 * a.val + 1536 * b.val + r.val, inside a b r⟩ l) := by
  simp only [val_main_v14_apply, val_main_v21_apply, val_main_v35_apply, val_main_v42_apply, val_main_v56_apply,
    val_main_v63_apply, val_main_v77_apply, val_main_v84_apply, val_main_v12_apply, val_main_v19_apply,
    val_main_v33_apply, val_main_v40_apply, val_main_v54_apply, val_main_v61_apply, val_main_v75_apply,
    val_main_v82_apply, val_main_v4_apply, val_main_v11_apply, val_main_v18_apply, val_main_v25_apply,
    val_main_v32_apply, val_main_v39_apply, val_main_v46_apply, val_main_v53_apply, val_main_v60_apply,
    val_main_v67_apply, val_main_v74_apply, val_main_v81_apply, val_main_v3_apply, val_main_v10_apply,
    val_main_v17_apply, val_main_v24_apply, val_main_v31_apply, val_main_v38_apply, val_main_v45_apply,
    val_main_v52_apply, val_main_v59_apply, val_main_v66_apply, val_main_v73_apply, val_main_v80_apply, val_main_v1,
    val_main_v2, val_main_v22, val_main_v23, val_main_v43, val_main_v44, val_main_v64, val_main_v65, val_main_v8,
    val_main_v9, val_main_v15, val_main_v16, val_main_v29, val_main_v30, val_main_v36, val_main_v37, val_main_v50,
    val_main_v51, val_main_v57, val_main_v58, val_main_v71, val_main_v72, val_main_v78, val_main_v79,
    val_main_c_apply, val_main_c_0_apply, val_main_c_1_apply, val_main_c_2_apply, val_main_c_3_apply,
    val_main_c_4_apply, val_main_c_5_apply, val_main_c_6_apply, val_main_c_7_apply, val_main_c_8_apply,
    val_main_c_9_apply, val_main_c_10_apply, slice0, slice1, cast_one, atChip, atCore, both, pick]
  fin_cases a <;> fin_cases b <;> simp <;> pointwise [val_main_v13_apply, val_main_v20_apply, val_main_v34_apply, val_main_v41_apply, val_main_v55_apply, val_main_v62_apply, val_main_v76_apply, val_main_v83_apply] <;>
    refine congrArg x0 (funext fun k => Fin.ext ?_) <;>
    match k with
    | ⟨0, _⟩ => first | rfl | (show _ + r.val = _ + r.val; omega) | (show r.val = _ + r.val; omega)
    | ⟨1, _⟩ => rfl

/-- The reference's sum is the sum of those two parts. -/
theorem reference (y : S1536x1024.Idx) : val_main_v87 (F := Ideal) x0 x1 (word a b) y
    = FloatOps.addf (FloatOps.extf .f32 bitsLt_bf16_f32 (x0 (ix2 ⟨2816 * a.val + 1536 * b.val + (y 0).val, inside a b (y 0)⟩ (y 1))))
      (FloatOps.extf .f32 bitsLt_bf16_f32 (x1 (ix3 a (y 0) (y 1)))) := by
  obtain ⟨r, l, rfl⟩ := pair 1536 1024 y
  rw [val_main_v87_apply, val_main_v85_apply, val_main_v86_apply, mine, other]
  rfl
end

/-- The reference leaves its arguments; it has no semaphore. -/
theorem frameR : Cert.quiescent_Reference23Ideal (hReference23Ideal := Cert.Reference23Ideal.Gen.facts) := fun m ρ _ =>
  (θ_run _ _ _).mono (fun r h => ⟨fun c => (h c).2, sem_eq_zero_of_no_sems (by decide) r.2⟩)
    (Cert.Reference23Ideal.Value.run (F := Ideal) m ρ)

/-- The call leaves the reference's sum of its own arguments, -/
theorem result (m : (ℓ : Loc Cert.Kernel23Ideal.nD Cert.Kernel23Ideal.τ Cert.Kernel23Ideal.sig) → Buf (Elt Ideal) ℓ)
    (hO : Cert.Kernel23Ideal.Gen.Ok m) (h : Cert.Pre_Kernel23Ideal (hPre_in_mesh := Cert.Pre_in_mesh.Gen.facts) m) (c : Dev Cert.Kernel23Ideal.nD) :
    (Cert.Kernel23Ideal.Gen.dats m hO 0 c).arrAt 2 (Cert.Kernel23Ideal.Gen.cfgM m hO).N
      = Cert.Reference23Ideal.Read.val_main_v87 (F := Ideal) (Gv m c) (Rv m c) (m ((c : Thread Cert.Kernel23Ideal.nD Cert.Kernel23Ideal.τ).loc Cert.Kernel23Ideal.main_arg2)) := by
  obtain ⟨a, b, et⟩ := tbl_of_pre m h
  have ew : m ((c : Thread Cert.Kernel23Ideal.nD Cert.Kernel23Ideal.τ).loc Cert.Kernel23Ideal.main_arg2) = word a b := by
    obtain rfl : c = 0 := Subsingleton.elim _ _
    exact congrFun et 0
  rw [arr2 m hO c a b et, ew]
  exact funext fun y => (reference (Gv m c) (Rv m c) a b y).symm

/-- so both programs end with the same array. -/
theorem equal : Cert.algebraic_Kernel23Ideal_Reference23Ideal (hKernel23Ideal := Cert.Kernel23Ideal.Gen.facts)
    (hReference23Ideal := Cert.Reference23Ideal.Gen.facts) (hPre_in_mesh := Cert.Pre_in_mesh.Gen.facts) := fun m ρ m' ρ' hp hag =>
  have hO := ok_of_pre m hp
  have kept := (Cert.Kernel23Ideal.Gen.unchanged m ρ hO)
  ⟨fun c => Cert.Reference23Ideal.Read.val_main_v87 (F := Ideal) (Gv m c) (Rv m c) (m ((c : Thread Cert.Kernel23Ideal.nD Cert.Kernel23Ideal.τ).loc Cert.Kernel23Ideal.main_arg2)),
   (θ_run _ _ _).mono (fun _ h c => ⟨((h.2 c).1 2).trans (result m hO hp c), h.1 c⟩)
     (θ_run_and kept (Cert.Kernel23Ideal.Gen.run_main m ρ hO)),
   (θ_run _ _ _).mono (fun _ h c => by
     obtain ⟨e0, e1, e2⟩ := hag c
     refine ⟨(h c).1.trans ?_, (h c).2⟩
     rw [Cert.Reference23Ideal.Read.val_main_v87_eq, e0, e1, e2])
     (Cert.Reference23Ideal.Value.run (F := Ideal) m' ρ')⟩

end Cert.Proof.ChipSum

end
-- ==== Proof.lean ====
/- The claims: the frames are the generated ones, the value claims are assembled from proof/Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_ssd
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_conv
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_gnorm
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_final
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_rms
public import proofs.«01_k».proof.Proof.Gen.Pre_finite_rmsin
public import proofs.«01_k».proof.Proof.Gen.Pre_finite_dt_prep
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Pre_in_mesh
public import proofs.«01_k».proof.Proof.Merge.Pair
public import proofs.«01_k».proof.Proof.Ssd.Pair
public import proofs.«01_k».proof.Proof.Conv.Pair
public import proofs.«01_k».proof.Proof.Gnorm.Pair
public import proofs.«01_k».proof.Proof.Final.Pair
public import proofs.«01_k».proof.Proof.Rms.Pair
public import proofs.«01_k».proof.Proof.Drelu.Pair
public import proofs.«01_k».proof.Proof.Dt.Pair
public import proofs.«01_k».proof.Proof.Shortconv.Pair
public import proofs.«01_k».proof.Proof.Rmsin.Pair
public import proofs.«01_k».proof.Proof.SsdFwd.Pair
public import proofs.«01_k».proof.Proof.ConvFwd.Pair
public import proofs.«01_k».proof.Proof.ScFwd.Pair
public import proofs.«01_k».proof.Proof.GnormFwd.Pair
public import proofs.«01_k».proof.Proof.MergeFwd.Pair
public import proofs.«01_k».proof.Proof.RmsFwd.Pair
public import proofs.«01_k».proof.Proof.ResRms.Pair
public import proofs.«01_k».proof.Proof.Relu2.Pair
public import proofs.«01_k».proof.Proof.DtPrep.Pair
public import proofs.«01_k».proof.Proof.Dw.Pair
public import proofs.«01_k».proof.Proof.Adamw.Pair
public import proofs.«01_k».proof.Proof.Sum8.Pair
public import proofs.«01_k».proof.Proof.ChipSum.Pair
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Pre_finite_ssd.Gen.facts,
  Cert.Pre_finite_conv.Gen.facts,
  Cert.Pre_finite_gnorm.Gen.facts,
  Cert.Pre_finite_final.Gen.facts,
  Cert.Pre_finite_rms.Gen.facts,
  Cert.Pre_finite_rmsin.Gen.facts,
  Cert.Pre_finite_dt_prep.Gen.facts,
  Cert.Pre_in_mesh.Gen.facts,
  fun m ρ _ => Cert.Kernel.Gen.frame m ρ,
  fun m ρ _ => Cert.KernelIdeal.Gen.frame m ρ,
  Merge.frameR,
  fun m ρ _ => Cert.Kernel2.Gen.frame m ρ,
  fun m ρ _ => Cert.Kernel2Ideal.Gen.frame m ρ,
  fun m ρ _ => Cert.Kernel2Ideal.Gen.frame m ρ,
  Ssd.frameR,
  fun m ρ _ => Ssd.frameR m ρ trivial,
  fun m ρ _ => Cert.Kernel3.Gen.frame m ρ,
  fun m ρ _ => Cert.Kernel3Ideal.Gen.frame m ρ,
  fun m ρ _ => Cert.Kernel3Ideal.Gen.frame m ρ,
  Conv.frameR,
  fun m ρ _ => Conv.frameR m ρ trivial,
  fun m ρ _ => Cert.Kernel4.Gen.frame m ρ,
  fun m ρ _ => Cert.Kernel4Ideal.Gen.frame m ρ,
  fun m ρ _ => Cert.Kernel4Ideal.Gen.frame m ρ,
  Gnorm.frameR,
  fun m ρ _ => Gnorm.frameR m ρ trivial,
  fun m ρ _ => Cert.Kernel5.Gen.frame m ρ,
  fun m ρ _ => Cert.Kernel5Ideal.Gen.frame m ρ,
  fun m ρ _ => Cert.Kernel5Ideal.Gen.frame m ρ,
  Final.frameR,
  fun m ρ _ => Final.frameR m ρ trivial,
  fun m ρ _ => Cert.Kernel6.Gen.frame m ρ,
  fun m ρ _ => Cert.Kernel6Ideal.Gen.frame m ρ,
  fun m ρ _ => Cert.Kernel6Ideal.Gen.frame m ρ,
  Rms.frameR,
  fun m ρ _ => Rms.frameR m ρ trivial,
  fun m ρ _ => Cert.Kernel7.Gen.frame m ρ,
  fun m ρ _ => Cert.Kernel7Ideal.Gen.frame m ρ,
  Drelu.frameR,
  fun m ρ _ => Cert.Kernel8.Gen.frame m ρ,
  fun m ρ _ => Cert.Kernel8Ideal.Gen.frame m ρ,
  Dt.frameR,
  Shortconv.frameK,
  Shortconv.frameI,
  Shortconv.frameR,
  Rmsin.frameK,
  Rmsin.frameI,
  fun m ρ _ => Rmsin.frameI m ρ trivial,
  Rmsin.frameR,
  fun m ρ _ => Rmsin.frameR m ρ trivial,
  fun m ρ _ => Cert.Kernel11.Gen.frame m ρ,
  fun m ρ _ => Cert.Kernel11Ideal.Gen.frame m ρ,
  SsdFwd.frameR,
  fun m ρ _ => Cert.Kernel12.Gen.frame m ρ,
  fun m ρ _ => Cert.Kernel12Ideal.Gen.frame m ρ,
  ConvFwd.frameR,
  fun m ρ _ => Cert.Kernel13.Gen.frame m ρ,
  fun m ρ _ => Cert.Kernel13Ideal.Gen.frame m ρ,
  ScFwd.frameR,
  fun m ρ _ => Cert.Kernel14.Gen.frame m ρ,
  fun m ρ _ => Cert.Kernel14Ideal.Gen.frame m ρ,
  GnormFwd.frameR,
  fun m ρ _ => Cert.Kernel15.Gen.frame m ρ,
  fun m ρ _ => Cert.Kernel15Ideal.Gen.frame m ρ,
  MergeFwd.frameR,
  fun m ρ _ => Cert.Kernel16.Gen.frame m ρ,
  fun m ρ _ => Cert.Kernel16Ideal.Gen.frame m ρ,
  RmsFwd.frameR,
  fun m ρ _ => Cert.Kernel17.Gen.frame m ρ,
  fun m ρ _ => Cert.Kernel17Ideal.Gen.frame m ρ,
  ResRms.frameR,
  fun m ρ _ => Cert.Kernel18.Gen.frame m ρ,
  fun m ρ _ => Cert.Kernel18Ideal.Gen.frame m ρ,
  Relu2.frameR,
  fun m ρ _ => Cert.Kernel19.Gen.frame m ρ,
  fun m ρ _ => Cert.Kernel19Ideal.Gen.frame m ρ,
  fun m ρ _ => Cert.Kernel19Ideal.Gen.frame m ρ,
  DtPrep.frameR,
  fun m ρ _ => DtPrep.frameR m ρ trivial,
  fun m ρ _ => Cert.Kernel20.Gen.frame m ρ,
  fun m ρ _ => Cert.Kernel20Ideal.Gen.frame m ρ,
  Dw.frameR,
  fun m ρ _ => Cert.Kernel21.Gen.frame m ρ,
  fun m ρ _ => Cert.Kernel21Ideal.Gen.frame m ρ,
  Adamw.frameR,
  fun m ρ _ => Cert.Kernel22.Gen.frame m ρ,
  fun m ρ _ => Cert.Kernel22Ideal.Gen.frame m ρ,
  Sum8.frameR,
  fun m ρ h => Cert.Kernel23.Gen.frame m ρ (ChipSum.okB_of_pre m h),
  fun m ρ h => Cert.Kernel23Ideal.Gen.frame m ρ (ChipSum.ok_of_pre m h),
  ChipSum.frameR,
  fun m ρ _ => ChipSum.frameR m ρ trivial,
  trivial,
  Merge.equal,
  trivial,
  Ssd.equal,
  trivial,
  Conv.equal,
  trivial,
  Gnorm.equal,
  trivial,
  Final.equal,
  trivial,
  Rms.equal,
  trivial,
  Drelu.equal,
  trivial,
  Dt.equal,
  trivial,
  Shortconv.equal,
  trivial,
  Rmsin.equal,
  trivial,
  SsdFwd.equal,
  trivial,
  ConvFwd.equal,
  trivial,
  ScFwd.equal,
  trivial,
  GnormFwd.equal,
  trivial,
  MergeFwd.equal,
  trivial,
  RmsFwd.equal,
  trivial,
  ResRms.equal,
  trivial,
  Relu2.equal,
  trivial,
  DtPrep.equal,
  trivial,
  Dw.equal,
  trivial,
  Adamw.equal,
  trivial,
  Sum8.equal,
  trivial,
  ChipSum.equal⟩

end Cert.Proof

end
